-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v112_0)) (v1 : (c : Dev Cert.KernelIdeal.nD) → Buf (Elt Ideal) ((c.tc : Thread Cert.KernelIdeal.nD Cert.KernelIdeal.τ).loc Cert.KernelIdeal.main_v112_1)) (v2 : (c : Dev Cert.KernelIdeal.nD) → Buf (Elt Ideal) ((c.tc : Thread Cert.KernelIdeal.nD Cert.KernelIdeal.τ).loc Cert.KernelIdeal.main_v112_2)) (v3 : (c : Dev Cert.KernelIdeal.nD) → Buf (Elt Ideal) ((c.tc : Thread Cert.KernelIdeal.nD Cert.KernelIdeal.τ).loc Cert.KernelIdeal.main_v112_3)) (v4 : (c : Dev Cert.KernelIdeal.nD) → Buf (Elt Ideal) ((c.tc : Thread Cert.KernelIdeal.nD Cert.KernelIdeal.τ).loc Cert.KernelIdeal.main_v112_4)) (v5 : (c : Dev Cert.KernelIdeal.nD) → Buf (Elt Ideal) ((c.tc : Thread Cert.KernelIdeal.nD Cert.KernelIdeal.τ).loc Cert.KernelIdeal.main_v112_5)) (v6 : (c : Dev Cert.KernelIdeal.nD) → Buf (Elt Ideal) ((c.tc : Thread Cert.KernelIdeal.nD Cert.KernelIdeal.τ).loc Cert.KernelIdeal.main_v112_6)) (v7 : (c : Dev Cert.KernelIdeal.nD) → Buf (Elt Ideal) ((c.tc : Thread Cert.KernelIdeal.nD Cert.KernelIdeal.τ).loc Cert.KernelIdeal.main_v112_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112_0) = v0 c
          ∧ r.2.mem ((c.tc : Thread Cert.KernelIdeal.nD Cert.KernelIdeal.τ).loc Cert.KernelIdeal.main_v112_1) = v1 c
          ∧ r.2.mem ((c.tc : Thread Cert.KernelIdeal.nD Cert.KernelIdeal.τ).loc Cert.KernelIdeal.main_v112_2) = v2 c
          ∧ r.2.mem ((c.tc : Thread Cert.KernelIdeal.nD Cert.KernelIdeal.τ).loc Cert.KernelIdeal.main_v112_3) = v3 c
          ∧ r.2.mem ((c.tc : Thread Cert.KernelIdeal.nD Cert.KernelIdeal.τ).loc Cert.KernelIdeal.main_v112_4) = v4 c
          ∧ r.2.mem ((c.tc : Thread Cert.KernelIdeal.nD Cert.KernelIdeal.τ).loc Cert.KernelIdeal.main_v112_5) = v5 c
          ∧ r.2.mem ((c.tc : Thread Cert.KernelIdeal.nD Cert.KernelIdeal.τ).loc Cert.KernelIdeal.main_v112_6) = v6 c
          ∧ r.2.mem ((c.tc : Thread Cert.KernelIdeal.nD Cert.KernelIdeal.τ).loc Cert.KernelIdeal.main_v112_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_v215) = v1 c
          ∧ r.2.mem ((c.tc : Thread Cert.ReferenceIdeal.nD Cert.ReferenceIdeal.τ).loc Cert.ReferenceIdeal.main_v217) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_v157) = v4 c
          ∧ r.2.mem ((c.tc : Thread Cert.ReferenceIdeal.nD Cert.ReferenceIdeal.τ).loc Cert.ReferenceIdeal.main_v163) = v5 c
          ∧ r.2.mem ((c.tc : Thread Cert.ReferenceIdeal.nD Cert.ReferenceIdeal.τ).loc Cert.ReferenceIdeal.main_v151) = v6 c
          ∧ r.2.mem ((c.tc : Thread Cert.ReferenceIdeal.nD Cert.ReferenceIdeal.τ).loc Cert.ReferenceIdeal.main_v144) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v51) = v0 c
          ∧ r.2.mem ((c.tc : Thread Cert.Reference8Ideal.nD Cert.Reference8Ideal.τ).loc Cert.Reference8Ideal.main_v34) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v11) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)) (v4 : (c : Dev Cert.Kernel14Ideal.nD) → Buf (Elt Ideal) ((c.tc : Thread Cert.Kernel14Ideal.nD Cert.Kernel14Ideal.τ).loc Cert.Kernel14Ideal.main_v1_4)) (v5 : (c : Dev Cert.Kernel14Ideal.nD) → Buf (Elt Ideal) ((c.tc : Thread Cert.Kernel14Ideal.nD Cert.Kernel14Ideal.τ).loc Cert.Kernel14Ideal.main_v1_5)) (v6 : (c : Dev Cert.Kernel14Ideal.nD) → Buf (Elt Ideal) ((c.tc : Thread Cert.Kernel14Ideal.nD Cert.Kernel14Ideal.τ).loc Cert.Kernel14Ideal.main_v1_6)) (v7 : (c : Dev Cert.Kernel14Ideal.nD) → Buf (Elt Ideal) ((c.tc : Thread Cert.Kernel14Ideal.nD Cert.Kernel14Ideal.τ).loc Cert.Kernel14Ideal.main_v1_7)) (v8 : (c : Dev Cert.Kernel14Ideal.nD) → Buf (Elt Ideal) ((c.tc : Thread Cert.Kernel14Ideal.nD Cert.Kernel14Ideal.τ).loc Cert.Kernel14Ideal.main_v1_8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_v1_4) = v4 c
          ∧ r.2.mem ((c.tc : Thread Cert.Kernel14Ideal.nD Cert.Kernel14Ideal.τ).loc Cert.Kernel14Ideal.main_v1_5) = v5 c
          ∧ r.2.mem ((c.tc : Thread Cert.Kernel14Ideal.nD Cert.Kernel14Ideal.τ).loc Cert.Kernel14Ideal.main_v1_6) = v6 c
          ∧ r.2.mem ((c.tc : Thread Cert.Kernel14Ideal.nD Cert.Kernel14Ideal.τ).loc Cert.Kernel14Ideal.main_v1_7) = v7 c
          ∧ r.2.mem ((c.tc : Thread Cert.Kernel14Ideal.nD Cert.Kernel14Ideal.τ).loc Cert.Kernel14Ideal.main_v1_8) = v8 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v47) = v1 c
          ∧ r.2.mem ((c.tc : Thread Cert.Reference14Ideal.nD Cert.Reference14Ideal.τ).loc Cert.Reference14Ideal.main_v71) = v2 c
          ∧ r.2.mem ((c.tc : Thread Cert.Reference14Ideal.nD Cert.Reference14Ideal.τ).loc Cert.Reference14Ideal.main_v4) = v3 c
          ∧ r.2.mem ((c.tc : Thread Cert.Reference14Ideal.nD Cert.Reference14Ideal.τ).loc Cert.Reference14Ideal.main_v28) = v4 c
          ∧ r.2.mem ((c.tc : Thread Cert.Reference14Ideal.nD Cert.Reference14Ideal.τ).loc Cert.Reference14Ideal.main_v52) = v5 c
          ∧ r.2.mem ((c.tc : Thread Cert.Reference14Ideal.nD Cert.Reference14Ideal.τ).loc Cert.Reference14Ideal.main_v10) = v6 c
          ∧ r.2.mem ((c.tc : Thread Cert.Reference14Ideal.nD Cert.Reference14Ideal.τ).loc Cert.Reference14Ideal.main_v34) = v7 c
          ∧ r.2.mem ((c.tc : Thread Cert.Reference14Ideal.nD Cert.Reference14Ideal.τ).loc Cert.Reference14Ideal.main_v58) = v8 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)) (v4 : (c : Dev Cert.Kernel15Ideal.nD) → Buf (Elt Ideal) ((c.tc : Thread Cert.Kernel15Ideal.nD Cert.Kernel15Ideal.τ).loc Cert.Kernel15Ideal.main_v1_4)) (v5 : (c : Dev Cert.Kernel15Ideal.nD) → Buf (Elt Ideal) ((c.tc : Thread Cert.Kernel15Ideal.nD Cert.Kernel15Ideal.τ).loc Cert.Kernel15Ideal.main_v1_5)) (v6 : (c : Dev Cert.Kernel15Ideal.nD) → Buf (Elt Ideal) ((c.tc : Thread Cert.Kernel15Ideal.nD Cert.Kernel15Ideal.τ).loc Cert.Kernel15Ideal.main_v1_6)) (v7 : (c : Dev Cert.Kernel15Ideal.nD) → Buf (Elt Ideal) ((c.tc : Thread Cert.Kernel15Ideal.nD Cert.Kernel15Ideal.τ).loc Cert.Kernel15Ideal.main_v1_7)) (v8 : (c : Dev Cert.Kernel15Ideal.nD) → Buf (Elt Ideal) ((c.tc : Thread Cert.Kernel15Ideal.nD Cert.Kernel15Ideal.τ).loc Cert.Kernel15Ideal.main_v1_8)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_v1_4) = v4 c
          ∧ r.2.mem ((c.tc : Thread Cert.Kernel15Ideal.nD Cert.Kernel15Ideal.τ).loc Cert.Kernel15Ideal.main_v1_5) = v5 c
          ∧ r.2.mem ((c.tc : Thread Cert.Kernel15Ideal.nD Cert.Kernel15Ideal.τ).loc Cert.Kernel15Ideal.main_v1_6) = v6 c
          ∧ r.2.mem ((c.tc : Thread Cert.Kernel15Ideal.nD Cert.Kernel15Ideal.τ).loc Cert.Kernel15Ideal.main_v1_7) = v7 c
          ∧ r.2.mem ((c.tc : Thread Cert.Kernel15Ideal.nD Cert.Kernel15Ideal.τ).loc Cert.Kernel15Ideal.main_v1_8) = v8 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v4) = v3 c
          ∧ r.2.mem ((c.tc : Thread Cert.Reference15Ideal.nD Cert.Reference15Ideal.τ).loc Cert.Reference15Ideal.main_v28) = v4 c
          ∧ r.2.mem ((c.tc : Thread Cert.Reference15Ideal.nD Cert.Reference15Ideal.τ).loc Cert.Reference15Ideal.main_v52) = v5 c
          ∧ r.2.mem ((c.tc : Thread Cert.Reference15Ideal.nD Cert.Reference15Ideal.τ).loc Cert.Reference15Ideal.main_v10) = v6 c
          ∧ r.2.mem ((c.tc : Thread Cert.Reference15Ideal.nD Cert.Reference15Ideal.τ).loc Cert.Reference15Ideal.main_v34) = v7 c
          ∧ r.2.mem ((c.tc : Thread Cert.Reference15Ideal.nD Cert.Reference15Ideal.τ).loc Cert.Reference15Ideal.main_v58) = v8 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2x2048x9728 : Shape := ⟨3, ![2, 2048, 9728]⟩
abbrev S4x1280 : Shape := ⟨2, ![4, 1280]⟩
abbrev S1x1280 : Shape := ⟨2, ![1, 1280]⟩
abbrev S10x128x128 : Shape := ⟨3, ![10, 128, 128]⟩
abbrev S2x2048x1280 : Shape := ⟨3, ![2, 2048, 1280]⟩
abbrev S2x2048x2560 : Shape := ⟨3, ![2, 2048, 2560]⟩
abbrev S_ : Shape := ⟨0, ![]⟩
abbrev S1 : Shape := ⟨1, ![1]⟩
abbrev S9 : Shape := ⟨1, ![9]⟩

class Facts : Prop where
  slices_S2x2048x9728_S2x2048x1280_0_0_0 : S2x2048x9728.Slices ![0, 0, 0] S2x2048x1280
  bitsLt_bf16_f32 : FTy.bits .bf16 < FTy.bits .f32
  bcast_S_S2x2048x1280 : S_.BroadcastsInDim S2x2048x1280 (![] : Fin 0 → Fin S2x2048x1280.rank)
  reducesTo_S2x2048x1280_S_d0_1_2 : S2x2048x1280.ReducesTo [0, 1, 2] S_
  h_S_ : 0 < S_.numel
  bcast_S_S4x1280 : S_.BroadcastsInDim S4x1280 (![] : Fin 0 → Fin S4x1280.rank)
  reducesTo_S4x1280_S_d0_1 : S4x1280.ReducesTo [0, 1] S_
  bcast_S_S1x1280 : S_.BroadcastsInDim S1x1280 (![] : Fin 0 → Fin S1x1280.rank)
  reducesTo_S1x1280_S_d0_1 : S1x1280.ReducesTo [0, 1] S_
  bcast_S_S10x128x128 : S_.BroadcastsInDim S10x128x128 (![] : Fin 0 → Fin S10x128x128.rank)
  reducesTo_S10x128x128_S_d0_1_2 : S10x128x128.ReducesTo [0, 1, 2] S_
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0
  reducesTo_S9_S_d0 : S9.ReducesTo [0] S_

variable [Facts]

def fn_part2 {F : FTy → Type} [FloatOps F] (main_arg8 : FVec F S2x2048x1280 .f32) (main_v5 : IVec S_ 1) (main_v9 : IVec S_ 1) (main_v13 : IVec S_ 1) (main_v17 : IVec S_ 1) (main_v21 : IVec S_ 1) (main_v25 : IVec S_ 1) (main_v29 : IVec S_ 1) (main_v32 : IVec S1x1280 1) : IVec S_ 1 :=
  let main_c_13 : IVec S_ 1 := constantI S_ 1 1#1
  let main_v33 : IVec S_ 1 := (fun x v => Host.reduce IntOp.andi x v reducesTo_S1x1280_S_d0_1 h_S_) main_v32 main_c_13
  let main_v34 : FVec F S2x2048x1280 .f32 := Host.absf main_arg8
  let main_cst_14 : FVec F S_ .f32 := constant S_ .f32 0x7F800000#32
  let main_v35 : FVec F S2x2048x1280 .f32 := broadcastInDim S2x2048x1280 ![] bcast_S_S2x2048x1280 main_cst_14
  let main_v36 : IVec S2x2048x1280 1 := cmpf .olt main_v34 main_v35
  let main_c_15 : IVec S_ 1 := constantI S_ 1 1#1
  let main_v37 : IVec S_ 1 := (fun x v => Host.reduce IntOp.andi x v reducesTo_S2x2048x1280_S_d0_1_2 h_S_) main_v36 main_c_15
  let main_v38 : IVec S1 1 := broadcastInDim S1 ![] bcast_S_S1 main_v5
  let main_v39 : IVec S1 1 := broadcastInDim S1 ![] bcast_S_S1 main_v9
  let main_v40 : IVec S1 1 := broadcastInDim S1 ![] bcast_S_S1 main_v13
  let main_v41 : IVec S1 1 := broadcastInDim S1 ![] bcast_S_S1 main_v17
  let main_v42 : IVec S1 1 := broadcastInDim S1 ![] bcast_S_S1 main_v21
  let main_v43 : IVec S1 1 := broadcastInDim S1 ![] bcast_S_S1 main_v25
  let main_v44 : IVec S1 1 := broadcastInDim S1 ![] bcast_S_S1 main_v29
  let main_v45 : IVec S1 1 := broadcastInDim S1 ![] bcast_S_S1 main_v33
  let main_v46 : IVec S1 1 := broadcastInDim S1 ![] bcast_S_S1 main_v37
  let main_v47 : IVec S9 1 := concatenate S9 0 [⟨S1, main_v38⟩, ⟨S1, main_v39⟩, ⟨S1, main_v40⟩, ⟨S1, main_v41⟩, ⟨S1, main_v42⟩, ⟨S1, main_v43⟩, ⟨S1, main_v44⟩, ⟨S1, main_v45⟩, ⟨S1, main_v46⟩] concatenates_S1_S1_S1_S1_S1_S1_S1_S1_S1_S9_d0
  let main_c_16 : IVec S_ 1 := constantI S_ 1 1#1
  let main_v48 : IVec S_ 1 := (fun x v => Host.reduce IntOp.andi x v reducesTo_S9_S_d0 h_S_) main_v47 main_c_16
  main_v48

def fn_part1 {F : FTy → Type} [FloatOps F] (main_arg4 : FVec F S1x1280 .f32) (main_arg5 : FVec F S10x128x128 .f32) (main_arg6 : FVec F S1x1280 .f32) (main_arg7 : FVec F S1x1280 .f32) (main_arg8 : FVec F S2x2048x1280 .f32) (main_v5 : IVec S_ 1) (main_v9 : IVec S_ 1) (main_v13 : IVec S_ 1) (main_v16 : IVec S10x128x128 1) : IVec S_ 1 :=
  let main_c_5 : IVec S_ 1 := constantI S_ 1 1#1
  let main_v17 : IVec S_ 1 := (fun x v => Host.reduce IntOp.andi x v reducesTo_S10x128x128_S_d0_1_2 h_S_) main_v16 main_c_5
  let main_v18 : FVec F S1x1280 .f32 := Host.absf main_arg4
  let main_cst_6 : FVec F S_ .f32 := constant S_ .f32 0x7F800000#32
  let main_v19 : FVec F S1x1280 .f32 := broadcastInDim S1x1280 ![] bcast_S_S1x1280 main_cst_6
  let main_v20 : IVec S1x1280 1 := cmpf .olt main_v18 main_v19
  let main_c_7 : IVec S_ 1 := constantI S_ 1 1#1
  let main_v21 : IVec S_ 1 := (fun x v => Host.reduce IntOp.andi x v reducesTo_S1x1280_S_d0_1 h_S_) main_v20 main_c_7
  let main_v22 : FVec F S10x128x128 .f32 := Host.absf main_arg5
  let main_cst_8 : FVec F S_ .f32 := constant S_ .f32 0x7F800000#32
  let main_v23 : FVec F S10x128x128 .f32 := broadcastInDim S10x128x128 ![] bcast_S_S10x128x128 main_cst_8
  let main_v24 : IVec S10x128x128 1 := cmpf .olt main_v22 main_v23
  let main_c_9 : IVec S_ 1 := constantI S_ 1 1#1
  let main_v25 : IVec S_ 1 := (fun x v => Host.reduce IntOp.andi x v reducesTo_S10x128x128_S_d0_1_2 h_S_) main_v24 main_c_9
  let main_v26 : FVec F S1x1280 .f32 := Host.absf main_arg6
  let main_cst_10 : FVec F S_ .f32 := constant S_ .f32 0x7F800000#32
  let main_v27 : FVec F S1x1280 .f32 := broadcastInDim S1x1280 ![] bcast_S_S1x1280 main_cst_10
  let main_v28 : IVec S1x1280 1 := cmpf .olt main_v26 main_v27
  let main_c_11 : IVec S_ 1 := constantI S_ 1 1#1
  let main_v29 : IVec S_ 1 := (fun x v => Host.reduce IntOp.andi x v reducesTo_S1x1280_S_d0_1 h_S_) main_v28 main_c_11
  let main_v30 : FVec F S1x1280 .f32 := Host.absf main_arg7
  let main_cst_12 : FVec F S_ .f32 := constant S_ .f32 0x7F800000#32
  let main_v31 : FVec F S1x1280 .f32 := broadcastInDim S1x1280 ![] bcast_S_S1x1280 main_cst_12
  let main_v32 : IVec S1x1280 1 := cmpf .olt main_v30 main_v31
  fn_part2 (F := F) main_arg8 main_v5 main_v9 main_v13 main_v17 main_v21 main_v25 main_v29 main_v32

def fn {F : FTy → Type} [FloatOps F] (main_arg0 : FVec F S2x2048x9728 .bf16) (main_arg1 : FVec F S4x1280 .f32) (main_arg2 : FVec F S1x1280 .f32) (main_arg3 : FVec F S10x128x128 .f32) (main_arg4 : FVec F S1x1280 .f32) (main_arg5 : FVec F S10x128x128 .f32) (main_arg6 : FVec F S1x1280 .f32) (main_arg7 : FVec F S1x1280 .f32) (main_arg8 : FVec F S2x2048x1280 .f32) (main_arg9 : FVec F S2x2048x2560 .bf16) : IVec S_ 1 :=
  let main_v0 : FVec F S2x2048x1280 .bf16 := (extractStridedSlice S2x2048x1280 ![0, 0, 0] · slices_S2x2048x9728_S2x2048x1280_0_0_0) main_arg0
  let main_v1 : FVec F S2x2048x1280 .f32 := (extf .f32 · bitsLt_bf16_f32) main_v0
  let main_v2 : FVec F S2x2048x1280 .f32 := Host.absf main_v1
  let main_cst : FVec F S_ .f32 := constant S_ .f32 0x7F800000#32
  let main_v3 : FVec F S2x2048x1280 .f32 := broadcastInDim S2x2048x1280 ![] bcast_S_S2x2048x1280 main_cst
  let main_v4 : IVec S2x2048x1280 1 := cmpf .olt main_v2 main_v3
  let main_c : IVec S_ 1 := constantI S_ 1 1#1
  let main_v5 : IVec S_ 1 := (fun x v => Host.reduce IntOp.andi x v reducesTo_S2x2048x1280_S_d0_1_2 h_S_) main_v4 main_c
  let main_v6 : FVec F S4x1280 .f32 := Host.absf main_arg1
  let main_cst_0 : FVec F S_ .f32 := constant S_ .f32 0x7F800000#32
  let main_v7 : FVec F S4x1280 .f32 := broadcastInDim S4x1280 ![] bcast_S_S4x1280 main_cst_0
  let main_v8 : IVec S4x1280 1 := cmpf .olt main_v6 main_v7
  let main_c_1 : IVec S_ 1 := constantI S_ 1 1#1
  let main_v9 : IVec S_ 1 := (fun x v => Host.reduce IntOp.andi x v reducesTo_S4x1280_S_d0_1 h_S_) main_v8 main_c_1
  let main_v10 : FVec F S1x1280 .f32 := Host.absf main_arg2
  let main_cst_2 : FVec F S_ .f32 := constant S_ .f32 0x7F800000#32
  let main_v11 : FVec F S1x1280 .f32 := broadcastInDim S1x1280 ![] bcast_S_S1x1280 main_cst_2
  let main_v12 : IVec S1x1280 1 := cmpf .olt main_v10 main_v11
  let main_c_3 : IVec S_ 1 := constantI S_ 1 1#1
  let main_v13 : IVec S_ 1 := (fun x v => Host.reduce IntOp.andi x v reducesTo_S1x1280_S_d0_1 h_S_) main_v12 main_c_3
  let main_v14 : FVec F S10x128x128 .f32 := Host.absf main_arg3
  let main_cst_4 : FVec F S_ .f32 := constant S_ .f32 0x7F800000#32
  let main_v15 : FVec F S10x128x128 .f32 := broadcastInDim S10x128x128 ![] bcast_S_S10x128x128 main_cst_4
  let main_v16 : IVec S10x128x128 1 := cmpf .olt main_v14 main_v15
  fn_part1 (F := F) main_arg4 main_arg5 main_arg6 main_arg7 main_arg8 main_v5 main_v9 main_v13 main_v16
-- ==== Pre_finite8.lean ====
abbrev S4096x2560 : Shape := ⟨2, ![4096, 2560]⟩
abbrev S4096x1536 : Shape := ⟨2, ![4096, 1536]⟩
abbrev S1x2432x1024 : Shape := ⟨3, ![1, 2432, 1024]⟩
abbrev S2x2432x1024 : Shape := ⟨3, ![2, 2432, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2560 : S_.BroadcastsInDim S4096x2560 (![] : Fin 0 → Fin S4096x2560.rank)
  reducesTo_S4096x2560_S_d0_1 : S4096x2560.ReducesTo [0, 1] S_
  h_S_ : 0 < S_.numel
  bcast_S_S4096x1536 : S_.BroadcastsInDim S4096x1536 (![] : Fin 0 → Fin S4096x1536.rank)
  reducesTo_S4096x1536_S_d0_1 : S4096x1536.ReducesTo [0, 1] S_
  bcast_S_S1x2432x1024 : S_.BroadcastsInDim S1x2432x1024 (![] : Fin 0 → Fin S1x2432x1024.rank)
  reducesTo_S1x2432x1024_S_d0_1_2 : S1x2432x1024.ReducesTo [0, 1, 2] S_
  bcast_S_S2x2432x1024 : S_.BroadcastsInDim S2x2432x1024 (![] : Fin 0 → Fin S2x2432x1024.rank)
  reducesTo_S2x2432x1024_S_d0_1_2 : S2x2432x1024.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v51 : IVec S_ 1) (main_v52 : FVec F S1x1024 .f32) (main_cst_16 : FVec F S_ .f32) : IVec S_ 1 :=
  let main_v53 : FVec F S1x1024 .f32 := broadcastInDim S1x1024 ![] bcast_S_S1x1024 main_cst_16
  let main_v54 : IVec S1x1024 1 := cmpf .olt main_v52 main_v53
  let main_c_17 : IVec S_ 1 := constantI S_ 1 1#1
  let main_v55 : IVec S_ 1 := (fun x v => Host.reduce IntOp.andi x v reducesTo_S1x1024_S_d0_1 h_S_) main_v54 main_c_17
  let main_v56 : IVec S_ 1 := andi main_v51 main_v55
  main_v56

def fn_part2 {F : FTy → Type} [FloatOps F] (main_arg7 : FVec F S1x2432x1024 .bf16) (main_arg8 : FVec F S4096x1024 .f32) (main_arg10 : FVec F S1x1024 .f32) (main_v34 : IVec S_ 1) (main_v35 : FVec F S2x2432x1024 .f32) : IVec S_ 1 :=
  let main_v36 : FVec F S2x2432x1024 .f32 := Host.absf main_v35
  let main_cst_10 : FVec F S_ .f32 := constant S_ .f32 0x7F800000#32
  let main_v37 : FVec F S2x2432x1024 .f32 := broadcastInDim S2x2432x1024 ![] bcast_S_S2x2432x1024 main_cst_10
  let main_v38 : IVec S2x2432x1024 1 := cmpf .olt main_v36 main_v37
  let main_c_11 : IVec S_ 1 := constantI S_ 1 1#1
  let main_v39 : IVec S_ 1 := (fun x v => Host.reduce IntOp.andi x v reducesTo_S2x2432x1024_S_d0_1_2 h_S_) main_v38 main_c_11
  let main_v40 : IVec S_ 1 := andi main_v34 main_v39
  let main_v41 : FVec F S1x2432x1024 .f32 := (extf .f32 · bitsLt_bf16_f32) main_arg7
  let main_v42 : FVec F S1x2432x1024 .f32 := Host.absf main_v41
  let main_cst_12 : FVec F S_ .f32 := constant S_ .f32 0x7F800000#32
  let main_v43 : FVec F S1x2432x1024 .f32 := broadcastInDim S1x2432x1024 ![] bcast_S_S1x2432x1024 main_cst_12
  let main_v44 : IVec S1x2432x1024 1 := cmpf .olt main_v42 main_v43
  let main_c_13 : IVec S_ 1 := constantI S_ 1 1#1
  let main_v45 : IVec S_ 1 := (fun x v => Host.reduce IntOp.andi x v reducesTo_S1x2432x1024_S_d0_1_2 h_S_) main_v44 main_c_13
  let main_v46 : IVec S_ 1 := andi main_v40 main_v45
  let main_v47 : FVec F S4096x1024 .f32 := Host.absf main_arg8
  let main_cst_14 : FVec F S_ .f32 := constant S_ .f32 0x7F800000#32
  let main_v48 : FVec F S4096x1024 .f32 := broadcastInDim S4096x1024 ![] bcast_S_S4096x1024 main_cst_14
  let main_v49 : IVec S4096x1024 1 := cmpf .olt main_v47 main_v48
  let main_c_15 : IVec S_ 1 := constantI S_ 1 1#1
  let main_v50 : IVec S_ 1 := (fun x v => Host.reduce IntOp.andi x v reducesTo_S4096x1024_S_d0_1 h_S_) main_v49 main_c_15
  let main_v51 : IVec S_ 1 := andi main_v46 main_v50
  let main_v52 : FVec F S1x1024 .f32 := Host.absf main_arg10
  let main_cst_16 : FVec F S_ .f32 := constant S_ .f32 0x7F800000#32
  fn_part3 (F := F) main_v51 main_v52 main_cst_16

def fn_part1 {F : FTy → Type} [FloatOps F] (main_arg4 : FVec F S4096x2560 .bf16) (main_arg5 : FVec F S1x2432x1024 .bf16) (main_arg6 : FVec F S2x2432x1024 .bf16) (main_arg7 : FVec F S1x2432x1024 .bf16) (main_arg8 : FVec F S4096x1024 .f32) (main_arg10 : FVec F S1x1024 .f32) (main_v16 : IVec S_ 1) (main_v17 : FVec F S4096x1536 .f32) : IVec S_ 1 :=
  let main_v18 : FVec F S4096x1536 .f32 := Host.absf main_v17
  let main_cst_4 : FVec F S_ .f32 := constant S_ .f32 0x7F800000#32
  let main_v19 : FVec F S4096x1536 .f32 := broadcastInDim S4096x1536 ![] bcast_S_S4096x1536 main_cst_4
  let main_v20 : IVec S4096x1536 1 := cmpf .olt main_v18 main_v19
  let main_c_5 : IVec S_ 1 := constantI S_ 1 1#1
  let main_v21 : IVec S_ 1 := (fun x v => Host.reduce IntOp.andi x v reducesTo_S4096x1536_S_d0_1 h_S_) main_v20 main_c_5
  let main_v22 : IVec S_ 1 := andi main_v16 main_v21
  let main_v23 : FVec F S4096x2560 .f32 := (extf .f32 · bitsLt_bf16_f32) main_arg4
  let main_v24 : FVec F S4096x2560 .f32 := Host.absf main_v23
  let main_cst_6 : FVec F S_ .f32 := constant S_ .f32 0x7F800000#32
  let main_v25 : FVec F S4096x2560 .f32 := broadcastInDim S4096x2560 ![] bcast_S_S4096x2560 main_cst_6
  let main_v26 : IVec S4096x2560 1 := cmpf .olt main_v24 main_v25
  let main_c_7 : IVec S_ 1 := constantI S_ 1 1#1
  let main_v27 : IVec S_ 1 := (fun x v => Host.reduce IntOp.andi x v reducesTo_S4096x2560_S_d0_1 h_S_) main_v26 main_c_7
  let main_v28 : IVec S_ 1 := andi main_v22 main_v27
  let main_v29 : FVec F S1x2432x1024 .f32 := (extf .f32 · bitsLt_bf16_f32) main_arg5
  let main_v30 : FVec F S1x2432x1024 .f32 := Host.absf main_v29
  let main_cst_8 : FVec F S_ .f32 := constant S_ .f32 0x7F800000#32
  let main_v31 : FVec F S1x2432x1024 .f32 := broadcastInDim S1x2432x1024 ![] bcast_S_S1x2432x1024 main_cst_8
  let main_v32 : IVec S1x2432x1024 1 := cmpf .olt main_v30 main_v31
  let main_c_9 : IVec S_ 1 := constantI S_ 1 1#1
  let main_v33 : IVec S_ 1 := (fun x v => Host.reduce IntOp.andi x v reducesTo_S1x2432x1024_S_d0_1_2 h_S_) main_v32 main_c_9
  let main_v34 : IVec S_ 1 := andi main_v28 main_v33
  let main_v35 : FVec F S2x2432x1024 .f32 := (extf .f32 · bitsLt_bf16_f32) main_arg6
  fn_part2 (F := F) main_arg7 main_arg8 main_arg10 main_v34 main_v35

def fn {F : FTy → Type} [FloatOps F] (main_arg0 : FVec F S4096x2560 .bf16) (main_arg1 : FVec F S4096x1536 .bf16) (main_arg2 : FVec F S4096x1536 .bf16) (main_arg3 : FVec F S4096x1536 .bf16) (main_arg4 : FVec F S4096x2560 .bf16) (main_arg5 : FVec F S1x2432x1024 .bf16) (main_arg6 : FVec F S2x2432x1024 .bf16) (main_arg7 : FVec F S1x2432x1024 .bf16) (main_arg8 : FVec F S4096x1024 .f32) (main_arg9 : FVec F S4096x1024 .f32) (main_arg10 : FVec F S1x1024 .f32) : IVec S_ 1 :=
  let main_v0 : FVec F S4096x2560 .f32 := (extf .f32 · bitsLt_bf16_f32) main_arg0
  let main_v1 : FVec F S4096x2560 .f32 := Host.absf main_v0
  let main_cst : FVec F S_ .f32 := constant S_ .f32 0x7F800000#32
  let main_v2 : FVec F S4096x2560 .f32 := broadcastInDim S4096x2560 ![] bcast_S_S4096x2560 main_cst
  let main_v3 : IVec S4096x2560 1 := cmpf .olt main_v1 main_v2
  let main_c : IVec S_ 1 := constantI S_ 1 1#1
  let main_v4 : IVec S_ 1 := (fun x v => Host.reduce IntOp.andi x v reducesTo_S4096x2560_S_d0_1 h_S_) main_v3 main_c
  let main_v5 : FVec F S4096x1536 .f32 := (extf .f32 · bitsLt_bf16_f32) main_arg1
  let main_v6 : FVec F S4096x1536 .f32 := Host.absf main_v5
  let main_cst_0 : FVec F S_ .f32 := constant S_ .f32 0x7F800000#32
  let main_v7 : FVec F S4096x1536 .f32 := broadcastInDim S4096x1536 ![] bcast_S_S4096x1536 main_cst_0
  let main_v8 : IVec S4096x1536 1 := cmpf .olt main_v6 main_v7
  let main_c_1 : IVec S_ 1 := constantI S_ 1 1#1
  let main_v9 : IVec S_ 1 := (fun x v => Host.reduce IntOp.andi x v reducesTo_S4096x1536_S_d0_1 h_S_) main_v8 main_c_1
  let main_v10 : IVec S_ 1 := andi main_v4 main_v9
  let main_v11 : FVec F S4096x1536 .f32 := (extf .f32 · bitsLt_bf16_f32) main_arg2
  let main_v12 : FVec F S4096x1536 .f32 := Host.absf main_v11
  let main_cst_2 : FVec F S_ .f32 := constant S_ .f32 0x7F800000#32
  let main_v13 : FVec F S4096x1536 .f32 := broadcastInDim S4096x1536 ![] bcast_S_S4096x1536 main_cst_2
  let main_v14 : IVec S4096x1536 1 := cmpf .olt main_v12 main_v13
  let main_c_3 : IVec S_ 1 := constantI S_ 1 1#1
  let main_v15 : IVec S_ 1 := (fun x v => Host.reduce IntOp.andi x v reducesTo_S4096x1536_S_d0_1 h_S_) main_v14 main_c_3
  let main_v16 : IVec S_ 1 := andi main_v10 main_v15
  let main_v17 : FVec F S4096x1536 .f32 := (extf .f32 · bitsLt_bf16_f32) main_arg3
  fn_part1 (F := F) main_arg4 main_arg5 main_arg6 main_arg7 main_arg8 main_arg10 main_v16 main_v17
-- ==== Kernel.lean ====
abbrev S2x2048x9728 : Shape := ⟨3, ![2, 2048, 9728]⟩
abbrev S4x1280 : Shape := ⟨2, ![4, 1280]⟩
abbrev S1x1280 : Shape := ⟨2, ![1, 1280]⟩
abbrev S10x128x128 : Shape := ⟨3, ![10, 128, 128]⟩
abbrev S2x2048x1280 : Shape := ⟨3, ![2, 2048, 1280]⟩
abbrev S2x2048x2560 : Shape := ⟨3, ![2, 2048, 2560]⟩
abbrev S_ : Shape := ⟨0, ![]⟩
abbrev S2x3x1280 : Shape := ⟨3, ![2, 3, 1280]⟩
abbrev S2x2051x1280 : Shape := ⟨3, ![2, 2051, 1280]⟩
abbrev S1x1x1280 : Shape := ⟨3, ![1, 1, 1280]⟩
abbrev S1280 : Shape := ⟨1, ![1280]⟩
abbrev S2x2048x10x128 : Shape := ⟨4, ![2, 2048, 10, 128]⟩
abbrev S2x2048x10x128x1 : Shape := ⟨5, ![2, 2048, 10, 128, 1]⟩
abbrev S1x1x10x128x128 : Shape := ⟨5, ![1, 1, 10, 128, 128]⟩
abbrev S2x2048x10x128x128 : Shape := ⟨5, ![2, 2048, 10, 128, 128]⟩
abbrev S1x2048x2048x1 : Shape := ⟨4, ![1, 2048, 2048, 1]⟩
abbrev S2x1x2048x1280 : Shape := ⟨4, ![2, 1, 2048, 1280]⟩
abbrev S2x2048x2048x1280 : Shape := ⟨4, ![2, 2048, 2048, 1280]⟩
abbrev S2x2048x1x1280 : Shape := ⟨4, ![2, 2048, 1, 1280]⟩
abbrev S1x2x2048x1280 : Shape := ⟨4, ![1, 2, 2048, 1280]⟩
abbrev S5x2x2048x1280 : Shape := ⟨4, ![5, 2, 2048, 1280]⟩
abbrev S8x128 : Shape := ⟨2, ![8, 128]⟩
abbrev S1x2048x128 : Shape := ⟨3, ![1, 2048, 128]⟩
abbrev S5x1x2048x128 : Shape := ⟨4, ![5, 1, 2048, 128]⟩
abbrev S4x128 : Shape := ⟨2, ![4, 128]⟩
abbrev S1x128 : Shape := ⟨2, ![1, 128]⟩
abbrev S1x128x128 : Shape := ⟨3, ![1, 128, 128]⟩
abbrev S4x2064x128 : Shape := ⟨3, ![4, 2064, 128]⟩
abbrev S2048x128 : Shape := ⟨2, ![2048, 128]⟩
abbrev S128x128 : Shape := ⟨2, ![128, 128]⟩
abbrev S1x1x2048x128 : Shape := ⟨4, ![1, 1, 2048, 128]⟩
abbrev S1x2064x128 : Shape := ⟨3, ![1, 2064, 128]⟩
abbrev S2064x128 : Shape := ⟨2, ![2064, 128]⟩
abbrev S2040x128 : Shape := ⟨2, ![2040, 128]⟩
abbrev S2032x128 : Shape := ⟨2, ![2032, 128]⟩
abbrev S16x128 : Shape := ⟨2, ![16, 128]⟩
abbrev S2016x128 : Shape := ⟨2, ![2016, 128]⟩
abbrev S32x128 : Shape := ⟨2, ![32, 128]⟩
abbrev S1984x128 : Shape := ⟨2, ![1984, 128]⟩
abbrev S64x128 : Shape := ⟨2, ![64, 128]⟩
abbrev S1920x128 : Shape := ⟨2, ![1920, 128]⟩
abbrev S1792x128 : Shape := ⟨2, ![1792, 128]⟩
abbrev S256x128 : Shape := ⟨2, ![256, 128]⟩
abbrev S1536x128 : Shape := ⟨2, ![1536, 128]⟩
abbrev S512x128 : Shape := ⟨2, ![512, 128]⟩
abbrev S1024x128 : Shape := ⟨2, ![1024, 128]⟩
abbrev S128 : Shape := ⟨1, ![128]⟩

abbrev nBuf : Space → Nat
  | .hbm => 168
  | .vmem => 40
  | .smem => 0
  | _ => 0

abbrev hbmTy0_0 (i : Nat) : BufTy := match i % 128 with
  | 0 => ⟨S2x2048x9728, .bf16⟩
  | 1 => ⟨S4x1280, .f32⟩
  | 2 => ⟨S1x1280, .f32⟩
  | 3 => ⟨S10x128x128, .f32⟩
  | 4 => ⟨S1x1280, .f32⟩
  | 5 => ⟨S10x128x128, .f32⟩
  | 6 => ⟨S1x1280, .f32⟩
  | 7 => ⟨S1x1280, .f32⟩
  | 8 => ⟨S2x2048x1280, .f32⟩
  | 9 => ⟨S2x2048x2560, .bf16⟩
  | 10 => ⟨S2x2048x1280, .bf16⟩
  | 11 => ⟨S2x2048x1280, .f32⟩
  | 12 => ⟨S_, .f32⟩
  | 13 => ⟨S2x3x1280, .f32⟩
  | 14 => ⟨S2x2051x1280, .f32⟩
  | 15 => ⟨S1x1x1280, .f32⟩
  | 16 => ⟨S1x1280, .f32⟩
  | 17 => ⟨S1280, .f32⟩
  | 18 => ⟨S1x1x1280, .f32⟩
  | 19 => ⟨S2x2048x1280, .f32⟩
  | 20 => ⟨S2x2048x1280, .f32⟩
  | 21 => ⟨S2x2048x1280, .f32⟩
  | 22 => ⟨S2x2048x1280, .f32⟩
  | 23 => ⟨S2x2048x1280, .f32⟩
  | 24 => ⟨S1x1280, .f32⟩
  | 25 => ⟨S1280, .f32⟩
  | 26 => ⟨S1x1x1280, .f32⟩
  | 27 => ⟨S2x2048x1280, .f32⟩
  | 28 => ⟨S2x2048x1280, .f32⟩
  | 29 => ⟨S2x2048x1280, .f32⟩
  | 30 => ⟨S2x2048x1280, .f32⟩
  | 31 => ⟨S1x1280, .f32⟩
  | 32 => ⟨S1280, .f32⟩
  | 33 => ⟨S1x1x1280, .f32⟩
  | 34 => ⟨S2x2048x1280, .f32⟩
  | 35 => ⟨S2x2048x1280, .f32⟩
  | 36 => ⟨S2x2048x1280, .f32⟩
  | 37 => ⟨S2x2048x1280, .f32⟩
  | 38 => ⟨S1x1280, .f32⟩
  | 39 => ⟨S1280, .f32⟩
  | 40 => ⟨S1x1x1280, .f32⟩
  | 41 => ⟨S2x2048x1280, .f32⟩
  | 42 => ⟨S2x2048x1280, .f32⟩
  | 43 => ⟨S2x2048x1280, .f32⟩
  | 44 => ⟨S2x2048x1280, .f32⟩
  | 45 => ⟨S2x2048x10x128, .f32⟩
  | 46 => ⟨S2x2048x10x128x1, .f32⟩
  | 47 => ⟨S1x1x10x128x128, .f32⟩
  | 48 => ⟨S2x2048x10x128x128, .f32⟩
  | 49 => ⟨S2x2048x10x128x128, .f32⟩
  | 50 => ⟨S2x2048x10x128x128, .f32⟩
  | 51 => ⟨S_, .f32⟩
  | 52 => ⟨S2x2048x10x128, .f32⟩
  | 53 => ⟨S2x2048x10x128x1, .f32⟩
  | 54 => ⟨S1x1x10x128x128, .f32⟩
  | 55 => ⟨S2x2048x10x128x128, .f32⟩
  | 56 => ⟨S2x2048x10x128x128, .f32⟩
  | 57 => ⟨S2x2048x10x128x128, .f32⟩
  | 58 => ⟨S_, .f32⟩
  | 59 => ⟨S2x2048x10x128, .f32⟩
  | 60 => ⟨S2x2048x1280, .f32⟩
  | 61 => ⟨S1x1x1280, .f32⟩
  | 62 => ⟨S2x2048x1280, .f32⟩
  | 63 => ⟨S2x2048x1280, .f32⟩
  | 64 => ⟨S2x2048x1280, .f32⟩
  | 65 => ⟨S2x2048x1280, .f32⟩
  | 66 => ⟨S_, .f32⟩
  | 67 => ⟨S2x2048x1280, .f32⟩
  | 68 => ⟨S2x2048x1280, .f32⟩
  | 69 => ⟨S_, .f32⟩
  | 70 => ⟨S2x2048x1280, .f32⟩
  | 71 => ⟨S2x2048x1280, .f32⟩
  | 72 => ⟨S2x2048x1280, .f32⟩
  | 73 => ⟨S1x1x1280, .f32⟩
  | 74 => ⟨S2x2048x1280, .f32⟩
  | 75 => ⟨S2x2048x1280, .f32⟩
  | 76 => ⟨S2x2048x1280, .f32⟩
  | 77 => ⟨S2x2048x1280, .f32⟩
  | 78 => ⟨S_, .f32⟩
  | 79 => ⟨S2x2048x1280, .f32⟩
  | 80 => ⟨S2x2048x1280, .f32⟩
  | 81 => ⟨S_, .f32⟩
  | 82 => ⟨S2x2048x1280, .f32⟩
  | 83 => ⟨S2x2048x1280, .f32⟩
  | 84 => ⟨S_, .f32⟩
  | 85 => ⟨S2x2048x1280, .f32⟩
  | 86 => ⟨S2x2048x1280, .f32⟩
  | 87 => ⟨S1x1280, .f32⟩
  | 88 => ⟨S_, .f32⟩
  | 89 => ⟨S1x1280, .f32⟩
  | 90 => ⟨S1x1280, .f32⟩
  | 91 => ⟨S1x1280, .f32⟩
  | 92 => ⟨S1x1280, .f32⟩
  | 93 => ⟨S1x1280, .i1⟩
  | 94 => ⟨S1x1280, .f32⟩
  | 95 => ⟨S1x1280, .f32⟩
  | 96 => ⟨S1x1280, .f32⟩
  | 97 => ⟨S1x1280, .f32⟩
  | 98 => ⟨S1x1280, .f32⟩
  | 99 => ⟨S1x1280, .f32⟩
  | 100 => ⟨S1x1280, .f32⟩
  | 101 => ⟨S1x1280, .f32⟩
  | 102 => ⟨S1x1x1280, .f32⟩
  | 103 => ⟨S2x2048x1280, .f32⟩
  | 104 => ⟨S2x2048x1280, .f32⟩
  | 105 => ⟨S2x2048x1280, .f32⟩
  | 106 => ⟨S2x2048x1280, .i32⟩
  | 107 => ⟨S_, .i32⟩
  | 108 => ⟨S2x2048x1280, .i32⟩
  | 109 => ⟨S2x2048x1280, .i1⟩
  | 110 => ⟨S_, .f32⟩
  | 111 => ⟨S2x2048x1280, .f32⟩
  | 112 => ⟨S2x2048x1280, .f32⟩
  | 113 => ⟨S2x2048x1280, .f32⟩
  | 114 => ⟨S2x2048x1280, .f32⟩
  | 115 => ⟨S2x2048x1280, .f32⟩
  | 116 => ⟨S_, .f32⟩
  | 117 => ⟨S_, .f32⟩
  | 118 => ⟨S2x2048x1280, .f32⟩
  | 119 => ⟨S2x2048x1280, .f32⟩
  | 120 => ⟨S2x2048x1280, .f32⟩
  | 121 => ⟨S2x2048x1280, .f32⟩
  | 122 => ⟨S1x2048x2048x1, .i32⟩
  | 123 => ⟨S1x2048x2048x1, .i32⟩
  | 124 => ⟨S1x2048x2048x1, .i1⟩
  | 125 => ⟨S2x1x2048x1280, .f32⟩
  | 126 => ⟨S_, .f32⟩
  | 127 => ⟨S_, .f32⟩
  | _ => ⟨S2x2048x9728, .bf16⟩

abbrev hbmTy0_1 (i : Nat) : BufTy := match i % 128 with
  | 0 => ⟨S2x2048x2048x1280, .i1⟩
  | 1 => ⟨S2x2048x2048x1280, .f32⟩
  | 2 => ⟨S2x2048x2048x1280, .f32⟩
  | 3 => ⟨S2x2048x2048x1280, .f32⟩
  | 4 => ⟨S_, .f32⟩
  | 5 => ⟨S2x2048x1280, .f32⟩
  | 6 => ⟨S2x2048x1x1280, .f32⟩
  | 7 => ⟨S2x1x2048x1280, .f32⟩
  | 8 => ⟨S2x2048x2048x1280, .f32⟩
  | 9 => ⟨S2x2048x2048x1280, .f32⟩
  | 10 => ⟨S2x2048x2048x1280, .f32⟩
  | 11 => ⟨S2x2048x2048x1280, .f32⟩
  | 12 => ⟨S_, .f32⟩
  | 13 => ⟨S_, .f32⟩
  | 14 => ⟨S2x2048x2048x1280, .i1⟩
  | 15 => ⟨S2x2048x2048x1280, .f32⟩
  | 16 => ⟨S2x2048x2048x1280, .f32⟩
  | 17 => ⟨S2x1x2048x1280, .f32⟩
  | 18 => ⟨S2x2048x2048x1280, .f32⟩
  | 19 => ⟨S2x2048x2048x1280, .f32⟩
  | 20 => ⟨S_, .f32⟩
  | 21 => ⟨S2x2048x1280, .f32⟩
  | 22 => ⟨S1x2x2048x1280, .f32⟩
  | 23 => ⟨S1x2x2048x1280, .f32⟩
  | 24 => ⟨S1x2x2048x1280, .f32⟩
  | 25 => ⟨S1x2x2048x1280, .f32⟩
  | 26 => ⟨S1x2x2048x1280, .f32⟩
  | 27 => ⟨S5x2x2048x1280, .f32⟩
  | 28 => ⟨S10x128x128, .bf16⟩
  | 29 => ⟨S10x128x128, .bf16⟩
  | 30 => ⟨S_, .f32⟩
  | 31 => ⟨S8x128, .f32⟩
  | 32 => ⟨S2x2048x2560, .bf16⟩
  | 33 => ⟨S4x1280, .f32⟩
  | 34 => ⟨S1x1280, .f32⟩
  | 35 => ⟨S10x128x128, .f32⟩
  | 36 => ⟨S1x1280, .f32⟩
  | 37 => ⟨S10x128x128, .f32⟩
  | 38 => ⟨S1x1280, .f32⟩
  | 39 => ⟨S1x1280, .f32⟩
  | _ => ⟨S2x2048x9728, .bf16⟩

abbrev hbmTy (i : Nat) : BufTy := match i / 128 with
  | 0 => hbmTy0_0 i
  | 1 => hbmTy0_1 i
  | _ => ⟨S2x2048x9728, .bf16⟩

abbrev bufTy : (tb : Table) → Fin (tcTables nBuf tb) → BufTy
  | .hbm, ⟨i, _⟩ => hbmTy i
  | .local _ .vmem, ⟨0, _⟩ => ⟨S1x2048x128, .bf16⟩
  | .local _ .vmem, ⟨1, _⟩ => ⟨S1x2048x128, .bf16⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S5x1x2048x128, .f32⟩
  | .local _ .vmem, ⟨7, _⟩ => ⟨S5x1x2048x128, .f32⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128, .f32⟩
  | .local _ .vmem, ⟨15, _⟩ => ⟨S1x128, .f32⟩
  | .local _ .vmem, ⟨16, _⟩ => ⟨S1x128x128, .bf16⟩
  | .local _ .vmem, ⟨17, _⟩ => ⟨S1x128x128, .bf16⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S8x128, .f32⟩
  | .local _ .vmem, ⟨23, _⟩ => ⟨S1x2048x128, .bf16⟩
  | .local _ .vmem, ⟨24, _⟩ => ⟨S1x2048x128, .bf16⟩
  | .local _ .vmem, ⟨25, _⟩ => ⟨S4x128, .f32⟩
  | .local _ .vmem, ⟨26, _⟩ => ⟨S4x128, .f32⟩
  | .local _ .vmem, ⟨27, _⟩ => ⟨S1x128, .f32⟩
  | .local _ .vmem, ⟨28, _⟩ => ⟨S1x128, .f32⟩
  | .local _ .vmem, ⟨29, _⟩ => ⟨S1x128x128, .f32⟩
  | .local _ .vmem, ⟨30, _⟩ => ⟨S1x128x128, .f32⟩
  | .local _ .vmem, ⟨31, _⟩ => ⟨S1x128, .f32⟩
  | .local _ .vmem, ⟨32, _⟩ => ⟨S1x128, .f32⟩
  | .local _ .vmem, ⟨33, _⟩ => ⟨S1x128x128, .f32⟩
  | .local _ .vmem, ⟨34, _⟩ => ⟨S1x128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S4x2064x128, .f32⟩
  | _, _ => ⟨S2x2048x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_4 : Ref sig .tc := ⟨.hbm, 78, rfl⟩
abbrev main_v63 : Ref sig .tc := ⟨.hbm, 79, rfl⟩
abbrev main_v64 : Ref sig .tc := ⟨.hbm, 80, rfl⟩
abbrev main_cst_5 : Ref sig .tc := ⟨.hbm, 81, rfl⟩
abbrev main_v65 : Ref sig .tc := ⟨.hbm, 82, rfl⟩
abbrev main_v66 : Ref sig .tc := ⟨.hbm, 83, rfl⟩
abbrev main_cst_6 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_v7 : Ref sig .tc := ⟨.hbm, 96, rfl⟩
abbrev main_call0_v8 : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c : Ref sig .tc := ⟨.hbm, 107, rfl⟩
abbrev main_v76 : Ref sig .tc := ⟨.hbm, 108, rfl⟩
abbrev main_v77 : Ref sig .tc := ⟨.hbm, 109, rfl⟩
abbrev main_cst_7 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_8 : Ref sig .tc := ⟨.hbm, 116, rfl⟩
abbrev main_call1_v0 : Ref sig .tc := ⟨.hbm, 117, rfl⟩
abbrev main_call1_v1 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_9 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_v90 : Ref sig .tc := ⟨.hbm, 131, rfl⟩
abbrev main_cst_10 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_11 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_12 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_13 : Ref sig .tc := ⟨.hbm, 158, rfl⟩
abbrev main_v111 : Ref sig .tc := ⟨.hbm, 159, rfl⟩
abbrev main_v112_0 : Ref sig .tc := ⟨.hbm, 160, rfl⟩
abbrev main_v112_1 : Ref sig .tc := ⟨.hbm, 161, rfl⟩
abbrev main_v112_2 : Ref sig .tc := ⟨.hbm, 162, rfl⟩
abbrev main_v112_3 : Ref sig .tc := ⟨.hbm, 163, rfl⟩
abbrev main_v112_4 : Ref sig .tc := ⟨.hbm, 164, rfl⟩
abbrev main_v112_5 : Ref sig .tc := ⟨.hbm, 165, rfl⟩
abbrev main_v112_6 : Ref sig .tc := ⟨.hbm, 166, rfl⟩
abbrev main_v112_7 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨2, ![10, 2], ![false, false]⟩

def k0_cond1 (i : grid0.Coords) : BitVec 1 :=
  let arg1 : BitVec 32 := BitVec.ofNat 32 (i 1).val
  let c0_i32_226 : BitVec 32 := 0#32
  let v371 : BitVec 1 := Scalar.cmpi .eq arg1 c0_i32_226
  let v372 : BitVec 32 := Scalar.extui v371
  let c0_i32_227 : BitVec 32 := 0#32
  let v373 : BitVec 1 := Scalar.cmpi .ne v372 c0_i32_227
  v373

def k0_cond2 (i : grid0.Coords) : BitVec 1 :=
  let arg1 : BitVec 32 := BitVec.ofNat 32 (i 1).val
  let c0_i32_226 : BitVec 32 := 0#32
  let v371 : BitVec 1 := Scalar.cmpi .eq arg1 c0_i32_226
  let v_true : BitVec 1 := 1#1
  let v374 : BitVec 1 := Scalar.xori v371 v_true
  let v375 : BitVec 32 := Scalar.extui v374
  let c0_i32_228 : BitVec 32 := 0#32
  let v376 : BitVec 1 := Scalar.cmpi .ne v375 c0_i32_228
  v376

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S2x2048x9728 : Shape := ⟨3, ![2, 2048, 9728]⟩
abbrev S4x1280 : Shape := ⟨2, ![4, 1280]⟩
abbrev S1x1280 : Shape := ⟨2, ![1, 1280]⟩
abbrev S10x128x128 : Shape := ⟨3, ![10, 128, 128]⟩
abbrev S2x2048x1280 : Shape := ⟨3, ![2, 2048, 1280]⟩
abbrev S2x2048x2560 : Shape := ⟨3, ![2, 2048, 2560]⟩
abbrev S_ : Shape := ⟨0, ![]⟩
abbrev S2x3x1280 : Shape := ⟨3, ![2, 3, 1280]⟩
abbrev S2x2051x1280 : Shape := ⟨3, ![2, 2051, 1280]⟩
abbrev S1x1x1280 : Shape := ⟨3, ![1, 1, 1280]⟩
abbrev S1280 : Shape := ⟨1, ![1280]⟩
abbrev S2x2048x10x128 : Shape := ⟨4, ![2, 2048, 10, 128]⟩
abbrev S10x128x2x2048 : Shape := ⟨4, ![10, 128, 2, 2048]⟩
abbrev S1x2048x2048x1 : Shape := ⟨4, ![1, 2048, 2048, 1]⟩
abbrev S2x1x2048x1280 : Shape := ⟨4, ![2, 1, 2048, 1280]⟩
abbrev S2x2048x2048x1280 : Shape := ⟨4, ![2, 2048, 2048, 1280]⟩
abbrev S2x2048x1x1280 : Shape := ⟨4, ![2, 2048, 1, 1280]⟩
abbrev S10x2x2048x128 : Shape := ⟨4, ![10, 2, 2048, 128]⟩

abbrev nBuf : Space → Nat
  | .hbm => 355
  | .vmem => 0
  | .smem => 0
  | _ => 0

abbrev hbmTy0_0 (i : Nat) : BufTy := match i % 128 with
  | 0 => ⟨S2x2048x9728, .bf16⟩
  | 1 => ⟨S4x1280, .f32⟩
  | 2 => ⟨S1x1280, .f32⟩
  | 3 => ⟨S10x128x128, .f32⟩
  | 4 => ⟨S1x1280, .f32⟩
  | 5 => ⟨S10x128x128, .f32⟩
  | 6 => ⟨S1x1280, .f32⟩
  | 7 => ⟨S1x1280, .f32⟩
  | 8 => ⟨S2x2048x1280, .f32⟩
  | 9 => ⟨S2x2048x2560, .bf16⟩
  | 10 => ⟨S2x2048x1280, .bf16⟩
  | 11 => ⟨S2x2048x1280, .f32⟩
  | 12 => ⟨S_, .f32⟩
  | 13 => ⟨S2x3x1280, .f32⟩
  | 14 => ⟨S2x2051x1280, .f32⟩
  | 15 => ⟨S_, .f32⟩
  | 16 => ⟨S2x3x1280, .f32⟩
  | 17 => ⟨S1x1x1280, .f32⟩
  | 18 => ⟨S1x1280, .f32⟩
  | 19 => ⟨S1280, .f32⟩
  | 20 => ⟨S1x1x1280, .f32⟩
  | 21 => ⟨S2x2048x1280, .f32⟩
  | 22 => ⟨S2x2048x1280, .f32⟩
  | 23 => ⟨S2x2048x1280, .f32⟩
  | 24 => ⟨S2x2048x1280, .f32⟩
  | 25 => ⟨S2x2048x1280, .f32⟩
  | 26 => ⟨S1x1280, .f32⟩
  | 27 => ⟨S1280, .f32⟩
  | 28 => ⟨S1x1x1280, .f32⟩
  | 29 => ⟨S2x2048x1280, .f32⟩
  | 30 => ⟨S2x2048x1280, .f32⟩
  | 31 => ⟨S2x2048x1280, .f32⟩
  | 32 => ⟨S2x2048x1280, .f32⟩
  | 33 => ⟨S1x1280, .f32⟩
  | 34 => ⟨S1280, .f32⟩
  | 35 => ⟨S1x1x1280, .f32⟩
  | 36 => ⟨S2x2048x1280, .f32⟩
  | 37 => ⟨S2x2048x1280, .f32⟩
  | 38 => ⟨S2x2048x1280, .f32⟩
  | 39 => ⟨S2x2048x1280, .f32⟩
  | 40 => ⟨S1x1280, .f32⟩
  | 41 => ⟨S1280, .f32⟩
  | 42 => ⟨S1x1x1280, .f32⟩
  | 43 => ⟨S2x2048x1280, .f32⟩
  | 44 => ⟨S2x2048x1280, .f32⟩
  | 45 => ⟨S2x2048x1280, .f32⟩
  | 46 => ⟨S2x2048x1280, .f32⟩
  | 47 => ⟨S2x2048x10x128, .f32⟩
  | 48 => ⟨S10x128x2x2048, .f32⟩
  | 49 => ⟨S2x2048x10x128, .f32⟩
  | 50 => ⟨S10x128x2x2048, .f32⟩
  | 51 => ⟨S2x2048x10x128, .f32⟩
  | 52 => ⟨S2x2048x1280, .f32⟩
  | 53 => ⟨S1x1x1280, .f32⟩
  | 54 => ⟨S2x2048x1280, .f32⟩
  | 55 => ⟨S2x2048x1280, .f32⟩
  | 56 => ⟨S2x2048x1280, .f32⟩
  | 57 => ⟨S2x2048x1280, .f32⟩
  | 58 => ⟨S_, .f32⟩
  | 59 => ⟨S2x2048x1280, .f32⟩
  | 60 => ⟨S2x2048x1280, .f32⟩
  | 61 => ⟨S_, .f32⟩
  | 62 => ⟨S2x2048x1280, .f32⟩
  | 63 => ⟨S2x2048x1280, .f32⟩
  | 64 => ⟨S_, .f32⟩
  | 65 => ⟨S2x2048x1280, .f32⟩
  | 66 => ⟨S2x2048x1280, .f32⟩
  | 67 => ⟨S2x2048x1280, .f32⟩
  | 68 => ⟨S2x2048x1280, .f32⟩
  | 69 => ⟨S1x1x1280, .f32⟩
  | 70 => ⟨S2x2048x1280, .f32⟩
  | 71 => ⟨S2x2048x1280, .f32⟩
  | 72 => ⟨S2x2048x1280, .f32⟩
  | 73 => ⟨S2x2048x1280, .f32⟩
  | 74 => ⟨S_, .f32⟩
  | 75 => ⟨S2x2048x1280, .f32⟩
  | 76 => ⟨S2x2048x1280, .f32⟩
  | 77 => ⟨S_, .f32⟩
  | 78 => ⟨S2x2048x1280, .f32⟩
  | 79 => ⟨S2x2048x1280, .f32⟩
  | 80 => ⟨S_, .f32⟩
  | 81 => ⟨S2x2048x1280, .f32⟩
  | 82 => ⟨S2x2048x1280, .f32⟩
  | 83 => ⟨S2x2048x1280, .f32⟩
  | 84 => ⟨S_, .f32⟩
  | 85 => ⟨S2x2048x1280, .f32⟩
  | 86 => ⟨S2x2048x1280, .f32⟩
  | 87 => ⟨S1x1280, .f32⟩
  | 88 => ⟨S_, .f32⟩
  | 89 => ⟨S1x1280, .f32⟩
  | 90 => ⟨S1x1280, .f32⟩
  | 91 => ⟨S1x1280, .f32⟩
  | 92 => ⟨S1x1280, .f32⟩
  | 93 => ⟨S1x1280, .i1⟩
  | 94 => ⟨S1x1280, .f32⟩
  | 95 => ⟨S1x1280, .f32⟩
  | 96 => ⟨S1x1280, .f32⟩
  | 97 => ⟨S1x1280, .f32⟩
  | 98 => ⟨S1x1280, .f32⟩
  | 99 => ⟨S1x1280, .f32⟩
  | 100 => ⟨S1x1280, .f32⟩
  | 101 => ⟨S1x1280, .f32⟩
  | 102 => ⟨S_, .f32⟩
  | 103 => ⟨S1x1280, .f32⟩
  | 104 => ⟨S1x1280, .i1⟩
  | 105 => ⟨S_, .f32⟩
  | 106 => ⟨S1x1280, .f32⟩
  | 107 => ⟨S1x1280, .f32⟩
  | 108 => ⟨S_, .f32⟩
  | 109 => ⟨S1x1280, .f32⟩
  | 110 => ⟨S1x1280, .i1⟩
  | 111 => ⟨S_, .f32⟩
  | 112 => ⟨S1x1280, .f32⟩
  | 113 => ⟨S1x1280, .f32⟩
  | 114 => ⟨S1x1280, .f32⟩
  | 115 => ⟨S1x1280, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S1x1280, .f32⟩
  | 124 => ⟨S1x1280, .i1⟩
  | 125 => ⟨S_, .f32⟩
  | 126 => ⟨S1x1280, .f32⟩
  | 127 => ⟨S1x1280, .f32⟩
  | _ => ⟨S2x2048x9728, .bf16⟩

abbrev hbmTy0_1 (i : Nat) : BufTy := match i % 128 with
  | 0 => ⟨S1x1280, .f32⟩
  | 1 => ⟨S1x1280, .f32⟩
  | 2 => ⟨S1x1280, .f32⟩
  | 3 => ⟨S_, .f32⟩
  | 4 => ⟨S1x1280, .f32⟩
  | 5 => ⟨S1x1280, .f32⟩
  | 6 => ⟨S1x1x1280, .f32⟩
  | 7 => ⟨S2x2048x1280, .f32⟩
  | 8 => ⟨S2x2048x1280, .f32⟩
  | 9 => ⟨S2x2048x1280, .f32⟩
  | 10 => ⟨S2x2048x1280, .i32⟩
  | 11 => ⟨S_, .i32⟩
  | 12 => ⟨S2x2048x1280, .i32⟩
  | 13 => ⟨S2x2048x1280, .i1⟩
  | 14 => ⟨S_, .f32⟩
  | 15 => ⟨S2x2048x1280, .f32⟩
  | 16 => ⟨S2x2048x1280, .f32⟩
  | 17 => ⟨S2x2048x1280, .f32⟩
  | 18 => ⟨S2x2048x1280, .f32⟩
  | 19 => ⟨S2x2048x1280, .f32⟩
  | 20 => ⟨S2x2048x1280, .f32⟩
  | 21 => ⟨S_, .f32⟩
  | 22 => ⟨S2x2048x1280, .f32⟩
  | 23 => ⟨S2x2048x1280, .f32⟩
  | 24 => ⟨S_, .f32⟩
  | 25 => ⟨S_, .f32⟩
  | 26 => ⟨S2x2048x1280, .f32⟩
  | 27 => ⟨S2x2048x1280, .f32⟩
  | 28 => ⟨S_, .f32⟩
  | 29 => ⟨S2x2048x1280, .f32⟩
  | 30 => ⟨S2x2048x1280, .f32⟩
  | 31 => ⟨S2x2048x1280, .f32⟩
  | 32 => ⟨S1x2048x2048x1, .i32⟩
  | 33 => ⟨S1x2048x2048x1, .i32⟩
  | 34 => ⟨S1x2048x2048x1, .i1⟩
  | 35 => ⟨S2x1x2048x1280, .f32⟩
  | 36 => ⟨S_, .f32⟩
  | 37 => ⟨S_, .f32⟩
  | 38 => ⟨S2x2048x2048x1280, .i1⟩
  | 39 => ⟨S2x2048x2048x1280, .f32⟩
  | 40 => ⟨S2x2048x2048x1280, .f32⟩
  | 41 => ⟨S2x2048x2048x1280, .f32⟩
  | 42 => ⟨S_, .f32⟩
  | 43 => ⟨S2x2048x2048x1280, .f32⟩
  | 44 => ⟨S_, .f32⟩
  | 45 => ⟨S2x2048x1280, .f32⟩
  | 46 => ⟨S2x2048x1x1280, .f32⟩
  | 47 => ⟨S2x1x2048x1280, .f32⟩
  | 48 => ⟨S2x2048x2048x1280, .f32⟩
  | 49 => ⟨S2x2048x2048x1280, .f32⟩
  | 50 => ⟨S2x2048x2048x1280, .f32⟩
  | 51 => ⟨S2x2048x2048x1280, .f32⟩
  | 52 => ⟨S_, .f32⟩
  | 53 => ⟨S_, .f32⟩
  | 54 => ⟨S2x2048x2048x1280, .i1⟩
  | 55 => ⟨S2x2048x2048x1280, .f32⟩
  | 56 => ⟨S2x2048x2048x1280, .f32⟩
  | 57 => ⟨S_, .f32⟩
  | 58 => ⟨S2x2048x2048x1280, .f32⟩
  | 59 => ⟨S2x1x2048x1280, .f32⟩
  | 60 => ⟨S2x2048x2048x1280, .f32⟩
  | 61 => ⟨S2x2048x2048x1280, .f32⟩
  | 62 => ⟨S_, .f32⟩
  | 63 => ⟨S2x2048x1280, .f32⟩
  | 64 => ⟨S2x2048x2048x1280, .f32⟩
  | 65 => ⟨S2x2048x2048x1280, .f32⟩
  | 66 => ⟨S_, .f32⟩
  | 67 => ⟨S2x2048x1280, .f32⟩
  | 68 => ⟨S2x1x2048x1280, .f32⟩
  | 69 => ⟨S2x2048x2048x1280, .f32⟩
  | 70 => ⟨S2x2048x2048x1280, .f32⟩
  | 71 => ⟨S_, .f32⟩
  | 72 => ⟨S2x2048x1280, .f32⟩
  | 73 => ⟨S_, .f32⟩
  | 74 => ⟨S2x2048x2048x1280, .f32⟩
  | 75 => ⟨S2x2048x2048x1280, .f32⟩
  | 76 => ⟨S2x2048x2048x1280, .f32⟩
  | 77 => ⟨S_, .f32⟩
  | 78 => ⟨S2x2048x1280, .f32⟩
  | 79 => ⟨S2x2048x1x1280, .f32⟩
  | 80 => ⟨S2x2048x2048x1280, .f32⟩
  | 81 => ⟨S_, .f32⟩
  | 82 => ⟨S2x2048x1280, .f32⟩
  | 83 => ⟨S2x1x2048x1280, .f32⟩
  | 84 => ⟨S_, .f32⟩
  | 85 => ⟨S2x2048x1280, .f32⟩
  | 86 => ⟨S_, .f32⟩
  | 87 => ⟨S2x2048x1280, .f32⟩
  | 88 => ⟨S2x2048x1280, .f32⟩
  | 89 => ⟨S2x2048x2048x1280, .f32⟩
  | 90 => ⟨S_, .f32⟩
  | 91 => ⟨S2x2048x2048x1280, .f32⟩
  | 92 => ⟨S2x2048x2048x1280, .f32⟩
  | 93 => ⟨S_, .f32⟩
  | 94 => ⟨S2x2048x1280, .f32⟩
  | 95 => ⟨S2x1x2048x1280, .f32⟩
  | 96 => ⟨S_, .f32⟩
  | 97 => ⟨S2x2048x1280, .f32⟩
  | 98 => ⟨S2x2048x1280, .f32⟩
  | 99 => ⟨S2x2048x1280, .f32⟩
  | 100 => ⟨S2x2048x1280, .f32⟩
  | 101 => ⟨S2x2048x1280, .f32⟩
  | 102 => ⟨S_, .f32⟩
  | 103 => ⟨S2x2048x1280, .f32⟩
  | 104 => ⟨S2x2048x1280, .f32⟩
  | 105 => ⟨S2x2048x1280, .f32⟩
  | 106 => ⟨S2x2048x1280, .f32⟩
  | 107 => ⟨S2x2048x1280, .f32⟩
  | 108 => ⟨S_, .f32⟩
  | 109 => ⟨S2x2048x1280, .f32⟩
  | 110 => ⟨S2x2048x1280, .f32⟩
  | 111 => ⟨S2x2048x1280, .f32⟩
  | 112 => ⟨S2x2048x1280, .f32⟩
  | 113 => ⟨S_, .f32⟩
  | 114 => ⟨S1280, .f32⟩
  | 115 => ⟨S1x1x1280, .f32⟩
  | 116 => ⟨S2x2048x1280, .f32⟩
  | 117 => ⟨S2x2048x1280, .f32⟩
  | 118 => ⟨S_, .f32⟩
  | 119 => ⟨S1280, .f32⟩
  | 120 => ⟨S1x1280, .f32⟩
  | 121 => ⟨S1x1280, .f32⟩
  | 122 => ⟨S1x1280, .f32⟩
  | 123 => ⟨S_, .f32⟩
  | 124 => ⟨S2x2048x1280, .f32⟩
  | 125 => ⟨S2x2048x1280, .f32⟩
  | 126 => ⟨S2x2048x1280, .f32⟩
  | 127 => ⟨S_, .f32⟩
  | _ => ⟨S2x2048x9728, .bf16⟩

abbrev hbmTy0_2 (i : Nat) : BufTy := match i % 128 with
  | 0 => ⟨S1280, .f32⟩
  | 1 => ⟨S1x1x1280, .f32⟩
  | 2 => ⟨S_, .f32⟩
  | 3 => ⟨S1280, .f32⟩
  | 4 => ⟨S1x1280, .f32⟩
  | 5 => ⟨S2x2048x10x128, .f32⟩
  | 6 => ⟨S2x2048x1280, .f32⟩
  | 7 => ⟨S_, .f32⟩
  | 8 => ⟨S1280, .f32⟩
  | 9 => ⟨S1x1x1280, .f32⟩
  | 10 => ⟨S_, .f32⟩
  | 11 => ⟨S1280, .f32⟩
  | 12 => ⟨S1x1280, .f32⟩
  | 13 => ⟨S2x2048x10x128, .f32⟩
  | 14 => ⟨S10x128x2x2048, .f32⟩
  | 15 => ⟨S10x2x2048x128, .f32⟩
  | 16 => ⟨S2x2048x10x128, .f32⟩
  | 17 => ⟨S10x128x128, .f32⟩
  | 18 => ⟨S10x128x128, .f32⟩
  | 19 => ⟨S10x128x2x2048, .f32⟩
  | 20 => ⟨S10x2x2048x128, .f32⟩
  | 21 => ⟨S2x2048x10x128, .f32⟩
  | 22 => ⟨S2x2048x10x128, .f32⟩
  | 23 => ⟨S10x128x128, .f32⟩
  | 24 => ⟨S10x128x128, .f32⟩
  | 25 => ⟨S2x2048x1280, .f32⟩
  | 26 => ⟨S2x2048x1280, .f32⟩
  | 27 => ⟨S2x2048x1280, .f32⟩
  | 28 => ⟨S2x2048x1280, .f32⟩
  | 29 => ⟨S2x2048x1280, .f32⟩
  | 30 => ⟨S_, .f32⟩
  | 31 => ⟨S1280, .f32⟩
  | 32 => ⟨S1x1x1280, .f32⟩
  | 33 => ⟨S_, .f32⟩
  | 34 => ⟨S2x2051x1280, .f32⟩
  | 35 => ⟨S_, .f32⟩
  | 36 => ⟨S1280, .f32⟩
  | 37 => ⟨S1x1280, .f32⟩
  | 38 => ⟨S_, .f32⟩
  | 39 => ⟨S4x1280, .f32⟩
  | 40 => ⟨S2x2048x1280, .f32⟩
  | 41 => ⟨S2x2048x1280, .f32⟩
  | 42 => ⟨S2x2048x1280, .f32⟩
  | 43 => ⟨S_, .f32⟩
  | 44 => ⟨S1280, .f32⟩
  | 45 => ⟨S1x1x1280, .f32⟩
  | 46 => ⟨S_, .f32⟩
  | 47 => ⟨S2x2051x1280, .f32⟩
  | 48 => ⟨S2x2051x1280, .f32⟩
  | 49 => ⟨S_, .f32⟩
  | 50 => ⟨S1280, .f32⟩
  | 51 => ⟨S1x1280, .f32⟩
  | 52 => ⟨S_, .f32⟩
  | 53 => ⟨S4x1280, .f32⟩
  | 54 => ⟨S4x1280, .f32⟩
  | 55 => ⟨S2x2048x1280, .f32⟩
  | 56 => ⟨S2x2048x1280, .f32⟩
  | 57 => ⟨S2x2048x1280, .f32⟩
  | 58 => ⟨S_, .f32⟩
  | 59 => ⟨S1280, .f32⟩
  | 60 => ⟨S1x1x1280, .f32⟩
  | 61 => ⟨S_, .f32⟩
  | 62 => ⟨S2x2051x1280, .f32⟩
  | 63 => ⟨S2x2051x1280, .f32⟩
  | 64 => ⟨S_, .f32⟩
  | 65 => ⟨S1280, .f32⟩
  | 66 => ⟨S1x1280, .f32⟩
  | 67 => ⟨S_, .f32⟩
  | 68 => ⟨S4x1280, .f32⟩
  | 69 => ⟨S4x1280, .f32⟩
  | 70 => ⟨S_, .f32⟩
  | 71 => ⟨S1280, .f32⟩
  | 72 => ⟨S1x1x1280, .f32⟩
  | 73 => ⟨S2x2048x1280, .f32⟩
  | 74 => ⟨S2x2048x1280, .f32⟩
  | 75 => ⟨S2x2048x1280, .f32⟩
  | 76 => ⟨S_, .f32⟩
  | 77 => ⟨S1280, .f32⟩
  | 78 => ⟨S1x1x1280, .f32⟩
  | 79 => ⟨S_, .f32⟩
  | 80 => ⟨S2x2051x1280, .f32⟩
  | 81 => ⟨S2x2051x1280, .f32⟩
  | 82 => ⟨S_, .f32⟩
  | 83 => ⟨S1280, .f32⟩
  | 84 => ⟨S1x1280, .f32⟩
  | 85 => ⟨S_, .f32⟩
  | 86 => ⟨S4x1280, .f32⟩
  | 87 => ⟨S4x1280, .f32⟩
  | 88 => ⟨S_, .f32⟩
  | 89 => ⟨S1280, .f32⟩
  | 90 => ⟨S1x1280, .f32⟩
  | 91 => ⟨S2x3x1280, .f32⟩
  | 92 => ⟨S2x2048x1280, .f32⟩
  | 93 => ⟨S2x2048x1280, .bf16⟩
  | 94 => ⟨S_, .bf16⟩
  | 95 => ⟨S2x2048x9728, .bf16⟩
  | 96 => ⟨S2x2048x1280, .bf16⟩
  | 97 => ⟨S2x2048x1280, .bf16⟩
  | 98 => ⟨S2x2048x2560, .bf16⟩
  | _ => ⟨S2x2048x9728, .bf16⟩

abbrev hbmTy (i : Nat) : BufTy := match i / 128 with
  | 0 => hbmTy0_0 i
  | 1 => hbmTy0_1 i
  | 2 => hbmTy0_2 i
  | _ => ⟨S2x2048x9728, .bf16⟩

abbrev bufTy : (tb : Table) → Fin (tcTables nBuf tb) → BufTy
  | .hbm, ⟨i, _⟩ => hbmTy i
  | _, _ => ⟨S2x2048x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call0_cst : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_v7 : Ref sig .tc := ⟨.hbm, 96, rfl⟩
abbrev main_call0_v8 : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_v69_0 : Ref sig .tc := ⟨.hbm, 101, rfl⟩
abbrev main_call0_cst_0 : Ref sig .tc := ⟨.hbm, 102, rfl⟩
abbrev main_call0_v13 : Ref sig .tc := ⟨.hbm, 103, rfl⟩
abbrev main_call0_v14 : Ref sig .tc := ⟨.hbm, 104, rfl⟩
abbrev main_call0_cst_1 : Ref sig .tc := ⟨.hbm, 105, rfl⟩
abbrev main_call0_v15 : Ref sig .tc := ⟨.hbm, 106, rfl⟩
abbrev main_call0_v16 : Ref sig .tc := ⟨.hbm, 107, rfl⟩
abbrev main_call0_cst_2 : Ref sig .tc := ⟨.hbm, 108, rfl⟩
abbrev main_call0_v17 : Ref sig .tc := ⟨.hbm, 109, rfl⟩
abbrev main_call0_v18 : Ref sig .tc := ⟨.hbm, 110, rfl⟩
abbrev main_call0_cst_3 : Ref sig .tc := ⟨.hbm, 111, rfl⟩
abbrev main_call0_v19 : Ref sig .tc := ⟨.hbm, 112, rfl⟩
abbrev main_call0_v20 : Ref sig .tc := ⟨.hbm, 113, rfl⟩
abbrev main_call0_v21 : Ref sig .tc := ⟨.hbm, 114, rfl⟩
abbrev main_v69_1 : Ref sig .tc := ⟨.hbm, 115, rfl⟩
abbrev main_call0_cst_4 : Ref sig .tc := ⟨.hbm, 116, rfl⟩
abbrev main_call0_cst_5 : Ref sig .tc := ⟨.hbm, 117, rfl⟩
abbrev main_call0_v23 : Ref sig .tc := ⟨.hbm, 118, rfl⟩
abbrev main_call0_cst_6 : Ref sig .tc := ⟨.hbm, 119, rfl⟩
abbrev main_call0_cst_7 : Ref sig .tc := ⟨.hbm, 120, rfl⟩
abbrev main_call0_v24 : Ref sig .tc := ⟨.hbm, 121, rfl⟩
abbrev main_call0_cst_8 : Ref sig .tc := ⟨.hbm, 122, rfl⟩
abbrev main_call0_v25 : Ref sig .tc := ⟨.hbm, 123, rfl⟩
abbrev main_call0_v26 : Ref sig .tc := ⟨.hbm, 124, rfl⟩
abbrev main_call0_cst_9 : Ref sig .tc := ⟨.hbm, 125, rfl⟩
abbrev main_call0_v27 : Ref sig .tc := ⟨.hbm, 126, rfl⟩
abbrev main_call0_v28 : Ref sig .tc := ⟨.hbm, 127, rfl⟩
abbrev main_call0_v29 : Ref sig .tc := ⟨.hbm, 128, rfl⟩
abbrev main_call0_v30 : Ref sig .tc := ⟨.hbm, 129, rfl⟩
abbrev main_call0_v31 : Ref sig .tc := ⟨.hbm, 130, rfl⟩
abbrev main_call0_cst_10 : Ref sig .tc := ⟨.hbm, 131, rfl⟩
abbrev main_call0_v32 : Ref sig .tc := ⟨.hbm, 132, rfl⟩
abbrev main_v69_2 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_c : Ref sig .tc := ⟨.hbm, 139, rfl⟩
abbrev main_v75 : Ref sig .tc := ⟨.hbm, 140, rfl⟩
abbrev main_v76 : Ref sig .tc := ⟨.hbm, 141, rfl⟩
abbrev main_cst_8 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_9 : Ref sig .tc := ⟨.hbm, 149, rfl⟩
abbrev main_v83 : Ref sig .tc := ⟨.hbm, 150, rfl⟩
abbrev main_v84 : Ref sig .tc := ⟨.hbm, 151, rfl⟩
abbrev main_cst_10 : Ref sig .tc := ⟨.hbm, 152, rfl⟩
abbrev main_call1_v0 : Ref sig .tc := ⟨.hbm, 153, rfl⟩
abbrev main_call1_v1 : Ref sig .tc := ⟨.hbm, 154, rfl⟩
abbrev main_v85_0 : Ref sig .tc := ⟨.hbm, 155, rfl⟩
abbrev main_call1_cst : Ref sig .tc := ⟨.hbm, 156, rfl⟩
abbrev main_v85_1 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_cst_11 : Ref sig .tc := ⟨.hbm, 164, rfl⟩
abbrev main_call2_v0 : Ref sig .tc := ⟨.hbm, 165, rfl⟩
abbrev main_v92_1 : Ref sig .tc := ⟨.hbm, 166, rfl⟩
abbrev main_call2_v2 : Ref sig .tc := ⟨.hbm, 167, rfl⟩
abbrev main_call2_v3 : Ref sig .tc := ⟨.hbm, 168, rfl⟩
abbrev main_v92_0 : Ref sig .tc := ⟨.hbm, 169, rfl⟩
abbrev main_call2_cst : Ref sig .tc := ⟨.hbm, 170, rfl⟩
abbrev main_v92_2 : Ref sig .tc := ⟨.hbm, 171, rfl⟩
abbrev main_cst_12 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_cst_13 : Ref sig .tc := ⟨.hbm, 180, rfl⟩
abbrev main_call3_v0 : Ref sig .tc := ⟨.hbm, 181, rfl⟩
abbrev main_v100_1 : Ref sig .tc := ⟨.hbm, 182, rfl⟩
abbrev main_call3_v2 : Ref sig .tc := ⟨.hbm, 183, rfl⟩
abbrev main_v100_0 : Ref sig .tc := ⟨.hbm, 184, rfl⟩
abbrev main_call3_cst : Ref sig .tc := ⟨.hbm, 185, rfl⟩
abbrev main_v100_2 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_cst_14 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_cst_15 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_cst_16 : Ref sig .tc := ⟨.hbm, 199, rfl⟩
abbrev main_v111 : Ref sig .tc := ⟨.hbm, 200, rfl⟩
abbrev main_call4_cst : Ref sig .tc := ⟨.hbm, 201, rfl⟩
abbrev main_call4_v0 : Ref sig .tc := ⟨.hbm, 202, rfl⟩
abbrev main_v112 : Ref sig .tc := ⟨.hbm, 203, rfl⟩
abbrev main_v113 : Ref sig .tc := ⟨.hbm, 204, rfl⟩
abbrev main_cst_17 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_cst_18 : Ref sig .tc := ⟨.hbm, 209, rfl⟩
abbrev main_v117 : Ref sig .tc := ⟨.hbm, 210, rfl⟩
abbrev main_v118 : Ref sig .tc := ⟨.hbm, 211, rfl⟩
abbrev main_cst_19 : Ref sig .tc := ⟨.hbm, 212, rfl⟩
abbrev main_v119 : Ref sig .tc := ⟨.hbm, 213, rfl⟩
abbrev main_cst_20 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_call5_cst : Ref sig .tc := ⟨.hbm, 218, rfl⟩
abbrev main_call5_v0 : Ref sig .tc := ⟨.hbm, 219, rfl⟩
abbrev main_call5_v1 : Ref sig .tc := ⟨.hbm, 220, rfl⟩
abbrev main_call5_cst_0 : Ref sig .tc := ⟨.hbm, 221, rfl⟩
abbrev main_call5_v2 : Ref sig .tc := ⟨.hbm, 222, rfl⟩
abbrev main_v123 : Ref sig .tc := ⟨.hbm, 223, rfl⟩
abbrev main_cst_21 : Ref sig .tc := ⟨.hbm, 224, rfl⟩
abbrev main_v124 : Ref sig .tc := ⟨.hbm, 225, rfl⟩
abbrev main_v125 : Ref sig .tc := ⟨.hbm, 226, rfl⟩
abbrev main_v126 : Ref sig .tc := ⟨.hbm, 227, rfl⟩
abbrev main_v127 : Ref sig .tc := ⟨.hbm, 228, rfl⟩
abbrev main_v128 : Ref sig .tc := ⟨.hbm, 229, rfl⟩
abbrev main_call6_cst : Ref sig .tc := ⟨.hbm, 230, rfl⟩
abbrev main_call6_v0 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_cst_22 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_cst_23 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_cst_24 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_cst_25 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_cst_26 : Ref sig .tc := ⟨.hbm, 255, rfl⟩
abbrev main_v148 : Ref sig .tc := ⟨.hbm, 256, rfl⟩
abbrev main_v149 : Ref sig .tc := ⟨.hbm, 257, rfl⟩
abbrev main_cst_27 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_cst_28 : Ref sig .tc := ⟨.hbm, 263, rfl⟩
abbrev main_v154 : Ref sig .tc := ⟨.hbm, 264, rfl⟩
abbrev main_v155 : Ref sig .tc := ⟨.hbm, 265, rfl⟩
abbrev main_cst_29 : Ref sig .tc := ⟨.hbm, 266, rfl⟩
abbrev main_v156 : Ref sig .tc := ⟨.hbm, 267, rfl⟩
abbrev main_v157 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_v162 : Ref sig .tc := ⟨.hbm, 273, rfl⟩
abbrev main_v163 : Ref sig .tc := ⟨.hbm, 274, rfl⟩
abbrev main_v164 : Ref sig .tc := ⟨.hbm, 275, rfl⟩
abbrev main_v165 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_cst_30 : Ref sig .tc := ⟨.hbm, 286, rfl⟩
abbrev main_v175 : Ref sig .tc := ⟨.hbm, 287, rfl⟩
abbrev main_v176 : Ref sig .tc := ⟨.hbm, 288, rfl⟩
abbrev main_cst_31 : Ref sig .tc := ⟨.hbm, 289, rfl⟩
abbrev main_v177 : Ref sig .tc := ⟨.hbm, 290, rfl⟩
abbrev main_cst_32 : Ref sig .tc := ⟨.hbm, 291, rfl⟩
abbrev main_v178 : Ref sig .tc := ⟨.hbm, 292, rfl⟩
abbrev main_v179 : Ref sig .tc := ⟨.hbm, 293, rfl⟩
abbrev main_cst_33 : Ref sig .tc := ⟨.hbm, 294, rfl⟩
abbrev main_v180 : Ref sig .tc := ⟨.hbm, 295, rfl⟩
abbrev main_v181 : Ref sig .tc := ⟨.hbm, 296, rfl⟩
abbrev main_v182 : Ref sig .tc := ⟨.hbm, 297, rfl⟩
abbrev main_v183 : Ref sig .tc := ⟨.hbm, 298, rfl⟩
abbrev main_cst_34 : Ref sig .tc := ⟨.hbm, 299, rfl⟩
abbrev main_v184 : Ref sig .tc := ⟨.hbm, 300, rfl⟩
abbrev main_v185 : Ref sig .tc := ⟨.hbm, 301, rfl⟩
abbrev main_cst_35 : Ref sig .tc := ⟨.hbm, 302, rfl⟩
abbrev main_v186 : Ref sig .tc := ⟨.hbm, 303, rfl⟩
abbrev main_v187 : Ref sig .tc := ⟨.hbm, 304, rfl⟩
abbrev main_cst_36 : Ref sig .tc := ⟨.hbm, 305, rfl⟩
abbrev main_v188 : Ref sig .tc := ⟨.hbm, 306, rfl⟩
abbrev main_v189 : Ref sig .tc := ⟨.hbm, 307, rfl⟩
abbrev main_cst_37 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_cst_38 : Ref sig .tc := ⟨.hbm, 314, rfl⟩
abbrev main_v195 : Ref sig .tc := ⟨.hbm, 315, rfl⟩
abbrev main_v196 : Ref sig .tc := ⟨.hbm, 316, rfl⟩
abbrev main_cst_39 : Ref sig .tc := ⟨.hbm, 317, rfl⟩
abbrev main_v197 : Ref sig .tc := ⟨.hbm, 318, rfl⟩
abbrev main_v198 : Ref sig .tc := ⟨.hbm, 319, rfl⟩
abbrev main_cst_40 : Ref sig .tc := ⟨.hbm, 320, rfl⟩
abbrev main_v199 : Ref sig .tc := ⟨.hbm, 321, rfl⟩
abbrev main_v200 : Ref sig .tc := ⟨.hbm, 322, rfl⟩
abbrev main_cst_41 : Ref sig .tc := ⟨.hbm, 323, rfl⟩
abbrev main_v201 : Ref sig .tc := ⟨.hbm, 324, rfl⟩
abbrev main_v202 : Ref sig .tc := ⟨.hbm, 325, rfl⟩
abbrev main_cst_42 : Ref sig .tc := ⟨.hbm, 326, rfl⟩
abbrev main_v203 : Ref sig .tc := ⟨.hbm, 327, rfl⟩
abbrev main_v204 : Ref sig .tc := ⟨.hbm, 328, rfl⟩
abbrev main_v205 : Ref sig .tc := ⟨.hbm, 329, rfl⟩
abbrev main_v206 : Ref sig .tc := ⟨.hbm, 330, rfl⟩
abbrev main_v207 : Ref sig .tc := ⟨.hbm, 331, rfl⟩
abbrev main_cst_43 : Ref sig .tc := ⟨.hbm, 332, rfl⟩
abbrev main_v208 : Ref sig .tc := ⟨.hbm, 333, rfl⟩
abbrev main_v209 : Ref sig .tc := ⟨.hbm, 334, rfl⟩
abbrev main_cst_44 : Ref sig .tc := ⟨.hbm, 335, rfl⟩
abbrev main_v210 : Ref sig .tc := ⟨.hbm, 336, rfl⟩
abbrev main_v211 : Ref sig .tc := ⟨.hbm, 337, rfl⟩
abbrev main_cst_45 : Ref sig .tc := ⟨.hbm, 338, rfl⟩
abbrev main_v212 : Ref sig .tc := ⟨.hbm, 339, rfl⟩
abbrev main_v213 : Ref sig .tc := ⟨.hbm, 340, rfl⟩
abbrev main_cst_46 : Ref sig .tc := ⟨.hbm, 341, rfl⟩
abbrev main_v214 : Ref sig .tc := ⟨.hbm, 342, rfl⟩
abbrev main_v215 : Ref sig .tc := ⟨.hbm, 343, rfl⟩
abbrev main_cst_47 : Ref sig .tc := ⟨.hbm, 344, rfl⟩
abbrev main_v216 : Ref sig .tc := ⟨.hbm, 345, rfl⟩
abbrev main_v217 : Ref sig .tc := ⟨.hbm, 346, rfl⟩
abbrev main_v218 : Ref sig .tc := ⟨.hbm, 347, rfl⟩
abbrev main_v219 : Ref sig .tc := ⟨.hbm, 348, rfl⟩
abbrev main_v220 : Ref sig .tc := ⟨.hbm, 349, rfl⟩
abbrev main_cst_48 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩

abbrev nD : Nat := 1
abbrev τ : Topo := Topo.v7x

variable {F : FTy → Type} [FloatOps F]
-- ==== Kernel2.lean ====
abbrev S4096x2560 : Shape := ⟨2, ![4096, 2560]⟩
abbrev S4096x1536 : Shape := ⟨2, ![4096, 1536]⟩
abbrev S4096x1024 : Shape := ⟨2, ![4096, 1024]⟩
abbrev S9728x1024 : Shape := ⟨2, ![9728, 1024]⟩
abbrev S1x9728 : Shape := ⟨2, ![1, 9728]⟩
abbrev S4096x512 : Shape := ⟨2, ![4096, 512]⟩
abbrev S512x1024 : Shape := ⟨2, ![512, 1024]⟩
abbrev S1x512 : Shape := ⟨2, ![1, 512]⟩
abbrev S_ : Shape := ⟨0, ![]⟩
abbrev S512 : Shape := ⟨1, ![512]⟩

abbrev nBuf : Space → Nat
  | .hbm => 8
  | .vmem => 15
  | .smem => 0
  | _ => 0

abbrev bufTy : (tb : Table) → Fin (tcTables nBuf tb) → BufTy
  | .hbm, ⟨0, _⟩ => ⟨S4096x2560, .bf16⟩
  | .hbm, ⟨1, _⟩ => ⟨S4096x1536, .bf16⟩
  | .hbm, ⟨2, _⟩ => ⟨S4096x1536, .bf16⟩
  | .hbm, ⟨3, _⟩ => ⟨S4096x1536, .bf16⟩
  | .hbm, ⟨4, _⟩ => ⟨S4096x2560, .bf16⟩
  | .hbm, ⟨5, _⟩ => ⟨S4096x1024, .bf16⟩
  | .hbm, ⟨6, _⟩ => ⟨S9728x1024, .bf16⟩
  | .hbm, ⟨7, _⟩ => ⟨S1x9728, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S512x1024, .bf16⟩
  | .local _ .vmem, ⟨11, _⟩ => ⟨S512x1024, .bf16⟩
  | .local _ .vmem, ⟨12, _⟩ => ⟨S1x512, .f32⟩
  | .local _ .vmem, ⟨13, _⟩ => ⟨S1x512, .f32⟩
  | .local _ .vmem, ⟨14, _⟩ => ⟨S4096x1024, .bf16⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c0_i32_1 : BitVec 32 := 0#32
  let v3 : BitVec 1 := Scalar.cmpi .sge arg0 c0_i32_1
  let c5_i32 : BitVec 32 := 5#32
  let v4 : BitVec 1 := Scalar.cmpi .slt arg0 c5_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c5_i32_3 : BitVec 32 := 5#32
  let v8 : BitVec 1 := Scalar.cmpi .sge arg0 c5_i32_3
  let c8_i32 : BitVec 32 := 8#32
  let v9 : BitVec 1 := Scalar.cmpi .slt arg0 c8_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c8_i32_5 : BitVec 32 := 8#32
  let v13 : BitVec 1 := Scalar.cmpi .sge arg0 c8_i32_5
  let c11_i32 : BitVec 32 := 11#32
  let v14 : BitVec 1 := Scalar.cmpi .slt arg0 c11_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg0 : BitVec 32 := BitVec.ofNat 32 (i 0).val
  let c11_i32_7 : BitVec 32 := 11#32
  let v18 : BitVec 1 := Scalar.cmpi .sge arg0 c11_i32_7
  let c14_i32 : BitVec 32 := 14#32
  let v19 : BitVec 1 := Scalar.cmpi .slt arg0 c14_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg0 : BitVec 32 := BitVec.ofNat 32 (i 0).val
  let c14_i32_9 : BitVec 32 := 14#32
  let v23 : BitVec 1 := Scalar.cmpi .sge arg0 c14_i32_9
  let c19_i32 : BitVec 32 := 19#32
  let v24 : BitVec 1 := Scalar.cmpi .slt arg0 c19_i32
  let v25 : BitVec 1 := Scalar.andi v23 v24
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let c4_i32 : BitVec 32 := 4#32
  let v1 : BitVec 32 := Scalar.maxsi c0_i32 v0
  let v2 : BitVec 32 := Scalar.minsi c4_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c5_i32 : BitVec 32 := 5#32
  let v0 : BitVec 32 := Scalar.subi arg0 c5_i32
  let c5_i32_0 : BitVec 32 := 5#32
  let v1 : BitVec 1 := Scalar.cmpi .sge arg0 c5_i32_0
  let c14_i32 : BitVec 32 := 14#32
  let v2 : BitVec 1 := Scalar.cmpi .slt arg0 c14_i32
  let v3 : BitVec 1 := Scalar.andi v1 v2
  let c3_i32 : BitVec 32 := 3#32
  let c0_i32 : BitVec 32 := 0#32
  let v4 : BitVec 1 := Scalar.cmpi .eq c3_i32 c0_i32
  let c1_i32 : BitVec 32 := 1#32
  let v5 : BitVec 32 := Scalar.select v4 c1_i32 c3_i32
  let v6 : BitVec 32 := Scalar.remsi v0 v5
  let c0_i32_1 : BitVec 32 := 0#32
  let v7 : BitVec 1 := Scalar.cmpi .ne v6 c0_i32_1
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let v11 : BitVec 1 := Scalar.andi v10 v7
  let v12 : BitVec 32 := Scalar.addi v6 v5
  let v13 : BitVec 32 := Scalar.select v11 v12 v6
  let c3_i32_4 : BitVec 32 := 3#32
  let v14 : BitVec 32 := Scalar.muli v13 c3_i32_4
  let c5_i32_5 : BitVec 32 := 5#32
  let v15 : BitVec 32 := Scalar.addi c5_i32_5 v14
  let c3_i32_6 : BitVec 32 := 3#32
  let v16 : BitVec 32 := Scalar.divsi v0 c3_i32_6
  let c0_i32_7 : BitVec 32 := 0#32
  let v17 : BitVec 1 := Scalar.cmpi .sgt v0 c0_i32_7
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c0_i32_9 : BitVec 32 := 0#32
  let v22 : BitVec 1 := Scalar.cmpi .sgt c3_i32_6 c0_i32_9
  let v23 : BitVec 32 := Scalar.extui v22
  let c0_i32_10 : BitVec 32 := 0#32
  let v24 : BitVec 1 := Scalar.cmpi .slt c3_i32_6 c0_i32_10
  let v25 : BitVec 32 := Scalar.extui v24
  let v26 : BitVec 32 := Scalar.subi v23 v25
  let v27 : BitVec 1 := Scalar.cmpi .ne v21 v26
  let v28 : BitVec 32 := Scalar.remsi v0 c3_i32_6
  let c0_i32_11 : BitVec 32 := 0#32
  let v29 : BitVec 1 := Scalar.cmpi .ne v28 c0_i32_11
  let v30 : BitVec 1 := Scalar.andi v27 v29
  let c1_i32_12 : BitVec 32 := 1#32
  let v31 : BitVec 32 := Scalar.subi v16 c1_i32_12
  let v32 : BitVec 32 := Scalar.select v30 v31 v16
  let v33 : BitVec 32 := Scalar.addi v15 v32
  let v34 : BitVec 32 := Scalar.select v3 v33 arg0
  let c0_i32_13 : BitVec 32 := 0#32
  let c0_i32_14 : BitVec 32 := 0#32
  ![v34.toNat, c0_i32_13.toNat]

def cc0_transform_7 (i : grid0.Coords) : Fin 2 → Nat :=
  let arg0 : BitVec 32 := BitVec.ofNat 32 (i 0).val
  let c5_i32 : BitVec 32 := 5#32
  let v0 : BitVec 32 := Scalar.subi arg0 c5_i32
  let c5_i32_0 : BitVec 32 := 5#32
  let v1 : BitVec 1 := Scalar.cmpi .sge arg0 c5_i32_0
  let c14_i32 : BitVec 32 := 14#32
  let v2 : BitVec 1 := Scalar.cmpi .slt arg0 c14_i32
  let v3 : BitVec 1 := Scalar.andi v1 v2
  let c3_i32 : BitVec 32 := 3#32
  let c0_i32 : BitVec 32 := 0#32
  let v4 : BitVec 1 := Scalar.cmpi .eq c3_i32 c0_i32
  let c1_i32 : BitVec 32 := 1#32
  let v5 : BitVec 32 := Scalar.select v4 c1_i32 c3_i32
  let v6 : BitVec 32 := Scalar.remsi v0 v5
  let c0_i32_1 : BitVec 32 := 0#32
  let v7 : BitVec 1 := Scalar.cmpi .ne v6 c0_i32_1
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let v11 : BitVec 1 := Scalar.andi v10 v7
  let v12 : BitVec 32 := Scalar.addi v6 v5
  let v13 : BitVec 32 := Scalar.select v11 v12 v6
  let c3_i32_4 : BitVec 32 := 3#32
  let v14 : BitVec 32 := Scalar.muli v13 c3_i32_4
  let c5_i32_5 : BitVec 32 := 5#32
  let v15 : BitVec 32 := Scalar.addi c5_i32_5 v14
  let c3_i32_6 : BitVec 32 := 3#32
  let v16 : BitVec 32 := Scalar.divsi v0 c3_i32_6
  let c0_i32_7 : BitVec 32 := 0#32
  let v17 : BitVec 1 := Scalar.cmpi .sgt v0 c0_i32_7
  let v18 : BitVec 32 := Scalar.extui v17
  let c0_i32_8 : BitVec 32 := 0#32
  let v19 : BitVec 1 := Scalar.cmpi .slt v0 c0_i32_8
  let v20 : BitVec 32 := Scalar.extui v19
  let v21 : BitVec 32 := Scalar.subi v18 v20
  let c0_i32_9 : BitVec 32 := 0#32
  let v22 : BitVec 1 := Scalar.cmpi .sgt c3_i32_6 c0_i32_9
  let v23 : BitVec 32 := Scalar.extui v22
  let c0_i32_10 : BitVec 32 := 0#32
  let v24 : BitVec 1 := Scalar.cmpi .slt c3_i32_6 c0_i32_10
  let v25 : BitVec 32 := Scalar.extui v24
  let v26 : BitVec 32 := Scalar.subi v23 v25
  let v27 : BitVec 1 := Scalar.cmpi .ne v21 v26
  let v28 : BitVec 32 := Scalar.remsi v0 c3_i32_6
  let c0_i32_11 : BitVec 32 := 0#32
  let v29 : BitVec 1 := Scalar.cmpi .ne v28 c0_i32_11
  let v30 : BitVec 1 := Scalar.andi v27 v29
  let c1_i32_12 : BitVec 32 := 1#32
  let v31 : BitVec 32 := Scalar.subi v16 c1_i32_12
  let v32 : BitVec 32 := Scalar.select v30 v31 v16
  let v33 : BitVec 32 := Scalar.addi v15 v32
  let v34 : BitVec 32 := Scalar.select v3 v33 arg0
  let c0_i32_13 : BitVec 32 := 0#32
  let c0_i32_14 : BitVec 32 := 0#32
  ![c0_i32_13.toNat, v34.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4096x2560 : Shape := ⟨2, ![4096, 2560]⟩
abbrev S4096x1536 : Shape := ⟨2, ![4096, 1536]⟩
abbrev S4096x1024 : Shape := ⟨2, ![4096, 1024]⟩
abbrev S4096x512 : Shape := ⟨2, ![4096, 512]⟩
abbrev S4096x9728 : Shape := ⟨2, ![4096, 9728]⟩
abbrev S_ : Shape := ⟨0, ![]⟩
abbrev S1024x9728 : Shape := ⟨2, ![1024, 9728]⟩
abbrev S1x9728 : Shape := ⟨2, ![1, 9728]⟩
abbrev S9728 : Shape := ⟨1, ![9728]⟩
abbrev S9728x1024 : Shape := ⟨2, ![9728, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x1536, .bf16⟩
  | .hbm, ⟨2, _⟩ => ⟨S4096x1536, .bf16⟩
  | .hbm, ⟨3, _⟩ => ⟨S4096x1536, .bf16⟩
  | .hbm, ⟨4, _⟩ => ⟨S4096x2560, .bf16⟩
  | .hbm, ⟨5, _⟩ => ⟨S4096x1024, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S4096x9728, .bf16⟩
  | .hbm, ⟨16, _⟩ => ⟨S4096x9728, .f32⟩
  | .hbm, ⟨17, _⟩ => ⟨S_, .f32⟩
  | .hbm, ⟨18, _⟩ => ⟨S1024x9728, .f32⟩
  | .hbm, ⟨19, _⟩ => ⟨S_, .f32⟩
  | .hbm, ⟨20, _⟩ => ⟨S1x9728, .f32⟩
  | .hbm, ⟨21, _⟩ => ⟨S4096x1024, .f32⟩
  | .hbm, ⟨22, _⟩ => ⟨S4096x9728, .f32⟩
  | .hbm, ⟨23, _⟩ => ⟨S4096x9728, .f32⟩
  | .hbm, ⟨24, _⟩ => ⟨S4096x9728, .f32⟩
  | .hbm, ⟨25, _⟩ => ⟨S_, .f32⟩
  | .hbm, ⟨26, _⟩ => ⟨S9728, .f32⟩
  | .hbm, ⟨27, _⟩ => ⟨S1x9728, .f32⟩
  | .hbm, ⟨28, _⟩ => ⟨S9728x1024, .f32⟩
  | .hbm, ⟨29, _⟩ => ⟨S1024x9728, .f32⟩
  | .hbm, ⟨30, _⟩ => ⟨S9728x1024, .f32⟩
  | .hbm, ⟨31, _⟩ => ⟨S9728x1024, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S4096x1280 : Shape := ⟨2, ![4096, 1280]⟩
abbrev S4096x1024 : Shape := ⟨2, ![4096, 1024]⟩
abbrev S1280x1024 : Shape := ⟨2, ![1280, 1024]⟩
abbrev S4096x640 : Shape := ⟨2, ![4096, 640]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S1280x1024, .bf16⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .bf16⟩
  | .local _ .vmem, ⟨4, _⟩ => ⟨S640x1024, .bf16⟩
  | .local _ .vmem, ⟨5, _⟩ => ⟨S640x1024, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1280 : Shape := ⟨2, ![4096, 1280]⟩
abbrev S4096x1024 : Shape := ⟨2, ![4096, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 10
  | .vmem => 0
  | .smem => 0
  | _ => 0

abbrev bufTy : (tb : Table) → Fin (tcTables nBuf tb) → BufTy
  | .hbm, ⟨0, _⟩ => ⟨S4096x1280, .bf16⟩
  | .hbm, ⟨1, _⟩ => ⟨S4096x1024, .bf16⟩
  | .hbm, ⟨2, _⟩ => ⟨S_, .f32⟩
  | .hbm, ⟨3, _⟩ => ⟨S1280x1024, .f32⟩
  | .hbm, ⟨4, _⟩ => ⟨S4096x1280, .f32⟩
  | .hbm, ⟨5, _⟩ => ⟨S4096x1024, .f32⟩
  | .hbm, ⟨6, _⟩ => ⟨S4096x1024, .f32⟩
  | .hbm, ⟨7, _⟩ => ⟨S1024x1280, .f32⟩
  | .hbm, ⟨8, _⟩ => ⟨S1280x1024, .f32⟩
  | .hbm, ⟨9, _⟩ => ⟨S1280x1024, .bf16⟩
  | _, _ => ⟨S4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S4096x512 : Shape := ⟨2, ![4096, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S4096x256 : Shape := ⟨2, ![4096, 256]⟩
abbrev S1024x256 : Shape := ⟨2, ![1024, 256]⟩
abbrev S4096x512 : Shape := ⟨2, ![4096, 512]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S1024x256, .bf16⟩
  | .local _ .vmem, ⟨0, _⟩ => ⟨S4096x512, .bf16⟩
  | .local _ .vmem, ⟨1, _⟩ => ⟨S4096x512, .bf16⟩
  | .local _ .vmem, ⟨2, _⟩ => ⟨S4096x256, .f32⟩
  | .local _ .vmem, ⟨3, _⟩ => ⟨S512x256, .bf16⟩
  | .local _ .vmem, ⟨4, _⟩ => ⟨S512x256, .bf16⟩
  | .local _ .vmem, ⟨5, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S4096x256 : Shape := ⟨2, ![4096, 256]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2560 : Shape := ⟨2, ![4096, 2560]⟩
abbrev S4096x1536 : Shape := ⟨2, ![4096, 1536]⟩
abbrev S1x2432x1024 : Shape := ⟨3, ![1, 2432, 1024]⟩
abbrev S2x2432x1024 : Shape := ⟨3, ![2, 2432, 1024]⟩
abbrev S4096x1024 : Shape := ⟨2, ![4096, 1024]⟩
abbrev S1x1024 : Shape := ⟨2, ![1, 1024]⟩
abbrev S_ : Shape := ⟨0, ![]⟩
abbrev S8x128 : Shape := ⟨2, ![8, 128]⟩
abbrev S512x2560 : Shape := ⟨2, ![512, 2560]⟩
abbrev S512x1536 : Shape := ⟨2, ![512, 1536]⟩
abbrev S512x1024 : Shape := ⟨2, ![512, 1024]⟩
abbrev S9728x1024 : Shape := ⟨2, ![9728, 1024]⟩
abbrev S4 : Shape := ⟨1, ![4]⟩
abbrev S1 : Shape := ⟨1, ![1]⟩
abbrev S2432x1024 : Shape := ⟨2, ![2432, 1024]⟩
abbrev S2560x1024 : Shape := ⟨2, ![2560, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 15
  | .vmem => 20
  | .smem => 0
  | _ => 0

abbrev bufTy : (tb : Table) → Fin (tcTables nBuf tb) → BufTy
  | .hbm, ⟨0, _⟩ => ⟨S4096x2560, .bf16⟩
  | .hbm, ⟨1, _⟩ => ⟨S4096x1536, .bf16⟩
  | .hbm, ⟨2, _⟩ => ⟨S4096x1536, .bf16⟩
  | .hbm, ⟨3, _⟩ => ⟨S4096x1536, .bf16⟩
  | .hbm, ⟨4, _⟩ => ⟨S4096x2560, .bf16⟩
  | .hbm, ⟨5, _⟩ => ⟨S1x2432x1024, .bf16⟩
  | .hbm, ⟨6, _⟩ => ⟨S2x2432x1024, .bf16⟩
  | .hbm, ⟨7, _⟩ => ⟨S1x2432x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S_, .f32⟩
  | .hbm, ⟨12, _⟩ => ⟨S8x128, .f32⟩
  | .hbm, ⟨13, _⟩ => ⟨S4096x1024, .f32⟩
  | .hbm, ⟨14, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S512x2560, .bf16⟩
  | .local _ .vmem, ⟨9, _⟩ => ⟨S512x2560, .bf16⟩
  | .local _ .vmem, ⟨10, _⟩ => ⟨S8x128, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S9728x1024, .bf16⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v76 : BitVec 32 := Scalar.extui v0
  let c0_i32_56 : BitVec 32 := 0#32
  let v77 : BitVec 1 := Scalar.cmpi .ne v76 c0_i32_56
  v77

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v78 : BitVec 1 := Scalar.xori v0 v_true
  let v79 : BitVec 32 := Scalar.extui v78
  let c0_i32_57 : BitVec 32 := 0#32
  let v80 : BitVec 1 := Scalar.cmpi .ne v79 c0_i32_57
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x2560 : Shape := ⟨2, ![4096, 2560]⟩
abbrev S4096x1536 : Shape := ⟨2, ![4096, 1536]⟩
abbrev S1x2432x1024 : Shape := ⟨3, ![1, 2432, 1024]⟩
abbrev S2x2432x1024 : Shape := ⟨3, ![2, 2432, 1024]⟩
abbrev S4096x1024 : Shape := ⟨2, ![4096, 1024]⟩
abbrev S1x1024 : Shape := ⟨2, ![1, 1024]⟩
abbrev S4x2432x1024 : Shape := ⟨3, ![4, 2432, 1024]⟩
abbrev S9728x1024 : Shape := ⟨2, ![9728, 1024]⟩
abbrev S4096x512 : Shape := ⟨2, ![4096, 512]⟩
abbrev S4096x9728 : Shape := ⟨2, ![4096, 9728]⟩
abbrev S_ : Shape := ⟨0, ![]⟩
abbrev S4096 : Shape := ⟨1, ![4096]⟩
abbrev S4096x1 : Shape := ⟨2, ![4096, 1]⟩
abbrev S1024x9728 : Shape := ⟨2, ![1024, 9728]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x1536, .bf16⟩
  | .hbm, ⟨2, _⟩ => ⟨S4096x1536, .bf16⟩
  | .hbm, ⟨3, _⟩ => ⟨S4096x1536, .bf16⟩
  | .hbm, ⟨4, _⟩ => ⟨S4096x2560, .bf16⟩
  | .hbm, ⟨5, _⟩ => ⟨S1x2432x1024, .bf16⟩
  | .hbm, ⟨6, _⟩ => ⟨S2x2432x1024, .bf16⟩
  | .hbm, ⟨7, _⟩ => ⟨S1x2432x1024, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4x2432x1024, .bf16⟩
  | .hbm, ⟨12, _⟩ => ⟨S9728x1024, .bf16⟩
  | .hbm, ⟨13, _⟩ => ⟨S9728x1024, .f32⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S4096x512, .bf16⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S4096x512, .bf16⟩
  | .hbm, ⟨22, _⟩ => ⟨S4096x512, .bf16⟩
  | .hbm, ⟨23, _⟩ => ⟨S4096x9728, .bf16⟩
  | .hbm, ⟨24, _⟩ => ⟨S4096x9728, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1024x9728, .f32⟩
  | .hbm, ⟨45, _⟩ => ⟨S4096x9728, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel9.lean ====
abbrev S4096x1024 : Shape := ⟨2, ![4096, 1024]⟩
abbrev S2x2432x1024 : Shape := ⟨3, ![2, 2432, 1024]⟩
abbrev S1x9728 : Shape := ⟨2, ![1, 9728]⟩
abbrev S4096x9728 : Shape := ⟨2, ![4096, 9728]⟩
abbrev S_ : Shape := ⟨0, ![]⟩
abbrev S8x128 : Shape := ⟨2, ![8, 128]⟩
abbrev S1024x1024 : Shape := ⟨2, ![1024, 1024]⟩
abbrev S1x2432x1024 : Shape := ⟨3, ![1, 2432, 1024]⟩
abbrev S1x2432 : Shape := ⟨2, ![1, 2432]⟩
abbrev S1024x2432 : Shape := ⟨2, ![1024, 2432]⟩
abbrev S2432x1024 : Shape := ⟨2, ![2432, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2x2432x1024, .bf16⟩
  | .hbm, ⟨2, _⟩ => ⟨S1x9728, .f32⟩
  | .hbm, ⟨3, _⟩ => ⟨S4096x9728, .bf16⟩
  | .hbm, ⟨4, _⟩ => ⟨S_, .f32⟩
  | .hbm, ⟨5, _⟩ => ⟨S8x128, .f32⟩
  | .hbm, ⟨6, _⟩ => ⟨S4096x9728, .bf16⟩
  | .local _ .vmem, ⟨0, _⟩ => ⟨S1024x1024, .bf16⟩
  | .local _ .vmem, ⟨1, _⟩ => ⟨S1024x1024, .bf16⟩
  | .local _ .vmem, ⟨2, _⟩ => ⟨S1x2432x1024, .bf16⟩
  | .local _ .vmem, ⟨3, _⟩ => ⟨S1x2432x1024, .bf16⟩
  | .local _ .vmem, ⟨4, _⟩ => ⟨S1x2432, .f32⟩
  | .local _ .vmem, ⟨5, _⟩ => ⟨S1x2432, .f32⟩
  | .local _ .vmem, ⟨6, _⟩ => ⟨S8x128, .f32⟩
  | .local _ .vmem, ⟨7, _⟩ => ⟨S1024x2432, .bf16⟩
  | .local _ .vmem, ⟨8, _⟩ => ⟨S1024x2432, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4096x1024 : Shape := ⟨2, ![4096, 1024]⟩
abbrev S2x2432x1024 : Shape := ⟨3, ![2, 2432, 1024]⟩
abbrev S1x9728 : Shape := ⟨2, ![1, 9728]⟩
abbrev S4096x9728 : Shape := ⟨2, ![4096, 9728]⟩
abbrev S1x4864 : Shape := ⟨2, ![1, 4864]⟩
abbrev S4864x1024 : Shape := ⟨2, ![4864, 1024]⟩
abbrev S1024x4864 : Shape := ⟨2, ![1024, 4864]⟩
abbrev S4096x4864 : Shape := ⟨2, ![4096, 4864]⟩
abbrev S4096x2432 : Shape := ⟨2, ![4096, 2432]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x2432x1024, .bf16⟩
  | .hbm, ⟨2, _⟩ => ⟨S1x9728, .f32⟩
  | .hbm, ⟨3, _⟩ => ⟨S4096x9728, .bf16⟩
  | .hbm, ⟨4, _⟩ => ⟨S1x4864, .f32⟩
  | .hbm, ⟨5, _⟩ => ⟨S4864x1024, .bf16⟩
  | .hbm, ⟨6, _⟩ => ⟨S4864x1024, .f32⟩
  | .hbm, ⟨7, _⟩ => ⟨S4096x1024, .f32⟩
  | .hbm, ⟨8, _⟩ => ⟨S1024x4864, .f32⟩
  | .hbm, ⟨9, _⟩ => ⟨S4096x4864, .f32⟩
  | .hbm, ⟨10, _⟩ => ⟨S4096x4864, .f32⟩
  | .hbm, ⟨11, _⟩ => ⟨S4096x4864, .f32⟩
  | .hbm, ⟨12, _⟩ => ⟨S4096x4864, .bf16⟩
  | .hbm, ⟨13, _⟩ => ⟨S4096x2432, .bf16⟩
  | .hbm, ⟨14, _⟩ => ⟨S4096x2432, .bf16⟩
  | .hbm, ⟨15, _⟩ => ⟨S4096x9728, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel10.lean ====
abbrev S4096x1024 : Shape := ⟨2, ![4096, 1024]⟩
abbrev S1x2432x1024 : Shape := ⟨3, ![1, 2432, 1024]⟩
abbrev S1x9728 : Shape := ⟨2, ![1, 9728]⟩
abbrev S4096x9728 : Shape := ⟨2, ![4096, 9728]⟩
abbrev S_ : Shape := ⟨0, ![]⟩
abbrev S8x128 : Shape := ⟨2, ![8, 128]⟩
abbrev S1024x1024 : Shape := ⟨2, ![1024, 1024]⟩
abbrev S1x2432 : Shape := ⟨2, ![1, 2432]⟩
abbrev S1024x2432 : Shape := ⟨2, ![1024, 2432]⟩
abbrev S2432x1024 : Shape := ⟨2, ![2432, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1x2432x1024, .bf16⟩
  | .hbm, ⟨2, _⟩ => ⟨S1x9728, .f32⟩
  | .hbm, ⟨3, _⟩ => ⟨S4096x9728, .bf16⟩
  | .hbm, ⟨4, _⟩ => ⟨S_, .f32⟩
  | .hbm, ⟨5, _⟩ => ⟨S8x128, .f32⟩
  | .hbm, ⟨6, _⟩ => ⟨S4096x9728, .bf16⟩
  | .local _ .vmem, ⟨0, _⟩ => ⟨S1024x1024, .bf16⟩
  | .local _ .vmem, ⟨1, _⟩ => ⟨S1024x1024, .bf16⟩
  | .local _ .vmem, ⟨2, _⟩ => ⟨S1x2432x1024, .bf16⟩
  | .local _ .vmem, ⟨3, _⟩ => ⟨S1x2432, .f32⟩
  | .local _ .vmem, ⟨4, _⟩ => ⟨S8x128, .f32⟩
  | .local _ .vmem, ⟨5, _⟩ => ⟨S1024x2432, .bf16⟩
  | .local _ .vmem, ⟨6, _⟩ => ⟨S1024x2432, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2432x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S4096x1024 : Shape := ⟨2, ![4096, 1024]⟩
abbrev S1x2432x1024 : Shape := ⟨3, ![1, 2432, 1024]⟩
abbrev S1x9728 : Shape := ⟨2, ![1, 9728]⟩
abbrev S4096x9728 : Shape := ⟨2, ![4096, 9728]⟩
abbrev S4096x7296 : Shape := ⟨2, ![4096, 7296]⟩
abbrev S1x2432 : Shape := ⟨2, ![1, 2432]⟩
abbrev S2432x1024 : Shape := ⟨2, ![2432, 1024]⟩
abbrev S1024x2432 : Shape := ⟨2, ![1024, 2432]⟩
abbrev S4096x2432 : Shape := ⟨2, ![4096, 2432]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2432x1024, .bf16⟩
  | .hbm, ⟨2, _⟩ => ⟨S1x9728, .f32⟩
  | .hbm, ⟨3, _⟩ => ⟨S4096x9728, .bf16⟩
  | .hbm, ⟨4, _⟩ => ⟨S4096x7296, .bf16⟩
  | .hbm, ⟨5, _⟩ => ⟨S1x2432, .f32⟩
  | .hbm, ⟨6, _⟩ => ⟨S2432x1024, .bf16⟩
  | .hbm, ⟨7, _⟩ => ⟨S2432x1024, .f32⟩
  | .hbm, ⟨8, _⟩ => ⟨S4096x1024, .f32⟩
  | .hbm, ⟨9, _⟩ => ⟨S1024x2432, .f32⟩
  | .hbm, ⟨10, _⟩ => ⟨S4096x2432, .f32⟩
  | .hbm, ⟨11, _⟩ => ⟨S4096x2432, .f32⟩
  | .hbm, ⟨12, _⟩ => ⟨S4096x2432, .f32⟩
  | .hbm, ⟨13, _⟩ => ⟨S4096x2432, .bf16⟩
  | .hbm, ⟨14, _⟩ => ⟨S4096x9728, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel11.lean ====
abbrev S4096x1024 : Shape := ⟨2, ![4096, 1024]⟩
abbrev S1x2432x1024 : Shape := ⟨3, ![1, 2432, 1024]⟩
abbrev S1x9728 : Shape := ⟨2, ![1, 9728]⟩
abbrev S4096x9728 : Shape := ⟨2, ![4096, 9728]⟩
abbrev S_ : Shape := ⟨0, ![]⟩
abbrev S8x128 : Shape := ⟨2, ![8, 128]⟩
abbrev S1024x1024 : Shape := ⟨2, ![1024, 1024]⟩
abbrev S1x2432 : Shape := ⟨2, ![1, 2432]⟩
abbrev S1024x2432 : Shape := ⟨2, ![1024, 2432]⟩
abbrev S2432x1024 : Shape := ⟨2, ![2432, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1x2432x1024, .bf16⟩
  | .hbm, ⟨2, _⟩ => ⟨S1x9728, .f32⟩
  | .hbm, ⟨3, _⟩ => ⟨S4096x9728, .bf16⟩
  | .hbm, ⟨4, _⟩ => ⟨S_, .f32⟩
  | .hbm, ⟨5, _⟩ => ⟨S8x128, .f32⟩
  | .hbm, ⟨6, _⟩ => ⟨S4096x9728, .bf16⟩
  | .local _ .vmem, ⟨0, _⟩ => ⟨S1024x1024, .bf16⟩
  | .local _ .vmem, ⟨1, _⟩ => ⟨S1024x1024, .bf16⟩
  | .local _ .vmem, ⟨2, _⟩ => ⟨S1x2432x1024, .bf16⟩
  | .local _ .vmem, ⟨3, _⟩ => ⟨S1x2432, .f32⟩
  | .local _ .vmem, ⟨4, _⟩ => ⟨S8x128, .f32⟩
  | .local _ .vmem, ⟨5, _⟩ => ⟨S1024x2432, .bf16⟩
  | .local _ .vmem, ⟨6, _⟩ => ⟨S1024x2432, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2432x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4096x1024 : Shape := ⟨2, ![4096, 1024]⟩
abbrev S1x2432x1024 : Shape := ⟨3, ![1, 2432, 1024]⟩
abbrev S1x9728 : Shape := ⟨2, ![1, 9728]⟩
abbrev S4096x9728 : Shape := ⟨2, ![4096, 9728]⟩
abbrev S1x2432 : Shape := ⟨2, ![1, 2432]⟩
abbrev S2432x1024 : Shape := ⟨2, ![2432, 1024]⟩
abbrev S1024x2432 : Shape := ⟨2, ![1024, 2432]⟩
abbrev S4096x2432 : Shape := ⟨2, ![4096, 2432]⟩
abbrev S4096x7296 : Shape := ⟨2, ![4096, 7296]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1x2432x1024, .bf16⟩
  | .hbm, ⟨2, _⟩ => ⟨S1x9728, .f32⟩
  | .hbm, ⟨3, _⟩ => ⟨S4096x9728, .bf16⟩
  | .hbm, ⟨4, _⟩ => ⟨S1x2432, .f32⟩
  | .hbm, ⟨5, _⟩ => ⟨S2432x1024, .bf16⟩
  | .hbm, ⟨6, _⟩ => ⟨S2432x1024, .f32⟩
  | .hbm, ⟨7, _⟩ => ⟨S4096x1024, .f32⟩
  | .hbm, ⟨8, _⟩ => ⟨S1024x2432, .f32⟩
  | .hbm, ⟨9, _⟩ => ⟨S4096x2432, .f32⟩
  | .hbm, ⟨10, _⟩ => ⟨S4096x2432, .f32⟩
  | .hbm, ⟨11, _⟩ => ⟨S4096x2432, .f32⟩
  | .hbm, ⟨12, _⟩ => ⟨S4096x2432, .bf16⟩
  | .hbm, ⟨13, _⟩ => ⟨S4096x7296, .bf16⟩
  | .hbm, ⟨14, _⟩ => ⟨S4096x9728, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S_ : Shape := ⟨0, ![]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S_, .f32⟩
  | .hbm, ⟨3, _⟩ => ⟨S8x128, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x128, .f32⟩
  | .local _ .vmem, ⟨4, _⟩ => ⟨S512x1024, .bf16⟩
  | .local _ .vmem, ⟨5, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel13.lean ====
abbrev S4x1216x1024 : Shape := ⟨3, ![4, 1216, 1024]⟩
abbrev S1216x1024 : Shape := ⟨2, ![1216, 1024]⟩
abbrev S_ : Shape := ⟨0, ![]⟩
abbrev S8x128 : Shape := ⟨2, ![8, 128]⟩
abbrev S1x304x1024 : Shape := ⟨3, ![1, 304, 1024]⟩
abbrev S304x1024 : Shape := ⟨2, ![304, 1024]⟩

abbrev nBuf : Space → Nat
  | .hbm => 11
  | .vmem => 25
  | .smem => 0
  | _ => 0

abbrev bufTy : (tb : Table) → Fin (tcTables nBuf tb) → BufTy
  | .hbm, ⟨0, _⟩ => ⟨S4x1216x1024, .bf16⟩
  | .hbm, ⟨1, _⟩ => ⟨S4x1216x1024, .bf16⟩
  | .hbm, ⟨2, _⟩ => ⟨S1216x1024, .f32⟩
  | .hbm, ⟨3, _⟩ => ⟨S1216x1024, .f32⟩
  | .hbm, ⟨4, _⟩ => ⟨S1216x1024, .f32⟩
  | .hbm, ⟨5, _⟩ => ⟨S_, .f32⟩
  | .hbm, ⟨6, _⟩ => ⟨S8x128, .f32⟩
  | .hbm, ⟨7, _⟩ => ⟨S1216x1024, .f32⟩
  | .hbm, ⟨8, _⟩ => ⟨S1216x1024, .f32⟩
  | .hbm, ⟨9, _⟩ => ⟨S1216x1024, .f32⟩
  | .hbm, ⟨10, _⟩ => ⟨S1216x1024, .f32⟩
  | .local _ .vmem, ⟨0, _⟩ => ⟨S1x304x1024, .bf16⟩
  | .local _ .vmem, ⟨1, _⟩ => ⟨S1x304x1024, .bf16⟩
  | .local _ .vmem, ⟨2, _⟩ => ⟨S1x304x1024, .bf16⟩
  | .local _ .vmem, ⟨3, _⟩ => ⟨S1x304x1024, .bf16⟩
  | .local _ .vmem, ⟨4, _⟩ => ⟨S1x304x1024, .bf16⟩
  | .local _ .vmem, ⟨5, _⟩ => ⟨S1x304x1024, .bf16⟩
  | .local _ .vmem, ⟨6, _⟩ => ⟨S1x304x1024, .bf16⟩
  | .local _ .vmem, ⟨7, _⟩ => ⟨S1x304x1024, .bf16⟩
  | .local _ .vmem, ⟨8, _⟩ => ⟨S1x304x1024, .bf16⟩
  | .local _ .vmem, ⟨9, _⟩ => ⟨S1x304x1024, .bf16⟩
  | .local _ .vmem, ⟨10, _⟩ => ⟨S304x1024, .f32⟩
  | .local _ .vmem, ⟨11, _⟩ => ⟨S304x1024, .f32⟩
  | .local _ .vmem, ⟨12, _⟩ => ⟨S304x1024, .f32⟩
  | .local _ .vmem, ⟨13, _⟩ => ⟨S304x1024, .f32⟩
  | .local _ .vmem, ⟨14, _⟩ => ⟨S304x1024, .f32⟩
  | .local _ .vmem, ⟨15, _⟩ => ⟨S304x1024, .f32⟩
  | .local _ .vmem, ⟨16, _⟩ => ⟨S8x128, .f32⟩
  | .local _ .vmem, ⟨17, _⟩ => ⟨S304x1024, .f32⟩
  | .local _ .vmem, ⟨18, _⟩ => ⟨S304x1024, .f32⟩
  | .local _ .vmem, ⟨19, _⟩ => ⟨S304x1024, .f32⟩
  | .local _ .vmem, ⟨20, _⟩ => ⟨S304x1024, .f32⟩
  | .local _ .vmem, ⟨21, _⟩ => ⟨S304x1024, .f32⟩
  | .local _ .vmem, ⟨22, _⟩ => ⟨S304x1024, .f32⟩
  | .local _ .vmem, ⟨23, _⟩ => ⟨S304x1024, .f32⟩
  | .local _ .vmem, ⟨24, _⟩ => ⟨S304x1024, .f32⟩
  | _, _ => ⟨S4x1216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x304x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x304x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S304x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S304x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S304x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S304x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S304x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S304x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S304x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference13Ideal.lean ====
abbrev S4x1216x1024 : Shape := ⟨3, ![4, 1216, 1024]⟩
abbrev S1216x1024 : Shape := ⟨2, ![1216, 1024]⟩
abbrev S1x1216x1024 : Shape := ⟨3, ![1, 1216, 1024]⟩
abbrev S3x1216x1024 : Shape := ⟨3, ![3, 1216, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x1216x1024, .bf16⟩
  | .hbm, ⟨1, _⟩ => ⟨S4x1216x1024, .bf16⟩
  | .hbm, ⟨2, _⟩ => ⟨S1216x1024, .f32⟩
  | .hbm, ⟨3, _⟩ => ⟨S1216x1024, .f32⟩
  | .hbm, ⟨4, _⟩ => ⟨S1216x1024, .f32⟩
  | .hbm, ⟨5, _⟩ => ⟨S1x1216x1024, .bf16⟩
  | .hbm, ⟨6, _⟩ => ⟨S3x1216x1024, .bf16⟩
  | .hbm, ⟨7, _⟩ => ⟨S4x1216x1024, .bf16⟩
  | .hbm, ⟨8, _⟩ => ⟨S4x1216x1024, .f32⟩
  | .hbm, ⟨9, _⟩ => ⟨S_, .f32⟩
  | .hbm, ⟨10, _⟩ => ⟨S1216x1024, .f32⟩
  | .hbm, ⟨11, _⟩ => ⟨S_, .f32⟩
  | .hbm, ⟨12, _⟩ => ⟨S1216x1024, .f32⟩
  | .hbm, ⟨13, _⟩ => ⟨S1216x1024, .f32⟩
  | .hbm, ⟨14, _⟩ => ⟨S_, .f32⟩
  | .hbm, ⟨15, _⟩ => ⟨S1216x1024, .f32⟩
  | .hbm, ⟨16, _⟩ => ⟨S1216x1024, .f32⟩
  | .hbm, ⟨17, _⟩ => ⟨S1216x1024, .f32⟩
  | .hbm, ⟨18, _⟩ => ⟨S_, .f32⟩
  | .hbm, ⟨19, _⟩ => ⟨S1216x1024, .f32⟩
  | .hbm, ⟨20, _⟩ => ⟨S1216x1024, .f32⟩
  | .hbm, ⟨21, _⟩ => ⟨S1216x1024, .f32⟩
  | .hbm, ⟨22, _⟩ => ⟨S_, .f32⟩
  | .hbm, ⟨23, _⟩ => ⟨S1216x1024, .f32⟩
  | .hbm, ⟨24, _⟩ => ⟨S1216x1024, .f32⟩
  | .hbm, ⟨25, _⟩ => ⟨S1216x1024, .f32⟩
  | .hbm, ⟨26, _⟩ => ⟨S_, .f32⟩
  | .hbm, ⟨27, _⟩ => ⟨S1216x1024, .f32⟩
  | .hbm, ⟨28, _⟩ => ⟨S1216x1024, .f32⟩
  | .hbm, ⟨29, _⟩ => ⟨S_, .f32⟩
  | .hbm, ⟨30, _⟩ => ⟨S1216x1024, .f32⟩
  | .hbm, ⟨31, _⟩ => ⟨S1216x1024, .f32⟩
  | .hbm, ⟨32, _⟩ => ⟨S1216x1024, .f32⟩
  | .hbm, ⟨33, _⟩ => ⟨S_, .f32⟩
  | .hbm, ⟨34, _⟩ => ⟨S1216x1024, .f32⟩
  | .hbm, ⟨35, _⟩ => ⟨S1216x1024, .f32⟩
  | .hbm, ⟨36, _⟩ => ⟨S1216x1024, .f32⟩
  | .hbm, ⟨37, _⟩ => ⟨S_, .f32⟩
  | .hbm, ⟨38, _⟩ => ⟨S1216x1024, .f32⟩
  | .hbm, ⟨39, _⟩ => ⟨S1216x1024, .f32⟩
  | .hbm, ⟨40, _⟩ => ⟨S1216x1024, .f32⟩
  | .hbm, ⟨41, _⟩ => ⟨S_, .f32⟩
  | .hbm, ⟨42, _⟩ => ⟨S1216x1024, .f32⟩
  | .hbm, ⟨43, _⟩ => ⟨S1216x1024, .f32⟩
  | _, _ => ⟨S4x1216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel14.lean ====
abbrev S160x1024 : Shape := ⟨2, ![160, 1024]⟩
abbrev S512x128 : Shape := ⟨2, ![512, 128]⟩
abbrev S128x1024 : Shape := ⟨2, ![128, 1024]⟩
abbrev S_ : Shape := ⟨0, ![]⟩
abbrev S8x128 : Shape := ⟨2, ![8, 128]⟩

abbrev nBuf : Space → Nat
  | .hbm => 23
  | .vmem => 22
  | .smem => 0
  | _ => 0

abbrev bufTy : (tb : Table) → Fin (tcTables nBuf tb) → BufTy
  | .hbm, ⟨0, _⟩ => ⟨S160x1024, .f32⟩
  | .hbm, ⟨1, _⟩ => ⟨S512x128, .f32⟩
  | .hbm, ⟨2, _⟩ => ⟨S128x1024, .f32⟩
  | .hbm, ⟨3, _⟩ => ⟨S160x1024, .f32⟩
  | .hbm, ⟨4, _⟩ => ⟨S512x128, .f32⟩
  | .hbm, ⟨5, _⟩ => ⟨S128x1024, .f32⟩
  | .hbm, ⟨6, _⟩ => ⟨S160x1024, .f32⟩
  | .hbm, ⟨7, _⟩ => ⟨S512x128, .f32⟩
  | .hbm, ⟨8, _⟩ => ⟨S128x1024, .f32⟩
  | .hbm, ⟨9, _⟩ => ⟨S160x1024, .f32⟩
  | .hbm, ⟨10, _⟩ => ⟨S512x128, .f32⟩
  | .hbm, ⟨11, _⟩ => ⟨S128x1024, .f32⟩
  | .hbm, ⟨12, _⟩ => ⟨S_, .f32⟩
  | .hbm, ⟨13, _⟩ => ⟨S8x128, .f32⟩
  | .hbm, ⟨14, _⟩ => ⟨S160x1024, .f32⟩
  | .hbm, ⟨15, _⟩ => ⟨S512x128, .f32⟩
  | .hbm, ⟨16, _⟩ => ⟨S128x1024, .f32⟩
  | .hbm, ⟨17, _⟩ => ⟨S160x1024, .f32⟩
  | .hbm, ⟨18, _⟩ => ⟨S512x128, .f32⟩
  | .hbm, ⟨19, _⟩ => ⟨S128x1024, .f32⟩
  | .hbm, ⟨20, _⟩ => ⟨S160x1024, .f32⟩
  | .hbm, ⟨21, _⟩ => ⟨S512x128, .f32⟩
  | .hbm, ⟨22, _⟩ => ⟨S128x1024, .f32⟩
  | .local _ .vmem, ⟨0, _⟩ => ⟨S160x1024, .f32⟩
  | .local _ .vmem, ⟨1, _⟩ => ⟨S512x128, .f32⟩
  | .local _ .vmem, ⟨2, _⟩ => ⟨S128x1024, .f32⟩
  | .local _ .vmem, ⟨3, _⟩ => ⟨S160x1024, .f32⟩
  | .local _ .vmem, ⟨4, _⟩ => ⟨S512x128, .f32⟩
  | .local _ .vmem, ⟨5, _⟩ => ⟨S128x1024, .f32⟩
  | .local _ .vmem, ⟨6, _⟩ => ⟨S160x1024, .f32⟩
  | .local _ .vmem, ⟨7, _⟩ => ⟨S512x128, .f32⟩
  | .local _ .vmem, ⟨8, _⟩ => ⟨S128x1024, .f32⟩
  | .local _ .vmem, ⟨9, _⟩ => ⟨S160x1024, .f32⟩
  | .local _ .vmem, ⟨10, _⟩ => ⟨S512x128, .f32⟩
  | .local _ .vmem, ⟨11, _⟩ => ⟨S128x1024, .f32⟩
  | .local _ .vmem, ⟨12, _⟩ => ⟨S8x128, .f32⟩
  | .local _ .vmem, ⟨13, _⟩ => ⟨S160x1024, .f32⟩
  | .local _ .vmem, ⟨14, _⟩ => ⟨S512x128, .f32⟩
  | .local _ .vmem, ⟨15, _⟩ => ⟨S128x1024, .f32⟩
  | .local _ .vmem, ⟨16, _⟩ => ⟨S160x1024, .f32⟩
  | .local _ .vmem, ⟨17, _⟩ => ⟨S512x128, .f32⟩
  | .local _ .vmem, ⟨18, _⟩ => ⟨S128x1024, .f32⟩
  | .local _ .vmem, ⟨19, _⟩ => ⟨S160x1024, .f32⟩
  | .local _ .vmem, ⟨20, _⟩ => ⟨S512x128, .f32⟩
  | .local _ .vmem, ⟨21, _⟩ => ⟨S128x1024, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev main_v1_5 : Ref sig .tc := ⟨.hbm, 19, rfl⟩
abbrev main_v1_6 : Ref sig .tc := ⟨.hbm, 20, rfl⟩
abbrev main_v1_7 : Ref sig .tc := ⟨.hbm, 21, rfl⟩
abbrev main_v1_8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S160x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S160x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S160x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Kernel14Ideal.lean ====
abbrev S160x1024 : Shape := ⟨2, ![160, 1024]⟩
abbrev S512x128 : Shape := ⟨2, ![512, 128]⟩
abbrev S128x1024 : Shape := ⟨2, ![128, 1024]⟩
abbrev S_ : Shape := ⟨0, ![]⟩
abbrev S8x128 : Shape := ⟨2, ![8, 128]⟩

abbrev nBuf : Space → Nat
  | .hbm => 23
  | .vmem => 22
  | .smem => 0
  | _ => 0

abbrev bufTy : (tb : Table) → Fin (tcTables nBuf tb) → BufTy
  | .hbm, ⟨0, _⟩ => ⟨S160x1024, .f32⟩
  | .hbm, ⟨1, _⟩ => ⟨S512x128, .f32⟩
  | .hbm, ⟨2, _⟩ => ⟨S128x1024, .f32⟩
  | .hbm, ⟨3, _⟩ => ⟨S160x1024, .f32⟩
  | .hbm, ⟨4, _⟩ => ⟨S512x128, .f32⟩
  | .hbm, ⟨5, _⟩ => ⟨S128x1024, .f32⟩
  | .hbm, ⟨6, _⟩ => ⟨S160x1024, .f32⟩
  | .hbm, ⟨7, _⟩ => ⟨S512x128, .f32⟩
  | .hbm, ⟨8, _⟩ => ⟨S128x1024, .f32⟩
  | .hbm, ⟨9, _⟩ => ⟨S160x1024, .f32⟩
  | .hbm, ⟨10, _⟩ => ⟨S512x128, .f32⟩
  | .hbm, ⟨11, _⟩ => ⟨S128x1024, .f32⟩
  | .hbm, ⟨12, _⟩ => ⟨S_, .f32⟩
  | .hbm, ⟨13, _⟩ => ⟨S8x128, .f32⟩
  | .hbm, ⟨14, _⟩ => ⟨S160x1024, .f32⟩
  | .hbm, ⟨15, _⟩ => ⟨S512x128, .f32⟩
  | .hbm, ⟨16, _⟩ => ⟨S128x1024, .f32⟩
  | .hbm, ⟨17, _⟩ => ⟨S160x1024, .f32⟩
  | .hbm, ⟨18, _⟩ => ⟨S512x128, .f32⟩
  | .hbm, ⟨19, _⟩ => ⟨S128x1024, .f32⟩
  | .hbm, ⟨20, _⟩ => ⟨S160x1024, .f32⟩
  | .hbm, ⟨21, _⟩ => ⟨S512x128, .f32⟩
  | .hbm, ⟨22, _⟩ => ⟨S128x1024, .f32⟩
  | .local _ .vmem, ⟨0, _⟩ => ⟨S160x1024, .f32⟩
  | .local _ .vmem, ⟨1, _⟩ => ⟨S512x128, .f32⟩
  | .local _ .vmem, ⟨2, _⟩ => ⟨S128x1024, .f32⟩
  | .local _ .vmem, ⟨3, _⟩ => ⟨S160x1024, .f32⟩
  | .local _ .vmem, ⟨4, _⟩ => ⟨S512x128, .f32⟩
  | .local _ .vmem, ⟨5, _⟩ => ⟨S128x1024, .f32⟩
  | .local _ .vmem, ⟨6, _⟩ => ⟨S160x1024, .f32⟩
  | .local _ .vmem, ⟨7, _⟩ => ⟨S512x128, .f32⟩
  | .local _ .vmem, ⟨8, _⟩ => ⟨S128x1024, .f32⟩
  | .local _ .vmem, ⟨9, _⟩ => ⟨S160x1024, .f32⟩
  | .local _ .vmem, ⟨10, _⟩ => ⟨S512x128, .f32⟩
  | .local _ .vmem, ⟨11, _⟩ => ⟨S128x1024, .f32⟩
  | .local _ .vmem, ⟨12, _⟩ => ⟨S8x128, .f32⟩
  | .local _ .vmem, ⟨13, _⟩ => ⟨S160x1024, .f32⟩
  | .local _ .vmem, ⟨14, _⟩ => ⟨S512x128, .f32⟩
  | .local _ .vmem, ⟨15, _⟩ => ⟨S128x1024, .f32⟩
  | .local _ .vmem, ⟨16, _⟩ => ⟨S160x1024, .f32⟩
  | .local _ .vmem, ⟨17, _⟩ => ⟨S512x128, .f32⟩
  | .local _ .vmem, ⟨18, _⟩ => ⟨S128x1024, .f32⟩
  | .local _ .vmem, ⟨19, _⟩ => ⟨S160x1024, .f32⟩
  | .local _ .vmem, ⟨20, _⟩ => ⟨S512x128, .f32⟩
  | .local _ .vmem, ⟨21, _⟩ => ⟨S128x1024, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev main_v1_5 : Ref sig .tc := ⟨.hbm, 19, rfl⟩
abbrev main_v1_6 : Ref sig .tc := ⟨.hbm, 20, rfl⟩
abbrev main_v1_7 : Ref sig .tc := ⟨.hbm, 21, rfl⟩
abbrev main_v1_8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S160x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S160x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S160x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Reference14Ideal.lean ====
abbrev S160x1024 : Shape := ⟨2, ![160, 1024]⟩
abbrev S512x128 : Shape := ⟨2, ![512, 128]⟩
abbrev S128x1024 : Shape := ⟨2, ![128, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S160x1024, .f32⟩
  | .hbm, ⟨1, _⟩ => ⟨S512x128, .f32⟩
  | .hbm, ⟨2, _⟩ => ⟨S128x1024, .f32⟩
  | .hbm, ⟨3, _⟩ => ⟨S160x1024, .f32⟩
  | .hbm, ⟨4, _⟩ => ⟨S512x128, .f32⟩
  | .hbm, ⟨5, _⟩ => ⟨S128x1024, .f32⟩
  | .hbm, ⟨6, _⟩ => ⟨S160x1024, .f32⟩
  | .hbm, ⟨7, _⟩ => ⟨S512x128, .f32⟩
  | .hbm, ⟨8, _⟩ => ⟨S128x1024, .f32⟩
  | .hbm, ⟨9, _⟩ => ⟨S160x1024, .f32⟩
  | .hbm, ⟨10, _⟩ => ⟨S512x128, .f32⟩
  | .hbm, ⟨11, _⟩ => ⟨S128x1024, .f32⟩
  | .hbm, ⟨12, _⟩ => ⟨S_, .f32⟩
  | .hbm, ⟨13, _⟩ => ⟨S160x1024, .f32⟩
  | .hbm, ⟨14, _⟩ => ⟨S160x1024, .f32⟩
  | .hbm, ⟨15, _⟩ => ⟨S_, .f32⟩
  | .hbm, ⟨16, _⟩ => ⟨S160x1024, .f32⟩
  | .hbm, ⟨17, _⟩ => ⟨S160x1024, .f32⟩
  | .hbm, ⟨18, _⟩ => ⟨S160x1024, .f32⟩
  | .hbm, ⟨19, _⟩ => ⟨S_, .f32⟩
  | .hbm, ⟨20, _⟩ => ⟨S160x1024, .f32⟩
  | .hbm, ⟨21, _⟩ => ⟨S160x1024, .f32⟩
  | .hbm, ⟨22, _⟩ => ⟨S160x1024, .f32⟩
  | .hbm, ⟨23, _⟩ => ⟨S_, .f32⟩
  | .hbm, ⟨24, _⟩ => ⟨S160x1024, .f32⟩
  | .hbm, ⟨25, _⟩ => ⟨S160x1024, .f32⟩
  | .hbm, ⟨26, _⟩ => ⟨S160x1024, .f32⟩
  | .hbm, ⟨27, _⟩ => ⟨S_, .f32⟩
  | .hbm, ⟨28, _⟩ => ⟨S160x1024, .f32⟩
  | .hbm, ⟨29, _⟩ => ⟨S160x1024, .f32⟩
  | .hbm, ⟨30, _⟩ => ⟨S_, .f32⟩
  | .hbm, ⟨31, _⟩ => ⟨S160x1024, .f32⟩
  | .hbm, ⟨32, _⟩ => ⟨S160x1024, .f32⟩
  | .hbm, ⟨33, _⟩ => ⟨S160x1024, .f32⟩
  | .hbm, ⟨34, _⟩ => ⟨S_, .f32⟩
  | .hbm, ⟨35, _⟩ => ⟨S160x1024, .f32⟩
  | .hbm, ⟨36, _⟩ => ⟨S160x1024, .f32⟩
  | .hbm, ⟨37, _⟩ => ⟨S160x1024, .f32⟩
  | .hbm, ⟨38, _⟩ => ⟨S_, .f32⟩
  | .hbm, ⟨39, _⟩ => ⟨S160x1024, .f32⟩
  | .hbm, ⟨40, _⟩ => ⟨S160x1024, .f32⟩
  | .hbm, ⟨41, _⟩ => ⟨S160x1024, .f32⟩
  | .hbm, ⟨42, _⟩ => ⟨S_, .f32⟩
  | .hbm, ⟨43, _⟩ => ⟨S160x1024, .f32⟩
  | .hbm, ⟨44, _⟩ => ⟨S160x1024, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S_, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S_, .f32⟩
  | .hbm, ⟨53, _⟩ => ⟨S512x128, .f32⟩
  | .hbm, ⟨54, _⟩ => ⟨S512x128, .f32⟩
  | .hbm, ⟨55, _⟩ => ⟨S512x128, .f32⟩
  | .hbm, ⟨56, _⟩ => ⟨S_, .f32⟩
  | .hbm, ⟨57, _⟩ => ⟨S512x128, .f32⟩
  | .hbm, ⟨58, _⟩ => ⟨S512x128, .f32⟩
  | .hbm, ⟨59, _⟩ => ⟨S512x128, .f32⟩
  | .hbm, ⟨60, _⟩ => ⟨S_, .f32⟩
  | .hbm, ⟨61, _⟩ => ⟨S512x128, .f32⟩
  | .hbm, ⟨62, _⟩ => ⟨S512x128, .f32⟩
  | .hbm, ⟨63, _⟩ => ⟨S_, .f32⟩
  | .hbm, ⟨64, _⟩ => ⟨S512x128, .f32⟩
  | .hbm, ⟨65, _⟩ => ⟨S512x128, .f32⟩
  | .hbm, ⟨66, _⟩ => ⟨S512x128, .f32⟩
  | .hbm, ⟨67, _⟩ => ⟨S_, .f32⟩
  | .hbm, ⟨68, _⟩ => ⟨S512x128, .f32⟩
  | .hbm, ⟨69, _⟩ => ⟨S512x128, .f32⟩
  | .hbm, ⟨70, _⟩ => ⟨S512x128, .f32⟩
  | .hbm, ⟨71, _⟩ => ⟨S_, .f32⟩
  | .hbm, ⟨72, _⟩ => ⟨S512x128, .f32⟩
  | .hbm, ⟨73, _⟩ => ⟨S512x128, .f32⟩
  | .hbm, ⟨74, _⟩ => ⟨S512x128, .f32⟩
  | .hbm, ⟨75, _⟩ => ⟨S_, .f32⟩
  | .hbm, ⟨76, _⟩ => ⟨S512x128, .f32⟩
  | .hbm, ⟨77, _⟩ => ⟨S512x128, .f32⟩
  | .hbm, ⟨78, _⟩ => ⟨S_, .f32⟩
  | .hbm, ⟨79, _⟩ => ⟨S128x1024, .f32⟩
  | .hbm, ⟨80, _⟩ => ⟨S128x1024, .f32⟩
  | .hbm, ⟨81, _⟩ => ⟨S_, .f32⟩
  | .hbm, ⟨82, _⟩ => ⟨S128x1024, .f32⟩
  | .hbm, ⟨83, _⟩ => ⟨S128x1024, .f32⟩
  | .hbm, ⟨84, _⟩ => ⟨S128x1024, .f32⟩
  | .hbm, ⟨85, _⟩ => ⟨S_, .f32⟩
  | .hbm, ⟨86, _⟩ => ⟨S128x1024, .f32⟩
  | .hbm, ⟨87, _⟩ => ⟨S128x1024, .f32⟩
  | .hbm, ⟨88, _⟩ => ⟨S128x1024, .f32⟩
  | .hbm, ⟨89, _⟩ => ⟨S_, .f32⟩
  | .hbm, ⟨90, _⟩ => ⟨S128x1024, .f32⟩
  | .hbm, ⟨91, _⟩ => ⟨S128x1024, .f32⟩
  | .hbm, ⟨92, _⟩ => ⟨S128x1024, .f32⟩
  | .hbm, ⟨93, _⟩ => ⟨S_, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128x1024, .f32⟩
  | .hbm, ⟨98, _⟩ => ⟨S128x1024, .f32⟩
  | .hbm, ⟨99, _⟩ => ⟨S128x1024, .f32⟩
  | .hbm, ⟨100, _⟩ => ⟨S_, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S_, .f32⟩
  | .hbm, ⟨109, _⟩ => ⟨S128x1024, .f32⟩
  | .hbm, ⟨110, _⟩ => ⟨S128x1024, .f32⟩
  | _, _ => ⟨S160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel15.lean ====
abbrev S128x1024 : Shape := ⟨2, ![128, 1024]⟩
abbrev S256x128 : Shape := ⟨2, ![256, 128]⟩
abbrev S4x160 : Shape := ⟨2, ![4, 160]⟩
abbrev S_ : Shape := ⟨0, ![]⟩
abbrev S8x128 : Shape := ⟨2, ![8, 128]⟩

abbrev nBuf : Space → Nat
  | .hbm => 23
  | .vmem => 22
  | .smem => 0
  | _ => 0

abbrev bufTy : (tb : Table) → Fin (tcTables nBuf tb) → BufTy
  | .hbm, ⟨0, _⟩ => ⟨S128x1024, .f32⟩
  | .hbm, ⟨1, _⟩ => ⟨S256x128, .f32⟩
  | .hbm, ⟨2, _⟩ => ⟨S4x160, .f32⟩
  | .hbm, ⟨3, _⟩ => ⟨S128x1024, .f32⟩
  | .hbm, ⟨4, _⟩ => ⟨S256x128, .f32⟩
  | .hbm, ⟨5, _⟩ => ⟨S4x160, .f32⟩
  | .hbm, ⟨6, _⟩ => ⟨S128x1024, .f32⟩
  | .hbm, ⟨7, _⟩ => ⟨S256x128, .f32⟩
  | .hbm, ⟨8, _⟩ => ⟨S4x160, .f32⟩
  | .hbm, ⟨9, _⟩ => ⟨S128x1024, .f32⟩
  | .hbm, ⟨10, _⟩ => ⟨S256x128, .f32⟩
  | .hbm, ⟨11, _⟩ => ⟨S4x160, .f32⟩
  | .hbm, ⟨12, _⟩ => ⟨S_, .f32⟩
  | .hbm, ⟨13, _⟩ => ⟨S8x128, .f32⟩
  | .hbm, ⟨14, _⟩ => ⟨S128x1024, .f32⟩
  | .hbm, ⟨15, _⟩ => ⟨S256x128, .f32⟩
  | .hbm, ⟨16, _⟩ => ⟨S4x160, .f32⟩
  | .hbm, ⟨17, _⟩ => ⟨S128x1024, .f32⟩
  | .hbm, ⟨18, _⟩ => ⟨S256x128, .f32⟩
  | .hbm, ⟨19, _⟩ => ⟨S4x160, .f32⟩
  | .hbm, ⟨20, _⟩ => ⟨S128x1024, .f32⟩
  | .hbm, ⟨21, _⟩ => ⟨S256x128, .f32⟩
  | .hbm, ⟨22, _⟩ => ⟨S4x160, .f32⟩
  | .local _ .vmem, ⟨0, _⟩ => ⟨S128x1024, .f32⟩
  | .local _ .vmem, ⟨1, _⟩ => ⟨S256x128, .f32⟩
  | .local _ .vmem, ⟨2, _⟩ => ⟨S4x160, .f32⟩
  | .local _ .vmem, ⟨3, _⟩ => ⟨S128x1024, .f32⟩
  | .local _ .vmem, ⟨4, _⟩ => ⟨S256x128, .f32⟩
  | .local _ .vmem, ⟨5, _⟩ => ⟨S4x160, .f32⟩
  | .local _ .vmem, ⟨6, _⟩ => ⟨S128x1024, .f32⟩
  | .local _ .vmem, ⟨7, _⟩ => ⟨S256x128, .f32⟩
  | .local _ .vmem, ⟨8, _⟩ => ⟨S4x160, .f32⟩
  | .local _ .vmem, ⟨9, _⟩ => ⟨S128x1024, .f32⟩
  | .local _ .vmem, ⟨10, _⟩ => ⟨S256x128, .f32⟩
  | .local _ .vmem, ⟨11, _⟩ => ⟨S4x160, .f32⟩
  | .local _ .vmem, ⟨12, _⟩ => ⟨S8x128, .f32⟩
  | .local _ .vmem, ⟨13, _⟩ => ⟨S128x1024, .f32⟩
  | .local _ .vmem, ⟨14, _⟩ => ⟨S256x128, .f32⟩
  | .local _ .vmem, ⟨15, _⟩ => ⟨S4x160, .f32⟩
  | .local _ .vmem, ⟨16, _⟩ => ⟨S128x1024, .f32⟩
  | .local _ .vmem, ⟨17, _⟩ => ⟨S256x128, .f32⟩
  | .local _ .vmem, ⟨18, _⟩ => ⟨S4x160, .f32⟩
  | .local _ .vmem, ⟨19, _⟩ => ⟨S128x1024, .f32⟩
  | .local _ .vmem, ⟨20, _⟩ => ⟨S256x128, .f32⟩
  | .local _ .vmem, ⟨21, _⟩ => ⟨S4x160, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev main_v1_5 : Ref sig .tc := ⟨.hbm, 19, rfl⟩
abbrev main_v1_6 : Ref sig .tc := ⟨.hbm, 20, rfl⟩
abbrev main_v1_7 : Ref sig .tc := ⟨.hbm, 21, rfl⟩
abbrev main_v1_8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x160 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x160 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x160 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x160 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Reference15Ideal.lean ====
abbrev S128x1024 : Shape := ⟨2, ![128, 1024]⟩
abbrev S256x128 : Shape := ⟨2, ![256, 128]⟩
abbrev S4x160 : Shape := ⟨2, ![4, 160]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S256x128, .f32⟩
  | .hbm, ⟨2, _⟩ => ⟨S4x160, .f32⟩
  | .hbm, ⟨3, _⟩ => ⟨S128x1024, .f32⟩
  | .hbm, ⟨4, _⟩ => ⟨S256x128, .f32⟩
  | .hbm, ⟨5, _⟩ => ⟨S4x160, .f32⟩
  | .hbm, ⟨6, _⟩ => ⟨S128x1024, .f32⟩
  | .hbm, ⟨7, _⟩ => ⟨S256x128, .f32⟩
  | .hbm, ⟨8, _⟩ => ⟨S4x160, .f32⟩
  | .hbm, ⟨9, _⟩ => ⟨S128x1024, .f32⟩
  | .hbm, ⟨10, _⟩ => ⟨S256x128, .f32⟩
  | .hbm, ⟨11, _⟩ => ⟨S4x160, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S256x128, .f32⟩
  | .hbm, ⟨47, _⟩ => ⟨S256x128, .f32⟩
  | .hbm, ⟨48, _⟩ => ⟨S_, .f32⟩
  | .hbm, ⟨49, _⟩ => ⟨S256x128, .f32⟩
  | .hbm, ⟨50, _⟩ => ⟨S256x128, .f32⟩
  | .hbm, ⟨51, _⟩ => ⟨S256x128, .f32⟩
  | .hbm, ⟨52, _⟩ => ⟨S_, .f32⟩
  | .hbm, ⟨53, _⟩ => ⟨S256x128, .f32⟩
  | .hbm, ⟨54, _⟩ => ⟨S256x128, .f32⟩
  | .hbm, ⟨55, _⟩ => ⟨S256x128, .f32⟩
  | .hbm, ⟨56, _⟩ => ⟨S_, .f32⟩
  | .hbm, ⟨57, _⟩ => ⟨S256x128, .f32⟩
  | .hbm, ⟨58, _⟩ => ⟨S256x128, .f32⟩
  | .hbm, ⟨59, _⟩ => ⟨S256x128, .f32⟩
  | .hbm, ⟨60, _⟩ => ⟨S_, .f32⟩
  | .hbm, ⟨61, _⟩ => ⟨S256x128, .f32⟩
  | .hbm, ⟨62, _⟩ => ⟨S256x128, .f32⟩
  | .hbm, ⟨63, _⟩ => ⟨S_, .f32⟩
  | .hbm, ⟨64, _⟩ => ⟨S256x128, .f32⟩
  | .hbm, ⟨65, _⟩ => ⟨S256x128, .f32⟩
  | .hbm, ⟨66, _⟩ => ⟨S256x128, .f32⟩
  | .hbm, ⟨67, _⟩ => ⟨S_, .f32⟩
  | .hbm, ⟨68, _⟩ => ⟨S256x128, .f32⟩
  | .hbm, ⟨69, _⟩ => ⟨S256x128, .f32⟩
  | .hbm, ⟨70, _⟩ => ⟨S256x128, .f32⟩
  | .hbm, ⟨71, _⟩ => ⟨S_, .f32⟩
  | .hbm, ⟨72, _⟩ => ⟨S256x128, .f32⟩
  | .hbm, ⟨73, _⟩ => ⟨S256x128, .f32⟩
  | .hbm, ⟨74, _⟩ => ⟨S256x128, .f32⟩
  | .hbm, ⟨75, _⟩ => ⟨S_, .f32⟩
  | .hbm, ⟨76, _⟩ => ⟨S256x128, .f32⟩
  | .hbm, ⟨77, _⟩ => ⟨S256x128, .f32⟩
  | .hbm, ⟨78, _⟩ => ⟨S_, .f32⟩
  | .hbm, ⟨79, _⟩ => ⟨S4x160, .f32⟩
  | .hbm, ⟨80, _⟩ => ⟨S4x160, .f32⟩
  | .hbm, ⟨81, _⟩ => ⟨S_, .f32⟩
  | .hbm, ⟨82, _⟩ => ⟨S4x160, .f32⟩
  | .hbm, ⟨83, _⟩ => ⟨S4x160, .f32⟩
  | .hbm, ⟨84, _⟩ => ⟨S4x160, .f32⟩
  | .hbm, ⟨85, _⟩ => ⟨S_, .f32⟩
  | .hbm, ⟨86, _⟩ => ⟨S4x160, .f32⟩
  | .hbm, ⟨87, _⟩ => ⟨S4x160, .f32⟩
  | .hbm, ⟨88, _⟩ => ⟨S4x160, .f32⟩
  | .hbm, ⟨89, _⟩ => ⟨S_, .f32⟩
  | .hbm, ⟨90, _⟩ => ⟨S4x160, .f32⟩
  | .hbm, ⟨91, _⟩ => ⟨S4x160, .f32⟩
  | .hbm, ⟨92, _⟩ => ⟨S4x160, .f32⟩
  | .hbm, ⟨93, _⟩ => ⟨S_, .f32⟩
  | .hbm, ⟨94, _⟩ => ⟨S4x160, .f32⟩
  | .hbm, ⟨95, _⟩ => ⟨S4x160, .f32⟩
  | .hbm, ⟨96, _⟩ => ⟨S_, .f32⟩
  | .hbm, ⟨97, _⟩ => ⟨S4x160, .f32⟩
  | .hbm, ⟨98, _⟩ => ⟨S4x160, .f32⟩
  | .hbm, ⟨99, _⟩ => ⟨S4x160, .f32⟩
  | .hbm, ⟨100, _⟩ => ⟨S_, .f32⟩
  | .hbm, ⟨101, _⟩ => ⟨S4x160, .f32⟩
  | .hbm, ⟨102, _⟩ => ⟨S4x160, .f32⟩
  | .hbm, ⟨103, _⟩ => ⟨S4x160, .f32⟩
  | .hbm, ⟨104, _⟩ => ⟨S_, .f32⟩
  | .hbm, ⟨105, _⟩ => ⟨S4x160, .f32⟩
  | .hbm, ⟨106, _⟩ => ⟨S4x160, .f32⟩
  | .hbm, ⟨107, _⟩ => ⟨S4x160, .f32⟩
  | .hbm, ⟨108, _⟩ => ⟨S_, .f32⟩
  | .hbm, ⟨109, _⟩ => ⟨S4x160, .f32⟩
  | .hbm, ⟨110, _⟩ => ⟨S4x160, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Scan.lean ====
module

public import Mathlib.Analysis.SpecialFunctions.Exp
public import Mathlib.Algebra.BigOperators.Intervals
public import Mathlib.Algebra.BigOperators.Ring.Finset

@[expose] public section

/-! # The linear recurrence over real sequences

`hid` is the recurrence `h t = exp (l t) * h (t - 1) + u t` in closed form, `adj` the adjoint sequence of a cotangent
`w` of `h`, `up` what a doubling scan from the right has after covering `d` places. -/

noncomputable section

namespace Cert.Proof.Scan

open Finset

variable (N : ℕ) (l u w b : ℕ → ℝ)

/-- The sum of the logarithms up to place `t`. -/
def cum (t : ℕ) : ℝ := ∑ k ∈ range N, if k ≤ t then l k else 0

/-- How much of place `s` survives at place `t`. -/
def dec (t s : ℕ) : ℝ := if s ≤ t then Real.exp (cum N l t - cum N l s) else 0

/-- The hidden state. -/
def hid (t : ℕ) : ℝ := ∑ s ∈ range N, dec N l t s * u s

/-- The cotangent of the recurrence's input. -/
def adj (s : ℕ) : ℝ := ∑ t ∈ range N, dec N l t s * w t

/-- The scan from the right over `d` places. -/
def up (d t : ℕ) : ℝ := ∑ j ∈ range d, (∏ k ∈ range j, b (t + k)) * w (t + j)

/-- The product of `d` successive multipliers. -/
def upb (d t : ℕ) : ℝ := ∏ k ∈ range d, b (t + k)

theorem cum_succ {t : ℕ} (ht : t + 1 < N) : cum N l (t + 1) = cum N l t + l (t + 1) := by
  have h : ∀ k ∈ range N, (if k ≤ t + 1 then l k else 0)
      = (if k ≤ t then l k else 0) + (if k = t + 1 then l k else 0) := by
    intro k _
    by_cases h1 : k ≤ t
    · rw [if_pos (by omega), if_pos h1, if_neg (by omega), add_zero]
    · by_cases h2 : k = t + 1
      · rw [if_pos (by omega), if_neg h1, if_pos h2, zero_add]
      · rw [if_neg (by omega), if_neg h1, if_neg h2, add_zero]
  rw [cum, cum, sum_congr rfl h, sum_add_distrib]
  congr 1
  rw [sum_ite_eq' (range N) (t + 1), if_pos (mem_range.2 ht)]

theorem up_double (d t : ℕ) : up w b (2 * d) t = up w b d t + upb b d t * up w b d (t + d) := by
  rw [up, two_mul, sum_range_add]
  congr 1
  rw [up, upb, mul_sum]
  refine sum_congr rfl fun j _ => ?_
  rw [prod_range_add, ← mul_assoc]
  simp only [add_assoc]

theorem upb_double (d t : ℕ) : upb b (2 * d) t = upb b d t * upb b d (t + d) := by
  rw [upb, two_mul, prod_range_add]
  simp only [upb, add_assoc]

theorem up_one (t : ℕ) : up w b 1 t = w t := by simp [up]

theorem upb_one (t : ℕ) : upb b 1 t = b t := by simp [upb]

/-- The multipliers a right scan takes: the next place's decay, none past the end. -/
def next (t : ℕ) : ℝ := if t + 1 < N then Real.exp (l (t + 1)) else 0

theorem prod_next (t j : ℕ) (h : t + j < N) :
    ∏ k ∈ range j, next N l (t + k) = Real.exp (cum N l (t + j) - cum N l t) := by
  induction j with
  | zero => simp
  | succ j ih =>
    rw [prod_range_succ, ih (by omega), next, if_pos (by omega), ← Real.exp_add]
    congr 1
    have := cum_succ N l (t := t + j) (by omega)
    rw [show t + (j + 1) = t + j + 1 by omega, this]
    ring

theorem upb_end (d t : ℕ) (ht : t < N) (h : N ≤ t + d) : upb (next N l) d t = 0 := by
  refine prod_eq_zero (i := N - 1 - t) (mem_range.2 (by omega)) ?_
  rw [next, if_neg (by omega)]

/-- The right scan over all places is the adjoint sequence. -/
theorem up_eq_adj (hw : ∀ t, N ≤ t → w t = 0) (t : ℕ) (ht : t < N) :
    up w (next N l) N t = adj N l w t := by
  have h1 : up w (next N l) N t = ∑ j ∈ range (N - t), (∏ k ∈ range j, next N l (t + k)) * w (t + j) := by
    rw [up]
    refine (sum_subset (range_subset_range.2 (by omega)) fun j _ hj => ?_).symm
    rw [mem_range] at hj
    rw [hw _ (by omega), mul_zero]
  have h2 : adj N l w t = ∑ s ∈ Ico t N, dec N l s t * w s := by
    rw [adj, range_eq_Ico]
    refine (sum_subset (Ico_subset_Ico_left (Nat.zero_le t)) fun s _ hs => ?_).symm
    rw [mem_Ico] at *
    rw [dec, if_neg (by omega), zero_mul]
  rw [h1, h2, sum_Ico_eq_sum_range]
  refine sum_congr rfl fun j hj => ?_
  rw [mem_range] at hj
  rw [prod_next N l t j (by omega), dec, if_pos (by omega)]

/-- The hidden state one place earlier, zero before the start. -/
def hprev (t : ℕ) : ℝ := if t = 0 then 0 else hid N l u (t - 1)

theorem sum_split (k : ℕ) (f : ℕ → ℕ → ℝ) (hf : ∀ t s, t < s → f t s = 0) :
    ∑ t ∈ range N, (if k ≤ t then ∑ s ∈ range N, f t s + - ∑ s ∈ range N, f s t else 0)
      = ∑ t ∈ range N, ∑ s ∈ range N, if k ≤ t ∧ s < k then f t s else 0 := by
  have e1 : ∑ t ∈ range N, (if k ≤ t then ∑ s ∈ range N, f t s + - ∑ s ∈ range N, f s t else 0)
      = ∑ t ∈ range N, (∑ s ∈ range N, if k ≤ t then f t s else 0)
        - ∑ t ∈ range N, (∑ s ∈ range N, if k ≤ s then f t s else 0) := by
    rw [sum_comm (f := fun t s => if k ≤ s then f t s else 0), ← sum_sub_distrib]
    refine sum_congr rfl fun t _ => ?_
    split <;> simp [sub_eq_add_neg]
  rw [e1, ← sum_sub_distrib]
  refine sum_congr rfl fun t _ => ?_
  rw [← sum_sub_distrib]
  refine sum_congr rfl fun s _ => ?_
  by_cases h1 : k ≤ t <;> by_cases h2 : k ≤ s
  · simp [h1, h2]
  · simp [h1, h2, Nat.lt_of_not_le h2]
  · simp [h1, h2, hf t s (by omega)]
  · simp [h1, h2]

/-- The cotangent of the logarithms: differences of the row and column sums of the pairwise products, summed from
    the right, are adjoint times decay times the state before. -/
theorem dlog_eq (k : ℕ) (hk : k < N) :
    ∑ t ∈ range N, (if k ≤ t then
        ∑ s ∈ range N, w t * u s * dec N l t s + - ∑ s ∈ range N, w s * u t * dec N l s t else 0)
      = adj N l w k * hprev N l u k * Real.exp (l k) := by
  rw [sum_split N k (fun t s => w t * u s * dec N l t s)
    (fun t s h => by rw [dec, if_neg (by omega), mul_zero])]
  cases k with
  | zero => simp [hprev]
  | succ k =>
    rw [hprev, if_neg (by omega), Nat.add_sub_cancel, adj, hid, mul_assoc, sum_mul]
    refine sum_congr rfl fun t _ => ?_
    by_cases ht : k + 1 ≤ t
    · rw [sum_mul, mul_sum]
      refine sum_congr rfl fun s _ => ?_
      by_cases hs : s < k + 1
      · have hc := cum_succ N l hk
        have he : Real.exp (cum N l t - cum N l s)
            = Real.exp (cum N l t - cum N l (k + 1)) * Real.exp (cum N l k - cum N l s) * Real.exp (l (k + 1)) := by
          rw [← Real.exp_add, ← Real.exp_add, hc]; congr 1; ring
        rw [if_pos ⟨ht, hs⟩, dec, dec, dec, if_pos (by omega), if_pos ht, if_pos (by omega), he]
        ring
      · rw [if_neg (by omega), dec, dec, if_neg (c := s ≤ k) (by omega)]
        ring
    · rw [dec, if_neg ht, zero_mul, zero_mul]
      refine sum_eq_zero fun s _ => ?_
      rw [if_neg (by omega)]

end Cert.Proof.Scan

end
-- ==== Proof.Spec.lean ====
module

public import proofs.«01_k».proof.Proof.Scan
public import Idealize.ShloMosaic.PureOps.Ideal

@[expose] public section

/-! # The gradient of the gated recurrence, over the reals

Coordinates are natural numbers: batch `b`, place `t`, channel `c = 128 n + j` of block `n`. -/

noncomputable section

namespace Cert.Proof

open Finset Scan

/-- The real contents of the arguments. -/
structure In where
  X : ℕ → ℕ → ℕ → ℝ
  CW : ℕ → ℕ → ℝ
  CB : ℕ → ℝ
  WA : ℕ → ℕ → ℕ → ℝ
  BA : ℕ → ℝ
  WX : ℕ → ℕ → ℕ → ℝ
  BX : ℕ → ℝ
  LAM : ℕ → ℝ
  DH : ℕ → ℕ → ℕ → ℝ

namespace In

variable (I : In)

/-- The input behind three zeros. -/
def xp (b t c : ℕ) : ℝ := if t < 3 then 0 else I.X b (t - 3) c

/-- The causal convolution. -/
def xc (b t c : ℕ) : ℝ :=
  I.CB c + I.CW 0 c * I.xp b (t + 0) c + I.CW 1 c * I.xp b (t + 1) c + I.CW 2 c * I.xp b (t + 2) c
    + I.CW 3 c * I.xp b (t + 3) c

/-- A block-diagonal product. -/
def blockMul (f : ℕ → ℝ) (W : ℕ → ℕ → ℕ → ℝ) (c : ℕ) : ℝ :=
  ∑ k ∈ range 128, f (c / 128 * 128 + k) * W (c / 128) k (c % 128)

def sig (x : ℝ) : ℝ := 1 / (1 + Real.exp (-x))

def softplus (x : ℝ) : ℝ := max x 0 + Real.log (1 + Real.exp (-|x|))

def r (b t c : ℕ) : ℝ := sig (blockMul (I.xc b t) I.WA c + I.BA c)

def i (b t c : ℕ) : ℝ := sig (blockMul (I.xc b t) I.WX c + I.BX c)

def sp (c : ℕ) : ℝ := softplus (-I.LAM c)

def la (b t c : ℕ) : ℝ := -8 * I.r b t c * I.sp c

def a (b t c : ℕ) : ℝ := Real.exp (I.la b t c)

/-- The variance `1 - a ^ 2`. -/
def var (b t c : ℕ) : ℝ := -(Real.exp (2 * I.la b t c) - 1)

def mult (b t c : ℕ) : ℝ := if t = 0 then 1 else Real.sqrt (I.var b t c)

def u (b t c : ℕ) : ℝ := I.mult b t c * (I.i b t c * I.xc b t c)

/-- The hidden state. -/
def h (b t c : ℕ) : ℝ := hid 2048 (fun t => I.la b t c) (fun t => I.u b t c) t

/-- The hidden state before place `t`. -/
def hp (b t c : ℕ) : ℝ := hprev 2048 (fun t => I.la b t c) (fun t => I.u b t c) t

/-- The cotangent of `u`. -/
def g (b t c : ℕ) : ℝ := adj 2048 (fun t => I.la b t c) (fun t => I.DH b t c) t

/-- The cotangent of the logarithm of the decay. -/
def dla (b t c : ℕ) : ℝ :=
  I.g b t c * I.hp b t c * I.a b t c
    - (if t = 0 then 0 else I.g b t c * (I.i b t c * I.xc b t c)) * (I.a b t c * I.a b t c) / I.mult b t c

def dpa (b t c : ℕ) : ℝ := I.dla b t c * (-8 * I.sp c) * I.r b t c * (1 - I.r b t c)

def dpx (b t c : ℕ) : ℝ := I.g b t c * I.mult b t c * I.xc b t c * I.i b t c * (1 - I.i b t c)

/-- A block-diagonal product with the transposed blocks. -/
def blockMulT (f : ℕ → ℝ) (W : ℕ → ℕ → ℕ → ℝ) (c : ℕ) : ℝ :=
  ∑ k ∈ range 128, f (c / 128 * 128 + k) * W (c / 128) (c % 128) k

def dxc (b t c : ℕ) : ℝ :=
  if t < 2048 then
    I.g b t c * I.mult b t c * I.i b t c + blockMulT (I.dpa b t) I.WA c + blockMulT (I.dpx b t) I.WX c
  else 0

/-! The results. -/

def gX (b t c : ℕ) : ℝ :=
  I.CW 3 c * I.dxc b t c + I.CW 2 c * I.dxc b (t + 1) c + I.CW 1 c * I.dxc b (t + 2) c
    + I.CW 0 c * I.dxc b (t + 3) c

/-- The sum over the places of one batch. -/
def tot (f : ℕ → ℝ) : ℝ := ∑ t ∈ range 2048, f t

def gCW (b k c : ℕ) : ℝ := tot fun t => I.dxc b t c * I.xp b (t + k) c

def gCB (b c : ℕ) : ℝ := tot fun t => I.dxc b t c

def gWA (b n j k : ℕ) : ℝ := tot fun t => I.xc b t (n * 128 + j) * I.dpa b t (n * 128 + k)

def gBA (b c : ℕ) : ℝ := tot fun t => I.dpa b t c

def gWX (b n j k : ℕ) : ℝ := tot fun t => I.xc b t (n * 128 + j) * I.dpx b t (n * 128 + k)

def gBX (b c : ℕ) : ℝ := tot fun t => I.dpx b t c

def gLAM (b c : ℕ) : ℝ := (tot fun t => I.dla b t c * (-8 * I.r b t c)) * -sig (-I.LAM c)

/-! Signs. -/

theorem sig_pos (x : ℝ) : 0 < sig x := by unfold sig; positivity

theorem softplus_pos (x : ℝ) : 0 < softplus x := by
  have h : 0 < Real.log (1 + Real.exp (-|x|)) := Real.log_pos (by linarith [Real.exp_pos (-|x|)])
  have h2 : 0 ≤ max x 0 := le_max_right _ _
  unfold softplus; linarith

/-- The derivative of `softplus`, as `x - softplus x` exponentiated. -/
theorem exp_sub_softplus (x : ℝ) : Real.exp (x - softplus x) = sig x := by
  have hp : 0 < 1 + Real.exp (-|x|) := by linarith [Real.exp_pos (-|x|)]
  have key : Real.exp (softplus x) = 1 + Real.exp x := by
    rw [softplus, Real.exp_add, Real.exp_log hp]
    rcases le_total 0 x with h | h
    · rw [max_eq_left h, abs_of_nonneg h, mul_add, mul_one, ← Real.exp_add, add_neg_cancel, Real.exp_zero]; ring
    · rw [max_eq_right h, abs_of_nonpos h, neg_neg, Real.exp_zero, one_mul]
  have h1 : 0 < Real.exp x := Real.exp_pos x
  rw [Real.exp_sub, key, sig, Real.exp_neg]
  field_simp
  ring

theorem la_neg (b t c : ℕ) : I.la b t c < 0 := by
  have h1 : 0 < I.r b t c := sig_pos _
  have h2 : 0 < I.sp c := softplus_pos _
  have := mul_pos h1 h2
  unfold la; nlinarith

theorem var_pos (b t c : ℕ) : 0 < I.var b t c := by
  have h : Real.exp (2 * I.la b t c) < 1 := by
    rw [← Real.exp_zero]; exact Real.exp_lt_exp.2 (by linarith [I.la_neg b t c])
  unfold var; linarith

theorem mult_pos (b t c : ℕ) : 0 < I.mult b t c := by
  unfold mult
  split
  · exact one_pos
  · exact Real.sqrt_pos.2 (I.var_pos b t c)

theorem exp_two_la (b t c : ℕ) : Real.exp (2 * I.la b t c) = I.a b t c * I.a b t c := by
  rw [a, ← Real.exp_add]; congr 1; ring

end In

end Cert.Proof

end
-- ==== Proof.Kit.lean ====
module

public import proofs.«01_k».proof.Proof.Spec
public import Idealize.ShloMosaic.Lib.Pointwise
public import Idealize.ShloMosaic.Lib.IdealHost

@[expose] public section

/-! # Vectors of extended reals that hold real numbers -/

noncomputable section

namespace Cert.Proof

open Idealize.ShloMosaic

/-- `v` holds the real numbers `f`. -/
def Is {S : Shape} {φ : FTy} (v : FVec Ideal S φ) (f : S.Idx → ℝ) : Prop := ∀ i, v i = ((f i : ℝ) : EReal)

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem coe_sum_fin {n : ℕ} (f : ℕ → ℝ) : ((∑ k ∈ Finset.range n, f k : ℝ) : EReal) = ∑ k : Fin n, (f k.val : EReal) := by
  rw [Finset.sum_range, coe_sum]

theorem coe_div {x y : ℝ} (hy : y ≠ 0) : Ideal.div (x : EReal) (y : EReal) = ((x / y : ℝ) : EReal) := by
  rw [Ideal.div_coe hy, ← EReal.coe_mul]; congr 1; ring

theorem coe_sqrt {x : ℝ} (hx : 0 ≤ x) : Ideal.sqrt (x : EReal) = ((Real.sqrt x : ℝ) : EReal) := by
  rw [Ideal.sqrt_coe, if_neg (not_lt.2 hx)]

theorem coe_expm1 (x : ℝ) : Ideal.expm1 (x : EReal) = ((Real.exp x - 1 : ℝ) : EReal) := by
  rw [Ideal.expm1, Ideal.exp_coe, EReal.coe_sub, EReal.coe_one]

theorem coe_log1p {x : ℝ} (hx : 0 ≤ x) : Ideal.log1p (x : EReal) = ((Real.log (1 + x) : ℝ) : EReal) := by
  rw [Ideal.log1p, ← EReal.coe_one, ← EReal.coe_add, Ideal.log_coe, if_neg (by linarith)]

theorem coe_max (x y : ℝ) : max (x : EReal) (y : EReal) = ((max x y : ℝ) : EReal) :=
  (EReal.coe_strictMono.monotone.map_max).symm

theorem coe_logistic (x : ℝ) : Ideal.logistic (x : EReal) = ((In.sig x : ℝ) : EReal) := by
  rw [Ideal.logistic_coe, In.sig, one_div]

theorem lit_neg_eight : Ideal.ofBits .f32 0xC1000000#32 = ((-8 : ℝ) : EReal) := by
  simp [Ideal.ofBits, Ideal.ieee]
  rw [← EReal.coe_mul]; norm_num

theorem lit_two : Ideal.ofBits .f32 0x40000000#32 = ((2 : ℝ) : EReal) := by
  simp [Ideal.ofBits, Ideal.ieee]
  rw [← EReal.coe_mul]; norm_num

theorem lit_half : Ideal.ofBits .f32 0x3F000000#32 = ((1 / 2 : ℝ) : EReal) := by
  simp [Ideal.ofBits, Ideal.ieee]
  rw [← EReal.coe_mul]; norm_num

namespace Is

variable {S : Shape} {φ : FTy} {v w : FVec Ideal S φ} {f g : S.Idx → ℝ}

theorem congr (h : Is v f) (e : ∀ i, f i = g i) : Is v g := fun i => (h i).trans (congrArg _ (e i))

theorem mulf (hv : Is v f) (hw : Is w g) : Is (mulf v w) fun i => f i * g i := fun i => by
  show v i * w i = _
  rw [hv, hw, EReal.coe_mul]

theorem addf (hv : Is v f) (hw : Is w g) : Is (addf v w) fun i => f i + g i := fun i => by
  show v i + w i = _
  rw [hv, hw, EReal.coe_add]

theorem subf (hv : Is v f) (hw : Is w g) : Is (subf v w) fun i => f i - g i := fun i => by
  show v i - w i = _
  rw [hv, hw, EReal.coe_sub]

theorem divf (hv : Is v f) (hw : Is w g) (h0 : ∀ i, g i ≠ 0) : Is (divf v w) fun i => f i / g i := fun i => by
  show Ideal.div (v i) (w i) = _
  rw [hv, hw, coe_div (h0 i)]

theorem hdivf (hv : Is v f) (hw : Is w g) (h0 : ∀ i, g i ≠ 0) : Is (Host.divf v w) fun i => f i / g i := fun i => by
  show Ideal.div (v i) (w i) = _
  rw [hv, hw, coe_div (h0 i)]

theorem maxf (hv : Is v f) (hw : Is w g) : Is (maximumf v w) fun i => max (f i) (g i) := fun i => by
  show max (v i) (w i) = _
  rw [hv, hw, coe_max]

theorem hnegf (hv : Is v f) : Is (Host.negf v) fun i => -f i := fun i => by
  show -(v i) = _
  rw [hv, EReal.coe_neg]

theorem hexp (hv : Is v f) : Is (Host.exp v) fun i => Real.exp (f i) := fun i => by
  show Ideal.exp (v i) = _
  rw [hv, Ideal.exp_coe]

theorem exp (hv : Is v f) : Is (exp v) fun i => Real.exp (f i) := fun i => by
  show Ideal.exp (v i) = _
  rw [hv, Ideal.exp_coe]

theorem logistic (hv : Is v f) : Is (logistic v) fun i => In.sig (f i) := fun i => by
  show Ideal.logistic (v i) = _
  rw [hv, coe_logistic]

theorem hexpm1 (hv : Is v f) : Is (Host.expm1 v) fun i => Real.exp (f i) - 1 := fun i => by
  show Ideal.expm1 (v i) = _
  rw [hv, coe_expm1]

theorem hsqrt (hv : Is v f) (h0 : ∀ i, 0 ≤ f i) : Is (Host.sqrt v) fun i => Real.sqrt (f i) := fun i => by
  show Ideal.sqrt (v i) = _
  rw [hv, coe_sqrt (h0 i)]

theorem truncf {ψ : FTy} (h : ψ.bits < φ.bits) (hv : Is v f) : Is (truncf ψ v h) f := fun i => hv i

theorem extf {ψ : FTy} (h : φ.bits < ψ.bits) (hv : Is v f) : Is (extf ψ v h) f := fun i => hv i

end Is

end Cert.Proof

end
-- ==== Proof.HKit.lean ====
module

public import proofs.«01_k».proof.Proof.Kit
public import proofs.«01_k».proof.Proof.Gen.ReferenceIdeal.Read

@[expose] public section

set_option maxRecDepth 16384

/-! # The host's operations on real contents -/

noncomputable section

namespace Cert.Proof.Ref

open Idealize.ShloMosaic Cert.ReferenceIdeal Cert.ReferenceIdeal.Gen Cert.ReferenceIdeal.Read

variable {S T : Shape} {φ : FTy}

/-- A layout operation reads its operand at an index. -/
theorem lay {v : FVec Ideal S φ} {w : FVec Ideal T φ} {f : S.Idx → ℝ} (idx : T.Idx → S.Idx) (hv : Is v f) (e : ∀ i, w i = v (idx i)) :
    Is w fun i => f (idx i) := fun i => (e i).trans (hv _)

/-- A sum along an axis. -/
theorem hsum {v : FVec Ideal S φ} {w : FVec Ideal T φ} {f : S.Idx → ℝ} {n : ℕ} {idx : T.Idx → Fin n → S.Idx} {z : EReal} (F : T.Idx → ℕ → ℝ)
    (hv : Is v f) (hz : z = ((0 : ℝ) : EReal)) (e : ∀ i, w i = z + ∑ k : Fin n, v (idx i k)) (hF : ∀ i k, f (idx i k) = F i k.val) :
    Is w fun i => ∑ k ∈ Finset.range n, F i k := fun i => by
  rw [e, hz, EReal.coe_zero, zero_add, coe_sum_fin]
  exact Finset.sum_congr rfl fun k _ => (hv _).trans (congrArg _ (hF i k))

/-- A contraction along an axis. -/
theorem hdot {U : Shape} {ψ χ : FTy} {a : FVec Ideal S φ} {b : FVec Ideal U ψ} {w : FVec Ideal T χ} {f : S.Idx → ℝ} {g : U.Idx → ℝ} {n : ℕ}
    {l : T.Idx → Fin n → S.Idx} {r : T.Idx → Fin n → U.Idx} (F G : T.Idx → ℕ → ℝ)
    (ha : Is a f) (hb : Is b g) (e : ∀ i, w i = ∑ k : Fin n, a (l i k) * b (r i k))
    (hF : ∀ i k, f (l i k) = F i k.val) (hG : ∀ i k, g (r i k) = G i k.val) :
    Is w fun i => ∑ k ∈ Finset.range n, F i k * G i k := fun i => by
  rw [e, coe_sum_fin]
  exact Finset.sum_congr rfl fun k _ => by rw [ha, hb, hF, hG, EReal.coe_mul]

theorem sel {m : S.Idx → BitVec 1} {v w : FVec Ideal S φ} {f g : S.Idx → ℝ} (P : S.Idx → Prop) [∀ i, Decidable (P i)]
    (hm : ∀ i, m i = if P i then 1#1 else 0#1) (hv : Is v f) (hw : Is w g) : Is (select m v w) fun i => if P i then f i else g i := fun i => by
  show (if m i = 1 then v i else w i) = ((if P i then f i else g i : ℝ) : EReal)
  rw [hm i]
  by_cases h : P i
  · rw [if_pos h, if_pos h]; exact hv i
  · rw [if_neg h, if_neg h, if_neg (by decide)]; exact hw i

theorem eq_zero_mask {n : ℕ} (h : n < 2 ^ 31) : IntOp.cmpi .eq (BitVec.ofNat 32 n) 0#32 = if n = 0 then 1#1 else 0#1 := by
  show BitVec.ofBool (BitVec.ofNat 32 n == 0#32) = _
  by_cases h0 : n = 0
  · rw [if_pos h0, h0]; rfl
  · rw [if_neg h0, beq_eq_false_iff_ne.2]
    · rfl
    · intro h'
      have := congrArg BitVec.toNat h'
      simp only [BitVec.toNat_ofNat] at this; omega

theorem ge_mask {n k : ℕ} (hn : n < 2 ^ 31) (hk : k < 2 ^ 31) :
    IntOp.cmpi .sge (BitVec.ofNat 32 n) (BitVec.ofNat 32 k) = if k ≤ n then 1#1 else 0#1 := by
  show BitVec.ofBool ((BitVec.ofNat 32 k).sle (BitVec.ofNat 32 n)) = _
  have e : ∀ m : ℕ, m < 2 ^ 31 → (BitVec.ofNat 32 m).toInt = m := fun m hm => by
    rw [BitVec.toInt_eq_toNat_of_lt] <;> simp only [BitVec.toNat_ofNat] <;> omega
  rw [BitVec.sle, e n hn, e k hk]
  by_cases h : k ≤ n
  · rw [if_pos h, decide_eq_true (by exact_mod_cast h)]; rfl
  · rw [if_neg h, decide_eq_false (by exact_mod_cast h)]; rfl

theorem lit_zero : Ideal.ofBits .f32 0x00000000#32 = ((0 : ℝ) : EReal) := by
  simp [Ideal.ofBits, Ideal.ieee]

theorem lit_zero16 : Ideal.ofBits .bf16 0x0000#16 = ((0 : ℝ) : EReal) := by
  simp [Ideal.ofBits, Ideal.ieee]

theorem lit_one : Ideal.ofBits .f32 0x3F800000#32 = ((1 : ℝ) : EReal) := by
  simp [Ideal.ofBits, Ideal.ieee]
  rw [← EReal.coe_mul]; norm_num

theorem lit_inf : Ideal.ofBits .f32 0x7F800000#32 = (⊤ : EReal) := by
  simp [Ideal.ofBits, Ideal.ieee]

section sums

variable {n0 n1 n2 : Nat} {t : Shape}

theorem rank01 (h : (⟨3, ![n0, n1, n2]⟩ : Shape).ReducesTo [0, 1] t) : t.rank = 1 := h.1

theorem lt01 (h : (⟨3, ![n0, n1, n2]⟩ : Shape).ReducesTo [0, 1] t) : 0 < t.rank := rank01 h ▸ (by decide)

theorem size01 (h : (⟨3, ![n0, n1, n2]⟩ : Shape).ReducesTo [0, 1] t) : t.size ⟨0, lt01 h⟩ = n2 := h.2 ⟨0, lt01 h⟩

theorem fiber01 (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, lt01 h⟩).val, Shape.coordLt (j ⟨0, lt01 h⟩) (size01 h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt01 h⟩)).symm
  · rintro ⟨k, rfl⟩
    funext b
    apply Fin.ext
    match b with
    | ⟨0, _⟩ => rfl
    | ⟨_ + 1, hb⟩ => exact absurd hb (by have := rank01 h; omega)

/-- A sum along the first two axes. -/
theorem reduce01 (h : (⟨3, ![n0, n1, n2]⟩ : Shape).ReducesTo [0, 1] t) (v : (⟨3, ![n0, n1, n2]⟩ : Shape).Idx → EReal) (init : EReal) (j : t.Idx) :
    Ideal.hostReduceAdd h v init j = init + ∑ k0 : Fin n0, ∑ k1 : Fin n1, v (ix3 k0 k1 ⟨(j ⟨0, lt01 h⟩).val, Shape.coordLt (j ⟨0, lt01 h⟩) (size01 h)⟩) := by
  refine congrArg (init + ·) ((Finset.sum_filter_eq_sum_of_fiber _
    (fun k : Fin n0 × Fin n1 => ix3 k.1 k.2 ⟨(j ⟨0, lt01 h⟩).val, Shape.coordLt (j ⟨0, lt01 h⟩) (size01 h)⟩)
    (fun _ _ e => Prod.ext (congrFun e 0) (congrFun e 1)) (fiber01 h j) v).trans ?_)
  simp only [Fintype.sum_prod_type]

end sums

theorem sum01 {v : FVec Ideal S2x2048x1280 .f32} {F : ℕ → ℕ → ℕ → ℝ} (hv : Is v fun j => F (j 0).val (j 1).val (j 2).val) (z) (hz : z = constant S_ .f32 0x00000000#32) (h hu) :
    Is (S := S1280) (φ := .f32) (Host.reduceAdd (axes := [0, 1]) v z h hu) fun j => ∑ b ∈ Finset.range 2, ∑ t ∈ Finset.range 2048, F b t (j 0).val := by
  intro j
  subst hz
  refine (reduce01 h v (Ideal.ofBits .f32 0x00000000#32) j).trans ?_
  rw [lit_zero, EReal.coe_zero, zero_add, coe_sum_fin]
  refine Finset.sum_congr rfl fun b _ => ?_
  rw [coe_sum_fin]
  exact Finset.sum_congr rfl fun t _ => hv _

theorem sum01_one {v : FVec Ideal S1x1x1280 .f32} {F : ℕ → ℝ} (hv : Is v fun j => F (j 2).val) (z) (hz : z = constant S_ .f32 0x00000000#32) (h hu) :
    Is (S := S1280) (φ := .f32) (Host.reduceAdd (axes := [0, 1]) v z h hu) fun j => F (j 0).val := by
  intro j
  subst hz
  refine (reduce01 h v (Ideal.ofBits .f32 0x00000000#32) j).trans ?_
  rw [lit_zero, EReal.coe_zero, zero_add, Fin.sum_univ_one, Fin.sum_univ_one]
  exact hv _

theorem dot23 {x : FVec Ideal S10x128x2x2048 .f32} {y : FVec Ideal S2x2048x10x128 .f32} {F G : ℕ → ℕ → ℕ → ℕ → ℝ}
    (hx : Is x fun j => F (j 0).val (j 1).val (j 2).val (j 3).val) (hy : Is y fun j => G (j 0).val (j 1).val (j 2).val (j 3).val) :
    Is (S := S10x128x128) (φ := .f32) (Host.dotGeneral dot_S10x128x2x2048_S2x2048x10x128_S10x128x128_23_01_1_3_0_2 none x y)
      fun j => ∑ b ∈ Finset.range 2, ∑ t ∈ Finset.range 2048, F (j 0).val (j 1).val b t * G b t (j 0).val (j 2).val := by
  intro j
  pointwise
  rw [coe_sum_fin]
  refine Finset.sum_congr rfl fun b _ => ?_
  rw [coe_sum_fin]
  refine Finset.sum_congr rfl fun t _ => ?_
  rw [hx, hy, EReal.coe_mul]
  rfl

theorem padA {v : FVec Ideal S2x2048x1280 .f32} {F : ℕ → ℕ → ℕ → ℝ} (hv : Is v fun j => F (j 0).val (j 1).val (j 2).val) (z) (hz : z = constant S_ .f32 0x00000000#32) (h hu) :
    Is (S := S2x2051x1280) (φ := .f32) (pad S2x2051x1280 ![0, 3, 0] ![0, 0, 0] ![0, 0, 0] v z h hu)
      fun j => if 3 ≤ (j 1).val ∧ (j 1).val < 2051 then F (j 0).val ((j 1).val - 3) (j 2).val else 0 := by
  intro j
  subst hz
  pointwise
  have h1 : (j 1).val < 2051 := (j 1).isLt
  have hz : (0 : EReal) = ((0 : ℝ) : EReal) := EReal.coe_zero.symm
  split_ifs <;> first | exact hv _ | exact hz | (exfalso; omega)

theorem padB {v : FVec Ideal S2x2048x1280 .f32} {F : ℕ → ℕ → ℕ → ℝ} (hv : Is v fun j => F (j 0).val (j 1).val (j 2).val) (z) (hz : z = constant S_ .f32 0x00000000#32) (h hu) :
    Is (S := S2x2051x1280) (φ := .f32) (pad S2x2051x1280 ![0, 2, 0] ![0, 1, 0] ![0, 0, 0] v z h hu)
      fun j => if 2 ≤ (j 1).val ∧ (j 1).val < 2050 then F (j 0).val ((j 1).val - 2) (j 2).val else 0 := by
  intro j
  subst hz
  pointwise
  have h1 : (j 1).val < 2051 := (j 1).isLt
  have hz : (0 : EReal) = ((0 : ℝ) : EReal) := EReal.coe_zero.symm
  split_ifs <;> first | exact hv _ | exact hz | (exfalso; omega)

theorem padC {v : FVec Ideal S2x2048x1280 .f32} {F : ℕ → ℕ → ℕ → ℝ} (hv : Is v fun j => F (j 0).val (j 1).val (j 2).val) (z) (hz : z = constant S_ .f32 0x00000000#32) (h hu) :
    Is (S := S2x2051x1280) (φ := .f32) (pad S2x2051x1280 ![0, 1, 0] ![0, 2, 0] ![0, 0, 0] v z h hu)
      fun j => if 1 ≤ (j 1).val ∧ (j 1).val < 2049 then F (j 0).val ((j 1).val - 1) (j 2).val else 0 := by
  intro j
  subst hz
  pointwise
  have h1 : (j 1).val < 2051 := (j 1).isLt
  have hz : (0 : EReal) = ((0 : ℝ) : EReal) := EReal.coe_zero.symm
  split_ifs <;> first | exact hv _ | exact hz | (exfalso; omega)

theorem padD {v : FVec Ideal S2x2048x1280 .f32} {F : ℕ → ℕ → ℕ → ℝ} (hv : Is v fun j => F (j 0).val (j 1).val (j 2).val) (z) (hz : z = constant S_ .f32 0x00000000#32) (h hu) :
    Is (S := S2x2051x1280) (φ := .f32) (pad S2x2051x1280 ![0, 0, 0] ![0, 3, 0] ![0, 0, 0] v z h hu)
      fun j => if 0 ≤ (j 1).val ∧ (j 1).val < 2048 then F (j 0).val ((j 1).val - 0) (j 2).val else 0 := by
  intro j
  subst hz
  pointwise
  have h1 : (j 1).val < 2051 := (j 1).isLt
  have hz : (0 : EReal) = ((0 : ℝ) : EReal) := EReal.coe_zero.symm
  split_ifs <;> first | exact hv _ | exact hz | (exfalso; omega)

theorem rowA {v : FVec Ideal S1x1280 .f32} {F : ℕ → ℝ} (hv : Is v fun j => F (j 1).val) (z) (hz : z = constant S_ .f32 0x00000000#32) (h hu) :
    Is (S := S4x1280) (φ := .f32) (pad S4x1280 ![3, 0] ![0, 0] ![0, 0] v z h hu)
      fun j => if (j 0).val = 3 then F (j 1).val else 0 := by
  intro j
  subst hz
  pointwise
  have h1 : (j 0).val < 4 := (j 0).isLt
  have hz : (0 : EReal) = ((0 : ℝ) : EReal) := EReal.coe_zero.symm
  split_ifs <;> first | exact hv _ | exact hz | (exfalso; omega)

theorem rowB {v : FVec Ideal S1x1280 .f32} {F : ℕ → ℝ} (hv : Is v fun j => F (j 1).val) (z) (hz : z = constant S_ .f32 0x00000000#32) (h hu) :
    Is (S := S4x1280) (φ := .f32) (pad S4x1280 ![2, 0] ![1, 0] ![0, 0] v z h hu)
      fun j => if (j 0).val = 2 then F (j 1).val else 0 := by
  intro j
  subst hz
  pointwise
  have h1 : (j 0).val < 4 := (j 0).isLt
  have hz : (0 : EReal) = ((0 : ℝ) : EReal) := EReal.coe_zero.symm
  split_ifs <;> first | exact hv _ | exact hz | (exfalso; omega)

theorem rowC {v : FVec Ideal S1x1280 .f32} {F : ℕ → ℝ} (hv : Is v fun j => F (j 1).val) (z) (hz : z = constant S_ .f32 0x00000000#32) (h hu) :
    Is (S := S4x1280) (φ := .f32) (pad S4x1280 ![1, 0] ![2, 0] ![0, 0] v z h hu)
      fun j => if (j 0).val = 1 then F (j 1).val else 0 := by
  intro j
  subst hz
  pointwise
  have h1 : (j 0).val < 4 := (j 0).isLt
  have hz : (0 : EReal) = ((0 : ℝ) : EReal) := EReal.coe_zero.symm
  split_ifs <;> first | exact hv _ | exact hz | (exfalso; omega)

theorem rowD {v : FVec Ideal S1x1280 .f32} {F : ℕ → ℝ} (hv : Is v fun j => F (j 1).val) (z) (hz : z = constant S_ .f32 0x00000000#32) (h hu) :
    Is (S := S4x1280) (φ := .f32) (pad S4x1280 ![0, 0] ![3, 0] ![0, 0] v z h hu)
      fun j => if (j 0).val = 0 then F (j 1).val else 0 := by
  intro j
  subst hz
  pointwise
  have h1 : (j 0).val < 4 := (j 0).isLt
  have hz : (0 : EReal) = ((0 : ℝ) : EReal) := EReal.coe_zero.symm
  split_ifs <;> first | exact hv _ | exact hz | (exfalso; omega)

theorem cat3 {x : FVec Ideal S2x3x1280 .f32} {y : FVec Ideal S2x2048x1280 .f32} {F G : ℕ → ℕ → ℕ → ℝ}
    (hx : Is x fun j => F (j 0).val (j 1).val (j 2).val) (hy : Is y fun j => G (j 0).val (j 1).val (j 2).val) (h) :
    Is (S := S2x2051x1280) (φ := .f32) (concatenate S2x2051x1280 1 [⟨S2x3x1280, x⟩, ⟨S2x2048x1280, y⟩] h)
      fun j => if (j 1).val < 3 then F (j 0).val (j 1).val (j 2).val else G (j 0).val ((j 1).val - 3) (j 2).val := by
  intro j
  pointwise
  have h1 : (j 1).val < 2051 := (j 1).isLt
  split_ifs <;> first | exact hx _ | exact hy _ | (exfalso; omega)

/-- The first columns and the last, of two halves. -/
theorem cat12 (x y : FVec Ideal S2x2048x1280 .bf16) (h) (j : S2x2048x2560.Idx) :
    concatenate S2x2048x2560 2 [⟨S2x2048x1280, x⟩, ⟨S2x2048x1280, y⟩] h j
      = if hj : (j 2).val < 1280 then x (ix3 (j 0) (j 1) ⟨(j 2).val, hj⟩)
        else y (ix3 (j 0) (j 1) ⟨(j 2).val - 1280, by have : (j 2).val < 2560 := (j 2).isLt; omega⟩) := by
  pointwise

/-- Columns written behind and cut off again. -/
theorem padcut (v : FVec Ideal S2x2048x1280 .bf16) (z : FVec Ideal S_ .bf16) (h hu k) (j : S2x2048x1280.Idx) :
    extractStridedSlice S2x2048x1280 ![0, 0, 0] (pad S2x2048x9728 ![0, 0, 0] ![0, 0, 8448] ![0, 0, 0] v z h hu) k j = v j := by
  pointwise

/-! Reshapes. -/

theorem eq4 (F : ℕ → ℕ → ℕ → ℕ → ℝ) {a a' b b' c c' d d' : ℕ} (ha : a = a') (hb : b = b') (hc : c = c') (hd : d = d') : F a b c d = F a' b' c' d' := by
  rw [ha, hb, hc, hd]

theorem eq3 (F : ℕ → ℕ → ℕ → ℝ) {a a' b b' c c' : ℕ} (ha : a = a') (hb : b = b') (hc : c = c') : F a b c = F a' b' c' := by
  rw [ha, hb, hc]

theorem split4 {v : FVec Ideal S2x2048x1280 .f32} {w : FVec Ideal S2x2048x10x128 .f32} (F : ℕ → ℕ → ℕ → ℝ) (hv : Is v fun j => F (j 0).val (j 1).val (j 2).val)
    (e : ∀ i, w i = v (idx_main_v35 i)) : Is w fun j => F (j 0).val (j 1).val ((j 2).val * 128 + (j 3).val) := fun i => by
  have h0 : (i 0).val < 2 := (i 0).isLt
  have h1 : (i 1).val < 2048 := (i 1).isLt
  have h2 : (i 2).val < 10 := (i 2).isLt
  have h3 : (i 3).val < 128 := (i 3).isLt
  refine (e i).trans ((hv _).trans (congrArg _ (eq3 F ?_ ?_ ?_)))
  · show (_ : ℕ) / _ = _; omega
  · show (_ : ℕ) % _ = _; omega
  · show (_ : ℕ) % _ = _; omega

theorem merge4 {v : FVec Ideal S2x2048x10x128 .f32} {w : FVec Ideal S2x2048x1280 .f32} (F : ℕ → ℕ → ℕ → ℕ → ℝ) (hv : Is v fun j => F (j 0).val (j 1).val (j 2).val (j 3).val)
    (e : ∀ i, w i = v (idx_main_v40 i)) : Is w fun j => F (j 0).val (j 1).val ((j 2).val / 128) ((j 2).val % 128) := fun i => by
  have h0 : (i 0).val < 2 := (i 0).isLt
  have h1 : (i 1).val < 2048 := (i 1).isLt
  have h2 : (i 2).val < 1280 := (i 2).isLt
  refine (e i).trans ((hv _).trans (congrArg _ (eq4 F ?_ ?_ ?_ ?_)))
  · show (_ : ℕ) / _ = _; omega
  · show (_ : ℕ) % _ = _; omega
  · show (_ : ℕ) % _ = _; omega
  · show (_ : ℕ) % _ = _; omega

theorem row1 {v : FVec Ideal S1x1280 .f32} {w : FVec Ideal S1280 .f32} (F : ℕ → ℝ) (hv : Is v fun j => F (j 1).val)
    (e : ∀ i, w i = v (idx_main_v7 i)) : Is w fun j => F (j 0).val := fun i => by
  have h0 : (i 0).val < 1280 := (i 0).isLt
  refine (e i).trans ((hv _).trans (congrArg _ (congrArg F ?_)))
  show (_ : ℕ) % _ = _; omega

theorem vec3 {v : FVec Ideal S1280 .f32} {w : FVec Ideal S1x1x1280 .f32} (F : ℕ → ℝ) (hv : Is v fun j => F (j 0).val)
    (e : ∀ i, w i = v (idx_main_v138 i)) : Is w fun j => F (j 2).val := fun i => by
  have h0 : (i 0).val < 1 := (i 0).isLt
  have h1 : (i 1).val < 1 := (i 1).isLt
  refine (e i).trans ((hv _).trans (congrArg _ (congrArg F ?_)))
  show (_ : ℕ) * _ + _ = _; omega

theorem col1 {v : FVec Ideal S2x2048x1280 .f32} {w : FVec Ideal S2x1x2048x1280 .f32} (F : ℕ → ℕ → ℕ → ℝ) (hv : Is v fun j => F (j 0).val (j 1).val (j 2).val)
    (e : ∀ i, w i = v (idx_main_v108 i)) : Is w fun j => F (j 0).val (j 2).val (j 3).val := fun i => by
  have h0 : (i 0).val < 2 := (i 0).isLt
  have h1 : (i 1).val < 1 := (i 1).isLt
  have h2 : (i 2).val < 2048 := (i 2).isLt
  have h3 : (i 3).val < 1280 := (i 3).isLt
  refine (e i).trans ((hv _).trans (congrArg _ (eq3 F ?_ ?_ ?_)))
  · show (_ : ℕ) / _ = _; omega
  · show (_ : ℕ) % _ = _; omega
  · show (_ : ℕ) % _ = _; omega

theorem col2 {v : FVec Ideal S2x2048x1280 .f32} {w : FVec Ideal S2x2048x1x1280 .f32} (F : ℕ → ℕ → ℕ → ℝ) (hv : Is v fun j => F (j 0).val (j 1).val (j 2).val)
    (e : ∀ i, w i = v (idx_main_v115 i)) : Is w fun j => F (j 0).val (j 1).val (j 3).val := fun i => by
  have h0 : (i 0).val < 2 := (i 0).isLt
  have h1 : (i 1).val < 2048 := (i 1).isLt
  have h2 : (i 2).val < 1 := (i 2).isLt
  have h3 : (i 3).val < 1280 := (i 3).isLt
  refine (e i).trans ((hv _).trans (congrArg _ (eq3 F ?_ ?_ ?_)))
  · show (_ : ℕ) / _ = _; omega
  · show (_ : ℕ) % _ = _; omega
  · show (_ : ℕ) % _ = _; omega

/-! Comparisons and choices. -/

theorem pick {m : S.Idx → BitVec 1} {v w : FVec Ideal S φ} {g : S.Idx → ℝ} (hm : ∀ i, m i = 0#1) (hw : Is w g) : Is (select m v w) g := fun i => by
  show (if m i = 1 then v i else w i) = _
  rw [hm i, if_neg (by decide)]; exact hw i

theorem une_self {x : EReal} : Ideal.cmp .une x x = 0#1 := by simp [Ideal.cmp]

theorem oeq_inf {x : EReal} {y : ℝ} (h : x = (y : EReal)) {z : EReal} (hz : z = ⊤) : Ideal.cmp .oeq x z = 0#1 := by
  subst h hz; simp [Ideal.cmp]

theorem softplus_is {v m l : FVec Ideal S φ} {f : S.Idx → ℝ} (hv : Is v f) (hz : Is m fun _ => (0 : ℝ)) (hl : l = subf v m) :
    Is (addf (maximumf v m) (Host.log1p (Host.exp (Host.negf (Host.absf l))))) fun i => In.softplus (f i) := by
  subst hl
  have h1 := hv.subf hz
  have h2 : Is (Host.absf (subf v m)) fun i => |f i - 0| := fun i => by
    show max (subf v m i) (-(subf v m i)) = _
    rw [h1 i, ← EReal.coe_neg, coe_max]; rfl
  have h3 := h2.hnegf.hexp
  have h4 : Is (Host.log1p (Host.exp (Host.negf (Host.absf (subf v m))))) fun i => Real.log (1 + Real.exp (-|f i - 0|)) := fun i => by
    show Ideal.log1p (Host.exp (Host.negf (Host.absf (subf v m))) i) = _
    rw [h3 i, coe_log1p (Real.exp_pos _).le]
  refine ((hv.maxf hz).addf h4).congr fun i => ?_
  rw [In.softplus, sub_zero]

end Cert.Proof.Ref

end
-- ==== Proof.RefF.lean ====
module

public import proofs.«01_k».proof.Proof.HKit

@[expose] public section

set_option maxRecDepth 16384

/-! # The reference's forward lines on real contents -/

noncomputable section

namespace Cert.Proof.Ref

open Idealize.ShloMosaic Cert.ReferenceIdeal Cert.ReferenceIdeal.Gen Cert.ReferenceIdeal.Read

/-- The arguments hold the real numbers of `I`. -/
structure Args (I : In) (x0 : (⟨S2x2048x9728, .bf16⟩ : BufTy).Contents (Elt Ideal)) (x1 : (⟨S4x1280, .f32⟩ : BufTy).Contents (Elt Ideal))
    (x2 : (⟨S1x1280, .f32⟩ : BufTy).Contents (Elt Ideal)) (x3 : (⟨S10x128x128, .f32⟩ : BufTy).Contents (Elt Ideal))
    (x4 : (⟨S1x1280, .f32⟩ : BufTy).Contents (Elt Ideal)) (x5 : (⟨S10x128x128, .f32⟩ : BufTy).Contents (Elt Ideal))
    (x6 x7 : (⟨S1x1280, .f32⟩ : BufTy).Contents (Elt Ideal)) (x8 : (⟨S2x2048x1280, .f32⟩ : BufTy).Contents (Elt Ideal)) : Prop where
  x0 : ∀ j, (j 2).val < 1280 → x0 j = ((I.X (j 0).val (j 1).val (j 2).val : ℝ) : EReal)
  x1 : Is (S := S4x1280) (φ := .f32) x1 fun j => I.CW (j 0).val (j 1).val
  x2 : Is (S := S1x1280) (φ := .f32) x2 fun j => I.CB (j 1).val
  x3 : Is (S := S10x128x128) (φ := .f32) x3 fun j => I.WA (j 0).val (j 1).val (j 2).val
  x4 : Is (S := S1x1280) (φ := .f32) x4 fun j => I.BA (j 1).val
  x5 : Is (S := S10x128x128) (φ := .f32) x5 fun j => I.WX (j 0).val (j 1).val (j 2).val
  x6 : Is (S := S1x1280) (φ := .f32) x6 fun j => I.BX (j 1).val
  x7 : Is (S := S1x1280) (φ := .f32) x7 fun j => I.LAM (j 1).val
  x8 : Is (S := S2x2048x1280) (φ := .f32) x8 fun j => I.DH (j 0).val (j 1).val (j 2).val

variable {I : In} {x0 : (⟨S2x2048x9728, .bf16⟩ : BufTy).Contents (Elt Ideal)} {x1 : (⟨S4x1280, .f32⟩ : BufTy).Contents (Elt Ideal)}
  {x2 : (⟨S1x1280, .f32⟩ : BufTy).Contents (Elt Ideal)} {x3 : (⟨S10x128x128, .f32⟩ : BufTy).Contents (Elt Ideal)}
  {x4 : (⟨S1x1280, .f32⟩ : BufTy).Contents (Elt Ideal)} {x5 : (⟨S10x128x128, .f32⟩ : BufTy).Contents (Elt Ideal)}
  {x6 x7 : (⟨S1x1280, .f32⟩ : BufTy).Contents (Elt Ideal)} {x8 : (⟨S2x2048x1280, .f32⟩ : BufTy).Contents (Elt Ideal)}

theorem v0_is (A : Args I x0 x1 x2 x3 x4 x5 x6 x7 x8) :
    Is (S := S2x2048x1280) (φ := .bf16) (val_main_v0 (F := Ideal) x0) fun j => I.X (j 0).val (j 1).val (j 2).val :=
  fun i => (val_main_v0_apply x0 i).trans (A.x0 _ (i 2).isLt)

theorem v1_is (A : Args I x0 x1 x2 x3 x4 x5 x6 x7 x8) :
    Is (S := S2x2048x1280) (φ := .f32) (val_main_v1 (F := Ideal) x0) fun j => I.X (j 0).val (j 1).val (j 2).val :=
  Is.extf bitsLt_bf16_f32 (v0_is A)

theorem v2_is (A : Args I x0 x1 x2 x3 x4 x5 x6 x7 x8) :
    Is (S := S2x3x1280) (φ := .f32) (val_main_v2 (F := Ideal)) fun j => (0 : ℝ) :=
  fun i => ((val_main_v2_apply) i).trans lit_zero

theorem v3_is (A : Args I x0 x1 x2 x3 x4 x5 x6 x7 x8) :
    Is (S := S2x2051x1280) (φ := .f32) (val_main_v3 (F := Ideal) x0) fun j => I.xp (j 0).val (j 1).val (j 2).val :=
  cat3 (F := fun _ _ _ => 0) (G := fun b t c => I.X b t c) (v2_is A) (v1_is A) _

theorem v5_is (A : Args I x0 x1 x2 x3 x4 x5 x6 x7 x8) :
    Is (S := S1x1x1280) (φ := .f32) (val_main_v5 (F := Ideal) x2) fun j => I.CB (j 2).val :=
  lay (idx_main_v5) A.x2 (val_main_v5_apply x2)

theorem v6_is (A : Args I x0 x1 x2 x3 x4 x5 x6 x7 x8) :
    Is (S := S1x1280) (φ := .f32) (val_main_v6 (F := Ideal) x1) fun j => I.CW 0 (j 1).val :=
  (lay (idx_main_v6) A.x1 (val_main_v6_apply x1)).congr fun j => by
    have h0 : (j 0).val < 1 := (j 0).isLt
    show I.CW (j 0).val _ = I.CW 0 _
    exact congrArg (fun k => I.CW k _) (show (j 0).val = 0 by omega)

theorem v7_is (A : Args I x0 x1 x2 x3 x4 x5 x6 x7 x8) :
    Is (S := S1280) (φ := .f32) (val_main_v7 (F := Ideal) x1) fun j => I.CW 0 (j 0).val :=
  row1 (fun c => I.CW 0 c) (v6_is A) (val_main_v7_apply x1)

theorem v8_is (A : Args I x0 x1 x2 x3 x4 x5 x6 x7 x8) :
    Is (S := S1x1x1280) (φ := .f32) (val_main_v8 (F := Ideal) x1) fun j => I.CW 0 (j 2).val :=
  lay (idx_main_v8) (v7_is A) (val_main_v8_apply x1)

theorem v9_is (A : Args I x0 x1 x2 x3 x4 x5 x6 x7 x8) :
    Is (S := S2x2048x1280) (φ := .f32) (val_main_v9 (F := Ideal) x0) fun j => I.xp (j 0).val ((j 1).val + 0) (j 2).val :=
  (lay (idx_main_v9) (v3_is A) (val_main_v9_apply x0)).congr fun j => rfl

theorem v10_is (A : Args I x0 x1 x2 x3 x4 x5 x6 x7 x8) :
    Is (S := S2x2048x1280) (φ := .f32) (val_main_v10 (F := Ideal) x1) fun j => I.CW 0 (j 2).val :=
  lay (idx_main_v10) (v8_is A) (val_main_v10_apply x1)

theorem v11_is (A : Args I x0 x1 x2 x3 x4 x5 x6 x7 x8) :
    Is (S := S2x2048x1280) (φ := .f32) (val_main_v11 (F := Ideal) x0 x1) fun j => (I.CW 0 (j 2).val * I.xp (j 0).val ((j 1).val + 0) (j 2).val) :=
  Is.mulf (v10_is A) (v9_is A)

theorem v12_is (A : Args I x0 x1 x2 x3 x4 x5 x6 x7 x8) :
    Is (S := S2x2048x1280) (φ := .f32) (val_main_v12 (F := Ideal) x2) fun j => I.CB (j 2).val :=
  lay (idx_main_v12) (v5_is A) (val_main_v12_apply x2)

theorem v13_is (A : Args I x0 x1 x2 x3 x4 x5 x6 x7 x8) :
    Is (S := S2x2048x1280) (φ := .f32) (val_main_v13 (F := Ideal) x0 x1 x2) fun j => (I.CB (j 2).val + (I.CW 0 (j 2).val * I.xp (j 0).val ((j 1).val + 0) (j 2).val)) :=
  Is.addf (v12_is A) (v11_is A)

theorem v14_is (A : Args I x0 x1 x2 x3 x4 x5 x6 x7 x8) :
    Is (S := S1x1280) (φ := .f32) (val_main_v14 (F := Ideal) x1) fun j => I.CW 1 (j 1).val :=
  (lay (idx_main_v14) A.x1 (val_main_v14_apply x1)).congr fun j => by
    have h0 : (j 0).val < 1 := (j 0).isLt
    show I.CW (1 + (j 0).val) _ = I.CW 1 _
    exact congrArg (fun k => I.CW k _) (show (1 + (j 0).val) = 1 by omega)

theorem v15_is (A : Args I x0 x1 x2 x3 x4 x5 x6 x7 x8) :
    Is (S := S1280) (φ := .f32) (val_main_v15 (F := Ideal) x1) fun j => I.CW 1 (j 0).val :=
  row1 (fun c => I.CW 1 c) (v14_is A) (val_main_v15_apply x1)

theorem v16_is (A : Args I x0 x1 x2 x3 x4 x5 x6 x7 x8) :
    Is (S := S1x1x1280) (φ := .f32) (val_main_v16 (F := Ideal) x1) fun j => I.CW 1 (j 2).val :=
  lay (idx_main_v16) (v15_is A) (val_main_v16_apply x1)

theorem v17_is (A : Args I x0 x1 x2 x3 x4 x5 x6 x7 x8) :
    Is (S := S2x2048x1280) (φ := .f32) (val_main_v17 (F := Ideal) x0) fun j => I.xp (j 0).val ((j 1).val + 1) (j 2).val :=
  (lay (idx_main_v17) (v3_is A) (val_main_v17_apply x0)).congr fun j => by
    show I.xp _ (1 + _) _ = _; rw [Nat.add_comm]

theorem v18_is (A : Args I x0 x1 x2 x3 x4 x5 x6 x7 x8) :
    Is (S := S2x2048x1280) (φ := .f32) (val_main_v18 (F := Ideal) x1) fun j => I.CW 1 (j 2).val :=
  lay (idx_main_v18) (v16_is A) (val_main_v18_apply x1)

theorem v19_is (A : Args I x0 x1 x2 x3 x4 x5 x6 x7 x8) :
    Is (S := S2x2048x1280) (φ := .f32) (val_main_v19 (F := Ideal) x0 x1) fun j => (I.CW 1 (j 2).val * I.xp (j 0).val ((j 1).val + 1) (j 2).val) :=
  Is.mulf (v18_is A) (v17_is A)

theorem v20_is (A : Args I x0 x1 x2 x3 x4 x5 x6 x7 x8) :
    Is (S := S2x2048x1280) (φ := .f32) (val_main_v20 (F := Ideal) x0 x1 x2) fun j => ((I.CB (j 2).val + (I.CW 0 (j 2).val * I.xp (j 0).val ((j 1).val + 0) (j 2).val)) + (I.CW 1 (j 2).val * I.xp (j 0).val ((j 1).val + 1) (j 2).val)) :=
  Is.addf (v13_is A) (v19_is A)

theorem v21_is (A : Args I x0 x1 x2 x3 x4 x5 x6 x7 x8) :
    Is (S := S1x1280) (φ := .f32) (val_main_v21 (F := Ideal) x1) fun j => I.CW 2 (j 1).val :=
  (lay (idx_main_v21) A.x1 (val_main_v21_apply x1)).congr fun j => by
    have h0 : (j 0).val < 1 := (j 0).isLt
    show I.CW (2 + (j 0).val) _ = I.CW 2 _
    exact congrArg (fun k => I.CW k _) (show (2 + (j 0).val) = 2 by omega)

theorem v22_is (A : Args I x0 x1 x2 x3 x4 x5 x6 x7 x8) :
    Is (S := S1280) (φ := .f32) (val_main_v22 (F := Ideal) x1) fun j => I.CW 2 (j 0).val :=
  row1 (fun c => I.CW 2 c) (v21_is A) (val_main_v22_apply x1)

theorem v23_is (A : Args I x0 x1 x2 x3 x4 x5 x6 x7 x8) :
    Is (S := S1x1x1280) (φ := .f32) (val_main_v23 (F := Ideal) x1) fun j => I.CW 2 (j 2).val :=
  lay (idx_main_v23) (v22_is A) (val_main_v23_apply x1)

theorem v24_is (A : Args I x0 x1 x2 x3 x4 x5 x6 x7 x8) :
    Is (S := S2x2048x1280) (φ := .f32) (val_main_v24 (F := Ideal) x0) fun j => I.xp (j 0).val ((j 1).val + 2) (j 2).val :=
  (lay (idx_main_v24) (v3_is A) (val_main_v24_apply x0)).congr fun j => by
    show I.xp _ (2 + _) _ = _; rw [Nat.add_comm]

theorem v25_is (A : Args I x0 x1 x2 x3 x4 x5 x6 x7 x8) :
    Is (S := S2x2048x1280) (φ := .f32) (val_main_v25 (F := Ideal) x1) fun j => I.CW 2 (j 2).val :=
  lay (idx_main_v25) (v23_is A) (val_main_v25_apply x1)

theorem v26_is (A : Args I x0 x1 x2 x3 x4 x5 x6 x7 x8) :
    Is (S := S2x2048x1280) (φ := .f32) (val_main_v26 (F := Ideal) x0 x1) fun j => (I.CW 2 (j 2).val * I.xp (j 0).val ((j 1).val + 2) (j 2).val) :=
  Is.mulf (v25_is A) (v24_is A)

theorem v27_is (A : Args I x0 x1 x2 x3 x4 x5 x6 x7 x8) :
    Is (S := S2x2048x1280) (φ := .f32) (val_main_v27 (F := Ideal) x0 x1 x2) fun j => (((I.CB (j 2).val + (I.CW 0 (j 2).val * I.xp (j 0).val ((j 1).val + 0) (j 2).val)) + (I.CW 1 (j 2).val * I.xp (j 0).val ((j 1).val + 1) (j 2).val)) + (I.CW 2 (j 2).val * I.xp (j 0).val ((j 1).val + 2) (j 2).val)) :=
  Is.addf (v20_is A) (v26_is A)

theorem v28_is (A : Args I x0 x1 x2 x3 x4 x5 x6 x7 x8) :
    Is (S := S1x1280) (φ := .f32) (val_main_v28 (F := Ideal) x1) fun j => I.CW 3 (j 1).val :=
  (lay (idx_main_v28) A.x1 (val_main_v28_apply x1)).congr fun j => by
    have h0 : (j 0).val < 1 := (j 0).isLt
    show I.CW (3 + (j 0).val) _ = I.CW 3 _
    exact congrArg (fun k => I.CW k _) (show (3 + (j 0).val) = 3 by omega)

theorem v29_is (A : Args I x0 x1 x2 x3 x4 x5 x6 x7 x8) :
    Is (S := S1280) (φ := .f32) (val_main_v29 (F := Ideal) x1) fun j => I.CW 3 (j 0).val :=
  row1 (fun c => I.CW 3 c) (v28_is A) (val_main_v29_apply x1)

theorem v30_is (A : Args I x0 x1 x2 x3 x4 x5 x6 x7 x8) :
    Is (S := S1x1x1280) (φ := .f32) (val_main_v30 (F := Ideal) x1) fun j => I.CW 3 (j 2).val :=
  lay (idx_main_v30) (v29_is A) (val_main_v30_apply x1)

theorem v31_is (A : Args I x0 x1 x2 x3 x4 x5 x6 x7 x8) :
    Is (S := S2x2048x1280) (φ := .f32) (val_main_v31 (F := Ideal) x0) fun j => I.xp (j 0).val ((j 1).val + 3) (j 2).val :=
  (lay (idx_main_v31) (v3_is A) (val_main_v31_apply x0)).congr fun j => by
    show I.xp _ (3 + _) _ = _; rw [Nat.add_comm]

theorem v32_is (A : Args I x0 x1 x2 x3 x4 x5 x6 x7 x8) :
    Is (S := S2x2048x1280) (φ := .f32) (val_main_v32 (F := Ideal) x1) fun j => I.CW 3 (j 2).val :=
  lay (idx_main_v32) (v30_is A) (val_main_v32_apply x1)

theorem v33_is (A : Args I x0 x1 x2 x3 x4 x5 x6 x7 x8) :
    Is (S := S2x2048x1280) (φ := .f32) (val_main_v33 (F := Ideal) x0 x1) fun j => (I.CW 3 (j 2).val * I.xp (j 0).val ((j 1).val + 3) (j 2).val) :=
  Is.mulf (v32_is A) (v31_is A)

theorem v34_is (A : Args I x0 x1 x2 x3 x4 x5 x6 x7 x8) :
    Is (S := S2x2048x1280) (φ := .f32) (val_main_v34 (F := Ideal) x0 x1 x2) fun j => I.xc (j 0).val (j 1).val (j 2).val :=
  (Is.addf (v27_is A) (v33_is A)).congr fun j => rfl

theorem v35_is (A : Args I x0 x1 x2 x3 x4 x5 x6 x7 x8) :
    Is (S := S2x2048x10x128) (φ := .f32) (val_main_v35 (F := Ideal) x0 x1 x2) fun j => I.xc (j 0).val (j 1).val ((j 2).val * 128 + (j 3).val) :=
  split4 (fun a b c => I.xc a b c) (v34_is A) (val_main_v35_apply x0 x1 x2)

theorem v36_is (A : Args I x0 x1 x2 x3 x4 x5 x6 x7 x8) :
    Is (S := S10x128x2x2048) (φ := .f32) (val_main_v36 (F := Ideal) x0 x1 x2 x3) fun j => (∑ k ∈ Finset.range 128, I.WA (j 0).val k (j 1).val * I.xc (j 2).val (j 3).val ((j 0).val * 128 + k)) :=
  hdot (fun i k => I.WA ((i 0).val) k ((i 1).val)) (fun i k => I.xc ((i 2).val) ((i 3).val) (((i 0).val) * 128 + k)) A.x3 (v35_is A) (val_main_v36_apply x0 x1 x2 x3) (fun _ _ => rfl) fun _ _ => rfl

theorem v37_is (A : Args I x0 x1 x2 x3 x4 x5 x6 x7 x8) :
    Is (S := S2x2048x10x128) (φ := .f32) (val_main_v37 (F := Ideal) x0 x1 x2 x3) fun j => (∑ k ∈ Finset.range 128, I.WA (j 2).val k (j 3).val * I.xc (j 0).val (j 1).val ((j 2).val * 128 + k)) :=
  lay (idx_main_v37) (v36_is A) (val_main_v37_apply x0 x1 x2 x3)

theorem v38_is (A : Args I x0 x1 x2 x3 x4 x5 x6 x7 x8) :
    Is (S := S10x128x2x2048) (φ := .f32) (val_main_v38 (F := Ideal) x0 x1 x2 x5) fun j => (∑ k ∈ Finset.range 128, I.WX (j 0).val k (j 1).val * I.xc (j 2).val (j 3).val ((j 0).val * 128 + k)) :=
  hdot (fun i k => I.WX ((i 0).val) k ((i 1).val)) (fun i k => I.xc ((i 2).val) ((i 3).val) (((i 0).val) * 128 + k)) A.x5 (v35_is A) (val_main_v38_apply x0 x1 x2 x5) (fun _ _ => rfl) fun _ _ => rfl

theorem v39_is (A : Args I x0 x1 x2 x3 x4 x5 x6 x7 x8) :
    Is (S := S2x2048x10x128) (φ := .f32) (val_main_v39 (F := Ideal) x0 x1 x2 x5) fun j => (∑ k ∈ Finset.range 128, I.WX (j 2).val k (j 3).val * I.xc (j 0).val (j 1).val ((j 2).val * 128 + k)) :=
  lay (idx_main_v39) (v38_is A) (val_main_v39_apply x0 x1 x2 x5)

theorem v40_is (A : Args I x0 x1 x2 x3 x4 x5 x6 x7 x8) :
    Is (S := S2x2048x1280) (φ := .f32) (val_main_v40 (F := Ideal) x0 x1 x2 x3) fun j => In.blockMul (I.xc (j 0).val (j 1).val) I.WA (j 2).val :=
  (merge4 (fun a b c d => (∑ k ∈ Finset.range 128, I.WA c k d * I.xc a b (c * 128 + k))) (v37_is A) (val_main_v40_apply x0 x1 x2 x3)).congr fun j => by
    exact Finset.sum_congr rfl fun k _ => mul_comm _ _

theorem v41_is (A : Args I x0 x1 x2 x3 x4 x5 x6 x7 x8) :
    Is (S := S1x1x1280) (φ := .f32) (val_main_v41 (F := Ideal) x4) fun j => I.BA (j 2).val :=
  lay (idx_main_v41) A.x4 (val_main_v41_apply x4)

theorem v42_is (A : Args I x0 x1 x2 x3 x4 x5 x6 x7 x8) :
    Is (S := S2x2048x1280) (φ := .f32) (val_main_v42 (F := Ideal) x4) fun j => I.BA (j 2).val :=
  lay (idx_main_v42) (v41_is A) (val_main_v42_apply x4)

theorem v43_is (A : Args I x0 x1 x2 x3 x4 x5 x6 x7 x8) :
    Is (S := S2x2048x1280) (φ := .f32) (val_main_v43 (F := Ideal) x0 x1 x2 x3 x4) fun j => (In.blockMul (I.xc (j 0).val (j 1).val) I.WA (j 2).val + I.BA (j 2).val) :=
  Is.addf (v40_is A) (v42_is A)

theorem v44_is (A : Args I x0 x1 x2 x3 x4 x5 x6 x7 x8) :
    Is (S := S2x2048x1280) (φ := .f32) (val_main_v44 (F := Ideal) x0 x1 x2 x3 x4) fun j => (-(In.blockMul (I.xc (j 0).val (j 1).val) I.WA (j 2).val + I.BA (j 2).val)) :=
  Is.hnegf (v43_is A)

theorem v45_is (A : Args I x0 x1 x2 x3 x4 x5 x6 x7 x8) :
    Is (S := S2x2048x1280) (φ := .f32) (val_main_v45 (F := Ideal) x0 x1 x2 x3 x4) fun j => Real.exp ((-(In.blockMul (I.xc (j 0).val (j 1).val) I.WA (j 2).val + I.BA (j 2).val))) :=
  Is.hexp (v44_is A)

theorem v46_is (A : Args I x0 x1 x2 x3 x4 x5 x6 x7 x8) :
    Is (S := S2x2048x1280) (φ := .f32) (val_main_v46 (F := Ideal)) fun j => (1 : ℝ) :=
  fun i => ((val_main_v46_apply) i).trans lit_one

theorem v47_is (A : Args I x0 x1 x2 x3 x4 x5 x6 x7 x8) :
    Is (S := S2x2048x1280) (φ := .f32) (val_main_v47 (F := Ideal) x0 x1 x2 x3 x4) fun j => ((1 : ℝ) + Real.exp ((-(In.blockMul (I.xc (j 0).val (j 1).val) I.WA (j 2).val + I.BA (j 2).val)))) :=
  Is.addf (v46_is A) (v45_is A)

theorem v48_is (A : Args I x0 x1 x2 x3 x4 x5 x6 x7 x8) :
    Is (S := S2x2048x1280) (φ := .f32) (val_main_v48 (F := Ideal)) fun j => (1 : ℝ) :=
  fun i => ((val_main_v48_apply) i).trans lit_one

theorem v49_is (A : Args I x0 x1 x2 x3 x4 x5 x6 x7 x8) :
    Is (S := S2x2048x1280) (φ := .f32) (val_main_v49 (F := Ideal) x0 x1 x2 x3 x4) fun j => I.r (j 0).val (j 1).val (j 2).val :=
  (Is.hdivf (v48_is A) (v47_is A) fun j => (by positivity)).congr fun j => rfl

theorem v50_is (A : Args I x0 x1 x2 x3 x4 x5 x6 x7 x8) :
    Is (S := S2x2048x1280) (φ := .f32) (val_main_v50 (F := Ideal)) fun j => (1 : ℝ) :=
  fun i => ((val_main_v50_apply) i).trans lit_one

theorem v51_is (A : Args I x0 x1 x2 x3 x4 x5 x6 x7 x8) :
    Is (S := S2x2048x1280) (φ := .f32) (val_main_v51 (F := Ideal) x0 x1 x2 x3 x4) fun j => ((1 : ℝ) - I.r (j 0).val (j 1).val (j 2).val) :=
  Is.subf (v50_is A) (v49_is A)

theorem v52_is (A : Args I x0 x1 x2 x3 x4 x5 x6 x7 x8) :
    Is (S := S2x2048x1280) (φ := .f32) (val_main_v52 (F := Ideal) x0 x1 x2 x3 x4) fun j => (I.r (j 0).val (j 1).val (j 2).val * ((1 : ℝ) - I.r (j 0).val (j 1).val (j 2).val)) :=
  Is.mulf (v49_is A) (v51_is A)

theorem v53_is (A : Args I x0 x1 x2 x3 x4 x5 x6 x7 x8) :
    Is (S := S2x2048x1280) (φ := .f32) (val_main_v53 (F := Ideal) x0 x1 x2 x5) fun j => In.blockMul (I.xc (j 0).val (j 1).val) I.WX (j 2).val :=
  (merge4 (fun a b c d => (∑ k ∈ Finset.range 128, I.WX c k d * I.xc a b (c * 128 + k))) (v39_is A) (val_main_v53_apply x0 x1 x2 x5)).congr fun j => by
    exact Finset.sum_congr rfl fun k _ => mul_comm _ _

theorem v54_is (A : Args I x0 x1 x2 x3 x4 x5 x6 x7 x8) :
    Is (S := S1x1x1280) (φ := .f32) (val_main_v54 (F := Ideal) x6) fun j => I.BX (j 2).val :=
  lay (idx_main_v54) A.x6 (val_main_v54_apply x6)

theorem v55_is (A : Args I x0 x1 x2 x3 x4 x5 x6 x7 x8) :
    Is (S := S2x2048x1280) (φ := .f32) (val_main_v55 (F := Ideal) x6) fun j => I.BX (j 2).val :=
  lay (idx_main_v55) (v54_is A) (val_main_v55_apply x6)

theorem v56_is (A : Args I x0 x1 x2 x3 x4 x5 x6 x7 x8) :
    Is (S := S2x2048x1280) (φ := .f32) (val_main_v56 (F := Ideal) x0 x1 x2 x5 x6) fun j => (In.blockMul (I.xc (j 0).val (j 1).val) I.WX (j 2).val + I.BX (j 2).val) :=
  Is.addf (v53_is A) (v55_is A)

theorem v57_is (A : Args I x0 x1 x2 x3 x4 x5 x6 x7 x8) :
    Is (S := S2x2048x1280) (φ := .f32) (val_main_v57 (F := Ideal) x0 x1 x2 x5 x6) fun j => (-(In.blockMul (I.xc (j 0).val (j 1).val) I.WX (j 2).val + I.BX (j 2).val)) :=
  Is.hnegf (v56_is A)

theorem v58_is (A : Args I x0 x1 x2 x3 x4 x5 x6 x7 x8) :
    Is (S := S2x2048x1280) (φ := .f32) (val_main_v58 (F := Ideal) x0 x1 x2 x5 x6) fun j => Real.exp ((-(In.blockMul (I.xc (j 0).val (j 1).val) I.WX (j 2).val + I.BX (j 2).val))) :=
  Is.hexp (v57_is A)

theorem v59_is (A : Args I x0 x1 x2 x3 x4 x5 x6 x7 x8) :
    Is (S := S2x2048x1280) (φ := .f32) (val_main_v59 (F := Ideal)) fun j => (1 : ℝ) :=
  fun i => ((val_main_v59_apply) i).trans lit_one

theorem v60_is (A : Args I x0 x1 x2 x3 x4 x5 x6 x7 x8) :
    Is (S := S2x2048x1280) (φ := .f32) (val_main_v60 (F := Ideal) x0 x1 x2 x5 x6) fun j => ((1 : ℝ) + Real.exp ((-(In.blockMul (I.xc (j 0).val (j 1).val) I.WX (j 2).val + I.BX (j 2).val)))) :=
  Is.addf (v59_is A) (v58_is A)

theorem v61_is (A : Args I x0 x1 x2 x3 x4 x5 x6 x7 x8) :
    Is (S := S2x2048x1280) (φ := .f32) (val_main_v61 (F := Ideal)) fun j => (1 : ℝ) :=
  fun i => ((val_main_v61_apply) i).trans lit_one

theorem v62_is (A : Args I x0 x1 x2 x3 x4 x5 x6 x7 x8) :
    Is (S := S2x2048x1280) (φ := .f32) (val_main_v62 (F := Ideal) x0 x1 x2 x5 x6) fun j => I.i (j 0).val (j 1).val (j 2).val :=
  (Is.hdivf (v61_is A) (v60_is A) fun j => (by positivity)).congr fun j => rfl

theorem v63_is (A : Args I x0 x1 x2 x3 x4 x5 x6 x7 x8) :
    Is (S := S2x2048x1280) (φ := .f32) (val_main_v63 (F := Ideal)) fun j => (1 : ℝ) :=
  fun i => ((val_main_v63_apply) i).trans lit_one

theorem v64_is (A : Args I x0 x1 x2 x3 x4 x5 x6 x7 x8) :
    Is (S := S2x2048x1280) (φ := .f32) (val_main_v64 (F := Ideal) x0 x1 x2 x5 x6) fun j => ((1 : ℝ) - I.i (j 0).val (j 1).val (j 2).val) :=
  Is.subf (v63_is A) (v62_is A)

theorem v65_is (A : Args I x0 x1 x2 x3 x4 x5 x6 x7 x8) :
    Is (S := S2x2048x1280) (φ := .f32) (val_main_v65 (F := Ideal) x0 x1 x2 x5 x6) fun j => (I.i (j 0).val (j 1).val (j 2).val * ((1 : ℝ) - I.i (j 0).val (j 1).val (j 2).val)) :=
  Is.mulf (v62_is A) (v64_is A)

theorem v66_is (A : Args I x0 x1 x2 x3 x4 x5 x6 x7 x8) :
    Is (S := S2x2048x1280) (φ := .f32) (val_main_v66 (F := Ideal)) fun j => (-8 : ℝ) :=
  fun i => ((val_main_v66_apply) i).trans lit_neg_eight

theorem v67_is (A : Args I x0 x1 x2 x3 x4 x5 x6 x7 x8) :
    Is (S := S2x2048x1280) (φ := .f32) (val_main_v67 (F := Ideal) x0 x1 x2 x3 x4) fun j => ((-8 : ℝ) * I.r (j 0).val (j 1).val (j 2).val) :=
  Is.mulf (v66_is A) (v49_is A)

theorem v68_is (A : Args I x0 x1 x2 x3 x4 x5 x6 x7 x8) :
    Is (S := S1x1280) (φ := .f32) (val_main_v68 (F := Ideal) x7) fun j => (-I.LAM (j 1).val) :=
  Is.hnegf A.x7

theorem call0_v0_is : Is (S := S1x1280) (φ := .f32) (val_main_call0_v0 (F := Ideal)) fun _ => (0 : ℝ) :=
  fun i => (val_main_call0_v0_apply i).trans lit_zero

theorem v69_0_is (A : Args I x0 x1 x2 x3 x4 x5 x6 x7 x8) :
    Is (S := S1x1280) (φ := .f32) (val_main_v69_0 (F := Ideal) x7) fun j => I.sp (j 1).val :=
  pick (fun _ => une_self) (softplus_is (v68_is A) call0_v0_is rfl)

theorem call0_v16_is (A : Args I x0 x1 x2 x3 x4 x5 x6 x7 x8) :
    Is (S := S1x1280) (φ := .f32) (val_main_call0_v16 (F := Ideal) x7) fun j => -I.LAM (j 1).val :=
  pick (fun i => oeq_inf (v68_is A i) ((val_main_call0_v13_apply i).trans lit_inf)) (v68_is A)

theorem call0_v20_is (A : Args I x0 x1 x2 x3 x4 x5 x6 x7 x8) :
    Is (S := S1x1280) (φ := .f32) (val_main_call0_v20 (F := Ideal) x7) fun j => I.sp (j 1).val :=
  pick (fun i => oeq_inf (v69_0_is A i) ((val_main_call0_v17_apply i).trans lit_inf)) (v69_0_is A)

theorem v69_1_is (A : Args I x0 x1 x2 x3 x4 x5 x6 x7 x8) :
    Is (S := S1x1280) (φ := .f32) (val_main_v69_1 (F := Ideal) x7) fun j => In.sig (-I.LAM (j 1).val) :=
  ((call0_v16_is A).subf (call0_v20_is A)).hexp.congr fun _ => In.exp_sub_softplus _

theorem v70_is (A : Args I x0 x1 x2 x3 x4 x5 x6 x7 x8) :
    Is (S := S1x1x1280) (φ := .f32) (val_main_v70 (F := Ideal) x7) fun j => I.sp (j 2).val :=
  lay (idx_main_v70) (v69_0_is A) (val_main_v70_apply x7)

theorem v71_is (A : Args I x0 x1 x2 x3 x4 x5 x6 x7 x8) :
    Is (S := S2x2048x1280) (φ := .f32) (val_main_v71 (F := Ideal) x7) fun j => I.sp (j 2).val :=
  lay (idx_main_v71) (v70_is A) (val_main_v71_apply x7)

theorem v72_is (A : Args I x0 x1 x2 x3 x4 x5 x6 x7 x8) :
    Is (S := S2x2048x1280) (φ := .f32) (val_main_v72 (F := Ideal) x0 x1 x2 x3 x4 x7) fun j => I.la (j 0).val (j 1).val (j 2).val :=
  (Is.mulf (v67_is A) (v71_is A)).congr fun j => rfl

theorem v73_is (A : Args I x0 x1 x2 x3 x4 x5 x6 x7 x8) :
    Is (S := S2x2048x1280) (φ := .f32) (val_main_v73 (F := Ideal) x0 x1 x2 x3 x4 x7) fun j => I.a (j 0).val (j 1).val (j 2).val :=
  (Is.hexp (v72_is A)).congr fun j => rfl

theorem mask_first (j : S2x2048x1280.Idx) : val_main_v76 (F := Ideal) j = if (j 1).val = 0 then 1#1 else 0#1 := by
  have h : (j 1).val < 2048 := (j 1).isLt
  rw [val_main_v76_apply, val_main_v74_apply, val_main_v75_apply, val_main_c_apply]
  exact eq_zero_mask (by omega)

theorem v77_is (A : Args I x0 x1 x2 x3 x4 x5 x6 x7 x8) :
    Is (S := S2x2048x1280) (φ := .f32) (val_main_v77 (F := Ideal)) fun j => (2 : ℝ) :=
  fun i => ((val_main_v77_apply) i).trans lit_two

theorem v78_is (A : Args I x0 x1 x2 x3 x4 x5 x6 x7 x8) :
    Is (S := S2x2048x1280) (φ := .f32) (val_main_v78 (F := Ideal) x0 x1 x2 x3 x4 x7) fun j => ((2 : ℝ) * I.la (j 0).val (j 1).val (j 2).val) :=
  Is.mulf (v77_is A) (v72_is A)

theorem v79_is (A : Args I x0 x1 x2 x3 x4 x5 x6 x7 x8) :
    Is (S := S2x2048x1280) (φ := .f32) (val_main_v79 (F := Ideal) x0 x1 x2 x3 x4 x7) fun j => (Real.exp (((2 : ℝ) * I.la (j 0).val (j 1).val (j 2).val)) - 1) :=
  Is.hexpm1 (v78_is A)

theorem v80_is (A : Args I x0 x1 x2 x3 x4 x5 x6 x7 x8) :
    Is (S := S2x2048x1280) (φ := .f32) (val_main_v80 (F := Ideal) x0 x1 x2 x3 x4 x7) fun j => (I.a (j 0).val (j 1).val (j 2).val * I.a (j 0).val (j 1).val (j 2).val) :=
  (Is.hexp (v78_is A)).congr fun j => by
    exact I.exp_two_la _ _ _

theorem v81_is (A : Args I x0 x1 x2 x3 x4 x5 x6 x7 x8) :
    Is (S := S2x2048x1280) (φ := .f32) (val_main_v81 (F := Ideal) x0 x1 x2 x3 x4 x7) fun j => I.var (j 0).val (j 1).val (j 2).val :=
  (Is.hnegf (v79_is A)).congr fun j => rfl

theorem v82_is (A : Args I x0 x1 x2 x3 x4 x5 x6 x7 x8) :
    Is (S := S2x2048x1280) (φ := .f32) (val_main_v82 (F := Ideal) x0 x1 x2 x3 x4 x7) fun j => Real.sqrt (I.var (j 0).val (j 1).val (j 2).val) :=
  Is.hsqrt (v81_is A) fun j => (I.var_pos _ _ _).le

theorem v83_is (A : Args I x0 x1 x2 x3 x4 x5 x6 x7 x8) :
    Is (S := S2x2048x1280) (φ := .f32) (val_main_v83 (F := Ideal)) fun j => (1 / 2 : ℝ) :=
  fun i => ((val_main_v83_apply) i).trans lit_half

theorem v84_is (A : Args I x0 x1 x2 x3 x4 x5 x6 x7 x8) :
    Is (S := S2x2048x1280) (φ := .f32) (val_main_v84 (F := Ideal) x0 x1 x2 x3 x4 x7) fun j => ((1 / 2 : ℝ) / Real.sqrt (I.var (j 0).val (j 1).val (j 2).val)) :=
  Is.hdivf (v83_is A) (v82_is A) fun j => (Real.sqrt_pos.2 (I.var_pos _ _ _)).ne'

theorem call1_v1_is (A : Args I x0 x1 x2 x3 x4 x5 x6 x7 x8) :
    Is (S := S2x2048x1280) (φ := .f32) (val_main_call1_v1 (F := Ideal)) fun j => (1 : ℝ) :=
  fun i => ((val_main_call1_v1_apply) i).trans lit_one

theorem v85_0_is (A : Args I x0 x1 x2 x3 x4 x5 x6 x7 x8) :
    Is (S := S2x2048x1280) (φ := .f32) (val_main_v85_0 (F := Ideal) x0 x1 x2 x3 x4 x7) fun j => I.mult (j 0).val (j 1).val (j 2).val :=
  (sel (fun j => (j 1).val = 0) mask_first (call1_v1_is A) (v82_is A)).congr fun j => rfl

theorem v86_is (A : Args I x0 x1 x2 x3 x4 x5 x6 x7 x8) :
    Is (S := S2x2048x1280) (φ := .f32) (val_main_v86 (F := Ideal) x0 x1 x2 x5 x6) fun j => (I.i (j 0).val (j 1).val (j 2).val * I.xc (j 0).val (j 1).val (j 2).val) :=
  Is.mulf (v62_is A) (v34_is A)

theorem v87_is (A : Args I x0 x1 x2 x3 x4 x5 x6 x7 x8) :
    Is (S := S2x2048x1280) (φ := .f32) (val_main_v87 (F := Ideal) x0 x1 x2 x3 x4 x5 x6 x7) fun j => I.u (j 0).val (j 1).val (j 2).val :=
  (Is.mulf (v85_0_is A) (v86_is A)).congr fun j => rfl

theorem mask_ge (j : S1x2048x2048x1.Idx) : val_main_v90 (F := Ideal) j = if (j 2).val ≤ (j 1).val then 1#1 else 0#1 := by
  have h1 : (j 1).val < 2048 := (j 1).isLt
  have h2 : (j 2).val < 2048 := (j 2).isLt
  rw [val_main_v90_apply, val_main_v88_apply, val_main_v89_apply]
  exact ge_mask (by omega) (by omega)

theorem v91_is (A : Args I x0 x1 x2 x3 x4 x5 x6 x7 x8) :
    Is (S := S2x1x2048x1280) (φ := .f32) (val_main_v91 (F := Ideal) x0 x1 x2 x3 x4 x7) fun j => I.la (j 0).val (j 2).val (j 3).val :=
  lay (idx_main_v91) (v72_is A) (val_main_v91_apply x0 x1 x2 x3 x4 x7)

theorem mask_later (j : S2x2048x2048x1280.Idx) : val_main_v92_1 (F := Ideal) j = if (j 2).val ≤ (j 1).val then 1#1 else 0#1 :=
  (val_main_v92_1_apply j).trans (mask_ge _)

theorem call2_v2_is (A : Args I x0 x1 x2 x3 x4 x5 x6 x7 x8) :
    Is (S := S2x2048x2048x1280) (φ := .f32) (val_main_call2_v2 (F := Ideal) x0 x1 x2 x3 x4 x7) fun j => I.la (j 0).val (j 2).val (j 3).val :=
  lay (idx_main_call2_v2) (v91_is A) (val_main_call2_v2_apply x0 x1 x2 x3 x4 x7)

theorem call2_v3_is (A : Args I x0 x1 x2 x3 x4 x5 x6 x7 x8) :
    Is (S := S2x2048x2048x1280) (φ := .f32) (val_main_call2_v3 (F := Ideal)) fun j => (0 : ℝ) :=
  fun i => ((val_main_call2_v3_apply) i).trans lit_zero

theorem v92_0_is (A : Args I x0 x1 x2 x3 x4 x5 x6 x7 x8) :
    Is (S := S2x2048x2048x1280) (φ := .f32) (val_main_v92_0 (F := Ideal) x0 x1 x2 x3 x4 x7) fun j => (if (j 2).val ≤ (j 1).val then I.la (j 0).val (j 2).val (j 3).val else (0 : ℝ)) :=
  sel (fun j => (j 2).val ≤ (j 1).val) mask_later (call2_v2_is A) (call2_v3_is A)

theorem v93_is (A : Args I x0 x1 x2 x3 x4 x5 x6 x7 x8) :
    Is (S := S2x2048x1280) (φ := .f32) (val_main_v93 (F := Ideal) x0 x1 x2 x3 x4 x7) fun j => Scan.cum 2048 (fun t => I.la (j 0).val t (j 2).val) (j 1).val :=
  (hsum (fun i k93 => (if k93 ≤ ((i 1).val) then I.la ((i 0).val) k93 ((i 2).val) else (0 : ℝ))) (v92_0_is A) lit_zero (val_main_v93_apply x0 x1 x2 x3 x4 x7) fun _ _ => rfl).congr fun j => rfl

theorem v94_is (A : Args I x0 x1 x2 x3 x4 x5 x6 x7 x8) :
    Is (S := S2x2048x1x1280) (φ := .f32) (val_main_v94 (F := Ideal) x0 x1 x2 x3 x4 x7) fun j => Scan.cum 2048 (fun t => I.la (j 0).val t (j 3).val) (j 1).val :=
  lay (idx_main_v94) (v93_is A) (val_main_v94_apply x0 x1 x2 x3 x4 x7)

theorem v95_is (A : Args I x0 x1 x2 x3 x4 x5 x6 x7 x8) :
    Is (S := S2x1x2048x1280) (φ := .f32) (val_main_v95 (F := Ideal) x0 x1 x2 x3 x4 x7) fun j => Scan.cum 2048 (fun t => I.la (j 0).val t (j 3).val) (j 2).val :=
  lay (idx_main_v95) (v93_is A) (val_main_v95_apply x0 x1 x2 x3 x4 x7)

theorem v96_is (A : Args I x0 x1 x2 x3 x4 x5 x6 x7 x8) :
    Is (S := S2x2048x2048x1280) (φ := .f32) (val_main_v96 (F := Ideal) x0 x1 x2 x3 x4 x7) fun j => Scan.cum 2048 (fun t => I.la (j 0).val t (j 3).val) (j 1).val :=
  lay (idx_main_v96) (v94_is A) (val_main_v96_apply x0 x1 x2 x3 x4 x7)

theorem v97_is (A : Args I x0 x1 x2 x3 x4 x5 x6 x7 x8) :
    Is (S := S2x2048x2048x1280) (φ := .f32) (val_main_v97 (F := Ideal) x0 x1 x2 x3 x4 x7) fun j => Scan.cum 2048 (fun t => I.la (j 0).val t (j 3).val) (j 2).val :=
  lay (idx_main_v97) (v95_is A) (val_main_v97_apply x0 x1 x2 x3 x4 x7)

theorem v98_is (A : Args I x0 x1 x2 x3 x4 x5 x6 x7 x8) :
    Is (S := S2x2048x2048x1280) (φ := .f32) (val_main_v98 (F := Ideal) x0 x1 x2 x3 x4 x7) fun j => (Scan.cum 2048 (fun t => I.la (j 0).val t (j 3).val) (j 1).val - Scan.cum 2048 (fun t => I.la (j 0).val t (j 3).val) (j 2).val) :=
  Is.subf (v96_is A) (v97_is A)

theorem v99_is (A : Args I x0 x1 x2 x3 x4 x5 x6 x7 x8) :
    Is (S := S2x2048x2048x1280) (φ := .f32) (val_main_v99 (F := Ideal) x0 x1 x2 x3 x4 x7) fun j => Real.exp ((Scan.cum 2048 (fun t => I.la (j 0).val t (j 3).val) (j 1).val - Scan.cum 2048 (fun t => I.la (j 0).val t (j 3).val) (j 2).val)) :=
  Is.hexp (v98_is A)

theorem mask_later' (j : S2x2048x2048x1280.Idx) : val_main_v100_1 (F := Ideal) j = if (j 2).val ≤ (j 1).val then 1#1 else 0#1 :=
  (val_main_v100_1_apply j).trans (mask_ge _)

theorem call3_v2_is (A : Args I x0 x1 x2 x3 x4 x5 x6 x7 x8) :
    Is (S := S2x2048x2048x1280) (φ := .f32) (val_main_call3_v2 (F := Ideal)) fun j => (0 : ℝ) :=
  fun i => ((val_main_call3_v2_apply) i).trans lit_zero

theorem v100_0_is (A : Args I x0 x1 x2 x3 x4 x5 x6 x7 x8) :
    Is (S := S2x2048x2048x1280) (φ := .f32) (val_main_v100_0 (F := Ideal) x0 x1 x2 x3 x4 x7) fun j => Scan.dec 2048 (fun t => I.la (j 0).val t (j 3).val) (j 1).val (j 2).val :=
  (sel (fun j => (j 2).val ≤ (j 1).val) mask_later' (v99_is A) (call3_v2_is A)).congr fun j => rfl

theorem v101_is (A : Args I x0 x1 x2 x3 x4 x5 x6 x7 x8) :
    Is (S := S2x1x2048x1280) (φ := .f32) (val_main_v101 (F := Ideal) x0 x1 x2 x3 x4 x5 x6 x7) fun j => I.u (j 0).val (j 2).val (j 3).val :=
  lay (idx_main_v101) (v87_is A) (val_main_v101_apply x0 x1 x2 x3 x4 x5 x6 x7)

theorem v102_is (A : Args I x0 x1 x2 x3 x4 x5 x6 x7 x8) :
    Is (S := S2x2048x2048x1280) (φ := .f32) (val_main_v102 (F := Ideal) x0 x1 x2 x3 x4 x5 x6 x7) fun j => I.u (j 0).val (j 2).val (j 3).val :=
  lay (idx_main_v102) (v101_is A) (val_main_v102_apply x0 x1 x2 x3 x4 x5 x6 x7)

theorem v103_is (A : Args I x0 x1 x2 x3 x4 x5 x6 x7 x8) :
    Is (S := S2x2048x2048x1280) (φ := .f32) (val_main_v103 (F := Ideal) x0 x1 x2 x3 x4 x5 x6 x7) fun j => (Scan.dec 2048 (fun t => I.la (j 0).val t (j 3).val) (j 1).val (j 2).val * I.u (j 0).val (j 2).val (j 3).val) :=
  Is.mulf (v100_0_is A) (v102_is A)

theorem v104_is (A : Args I x0 x1 x2 x3 x4 x5 x6 x7 x8) :
    Is (S := S2x2048x1280) (φ := .f32) (val_main_v104 (F := Ideal) x0 x1 x2 x3 x4 x5 x6 x7) fun j => I.h (j 0).val (j 1).val (j 2).val :=
  (hsum (fun i k104 => (Scan.dec 2048 (fun t => I.la ((i 0).val) t ((i 2).val)) ((i 1).val) k104 * I.u ((i 0).val) k104 ((i 2).val))) (v103_is A) lit_zero (val_main_v104_apply x0 x1 x2 x3 x4 x5 x6 x7) fun _ _ => rfl).congr fun j => rfl

end Cert.Proof.Ref

end
-- ==== Proof.Stage.lean ====
module

public import proofs.«01_k».proof.Proof.RefF
public import proofs.«01_k».proof.Proof.Gen.KernelIdeal.Value
public import Idealize.ShloMosaic.Lib.StableHlo.RunRead
public import Idealize.ShloMosaic.Lib.StableHlo.ReadAt

@[expose] public section

set_option maxRecDepth 16384

/-! # The host lines before the region

The kernel's program computes the saved arrays by the lines of the reference, except that it writes the two block-diagonal
products as broadcast products summed along an axis. -/

noncomputable section

namespace Cert.Proof.Pre

open Idealize.ShloMosaic Cert.KernelIdeal Cert.KernelIdeal.Gen
open Cert.ReferenceIdeal.Read (val_main_v34 val_main_v40 val_main_v53 val_main_v49 val_main_v62 val_main_v66 val_main_v71 val_main_v72 val_main_v73
  val_main_v76 val_main_v77 val_main_v85_0 val_main_v92_1 val_main_v100_1 val_main_v104 val_main_call1_v1 val_main_call2_v3 val_main_call3_v2)

variable (m : (ℓ : Loc nD τ sig) → Buf (Elt Ideal) ℓ) (c : Dev nD)

/-- A block-diagonal product, as broadcast products summed. -/
def prodK (y : FVec Ideal S2x2048x1280 .f32) (w : FVec Ideal S10x128x128 .f32) : FVec Ideal S2x2048x1280 .f32 :=
  shapeCast S2x2048x1280 (Host.reduceAdd (mulf
    (broadcastInDim S2x2048x10x128x128 ![0, 1, 2, 3, 4] bcast_S2x2048x10x128x1_S2x2048x10x128x128_0_1_2_3_4
      (broadcastInDim S2x2048x10x128x1 ![0, 1, 2, 3] bcast_S2x2048x10x128_S2x2048x10x128x1_0_1_2_3
        (shapeCast S2x2048x10x128 y shapeCasts_S2x2048x1280_S2x2048x10x128)))
    (broadcastInDim S2x2048x10x128x128 ![0, 1, 2, 3, 4] bcast_S1x1x10x128x128_S2x2048x10x128x128_0_1_2_3_4
      (broadcastInDim S1x1x10x128x128 ![2, 3, 4] bcast_S10x128x128_S1x1x10x128x128_2_3_4 w)))
    (constant S_ .f32 0x00000000#32) reducesTo_S2x2048x10x128x128_S2x2048x10x128_d3 h_S_) shapeCasts_S2x2048x10x128_S2x2048x1280

/-- A gate. -/
def gateK (p : FVec Ideal S2x2048x1280 .f32) (b : FVec Ideal S1x1280 .f32) : FVec Ideal S2x2048x1280 .f32 :=
  Host.divf (broadcastInDim S2x2048x1280 ![] bcast_S_S2x2048x1280 (constant S_ .f32 0x3F800000#32))
    (addf (broadcastInDim S2x2048x1280 ![] bcast_S_S2x2048x1280 (constant S_ .f32 0x3F800000#32)) (Host.exp (Host.negf (addf p
      (broadcastInDim S2x2048x1280 ![0, 1, 2] bcast_S1x1x1280_S2x2048x1280_0_1_2 (broadcastInDim S1x1x1280 ![1, 2] bcast_S1x1280_S1x1x1280_1_2 b))))))

/-- The sums of the logarithms. -/
def cumK (l : FVec Ideal S2x2048x1280 .f32) : FVec Ideal S2x2048x1280 .f32 :=
  Host.reduceAdd (select (val_main_v92_1 (F := Ideal)) (broadcastInDim S2x2048x2048x1280 ![0, 1, 2, 3] bcast_S2x1x2048x1280_S2x2048x2048x1280_0_1_2_3
    (broadcastInDim S2x1x2048x1280 ![0, 2, 3] bcast_S2x2048x1280_S2x1x2048x1280_0_2_3 l)) (val_main_call2_v3 (F := Ideal)))
    (constant S_ .f32 0x00000000#32) reducesTo_S2x2048x2048x1280_S2x2048x1280_d2 h_S_

/-- The hidden state. -/
def hidK (q u : FVec Ideal S2x2048x1280 .f32) : FVec Ideal S2x2048x1280 .f32 :=
  Host.reduceAdd (mulf (select (val_main_v100_1 (F := Ideal)) (Host.exp (subf
      (broadcastInDim S2x2048x2048x1280 ![0, 1, 2, 3] bcast_S2x2048x1x1280_S2x2048x2048x1280_0_1_2_3
        (broadcastInDim S2x2048x1x1280 ![0, 1, 3] bcast_S2x2048x1280_S2x2048x1x1280_0_1_3 q))
      (broadcastInDim S2x2048x2048x1280 ![0, 1, 2, 3] bcast_S2x1x2048x1280_S2x2048x2048x1280_0_1_2_3
        (broadcastInDim S2x1x2048x1280 ![0, 2, 3] bcast_S2x2048x1280_S2x1x2048x1280_0_2_3 q)))) (val_main_call3_v2 (F := Ideal)))
    (broadcastInDim S2x2048x2048x1280 ![0, 1, 2, 3] bcast_S2x1x2048x1280_S2x2048x2048x1280_0_1_2_3
      (broadcastInDim S2x1x2048x1280 ![0, 2, 3] bcast_S2x2048x1280_S2x1x2048x1280_0_2_3 u)))
    (constant S_ .f32 0x00000000#32) reducesTo_S2x2048x2048x1280_S2x2048x1280_d2 h_S_

end Cert.Proof.Pre

end
-- ==== Proof.PrefixA.lean ====
module

public import proofs.«01_k».proof.Proof.Stage
public import proofs.«01_k».proof.Proof.Gen.KernelIdeal.Value
public import Idealize.ShloMosaic.Lib.StableHlo.RunRead
public import Idealize.ShloMosaic.Lib.StableHlo.ReadAt

@[expose] public section

set_option maxRecDepth 16384

/-! # The host lines before the region, read -/

noncomputable section

namespace Cert.Proof.Pre

open Idealize.ShloMosaic Cert.KernelIdeal Cert.KernelIdeal.Gen
open Cert.ReferenceIdeal.Read (val_main_v34 val_main_v40 val_main_v53 val_main_v49 val_main_v62 val_main_v66 val_main_v71 val_main_v72 val_main_v73
  val_main_v76 val_main_v77 val_main_v85_0 val_main_v92_1 val_main_v100_1 val_main_v104 val_main_call1_v1 val_main_call2_v3 val_main_call3_v2)

variable (m : (ℓ : Loc nD τ sig) → Buf (Elt Ideal) ℓ) (c : Dev nD)

set_option maxHeartbeats 40000000 in
theorem V33 : V m c main_v33 = (val_main_v34 (F := Ideal) (m (c.tc.loc main_arg0)) (m (c.tc.loc main_arg1)) (m (c.tc.loc main_arg2)) : FVec Ideal S2x2048x1280 .f32) := by
  after_reads_simp
  rfl

set_option maxHeartbeats 40000000 in
theorem V47 : V m c main_v47 = (prodK (V m c main_v33) (m (c.tc.loc main_arg3)) : FVec Ideal S2x2048x1280 .f32) := by
  after_reads_simp
  rfl

set_option maxHeartbeats 40000000 in
theorem V57 : V m c main_v57 = (prodK (V m c main_v33) (m (c.tc.loc main_arg5)) : FVec Ideal S2x2048x1280 .f32) := by
  after_reads_simp
  rfl

set_option maxHeartbeats 40000000 in
theorem V56 : V m c main_v56 = (gateK (V m c main_v47) (m (c.tc.loc main_arg4)) : FVec Ideal S2x2048x1280 .f32) := by
  after_reads_simp
  rfl

set_option maxHeartbeats 40000000 in
theorem V66 : V m c main_v66 = (gateK (V m c main_v57) (m (c.tc.loc main_arg6)) : FVec Ideal S2x2048x1280 .f32) := by
  after_reads_simp
  rfl

set_option maxHeartbeats 40000000 in
theorem V73 : V m c main_v73 = (mulf (mulf (val_main_v66 (F := Ideal)) (V m c main_v56)) (val_main_v71 (F := Ideal) (m (c.tc.loc main_arg7))) : FVec Ideal S2x2048x1280 .f32) := by
  after_reads_simp
  rfl

set_option maxHeartbeats 40000000 in
theorem V112_0 : V m c main_v112_0 = (m (c.tc.loc main_arg9)) := by
  after_reads_simp
  rfl

end Cert.Proof.Pre

end
-- ==== Proof.PrefixB.lean ====
module

public import proofs.«01_k».proof.Proof.Stage
public import proofs.«01_k».proof.Proof.Gen.KernelIdeal.Value
public import Idealize.ShloMosaic.Lib.StableHlo.RunRead
public import Idealize.ShloMosaic.Lib.StableHlo.ReadAt

@[expose] public section

set_option maxRecDepth 16384

/-! # The host lines before the region, read -/

noncomputable section

namespace Cert.Proof.Pre

open Idealize.ShloMosaic Cert.KernelIdeal Cert.KernelIdeal.Gen
open Cert.ReferenceIdeal.Read (val_main_v34 val_main_v40 val_main_v53 val_main_v49 val_main_v62 val_main_v66 val_main_v71 val_main_v72 val_main_v73
  val_main_v76 val_main_v77 val_main_v85_0 val_main_v92_1 val_main_v100_1 val_main_v104 val_main_call1_v1 val_main_call2_v3 val_main_call3_v2)

variable (m : (ℓ : Loc nD τ sig) → Buf (Elt Ideal) ℓ) (c : Dev nD)

set_option maxHeartbeats 40000000 in
theorem V74 : V m c main_v74 = (Host.exp (V m c main_v73) : FVec Ideal S2x2048x1280 .f32) := by
  after_reads_simp

set_option maxHeartbeats 40000000 in
theorem V83 : V m c main_v83 = (select (val_main_v76 (F := Ideal)) (val_main_call1_v1 (F := Ideal)) (Host.sqrt (Host.negf (Host.expm1 (mulf (val_main_v77 (F := Ideal)) (V m c main_v73))))) : FVec Ideal S2x2048x1280 .f32) := by
  after_reads_simp
  simp -implicitDefEqProofs only [StableHlo.TRef.toBuf, StableHlo.TRef.ofBuf, cast_cast, cast_eq]
  rfl

set_option maxHeartbeats 40000000 in
theorem V85 : V m c main_v85 = (mulf (V m c main_v83) (mulf (V m c main_v66) (V m c main_v33)) : FVec Ideal S2x2048x1280 .f32) := by
  after_reads_simp

set_option maxHeartbeats 40000000 in
theorem V91 : V m c main_v91 = (cumK (V m c main_v73) : FVec Ideal S2x2048x1280 .f32) := by
  after_reads_simp
  simp -implicitDefEqProofs only [StableHlo.TRef.toBuf, StableHlo.TRef.ofBuf, cast_cast, cast_eq]
  rfl

end Cert.Proof.Pre

end
-- ==== Proof.PrefixC.lean ====
module

public import proofs.«01_k».proof.Proof.Stage
public import proofs.«01_k».proof.Proof.Gen.KernelIdeal.Value
public import Idealize.ShloMosaic.Lib.StableHlo.RunRead
public import Idealize.ShloMosaic.Lib.StableHlo.ReadAt

@[expose] public section

set_option maxRecDepth 16384

/-! # The host lines before the region, read -/

noncomputable section

namespace Cert.Proof.Pre

open Idealize.ShloMosaic Cert.KernelIdeal Cert.KernelIdeal.Gen
open Cert.ReferenceIdeal.Read (val_main_v34 val_main_v40 val_main_v53 val_main_v49 val_main_v62 val_main_v66 val_main_v71 val_main_v72 val_main_v73
  val_main_v76 val_main_v77 val_main_v85_0 val_main_v92_1 val_main_v100_1 val_main_v104 val_main_call1_v1 val_main_call2_v3 val_main_call3_v2)

variable (m : (ℓ : Loc nD τ sig) → Buf (Elt Ideal) ℓ) (c : Dev nD)

set_option maxHeartbeats 40000000 in
theorem V102 : V m c main_v102 = (hidK (V m c main_v91) (V m c main_v85) : FVec Ideal S2x2048x1280 .f32) := by
  after_reads_simp
  rfl

set_option maxHeartbeats 40000000 in
theorem V108 : V m c main_v108 = (concatenate S5x2x2048x1280 0 [⟨S1x2x2048x1280, broadcastInDim S1x2x2048x1280 ![1, 2, 3] bcast_S2x2048x1280_S1x2x2048x1280_1_2_3 (V m c main_v56)⟩, ⟨S1x2x2048x1280, broadcastInDim S1x2x2048x1280 ![1, 2, 3] bcast_S2x2048x1280_S1x2x2048x1280_1_2_3 (V m c main_v66)⟩, ⟨S1x2x2048x1280, broadcastInDim S1x2x2048x1280 ![1, 2, 3] bcast_S2x2048x1280_S1x2x2048x1280_1_2_3 (V m c main_v74)⟩, ⟨S1x2x2048x1280, broadcastInDim S1x2x2048x1280 ![1, 2, 3] bcast_S2x2048x1280_S1x2x2048x1280_1_2_3 (V m c main_v83)⟩, ⟨S1x2x2048x1280, broadcastInDim S1x2x2048x1280 ![1, 2, 3] bcast_S2x2048x1280_S1x2x2048x1280_1_2_3 (V m c main_v33)⟩] concatenates_S1x2x2048x1280_S1x2x2048x1280_S1x2x2048x1280_S1x2x2048x1280_S1x2x2048x1280_S5x2x2048x1280_d0 : FVec Ideal S5x2x2048x1280 .f32) := by
  after_reads_simp
  rfl

set_option maxHeartbeats 40000000 in
theorem V109 : V m c main_v109 = (truncf .bf16 (m (c.tc.loc main_arg3)) bitsLt_bf16_f32 : FVec Ideal S10x128x128 .bf16) := by
  after_reads_simp

set_option maxHeartbeats 40000000 in
theorem V110 : V m c main_v110 = (truncf .bf16 (m (c.tc.loc main_arg5)) bitsLt_bf16_f32 : FVec Ideal S10x128x128 .bf16) := by
  after_reads_simp

end Cert.Proof.Pre

end
-- ==== Proof.Level.lean ====
module

public import proofs.«01_k».proof.Proof.Gen.KernelIdeal.Value
public import proofs.«01_k».proof.Proof.Kit
public import Idealize.ShloMosaic.Lib.Pipeline.ReadBack

@[expose] public section

set_option maxRecDepth 16384

/-! # Shifted reads of a padded scratch and the levels of the right scan -/

noncomputable section

namespace Cert.Proof

open Idealize.ShloMosaic Cert.KernelIdeal Cert.KernelIdeal.Gen Scan

/-- A tile of real numbers by row and column. -/
abbrev Is2 {n m : ℕ} {φ : FTy} (v : FVec Ideal (⟨2, ![n, m]⟩ : Shape) φ) (f : ℕ → ℕ → ℝ) : Prop :=
  Is v fun j => f (j 0).val (j 1).val

theorem canon_hit {s : Shape} {e : EltTy} (R : Rect s) (p : R.shape.Idx → Elt Ideal e) (L : List (View.Piece (Elt Ideal) s e))
    (x : R.shape.Idx) (y : s.Idx) (h : R.emb x = y) : View.canon (⟨R, p⟩ :: L) y = p x := by
  rw [← h]; exact View.canon_cons_emb R p L x

theorem canon_miss {s : Shape} {e : EltTy} (R : Rect s) (p : R.shape.Idx → Elt Ideal e) (L : List (View.Piece (Elt Ideal) s e))
    (y : s.Idx) (h : ∀ x, R.emb x ≠ y) : View.canon (⟨R, p⟩ :: L) y = View.canon L y :=
  View.canon_cons_of_not_mem _ _ fun hy => (R.exists_idx_of_mem hy).elim fun x hx => h x hx

section Pad

variable {sig : RefSig} {κ : Kind} {sp : Space} (v : View sig κ sp S4x2064x128 .f32)
  (L : List (View.Piece (Elt Ideal) S4x2064x128 .f32))

/-- A tile stored behind eight rows of a slot, zeros stored at `zo`, read from row `o` on. -/
theorem padLoad {k o zo : ℕ} (hk : ∀ a, (![k, 0, 0] : Fin 3 → ℕ) a + S1x2064x128.size a ≤ S4x2064x128.size a)
    (h8 : ∀ a, (![8, 0] : Fin 2 → ℕ) a + S2048x128.size a ≤ S2064x128.size a)
    (hz : ∀ a, (![zo, 0] : Fin 2 → ℕ) a + S8x128.size a ≤ S2064x128.size a)
    (ho : ∀ a, (![o, 0] : Fin 2 → ℕ) a + S2048x128.size a ≤ S2064x128.size a)
    (p1 p4 p7 : (![1, 2064, 128] : Fin 3 → ℕ) 0 = 1) (p2 p5 p8 : ∀ i : Fin 2, (![1, 2064, 128] : Fin 3 → ℕ) i.succ = (![2064, 128] : Fin 2 → ℕ) i)
    (p3 p6 p9 : ∀ a, (Rect.unit (s := S4x2064x128) ![k, 0, 0] S1x2064x128.size hk).stride a = 1)
    (q1 q2 q3)
    (w : FVec Ideal S2048x128 .f32) (z : FVec Ideal S8x128 .f32) (f : ℕ → ℕ → ℝ) (hw : Is2 (n := 2048) (m := 128) w f)
    (hz0 : ∀ i, z i = 0) (hc : ∀ t, t < 2048 → ¬ (8 ≤ t + o ∧ t + o < 2056) → zo ≤ t + o ∧ t + o < zo + 8) :
    Is2 (n := 2048) (m := 128) (φ := .f32)
      (LoadRect.valAlong (lr := (Rect.unit (s := S2064x128) ![o, 0] S2048x128.size ho).toLoadRect) q3 (v.readCov
        (⟨(Rect.unit (s := S4x2064x128) ![k, 0, 0] S1x2064x128.size hk).within ((Rect.unit (s := S2064x128) ![8, 0] S2048x128.size h8).consLift ![1, 2064, 128] p1 p2) p3,
            Rect.payAlong (r := Rect.unit (s := S2064x128) ![8, 0] S2048x128.size h8) q1 w⟩
          :: ⟨(Rect.unit (s := S4x2064x128) ![k, 0, 0] S1x2064x128.size hk).within ((Rect.unit (s := S2064x128) ![zo, 0] S8x128.size hz).consLift ![1, 2064, 128] p4 p5) p6,
            Rect.payAlong (r := Rect.unit (s := S2064x128) ![zo, 0] S8x128.size hz) q2 z⟩ :: L)
        ((Rect.unit (s := S4x2064x128) ![k, 0, 0] S1x2064x128.size hk).withinL ((Rect.unit (s := S2064x128) ![o, 0] S2048x128.size ho).toLoadRect.consLift ![1, 2064, 128] p7 p8) p9)))
      fun t c => if 8 ≤ t + o ∧ t + o < 2056 then f (t + o - 8) c else 0 := by
  intro j
  rw [View.readCov_eq_canon']
  have hy : Shape.reshapeEquiv q3 j = Fin.cons ⟨0, Nat.one_pos⟩ j := Shape.reshapeEquiv_cons_one (d := S2048x128.size) q3 j
  have h0 : (j 0).val < 2048 := (j 0).isLt
  have h1 : (j 1).val < 128 := (j 1).isLt
  show View.canon (Val := Elt Ideal) (e := .f32) _ (LoadRect.idx _ (Shape.reshapeEquiv q3 j)) = ((if _ then _ else _ : ℝ) : EReal)
  rw [hy]
  by_cases hd : 8 ≤ (j 0).val + o ∧ (j 0).val + o < 2056
  · rw [if_pos hd]
    let z' : S2048x128.Idx := ix2 (⟨(j 0).val + o - 8, by omega⟩ : Fin 2048) (⟨(j 1).val, h1⟩ : Fin 128)
    have hx : Shape.reshapeEquiv q1.symm z' = Fin.cons ⟨0, Nat.one_pos⟩ z' := Shape.reshapeEquiv_cons_one (d := S2048x128.size) q1.symm z'
    refine (canon_hit _ _ _ (Shape.reshapeEquiv q1.symm z') _ ?_).trans ?_
    · rw [hx]
      refine funext fun a => Fin.ext ?_
      fin_cases a
      · show k + 0 + 1 * 0 = k + 0 + 1 * 0; rfl
      · show 0 + 8 + 1 * ((j 0).val + o - 8) = 0 + o + 1 * (j 0).val; omega
      · show 0 + 0 + 1 * (j 1).val = 0 + 0 + 1 * (j 1).val; rfl
    · show w (Shape.reshapeEquiv q1 (Shape.reshapeEquiv q1.symm z')) = _
      have e : Shape.reshapeEquiv q1 (Shape.reshapeEquiv q1.symm z') = z' := by
        rw [← Shape.reshapeEquiv_symm q1]; exact Equiv.apply_symm_apply _ _
      exact (congrArg w e).trans (hw z')
  · rw [if_neg hd]
    have hc' := hc _ h0 hd
    refine (canon_miss _ _ _ _ fun x hx => hd ?_).trans ?_
    · have e := congrArg Fin.val (congrFun hx 1)
      have e' : 0 + 8 + 1 * (x 1).val = 0 + o + 1 * (j 0).val := e
      have : (x 1).val < 2048 := (x 1).isLt
      omega
    let z' : S8x128.Idx := ix2 (⟨(j 0).val + o - zo, by omega⟩ : Fin 8) (⟨(j 1).val, h1⟩ : Fin 128)
    have hx : Shape.reshapeEquiv q2.symm z' = Fin.cons ⟨0, Nat.one_pos⟩ z' := Shape.reshapeEquiv_cons_one (d := S8x128.size) q2.symm z'
    refine (canon_hit _ _ _ (Shape.reshapeEquiv q2.symm z') _ ?_).trans ?_
    · rw [hx]
      refine funext fun a => Fin.ext ?_
      fin_cases a
      · show k + 0 + 1 * 0 = k + 0 + 1 * 0; rfl
      · show 0 + zo + 1 * ((j 0).val + o - zo) = 0 + o + 1 * (j 0).val; omega
      · show 0 + 0 + 1 * (j 1).val = 0 + 0 + 1 * (j 1).val; rfl
    · exact hz0 _

end Pad

section Scan

variable {n d : ℕ} (hnd : n + d = 2048) {v b : FVec Ideal S2048x128 .f32} {V B : ℕ → ℕ → ℝ}
  (p : S2048x128.Slices ![0, 0] (⟨2, ![n, 128]⟩ : Shape)) (q : S2048x128.Slices ![d, 0] (⟨2, ![n, 128]⟩ : Shape))
  (r : S2048x128.Slices ![n, 0] (⟨2, ![d, 128]⟩ : Shape))
  (hc : Shape.Concatenates [(⟨2, ![n, 128]⟩ : Shape), (⟨2, ![d, 128]⟩ : Shape)] S2048x128 0)
  (hv : Is2 (n := 2048) (m := 128) v V) (hb : Is2 (n := 2048) (m := 128) b B)

include hnd in
/-- The two pieces of a concatenation along the rows, read at an index. -/
theorem cat_apply (x : FVec Ideal (⟨2, ![n, 128]⟩ : Shape) .f32) (X : ℕ → ℕ → ℝ) (hx : Is2 x X) (hv : Is2 (n := 2048) (m := 128) v V) :
    Is2 (n := 2048) (m := 128) (φ := .f32)
      (concatenate S2048x128 0 [⟨(⟨2, ![n, 128]⟩ : Shape), x⟩, ⟨(⟨2, ![d, 128]⟩ : Shape), extractStridedSlice (⟨2, ![d, 128]⟩ : Shape) ![n, 0] v r⟩] hc)
      fun t c => if t < n then X t c else V t c := by
  intro j
  have h0 : (j 0).val < 2048 := (j 0).isLt
  rw [concatenate_pair_apply]
  split
  · rename_i h
    have h' : (j 0).val < n := h
    show _ = ((if _ then _ else _ : ℝ) : EReal)
    rw [if_pos h']
    exact hx _
  · rename_i h
    have h' : ¬ (j 0).val < n := h
    show _ = ((if _ then _ else _ : ℝ) : EReal)
    rw [if_neg h']
    refine (hv _).trans (congrArg _ ?_)
    show V (n + ((j 0).val - n)) (0 + (j 1).val) = _
    rw [Nat.zero_add, Nat.add_sub_cancel' (not_lt.1 h')]

include hnd hv hb in
theorem levelG : Is2 (n := 2048) (m := 128) (φ := .f32)
    (concatenate S2048x128 0 [⟨(⟨2, ![n, 128]⟩ : Shape), addf (extractStridedSlice (⟨2, ![n, 128]⟩ : Shape) ![0, 0] v p)
        (mulf (extractStridedSlice (⟨2, ![n, 128]⟩ : Shape) ![0, 0] b p) (extractStridedSlice (⟨2, ![n, 128]⟩ : Shape) ![d, 0] v q))⟩,
      ⟨(⟨2, ![d, 128]⟩ : Shape), extractStridedSlice (⟨2, ![d, 128]⟩ : Shape) ![n, 0] v r⟩] hc)
    fun t c => if t < n then V t c + B t c * V (t + d) c else V t c := by
  refine cat_apply hnd r hc _ (fun t c => V t c + B t c * V (t + d) c) (fun j => ?_) hv
  show v _ + b _ * v _ = _
  rw [hv, hb, hv, ← EReal.coe_mul, ← EReal.coe_add]
  refine congrArg _ ?_
  show V (0 + (j 0).val) (0 + (j 1).val) + B (0 + (j 0).val) (0 + (j 1).val) * V (d + (j 0).val) (0 + (j 1).val) = _
  simp only [Nat.zero_add, Nat.add_comm d]

include hnd hb in
theorem levelB : Is2 (n := 2048) (m := 128) (φ := .f32)
    (concatenate S2048x128 0 [⟨(⟨2, ![n, 128]⟩ : Shape),
        mulf (extractStridedSlice (⟨2, ![n, 128]⟩ : Shape) ![0, 0] b p) (extractStridedSlice (⟨2, ![n, 128]⟩ : Shape) ![d, 0] b q)⟩,
      ⟨(⟨2, ![d, 128]⟩ : Shape), extractStridedSlice (⟨2, ![d, 128]⟩ : Shape) ![n, 0] b r⟩] hc)
    fun t c => if t < n then B t c * B (t + d) c else B t c := by
  refine cat_apply hnd r hc _ (fun t c => B t c * B (t + d) c) (fun j => ?_) hb
  show b _ * b _ = _
  rw [hb, hb, ← EReal.coe_mul]
  refine congrArg _ ?_
  show B (0 + (j 0).val) (0 + (j 1).val) * B (d + (j 0).val) (0 + (j 1).val) = _
  simp only [Nat.zero_add, Nat.add_comm d]

/-! The doubling steps over the reals: `w` the cotangent, `l` the logarithms of the decays, by row and column. -/

variable (w l : ℕ → ℕ → ℝ)

/-- The accumulated cotangent after the levels below `d`. -/
def lvG (d t c : ℕ) : ℝ := up (fun t => w t c) (next 2048 fun t => l t c) d t

/-- The accumulated decay after the levels below `d`. -/
def lvB (d t c : ℕ) : ℝ := upb (next 2048 fun t => l t c) d t

theorem lvG_step {t : ℕ} (c : ℕ) (ht : t < 2048) :
    (if t + d < 2048 then lvG w l d t c + lvB l d t c * lvG w l d (t + d) c else lvG w l d t c) = lvG w l (2 * d) t c := by
  rw [lvG, lvB, lvG, lvG, up_double]
  split
  · rfl
  · rw [upb_end 2048 _ d t ht (by omega), zero_mul, add_zero]

theorem lvB_step {t : ℕ} (c : ℕ) (ht : t < 2048) :
    (if t + d < 2048 then lvB l d t c * lvB l d (t + d) c else lvB l d t c) = lvB l (2 * d) t c := by
  rw [lvB, lvB, lvB, upb_double]
  split
  · rfl
  · rw [upb_end 2048 _ d t ht (by omega), zero_mul]

include hnd in
theorem lvG_cat (hv : Is2 (n := 2048) (m := 128) v (lvG w l d)) (hb : Is2 (n := 2048) (m := 128) b (lvB l d)) :
    Is2 (n := 2048) (m := 128) (φ := .f32)
    (concatenate S2048x128 0 [⟨(⟨2, ![n, 128]⟩ : Shape), addf (extractStridedSlice (⟨2, ![n, 128]⟩ : Shape) ![0, 0] v p)
        (mulf (extractStridedSlice (⟨2, ![n, 128]⟩ : Shape) ![0, 0] b p) (extractStridedSlice (⟨2, ![n, 128]⟩ : Shape) ![d, 0] v q))⟩,
      ⟨(⟨2, ![d, 128]⟩ : Shape), extractStridedSlice (⟨2, ![d, 128]⟩ : Shape) ![n, 0] v r⟩] hc) (lvG w l (2 * d)) :=
  (levelG hnd p q r hc hv hb).congr fun j => by
    have h0 : (j 0).val < 2048 := (j 0).isLt
    rw [← lvG_step w l _ h0]
    refine if_congr ?_ rfl rfl
    omega

include hnd in
theorem lvB_cat (hb : Is2 (n := 2048) (m := 128) b (lvB l d)) :
    Is2 (n := 2048) (m := 128) (φ := .f32)
    (concatenate S2048x128 0 [⟨(⟨2, ![n, 128]⟩ : Shape),
        mulf (extractStridedSlice (⟨2, ![n, 128]⟩ : Shape) ![0, 0] b p) (extractStridedSlice (⟨2, ![n, 128]⟩ : Shape) ![d, 0] b q)⟩,
      ⟨(⟨2, ![d, 128]⟩ : Shape), extractStridedSlice (⟨2, ![d, 128]⟩ : Shape) ![n, 0] b r⟩] hc) (lvB l (2 * d)) :=
  (levelB hnd p q r hc hb).congr fun j => by
    have h0 : (j 0).val < 2048 := (j 0).isLt
    rw [← lvB_step l _ h0]
    refine if_congr ?_ rfl rfl
    omega

/-- The levels 8 to 128. -/
theorem pay49_is {v b : FVec Ideal S2048x128 .f32} (hv : Is2 (n := 2048) (m := 128) v (lvG w l 8)) (hb : Is2 (n := 2048) (m := 128) b (lvB l 8)) :
    Is2 (n := 2048) (m := 128) (k0_pay49 v b) (lvG w l 256) := by
  have b16 : Is2 (n := 2048) (m := 128) (k0_pay45 b) (lvB l 16) := lvB_cat (n := 2040) (d := 8) (by norm_num) slices_S2048x128_o0_0_S2040x128 slices_S2048x128_o8_0_S2040x128 slices_S2048x128_o2040_0_S8x128 concatenates_S2040x128_S8x128_S2048x128_d0 l hb
  have b32 : Is2 (n := 2048) (m := 128) (k0_pay46 b) (lvB l 32) := lvB_cat (n := 2032) (d := 16) (by norm_num) slices_S2048x128_o0_0_S2032x128 slices_S2048x128_o16_0_S2032x128 slices_S2048x128_o2032_0_S16x128 concatenates_S2032x128_S16x128_S2048x128_d0 l b16
  have b64 : Is2 (n := 2048) (m := 128) (k0_pay47 b) (lvB l 64) := lvB_cat (n := 2016) (d := 32) (by norm_num) slices_S2048x128_o0_0_S2016x128 slices_S2048x128_o32_0_S2016x128 slices_S2048x128_o2016_0_S32x128 concatenates_S2016x128_S32x128_S2048x128_d0 l b32
  have b128 : Is2 (n := 2048) (m := 128) (k0_pay48 b) (lvB l 128) := lvB_cat (n := 1984) (d := 64) (by norm_num) slices_S2048x128_o0_0_S1984x128 slices_S2048x128_o64_0_S1984x128 slices_S2048x128_o1984_0_S64x128 concatenates_S1984x128_S64x128_S2048x128_d0 l b64
  have g16 := lvG_cat (n := 2040) (d := 8) (by norm_num) slices_S2048x128_o0_0_S2040x128 slices_S2048x128_o8_0_S2040x128 slices_S2048x128_o2040_0_S8x128 concatenates_S2040x128_S8x128_S2048x128_d0 w l hv hb
  have g32 := lvG_cat (n := 2032) (d := 16) (by norm_num) slices_S2048x128_o0_0_S2032x128 slices_S2048x128_o16_0_S2032x128 slices_S2048x128_o2032_0_S16x128 concatenates_S2032x128_S16x128_S2048x128_d0 w l g16 b16
  have g64 := lvG_cat (n := 2016) (d := 32) (by norm_num) slices_S2048x128_o0_0_S2016x128 slices_S2048x128_o32_0_S2016x128 slices_S2048x128_o2016_0_S32x128 concatenates_S2016x128_S32x128_S2048x128_d0 w l g32 b32
  have g128 := lvG_cat (n := 1984) (d := 64) (by norm_num) slices_S2048x128_o0_0_S1984x128 slices_S2048x128_o64_0_S1984x128 slices_S2048x128_o1984_0_S64x128 concatenates_S1984x128_S64x128_S2048x128_d0 w l g64 b64
  exact lvG_cat (n := 1920) (d := 128) (by norm_num) slices_S2048x128_o0_0_S1920x128 slices_S2048x128_o128_0_S1920x128 slices_S2048x128_o1920_0_S128x128 concatenates_S1920x128_S128x128_S2048x128_d0 w l g128 b128

theorem pay50_is {b : FVec Ideal S2048x128 .f32} (hb : Is2 (n := 2048) (m := 128) b (lvB l 8)) :
    Is2 (n := 2048) (m := 128) (k0_pay50 b) (lvB l 256) := by
  have b16 : Is2 (n := 2048) (m := 128) (k0_pay45 b) (lvB l 16) := lvB_cat (n := 2040) (d := 8) (by norm_num) slices_S2048x128_o0_0_S2040x128 slices_S2048x128_o8_0_S2040x128 slices_S2048x128_o2040_0_S8x128 concatenates_S2040x128_S8x128_S2048x128_d0 l hb
  have b32 : Is2 (n := 2048) (m := 128) (k0_pay46 b) (lvB l 32) := lvB_cat (n := 2032) (d := 16) (by norm_num) slices_S2048x128_o0_0_S2032x128 slices_S2048x128_o16_0_S2032x128 slices_S2048x128_o2032_0_S16x128 concatenates_S2032x128_S16x128_S2048x128_d0 l b16
  have b64 : Is2 (n := 2048) (m := 128) (k0_pay47 b) (lvB l 64) := lvB_cat (n := 2016) (d := 32) (by norm_num) slices_S2048x128_o0_0_S2016x128 slices_S2048x128_o32_0_S2016x128 slices_S2048x128_o2016_0_S32x128 concatenates_S2016x128_S32x128_S2048x128_d0 l b32
  have b128 : Is2 (n := 2048) (m := 128) (k0_pay48 b) (lvB l 128) := lvB_cat (n := 1984) (d := 64) (by norm_num) slices_S2048x128_o0_0_S1984x128 slices_S2048x128_o64_0_S1984x128 slices_S2048x128_o1984_0_S64x128 concatenates_S1984x128_S64x128_S2048x128_d0 l b64
  exact lvB_cat (n := 1920) (d := 128) (by norm_num) slices_S2048x128_o0_0_S1920x128 slices_S2048x128_o128_0_S1920x128 slices_S2048x128_o1920_0_S128x128 concatenates_S1920x128_S128x128_S2048x128_d0 l b128

/-- The levels 256 to 1024. -/
theorem pay51_is {v b : FVec Ideal S2048x128 .f32} (hv : Is2 (n := 2048) (m := 128) v (lvG w l 256)) (hb : Is2 (n := 2048) (m := 128) b (lvB l 256)) :
    Is2 (n := 2048) (m := 128) (k0_pay51 v b) (lvG w l 2048) := by
  have b512 := lvB_cat (n := 1792) (d := 256) (by norm_num) slices_S2048x128_o0_0_S1792x128 slices_S2048x128_o256_0_S1792x128 slices_S2048x128_o1792_0_S256x128 concatenates_S1792x128_S256x128_S2048x128_d0 l hb
  have b1024 := lvB_cat (n := 1536) (d := 512) (by norm_num) slices_S2048x128_o0_0_S1536x128 slices_S2048x128_o512_0_S1536x128 slices_S2048x128_o1536_0_S512x128 concatenates_S1536x128_S512x128_S2048x128_d0 l b512
  have g512 := lvG_cat (n := 1792) (d := 256) (by norm_num) slices_S2048x128_o0_0_S1792x128 slices_S2048x128_o256_0_S1792x128 slices_S2048x128_o1792_0_S256x128 concatenates_S1792x128_S256x128_S2048x128_d0 w l hv hb
  have g1024 := lvG_cat (n := 1536) (d := 512) (by norm_num) slices_S2048x128_o0_0_S1536x128 slices_S2048x128_o512_0_S1536x128 slices_S2048x128_o1536_0_S512x128 concatenates_S1536x128_S512x128_S2048x128_d0 w l g512 b512
  exact lvG_cat (n := 1024) (d := 1024) (by norm_num) slices_S2048x128_o0_0_S1024x128 slices_S2048x128_o1024_0_S1024x128 slices_S2048x128_o1024_0_S1024x128 concatenates_S1024x128_S1024x128_S2048x128_d0 w l g1024 b1024

end Scan

end Cert.Proof

end
-- ==== Proof.Tile.lean ====
module

public import proofs.«01_k».proof.Proof.Level
public import Idealize.ShloMosaic.Lib.WholeRead
public import Idealize.ShloMosaic.Lib.QrPanel.StackBlock

@[expose] public section

set_option maxRecDepth 16384

/-! # The operations of one tile: loads, casts, broadcasts, sums and products -/

noncomputable section

namespace Cert.Proof

open Idealize.ShloMosaic Cert.KernelIdeal Cert.KernelIdeal.Gen Scan

abbrev Is1 {n : ℕ} {φ : FTy} (v : FVec Ideal (⟨1, ![n]⟩ : Shape) φ) (f : ℕ → ℝ) : Prop := Is v fun j => f (j 0).val

abbrev Is3 {n m k : ℕ} {φ : FTy} (v : FVec Ideal (⟨3, ![n, m, k]⟩ : Shape) φ) (f : ℕ → ℕ → ℕ → ℝ) : Prop :=
  Is v fun j => f (j 0).val (j 1).val (j 2).val

abbrev Is4 {n m k l : ℕ} {φ : FTy} (v : FVec Ideal (⟨4, ![n, m, k, l]⟩ : Shape) φ) (f : ℕ → ℕ → ℕ → ℕ → ℝ) : Prop :=
  Is v fun j => f (j 0).val (j 1).val (j 2).val (j 3).val

/-- Two tiles agree when their coordinates below the extents do. -/
theorem Is2.ext {n m : ℕ} {φ : FTy} {v : FVec Ideal (⟨2, ![n, m]⟩ : Shape) φ} {f g : ℕ → ℕ → ℝ} (h : Is2 v f)
    (e : ∀ t c, t < n → c < m → f t c = g t c) : Is2 v g :=
  h.congr fun j => e _ _ (j 0).isLt (j 1).isLt

section Ops

variable {n m : ℕ} {φ : FTy} {v w : FVec Ideal (⟨2, ![n, m]⟩ : Shape) φ} {f g : ℕ → ℕ → ℝ}

theorem Is2.mul (hv : Is2 v f) (hw : Is2 w g) : Is2 (mulf v w) fun t c => f t c * g t c := hv.mulf hw

theorem Is2.add (hv : Is2 v f) (hw : Is2 w g) : Is2 (addf v w) fun t c => f t c + g t c := hv.addf hw

theorem Is2.sub (hv : Is2 v f) (hw : Is2 w g) : Is2 (subf v w) fun t c => f t c - g t c := hv.subf hw

theorem Is2.lit {x : EReal} {a : ℝ} (h : x = (a : EReal)) : Is2 (n := n) (m := m) (φ := φ) (broadcast (⟨2, ![n, m]⟩ : Shape) (x : Ideal φ)) fun _ _ => a :=
  fun _ => h

end Ops

theorem Is3.ext {n m k : ℕ} {φ : FTy} {v : FVec Ideal (⟨3, ![n, m, k]⟩ : Shape) φ} {f g : ℕ → ℕ → ℕ → ℝ} (h : Is3 v f)
    (e : ∀ b t c, b < n → t < m → c < k → f b t c = g b t c) : Is3 v g :=
  h.congr fun j => e _ _ _ (j 0).isLt (j 1).isLt (j 2).isLt

section Casts

variable {n m : ℕ} {φ : FTy}

theorem cast_self2 {v : FVec Ideal (⟨2, ![n, m]⟩ : Shape) φ} {f : ℕ → ℕ → ℝ} (hv : Is2 v f) (h) :
    Is2 (shapeCast (⟨2, ![n, m]⟩ : Shape) v h) f := fun j => by
  show v (Shape.reshapeEquiv h j) = _
  rw [Shape.reshapeEquiv_self]; exact hv j

/-- A leading unit axis dropped. -/
theorem cast_drop {v : FVec Ideal (⟨3, ![1, n, m]⟩ : Shape) φ} {f : ℕ → ℕ → ℕ → ℝ} (hv : Is3 v f) (h) :
    Is2 (shapeCast (⟨2, ![n, m]⟩ : Shape) v h) (f 0) := fun j => by
  show v (Shape.reshapeEquiv h j) = _
  have e : Shape.reshapeEquiv h j = Fin.cons ⟨0, Nat.one_pos⟩ j := Shape.reshapeEquiv_cons_one (d := ![n, m]) h j
  rw [e]; exact hv _

/-- Two leading unit axes dropped. -/
theorem cast_drop2 {v : FVec Ideal (⟨4, ![1, 1, n, m]⟩ : Shape) φ} {f : ℕ → ℕ → ℕ → ℕ → ℝ} (hv : Is4 v f) (h) :
    Is2 (shapeCast (⟨2, ![n, m]⟩ : Shape) v h) (f 0 0) := fun j => by
  show v (Shape.reshapeEquiv h j) = _
  have e : Shape.reshapeEquiv h j = Fin.cons ⟨0, Nat.one_pos⟩ (Fin.cons ⟨0, Nat.one_pos⟩ j) := QrPanel.StackBlock.reshapeEquiv_cons_one_one (d := ![n, m]) h j
  rw [e]; exact hv _

theorem put_idx {r : ℕ} {d : Fin r → ℕ} (h : (⟨r + 1, Matrix.vecCons 1 d⟩ : Shape).numel = (⟨r, d⟩ : Shape).numel)
    (j : (⟨r + 1, Matrix.vecCons 1 d⟩ : Shape).Idx) (z : (⟨r, d⟩ : Shape).Idx) (hz : (fun a : Fin r => j a.succ) = z) :
    Shape.reshapeEquiv h j = z := by
  have e : Shape.reshapeEquiv h.symm z = j := by
    rw [Shape.reshapeEquiv_cons_one]
    refine funext fun a => ?_
    refine Fin.cases ?_ (fun b => ?_) a
    · exact Subsingleton.elim (α := Fin 1) _ _
    · rw [← hz]; rfl
  rw [← e, Shape.reshapeEquiv_reshapeEquiv, Shape.reshapeEquiv_self]

/-- A leading unit axis put. -/
theorem cast_put {v : FVec Ideal (⟨2, ![n, m]⟩ : Shape) φ} {f : ℕ → ℕ → ℝ} (hv : Is2 v f) (h) :
    Is3 (shapeCast (⟨3, ![1, n, m]⟩ : Shape) v h) fun _ => f := fun j => by
  show v (Shape.reshapeEquiv h j) = _
  rw [put_idx h j (ix2 ⟨(j 1).val, (j 1).isLt⟩ ⟨(j 2).val, (j 2).isLt⟩) (funext fun a => by fin_cases a <;> rfl)]
  exact hv _

theorem cast_put1 {v : FVec Ideal (⟨1, ![m]⟩ : Shape) φ} {f : ℕ → ℝ} (hv : Is1 v f) (h) :
    Is2 (shapeCast (⟨2, ![1, m]⟩ : Shape) v h) fun _ => f := fun j => by
  show v (Shape.reshapeEquiv h j) = _
  rw [put_idx h j (ix1 ⟨(j 1).val, (j 1).isLt⟩) (funext fun a => by fin_cases a; rfl)]
  exact hv _

end Casts

/-- The sum of a tile's rows, kept as one row. -/
theorem colSum {v : FVec Ideal S2048x128 .f32} {f : ℕ → ℕ → ℝ} (hv : Is2 (n := 2048) (m := 128) v f) (h1 h2 h3 h4) :
    Is2 (n := 1) (m := 128) (φ := .f32) (shapeCast S1x128 (multiReduction .add [0] S128 v 0x00000000#32 h1 h2 h3) h4)
      fun _ c => ∑ t ∈ Finset.range 2048, f t c := by
  refine cast_put1 (m := 128) (fun j => ?_) _
  pointwise
  rw [coe_sum_fin (fun t => f t (j 0).val)]
  exact Finset.sum_congr rfl fun t _ => hv _

theorem mm00 {x y : FVec Ideal S2048x128 .bf16} {f g : ℕ → ℕ → ℝ} (hx : Is2 (n := 2048) (m := 128) x f) (hy : Is2 (n := 2048) (m := 128) y g) :
    Is2 (n := 128) (m := 128) (φ := .f32)
      (matmul dot_S2048x128_S2048x128_S128x128_0_0_1_1_n_n none x y (constant S128x128 .f32 0x00000000#32))
      fun j k => ∑ t ∈ Finset.range 2048, f t j * g t k := by
  intro j
  pointwise
  rw [coe_sum_fin (fun t => f t (j 0).val * g t (j 1).val)]
  refine Finset.sum_congr rfl fun t _ => ?_
  rw [EReal.coe_mul]
  exact congrArg₂ (· * ·) (hx _) (hy _)

theorem mm11 {x : FVec Ideal S2048x128 .bf16} {y : FVec Ideal S128x128 .bf16} {f g : ℕ → ℕ → ℝ}
    (hx : Is2 (n := 2048) (m := 128) x f) (hy : Is2 (n := 128) (m := 128) y g) :
    Is2 (n := 2048) (m := 128) (φ := .f32)
      (matmul dot_S2048x128_S128x128_S2048x128_1_1_0_0_n_n none x y (constant S2048x128 .f32 0x00000000#32))
      fun t c => ∑ k ∈ Finset.range 128, f t k * g c k := by
  intro j
  pointwise
  rw [coe_sum_fin (fun k => f (j 0).val k * g (j 1).val k)]
  refine Finset.sum_congr rfl fun t _ => ?_
  rw [EReal.coe_mul]
  exact congrArg₂ (· * ·) (hx _) (hy _)

/-- One row over all rows. -/
theorem bcastRow {v : FVec Ideal S1x128 .f32} {f : ℕ → ℕ → ℝ} (hv : Is2 (n := 1) (m := 128) v f) (h) :
    Is2 (n := 2048) (m := 128) (φ := .f32) (broadcastTo S2048x128 v h) fun _ c => f 0 c := by
  intro j
  pointwise
  exact hv _

/-- A literal over a tile. -/
theorem bcastLit {S : Shape} {x : EReal} {a : ℝ} (h : x = (a : EReal)) : Is (S := S) (φ := .f32) (broadcast S (x : Ideal .f32)) fun _ => a := fun _ => h

theorem lit_zero : (Scalar.ofBits .f32 0x00000000#32 : Ideal .f32) = ((0 : ℝ) : EReal) := by
  show Ideal.ofBits .f32 0x00000000#32 = _
  simp [Ideal.ofBits, Ideal.ieee]

theorem lit_one : (Scalar.ofBits .f32 0x3F800000#32 : Ideal .f32) = ((1 : ℝ) : EReal) := by
  show Ideal.ofBits .f32 0x3F800000#32 = _
  simp [Ideal.ofBits, Ideal.ieee]
  rw [← EReal.coe_mul]; norm_num

end Cert.Proof

end
-- ==== Proof.Pay.lean ====
module

public import proofs.«01_k».proof.Proof.Tile

@[expose] public section

set_option maxRecDepth 16384

/-! # What the kernel computes from a block's tiles -/

noncomputable section

namespace Cert.Proof

open Idealize.ShloMosaic Cert.KernelIdeal Cert.KernelIdeal.Gen Scan

/-- A tile of batch `b` and block `n`. -/
abbrev T {φ : FTy} (b n : ℕ) (v : FVec Ideal S2048x128 φ) (F : ℕ → ℕ → ℕ → ℝ) : Prop :=
  Is2 (n := 2048) (m := 128) v fun t c => F b t (n * 128 + c)

/-- A row of one block. -/
abbrev R1 {φ : FTy} (n : ℕ) (v : FVec Ideal S1x128 φ) (F : ℕ → ℝ) : Prop :=
  Is2 (n := 1) (m := 128) v fun _ c => F (n * 128 + c)

section

variable {I : In} {b n : ℕ} {r i a mult xc g hp : FVec Ideal S2048x128 .f32} {sp lam : FVec Ideal S1x128 .f32}

theorem pay21_is (hl : R1 n lam I.LAM) : R1 n (k0_pay21 lam) I.sp := by
  have h0 : Is (S := S1x128) (φ := .f32) (broadcast S1x128 (Scalar.ofBits .f32 0x00000000#32 : Ideal .f32)) fun _ => (0 : ℝ) := bcastLit lit_zero
  have h1 := (h0.subf hl)
  have h2 : Is (S := S1x128) (φ := .f32) (absf (subf (broadcast S1x128 (Scalar.ofBits .f32 0x00000000#32 : Ideal .f32)) lam))
      fun j => |0 - I.LAM (n * 128 + (j 1).val)| := fun j => by
    show max _ _ = _
    rw [h1 j, ← EReal.coe_neg, coe_max]; rfl
  have h3 := (h0.subf h2).exp
  have h4 : Is (S := S1x128) (φ := .f32) (log1p (exp (subf (broadcast S1x128 (Scalar.ofBits .f32 0x00000000#32 : Ideal .f32))
      (absf (subf (broadcast S1x128 (Scalar.ofBits .f32 0x00000000#32 : Ideal .f32)) lam)))))
      fun j => Real.log (1 + Real.exp (0 - |0 - I.LAM (n * 128 + (j 1).val)|)) := fun j => by
    show Ideal.log1p _ = _
    rw [h3 j, coe_log1p (Real.exp_pos _).le]
  refine ((h1.maxf h0).addf h4).congr fun j => ?_
  simp only [In.sp, In.softplus, zero_sub]

theorem pay54_is (hm : T b n mult I.mult) (hg : T b n g I.g) :
    Is2 (n := 2048) (m := 128) (k0_pay54 mult g) fun t c => I.g b t (n * 128 + c) * I.mult b t (n * 128 + c) := hg.mulf hm

theorem pay55_is (hi : T b n i I.i) (hm : T b n mult I.mult) (hg : T b n g I.g) :
    Is2 (n := 2048) (m := 128) (k0_pay55 i mult g)
      fun t c => I.g b t (n * 128 + c) * I.mult b t (n * 128 + c) * I.i b t (n * 128 + c) := (pay54_is hm hg).mulf hi

theorem pay56_is (hi : T b n i I.i) (ha : T b n a I.a) (hm : T b n mult I.mult) (hx : T b n xc I.xc) (hg : T b n g I.g) (hh : T b n hp I.hp) :
    T b n (k0_pay56 kernelRun0_A.sl.v0 i a mult xc g hp) I.dla := by
  have hs : Is2 (n := 2048) (m := 128) (φ := .f32) (select (cmpi .eq kernelRun0_A.sl.v0 (broadcast S2048x128 0#32))
      (broadcast S2048x128 (Scalar.ofBits .f32 0x00000000#32 : Ideal .f32)) (mulf g (mulf i xc)))
      fun t c => if t = 0 then 0 else I.g b t (n * 128 + c) * (I.i b t (n * 128 + c) * I.xc b t (n * 128 + c)) := by
    intro j
    have e := (hg.mulf (hi.mulf hx)) j
    have h0 : (j 0).val < 2048 := (j 0).isLt
    show (if (BitVec.ofBool (_ == _) : BitVec 1) = 1#1 then (Scalar.ofBits .f32 0x00000000#32 : Ideal .f32) else mulf g (mulf i xc) j) = ((if _ then _ else _ : ℝ) : EReal)
    have hv : kernelRun0_A.sl.v0 j = BitVec.ofNat 32 (j 0).val := by
      unfold kernelRun0_A.sl.v0; pointwise
    by_cases h : (j 0).val = 0
    · rw [if_pos h, hv, h, if_pos (by rfl)]; exact lit_zero
    · rw [if_neg h, if_neg, e]
      rw [hv]
      have : BitVec.ofNat 32 (j 0).val ≠ 0#32 := fun h' => h (by
        have := congrArg BitVec.toNat h'
        simp only [BitVec.toNat_ofNat] at this; omega)
      intro h'
      have h2 : BitVec.ofBool (BitVec.ofNat 32 (j 0).val == 0#32) = 1#1 := h'
      rw [beq_eq_false_iff_ne.2 this] at h2
      exact absurd h2 (by decide)
  exact ((hg.mulf hh).mulf ha).subf ((hs.mulf (ha.mulf ha)).divf hm fun j => (I.mult_pos _ _ _).ne')

theorem pay58_is (hr : T b n r I.r) (hi : T b n i I.i) (ha : T b n a I.a) (hm : T b n mult I.mult) (hx : T b n xc I.xc) (hs : R1 n sp I.sp)
    (hg : T b n g I.g) (hh : T b n hp I.hp) : T b n (k0_pay58 kernelRun0_A.sl.v0 r i a mult xc sp g hp) I.dpa :=
  ((Is2.mul (pay56_is hi ha hm hx hg hh) (bcastRow (Is2.mul (Is2.lit lit_neg_eight) hs) broadcasts_S1x128_S2048x128)).mul hr).mul
    ((Is2.lit lit_one).sub hr)

theorem pay59_is (hi : T b n i I.i) (hm : T b n mult I.mult) (hx : T b n xc I.xc) (hg : T b n g I.g) :
    T b n (k0_pay59 i mult xc g) I.dpx :=
  (((pay54_is hm hg).mulf hx).mulf hi).mulf (Is.subf (bcastLit lit_one) hi)

theorem pay57_is (hl : R1 n lam I.LAM) (hr : T b n r I.r) (hi : T b n i I.i) (ha : T b n a I.a) (hm : T b n mult I.mult) (hx : T b n xc I.xc)
    (hg : T b n g I.g) (hh : T b n hp I.hp) : R1 n (k0_pay57 kernelRun0_A.sl.v0 lam r i a mult xc g hp) (I.gLAM b) := by
  have hz : Is (S := S1x128) (φ := .f32) (broadcast S1x128 (Scalar.ofBits .f32 0x00000000#32 : Ideal .f32)) fun _ => (0 : ℝ) := bcastLit lit_zero
  have h1 := colSum (Is2.mul (pay56_is hi ha hm hx hg hh) (Is2.mul (Is2.lit lit_neg_eight) hr)) reduces_S2048x128_S128 (.inl rfl) rfl shapeCasts_S128_S1x128
  refine (h1.mulf (hz.subf (hz.subf hl).logistic)).congr fun j => ?_
  simp only [zero_sub]
  rfl

variable {wa wx : FVec Ideal S128x128 .bf16} {dpa dpx xcb : FVec Ideal S2048x128 .bf16} {gmi : FVec Ideal S2048x128 .f32}

/-- A weight block. -/
abbrev W2 (n : ℕ) (v : FVec Ideal S128x128 .bf16) (F : ℕ → ℕ → ℕ → ℝ) : Prop := Is2 (n := 128) (m := 128) v fun j k => F n j k

theorem blockMulT_at (f : ℕ → ℝ) (W : ℕ → ℕ → ℕ → ℝ) (n c : ℕ) (hc : c < 128) :
    In.blockMulT f W (n * 128 + c) = ∑ k ∈ Finset.range 128, f (n * 128 + k) * W n c k := by
  have e1 : (n * 128 + c) / 128 = n := by omega
  have e2 : (n * 128 + c) % 128 = c := by omega
  rw [In.blockMulT, e1, e2]

theorem pay66_is (hwa : W2 n wa I.WA) (hwx : W2 n wx I.WX) (h1 : Is2 (n := 2048) (m := 128) gmi
      fun t c => I.g b t (n * 128 + c) * I.mult b t (n * 128 + c) * I.i b t (n * 128 + c)) (h2 : T b n dpa I.dpa) (h3 : T b n dpx I.dpx) :
    T b n (k0_pay66 wa wx gmi dpa dpx) I.dxc := by
  refine Is2.ext (Is2.add (Is2.add h1 (mm11 h2 hwa)) (mm11 h3 hwx)) fun t c ht hc => ?_
  rw [In.dxc, if_pos ht, blockMulT_at _ _ _ _ hc, blockMulT_at _ _ _ _ hc]

end

end Cert.Proof

end
-- ==== Proof.Block.lean ====
module

public import proofs.«01_k».proof.Proof.Pay

@[expose] public section

set_option maxRecDepth 16384

/-! # The kernel's body on one block, word by word -/

noncomputable section

namespace Cert.Proof

open Idealize.ShloMosaic Cert.KernelIdeal Cert.KernelIdeal.Gen Scan

/-- The stacked gates. -/
def In.gate (I : In) (k b t c : ℕ) : ℝ :=
  if k = 0 then I.r b t c else if k = 1 then I.i b t c else if k = 2 then I.a b t c else if k = 3 then I.mult b t c else I.xc b t c

/-- The blocks of batch `b` and channels `128 n …`. -/
structure Blk (I : In) (b n : ℕ) (x0 : Vec Ideal S1x2048x128 .bf16) (x1 : Vec Ideal S1x2048x128 .f32) (x2 : Vec Ideal S1x2048x128 .f32) (x3 : Vec Ideal S5x1x2048x128 .f32) (x4 : Vec Ideal S4x128 .f32) (x6 : Vec Ideal S1x128x128 .bf16) (x8 : Vec Ideal S1x128x128 .bf16) (x10 : Vec Ideal S1x128 .f32) : Prop where
  x : Is3 (n := 1) (m := 2048) (k := 128) (φ := .bf16) x0 fun _ t c => I.X b t (n * 128 + c)
  x1 : Is3 (n := 1) (m := 2048) (k := 128) (φ := .f32) x1 fun _ t c => I.h b t (n * 128 + c)
  x2 : Is3 (n := 1) (m := 2048) (k := 128) (φ := .f32) x2 fun _ t c => I.DH b t (n * 128 + c)
  x3 : Is4 (n := 5) (m := 1) (k := 2048) (l := 128) (φ := .f32) x3 fun k _ t c => I.gate k b t (n * 128 + c)
  x4 : Is2 (n := 4) (m := 128) (φ := .f32) x4 fun k c => I.CW k (n * 128 + c)
  x6 : Is3 (n := 1) (m := 128) (k := 128) (φ := .bf16) x6 fun _ j k => I.WA n j k
  x8 : Is3 (n := 1) (m := 128) (k := 128) (φ := .bf16) x8 fun _ j k => I.WX n j k
  x10 : Is2 (n := 1) (m := 128) (φ := .f32) x10 fun _ c => I.LAM (n * 128 + c)

section Real

variable (I : In) (b n : ℕ)

/-- The cotangent of the block, zero past the end. -/
def wB (t c : ℕ) : ℝ := if t < 2048 then I.DH b t (n * 128 + c) else 0

/-- The logarithms of the block's decays. -/
def lB (t c : ℕ) : ℝ := I.la b t (n * 128 + c)

theorem load_idx (f : ℕ → ℕ → ℝ) (t c : ℕ) : f (0 + 1 * t) (0 + 1 * c) = f t c := by simp only [Nat.zero_add, Nat.one_mul]

theorem load_idx2 (f : ℕ → ℕ → ℝ) (n t c : ℕ) : f (0 + 1 * t) (n * 128 + (0 + 1 * c)) = f t (n * 128 + c) := by
  simp only [Nat.zero_add, Nat.one_mul]

theorem load_gate (k : ℕ) (F : ℕ → ℕ → ℕ → ℝ) (hF : I.gate k = F) (j : (⟨4, ![1, 1, 2048, 128]⟩ : Shape).Idx) :
    I.gate (k + 1 * (j 0).val) b (0 + 1 * (j 2).val) (n * 128 + (0 + 1 * (j 3).val)) = F b (j 2).val (n * 128 + (j 3).val) := by
  have h0 : (j 0).val < 1 := (j 0).isLt
  have h : (j 0).val = 0 := by omega
  rw [h, Nat.mul_zero, Nat.add_zero, hF]; simp only [Nat.zero_add, Nat.one_mul]

theorem downX (d t c : ℕ) (hd : d ≤ 3) (ht : t < 2048) :
    (if 8 ≤ t + (8 - d) ∧ t + (8 - d) < 2056 then I.X b (t + (8 - d) - 8) (n * 128 + c) else 0) = I.xp b (t + (3 - d)) (n * 128 + c) := by
  rw [In.xp]
  by_cases h : t < d
  · rw [if_neg (by omega), if_pos (by omega)]
  · rw [if_pos (by omega), if_neg (by omega)]
    congr 1; omega

theorem downH (t c : ℕ) (ht : t < 2048) :
    (if 8 ≤ t + 7 ∧ t + 7 < 2056 then I.h b (t + 7 - 8) (n * 128 + c) else 0) = I.hp b t (n * 128 + c) := by
  rw [In.hp, hprev]
  by_cases h : t = 0
  · rw [if_neg (by omega), if_pos h]
  · rw [if_pos (by omega), if_neg h, In.h]
    congr 1

theorem upA (t c : ℕ) (ht : t < 2048) :
    (if 8 ≤ t + 9 ∧ t + 9 < 2056 then I.a b (t + 9 - 8) (n * 128 + c) else 0) = lvB (lB I b n) 1 t c := by
  rw [lvB, upb_one, next]
  by_cases h : t + 1 < 2048
  · rw [if_pos (by omega), if_pos h, In.a, lB]
    congr 1
  · rw [if_neg (by omega), if_neg h]

theorem dh_lvG (t c : ℕ) (ht : t < 2048) : I.DH b t (n * 128 + c) = lvG (wB I b n) (lB I b n) 1 t c := by
  rw [lvG, up_one, wB, if_pos ht]

theorem lvG_shift (d o : ℕ) (ho : o = 8 + d) (w l : ℕ → ℕ → ℝ) {t : ℕ} (c : ℕ) (ht : t < 2048) :
    lvG w l d t c + lvB l d t c * (if 8 ≤ t + o ∧ t + o < 2056 then lvG w l d (t + o - 8) c else 0) = lvG w l (2 * d) t c := by
  rw [← lvG_step w l c ht]
  by_cases h : t + d < 2048
  · rw [if_pos (by omega), if_pos h]
    congr 3; omega
  · rw [if_neg (by omega), if_neg h, mul_zero, add_zero]

theorem lvB_shift (d o : ℕ) (ho : o = 8 + d) (l : ℕ → ℕ → ℝ) {t : ℕ} (c : ℕ) (ht : t < 2048) :
    lvB l d t c * (if 8 ≤ t + o ∧ t + o < 2056 then lvB l d (t + o - 8) c else 0) = lvB l (2 * d) t c := by
  rw [← lvB_step l c ht]
  by_cases h : t + d < 2048
  · rw [if_pos (by omega), if_pos h]
    congr 2; omega
  · rw [if_neg (by omega), if_neg h, mul_zero, lvB, upb_end 2048 _ d t ht (by omega)]

theorem lvG_g (t c : ℕ) (ht : t < 2048) : lvG (wB I b n) (lB I b n) 2048 t c = I.g b t (n * 128 + c) := by
  rw [lvG, up_eq_adj 2048 _ _ (fun s hs => by rw [wB, if_neg (by omega)]) t ht, In.g, adj, adj]
  refine Finset.sum_congr rfl fun s hs => ?_
  rw [wB, if_pos (Finset.mem_range.1 hs)]
  rfl

theorem upD (d o : ℕ) (ho : o = 8 + d) (t c : ℕ) :
    (if 8 ≤ t + o ∧ t + o < 2056 then I.dxc b (t + o - 8) (n * 128 + c) else 0) = I.dxc b (t + d) (n * 128 + c) := by
  by_cases h : t + d < 2048
  · rw [if_pos (by omega)]; congr 1; omega
  · rw [if_neg (by omega), In.dxc, if_neg h]

theorem gCW3 (c : ℕ) : ∑ t ∈ Finset.range 2048, I.dxc b t (n * 128 + c) * I.X b t (n * 128 + c) = I.gCW b 3 (n * 128 + c) := by
  rw [In.gCW, In.tot]
  refine Finset.sum_congr rfl fun t _ => ?_
  rw [In.xp, if_neg (by omega), Nat.add_sub_cancel]

end Real

/-- One row of a tile. -/
theorem row_is {v : FVec Ideal S4x128 .f32} {f : ℕ → ℕ → ℝ} (hv : Is2 (n := 4) (m := 128) v f) (k : ℕ) (h) :
    Is2 (n := 1) (m := 128) (φ := .f32) (extractStridedSlice S1x128 ![k, 0] v h) fun _ c => f k c := fun j => by
  refine (hv _).trans (congrArg _ ?_)
  have h0 : (j 0).val < 1 := (j 0).isLt
  show f (k + (j 0).val) (0 + (j 1).val) = _
  have e : (j 0).val = 0 := by omega
  rw [e, Nat.add_zero, Nat.zero_add]

section Words

variable {I : In} {b n : ℕ} {c : Dev nD}  {arg2 : Memref sig .tc .vmem S1x2048x128 .bf16} {harg2 : arg2.IsWhole} {arg3 : Memref sig .tc .vmem S1x2048x128 .f32} {harg3 : arg3.IsWhole} {arg4 : Memref sig .tc .vmem S1x2048x128 .f32} {harg4 : arg4.IsWhole} {arg5 : Memref sig .tc .vmem S5x1x2048x128 .f32} {harg5 : arg5.IsWhole} {arg6 : Memref sig .tc .vmem S4x128 .f32} {harg6 : arg6.IsWhole} {arg7 : Memref sig .tc .vmem S1x128 .f32} {harg7 : arg7.IsWhole} {arg8 : Memref sig .tc .vmem S1x128x128 .bf16} {harg8 : arg8.IsWhole} {arg9 : Memref sig .tc .vmem S1x128 .f32} {harg9 : arg9.IsWhole} {arg10 : Memref sig .tc .vmem S1x128x128 .bf16} {harg10 : arg10.IsWhole} {arg11 : Memref sig .tc .vmem S1x128 .f32} {harg11 : arg11.IsWhole} {arg12 : Memref sig .tc .vmem S1x128 .f32} {harg12 : arg12.IsWhole} {arg14 : Memref sig .tc .vmem S8x128 .f32} {harg14 : arg14.IsWhole} {arg15 : Memref sig .tc .vmem S1x2048x128 .bf16} {harg15 : arg15.IsWhole} {arg16 : Memref sig .tc .vmem S4x128 .f32} {harg16 : arg16.IsWhole} {arg17 : Memref sig .tc .vmem S1x128 .f32} {harg17 : arg17.IsWhole} {arg18 : Memref sig .tc .vmem S1x128x128 .f32} {harg18 : arg18.IsWhole} {arg19 : Memref sig .tc .vmem S1x128 .f32} {harg19 : arg19.IsWhole} {arg20 : Memref sig .tc .vmem S1x128x128 .f32} {harg20 : arg20.IsWhole} {arg21 : Memref sig .tc .vmem S1x128 .f32} {harg21 : arg21.IsWhole} {arg22 : Memref sig .tc .vmem S1x128 .f32} {harg22 : arg22.IsWhole} {arg23 : Memref sig .tc .vmem S4x2064x128 .f32} {harg23 : arg23.IsWhole}
  {x0 : Vec Ideal S1x2048x128 .bf16} {x1 : Vec Ideal S1x2048x128 .f32} {x2 : Vec Ideal S1x2048x128 .f32} {x3 : Vec Ideal S5x1x2048x128 .f32} {x4 : Vec Ideal S4x128 .f32} {x6 : Vec Ideal S1x128x128 .bf16} {x8 : Vec Ideal S1x128x128 .bf16} {x10 : Vec Ideal S1x128 .f32}
  (H : Blk I b n x0 x1 x2 x3 x4 x6 x8 x10)

include H

theorem r_is : T b n (kernelRun0_A.sl.r (F := Ideal) c arg2 harg2 x0) I.X :=
  Is.extf bitsLt_bf16_f32 (cast_drop (φ := .bf16) (n := 2048) (m := 128) (f := fun _ t c => I.X b t (n * 128 + c))
    (fun j => (harg2.readAt_unread x0 (Rect.unit (s := S1x2048x128) ![0, 0, 0] S1x2048x128.size inb_S1x2048x128_S1x2048x128_0_0_0).toLoadRect j).trans ((H.x _).trans (congrArg _ (load_idx2 (I.X b) n (j 1).val (j 2).val)))) shapeCasts_S1x2048x128_S2048x128)

theorem r_15_is : T b n (kernelRun0_A.sl.r_15 (F := Ideal) c arg3 harg3 x1) I.h :=
  cast_drop (φ := .f32) (n := 2048) (m := 128) (f := fun _ t c => I.h b t (n * 128 + c))
    (fun j => (harg3.readAt_unread x1 (Rect.unit (s := S1x2048x128) ![0, 0, 0] S1x2048x128.size inb_S1x2048x128_S1x2048x128_0_0_0).toLoadRect j).trans ((H.x1 _).trans (congrArg _ (load_idx2 (I.h b) n (j 1).val (j 2).val)))) shapeCasts_S1x2048x128_S2048x128

theorem r_17d_is : T b n (kernelRun0_A.sl.r_17 (F := Ideal) c arg4 harg4 x2) I.DH :=
  cast_drop (φ := .f32) (n := 2048) (m := 128) (f := fun _ t c => I.DH b t (n * 128 + c))
    (fun j => (harg4.readAt_unread x2 (Rect.unit (s := S1x2048x128) ![0, 0, 0] S1x2048x128.size inb_S1x2048x128_S1x2048x128_0_0_0).toLoadRect j).trans ((H.x2 _).trans (congrArg _ (load_idx2 (I.DH b) n (j 1).val (j 2).val)))) shapeCasts_S1x2048x128_S2048x128

theorem r_5_is : T b n (kernelRun0_A.sl.r_5 (F := Ideal) c arg5 harg5 x3) I.r :=
  cast_drop2 (φ := .f32) (n := 2048) (m := 128) (f := fun _ _ t c => I.r b t (n * 128 + c))
    (fun j => (harg5.readAt_unread x3 (Rect.unit (s := S5x1x2048x128) ![0, 0, 0, 0] S1x1x2048x128.size inb_S5x1x2048x128_S1x1x2048x128_0_0_0_0).toLoadRect j).trans ((H.x3 _).trans (congrArg _ (load_gate I b n 0 I.r rfl j)))) shapeCasts_S1x1x2048x128_S2048x128

theorem r_6_is : T b n (kernelRun0_A.sl.r_6 (F := Ideal) c arg5 harg5 x3) I.i :=
  cast_drop2 (φ := .f32) (n := 2048) (m := 128) (f := fun _ _ t c => I.i b t (n * 128 + c))
    (fun j => (harg5.readAt_unread x3 (Rect.unit (s := S5x1x2048x128) ![1, 0, 0, 0] S1x1x2048x128.size inb_S5x1x2048x128_S1x1x2048x128_1_0_0_0).toLoadRect j).trans ((H.x3 _).trans (congrArg _ (load_gate I b n 1 I.i rfl j)))) shapeCasts_S1x1x2048x128_S2048x128

theorem r_7_is : T b n (kernelRun0_A.sl.r_7 (F := Ideal) c arg5 harg5 x3) I.a :=
  cast_drop2 (φ := .f32) (n := 2048) (m := 128) (f := fun _ _ t c => I.a b t (n * 128 + c))
    (fun j => (harg5.readAt_unread x3 (Rect.unit (s := S5x1x2048x128) ![2, 0, 0, 0] S1x1x2048x128.size inb_S5x1x2048x128_S1x1x2048x128_2_0_0_0).toLoadRect j).trans ((H.x3 _).trans (congrArg _ (load_gate I b n 2 I.a rfl j)))) shapeCasts_S1x1x2048x128_S2048x128

theorem r_8_is : T b n (kernelRun0_A.sl.r_8 (F := Ideal) c arg5 harg5 x3) I.mult :=
  cast_drop2 (φ := .f32) (n := 2048) (m := 128) (f := fun _ _ t c => I.mult b t (n * 128 + c))
    (fun j => (harg5.readAt_unread x3 (Rect.unit (s := S5x1x2048x128) ![3, 0, 0, 0] S1x1x2048x128.size inb_S5x1x2048x128_S1x1x2048x128_3_0_0_0).toLoadRect j).trans ((H.x3 _).trans (congrArg _ (load_gate I b n 3 I.mult rfl j)))) shapeCasts_S1x1x2048x128_S2048x128

theorem r_9_is : T b n (kernelRun0_A.sl.r_9 (F := Ideal) c arg5 harg5 x3) I.xc :=
  cast_drop2 (φ := .f32) (n := 2048) (m := 128) (f := fun _ _ t c => I.xc b t (n * 128 + c))
    (fun j => (harg5.readAt_unread x3 (Rect.unit (s := S5x1x2048x128) ![4, 0, 0, 0] S1x1x2048x128.size inb_S5x1x2048x128_S1x1x2048x128_4_0_0_0).toLoadRect j).trans ((H.x3 _).trans (congrArg _ (load_gate I b n 4 I.xc rfl j)))) shapeCasts_S1x1x2048x128_S2048x128

theorem r_2_is : W2 n (kernelRun0_A.sl.r_2 (F := Ideal) c arg8 harg8 x6) I.WA :=
  cast_drop (φ := .bf16) (n := 128) (m := 128) (f := fun _ j k => I.WA n j k)
    (fun j => (harg8.readAt_unread x6 (Rect.unit (s := S1x128x128) ![0, 0, 0] S1x128x128.size inb_S1x128x128_S1x128x128_0_0_0).toLoadRect j).trans ((H.x6 _).trans (congrArg _ (load_idx (I.WA n) (j 1).val (j 2).val)))) shapeCasts_S1x128x128_S128x128

theorem r_3_is : W2 n (kernelRun0_A.sl.r_3 (F := Ideal) c arg10 harg10 x8) I.WX :=
  cast_drop (φ := .bf16) (n := 128) (m := 128) (f := fun _ j k => I.WX n j k)
    (fun j => (harg10.readAt_unread x8 (Rect.unit (s := S1x128x128) ![0, 0, 0] S1x128x128.size inb_S1x128x128_S1x128x128_0_0_0).toLoadRect j).trans ((H.x8 _).trans (congrArg _ (load_idx (I.WX n) (j 1).val (j 2).val)))) shapeCasts_S1x128x128_S128x128

theorem r_1_is : Is2 (n := 4) (m := 128) (φ := .f32) (kernelRun0_A.sl.r_1 (F := Ideal) c arg6 harg6 x4) fun k c => I.CW k (n * 128 + c) :=
  fun j => (harg6.readAt_unread x4 (Rect.unit (s := S4x128) ![0, 0] S4x128.size inb_S4x128_S4x128_0_0).toLoadRect j).trans ((H.x4 _).trans (congrArg _ (load_idx (fun k c => I.CW k (n * 128 + c)) (j 0).val (j 1).val)))

theorem r_4_is : R1 (φ := .f32) n (kernelRun0_A.sl.r_4 (F := Ideal) c arg12 harg12 x10) I.LAM :=
  fun j => (harg12.readAt_unread x10 (Rect.unit (s := S1x128) ![0, 0] S1x128.size inb_S1x128_S1x128_0_0).toLoadRect j).trans ((H.x10 _).trans (congrArg _ (load_idx (fun _ c => I.LAM (n * 128 + c)) (j 0).val (j 1).val)))

theorem r_13_is : T b n (kernelRun0_A.sl.r_13 (F := Ideal) c arg5 harg5 x3) I.xc :=
  Is.truncf bitsLt_bf16_f32 (r_9_is H)

theorem r_14_is : R1 n (kernelRun0_A.sl.r_14 (F := Ideal) c arg12 harg12 x10) I.sp :=
  pay21_is (r_4_is H)

theorem r_10_is : Is2 (n := 2048) (m := 128) (φ := .f32) (kernelRun0_A.sl.r_10 (F := Ideal) c arg2 harg2 arg23 x0) fun t c => I.xp b (t + 2) (n * 128 + c) :=
  Is2.ext (padLoad _ _ _ _ _ _ _ _ _ _ _ _ _ _ _ _ _ _ _ _ (fun t c => I.X b t (n * 128 + c)) (cast_self2 (r_is H) _) (fun _ => lit_zero) (by omega))
    fun t c ht hc => downX I b n 1 t c (by decide) ht

theorem r_11_is : Is2 (n := 2048) (m := 128) (φ := .f32) (kernelRun0_A.sl.r_11 (F := Ideal) c arg2 harg2 arg23 x0) fun t c => I.xp b (t + 1) (n * 128 + c) :=
  Is2.ext (padLoad _ _ _ _ _ _ _ _ _ _ _ _ _ _ _ _ _ _ _ _ (fun t c => I.X b t (n * 128 + c)) (cast_self2 (r_is H) _) (fun _ => lit_zero) (by omega))
    fun t c ht hc => downX I b n 2 t c (by decide) ht

theorem r_12_is : Is2 (n := 2048) (m := 128) (φ := .f32) (kernelRun0_A.sl.r_12 (F := Ideal) c arg2 harg2 arg23 x0) fun t c => I.xp b (t + 0) (n * 128 + c) :=
  Is2.ext (padLoad _ _ _ _ _ _ _ _ _ _ _ _ _ _ _ _ _ _ _ _ (fun t c => I.X b t (n * 128 + c)) (cast_self2 (r_is H) _) (fun _ => lit_zero) (by omega))
    fun t c ht hc => downX I b n 3 t c (by decide) ht

theorem r_16_is : Is2 (n := 2048) (m := 128) (φ := .f32) (kernelRun0_A.sl.r_16 (F := Ideal) c arg2 harg2 arg5 harg5 arg23 x0 x3) (lvB (lB I b n) 1) :=
  Is2.ext (padLoad _ _ _ _ _ _ _ _ _ _ _ _ _ _ _ _ _ _ _ _ (fun t c => I.a b t (n * 128 + c)) (cast_self2 (r_7_is H) _) (fun _ => lit_zero) (by omega))
    fun t c ht hc => upA I b n t c ht

theorem r_17_is : Is2 (n := 2048) (m := 128) (kernelRun0_A.sl.r_17 (F := Ideal) c arg4 harg4 x2) (lvG (wB I b n) (lB I b n) 1) :=
  Is2.ext (r_17d_is H) fun t c ht _ => dh_lvG I b n t c ht

theorem r_19_is : Is2 (n := 2048) (m := 128) (kernelRun0_A.sl.r_19 (F := Ideal) c arg2 harg2 arg4 harg4 arg5 harg5 arg23 x0 x2 x3) (lvG (wB I b n) (lB I b n) 2) :=
  Is2.ext (Is2.add (r_17_is H) (Is2.mul (r_16_is H) (padLoad _ _ _ _ _ _ _ _ _ _ _ _ _ _ _ _ _ _ _ _ (lvG (wB I b n) (lB I b n) 1) (cast_self2 (r_17_is H) _) (fun _ => lit_zero) (by omega))))
    fun t c ht _ => lvG_shift 1 9 rfl _ _ c ht

theorem r_20_is : Is2 (n := 2048) (m := 128) (kernelRun0_A.sl.r_20 (F := Ideal) c arg2 harg2 arg4 harg4 arg5 harg5 arg23 x0 x2 x3) (lvB (lB I b n) 2) :=
  Is2.ext (Is2.mul (r_16_is H) (padLoad _ _ _ _ _ _ _ _ _ _ _ _ _ _ _ _ _ _ _ _ (lvB (lB I b n) 1) (cast_self2 (r_16_is H) _) (fun _ => lit_zero) (by omega)))
    fun t c ht _ => lvB_shift 1 9 rfl _ c ht

theorem r_21_is : Is2 (n := 2048) (m := 128) (kernelRun0_A.sl.r_21 (F := Ideal) c arg2 harg2 arg4 harg4 arg5 harg5 arg23 x0 x2 x3) (lvG (wB I b n) (lB I b n) 4) :=
  Is2.ext (Is2.add (r_19_is H) (Is2.mul (r_20_is H) (padLoad _ _ _ _ _ _ _ _ _ _ _ _ _ _ _ _ _ _ _ _ (lvG (wB I b n) (lB I b n) 2) (cast_self2 (r_19_is H) _) (fun _ => lit_zero) (by omega))))
    fun t c ht _ => lvG_shift 2 10 rfl _ _ c ht

theorem r_22_is : Is2 (n := 2048) (m := 128) (kernelRun0_A.sl.r_22 (F := Ideal) c arg2 harg2 arg4 harg4 arg5 harg5 arg23 x0 x2 x3) (lvB (lB I b n) 4) :=
  Is2.ext (Is2.mul (r_20_is H) (padLoad _ _ _ _ _ _ _ _ _ _ _ _ _ _ _ _ _ _ _ _ (lvB (lB I b n) 2) (cast_self2 (r_20_is H) _) (fun _ => lit_zero) (by omega)))
    fun t c ht _ => lvB_shift 2 10 rfl _ c ht

theorem r_23_is : Is2 (n := 2048) (m := 128) (kernelRun0_A.sl.r_23 (F := Ideal) c arg2 harg2 arg4 harg4 arg5 harg5 arg23 x0 x2 x3) (lvG (wB I b n) (lB I b n) 8) :=
  Is2.ext (Is2.add (r_21_is H) (Is2.mul (r_22_is H) (padLoad _ _ _ _ _ _ _ _ _ _ _ _ _ _ _ _ _ _ _ _ (lvG (wB I b n) (lB I b n) 4) (cast_self2 (r_21_is H) _) (fun _ => lit_zero) (by omega))))
    fun t c ht _ => lvG_shift 4 12 rfl _ _ c ht

theorem r_24_is : Is2 (n := 2048) (m := 128) (kernelRun0_A.sl.r_24 (F := Ideal) c arg2 harg2 arg4 harg4 arg5 harg5 arg23 x0 x2 x3) (lvB (lB I b n) 8) :=
  Is2.ext (Is2.mul (r_22_is H) (padLoad _ _ _ _ _ _ _ _ _ _ _ _ _ _ _ _ _ _ _ _ (lvB (lB I b n) 4) (cast_self2 (r_22_is H) _) (fun _ => lit_zero) (by omega)))
    fun t c ht _ => lvB_shift 4 12 rfl _ c ht

theorem r_25_is : Is2 (n := 2048) (m := 128) (kernelRun0_A.sl.r_25 (F := Ideal) c arg2 harg2 arg4 harg4 arg5 harg5 arg23 x0 x2 x3) (lvG (wB I b n) (lB I b n) 256) := pay49_is _ _ (r_23_is H) (r_24_is H)

theorem r_26_is : Is2 (n := 2048) (m := 128) (kernelRun0_A.sl.r_26 (F := Ideal) c arg2 harg2 arg4 harg4 arg5 harg5 arg23 x0 x2 x3) (lvB (lB I b n) 256) := pay50_is _ (r_24_is H)

theorem r_27_is : T b n (kernelRun0_A.sl.r_27 (F := Ideal) c arg2 harg2 arg4 harg4 arg5 harg5 arg23 x0 x2 x3) I.g := Is2.ext (pay51_is _ _ (r_25_is H) (r_26_is H)) fun t c ht _ => lvG_g I b n t c ht

theorem v266_is : T b n (φ := .f32) (LoadRect.valAlong (lr := (Rect.unit (s := S2064x128) ![7, 0] S2048x128.size inb_S2064x128_S2048x128_7_0).toLoadRect) (by rfl) (kernelRun0_A.sl.v266 (F := Ideal) c arg2 harg2 arg3 harg3 arg4 harg4 arg5 harg5 arg23 x0 x1 x2 x3)) I.hp :=
  Is2.ext (padLoad _ _ _ _ _ _ _ _ _ _ _ _ _ _ _ _ _ _ _ _ (fun t c => I.h b t (n * 128 + c)) (cast_self2 (r_15_is H) _) (fun _ => lit_zero) (by omega))
    fun t c ht hc => downH I b n t c ht

theorem r_28_is : Is2 (n := 2048) (m := 128) (kernelRun0_A.sl.r_28 (F := Ideal) c arg2 harg2 arg4 harg4 arg5 harg5 arg23 x0 x2 x3) fun t c => I.g b t (n * 128 + c) * I.mult b t (n * 128 + c) * I.i b t (n * 128 + c) :=
  pay55_is (r_6_is H) (r_8_is H) (r_27_is H)

theorem r_30_is : T b n (kernelRun0_A.sl.r_30 (F := Ideal) c arg2 harg2 arg4 harg4 arg5 harg5 arg23 x0 x2 x3) I.dpx :=
  pay59_is (r_6_is H) (r_8_is H) (r_9_is H) (r_27_is H)

theorem r_29_is : R1 n (kernelRun0_A.sl.r_29 (F := Ideal) c arg2 harg2 arg3 harg3 arg4 harg4 arg5 harg5 arg12 harg12 arg23 x0 x1 x2 x3 x10) (I.gLAM b) :=
  pay57_is (r_4_is H) (r_5_is H) (r_6_is H) (r_7_is H) (r_8_is H) (r_9_is H) (r_27_is H) (v266_is H)

theorem r_31_is : T b n (kernelRun0_A.sl.r_31 (F := Ideal) c arg2 harg2 arg3 harg3 arg4 harg4 arg5 harg5 arg12 harg12 arg23 x0 x1 x2 x3 x10) I.dpa :=
  Is.truncf bitsLt_bf16_f32 (pay58_is (r_5_is H) (r_6_is H) (r_7_is H) (r_8_is H) (r_9_is H) (r_14_is H) (r_27_is H) (v266_is H))

theorem r_32_is : T b n (kernelRun0_A.sl.r_32 (F := Ideal) c arg2 harg2 arg4 harg4 arg5 harg5 arg23 x0 x2 x3) I.dpx :=
  Is.truncf bitsLt_bf16_f32 (r_30_is H)

theorem r_33_is : Is2 (n := 128) (m := 128) (kernelRun0_A.sl.r_33 (F := Ideal) c arg2 harg2 arg3 harg3 arg4 harg4 arg5 harg5 arg12 harg12 arg23 x0 x1 x2 x3 x10) (I.gWA b n) :=
  mm00 (r_13_is H) (r_31_is H)

theorem r_34_is : Is2 (n := 128) (m := 128) (kernelRun0_A.sl.r_34 (F := Ideal) c arg2 harg2 arg4 harg4 arg5 harg5 arg23 x0 x2 x3) (I.gWX b n) :=
  mm00 (r_13_is H) (r_32_is H)

theorem r_35_is : R1 n (kernelRun0_A.sl.r_35 (F := Ideal) c arg2 harg2 arg3 harg3 arg4 harg4 arg5 harg5 arg12 harg12 arg23 x0 x1 x2 x3 x10) (I.gBA b) :=
  colSum (pay58_is (r_5_is H) (r_6_is H) (r_7_is H) (r_8_is H) (r_9_is H) (r_14_is H) (r_27_is H) (v266_is H)) reduces_S2048x128_S128 (.inl rfl) rfl shapeCasts_S128_S1x128

theorem r_36_is : R1 n (kernelRun0_A.sl.r_36 (F := Ideal) c arg2 harg2 arg4 harg4 arg5 harg5 arg23 x0 x2 x3) (I.gBX b) :=
  colSum (r_30_is H) reduces_S2048x128_S128 (.inl rfl) rfl shapeCasts_S128_S1x128

theorem r_37_is : T b n (kernelRun0_A.sl.r_37 (F := Ideal) c arg2 harg2 arg3 harg3 arg4 harg4 arg5 harg5 arg8 harg8 arg10 harg10 arg12 harg12 arg23 x0 x1 x2 x3 x6 x8 x10) I.dxc :=
  pay66_is (r_2_is H) (r_3_is H) (r_28_is H) (r_31_is H) (r_32_is H)

theorem r_38_is : R1 n (kernelRun0_A.sl.r_38 (F := Ideal) c arg2 harg2 arg3 harg3 arg4 harg4 arg5 harg5 arg8 harg8 arg10 harg10 arg12 harg12 arg23 x0 x1 x2 x3 x6 x8 x10) (I.gCB b) :=
  colSum (r_37_is H) reduces_S2048x128_S128 (.inl rfl) rfl shapeCasts_S128_S1x128

theorem r_40_is : R1 n (kernelRun0_A.sl.r_40 (F := Ideal) c arg2 harg2 arg3 harg3 arg4 harg4 arg5 harg5 arg8 harg8 arg10 harg10 arg12 harg12 arg23 x0 x1 x2 x3 x6 x8 x10) (I.gCW b 3) :=
  Is2.ext (colSum (Is2.mul (r_37_is H) (r_is H)) reduces_S2048x128_S128 (.inl rfl) rfl shapeCasts_S128_S1x128) fun _ c _ _ => gCW3 I b n c

theorem r_39_is : Is2 (n := 2048) (m := 128) (kernelRun0_A.sl.r_39 (F := Ideal) c arg2 harg2 arg3 harg3 arg4 harg4 arg5 harg5 arg6 harg6 arg8 harg8 arg10 harg10 arg12 harg12 arg23 x0 x1 x2 x3 x4 x6 x8 x10) fun t c => I.CW 3 (n * 128 + c) * I.dxc b t (n * 128 + c) :=
  Is2.mul (bcastRow (row_is (r_1_is H) 3 slices_S4x128_o3_0_S1x128) broadcasts_S1x128_S2048x128) (r_37_is H)

theorem r_41_is : Is2 (n := 2048) (m := 128) (φ := .f32) (kernelRun0_A.sl.r_41 (F := Ideal) c arg2 harg2 arg3 harg3 arg4 harg4 arg5 harg5 arg8 harg8 arg10 harg10 arg12 harg12 arg23 x0 x1 x2 x3 x6 x8 x10) fun t c => I.dxc b (t + 1) (n * 128 + c) :=
  Is2.ext (padLoad _ _ _ _ _ _ _ _ _ _ _ _ _ _ _ _ _ _ _ _ (fun t c => I.dxc b t (n * 128 + c)) (cast_self2 (r_37_is H) _) (fun _ => lit_zero) (by omega))
    fun t c ht hc => upD I b n 1 9 rfl t c

theorem r_42_is : Is2 (n := 2048) (m := 128) (φ := .f32) (kernelRun0_A.sl.r_42 (F := Ideal) c arg2 harg2 arg3 harg3 arg4 harg4 arg5 harg5 arg8 harg8 arg10 harg10 arg12 harg12 arg23 x0 x1 x2 x3 x6 x8 x10) fun t c => I.dxc b (t + 2) (n * 128 + c) :=
  Is2.ext (padLoad _ _ _ _ _ _ _ _ _ _ _ _ _ _ _ _ _ _ _ _ (fun t c => I.dxc b t (n * 128 + c)) (cast_self2 (r_37_is H) _) (fun _ => lit_zero) (by omega))
    fun t c ht hc => upD I b n 2 10 rfl t c

theorem v344_is : Is2 (n := 2048) (m := 128) (φ := .f32) (LoadRect.valAlong (lr := (Rect.unit (s := S2064x128) ![11, 0] S2048x128.size inb_S2064x128_S2048x128_11_0).toLoadRect) (by rfl) (kernelRun0_A.sl.v344 (F := Ideal) c arg2 harg2 arg3 harg3 arg4 harg4 arg5 harg5 arg8 harg8 arg10 harg10 arg12 harg12 arg23 x0 x1 x2 x3 x6 x8 x10)) fun t c => I.dxc b (t + 3) (n * 128 + c) :=
  Is2.ext (padLoad _ _ _ _ _ _ _ _ _ _ _ _ _ _ _ _ _ _ _ _ (fun t c => I.dxc b t (n * 128 + c)) (cast_self2 (r_37_is H) _) (fun _ => lit_zero) (by omega))
    fun t c ht hc => upD I b n 3 11 rfl t c

end Words

end Cert.Proof

end
-- ==== Proof.Saved.lean ====
module

public import proofs.«01_k».proof.Proof.PrefixA
public import proofs.«01_k».proof.Proof.PrefixB
public import proofs.«01_k».proof.Proof.PrefixC
public import proofs.«01_k».proof.Proof.Block

@[expose] public section

set_option maxRecDepth 16384

/-! # The saved arrays on real contents -/

noncomputable section

namespace Cert.Proof.Pre

open Idealize.ShloMosaic Cert.KernelIdeal Cert.KernelIdeal.Gen
open Cert.Proof.Ref (Args)
open Cert.ReferenceIdeal.Read (val_main_v34 val_main_v40 val_main_v53 val_main_v49 val_main_v62 val_main_v72 val_main_v73
  val_main_v85_0 val_main_v87 val_main_v93 val_main_v104)

set_option maxHeartbeats 4000000 in
theorem prodK_is {y : FVec Ideal S2x2048x1280 .f32} {w : FVec Ideal S10x128x128 .f32} {F G : ℕ → ℕ → ℕ → ℝ}
    (hy : Is y fun j => F (j 0).val (j 1).val (j 2).val) (hw : Is w fun j => G (j 0).val (j 1).val (j 2).val) :
    Is (prodK y w) fun j => In.blockMul (F (j 0).val (j 1).val) G (j 2).val := by
  intro j
  have h0 : (j 0).val < 2 := (j 0).isLt
  have h1 : (j 1).val < 2048 := (j 1).isLt
  have h2 : (j 2).val < 1280 := (j 2).isLt
  unfold prodK
  pointwise
  rw [In.blockMul, coe_sum_fin]
  exact Finset.sum_congr rfl fun k _ => (congrArg₂ (· * ·) (hy _) (hw _)).trans (EReal.coe_mul _ _).symm

variable (m : (ℓ : Loc nD τ sig) → Buf (Elt Ideal) ℓ) (c : Dev nD)

/-- The arguments of the kernel's program hold the real arrays `I`. -/
abbrev Holds (I : In) : Prop := Args I (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7)) (m (c.tc.loc main_arg8))

variable {m c} {I : In} (A : Holds m c I)
include A

theorem is33 : Is (S := S2x2048x1280) (φ := .f32) (V m c main_v33) fun j => I.xc (j 0).val (j 1).val (j 2).val := by
  rw [V33]; exact Ref.v34_is A

theorem e47 : (V m c main_v47 : FVec Ideal S2x2048x1280 .f32) = val_main_v40 (F := Ideal) (m (c.tc.loc main_arg0)) (m (c.tc.loc main_arg1)) (m (c.tc.loc main_arg2)) (m (c.tc.loc main_arg3)) := by
  rw [V47]; exact funext fun i => (prodK_is (F := I.xc) (G := I.WA) (is33 A) A.x3 i).trans (Ref.v40_is A i).symm

theorem e57 : (V m c main_v57 : FVec Ideal S2x2048x1280 .f32) = val_main_v53 (F := Ideal) (m (c.tc.loc main_arg0)) (m (c.tc.loc main_arg1)) (m (c.tc.loc main_arg2)) (m (c.tc.loc main_arg5)) := by
  rw [V57]; exact funext fun i => (prodK_is (F := I.xc) (G := I.WX) (is33 A) A.x5 i).trans (Ref.v53_is A i).symm

theorem e56 : (V m c main_v56 : FVec Ideal S2x2048x1280 .f32) = val_main_v49 (F := Ideal) (m (c.tc.loc main_arg0)) (m (c.tc.loc main_arg1)) (m (c.tc.loc main_arg2)) (m (c.tc.loc main_arg3)) (m (c.tc.loc main_arg4)) := by
  rw [V56, e47 A]; rfl

theorem e66 : (V m c main_v66 : FVec Ideal S2x2048x1280 .f32) = val_main_v62 (F := Ideal) (m (c.tc.loc main_arg0)) (m (c.tc.loc main_arg1)) (m (c.tc.loc main_arg2)) (m (c.tc.loc main_arg5)) (m (c.tc.loc main_arg6)) := by
  rw [V66, e57 A]; rfl

theorem e73 : (V m c main_v73 : FVec Ideal S2x2048x1280 .f32) = val_main_v72 (F := Ideal) (m (c.tc.loc main_arg0)) (m (c.tc.loc main_arg1)) (m (c.tc.loc main_arg2)) (m (c.tc.loc main_arg3)) (m (c.tc.loc main_arg4)) (m (c.tc.loc main_arg7)) := by
  rw [V73, e56 A]; rfl

theorem e74 : (V m c main_v74 : FVec Ideal S2x2048x1280 .f32) = val_main_v73 (F := Ideal) (m (c.tc.loc main_arg0)) (m (c.tc.loc main_arg1)) (m (c.tc.loc main_arg2)) (m (c.tc.loc main_arg3)) (m (c.tc.loc main_arg4)) (m (c.tc.loc main_arg7)) := by
  rw [V74, e73 A]; rfl

theorem e83 : (V m c main_v83 : FVec Ideal S2x2048x1280 .f32) = val_main_v85_0 (F := Ideal) (m (c.tc.loc main_arg0)) (m (c.tc.loc main_arg1)) (m (c.tc.loc main_arg2)) (m (c.tc.loc main_arg3)) (m (c.tc.loc main_arg4)) (m (c.tc.loc main_arg7)) := by
  rw [V83, e73 A]; rfl

theorem e85 : (V m c main_v85 : FVec Ideal S2x2048x1280 .f32) = val_main_v87 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  rw [V85, e83 A, e66 A, V33]; rfl

theorem e91 : (V m c main_v91 : FVec Ideal S2x2048x1280 .f32) = val_main_v93 (F := Ideal) (m (c.tc.loc main_arg0)) (m (c.tc.loc main_arg1)) (m (c.tc.loc main_arg2)) (m (c.tc.loc main_arg3)) (m (c.tc.loc main_arg4)) (m (c.tc.loc main_arg7)) := by
  rw [V91, e73 A]; rfl

theorem e102 : (V m c main_v102 : FVec Ideal S2x2048x1280 .f32) = val_main_v104 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) := by
  rw [V102, e91 A, e85 A]; rfl

theorem is102 : Is (S := S2x2048x1280) (φ := .f32) (V m c main_v102) fun j => I.h (j 0).val (j 1).val (j 2).val := by
  rw [e102 A]; exact Ref.v104_is A

theorem is109 : Is (S := S10x128x128) (φ := .bf16) (V m c main_v109) fun j => I.WA (j 0).val (j 1).val (j 2).val := by
  rw [V109]; exact Is.truncf _ A.x3

theorem is110 : Is (S := S10x128x128) (φ := .bf16) (V m c main_v110) fun j => I.WX (j 0).val (j 1).val (j 2).val := by
  rw [V110]; exact Is.truncf _ A.x5

omit A in
theorem stack (x0 x1 x2 x3 x4 : FVec Ideal S2x2048x1280 .f32) (h) (j : S5x2x2048x1280.Idx) :
    concatenate S5x2x2048x1280 0 [⟨S1x2x2048x1280, broadcastInDim S1x2x2048x1280 ![1, 2, 3] bcast_S2x2048x1280_S1x2x2048x1280_1_2_3 x0⟩,
      ⟨S1x2x2048x1280, broadcastInDim S1x2x2048x1280 ![1, 2, 3] bcast_S2x2048x1280_S1x2x2048x1280_1_2_3 x1⟩,
      ⟨S1x2x2048x1280, broadcastInDim S1x2x2048x1280 ![1, 2, 3] bcast_S2x2048x1280_S1x2x2048x1280_1_2_3 x2⟩,
      ⟨S1x2x2048x1280, broadcastInDim S1x2x2048x1280 ![1, 2, 3] bcast_S2x2048x1280_S1x2x2048x1280_1_2_3 x3⟩,
      ⟨S1x2x2048x1280, broadcastInDim S1x2x2048x1280 ![1, 2, 3] bcast_S2x2048x1280_S1x2x2048x1280_1_2_3 x4⟩] h j
    = if (j 0).val = 0 then x0 (ix3 (j 1) (j 2) (j 3)) else if (j 0).val = 1 then x1 (ix3 (j 1) (j 2) (j 3))
      else if (j 0).val = 2 then x2 (ix3 (j 1) (j 2) (j 3)) else if (j 0).val = 3 then x3 (ix3 (j 1) (j 2) (j 3)) else x4 (ix3 (j 1) (j 2) (j 3)) := by
  have h0 : (j 0).val < 5 := (j 0).isLt
  pointwise
  split_ifs <;> first | rfl | (exfalso; omega)

theorem is108 : Is (S := S5x2x2048x1280) (φ := .f32) (V m c main_v108) fun j => I.gate (j 0).val (j 1).val (j 2).val (j 3).val := by
  intro j
  rw [V108, e56 A, e66 A, e74 A, e83 A]
  refine (stack _ _ _ _ _ _ j).trans ?_
  simp only [In.gate]
  split_ifs
  · exact Ref.v49_is A _
  · exact Ref.v62_is A _
  · exact Ref.v73_is A _
  · exact Ref.v85_0_is A _
  · exact is33 A _

end Cert.Proof.Pre

end
-- ==== Proof.Out.lean ====
module

public import proofs.«01_k».proof.Proof.Block

@[expose] public section

set_option maxRecDepth 16384

/-! # What a block's first visit stores -/

noncomputable section

namespace Cert.Proof

open Idealize.ShloMosaic Cert.KernelIdeal Cert.KernelIdeal.Gen Scan

theorem cat4 {p q r s : FVec Ideal S1x128 .f32} {f : ℕ → ℕ → ℝ} (hp : Is2 (n := 1) (m := 128) p fun _ c => f 0 c)
    (hq : Is2 (n := 1) (m := 128) q fun _ c => f 1 c) (hr : Is2 (n := 1) (m := 128) r fun _ c => f 2 c) (hs : Is2 (n := 1) (m := 128) s fun _ c => f 3 c) (h) :
    Is2 (n := 4) (m := 128) (φ := .f32) (concatenate S4x128 0 [⟨S1x128, p⟩, ⟨S1x128, q⟩, ⟨S1x128, r⟩, ⟨S1x128, s⟩] h) f := by
  intro j
  pointwise
  have e : ∀ k, (j 0).val = k → f (j 0).val (j 1).val = f k (j 1).val := fun k h => by rw [h]
  fin_vals (j 0) with hk
  · rw [dif_pos (by omega)]
    refine (hp _).trans ?_
    exact congrArg _ (e 0 hk).symm
  · rw [dif_neg (by omega), dif_pos (by omega)]
    refine (hq _).trans ?_
    exact congrArg _ (e 1 hk).symm
  · rw [dif_neg (by omega), dif_neg (by omega), dif_pos (by omega)]
    refine (hr _).trans ?_
    exact congrArg _ (e 2 hk).symm
  · rw [dif_neg (by omega), dif_neg (by omega), dif_neg (by omega)]
    refine (hs _).trans ?_
    exact congrArg _ (e 3 hk).symm

theorem pay73_is {I : In} {b n : ℕ} {x1 x2 x3 dxc : FVec Ideal S2048x128 .f32} {s : FVec Ideal S1x128 .f32}
    (h1 : Is2 (n := 2048) (m := 128) x1 fun t c => I.xp b (t + 2) (n * 128 + c)) (h2 : Is2 (n := 2048) (m := 128) x2 fun t c => I.xp b (t + 1) (n * 128 + c))
    (h3 : Is2 (n := 2048) (m := 128) x3 fun t c => I.xp b (t + 0) (n * 128 + c)) (hd : T b n dxc I.dxc) (hs : R1 n s (I.gCW b 3)) :
    Is2 (n := 4) (m := 128) (k0_pay73 x1 x2 x3 dxc s) fun k c => I.gCW b k (n * 128 + c) :=
  cat4 (f := fun k c => I.gCW b k (n * 128 + c)) (colSum (Is2.mul hd h3) reduces_S2048x128_S128 (.inl rfl) rfl shapeCasts_S128_S1x128)
    (colSum (Is2.mul hd h2) reduces_S2048x128_S128 (.inl rfl) rfl shapeCasts_S128_S1x128)
    (colSum (Is2.mul hd h1) reduces_S2048x128_S128 (.inl rfl) rfl shapeCasts_S128_S1x128) hs concatenates_S1x128_S1x128_S1x128_S1x128_S4x128_d0

theorem pay72_is {I : In} {b n : ℕ} {cw : FVec Ideal S4x128 .f32} {y0 y1 y2 y3 : FVec Ideal S2048x128 .f32}
    (hc : Is2 (n := 4) (m := 128) cw fun k c => I.CW k (n * 128 + c))
    (h0 : Is2 (n := 2048) (m := 128) y0 fun t c => I.CW 3 (n * 128 + c) * I.dxc b t (n * 128 + c))
    (h1 : Is2 (n := 2048) (m := 128) y1 fun t c => I.dxc b (t + 1) (n * 128 + c))
    (h2 : Is2 (n := 2048) (m := 128) y2 fun t c => I.dxc b (t + 2) (n * 128 + c))
    (h3 : Is2 (n := 2048) (m := 128) y3 fun t c => I.dxc b (t + 3) (n * 128 + c)) :
    Is3 (n := 1) (m := 2048) (k := 128) (k0_pay72 cw y0 y1 y2 y3) fun _ t c => I.gX b t (n * 128 + c) :=
  cast_put (φ := .bf16) (n := 2048) (m := 128) (Is.truncf bitsLt_bf16_f32 (Is2.add (Is2.add (Is2.add h0
    (Is2.mul (bcastRow (row_is hc 2 slices_S4x128_o2_0_S1x128) broadcasts_S1x128_S2048x128) h1))
    (Is2.mul (bcastRow (row_is hc 1 slices_S4x128_o1_0_S1x128) broadcasts_S1x128_S2048x128) h2))
    (Is2.mul (bcastRow (row_is hc 0 slices_S4x128_o0_0_S1x128) broadcasts_S1x128_S2048x128) h3))) _

section Out

variable {I : In} {b n : ℕ} {c : Dev nD} {i : grid0.Coords} {arg2 : Memref sig .tc .vmem S1x2048x128 .bf16} {harg2 : arg2.IsWhole} {arg3 : Memref sig .tc .vmem S1x2048x128 .f32} {harg3 : arg3.IsWhole} {arg4 : Memref sig .tc .vmem S1x2048x128 .f32} {harg4 : arg4.IsWhole} {arg5 : Memref sig .tc .vmem S5x1x2048x128 .f32} {harg5 : arg5.IsWhole} {arg6 : Memref sig .tc .vmem S4x128 .f32} {harg6 : arg6.IsWhole} {arg7 : Memref sig .tc .vmem S1x128 .f32} {harg7 : arg7.IsWhole} {arg8 : Memref sig .tc .vmem S1x128x128 .bf16} {harg8 : arg8.IsWhole} {arg9 : Memref sig .tc .vmem S1x128 .f32} {harg9 : arg9.IsWhole} {arg10 : Memref sig .tc .vmem S1x128x128 .bf16} {harg10 : arg10.IsWhole} {arg11 : Memref sig .tc .vmem S1x128 .f32} {harg11 : arg11.IsWhole} {arg12 : Memref sig .tc .vmem S1x128 .f32} {harg12 : arg12.IsWhole} {arg14 : Memref sig .tc .vmem S8x128 .f32} {harg14 : arg14.IsWhole} {arg15 : Memref sig .tc .vmem S1x2048x128 .bf16} {harg15 : arg15.IsWhole} {arg16 : Memref sig .tc .vmem S4x128 .f32} {harg16 : arg16.IsWhole} {arg17 : Memref sig .tc .vmem S1x128 .f32} {harg17 : arg17.IsWhole} {arg18 : Memref sig .tc .vmem S1x128x128 .f32} {harg18 : arg18.IsWhole} {arg19 : Memref sig .tc .vmem S1x128 .f32} {harg19 : arg19.IsWhole} {arg20 : Memref sig .tc .vmem S1x128x128 .f32} {harg20 : arg20.IsWhole} {arg21 : Memref sig .tc .vmem S1x128 .f32} {harg21 : arg21.IsWhole} {arg22 : Memref sig .tc .vmem S1x128 .f32} {harg22 : arg22.IsWhole} {arg23 : Memref sig .tc .vmem S4x2064x128 .f32} {harg23 : arg23.IsWhole}
 {x0 : Vec Ideal S1x2048x128 .bf16} {x1 : Vec Ideal S1x2048x128 .f32} {x2 : Vec Ideal S1x2048x128 .f32} {x3 : Vec Ideal S5x1x2048x128 .f32} {x4 : Vec Ideal S4x128 .f32} {x5 : Vec Ideal S1x128 .f32} {x6 : Vec Ideal S1x128x128 .bf16} {x7 : Vec Ideal S1x128 .f32} {x8 : Vec Ideal S1x128x128 .bf16} {x9 : Vec Ideal S1x128 .f32} {x10 : Vec Ideal S1x128 .f32} {x11 : Vec Ideal S8x128 .f32}  {hc0 : cond0_0 i} {hc1 : ¬cond0_1 i}
  (H : Blk I b n x0 x1 x2 x3 x4 x6 x8 x10)

include H

theorem out12_A : Is3 (n := 1) (m := 2048) (k := 128) (φ := .bf16) (out0_A_12 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11) fun _ t c => I.gX b t (n * 128 + c) := by
  have e : out0_A_12 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 = k0_pay72 (kernelRun0_A.sl.r_1 (F := Ideal) c arg6 harg6 x4) (kernelRun0_A.sl.r_39 (F := Ideal) c arg2 harg2 arg3 harg3 arg4 harg4 arg5 harg5 arg6 harg6 arg8 harg8 arg10 harg10 arg12 harg12 arg23 x0 x1 x2 x3 x4 x6 x8 x10) (kernelRun0_A.sl.r_41 (F := Ideal) c arg2 harg2 arg3 harg3 arg4 harg4 arg5 harg5 arg8 harg8 arg10 harg10 arg12 harg12 arg23 x0 x1 x2 x3 x6 x8 x10) (kernelRun0_A.sl.r_42 (F := Ideal) c arg2 harg2 arg3 harg3 arg4 harg4 arg5 harg5 arg8 harg8 arg10 harg10 arg12 harg12 arg23 x0 x1 x2 x3 x6 x8 x10) (LoadRect.valAlong (lr := (Rect.unit (s := S2064x128) ![11, 0] S2048x128.size inb_S2064x128_S2048x128_11_0).toLoadRect) (by rfl) (kernelRun0_A.sl.v344 (F := Ideal) c arg2 harg2 arg3 harg3 arg4 harg4 arg5 harg5 arg8 harg8 arg10 harg10 arg12 harg12 arg23 x0 x1 x2 x3 x6 x8 x10)) := by
    unfold out0_A_12
    rw [View.read_writes_junk_eq_canon]
    exact View.canon_cons_unit_lit _ _ _ (by decide)
  rw [e]
  exact pay72_is (r_1_is H) (r_39_is H) (r_41_is H) (r_42_is H) (v344_is H)

theorem out13_A : Is2 (n := 4) (m := 128) (φ := .f32) (out0_A_13 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11) fun k c => I.gCW b k (n * 128 + c) := by
  have e : out0_A_13 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 = k0_pay74 (kernelRun0_A.sl.r_10 (F := Ideal) c arg2 harg2 arg23 x0) (kernelRun0_A.sl.r_11 (F := Ideal) c arg2 harg2 arg23 x0) (kernelRun0_A.sl.r_12 (F := Ideal) c arg2 harg2 arg23 x0) (kernelRun0_A.sl.r_37 (F := Ideal) c arg2 harg2 arg3 harg3 arg4 harg4 arg5 harg5 arg8 harg8 arg10 harg10 arg12 harg12 arg23 x0 x1 x2 x3 x6 x8 x10) (kernelRun0_A.sl.r_40 (F := Ideal) c arg2 harg2 arg3 harg3 arg4 harg4 arg5 harg5 arg8 harg8 arg10 harg10 arg12 harg12 arg23 x0 x1 x2 x3 x6 x8 x10) := by
    unfold out0_A_13
    rw [View.read_writes_junk_eq_canon]
    exact View.canon_cons_unit_lit _ _ _ (by decide)
  rw [e]
  exact cast_self2 (pay73_is (r_10_is H) (r_11_is H) (r_12_is H) (r_37_is H) (r_40_is H)) _

theorem out14_A : Is2 (n := 1) (m := 128) (φ := .f32) (out0_A_14 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11) fun _ c => I.gCB b (n * 128 + c) := by
  have e : out0_A_14 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 = k0_pay75 (kernelRun0_A.sl.r_38 (F := Ideal) c arg2 harg2 arg3 harg3 arg4 harg4 arg5 harg5 arg8 harg8 arg10 harg10 arg12 harg12 arg23 x0 x1 x2 x3 x6 x8 x10) := by
    unfold out0_A_14
    rw [View.read_writes_junk_eq_canon]
    exact View.canon_cons_unit_lit _ _ _ (by decide)
  rw [e]
  exact cast_self2 (r_38_is H) _

theorem out15_A : Is3 (n := 1) (m := 128) (k := 128) (φ := .f32) (out0_A_15 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11) fun _ j k => I.gWA b n j k := by
  have e : out0_A_15 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 = k0_pay76 (kernelRun0_A.sl.r_33 (F := Ideal) c arg2 harg2 arg3 harg3 arg4 harg4 arg5 harg5 arg12 harg12 arg23 x0 x1 x2 x3 x10) := by
    unfold out0_A_15
    rw [View.read_writes_junk_eq_canon]
    exact View.canon_cons_unit_lit _ _ _ (by decide)
  rw [e]
  exact cast_put (r_33_is H) _

theorem out16_A : Is2 (n := 1) (m := 128) (φ := .f32) (out0_A_16 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11) fun _ c => I.gBA b (n * 128 + c) := by
  have e : out0_A_16 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 = k0_pay77 (kernelRun0_A.sl.r_35 (F := Ideal) c arg2 harg2 arg3 harg3 arg4 harg4 arg5 harg5 arg12 harg12 arg23 x0 x1 x2 x3 x10) := by
    unfold out0_A_16
    rw [View.read_writes_junk_eq_canon]
    exact View.canon_cons_unit_lit _ _ _ (by decide)
  rw [e]
  exact cast_self2 (r_35_is H) _

theorem out17_A : Is3 (n := 1) (m := 128) (k := 128) (φ := .f32) (out0_A_17 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11) fun _ j k => I.gWX b n j k := by
  have e : out0_A_17 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 = k0_pay78 (kernelRun0_A.sl.r_34 (F := Ideal) c arg2 harg2 arg4 harg4 arg5 harg5 arg23 x0 x2 x3) := by
    unfold out0_A_17
    rw [View.read_writes_junk_eq_canon]
    exact View.canon_cons_unit_lit _ _ _ (by decide)
  rw [e]
  exact cast_put (r_34_is H) _

theorem out18_A : Is2 (n := 1) (m := 128) (φ := .f32) (out0_A_18 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11) fun _ c => I.gBX b (n * 128 + c) := by
  have e : out0_A_18 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 = k0_pay79 (kernelRun0_A.sl.r_36 (F := Ideal) c arg2 harg2 arg4 harg4 arg5 harg5 arg23 x0 x2 x3) := by
    unfold out0_A_18
    rw [View.read_writes_junk_eq_canon]
    exact View.canon_cons_unit_lit _ _ _ (by decide)
  rw [e]
  exact cast_self2 (r_36_is H) _

theorem out19_A : Is2 (n := 1) (m := 128) (φ := .f32) (out0_A_19 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11) fun _ c => I.gLAM b (n * 128 + c) := by
  have e : out0_A_19 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 = k0_pay80 (kernelRun0_A.sl.r_29 (F := Ideal) c arg2 harg2 arg3 harg3 arg4 harg4 arg5 harg5 arg12 harg12 arg23 x0 x1 x2 x3 x10) := by
    unfold out0_A_19
    rw [View.read_writes_junk_eq_canon]
    exact View.canon_cons_unit_lit _ _ _ (by decide)
  rw [e]
  exact cast_self2 (r_29_is H) _

end Out

end Cert.Proof

end
-- ==== Proof.BlockB.lean ====
module

public import proofs.«01_k».proof.Proof.Out

@[expose] public section

set_option maxRecDepth 16384

/-! # The body on the second batch's block, word by word -/

noncomputable section

namespace Cert.Proof.Second

open Idealize.ShloMosaic Cert.KernelIdeal Cert.KernelIdeal.Gen Cert.Proof Scan

section Words

variable {I : In} {b n : ℕ} {c : Dev nD}  {arg2 : Memref sig .tc .vmem S1x2048x128 .bf16} {harg2 : arg2.IsWhole} {arg3 : Memref sig .tc .vmem S1x2048x128 .f32} {harg3 : arg3.IsWhole} {arg4 : Memref sig .tc .vmem S1x2048x128 .f32} {harg4 : arg4.IsWhole} {arg5 : Memref sig .tc .vmem S5x1x2048x128 .f32} {harg5 : arg5.IsWhole} {arg6 : Memref sig .tc .vmem S4x128 .f32} {harg6 : arg6.IsWhole} {arg7 : Memref sig .tc .vmem S1x128 .f32} {harg7 : arg7.IsWhole} {arg8 : Memref sig .tc .vmem S1x128x128 .bf16} {harg8 : arg8.IsWhole} {arg9 : Memref sig .tc .vmem S1x128 .f32} {harg9 : arg9.IsWhole} {arg10 : Memref sig .tc .vmem S1x128x128 .bf16} {harg10 : arg10.IsWhole} {arg11 : Memref sig .tc .vmem S1x128 .f32} {harg11 : arg11.IsWhole} {arg12 : Memref sig .tc .vmem S1x128 .f32} {harg12 : arg12.IsWhole} {arg14 : Memref sig .tc .vmem S8x128 .f32} {harg14 : arg14.IsWhole} {arg15 : Memref sig .tc .vmem S1x2048x128 .bf16} {harg15 : arg15.IsWhole} {arg16 : Memref sig .tc .vmem S4x128 .f32} {harg16 : arg16.IsWhole} {arg17 : Memref sig .tc .vmem S1x128 .f32} {harg17 : arg17.IsWhole} {arg18 : Memref sig .tc .vmem S1x128x128 .f32} {harg18 : arg18.IsWhole} {arg19 : Memref sig .tc .vmem S1x128 .f32} {harg19 : arg19.IsWhole} {arg20 : Memref sig .tc .vmem S1x128x128 .f32} {harg20 : arg20.IsWhole} {arg21 : Memref sig .tc .vmem S1x128 .f32} {harg21 : arg21.IsWhole} {arg22 : Memref sig .tc .vmem S1x128 .f32} {harg22 : arg22.IsWhole} {arg23 : Memref sig .tc .vmem S4x2064x128 .f32} {harg23 : arg23.IsWhole}
  {x0 : Vec Ideal S1x2048x128 .bf16} {x1 : Vec Ideal S1x2048x128 .f32} {x2 : Vec Ideal S1x2048x128 .f32} {x3 : Vec Ideal S5x1x2048x128 .f32} {x4 : Vec Ideal S4x128 .f32} {x6 : Vec Ideal S1x128x128 .bf16} {x8 : Vec Ideal S1x128x128 .bf16} {x10 : Vec Ideal S1x128 .f32}
  (H : Blk I b n x0 x1 x2 x3 x4 x6 x8 x10)

include H

theorem r_is : T b n (kernelRun0_B.sl.r (F := Ideal) c arg2 harg2 x0) I.X :=
  Is.extf bitsLt_bf16_f32 (cast_drop (φ := .bf16) (n := 2048) (m := 128) (f := fun _ t c => I.X b t (n * 128 + c))
    (fun j => (harg2.readAt_unread x0 (Rect.unit (s := S1x2048x128) ![0, 0, 0] S1x2048x128.size inb_S1x2048x128_S1x2048x128_0_0_0).toLoadRect j).trans ((H.x _).trans (congrArg _ (load_idx2 (I.X b) n (j 1).val (j 2).val)))) shapeCasts_S1x2048x128_S2048x128)

theorem r_15_is : T b n (kernelRun0_B.sl.r_15 (F := Ideal) c arg3 harg3 x1) I.h :=
  cast_drop (φ := .f32) (n := 2048) (m := 128) (f := fun _ t c => I.h b t (n * 128 + c))
    (fun j => (harg3.readAt_unread x1 (Rect.unit (s := S1x2048x128) ![0, 0, 0] S1x2048x128.size inb_S1x2048x128_S1x2048x128_0_0_0).toLoadRect j).trans ((H.x1 _).trans (congrArg _ (load_idx2 (I.h b) n (j 1).val (j 2).val)))) shapeCasts_S1x2048x128_S2048x128

theorem r_17d_is : T b n (kernelRun0_B.sl.r_17 (F := Ideal) c arg4 harg4 x2) I.DH :=
  cast_drop (φ := .f32) (n := 2048) (m := 128) (f := fun _ t c => I.DH b t (n * 128 + c))
    (fun j => (harg4.readAt_unread x2 (Rect.unit (s := S1x2048x128) ![0, 0, 0] S1x2048x128.size inb_S1x2048x128_S1x2048x128_0_0_0).toLoadRect j).trans ((H.x2 _).trans (congrArg _ (load_idx2 (I.DH b) n (j 1).val (j 2).val)))) shapeCasts_S1x2048x128_S2048x128

theorem r_5_is : T b n (kernelRun0_B.sl.r_5 (F := Ideal) c arg5 harg5 x3) I.r :=
  cast_drop2 (φ := .f32) (n := 2048) (m := 128) (f := fun _ _ t c => I.r b t (n * 128 + c))
    (fun j => (harg5.readAt_unread x3 (Rect.unit (s := S5x1x2048x128) ![0, 0, 0, 0] S1x1x2048x128.size inb_S5x1x2048x128_S1x1x2048x128_0_0_0_0).toLoadRect j).trans ((H.x3 _).trans (congrArg _ (load_gate I b n 0 I.r rfl j)))) shapeCasts_S1x1x2048x128_S2048x128

theorem r_6_is : T b n (kernelRun0_B.sl.r_6 (F := Ideal) c arg5 harg5 x3) I.i :=
  cast_drop2 (φ := .f32) (n := 2048) (m := 128) (f := fun _ _ t c => I.i b t (n * 128 + c))
    (fun j => (harg5.readAt_unread x3 (Rect.unit (s := S5x1x2048x128) ![1, 0, 0, 0] S1x1x2048x128.size inb_S5x1x2048x128_S1x1x2048x128_1_0_0_0).toLoadRect j).trans ((H.x3 _).trans (congrArg _ (load_gate I b n 1 I.i rfl j)))) shapeCasts_S1x1x2048x128_S2048x128

theorem r_7_is : T b n (kernelRun0_B.sl.r_7 (F := Ideal) c arg5 harg5 x3) I.a :=
  cast_drop2 (φ := .f32) (n := 2048) (m := 128) (f := fun _ _ t c => I.a b t (n * 128 + c))
    (fun j => (harg5.readAt_unread x3 (Rect.unit (s := S5x1x2048x128) ![2, 0, 0, 0] S1x1x2048x128.size inb_S5x1x2048x128_S1x1x2048x128_2_0_0_0).toLoadRect j).trans ((H.x3 _).trans (congrArg _ (load_gate I b n 2 I.a rfl j)))) shapeCasts_S1x1x2048x128_S2048x128

theorem r_8_is : T b n (kernelRun0_B.sl.r_8 (F := Ideal) c arg5 harg5 x3) I.mult :=
  cast_drop2 (φ := .f32) (n := 2048) (m := 128) (f := fun _ _ t c => I.mult b t (n * 128 + c))
    (fun j => (harg5.readAt_unread x3 (Rect.unit (s := S5x1x2048x128) ![3, 0, 0, 0] S1x1x2048x128.size inb_S5x1x2048x128_S1x1x2048x128_3_0_0_0).toLoadRect j).trans ((H.x3 _).trans (congrArg _ (load_gate I b n 3 I.mult rfl j)))) shapeCasts_S1x1x2048x128_S2048x128

theorem r_9_is : T b n (kernelRun0_B.sl.r_9 (F := Ideal) c arg5 harg5 x3) I.xc :=
  cast_drop2 (φ := .f32) (n := 2048) (m := 128) (f := fun _ _ t c => I.xc b t (n * 128 + c))
    (fun j => (harg5.readAt_unread x3 (Rect.unit (s := S5x1x2048x128) ![4, 0, 0, 0] S1x1x2048x128.size inb_S5x1x2048x128_S1x1x2048x128_4_0_0_0).toLoadRect j).trans ((H.x3 _).trans (congrArg _ (load_gate I b n 4 I.xc rfl j)))) shapeCasts_S1x1x2048x128_S2048x128

theorem r_2_is : W2 n (kernelRun0_B.sl.r_2 (F := Ideal) c arg8 harg8 x6) I.WA :=
  cast_drop (φ := .bf16) (n := 128) (m := 128) (f := fun _ j k => I.WA n j k)
    (fun j => (harg8.readAt_unread x6 (Rect.unit (s := S1x128x128) ![0, 0, 0] S1x128x128.size inb_S1x128x128_S1x128x128_0_0_0).toLoadRect j).trans ((H.x6 _).trans (congrArg _ (load_idx (I.WA n) (j 1).val (j 2).val)))) shapeCasts_S1x128x128_S128x128

theorem r_3_is : W2 n (kernelRun0_B.sl.r_3 (F := Ideal) c arg10 harg10 x8) I.WX :=
  cast_drop (φ := .bf16) (n := 128) (m := 128) (f := fun _ j k => I.WX n j k)
    (fun j => (harg10.readAt_unread x8 (Rect.unit (s := S1x128x128) ![0, 0, 0] S1x128x128.size inb_S1x128x128_S1x128x128_0_0_0).toLoadRect j).trans ((H.x8 _).trans (congrArg _ (load_idx (I.WX n) (j 1).val (j 2).val)))) shapeCasts_S1x128x128_S128x128

theorem r_1_is : Is2 (n := 4) (m := 128) (φ := .f32) (kernelRun0_B.sl.r_1 (F := Ideal) c arg6 harg6 x4) fun k c => I.CW k (n * 128 + c) :=
  fun j => (harg6.readAt_unread x4 (Rect.unit (s := S4x128) ![0, 0] S4x128.size inb_S4x128_S4x128_0_0).toLoadRect j).trans ((H.x4 _).trans (congrArg _ (load_idx (fun k c => I.CW k (n * 128 + c)) (j 0).val (j 1).val)))

theorem r_4_is : R1 (φ := .f32) n (kernelRun0_B.sl.r_4 (F := Ideal) c arg12 harg12 x10) I.LAM :=
  fun j => (harg12.readAt_unread x10 (Rect.unit (s := S1x128) ![0, 0] S1x128.size inb_S1x128_S1x128_0_0).toLoadRect j).trans ((H.x10 _).trans (congrArg _ (load_idx (fun _ c => I.LAM (n * 128 + c)) (j 0).val (j 1).val)))

theorem r_13_is : T b n (kernelRun0_B.sl.r_13 (F := Ideal) c arg5 harg5 x3) I.xc :=
  Is.truncf bitsLt_bf16_f32 (r_9_is H)

theorem r_14_is : R1 n (kernelRun0_B.sl.r_14 (F := Ideal) c arg12 harg12 x10) I.sp :=
  pay21_is (r_4_is H)

theorem r_10_is : Is2 (n := 2048) (m := 128) (φ := .f32) (kernelRun0_B.sl.r_10 (F := Ideal) c arg2 harg2 arg23 x0) fun t c => I.xp b (t + 2) (n * 128 + c) :=
  Is2.ext (padLoad _ _ _ _ _ _ _ _ _ _ _ _ _ _ _ _ _ _ _ _ (fun t c => I.X b t (n * 128 + c)) (cast_self2 (r_is H) _) (fun _ => lit_zero) (by omega))
    fun t c ht hc => downX I b n 1 t c (by decide) ht

theorem r_11_is : Is2 (n := 2048) (m := 128) (φ := .f32) (kernelRun0_B.sl.r_11 (F := Ideal) c arg2 harg2 arg23 x0) fun t c => I.xp b (t + 1) (n * 128 + c) :=
  Is2.ext (padLoad _ _ _ _ _ _ _ _ _ _ _ _ _ _ _ _ _ _ _ _ (fun t c => I.X b t (n * 128 + c)) (cast_self2 (r_is H) _) (fun _ => lit_zero) (by omega))
    fun t c ht hc => downX I b n 2 t c (by decide) ht

theorem r_12_is : Is2 (n := 2048) (m := 128) (φ := .f32) (kernelRun0_B.sl.r_12 (F := Ideal) c arg2 harg2 arg23 x0) fun t c => I.xp b (t + 0) (n * 128 + c) :=
  Is2.ext (padLoad _ _ _ _ _ _ _ _ _ _ _ _ _ _ _ _ _ _ _ _ (fun t c => I.X b t (n * 128 + c)) (cast_self2 (r_is H) _) (fun _ => lit_zero) (by omega))
    fun t c ht hc => downX I b n 3 t c (by decide) ht

theorem r_16_is : Is2 (n := 2048) (m := 128) (φ := .f32) (kernelRun0_B.sl.r_16 (F := Ideal) c arg2 harg2 arg5 harg5 arg23 x0 x3) (lvB (lB I b n) 1) :=
  Is2.ext (padLoad _ _ _ _ _ _ _ _ _ _ _ _ _ _ _ _ _ _ _ _ (fun t c => I.a b t (n * 128 + c)) (cast_self2 (r_7_is H) _) (fun _ => lit_zero) (by omega))
    fun t c ht hc => upA I b n t c ht

theorem r_17_is : Is2 (n := 2048) (m := 128) (kernelRun0_B.sl.r_17 (F := Ideal) c arg4 harg4 x2) (lvG (wB I b n) (lB I b n) 1) :=
  Is2.ext (r_17d_is H) fun t c ht _ => dh_lvG I b n t c ht

theorem r_19_is : Is2 (n := 2048) (m := 128) (kernelRun0_B.sl.r_19 (F := Ideal) c arg2 harg2 arg4 harg4 arg5 harg5 arg23 x0 x2 x3) (lvG (wB I b n) (lB I b n) 2) :=
  Is2.ext (Is2.add (r_17_is H) (Is2.mul (r_16_is H) (padLoad _ _ _ _ _ _ _ _ _ _ _ _ _ _ _ _ _ _ _ _ (lvG (wB I b n) (lB I b n) 1) (cast_self2 (r_17_is H) _) (fun _ => lit_zero) (by omega))))
    fun t c ht _ => lvG_shift 1 9 rfl _ _ c ht

theorem r_20_is : Is2 (n := 2048) (m := 128) (kernelRun0_B.sl.r_20 (F := Ideal) c arg2 harg2 arg4 harg4 arg5 harg5 arg23 x0 x2 x3) (lvB (lB I b n) 2) :=
  Is2.ext (Is2.mul (r_16_is H) (padLoad _ _ _ _ _ _ _ _ _ _ _ _ _ _ _ _ _ _ _ _ (lvB (lB I b n) 1) (cast_self2 (r_16_is H) _) (fun _ => lit_zero) (by omega)))
    fun t c ht _ => lvB_shift 1 9 rfl _ c ht

theorem r_21_is : Is2 (n := 2048) (m := 128) (kernelRun0_B.sl.r_21 (F := Ideal) c arg2 harg2 arg4 harg4 arg5 harg5 arg23 x0 x2 x3) (lvG (wB I b n) (lB I b n) 4) :=
  Is2.ext (Is2.add (r_19_is H) (Is2.mul (r_20_is H) (padLoad _ _ _ _ _ _ _ _ _ _ _ _ _ _ _ _ _ _ _ _ (lvG (wB I b n) (lB I b n) 2) (cast_self2 (r_19_is H) _) (fun _ => lit_zero) (by omega))))
    fun t c ht _ => lvG_shift 2 10 rfl _ _ c ht

theorem r_22_is : Is2 (n := 2048) (m := 128) (kernelRun0_B.sl.r_22 (F := Ideal) c arg2 harg2 arg4 harg4 arg5 harg5 arg23 x0 x2 x3) (lvB (lB I b n) 4) :=
  Is2.ext (Is2.mul (r_20_is H) (padLoad _ _ _ _ _ _ _ _ _ _ _ _ _ _ _ _ _ _ _ _ (lvB (lB I b n) 2) (cast_self2 (r_20_is H) _) (fun _ => lit_zero) (by omega)))
    fun t c ht _ => lvB_shift 2 10 rfl _ c ht

theorem r_23_is : Is2 (n := 2048) (m := 128) (kernelRun0_B.sl.r_23 (F := Ideal) c arg2 harg2 arg4 harg4 arg5 harg5 arg23 x0 x2 x3) (lvG (wB I b n) (lB I b n) 8) :=
  Is2.ext (Is2.add (r_21_is H) (Is2.mul (r_22_is H) (padLoad _ _ _ _ _ _ _ _ _ _ _ _ _ _ _ _ _ _ _ _ (lvG (wB I b n) (lB I b n) 4) (cast_self2 (r_21_is H) _) (fun _ => lit_zero) (by omega))))
    fun t c ht _ => lvG_shift 4 12 rfl _ _ c ht

theorem r_24_is : Is2 (n := 2048) (m := 128) (kernelRun0_B.sl.r_24 (F := Ideal) c arg2 harg2 arg4 harg4 arg5 harg5 arg23 x0 x2 x3) (lvB (lB I b n) 8) :=
  Is2.ext (Is2.mul (r_22_is H) (padLoad _ _ _ _ _ _ _ _ _ _ _ _ _ _ _ _ _ _ _ _ (lvB (lB I b n) 4) (cast_self2 (r_22_is H) _) (fun _ => lit_zero) (by omega)))
    fun t c ht _ => lvB_shift 4 12 rfl _ c ht

theorem r_25_is : Is2 (n := 2048) (m := 128) (kernelRun0_B.sl.r_25 (F := Ideal) c arg2 harg2 arg4 harg4 arg5 harg5 arg23 x0 x2 x3) (lvG (wB I b n) (lB I b n) 256) := pay49_is _ _ (r_23_is H) (r_24_is H)

theorem r_26_is : Is2 (n := 2048) (m := 128) (kernelRun0_B.sl.r_26 (F := Ideal) c arg2 harg2 arg4 harg4 arg5 harg5 arg23 x0 x2 x3) (lvB (lB I b n) 256) := pay50_is _ (r_24_is H)

theorem r_27_is : T b n (kernelRun0_B.sl.r_27 (F := Ideal) c arg2 harg2 arg4 harg4 arg5 harg5 arg23 x0 x2 x3) I.g := Is2.ext (pay51_is _ _ (r_25_is H) (r_26_is H)) fun t c ht _ => lvG_g I b n t c ht

theorem v266_is : T b n (φ := .f32) (LoadRect.valAlong (lr := (Rect.unit (s := S2064x128) ![7, 0] S2048x128.size inb_S2064x128_S2048x128_7_0).toLoadRect) (by rfl) (kernelRun0_B.sl.v266 (F := Ideal) c arg2 harg2 arg3 harg3 arg4 harg4 arg5 harg5 arg23 x0 x1 x2 x3)) I.hp :=
  Is2.ext (padLoad _ _ _ _ _ _ _ _ _ _ _ _ _ _ _ _ _ _ _ _ (fun t c => I.h b t (n * 128 + c)) (cast_self2 (r_15_is H) _) (fun _ => lit_zero) (by omega))
    fun t c ht hc => downH I b n t c ht

theorem r_28_is : Is2 (n := 2048) (m := 128) (kernelRun0_B.sl.r_28 (F := Ideal) c arg2 harg2 arg4 harg4 arg5 harg5 arg23 x0 x2 x3) fun t c => I.g b t (n * 128 + c) * I.mult b t (n * 128 + c) * I.i b t (n * 128 + c) :=
  pay55_is (r_6_is H) (r_8_is H) (r_27_is H)

theorem r_30_is : T b n (kernelRun0_B.sl.r_30 (F := Ideal) c arg2 harg2 arg4 harg4 arg5 harg5 arg23 x0 x2 x3) I.dpx :=
  pay59_is (r_6_is H) (r_8_is H) (r_9_is H) (r_27_is H)

theorem r_29_is : R1 n (kernelRun0_B.sl.r_29 (F := Ideal) c arg2 harg2 arg3 harg3 arg4 harg4 arg5 harg5 arg12 harg12 arg23 x0 x1 x2 x3 x10) (I.gLAM b) :=
  pay57_is (r_4_is H) (r_5_is H) (r_6_is H) (r_7_is H) (r_8_is H) (r_9_is H) (r_27_is H) (v266_is H)

theorem r_31_is : T b n (kernelRun0_B.sl.r_31 (F := Ideal) c arg2 harg2 arg3 harg3 arg4 harg4 arg5 harg5 arg12 harg12 arg23 x0 x1 x2 x3 x10) I.dpa :=
  Is.truncf bitsLt_bf16_f32 (pay58_is (r_5_is H) (r_6_is H) (r_7_is H) (r_8_is H) (r_9_is H) (r_14_is H) (r_27_is H) (v266_is H))

theorem r_32_is : T b n (kernelRun0_B.sl.r_32 (F := Ideal) c arg2 harg2 arg4 harg4 arg5 harg5 arg23 x0 x2 x3) I.dpx :=
  Is.truncf bitsLt_bf16_f32 (r_30_is H)

theorem r_33_is : Is2 (n := 128) (m := 128) (kernelRun0_B.sl.r_33 (F := Ideal) c arg2 harg2 arg3 harg3 arg4 harg4 arg5 harg5 arg12 harg12 arg23 x0 x1 x2 x3 x10) (I.gWA b n) :=
  mm00 (r_13_is H) (r_31_is H)

theorem r_34_is : Is2 (n := 128) (m := 128) (kernelRun0_B.sl.r_34 (F := Ideal) c arg2 harg2 arg4 harg4 arg5 harg5 arg23 x0 x2 x3) (I.gWX b n) :=
  mm00 (r_13_is H) (r_32_is H)

theorem r_35_is : R1 n (kernelRun0_B.sl.r_35 (F := Ideal) c arg2 harg2 arg3 harg3 arg4 harg4 arg5 harg5 arg12 harg12 arg23 x0 x1 x2 x3 x10) (I.gBA b) :=
  colSum (pay58_is (r_5_is H) (r_6_is H) (r_7_is H) (r_8_is H) (r_9_is H) (r_14_is H) (r_27_is H) (v266_is H)) reduces_S2048x128_S128 (.inl rfl) rfl shapeCasts_S128_S1x128

theorem r_36_is : R1 n (kernelRun0_B.sl.r_36 (F := Ideal) c arg2 harg2 arg4 harg4 arg5 harg5 arg23 x0 x2 x3) (I.gBX b) :=
  colSum (r_30_is H) reduces_S2048x128_S128 (.inl rfl) rfl shapeCasts_S128_S1x128

theorem r_37_is : T b n (kernelRun0_B.sl.r_37 (F := Ideal) c arg2 harg2 arg3 harg3 arg4 harg4 arg5 harg5 arg8 harg8 arg10 harg10 arg12 harg12 arg23 x0 x1 x2 x3 x6 x8 x10) I.dxc :=
  pay66_is (r_2_is H) (r_3_is H) (r_28_is H) (r_31_is H) (r_32_is H)

theorem r_38_is : R1 n (kernelRun0_B.sl.r_38 (F := Ideal) c arg2 harg2 arg3 harg3 arg4 harg4 arg5 harg5 arg8 harg8 arg10 harg10 arg12 harg12 arg23 x0 x1 x2 x3 x6 x8 x10) (I.gCB b) :=
  colSum (r_37_is H) reduces_S2048x128_S128 (.inl rfl) rfl shapeCasts_S128_S1x128

theorem r_40_is : R1 n (kernelRun0_B.sl.r_40 (F := Ideal) c arg2 harg2 arg3 harg3 arg4 harg4 arg5 harg5 arg8 harg8 arg10 harg10 arg12 harg12 arg23 x0 x1 x2 x3 x6 x8 x10) (I.gCW b 3) :=
  Is2.ext (colSum (Is2.mul (r_37_is H) (r_is H)) reduces_S2048x128_S128 (.inl rfl) rfl shapeCasts_S128_S1x128) fun _ c _ _ => gCW3 I b n c

theorem r_39_is : Is2 (n := 2048) (m := 128) (kernelRun0_B.sl.r_39 (F := Ideal) c arg2 harg2 arg3 harg3 arg4 harg4 arg5 harg5 arg6 harg6 arg8 harg8 arg10 harg10 arg12 harg12 arg23 x0 x1 x2 x3 x4 x6 x8 x10) fun t c => I.CW 3 (n * 128 + c) * I.dxc b t (n * 128 + c) :=
  Is2.mul (bcastRow (row_is (r_1_is H) 3 slices_S4x128_o3_0_S1x128) broadcasts_S1x128_S2048x128) (r_37_is H)

theorem r_41_is : Is2 (n := 2048) (m := 128) (φ := .f32) (kernelRun0_B.sl.r_41 (F := Ideal) c arg2 harg2 arg3 harg3 arg4 harg4 arg5 harg5 arg8 harg8 arg10 harg10 arg12 harg12 arg23 x0 x1 x2 x3 x6 x8 x10) fun t c => I.dxc b (t + 1) (n * 128 + c) :=
  Is2.ext (padLoad _ _ _ _ _ _ _ _ _ _ _ _ _ _ _ _ _ _ _ _ (fun t c => I.dxc b t (n * 128 + c)) (cast_self2 (r_37_is H) _) (fun _ => lit_zero) (by omega))
    fun t c ht hc => upD I b n 1 9 rfl t c

theorem r_42_is : Is2 (n := 2048) (m := 128) (φ := .f32) (kernelRun0_B.sl.r_42 (F := Ideal) c arg2 harg2 arg3 harg3 arg4 harg4 arg5 harg5 arg8 harg8 arg10 harg10 arg12 harg12 arg23 x0 x1 x2 x3 x6 x8 x10) fun t c => I.dxc b (t + 2) (n * 128 + c) :=
  Is2.ext (padLoad _ _ _ _ _ _ _ _ _ _ _ _ _ _ _ _ _ _ _ _ (fun t c => I.dxc b t (n * 128 + c)) (cast_self2 (r_37_is H) _) (fun _ => lit_zero) (by omega))
    fun t c ht hc => upD I b n 2 10 rfl t c

theorem v344_is : Is2 (n := 2048) (m := 128) (φ := .f32) (LoadRect.valAlong (lr := (Rect.unit (s := S2064x128) ![11, 0] S2048x128.size inb_S2064x128_S2048x128_11_0).toLoadRect) (by rfl) (kernelRun0_B.sl.v344 (F := Ideal) c arg2 harg2 arg3 harg3 arg4 harg4 arg5 harg5 arg8 harg8 arg10 harg10 arg12 harg12 arg23 x0 x1 x2 x3 x6 x8 x10)) fun t c => I.dxc b (t + 3) (n * 128 + c) :=
  Is2.ext (padLoad _ _ _ _ _ _ _ _ _ _ _ _ _ _ _ _ _ _ _ _ (fun t c => I.dxc b t (n * 128 + c)) (cast_self2 (r_37_is H) _) (fun _ => lit_zero) (by omega))
    fun t c ht hc => upD I b n 3 11 rfl t c

end Words

end Cert.Proof.Second

end
-- ==== Proof.OutB.lean ====
module

public import proofs.«01_k».proof.Proof.BlockB

@[expose] public section

set_option maxRecDepth 16384

/-! # What the second batch's visit stores -/

noncomputable section

namespace Cert.Proof.Second

open Idealize.ShloMosaic Cert.KernelIdeal Cert.KernelIdeal.Gen Cert.Proof Scan

section Out

variable {I : In} {b n : ℕ} {c : Dev nD} {i : grid0.Coords} {arg2 : Memref sig .tc .vmem S1x2048x128 .bf16} {harg2 : arg2.IsWhole} {arg3 : Memref sig .tc .vmem S1x2048x128 .f32} {harg3 : arg3.IsWhole} {arg4 : Memref sig .tc .vmem S1x2048x128 .f32} {harg4 : arg4.IsWhole} {arg5 : Memref sig .tc .vmem S5x1x2048x128 .f32} {harg5 : arg5.IsWhole} {arg6 : Memref sig .tc .vmem S4x128 .f32} {harg6 : arg6.IsWhole} {arg7 : Memref sig .tc .vmem S1x128 .f32} {harg7 : arg7.IsWhole} {arg8 : Memref sig .tc .vmem S1x128x128 .bf16} {harg8 : arg8.IsWhole} {arg9 : Memref sig .tc .vmem S1x128 .f32} {harg9 : arg9.IsWhole} {arg10 : Memref sig .tc .vmem S1x128x128 .bf16} {harg10 : arg10.IsWhole} {arg11 : Memref sig .tc .vmem S1x128 .f32} {harg11 : arg11.IsWhole} {arg12 : Memref sig .tc .vmem S1x128 .f32} {harg12 : arg12.IsWhole} {arg14 : Memref sig .tc .vmem S8x128 .f32} {harg14 : arg14.IsWhole} {arg15 : Memref sig .tc .vmem S1x2048x128 .bf16} {harg15 : arg15.IsWhole} {arg16 : Memref sig .tc .vmem S4x128 .f32} {harg16 : arg16.IsWhole} {arg17 : Memref sig .tc .vmem S1x128 .f32} {harg17 : arg17.IsWhole} {arg18 : Memref sig .tc .vmem S1x128x128 .f32} {harg18 : arg18.IsWhole} {arg19 : Memref sig .tc .vmem S1x128 .f32} {harg19 : arg19.IsWhole} {arg20 : Memref sig .tc .vmem S1x128x128 .f32} {harg20 : arg20.IsWhole} {arg21 : Memref sig .tc .vmem S1x128 .f32} {harg21 : arg21.IsWhole} {arg22 : Memref sig .tc .vmem S1x128 .f32} {harg22 : arg22.IsWhole} {arg23 : Memref sig .tc .vmem S4x2064x128 .f32} {harg23 : arg23.IsWhole}  {x0 : Vec Ideal S1x2048x128 .bf16} {x1 : Vec Ideal S1x2048x128 .f32} {x2 : Vec Ideal S1x2048x128 .f32} {x3 : Vec Ideal S5x1x2048x128 .f32} {x4 : Vec Ideal S4x128 .f32} {x5 : Vec Ideal S1x128 .f32} {x6 : Vec Ideal S1x128x128 .bf16} {x7 : Vec Ideal S1x128 .f32} {x8 : Vec Ideal S1x128x128 .bf16} {x9 : Vec Ideal S1x128 .f32} {x10 : Vec Ideal S1x128 .f32} {x11 : Vec Ideal S8x128 .f32} {xo13 : Vec Ideal S4x128 .f32} {xo14 : Vec Ideal S1x128 .f32} {xo15 : Vec Ideal S1x128x128 .f32} {xo16 : Vec Ideal S1x128 .f32} {xo17 : Vec Ideal S1x128x128 .f32} {xo18 : Vec Ideal S1x128 .f32} {xo19 : Vec Ideal S1x128 .f32} {hc0 : ¬cond0_0 i} {hc1 : cond0_1 i}
  (H : Blk I b n x0 x1 x2 x3 x4 x6 x8 x10)

include H

theorem out12_B  : Is3 (n := 1) (m := 2048) (k := 128) (φ := .bf16) (out0_B_12 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19) (fun _ t c => I.gX b t (n * 128 + c)) := by
  have e : out0_B_12 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19 = k0_pay72 (kernelRun0_B.sl.r_1 (F := Ideal) c arg6 harg6 x4) (kernelRun0_B.sl.r_39 (F := Ideal) c arg2 harg2 arg3 harg3 arg4 harg4 arg5 harg5 arg6 harg6 arg8 harg8 arg10 harg10 arg12 harg12 arg23 x0 x1 x2 x3 x4 x6 x8 x10) (kernelRun0_B.sl.r_41 (F := Ideal) c arg2 harg2 arg3 harg3 arg4 harg4 arg5 harg5 arg8 harg8 arg10 harg10 arg12 harg12 arg23 x0 x1 x2 x3 x6 x8 x10) (kernelRun0_B.sl.r_42 (F := Ideal) c arg2 harg2 arg3 harg3 arg4 harg4 arg5 harg5 arg8 harg8 arg10 harg10 arg12 harg12 arg23 x0 x1 x2 x3 x6 x8 x10) (LoadRect.valAlong (lr := (Rect.unit (s := S2064x128) ![11, 0] S2048x128.size inb_S2064x128_S2048x128_11_0).toLoadRect) (by rfl) (kernelRun0_B.sl.v344 (F := Ideal) c arg2 harg2 arg3 harg3 arg4 harg4 arg5 harg5 arg8 harg8 arg10 harg10 arg12 harg12 arg23 x0 x1 x2 x3 x6 x8 x10)) := by
    unfold out0_B_12
    rw [View.read_writes_junk_eq_canon]
    exact View.canon_cons_unit_lit _ _ _ (by decide)
  rw [e]
  exact pay72_is (r_1_is H) (r_39_is H) (r_41_is H) (r_42_is H) (v344_is H)

theorem out13_B {P : ℕ → ℕ → ℝ} (hP : Is2 (n := 4) (m := 128) (φ := .f32) xo13 P) : Is2 (n := 4) (m := 128) (φ := .f32) (out0_B_13 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19) (fun k c => P k c + I.gCW b k (n * 128 + c)) := by
  have e : out0_B_13 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19 = k0_pay3 (k0_pay73 (kernelRun0_B.sl.r_10 (F := Ideal) c arg2 harg2 arg23 x0) (kernelRun0_B.sl.r_11 (F := Ideal) c arg2 harg2 arg23 x0) (kernelRun0_B.sl.r_12 (F := Ideal) c arg2 harg2 arg23 x0) (kernelRun0_B.sl.r_37 (F := Ideal) c arg2 harg2 arg3 harg3 arg4 harg4 arg5 harg5 arg8 harg8 arg10 harg10 arg12 harg12 arg23 x0 x1 x2 x3 x6 x8 x10) (kernelRun0_B.sl.r_40 (F := Ideal) c arg2 harg2 arg3 harg3 arg4 harg4 arg5 harg5 arg8 harg8 arg10 harg10 arg12 harg12 arg23 x0 x1 x2 x3 x6 x8 x10)) (View.readAt (Elt Ideal) arg16.view (Rect.unit (s := S4x128) ![0, 0] S4x128.size inb_S4x128_S4x128_0_0).toLoadRect (harg16.unread xo13)) := by
    unfold out0_B_13
    rw [View.read_writes_junk_eq_canon]
    exact View.canon_cons_unit_lit _ _ _ (by decide)
  rw [e]
  exact cast_self2 (Is2.add (fun j => (harg16.readAt_unread xo13 (Rect.unit (s := S4x128) ![0, 0] S4x128.size inb_S4x128_S4x128_0_0).toLoadRect j).trans ((hP _).trans (congrArg _ (load_idx P (j 0).val (j 1).val)))) (pay73_is (r_10_is H) (r_11_is H) (r_12_is H) (r_37_is H) (r_40_is H))) _

theorem out14_B {P : ℕ → ℕ → ℝ} (hP : Is2 (n := 1) (m := 128) (φ := .f32) xo14 P) : Is2 (n := 1) (m := 128) (φ := .f32) (out0_B_14 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19) (fun u c => P u c + I.gCB b (n * 128 + c)) := by
  have e : out0_B_14 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19 = k0_pay4 (kernelRun0_B.sl.r_38 (F := Ideal) c arg2 harg2 arg3 harg3 arg4 harg4 arg5 harg5 arg8 harg8 arg10 harg10 arg12 harg12 arg23 x0 x1 x2 x3 x6 x8 x10) (View.readAt (Elt Ideal) arg17.view (Rect.unit (s := S1x128) ![0, 0] S1x128.size inb_S1x128_S1x128_0_0).toLoadRect (harg17.unread xo14)) := by
    unfold out0_B_14
    rw [View.read_writes_junk_eq_canon]
    exact View.canon_cons_unit_lit _ _ _ (by decide)
  rw [e]
  exact cast_self2 (Is2.add (fun j => (harg17.readAt_unread xo14 (Rect.unit (s := S1x128) ![0, 0] S1x128.size inb_S1x128_S1x128_0_0).toLoadRect j).trans ((hP _).trans (congrArg _ (load_idx P (j 0).val (j 1).val)))) (r_38_is H)) _

theorem out15_B {P : ℕ → ℕ → ℝ} (hP : Is3 (n := 1) (m := 128) (k := 128) (φ := .f32) xo15 fun _ j k => P j k) : Is3 (n := 1) (m := 128) (k := 128) (φ := .f32) (out0_B_15 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19) (fun _ j k => P j k + I.gWA b n j k) := by
  have e : out0_B_15 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19 = k0_pay5 (kernelRun0_B.sl.r_33 (F := Ideal) c arg2 harg2 arg3 harg3 arg4 harg4 arg5 harg5 arg12 harg12 arg23 x0 x1 x2 x3 x10) (View.readAt (Elt Ideal) arg18.view (Rect.unit (s := S1x128x128) ![0, 0, 0] S1x128x128.size inb_S1x128x128_S1x128x128_0_0_0).toLoadRect (harg18.unread xo15)) := by
    unfold out0_B_15
    rw [View.read_writes_junk_eq_canon]
    exact View.canon_cons_unit_lit _ _ _ (by decide)
  rw [e]
  exact cast_put (Is2.add (cast_drop (φ := .f32) (n := 128) (m := 128) (f := fun _ j k => P j k) (fun j => (harg18.readAt_unread xo15 (Rect.unit (s := S1x128x128) ![0, 0, 0] S1x128x128.size inb_S1x128x128_S1x128x128_0_0_0).toLoadRect j).trans ((hP _).trans (congrArg _ (load_idx P (j 1).val (j 2).val)))) shapeCasts_S1x128x128_S128x128) (r_33_is H)) _

theorem out16_B {P : ℕ → ℕ → ℝ} (hP : Is2 (n := 1) (m := 128) (φ := .f32) xo16 P) : Is2 (n := 1) (m := 128) (φ := .f32) (out0_B_16 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19) (fun u c => P u c + I.gBA b (n * 128 + c)) := by
  have e : out0_B_16 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19 = k0_pay6 (kernelRun0_B.sl.r_35 (F := Ideal) c arg2 harg2 arg3 harg3 arg4 harg4 arg5 harg5 arg12 harg12 arg23 x0 x1 x2 x3 x10) (View.readAt (Elt Ideal) arg19.view (Rect.unit (s := S1x128) ![0, 0] S1x128.size inb_S1x128_S1x128_0_0).toLoadRect (harg19.unread xo16)) := by
    unfold out0_B_16
    rw [View.read_writes_junk_eq_canon]
    exact View.canon_cons_unit_lit _ _ _ (by decide)
  rw [e]
  exact cast_self2 (Is2.add (fun j => (harg19.readAt_unread xo16 (Rect.unit (s := S1x128) ![0, 0] S1x128.size inb_S1x128_S1x128_0_0).toLoadRect j).trans ((hP _).trans (congrArg _ (load_idx P (j 0).val (j 1).val)))) (r_35_is H)) _

theorem out17_B {P : ℕ → ℕ → ℝ} (hP : Is3 (n := 1) (m := 128) (k := 128) (φ := .f32) xo17 fun _ j k => P j k) : Is3 (n := 1) (m := 128) (k := 128) (φ := .f32) (out0_B_17 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19) (fun _ j k => P j k + I.gWX b n j k) := by
  have e : out0_B_17 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19 = k0_pay7 (kernelRun0_B.sl.r_34 (F := Ideal) c arg2 harg2 arg4 harg4 arg5 harg5 arg23 x0 x2 x3) (View.readAt (Elt Ideal) arg20.view (Rect.unit (s := S1x128x128) ![0, 0, 0] S1x128x128.size inb_S1x128x128_S1x128x128_0_0_0).toLoadRect (harg20.unread xo17)) := by
    unfold out0_B_17
    rw [View.read_writes_junk_eq_canon]
    exact View.canon_cons_unit_lit _ _ _ (by decide)
  rw [e]
  exact cast_put (Is2.add (cast_drop (φ := .f32) (n := 128) (m := 128) (f := fun _ j k => P j k) (fun j => (harg20.readAt_unread xo17 (Rect.unit (s := S1x128x128) ![0, 0, 0] S1x128x128.size inb_S1x128x128_S1x128x128_0_0_0).toLoadRect j).trans ((hP _).trans (congrArg _ (load_idx P (j 1).val (j 2).val)))) shapeCasts_S1x128x128_S128x128) (r_34_is H)) _

theorem out18_B {P : ℕ → ℕ → ℝ} (hP : Is2 (n := 1) (m := 128) (φ := .f32) xo18 P) : Is2 (n := 1) (m := 128) (φ := .f32) (out0_B_18 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19) (fun u c => P u c + I.gBX b (n * 128 + c)) := by
  have e : out0_B_18 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19 = k0_pay1 (k0_pay8 (kernelRun0_B.sl.r_36 (F := Ideal) c arg2 harg2 arg4 harg4 arg5 harg5 arg23 x0 x2 x3) (View.readAt (Elt Ideal) arg21.view (Rect.unit (s := S1x128) ![0, 0] S1x128.size inb_S1x128_S1x128_0_0).toLoadRect (harg21.unread xo18))) := by
    unfold out0_B_18
    rw [View.read_writes_junk_eq_canon]
    exact View.canon_cons_unit_lit _ _ _ (by decide)
  rw [e]
  exact cast_self2 (Is2.add (fun j => (harg21.readAt_unread xo18 (Rect.unit (s := S1x128) ![0, 0] S1x128.size inb_S1x128_S1x128_0_0).toLoadRect j).trans ((hP _).trans (congrArg _ (load_idx P (j 0).val (j 1).val)))) (r_36_is H)) _

theorem out19_B {P : ℕ → ℕ → ℝ} (hP : Is2 (n := 1) (m := 128) (φ := .f32) xo19 P) : Is2 (n := 1) (m := 128) (φ := .f32) (out0_B_19 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19) (fun u c => P u c + I.gLAM b (n * 128 + c)) := by
  have e : out0_B_19 (F := Ideal) c i arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19 = k0_pay2 (kernelRun0_B.sl.r_29 (F := Ideal) c arg2 harg2 arg3 harg3 arg4 harg4 arg5 harg5 arg12 harg12 arg23 x0 x1 x2 x3 x10) (View.readAt (Elt Ideal) arg22.view (Rect.unit (s := S1x128) ![0, 0] S1x128.size inb_S1x128_S1x128_0_0).toLoadRect (harg22.unread xo19)) := by
    unfold out0_B_19
    rw [View.read_writes_junk_eq_canon]
    exact View.canon_cons_unit_lit _ _ _ (by decide)
  rw [e]
  exact cast_self2 (Is2.add (fun j => (harg22.readAt_unread xo19 (Rect.unit (s := S1x128) ![0, 0] S1x128.size inb_S1x128_S1x128_0_0).toLoadRect j).trans ((hP _).trans (congrArg _ (load_idx P (j 0).val (j 1).val)))) (r_29_is H)) _

end Out

end Cert.Proof.Second

end
-- ==== Proof.Blocks.lean ====
module

public import proofs.«01_k».proof.Proof.Saved
public import proofs.«01_k».proof.Proof.Out
public import proofs.«01_k».proof.Proof.OutB
public import Idealize.ShloMosaic.Lib.Pipeline.ValueKit

@[expose] public section

set_option maxRecDepth 16384

/-! # The blocks the kernel reads and leaves at a grid point -/

noncomputable section

namespace Cert.Proof.Pre

open Idealize.ShloMosaic Cert.KernelIdeal Cert.KernelIdeal.Gen

theorem idx0 : ∀ t : Fin cfg0.N, win0_0.index t = ![t.val % 2, 0, t.val / 2] := (by decide +kernel : ∀ t : Fin grid0.N, win0_0.index t = ![t.val % 2, 0, t.val / 2])
theorem idx1 : ∀ t : Fin cfg0.N, win0_1.index t = ![t.val % 2, 0, t.val / 2] := (by decide +kernel : ∀ t : Fin grid0.N, win0_1.index t = ![t.val % 2, 0, t.val / 2])
theorem idx2 : ∀ t : Fin cfg0.N, win0_2.index t = ![t.val % 2, 0, t.val / 2] := (by decide +kernel : ∀ t : Fin grid0.N, win0_2.index t = ![t.val % 2, 0, t.val / 2])
theorem idx3 : ∀ t : Fin cfg0.N, win0_3.index t = ![0, t.val % 2, 0, t.val / 2] := (by decide +kernel : ∀ t : Fin grid0.N, win0_3.index t = ![0, t.val % 2, 0, t.val / 2])
theorem idx4 : ∀ t : Fin cfg0.N, win0_4.index t = ![0, t.val / 2] := (by decide +kernel : ∀ t : Fin grid0.N, win0_4.index t = ![0, t.val / 2])
theorem idx6 : ∀ t : Fin cfg0.N, win0_6.index t = ![t.val / 2, 0, 0] := (by decide +kernel : ∀ t : Fin grid0.N, win0_6.index t = ![t.val / 2, 0, 0])
theorem idx8 : ∀ t : Fin cfg0.N, win0_8.index t = ![t.val / 2, 0, 0] := (by decide +kernel : ∀ t : Fin grid0.N, win0_8.index t = ![t.val / 2, 0, 0])
theorem idx10 : ∀ t : Fin cfg0.N, win0_10.index t = ![0, t.val / 2] := (by decide +kernel : ∀ t : Fin grid0.N, win0_10.index t = ![0, t.val / 2])
theorem idx12 : ∀ t : Fin cfg0.N, win0_12.index t = ![t.val % 2, 0, t.val / 2] := (by decide +kernel : ∀ t : Fin grid0.N, win0_12.index t = ![t.val % 2, 0, t.val / 2])
theorem idx13 : ∀ t : Fin cfg0.N, win0_13.index t = ![0, t.val / 2] := (by decide +kernel : ∀ t : Fin grid0.N, win0_13.index t = ![0, t.val / 2])
theorem idx14 : ∀ t : Fin cfg0.N, win0_14.index t = ![0, t.val / 2] := (by decide +kernel : ∀ t : Fin grid0.N, win0_14.index t = ![0, t.val / 2])
theorem idx15 : ∀ t : Fin cfg0.N, win0_15.index t = ![t.val / 2, 0, 0] := (by decide +kernel : ∀ t : Fin grid0.N, win0_15.index t = ![t.val / 2, 0, 0])
theorem idx16 : ∀ t : Fin cfg0.N, win0_16.index t = ![0, t.val / 2] := (by decide +kernel : ∀ t : Fin grid0.N, win0_16.index t = ![0, t.val / 2])
theorem idx17 : ∀ t : Fin cfg0.N, win0_17.index t = ![t.val / 2, 0, 0] := (by decide +kernel : ∀ t : Fin grid0.N, win0_17.index t = ![t.val / 2, 0, 0])
theorem idx18 : ∀ t : Fin cfg0.N, win0_18.index t = ![0, t.val / 2] := (by decide +kernel : ∀ t : Fin grid0.N, win0_18.index t = ![0, t.val / 2])
theorem idx19 : ∀ t : Fin cfg0.N, win0_19.index t = ![0, t.val / 2] := (by decide +kernel : ∀ t : Fin grid0.N, win0_19.index t = ![0, t.val / 2])

theorem of_eq {S : Shape} {φ : FTy} {v w : FVec Ideal S φ} {f : S.Idx → ℝ} (e : v = w) (h : Is w f) : Is v f := e ▸ h

variable {m : (ℓ : Loc nD τ sig) → Buf (Elt Ideal) ℓ} {c : Dev nD} {I : In} (A : Holds m c I)
include A

theorem blk0 (t : Fin cfg0.N) : Is3 (n := 1) (m := 2048) (k := 128) (φ := .bf16) (iblk m c 0 t) (fun _ s k => I.X (t.val % 2) s (t.val / 2 * 128 + k)) := by
  intro y
  refine Eq.trans (b := V m c (Pipeline.arrRef spec0 0) (((cfg0.win 0).blk t).view.emb y)) rfl ?_
  refine ((congrFun (V_main_arg0 m c) _).trans (A.x0 _ ?_)).trans ?_
  all_goals blk_simp [idx0]
  have ht : t.val < 20 := t.isLt
  have hy : (y 2).val < 128 := (y 2).isLt
  omega

theorem blk1 (t : Fin cfg0.N) : Is3 (n := 1) (m := 2048) (k := 128) (φ := .f32) (iblk m c 1 t) (fun _ s k => I.h (t.val % 2) s (t.val / 2 * 128 + k)) := by
  intro y
  refine Eq.trans (b := V m c (Pipeline.arrRef spec0 1) (((cfg0.win 1).blk t).view.emb y)) rfl ?_
  refine (is102 A _).trans ?_
  all_goals blk_simp [idx1]

theorem blk2 (t : Fin cfg0.N) : Is3 (n := 1) (m := 2048) (k := 128) (φ := .f32) (iblk m c 2 t) (fun _ s k => I.DH (t.val % 2) s (t.val / 2 * 128 + k)) := by
  intro y
  refine Eq.trans (b := V m c (Pipeline.arrRef spec0 2) (((cfg0.win 2).blk t).view.emb y)) rfl ?_
  refine ((congrFun (V_main_arg8 m c) _).trans (A.x8 _)).trans ?_
  all_goals blk_simp [idx2]

theorem blk3 (t : Fin cfg0.N) : Is4 (n := 5) (m := 1) (k := 2048) (l := 128) (φ := .f32) (iblk m c 3 t) (fun g _ s k => I.gate g (t.val % 2) s (t.val / 2 * 128 + k)) := by
  intro y
  refine Eq.trans (b := V m c (Pipeline.arrRef spec0 3) (((cfg0.win 3).blk t).view.emb y)) rfl ?_
  refine (is108 A _).trans ?_
  all_goals blk_simp [idx3]

theorem blk4 (t : Fin cfg0.N) : Is2 (n := 4) (m := 128) (φ := .f32) (iblk m c 4 t) (fun k s => I.CW k (t.val / 2 * 128 + s)) := by
  intro y
  refine Eq.trans (b := V m c (Pipeline.arrRef spec0 4) (((cfg0.win 4).blk t).view.emb y)) rfl ?_
  refine ((congrFun (V_main_arg1 m c) _).trans (A.x1 _)).trans ?_
  all_goals blk_simp [idx4]

theorem blk6 (t : Fin cfg0.N) : Is3 (n := 1) (m := 128) (k := 128) (φ := .bf16) (iblk m c 6 t) (fun _ j k => I.WA (t.val / 2) j k) := by
  intro y
  refine Eq.trans (b := V m c (Pipeline.arrRef spec0 6) (((cfg0.win 6).blk t).view.emb y)) rfl ?_
  refine (is109 A _).trans ?_
  all_goals blk_simp [idx6]

theorem blk8 (t : Fin cfg0.N) : Is3 (n := 1) (m := 128) (k := 128) (φ := .bf16) (iblk m c 8 t) (fun _ j k => I.WX (t.val / 2) j k) := by
  intro y
  refine Eq.trans (b := V m c (Pipeline.arrRef spec0 8) (((cfg0.win 8).blk t).view.emb y)) rfl ?_
  refine (is110 A _).trans ?_
  all_goals blk_simp [idx8]

theorem blk10 (t : Fin cfg0.N) : Is2 (n := 1) (m := 128) (φ := .f32) (iblk m c 10 t) (fun _ s => I.LAM (t.val / 2 * 128 + s)) := by
  intro y
  refine Eq.trans (b := V m c (Pipeline.arrRef spec0 10) (((cfg0.win 10).blk t).view.emb y)) rfl ?_
  refine ((congrFun (V_main_arg7 m c) _).trans (A.x7 _)).trans ?_
  all_goals blk_simp [idx10]

/-- The blocks at a grid point. -/
theorem blk (t : Fin cfg0.N) : Blk I (t.val % 2) (t.val / 2) (iblk m c 0 t) (iblk m c 1 t) (iblk m c 2 t) (iblk m c 3 t) (iblk m c 4 t) (iblk m c 6 t) (iblk m c 8 t) (iblk m c 10 t) :=
  ⟨blk0 A t, blk1 A t, blk2 A t, blk3 A t, blk4 A t, blk6 A t, blk8 A t, blk10 A t⟩

set_option maxHeartbeats 4000000 in
theorem leftA12 (t : Fin cfg0.N) (h0 : t.val % 2 = 0) :
    Is3 (n := 1) (m := 2048) (k := 128) (φ := .bf16) (outsAt0 m c t.val t.isLt).1 (fun _ s k => I.gX (t.val % 2) s ((t.val / 2) * 128 + k)) := by
  have h1 : ¬t.val % 2 = 1 := by omega
  have E : (outsAt0 m c t.val t.isLt).1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := congrArg (fun p => p.1) (outsAt0_A m c t h0 h1)
  exact of_eq E (out12_A (blk A t))

set_option maxHeartbeats 4000000 in
theorem leftA13 (t : Fin cfg0.N) (h0 : t.val % 2 = 0) :
    Is2 (n := 4) (m := 128) (φ := .f32) (outsAt0 m c t.val t.isLt).2.1 (fun k s => I.gCW (t.val % 2) k ((t.val / 2) * 128 + s)) := by
  have h1 : ¬t.val % 2 = 1 := by omega
  have E : (outsAt0 m c t.val t.isLt).2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := congrArg (fun p => p.2.1) (outsAt0_A m c t h0 h1)
  exact of_eq E (out13_A (blk A t))

set_option maxHeartbeats 4000000 in
theorem leftA14 (t : Fin cfg0.N) (h0 : t.val % 2 = 0) :
    Is2 (n := 1) (m := 128) (φ := .f32) (outsAt0 m c t.val t.isLt).2.2.1 (fun _ s => I.gCB (t.val % 2) ((t.val / 2) * 128 + s)) := by
  have h1 : ¬t.val % 2 = 1 := by omega
  have E : (outsAt0 m c t.val t.isLt).2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := congrArg (fun p => p.2.2.1) (outsAt0_A m c t h0 h1)
  exact of_eq E (out14_A (blk A t))

set_option maxHeartbeats 4000000 in
theorem leftA15 (t : Fin cfg0.N) (h0 : t.val % 2 = 0) :
    Is3 (n := 1) (m := 128) (k := 128) (φ := .f32) (outsAt0 m c t.val t.isLt).2.2.2.1 (fun _ j k => I.gWA (t.val % 2) (t.val / 2) j k) := by
  have h1 : ¬t.val % 2 = 1 := by omega
  have E : (outsAt0 m c t.val t.isLt).2.2.2.1 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := congrArg (fun p => p.2.2.2.1) (outsAt0_A m c t h0 h1)
  exact of_eq E (out15_A (blk A t))

set_option maxHeartbeats 4000000 in
theorem leftA16 (t : Fin cfg0.N) (h0 : t.val % 2 = 0) :
    Is2 (n := 1) (m := 128) (φ := .f32) (outsAt0 m c t.val t.isLt).2.2.2.2.1 (fun _ s => I.gBA (t.val % 2) ((t.val / 2) * 128 + s)) := by
  have h1 : ¬t.val % 2 = 1 := by omega
  have E : (outsAt0 m c t.val t.isLt).2.2.2.2.1 = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := congrArg (fun p => p.2.2.2.2.1) (outsAt0_A m c t h0 h1)
  exact of_eq E (out16_A (blk A t))

set_option maxHeartbeats 4000000 in
theorem leftA17 (t : Fin cfg0.N) (h0 : t.val % 2 = 0) :
    Is3 (n := 1) (m := 128) (k := 128) (φ := .f32) (outsAt0 m c t.val t.isLt).2.2.2.2.2.1 (fun _ j k => I.gWX (t.val % 2) (t.val / 2) j k) := by
  have h1 : ¬t.val % 2 = 1 := by omega
  have E : (outsAt0 m c t.val t.isLt).2.2.2.2.2.1 = out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := congrArg (fun p => p.2.2.2.2.2.1) (outsAt0_A m c t h0 h1)
  exact of_eq E (out17_A (blk A t))

set_option maxHeartbeats 4000000 in
theorem leftA18 (t : Fin cfg0.N) (h0 : t.val % 2 = 0) :
    Is2 (n := 1) (m := 128) (φ := .f32) (outsAt0 m c t.val t.isLt).2.2.2.2.2.2.1 (fun _ s => I.gBX (t.val % 2) ((t.val / 2) * 128 + s)) := by
  have h1 : ¬t.val % 2 = 1 := by omega
  have E : (outsAt0 m c t.val t.isLt).2.2.2.2.2.2.1 = out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := congrArg (fun p => p.2.2.2.2.2.2.1) (outsAt0_A m c t h0 h1)
  exact of_eq E (out18_A (blk A t))

set_option maxHeartbeats 4000000 in
theorem leftA19 (t : Fin cfg0.N) (h0 : t.val % 2 = 0) :
    Is2 (n := 1) (m := 128) (φ := .f32) (outsAt0 m c t.val t.isLt).2.2.2.2.2.2.2 (fun _ s => I.gLAM (t.val % 2) ((t.val / 2) * 128 + s)) := by
  have h1 : ¬t.val % 2 = 1 := by omega
  have E : (outsAt0 m c t.val t.isLt).2.2.2.2.2.2.2 = out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := congrArg (fun p => p.2.2.2.2.2.2.2) (outsAt0_A m c t h0 h1)
  exact of_eq E (out19_A (blk A t))

theorem blkB (t : Fin cfg0.N) (h1 : t.val % 2 = 1) : Blk I 1 (t.val / 2) (iblk m c 0 t) (iblk m c 1 t) (iblk m c 2 t) (iblk m c 3 t) (iblk m c 4 t) (iblk m c 6 t) (iblk m c 8 t) (iblk m c 10 t) := by
  have h := blk A t
  rw [h1] at h
  exact h

set_option maxHeartbeats 4000000 in
/-- The input's gradient at any point. -/
theorem left12 (t : Fin cfg0.N) : Is3 (n := 1) (m := 2048) (k := 128) (φ := .bf16) (outsAt0 m c t.val t.isLt).1 (fun _ s k => I.gX (t.val % 2) s ((t.val / 2) * 128 + k)) := by
  by_cases h0 : t.val % 2 = 0
  · exact leftA12 A t h0
  · have h1 : t.val % 2 = 1 := by omega
    have E : (outsAt0 m c t.val t.isLt).1 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := congrArg (fun p => p.1) (outsAt0_B m c t h0 h1)
    exact of_eq E (Second.out12_B (blk A t))

set_option maxHeartbeats 4000000 in
theorem left13 (t : Fin cfg0.N) (h1 : t.val % 2 = 1) :
    Is2 (n := 4) (m := 128) (φ := .f32) (outsAt0 m c t.val t.isLt).2.1 (fun k s => I.gCW 0 k ((t.val / 2) * 128 + s) + I.gCW 1 k ((t.val / 2) * 128 + s)) := by
  have h0 : ¬t.val % 2 = 0 := by omega
  have hp := leftA13 A ⟨t.val - 1, Nat.lt_of_le_of_lt (Nat.sub_le _ _) t.isLt⟩ (by show (t.val - 1) % 2 = 0; omega)
  have e0 : (t.val - 1) % 2 = 0 := by omega
  have e1 : (t.val - 1) / 2 = t.val / 2 := by omega
  simp only [e0, e1] at hp
  have E : (outsAt0 m c t.val t.isLt).2.1 = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := congrArg (fun p => p.2.1) (outsAt0_B m c t h0 h1)
  exact of_eq E (Second.out13_B (blkB A t h1) hp)

set_option maxHeartbeats 4000000 in
theorem left14 (t : Fin cfg0.N) (h1 : t.val % 2 = 1) :
    Is2 (n := 1) (m := 128) (φ := .f32) (outsAt0 m c t.val t.isLt).2.2.1 (fun _ s => I.gCB 0 ((t.val / 2) * 128 + s) + I.gCB 1 ((t.val / 2) * 128 + s)) := by
  have h0 : ¬t.val % 2 = 0 := by omega
  have hp := leftA14 A ⟨t.val - 1, Nat.lt_of_le_of_lt (Nat.sub_le _ _) t.isLt⟩ (by show (t.val - 1) % 2 = 0; omega)
  have e0 : (t.val - 1) % 2 = 0 := by omega
  have e1 : (t.val - 1) / 2 = t.val / 2 := by omega
  simp only [e0, e1] at hp
  have E : (outsAt0 m c t.val t.isLt).2.2.1 = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := congrArg (fun p => p.2.2.1) (outsAt0_B m c t h0 h1)
  exact of_eq E (Second.out14_B (blkB A t h1) hp)

set_option maxHeartbeats 4000000 in
theorem left15 (t : Fin cfg0.N) (h1 : t.val % 2 = 1) :
    Is3 (n := 1) (m := 128) (k := 128) (φ := .f32) (outsAt0 m c t.val t.isLt).2.2.2.1 (fun _ j k => I.gWA 0 (t.val / 2) j k + I.gWA 1 (t.val / 2) j k) := by
  have h0 : ¬t.val % 2 = 0 := by omega
  have hp := leftA15 A ⟨t.val - 1, Nat.lt_of_le_of_lt (Nat.sub_le _ _) t.isLt⟩ (by show (t.val - 1) % 2 = 0; omega)
  have e0 : (t.val - 1) % 2 = 0 := by omega
  have e1 : (t.val - 1) / 2 = t.val / 2 := by omega
  simp only [e0, e1] at hp
  have E : (outsAt0 m c t.val t.isLt).2.2.2.1 = out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := congrArg (fun p => p.2.2.2.1) (outsAt0_B m c t h0 h1)
  exact of_eq E (Second.out15_B (blkB A t h1) hp)

set_option maxHeartbeats 4000000 in
theorem left16 (t : Fin cfg0.N) (h1 : t.val % 2 = 1) :
    Is2 (n := 1) (m := 128) (φ := .f32) (outsAt0 m c t.val t.isLt).2.2.2.2.1 (fun _ s => I.gBA 0 ((t.val / 2) * 128 + s) + I.gBA 1 ((t.val / 2) * 128 + s)) := by
  have h0 : ¬t.val % 2 = 0 := by omega
  have hp := leftA16 A ⟨t.val - 1, Nat.lt_of_le_of_lt (Nat.sub_le _ _) t.isLt⟩ (by show (t.val - 1) % 2 = 0; omega)
  have e0 : (t.val - 1) % 2 = 0 := by omega
  have e1 : (t.val - 1) / 2 = t.val / 2 := by omega
  simp only [e0, e1] at hp
  have E : (outsAt0 m c t.val t.isLt).2.2.2.2.1 = out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := congrArg (fun p => p.2.2.2.2.1) (outsAt0_B m c t h0 h1)
  exact of_eq E (Second.out16_B (blkB A t h1) hp)

set_option maxHeartbeats 4000000 in
theorem left17 (t : Fin cfg0.N) (h1 : t.val % 2 = 1) :
    Is3 (n := 1) (m := 128) (k := 128) (φ := .f32) (outsAt0 m c t.val t.isLt).2.2.2.2.2.1 (fun _ j k => I.gWX 0 (t.val / 2) j k + I.gWX 1 (t.val / 2) j k) := by
  have h0 : ¬t.val % 2 = 0 := by omega
  have hp := leftA17 A ⟨t.val - 1, Nat.lt_of_le_of_lt (Nat.sub_le _ _) t.isLt⟩ (by show (t.val - 1) % 2 = 0; omega)
  have e0 : (t.val - 1) % 2 = 0 := by omega
  have e1 : (t.val - 1) / 2 = t.val / 2 := by omega
  simp only [e0, e1] at hp
  have E : (outsAt0 m c t.val t.isLt).2.2.2.2.2.1 = out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := congrArg (fun p => p.2.2.2.2.2.1) (outsAt0_B m c t h0 h1)
  exact of_eq E (Second.out17_B (blkB A t h1) hp)

set_option maxHeartbeats 4000000 in
theorem left18 (t : Fin cfg0.N) (h1 : t.val % 2 = 1) :
    Is2 (n := 1) (m := 128) (φ := .f32) (outsAt0 m c t.val t.isLt).2.2.2.2.2.2.1 (fun _ s => I.gBX 0 ((t.val / 2) * 128 + s) + I.gBX 1 ((t.val / 2) * 128 + s)) := by
  have h0 : ¬t.val % 2 = 0 := by omega
  have hp := leftA18 A ⟨t.val - 1, Nat.lt_of_le_of_lt (Nat.sub_le _ _) t.isLt⟩ (by show (t.val - 1) % 2 = 0; omega)
  have e0 : (t.val - 1) % 2 = 0 := by omega
  have e1 : (t.val - 1) / 2 = t.val / 2 := by omega
  simp only [e0, e1] at hp
  have E : (outsAt0 m c t.val t.isLt).2.2.2.2.2.2.1 = out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := congrArg (fun p => p.2.2.2.2.2.2.1) (outsAt0_B m c t h0 h1)
  exact of_eq E (Second.out18_B (blkB A t h1) hp)

set_option maxHeartbeats 4000000 in
theorem left19 (t : Fin cfg0.N) (h1 : t.val % 2 = 1) :
    Is2 (n := 1) (m := 128) (φ := .f32) (outsAt0 m c t.val t.isLt).2.2.2.2.2.2.2 (fun _ s => I.gLAM 0 ((t.val / 2) * 128 + s) + I.gLAM 1 ((t.val / 2) * 128 + s)) := by
  have h0 : ¬t.val % 2 = 0 := by omega
  have hp := leftA19 A ⟨t.val - 1, Nat.lt_of_le_of_lt (Nat.sub_le _ _) t.isLt⟩ (by show (t.val - 1) % 2 = 0; omega)
  have e0 : (t.val - 1) % 2 = 0 := by omega
  have e1 : (t.val - 1) / 2 = t.val / 2 := by omega
  simp only [e0, e1] at hp
  have E : (outsAt0 m c t.val t.isLt).2.2.2.2.2.2.2 = out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 := congrArg (fun p => p.2.2.2.2.2.2.2) (outsAt0_B m c t h0 h1)
  exact of_eq E (Second.out19_B (blkB A t h1) hp)

end Cert.Proof.Pre

end
-- ==== Proof.Arrays.lean ====
module

public import proofs.«01_k».proof.Proof.Blocks

@[expose] public section

set_option maxRecDepth 16384

/-! # The arrays after the run

Windows 13 to 19 hold, after the second of a head's two points, the sum over the batch;
window 12 is written at every point and covers the first 1280 columns of the slab. -/

noncomputable section

namespace Cert.Proof.Pre

open Idealize.ShloMosaic Cert.KernelIdeal Cert.KernelIdeal.Gen

variable {m : (ℓ : Loc nD τ sig) → Buf (Elt Ideal) ℓ} {c : Dev nD} {I : In} (A : Holds m c I)
include A

theorem arr13 : Is (S := S4x1280) (φ := .f32) ((dats m 0 c).arrAt 13 cfg0.N)
    (fun j => I.gCW 0 (j 0).val (j 1).val + I.gCW 1 (j 0).val (j 1).val) := by
  refine fun i => congrFun ((dats m 0 c).arrAt_eq_of_covers 13
    (fun j : S4x1280.Idx => ((I.gCW 0 (j 0).val (j 1).val + I.gCW 1 (j 0).val (j 1).val : ℝ) : EReal))
    (by decide +kernel) fun t hf y => ?_) i
  rw [after0_13]
  refine (left13 A t ((flush0_13 t).mp hf) _).trans ?_
  blk_simp [idx13]

theorem arr14 : Is (S := S1x1280) (φ := .f32) ((dats m 0 c).arrAt 14 cfg0.N)
    (fun j => I.gCB 0 (j 1).val + I.gCB 1 (j 1).val) := by
  refine fun i => congrFun ((dats m 0 c).arrAt_eq_of_covers 14
    (fun j : S1x1280.Idx => ((I.gCB 0 (j 1).val + I.gCB 1 (j 1).val : ℝ) : EReal))
    (by decide +kernel) fun t hf y => ?_) i
  rw [after0_14]
  refine (left14 A t ((flush0_14 t).mp hf) _).trans ?_
  blk_simp [idx14]

theorem arr15 : Is (S := S10x128x128) (φ := .f32) ((dats m 0 c).arrAt 15 cfg0.N)
    (fun j => I.gWA 0 (j 0).val (j 1).val (j 2).val + I.gWA 1 (j 0).val (j 1).val (j 2).val) := by
  refine fun i => congrFun ((dats m 0 c).arrAt_eq_of_covers 15
    (fun j : S10x128x128.Idx => ((I.gWA 0 (j 0).val (j 1).val (j 2).val + I.gWA 1 (j 0).val (j 1).val (j 2).val : ℝ) : EReal))
    (by decide +kernel) fun t hf y => ?_) i
  rw [after0_15]
  refine (left15 A t ((flush0_15 t).mp hf) _).trans ?_
  blk_simp [idx15]

theorem arr16 : Is (S := S1x1280) (φ := .f32) ((dats m 0 c).arrAt 16 cfg0.N)
    (fun j => I.gBA 0 (j 1).val + I.gBA 1 (j 1).val) := by
  refine fun i => congrFun ((dats m 0 c).arrAt_eq_of_covers 16
    (fun j : S1x1280.Idx => ((I.gBA 0 (j 1).val + I.gBA 1 (j 1).val : ℝ) : EReal))
    (by decide +kernel) fun t hf y => ?_) i
  rw [after0_16]
  refine (left16 A t ((flush0_16 t).mp hf) _).trans ?_
  blk_simp [idx16]

theorem arr17 : Is (S := S10x128x128) (φ := .f32) ((dats m 0 c).arrAt 17 cfg0.N)
    (fun j => I.gWX 0 (j 0).val (j 1).val (j 2).val + I.gWX 1 (j 0).val (j 1).val (j 2).val) := by
  refine fun i => congrFun ((dats m 0 c).arrAt_eq_of_covers 17
    (fun j : S10x128x128.Idx => ((I.gWX 0 (j 0).val (j 1).val (j 2).val + I.gWX 1 (j 0).val (j 1).val (j 2).val : ℝ) : EReal))
    (by decide +kernel) fun t hf y => ?_) i
  rw [after0_17]
  refine (left17 A t ((flush0_17 t).mp hf) _).trans ?_
  blk_simp [idx17]

theorem arr18 : Is (S := S1x1280) (φ := .f32) ((dats m 0 c).arrAt 18 cfg0.N)
    (fun j => I.gBX 0 (j 1).val + I.gBX 1 (j 1).val) := by
  refine fun i => congrFun ((dats m 0 c).arrAt_eq_of_covers 18
    (fun j : S1x1280.Idx => ((I.gBX 0 (j 1).val + I.gBX 1 (j 1).val : ℝ) : EReal))
    (by decide +kernel) fun t hf y => ?_) i
  rw [after0_18]
  refine (left18 A t ((flush0_18 t).mp hf) _).trans ?_
  blk_simp [idx18]

theorem arr19 : Is (S := S1x1280) (φ := .f32) ((dats m 0 c).arrAt 19 cfg0.N)
    (fun j => I.gLAM 0 (j 1).val + I.gLAM 1 (j 1).val) := by
  refine fun i => congrFun ((dats m 0 c).arrAt_eq_of_covers 19
    (fun j : S1x1280.Idx => ((I.gLAM 0 (j 1).val + I.gLAM 1 (j 1).val : ℝ) : EReal))
    (by decide +kernel) fun t hf y => ?_) i
  rw [after0_19]
  refine (left19 A t ((flush0_19 t).mp hf) _).trans ?_
  blk_simp [idx19]

theorem arr12 : (dats m 0 c).arrAt 12 cfg0.N = fun j : S2x2048x2560.Idx =>
    if (j 2).val < 1280 then ((I.gX (j 0).val (j 1).val (j 2).val : ℝ) : EReal)
    else m (c.tc.loc main_arg9) j := by
  have h := (dats m 0 c).arrAt_eq_of_coversWhere 12
    (fun j : S2x2048x2560.Idx => ((I.gX (j 0).val (j 1).val (j 2).val : ℝ) : EReal))
    (fun β => β 2 < 10) (P := fun j : S2x2048x2560.Idx => (j 2).val < 1280) (by decide +kernel)
    (fun t hf y => by
      rw [after0_12]
      refine (left12 A t _).trans ?_
      blk_simp [idx12])
    (fun j => by blk_simp [Pipeline.Window.cell_apply]; omega)
  rw [h]
  funext j
  by_cases hj : (j 2).val < 1280
  · rw [if_pos hj, if_pos hj]
  · rw [if_neg hj, if_neg hj, A_eq]
    exact congrFun (V112_0 m c) j

end Cert.Proof.Pre

end
-- ==== Proof.RefB.lean ====
module

public import proofs.«01_k».proof.Proof.RefF

@[expose] public section

set_option maxRecDepth 16384

/-! # The reference's derivative on real contents -/

noncomputable section

namespace Cert.Proof.Ref

open Idealize.ShloMosaic Cert.ReferenceIdeal Cert.ReferenceIdeal.Gen Cert.ReferenceIdeal.Read

variable {I : In} {x0 : (⟨S2x2048x9728, .bf16⟩ : BufTy).Contents (Elt Ideal)} {x1 : (⟨S4x1280, .f32⟩ : BufTy).Contents (Elt Ideal)}
  {x2 : (⟨S1x1280, .f32⟩ : BufTy).Contents (Elt Ideal)} {x3 : (⟨S10x128x128, .f32⟩ : BufTy).Contents (Elt Ideal)}
  {x4 : (⟨S1x1280, .f32⟩ : BufTy).Contents (Elt Ideal)} {x5 : (⟨S10x128x128, .f32⟩ : BufTy).Contents (Elt Ideal)}
  {x6 x7 : (⟨S1x1280, .f32⟩ : BufTy).Contents (Elt Ideal)} {x8 : (⟨S2x2048x1280, .f32⟩ : BufTy).Contents (Elt Ideal)}

theorem v105_is (A : Args I x0 x1 x2 x3 x4 x5 x6 x7 x8) :
    Is (S := S2x2048x2048x1280) (φ := .f32) (val_main_v105 (F := Ideal) x8) fun j => I.DH (j 0).val (j 1).val (j 3).val :=
  lay (idx_main_v105) A.x8 (val_main_v105_apply x8)

theorem dla_eq (b t c : ℕ) :
    I.g b t c * I.hp b t c * I.a b t c
      + 2 * (-((if t = 0 then (0 : ℝ) else I.g b t c * (I.i b t c * I.xc b t c)) * ((1 / 2 : ℝ) / Real.sqrt (I.var b t c))) * (I.a b t c * I.a b t c))
      = I.dla b t c := by
  rw [In.dla, In.mult]
  by_cases h : t = 0
  · rw [if_pos h]; ring
  · rw [if_neg h, if_neg h]; ring

theorem rows_eq (k c : ℕ) (h : k < 4) :
    (if k = 3 then ∑ b ∈ Finset.range 2, I.gCW b 3 c else 0) + (if k = 2 then ∑ b ∈ Finset.range 2, I.gCW b 2 c else 0)
      + (if k = 1 then ∑ b ∈ Finset.range 2, I.gCW b 1 c else 0) + (if k = 0 then ∑ b ∈ Finset.range 2, I.gCW b 0 c else 0)
      = ∑ b ∈ Finset.range 2, I.gCW b k c := by
  have h' : k = 0 ∨ k = 1 ∨ k = 2 ∨ k = 3 := by omega
  rcases h' with rfl | rfl | rfl | rfl <;> simp

theorem shift_eq (b t c k l d : ℕ) (hd : 3 = l + d) (ht : t < 2048) :
    (if l ≤ 3 + t ∧ 3 + t < 2048 + l then I.CW k c * I.dxc b (3 + t - l) c else 0) = I.CW k c * I.dxc b (t + d) c := by
  have e : 3 + t - l = t + d := by omega
  by_cases h : l ≤ 3 + t ∧ 3 + t < 2048 + l
  · rw [if_pos h, e]
  · rw [if_neg h, In.dxc, if_neg (by omega), mul_zero]

theorem shifts_eq (b t c : ℕ) (ht : t < 2048) :
    (if 3 ≤ 3 + t ∧ 3 + t < 2051 then I.CW 3 c * I.dxc b (3 + t - 3) c else 0) + (if 2 ≤ 3 + t ∧ 3 + t < 2050 then I.CW 2 c * I.dxc b (3 + t - 2) c else 0)
      + (if 1 ≤ 3 + t ∧ 3 + t < 2049 then I.CW 1 c * I.dxc b (3 + t - 1) c else 0) + (if 0 ≤ 3 + t ∧ 3 + t < 2048 then I.CW 0 c * I.dxc b (3 + t - 0) c else 0)
      = I.gX b t c := by
  have e3 := shift_eq (I := I) b t c 3 3 0 rfl ht
  have e2 := shift_eq (I := I) b t c 2 2 1 rfl ht
  have e1 := shift_eq (I := I) b t c 1 1 2 rfl ht
  have e0 := shift_eq (I := I) b t c 0 0 3 rfl ht
  exact congrArg₂ (· + ·) (congrArg₂ (· + ·) (congrArg₂ (· + ·) e3 e2) e1) e0

theorem v106_is (A : Args I x0 x1 x2 x3 x4 x5 x6 x7 x8) :
    Is (S := S2x2048x2048x1280) (φ := .f32) (val_main_v106 (F := Ideal) x0 x1 x2 x3 x4 x7 x8) fun j => (Scan.dec 2048 (fun t => I.la (j 0).val t (j 3).val) (j 1).val (j 2).val * I.DH (j 0).val (j 1).val (j 3).val) :=
  Is.mulf (v100_0_is A) (v105_is A)

theorem v107_is (A : Args I x0 x1 x2 x3 x4 x5 x6 x7 x8) :
    Is (S := S2x2048x1280) (φ := .f32) (val_main_v107 (F := Ideal) x0 x1 x2 x3 x4 x7 x8) fun j => I.g (j 0).val (j 1).val (j 2).val :=
  (hsum (fun i k107 => (Scan.dec 2048 (fun t => I.la ((i 0).val) t ((i 2).val)) k107 ((i 1).val) * I.DH ((i 0).val) k107 ((i 2).val))) (v106_is A) lit_zero (val_main_v107_apply x0 x1 x2 x3 x4 x7 x8) fun _ _ => rfl).congr fun j => rfl

theorem v108_is (A : Args I x0 x1 x2 x3 x4 x5 x6 x7 x8) :
    Is (S := S2x1x2048x1280) (φ := .f32) (val_main_v108 (F := Ideal) x0 x1 x2 x3 x4 x7 x8) fun j => I.g (j 0).val (j 2).val (j 3).val :=
  col1 (fun a b c => I.g a b c) (v107_is A) (val_main_v108_apply x0 x1 x2 x3 x4 x7 x8)

theorem v109_is (A : Args I x0 x1 x2 x3 x4 x5 x6 x7 x8) :
    Is (S := S2x2048x2048x1280) (φ := .f32) (val_main_v109 (F := Ideal) x0 x1 x2 x3 x4 x5 x6 x7) fun j => I.u (j 0).val (j 2).val (j 3).val :=
  lay (idx_main_v109) (v101_is A) (val_main_v109_apply x0 x1 x2 x3 x4 x5 x6 x7)

theorem v110_is (A : Args I x0 x1 x2 x3 x4 x5 x6 x7 x8) :
    Is (S := S2x2048x2048x1280) (φ := .f32) (val_main_v110 (F := Ideal) x0 x1 x2 x3 x4 x5 x6 x7 x8) fun j => (I.DH (j 0).val (j 1).val (j 3).val * I.u (j 0).val (j 2).val (j 3).val) :=
  Is.mulf (v105_is A) (v109_is A)

theorem v111_is (A : Args I x0 x1 x2 x3 x4 x5 x6 x7 x8) :
    Is (S := S2x2048x1280) (φ := .f32) (val_main_v111 (F := Ideal) x0 x1 x2 x3 x4 x7 x8) fun j => I.g (j 0).val (j 1).val (j 2).val :=
  (hsum (fun i k => I.g ((i 0).val) ((i 1).val) ((i 2).val)) (v108_is A) lit_zero (val_main_v111_apply x0 x1 x2 x3 x4 x7 x8) fun _ _ => rfl).congr fun j => Finset.sum_range_one _

theorem call4_v0_is (A : Args I x0 x1 x2 x3 x4 x5 x6 x7 x8) :
    Is (S := S2x2048x2048x1280) (φ := .f32) (val_main_call4_v0 (F := Ideal)) fun j => (0 : ℝ) :=
  fun i => ((val_main_call4_v0_apply) i).trans lit_zero

theorem v112_is (A : Args I x0 x1 x2 x3 x4 x5 x6 x7 x8) :
    Is (S := S2x2048x2048x1280) (φ := .f32) (val_main_v112 (F := Ideal) x0 x1 x2 x3 x4 x5 x6 x7 x8) fun j => (if (j 2).val ≤ (j 1).val then (I.DH (j 0).val (j 1).val (j 3).val * I.u (j 0).val (j 2).val (j 3).val) else (0 : ℝ)) :=
  sel (fun j => (j 2).val ≤ (j 1).val) mask_later' (v110_is A) (call4_v0_is A)

theorem v113_is (A : Args I x0 x1 x2 x3 x4 x5 x6 x7 x8) :
    Is (S := S2x2048x2048x1280) (φ := .f32) (val_main_v113 (F := Ideal) x0 x1 x2 x3 x4 x5 x6 x7 x8) fun j => (I.DH (j 0).val (j 1).val (j 3).val * I.u (j 0).val (j 2).val (j 3).val * Scan.dec 2048 (fun t => I.la (j 0).val t (j 3).val) (j 1).val (j 2).val) :=
  (Is.mulf (v112_is A) (v99_is A)).congr fun j => by
    rw [Scan.dec]; split
    · rfl
    · rw [zero_mul, mul_zero]

theorem v114_is (A : Args I x0 x1 x2 x3 x4 x5 x6 x7 x8) :
    Is (S := S2x2048x1280) (φ := .f32) (val_main_v114 (F := Ideal) x0 x1 x2 x3 x4 x5 x6 x7 x8) fun j => (∑ k114 ∈ Finset.range 2048, (I.DH (j 0).val (j 1).val (j 2).val * I.u (j 0).val k114 (j 2).val * Scan.dec 2048 (fun t => I.la (j 0).val t (j 2).val) (j 1).val k114)) :=
  hsum (fun i k114 => (I.DH ((i 0).val) ((i 1).val) ((i 2).val) * I.u ((i 0).val) k114 ((i 2).val) * Scan.dec 2048 (fun t => I.la ((i 0).val) t ((i 2).val)) ((i 1).val) k114)) (v113_is A) lit_zero (val_main_v114_apply x0 x1 x2 x3 x4 x5 x6 x7 x8) fun _ _ => rfl

theorem v115_is (A : Args I x0 x1 x2 x3 x4 x5 x6 x7 x8) :
    Is (S := S2x2048x1x1280) (φ := .f32) (val_main_v115 (F := Ideal) x0 x1 x2 x3 x4 x5 x6 x7 x8) fun j => (∑ k114 ∈ Finset.range 2048, (I.DH (j 0).val (j 1).val (j 3).val * I.u (j 0).val k114 (j 3).val * Scan.dec 2048 (fun t => I.la (j 0).val t (j 3).val) (j 1).val k114)) :=
  col2 (fun a b c => (∑ k114 ∈ Finset.range 2048, (I.DH a b c * I.u a k114 c * Scan.dec 2048 (fun t => I.la a t c) b k114))) (v114_is A) (val_main_v115_apply x0 x1 x2 x3 x4 x5 x6 x7 x8)

theorem v116_is (A : Args I x0 x1 x2 x3 x4 x5 x6 x7 x8) :
    Is (S := S2x2048x2048x1280) (φ := .f32) (val_main_v116 (F := Ideal) x0 x1 x2 x3 x4 x5 x6 x7 x8) fun j => (-(I.DH (j 0).val (j 1).val (j 3).val * I.u (j 0).val (j 2).val (j 3).val * Scan.dec 2048 (fun t => I.la (j 0).val t (j 3).val) (j 1).val (j 2).val)) :=
  Is.hnegf (v113_is A)

theorem v117_is (A : Args I x0 x1 x2 x3 x4 x5 x6 x7 x8) :
    Is (S := S2x2048x1280) (φ := .f32) (val_main_v117 (F := Ideal) x0 x1 x2 x3 x4 x5 x6 x7 x8) fun j => (∑ k117 ∈ Finset.range 2048, (-(I.DH (j 0).val k117 (j 2).val * I.u (j 0).val (j 1).val (j 2).val * Scan.dec 2048 (fun t => I.la (j 0).val t (j 2).val) k117 (j 1).val))) :=
  hsum (fun i k117 => (-(I.DH ((i 0).val) k117 ((i 2).val) * I.u ((i 0).val) ((i 1).val) ((i 2).val) * Scan.dec 2048 (fun t => I.la ((i 0).val) t ((i 2).val)) k117 ((i 1).val)))) (v116_is A) lit_zero (val_main_v117_apply x0 x1 x2 x3 x4 x5 x6 x7 x8) fun _ _ => rfl

theorem v118_is (A : Args I x0 x1 x2 x3 x4 x5 x6 x7 x8) :
    Is (S := S2x1x2048x1280) (φ := .f32) (val_main_v118 (F := Ideal) x0 x1 x2 x3 x4 x5 x6 x7 x8) fun j => (∑ k117 ∈ Finset.range 2048, (-(I.DH (j 0).val k117 (j 3).val * I.u (j 0).val (j 2).val (j 3).val * Scan.dec 2048 (fun t => I.la (j 0).val t (j 3).val) k117 (j 2).val))) :=
  col1 (fun a b c => (∑ k117 ∈ Finset.range 2048, (-(I.DH a k117 c * I.u a b c * Scan.dec 2048 (fun t => I.la a t c) k117 b)))) (v117_is A) (val_main_v118_apply x0 x1 x2 x3 x4 x5 x6 x7 x8)

theorem v119_is (A : Args I x0 x1 x2 x3 x4 x5 x6 x7 x8) :
    Is (S := S2x2048x1280) (φ := .f32) (val_main_v119 (F := Ideal) x0 x1 x2 x3 x4 x5 x6 x7 x8) fun j => (∑ k117 ∈ Finset.range 2048, (-(I.DH (j 0).val k117 (j 2).val * I.u (j 0).val (j 1).val (j 2).val * Scan.dec 2048 (fun t => I.la (j 0).val t (j 2).val) k117 (j 1).val))) :=
  (hsum (fun i k => (∑ k117 ∈ Finset.range 2048, (-(I.DH ((i 0).val) k117 ((i 2).val) * I.u ((i 0).val) ((i 1).val) ((i 2).val) * Scan.dec 2048 (fun t => I.la ((i 0).val) t ((i 2).val)) k117 ((i 1).val))))) (v118_is A) lit_zero (val_main_v119_apply x0 x1 x2 x3 x4 x5 x6 x7 x8) fun _ _ => rfl).congr fun j => Finset.sum_range_one _

theorem v120_is (A : Args I x0 x1 x2 x3 x4 x5 x6 x7 x8) :
    Is (S := S2x2048x1280) (φ := .f32) (val_main_v120 (F := Ideal) x0 x1 x2 x3 x4 x5 x6 x7 x8) fun j => (∑ k114 ∈ Finset.range 2048, (I.DH (j 0).val (j 1).val (j 2).val * I.u (j 0).val k114 (j 2).val * Scan.dec 2048 (fun t => I.la (j 0).val t (j 2).val) (j 1).val k114)) :=
  (hsum (fun i k => (∑ k114 ∈ Finset.range 2048, (I.DH ((i 0).val) ((i 1).val) ((i 2).val) * I.u ((i 0).val) k114 ((i 2).val) * Scan.dec 2048 (fun t => I.la ((i 0).val) t ((i 2).val)) ((i 1).val) k114))) (v115_is A) lit_zero (val_main_v120_apply x0 x1 x2 x3 x4 x5 x6 x7 x8) fun _ _ => rfl).congr fun j => Finset.sum_range_one _

theorem v121_is (A : Args I x0 x1 x2 x3 x4 x5 x6 x7 x8) :
    Is (S := S2x2048x1280) (φ := .f32) (val_main_v121 (F := Ideal) x0 x1 x2 x3 x4 x5 x6 x7 x8) fun j => ((∑ k117 ∈ Finset.range 2048, (-(I.DH (j 0).val k117 (j 2).val * I.u (j 0).val (j 1).val (j 2).val * Scan.dec 2048 (fun t => I.la (j 0).val t (j 2).val) k117 (j 1).val))) + (∑ k114 ∈ Finset.range 2048, (I.DH (j 0).val (j 1).val (j 2).val * I.u (j 0).val k114 (j 2).val * Scan.dec 2048 (fun t => I.la (j 0).val t (j 2).val) (j 1).val k114))) :=
  Is.addf (v119_is A) (v120_is A)

theorem v122_is (A : Args I x0 x1 x2 x3 x4 x5 x6 x7 x8) :
    Is (S := S2x2048x2048x1280) (φ := .f32) (val_main_v122 (F := Ideal) x0 x1 x2 x3 x4 x5 x6 x7 x8) fun j => ((∑ k117 ∈ Finset.range 2048, (-(I.DH (j 0).val k117 (j 3).val * I.u (j 0).val (j 1).val (j 3).val * Scan.dec 2048 (fun t => I.la (j 0).val t (j 3).val) k117 (j 1).val))) + (∑ k114 ∈ Finset.range 2048, (I.DH (j 0).val (j 1).val (j 3).val * I.u (j 0).val k114 (j 3).val * Scan.dec 2048 (fun t => I.la (j 0).val t (j 3).val) (j 1).val k114))) :=
  lay (idx_main_v122) (v121_is A) (val_main_v122_apply x0 x1 x2 x3 x4 x5 x6 x7 x8)

theorem call5_v0_is (A : Args I x0 x1 x2 x3 x4 x5 x6 x7 x8) :
    Is (S := S2x2048x2048x1280) (φ := .f32) (val_main_call5_v0 (F := Ideal)) fun j => (0 : ℝ) :=
  fun i => ((val_main_call5_v0_apply) i).trans lit_zero

theorem call5_v1_is (A : Args I x0 x1 x2 x3 x4 x5 x6 x7 x8) :
    Is (S := S2x2048x2048x1280) (φ := .f32) (val_main_call5_v1 (F := Ideal) x0 x1 x2 x3 x4 x5 x6 x7 x8) fun j => (if (j 2).val ≤ (j 1).val then ((∑ k117 ∈ Finset.range 2048, (-(I.DH (j 0).val k117 (j 3).val * I.u (j 0).val (j 1).val (j 3).val * Scan.dec 2048 (fun t => I.la (j 0).val t (j 3).val) k117 (j 1).val))) + (∑ k114 ∈ Finset.range 2048, (I.DH (j 0).val (j 1).val (j 3).val * I.u (j 0).val k114 (j 3).val * Scan.dec 2048 (fun t => I.la (j 0).val t (j 3).val) (j 1).val k114))) else (0 : ℝ)) :=
  sel (fun j => (j 2).val ≤ (j 1).val) mask_later (v122_is A) (call5_v0_is A)

theorem call5_v2_is (A : Args I x0 x1 x2 x3 x4 x5 x6 x7 x8) :
    Is (S := S2x2048x1280) (φ := .f32) (val_main_call5_v2 (F := Ideal) x0 x1 x2 x3 x4 x5 x6 x7 x8) fun j => (∑ kcall5v2 ∈ Finset.range 2048, (if (j 1).val ≤ kcall5v2 then ((∑ k117 ∈ Finset.range 2048, (-(I.DH (j 0).val k117 (j 2).val * I.u (j 0).val kcall5v2 (j 2).val * Scan.dec 2048 (fun t => I.la (j 0).val t (j 2).val) k117 kcall5v2))) + (∑ k114 ∈ Finset.range 2048, (I.DH (j 0).val kcall5v2 (j 2).val * I.u (j 0).val k114 (j 2).val * Scan.dec 2048 (fun t => I.la (j 0).val t (j 2).val) kcall5v2 k114))) else (0 : ℝ))) :=
  hsum (fun i kcall5v2 => (if ((i 1).val) ≤ kcall5v2 then ((∑ k117 ∈ Finset.range 2048, (-(I.DH ((i 0).val) k117 ((i 2).val) * I.u ((i 0).val) kcall5v2 ((i 2).val) * Scan.dec 2048 (fun t => I.la ((i 0).val) t ((i 2).val)) k117 kcall5v2))) + (∑ k114 ∈ Finset.range 2048, (I.DH ((i 0).val) kcall5v2 ((i 2).val) * I.u ((i 0).val) k114 ((i 2).val) * Scan.dec 2048 (fun t => I.la ((i 0).val) t ((i 2).val)) kcall5v2 k114))) else (0 : ℝ))) (call5_v1_is A) lit_zero (val_main_call5_v2_apply x0 x1 x2 x3 x4 x5 x6 x7 x8) fun _ _ => rfl

theorem v123_is (A : Args I x0 x1 x2 x3 x4 x5 x6 x7 x8) :
    Is (S := S2x1x2048x1280) (φ := .f32) (val_main_v123 (F := Ideal) x0 x1 x2 x3 x4 x5 x6 x7 x8) fun j => (∑ kcall5v2 ∈ Finset.range 2048, (if (j 2).val ≤ kcall5v2 then ((∑ k117 ∈ Finset.range 2048, (-(I.DH (j 0).val k117 (j 3).val * I.u (j 0).val kcall5v2 (j 3).val * Scan.dec 2048 (fun t => I.la (j 0).val t (j 3).val) k117 kcall5v2))) + (∑ k114 ∈ Finset.range 2048, (I.DH (j 0).val kcall5v2 (j 3).val * I.u (j 0).val k114 (j 3).val * Scan.dec 2048 (fun t => I.la (j 0).val t (j 3).val) kcall5v2 k114))) else (0 : ℝ))) :=
  lay (idx_main_v123) (call5_v2_is A) (val_main_v123_apply x0 x1 x2 x3 x4 x5 x6 x7 x8)

theorem v124_is (A : Args I x0 x1 x2 x3 x4 x5 x6 x7 x8) :
    Is (S := S2x2048x1280) (φ := .f32) (val_main_v124 (F := Ideal) x0 x1 x2 x3 x4 x5 x6 x7 x8) fun j => (I.g (j 0).val (j 1).val (j 2).val * I.hp (j 0).val (j 1).val (j 2).val * I.a (j 0).val (j 1).val (j 2).val) :=
  ((hsum (fun i k => (∑ kcall5v2 ∈ Finset.range 2048, (if ((i 1).val) ≤ kcall5v2 then ((∑ k117 ∈ Finset.range 2048, (-(I.DH ((i 0).val) k117 ((i 2).val) * I.u ((i 0).val) kcall5v2 ((i 2).val) * Scan.dec 2048 (fun t => I.la ((i 0).val) t ((i 2).val)) k117 kcall5v2))) + (∑ k114 ∈ Finset.range 2048, (I.DH ((i 0).val) kcall5v2 ((i 2).val) * I.u ((i 0).val) k114 ((i 2).val) * Scan.dec 2048 (fun t => I.la ((i 0).val) t ((i 2).val)) kcall5v2 k114))) else (0 : ℝ)))) (v123_is A) lit_zero (val_main_v124_apply x0 x1 x2 x3 x4 x5 x6 x7 x8) fun _ _ => rfl).congr fun j => Finset.sum_range_one _).congr fun j => by
    refine (Finset.sum_congr rfl fun t _ => ?_).trans
      (Scan.dlog_eq 2048 (fun t => I.la (j 0).val t (j 2).val) (fun t => I.u (j 0).val t (j 2).val) (fun t => I.DH (j 0).val t (j 2).val) (j 1).val (j 1).isLt)
    rw [add_comm, Finset.sum_neg_distrib]

theorem v125_is (A : Args I x0 x1 x2 x3 x4 x5 x6 x7 x8) :
    Is (S := S2x2048x1280) (φ := .f32) (val_main_v125 (F := Ideal) x0 x1 x2 x3 x4 x7 x8) fun j => (I.mult (j 0).val (j 1).val (j 2).val * I.g (j 0).val (j 1).val (j 2).val) :=
  Is.mulf (v85_0_is A) (v111_is A)

theorem v126_is (A : Args I x0 x1 x2 x3 x4 x5 x6 x7 x8) :
    Is (S := S2x2048x1280) (φ := .f32) (val_main_v126 (F := Ideal) x0 x1 x2 x3 x4 x5 x6 x7 x8) fun j => (I.g (j 0).val (j 1).val (j 2).val * (I.i (j 0).val (j 1).val (j 2).val * I.xc (j 0).val (j 1).val (j 2).val)) :=
  Is.mulf (v111_is A) (v86_is A)

theorem v127_is (A : Args I x0 x1 x2 x3 x4 x5 x6 x7 x8) :
    Is (S := S2x2048x1280) (φ := .f32) (val_main_v127 (F := Ideal) x0 x1 x2 x3 x4 x5 x6 x7 x8) fun j => (I.i (j 0).val (j 1).val (j 2).val * (I.mult (j 0).val (j 1).val (j 2).val * I.g (j 0).val (j 1).val (j 2).val)) :=
  Is.mulf (v62_is A) (v125_is A)

theorem v128_is (A : Args I x0 x1 x2 x3 x4 x5 x6 x7 x8) :
    Is (S := S2x2048x1280) (φ := .f32) (val_main_v128 (F := Ideal) x0 x1 x2 x3 x4 x7 x8) fun j => ((I.mult (j 0).val (j 1).val (j 2).val * I.g (j 0).val (j 1).val (j 2).val) * I.xc (j 0).val (j 1).val (j 2).val) :=
  Is.mulf (v125_is A) (v34_is A)

theorem call6_v0_is (A : Args I x0 x1 x2 x3 x4 x5 x6 x7 x8) :
    Is (S := S2x2048x1280) (φ := .f32) (val_main_call6_v0 (F := Ideal)) fun j => (0 : ℝ) :=
  fun i => ((val_main_call6_v0_apply) i).trans lit_zero

theorem v129_is (A : Args I x0 x1 x2 x3 x4 x5 x6 x7 x8) :
    Is (S := S2x2048x1280) (φ := .f32) (val_main_v129 (F := Ideal) x0 x1 x2 x3 x4 x5 x6 x7 x8) fun j => (if (j 1).val = 0 then (0 : ℝ) else (I.g (j 0).val (j 1).val (j 2).val * (I.i (j 0).val (j 1).val (j 2).val * I.xc (j 0).val (j 1).val (j 2).val))) :=
  sel (fun j => (j 1).val = 0) mask_first (call6_v0_is A) (v126_is A)

theorem v130_is (A : Args I x0 x1 x2 x3 x4 x5 x6 x7 x8) :
    Is (S := S2x2048x1280) (φ := .f32) (val_main_v130 (F := Ideal) x0 x1 x2 x3 x4 x5 x6 x7 x8) fun j => ((if (j 1).val = 0 then (0 : ℝ) else (I.g (j 0).val (j 1).val (j 2).val * (I.i (j 0).val (j 1).val (j 2).val * I.xc (j 0).val (j 1).val (j 2).val))) * ((1 / 2 : ℝ) / Real.sqrt (I.var (j 0).val (j 1).val (j 2).val))) :=
  Is.mulf (v129_is A) (v84_is A)

theorem v131_is (A : Args I x0 x1 x2 x3 x4 x5 x6 x7 x8) :
    Is (S := S2x2048x1280) (φ := .f32) (val_main_v131 (F := Ideal) x0 x1 x2 x3 x4 x5 x6 x7 x8) fun j => (-((if (j 1).val = 0 then (0 : ℝ) else (I.g (j 0).val (j 1).val (j 2).val * (I.i (j 0).val (j 1).val (j 2).val * I.xc (j 0).val (j 1).val (j 2).val))) * ((1 / 2 : ℝ) / Real.sqrt (I.var (j 0).val (j 1).val (j 2).val)))) :=
  Is.hnegf (v130_is A)

theorem v132_is (A : Args I x0 x1 x2 x3 x4 x5 x6 x7 x8) :
    Is (S := S2x2048x1280) (φ := .f32) (val_main_v132 (F := Ideal) x0 x1 x2 x3 x4 x5 x6 x7 x8) fun j => ((-((if (j 1).val = 0 then (0 : ℝ) else (I.g (j 0).val (j 1).val (j 2).val * (I.i (j 0).val (j 1).val (j 2).val * I.xc (j 0).val (j 1).val (j 2).val))) * ((1 / 2 : ℝ) / Real.sqrt (I.var (j 0).val (j 1).val (j 2).val)))) * (I.a (j 0).val (j 1).val (j 2).val * I.a (j 0).val (j 1).val (j 2).val)) :=
  Is.mulf (v131_is A) (v80_is A)

theorem v133_is (A : Args I x0 x1 x2 x3 x4 x5 x6 x7 x8) :
    Is (S := S2x2048x1280) (φ := .f32) (val_main_v133 (F := Ideal)) fun j => (2 : ℝ) :=
  fun i => ((val_main_v133_apply) i).trans lit_two

theorem v134_is (A : Args I x0 x1 x2 x3 x4 x5 x6 x7 x8) :
    Is (S := S2x2048x1280) (φ := .f32) (val_main_v134 (F := Ideal) x0 x1 x2 x3 x4 x5 x6 x7 x8) fun j => ((2 : ℝ) * ((-((if (j 1).val = 0 then (0 : ℝ) else (I.g (j 0).val (j 1).val (j 2).val * (I.i (j 0).val (j 1).val (j 2).val * I.xc (j 0).val (j 1).val (j 2).val))) * ((1 / 2 : ℝ) / Real.sqrt (I.var (j 0).val (j 1).val (j 2).val)))) * (I.a (j 0).val (j 1).val (j 2).val * I.a (j 0).val (j 1).val (j 2).val))) :=
  Is.mulf (v133_is A) (v132_is A)

theorem v135_is (A : Args I x0 x1 x2 x3 x4 x5 x6 x7 x8) :
    Is (S := S2x2048x1280) (φ := .f32) (val_main_v135 (F := Ideal) x0 x1 x2 x3 x4 x5 x6 x7 x8) fun j => I.dla (j 0).val (j 1).val (j 2).val :=
  (Is.addf (v124_is A) (v134_is A)).congr fun j => by
    exact dla_eq _ _ _

theorem v136_is (A : Args I x0 x1 x2 x3 x4 x5 x6 x7 x8) :
    Is (S := S2x2048x1280) (φ := .f32) (val_main_v136 (F := Ideal) x0 x1 x2 x3 x4 x5 x6 x7 x8) fun j => (((-8 : ℝ) * I.r (j 0).val (j 1).val (j 2).val) * I.dla (j 0).val (j 1).val (j 2).val) :=
  Is.mulf (v67_is A) (v135_is A)

theorem v137_is (A : Args I x0 x1 x2 x3 x4 x5 x6 x7 x8) :
    Is (S := S1280) (φ := .f32) (val_main_v137 (F := Ideal) x0 x1 x2 x3 x4 x5 x6 x7 x8) fun j => (∑ b ∈ Finset.range 2, ∑ t ∈ Finset.range 2048, I.dla b t (j 0).val * (-8 * I.r b t (j 0).val)) :=
  (sum01 (F := fun b t c => (((-8 : ℝ) * I.r b t c) * I.dla b t c)) (v136_is A) _ rfl _ _).congr fun j => by
    exact Finset.sum_congr rfl fun _ _ => Finset.sum_congr rfl fun _ _ => mul_comm _ _

theorem v138_is (A : Args I x0 x1 x2 x3 x4 x5 x6 x7 x8) :
    Is (S := S1x1x1280) (φ := .f32) (val_main_v138 (F := Ideal) x0 x1 x2 x3 x4 x5 x6 x7 x8) fun j => (∑ b ∈ Finset.range 2, ∑ t ∈ Finset.range 2048, I.dla b t (j 2).val * (-8 * I.r b t (j 2).val)) :=
  vec3 (fun a => (∑ b ∈ Finset.range 2, ∑ t ∈ Finset.range 2048, I.dla b t a * (-8 * I.r b t a))) (v137_is A) (val_main_v138_apply x0 x1 x2 x3 x4 x5 x6 x7 x8)

theorem v139_is (A : Args I x0 x1 x2 x3 x4 x5 x6 x7 x8) :
    Is (S := S2x2048x1280) (φ := .f32) (val_main_v139 (F := Ideal) x7) fun j => I.sp (j 2).val :=
  lay (idx_main_v139) (v70_is A) (val_main_v139_apply x7)

theorem v140_is (A : Args I x0 x1 x2 x3 x4 x5 x6 x7 x8) :
    Is (S := S2x2048x1280) (φ := .f32) (val_main_v140 (F := Ideal) x0 x1 x2 x3 x4 x5 x6 x7 x8) fun j => (I.dla (j 0).val (j 1).val (j 2).val * I.sp (j 2).val) :=
  Is.mulf (v135_is A) (v139_is A)

theorem v141_is (A : Args I x0 x1 x2 x3 x4 x5 x6 x7 x8) :
    Is (S := S1280) (φ := .f32) (val_main_v141 (F := Ideal) x0 x1 x2 x3 x4 x5 x6 x7 x8) fun j => (∑ b ∈ Finset.range 2, ∑ t ∈ Finset.range 2048, I.dla b t (j 0).val * (-8 * I.r b t (j 0).val)) :=
  sum01_one (F := fun c => (∑ b ∈ Finset.range 2, ∑ t ∈ Finset.range 2048, I.dla b t c * (-8 * I.r b t c))) (v138_is A) _ rfl _ _

theorem v142_is (A : Args I x0 x1 x2 x3 x4 x5 x6 x7 x8) :
    Is (S := S1x1280) (φ := .f32) (val_main_v142 (F := Ideal) x0 x1 x2 x3 x4 x5 x6 x7 x8) fun j => (∑ b ∈ Finset.range 2, ∑ t ∈ Finset.range 2048, I.dla b t (j 1).val * (-8 * I.r b t (j 1).val)) :=
  lay (idx_main_v142) (v141_is A) (val_main_v142_apply x0 x1 x2 x3 x4 x5 x6 x7 x8)

theorem v143_is (A : Args I x0 x1 x2 x3 x4 x5 x6 x7 x8) :
    Is (S := S1x1280) (φ := .f32) (val_main_v143 (F := Ideal) x0 x1 x2 x3 x4 x5 x6 x7 x8) fun j => ((∑ b ∈ Finset.range 2, ∑ t ∈ Finset.range 2048, I.dla b t (j 1).val * (-8 * I.r b t (j 1).val)) * In.sig (-I.LAM (j 1).val)) :=
  Is.mulf (v142_is A) (v69_1_is A)

theorem v144_is (A : Args I x0 x1 x2 x3 x4 x5 x6 x7 x8) :
    Is (S := S1x1280) (φ := .f32) (val_main_v144 (F := Ideal) x0 x1 x2 x3 x4 x5 x6 x7 x8) fun j => (∑ b ∈ Finset.range 2, I.gLAM b (j 1).val) :=
  (Is.hnegf (v143_is A)).congr fun j => by
    rw [← mul_neg, Finset.sum_mul]; rfl

theorem v145_is (A : Args I x0 x1 x2 x3 x4 x5 x6 x7 x8) :
    Is (S := S2x2048x1280) (φ := .f32) (val_main_v145 (F := Ideal)) fun j => (-8 : ℝ) :=
  fun i => ((val_main_v145_apply) i).trans lit_neg_eight

theorem v146_is (A : Args I x0 x1 x2 x3 x4 x5 x6 x7 x8) :
    Is (S := S2x2048x1280) (φ := .f32) (val_main_v146 (F := Ideal) x0 x1 x2 x3 x4 x5 x6 x7 x8) fun j => ((-8 : ℝ) * (I.dla (j 0).val (j 1).val (j 2).val * I.sp (j 2).val)) :=
  Is.mulf (v145_is A) (v140_is A)

theorem v147_is (A : Args I x0 x1 x2 x3 x4 x5 x6 x7 x8) :
    Is (S := S2x2048x1280) (φ := .f32) (val_main_v147 (F := Ideal) x0 x1 x2 x3 x4 x5 x6 x7 x8) fun j => I.dpx (j 0).val (j 1).val (j 2).val :=
  (Is.mulf (v128_is A) (v65_is A)).congr fun j => by
    rw [In.dpx]; ring

theorem v148_is (A : Args I x0 x1 x2 x3 x4 x5 x6 x7 x8) :
    Is (S := S1280) (φ := .f32) (val_main_v148 (F := Ideal) x0 x1 x2 x3 x4 x5 x6 x7 x8) fun j => (∑ b ∈ Finset.range 2, ∑ t ∈ Finset.range 2048, I.dpx b t (j 0).val) :=
  sum01 (F := fun b t c => I.dpx b t c) (v147_is A) _ rfl _ _

theorem v149_is (A : Args I x0 x1 x2 x3 x4 x5 x6 x7 x8) :
    Is (S := S1x1x1280) (φ := .f32) (val_main_v149 (F := Ideal) x0 x1 x2 x3 x4 x5 x6 x7 x8) fun j => (∑ b ∈ Finset.range 2, ∑ t ∈ Finset.range 2048, I.dpx b t (j 2).val) :=
  vec3 (fun a => (∑ b ∈ Finset.range 2, ∑ t ∈ Finset.range 2048, I.dpx b t a)) (v148_is A) (val_main_v149_apply x0 x1 x2 x3 x4 x5 x6 x7 x8)

theorem v150_is (A : Args I x0 x1 x2 x3 x4 x5 x6 x7 x8) :
    Is (S := S1280) (φ := .f32) (val_main_v150 (F := Ideal) x0 x1 x2 x3 x4 x5 x6 x7 x8) fun j => (∑ b ∈ Finset.range 2, ∑ t ∈ Finset.range 2048, I.dpx b t (j 0).val) :=
  sum01_one (F := fun c => (∑ b ∈ Finset.range 2, ∑ t ∈ Finset.range 2048, I.dpx b t c)) (v149_is A) _ rfl _ _

theorem v151_is (A : Args I x0 x1 x2 x3 x4 x5 x6 x7 x8) :
    Is (S := S1x1280) (φ := .f32) (val_main_v151 (F := Ideal) x0 x1 x2 x3 x4 x5 x6 x7 x8) fun j => (∑ b ∈ Finset.range 2, I.gBX b (j 1).val) :=
  (lay (idx_main_v151) (v150_is A) (val_main_v151_apply x0 x1 x2 x3 x4 x5 x6 x7 x8)).congr fun j => rfl

theorem v152_is (A : Args I x0 x1 x2 x3 x4 x5 x6 x7 x8) :
    Is (S := S2x2048x10x128) (φ := .f32) (val_main_v152 (F := Ideal) x0 x1 x2 x3 x4 x5 x6 x7 x8) fun j => I.dpx (j 0).val (j 1).val ((j 2).val * 128 + (j 3).val) :=
  split4 (fun a b c => I.dpx a b c) (v147_is A) (val_main_v152_apply x0 x1 x2 x3 x4 x5 x6 x7 x8)

theorem v153_is (A : Args I x0 x1 x2 x3 x4 x5 x6 x7 x8) :
    Is (S := S2x2048x1280) (φ := .f32) (val_main_v153 (F := Ideal) x0 x1 x2 x3 x4 x5 x6 x7 x8) fun j => I.dpa (j 0).val (j 1).val (j 2).val :=
  (Is.mulf (v146_is A) (v52_is A)).congr fun j => by
    rw [In.dpa]; ring

theorem v154_is (A : Args I x0 x1 x2 x3 x4 x5 x6 x7 x8) :
    Is (S := S1280) (φ := .f32) (val_main_v154 (F := Ideal) x0 x1 x2 x3 x4 x5 x6 x7 x8) fun j => (∑ b ∈ Finset.range 2, ∑ t ∈ Finset.range 2048, I.dpa b t (j 0).val) :=
  sum01 (F := fun b t c => I.dpa b t c) (v153_is A) _ rfl _ _

theorem v155_is (A : Args I x0 x1 x2 x3 x4 x5 x6 x7 x8) :
    Is (S := S1x1x1280) (φ := .f32) (val_main_v155 (F := Ideal) x0 x1 x2 x3 x4 x5 x6 x7 x8) fun j => (∑ b ∈ Finset.range 2, ∑ t ∈ Finset.range 2048, I.dpa b t (j 2).val) :=
  vec3 (fun a => (∑ b ∈ Finset.range 2, ∑ t ∈ Finset.range 2048, I.dpa b t a)) (v154_is A) (val_main_v155_apply x0 x1 x2 x3 x4 x5 x6 x7 x8)

theorem v156_is (A : Args I x0 x1 x2 x3 x4 x5 x6 x7 x8) :
    Is (S := S1280) (φ := .f32) (val_main_v156 (F := Ideal) x0 x1 x2 x3 x4 x5 x6 x7 x8) fun j => (∑ b ∈ Finset.range 2, ∑ t ∈ Finset.range 2048, I.dpa b t (j 0).val) :=
  sum01_one (F := fun c => (∑ b ∈ Finset.range 2, ∑ t ∈ Finset.range 2048, I.dpa b t c)) (v155_is A) _ rfl _ _

theorem v157_is (A : Args I x0 x1 x2 x3 x4 x5 x6 x7 x8) :
    Is (S := S1x1280) (φ := .f32) (val_main_v157 (F := Ideal) x0 x1 x2 x3 x4 x5 x6 x7 x8) fun j => (∑ b ∈ Finset.range 2, I.gBA b (j 1).val) :=
  (lay (idx_main_v157) (v156_is A) (val_main_v157_apply x0 x1 x2 x3 x4 x5 x6 x7 x8)).congr fun j => rfl

theorem v158_is (A : Args I x0 x1 x2 x3 x4 x5 x6 x7 x8) :
    Is (S := S2x2048x10x128) (φ := .f32) (val_main_v158 (F := Ideal) x0 x1 x2 x3 x4 x5 x6 x7 x8) fun j => I.dpa (j 0).val (j 1).val ((j 2).val * 128 + (j 3).val) :=
  split4 (fun a b c => I.dpa a b c) (v153_is A) (val_main_v158_apply x0 x1 x2 x3 x4 x5 x6 x7 x8)

theorem v159_is (A : Args I x0 x1 x2 x3 x4 x5 x6 x7 x8) :
    Is (S := S10x128x2x2048) (φ := .f32) (val_main_v159 (F := Ideal) x0 x1 x2 x3 x4 x5 x6 x7 x8) fun j => I.dpx (j 2).val (j 3).val ((j 0).val * 128 + (j 1).val) :=
  lay (idx_main_v159) (v152_is A) (val_main_v159_apply x0 x1 x2 x3 x4 x5 x6 x7 x8)

theorem v160_is (A : Args I x0 x1 x2 x3 x4 x5 x6 x7 x8) :
    Is (S := S10x2x2048x128) (φ := .f32) (val_main_v160 (F := Ideal) x0 x1 x2 x3 x4 x5 x6 x7 x8) fun j => (∑ k ∈ Finset.range 128, I.dpx (j 1).val (j 2).val ((j 0).val * 128 + k) * I.WX (j 0).val (j 3).val k) :=
  hdot (fun i k => I.dpx ((i 1).val) ((i 2).val) (((i 0).val) * 128 + k)) (fun i k => I.WX ((i 0).val) ((i 3).val) k) (v159_is A) A.x5 (val_main_v160_apply x0 x1 x2 x3 x4 x5 x6 x7 x8) (fun _ _ => rfl) fun _ _ => rfl

theorem v161_is (A : Args I x0 x1 x2 x3 x4 x5 x6 x7 x8) :
    Is (S := S2x2048x10x128) (φ := .f32) (val_main_v161 (F := Ideal) x0 x1 x2 x3 x4 x5 x6 x7 x8) fun j => (∑ k ∈ Finset.range 128, I.dpx (j 0).val (j 1).val ((j 2).val * 128 + k) * I.WX (j 2).val (j 3).val k) :=
  lay (idx_main_v161) (v160_is A) (val_main_v161_apply x0 x1 x2 x3 x4 x5 x6 x7 x8)

theorem v162_is (A : Args I x0 x1 x2 x3 x4 x5 x6 x7 x8) :
    Is (S := S10x128x128) (φ := .f32) (val_main_v162 (F := Ideal) x0 x1 x2 x3 x4 x5 x6 x7 x8) fun j => (∑ b ∈ Finset.range 2, ∑ t ∈ Finset.range 2048, I.dpx b t ((j 0).val * 128 + (j 1).val) * I.xc b t ((j 0).val * 128 + (j 2).val)) :=
  dot23 (F := fun n k b t => I.dpx b t (n * 128 + k)) (G := fun b t n k => I.xc b t (n * 128 + k)) (v159_is A) (v35_is A)

theorem v163_is (A : Args I x0 x1 x2 x3 x4 x5 x6 x7 x8) :
    Is (S := S10x128x128) (φ := .f32) (val_main_v163 (F := Ideal) x0 x1 x2 x3 x4 x5 x6 x7 x8) fun j => (∑ b ∈ Finset.range 2, I.gWX b (j 0).val (j 1).val (j 2).val) :=
  (lay (idx_main_v163) (v162_is A) (val_main_v163_apply x0 x1 x2 x3 x4 x5 x6 x7 x8)).congr fun j => by
    exact Finset.sum_congr rfl fun _ _ => Finset.sum_congr rfl fun _ _ => mul_comm _ _

theorem v164_is (A : Args I x0 x1 x2 x3 x4 x5 x6 x7 x8) :
    Is (S := S10x128x2x2048) (φ := .f32) (val_main_v164 (F := Ideal) x0 x1 x2 x3 x4 x5 x6 x7 x8) fun j => I.dpa (j 2).val (j 3).val ((j 0).val * 128 + (j 1).val) :=
  lay (idx_main_v164) (v158_is A) (val_main_v164_apply x0 x1 x2 x3 x4 x5 x6 x7 x8)

theorem v165_is (A : Args I x0 x1 x2 x3 x4 x5 x6 x7 x8) :
    Is (S := S10x2x2048x128) (φ := .f32) (val_main_v165 (F := Ideal) x0 x1 x2 x3 x4 x5 x6 x7 x8) fun j => (∑ k ∈ Finset.range 128, I.dpa (j 1).val (j 2).val ((j 0).val * 128 + k) * I.WA (j 0).val (j 3).val k) :=
  hdot (fun i k => I.dpa ((i 1).val) ((i 2).val) (((i 0).val) * 128 + k)) (fun i k => I.WA ((i 0).val) ((i 3).val) k) (v164_is A) A.x3 (val_main_v165_apply x0 x1 x2 x3 x4 x5 x6 x7 x8) (fun _ _ => rfl) fun _ _ => rfl

theorem v166_is (A : Args I x0 x1 x2 x3 x4 x5 x6 x7 x8) :
    Is (S := S2x2048x10x128) (φ := .f32) (val_main_v166 (F := Ideal) x0 x1 x2 x3 x4 x5 x6 x7 x8) fun j => (∑ k ∈ Finset.range 128, I.dpa (j 0).val (j 1).val ((j 2).val * 128 + k) * I.WA (j 2).val (j 3).val k) :=
  lay (idx_main_v166) (v165_is A) (val_main_v166_apply x0 x1 x2 x3 x4 x5 x6 x7 x8)

theorem v167_is (A : Args I x0 x1 x2 x3 x4 x5 x6 x7 x8) :
    Is (S := S2x2048x10x128) (φ := .f32) (val_main_v167 (F := Ideal) x0 x1 x2 x3 x4 x5 x6 x7 x8) fun j => ((∑ k ∈ Finset.range 128, I.dpx (j 0).val (j 1).val ((j 2).val * 128 + k) * I.WX (j 2).val (j 3).val k) + (∑ k ∈ Finset.range 128, I.dpa (j 0).val (j 1).val ((j 2).val * 128 + k) * I.WA (j 2).val (j 3).val k)) :=
  Is.addf (v161_is A) (v166_is A)

theorem v168_is (A : Args I x0 x1 x2 x3 x4 x5 x6 x7 x8) :
    Is (S := S10x128x128) (φ := .f32) (val_main_v168 (F := Ideal) x0 x1 x2 x3 x4 x5 x6 x7 x8) fun j => (∑ b ∈ Finset.range 2, ∑ t ∈ Finset.range 2048, I.dpa b t ((j 0).val * 128 + (j 1).val) * I.xc b t ((j 0).val * 128 + (j 2).val)) :=
  dot23 (F := fun n k b t => I.dpa b t (n * 128 + k)) (G := fun b t n k => I.xc b t (n * 128 + k)) (v164_is A) (v35_is A)

theorem v169_is (A : Args I x0 x1 x2 x3 x4 x5 x6 x7 x8) :
    Is (S := S10x128x128) (φ := .f32) (val_main_v169 (F := Ideal) x0 x1 x2 x3 x4 x5 x6 x7 x8) fun j => (∑ b ∈ Finset.range 2, I.gWA b (j 0).val (j 1).val (j 2).val) :=
  (lay (idx_main_v169) (v168_is A) (val_main_v169_apply x0 x1 x2 x3 x4 x5 x6 x7 x8)).congr fun j => by
    exact Finset.sum_congr rfl fun _ _ => Finset.sum_congr rfl fun _ _ => mul_comm _ _

theorem v170_is (A : Args I x0 x1 x2 x3 x4 x5 x6 x7 x8) :
    Is (S := S2x2048x1280) (φ := .f32) (val_main_v170 (F := Ideal) x0 x1 x2 x3 x4 x5 x6 x7 x8) fun j => ((∑ k ∈ Finset.range 128, I.dpx (j 0).val (j 1).val (((j 2).val / 128) * 128 + k) * I.WX ((j 2).val / 128) ((j 2).val % 128) k) + (∑ k ∈ Finset.range 128, I.dpa (j 0).val (j 1).val (((j 2).val / 128) * 128 + k) * I.WA ((j 2).val / 128) ((j 2).val % 128) k)) :=
  merge4 (fun a b c d => ((∑ k ∈ Finset.range 128, I.dpx a b (c * 128 + k) * I.WX c d k) + (∑ k ∈ Finset.range 128, I.dpa a b (c * 128 + k) * I.WA c d k))) (v167_is A) (val_main_v170_apply x0 x1 x2 x3 x4 x5 x6 x7 x8)

theorem v171_is (A : Args I x0 x1 x2 x3 x4 x5 x6 x7 x8) :
    Is (S := S2x2048x1280) (φ := .f32) (val_main_v171 (F := Ideal) x0 x1 x2 x3 x4 x5 x6 x7 x8) fun j => I.dxc (j 0).val (j 1).val (j 2).val :=
  (Is.addf (v127_is A) (v170_is A)).congr fun j => by
    have h1 : (j 1).val < 2048 := (j 1).isLt
    rw [In.dxc, if_pos h1, In.blockMulT, In.blockMulT]; ring

theorem v172_is (A : Args I x0 x1 x2 x3 x4 x5 x6 x7 x8) :
    Is (S := S2x2048x1280) (φ := .f32) (val_main_v172 (F := Ideal) x1) fun j => I.CW 3 (j 2).val :=
  lay (idx_main_v172) (v30_is A) (val_main_v172_apply x1)

theorem v173_is (A : Args I x0 x1 x2 x3 x4 x5 x6 x7 x8) :
    Is (S := S2x2048x1280) (φ := .f32) (val_main_v173 (F := Ideal) x0 x1 x2 x3 x4 x5 x6 x7 x8) fun j => (I.CW 3 (j 2).val * I.dxc (j 0).val (j 1).val (j 2).val) :=
  Is.mulf (v172_is A) (v171_is A)

theorem v174_is (A : Args I x0 x1 x2 x3 x4 x5 x6 x7 x8) :
    Is (S := S2x2048x1280) (φ := .f32) (val_main_v174 (F := Ideal) x0 x1 x2 x3 x4 x5 x6 x7 x8) fun j => (I.dxc (j 0).val (j 1).val (j 2).val * I.xp (j 0).val ((j 1).val + 3) (j 2).val) :=
  Is.mulf (v171_is A) (v31_is A)

theorem v175_is (A : Args I x0 x1 x2 x3 x4 x5 x6 x7 x8) :
    Is (S := S1280) (φ := .f32) (val_main_v175 (F := Ideal) x0 x1 x2 x3 x4 x5 x6 x7 x8) fun j => (∑ b ∈ Finset.range 2, ∑ t ∈ Finset.range 2048, (I.dxc b t (j 0).val * I.xp b (t + 3) (j 0).val)) :=
  sum01 (F := fun b t c => (I.dxc b t c * I.xp b (t + 3) c)) (v174_is A) _ rfl _ _

theorem v176_is (A : Args I x0 x1 x2 x3 x4 x5 x6 x7 x8) :
    Is (S := S1x1x1280) (φ := .f32) (val_main_v176 (F := Ideal) x0 x1 x2 x3 x4 x5 x6 x7 x8) fun j => (∑ b ∈ Finset.range 2, ∑ t ∈ Finset.range 2048, (I.dxc b t (j 2).val * I.xp b (t + 3) (j 2).val)) :=
  vec3 (fun a => (∑ b ∈ Finset.range 2, ∑ t ∈ Finset.range 2048, (I.dxc b t a * I.xp b (t + 3) a))) (v175_is A) (val_main_v176_apply x0 x1 x2 x3 x4 x5 x6 x7 x8)

theorem v177_is (A : Args I x0 x1 x2 x3 x4 x5 x6 x7 x8) :
    Is (S := S2x2051x1280) (φ := .f32) (val_main_v177 (F := Ideal) x0 x1 x2 x3 x4 x5 x6 x7 x8) fun j => (if 3 ≤ (j 1).val ∧ (j 1).val < 2051 then (I.CW 3 (j 2).val * I.dxc (j 0).val ((j 1).val - 3) (j 2).val) else 0) :=
  padA (F := fun b t c => (I.CW 3 c * I.dxc b t c)) (v173_is A) _ rfl _ _

theorem v178_is (A : Args I x0 x1 x2 x3 x4 x5 x6 x7 x8) :
    Is (S := S1280) (φ := .f32) (val_main_v178 (F := Ideal) x0 x1 x2 x3 x4 x5 x6 x7 x8) fun j => (∑ b ∈ Finset.range 2, ∑ t ∈ Finset.range 2048, (I.dxc b t (j 0).val * I.xp b (t + 3) (j 0).val)) :=
  sum01_one (F := fun c => (∑ b ∈ Finset.range 2, ∑ t ∈ Finset.range 2048, (I.dxc b t c * I.xp b (t + 3) c))) (v176_is A) _ rfl _ _

theorem v179_is (A : Args I x0 x1 x2 x3 x4 x5 x6 x7 x8) :
    Is (S := S1x1280) (φ := .f32) (val_main_v179 (F := Ideal) x0 x1 x2 x3 x4 x5 x6 x7 x8) fun j => (∑ b ∈ Finset.range 2, I.gCW b 3 (j 1).val) :=
  (lay (idx_main_v179) (v178_is A) (val_main_v179_apply x0 x1 x2 x3 x4 x5 x6 x7 x8)).congr fun j => rfl

theorem v180_is (A : Args I x0 x1 x2 x3 x4 x5 x6 x7 x8) :
    Is (S := S4x1280) (φ := .f32) (val_main_v180 (F := Ideal) x0 x1 x2 x3 x4 x5 x6 x7 x8) fun j => (if (j 0).val = 3 then (∑ b ∈ Finset.range 2, I.gCW b 3 (j 1).val) else 0) :=
  rowA (F := fun c => (∑ b ∈ Finset.range 2, I.gCW b 3 c)) (v179_is A) _ rfl _ _

theorem v181_is (A : Args I x0 x1 x2 x3 x4 x5 x6 x7 x8) :
    Is (S := S2x2048x1280) (φ := .f32) (val_main_v181 (F := Ideal) x1) fun j => I.CW 2 (j 2).val :=
  lay (idx_main_v181) (v23_is A) (val_main_v181_apply x1)

theorem v182_is (A : Args I x0 x1 x2 x3 x4 x5 x6 x7 x8) :
    Is (S := S2x2048x1280) (φ := .f32) (val_main_v182 (F := Ideal) x0 x1 x2 x3 x4 x5 x6 x7 x8) fun j => (I.CW 2 (j 2).val * I.dxc (j 0).val (j 1).val (j 2).val) :=
  Is.mulf (v181_is A) (v171_is A)

theorem v183_is (A : Args I x0 x1 x2 x3 x4 x5 x6 x7 x8) :
    Is (S := S2x2048x1280) (φ := .f32) (val_main_v183 (F := Ideal) x0 x1 x2 x3 x4 x5 x6 x7 x8) fun j => (I.dxc (j 0).val (j 1).val (j 2).val * I.xp (j 0).val ((j 1).val + 2) (j 2).val) :=
  Is.mulf (v171_is A) (v24_is A)

theorem v184_is (A : Args I x0 x1 x2 x3 x4 x5 x6 x7 x8) :
    Is (S := S1280) (φ := .f32) (val_main_v184 (F := Ideal) x0 x1 x2 x3 x4 x5 x6 x7 x8) fun j => (∑ b ∈ Finset.range 2, ∑ t ∈ Finset.range 2048, (I.dxc b t (j 0).val * I.xp b (t + 2) (j 0).val)) :=
  sum01 (F := fun b t c => (I.dxc b t c * I.xp b (t + 2) c)) (v183_is A) _ rfl _ _

theorem v185_is (A : Args I x0 x1 x2 x3 x4 x5 x6 x7 x8) :
    Is (S := S1x1x1280) (φ := .f32) (val_main_v185 (F := Ideal) x0 x1 x2 x3 x4 x5 x6 x7 x8) fun j => (∑ b ∈ Finset.range 2, ∑ t ∈ Finset.range 2048, (I.dxc b t (j 2).val * I.xp b (t + 2) (j 2).val)) :=
  vec3 (fun a => (∑ b ∈ Finset.range 2, ∑ t ∈ Finset.range 2048, (I.dxc b t a * I.xp b (t + 2) a))) (v184_is A) (val_main_v185_apply x0 x1 x2 x3 x4 x5 x6 x7 x8)

theorem v186_is (A : Args I x0 x1 x2 x3 x4 x5 x6 x7 x8) :
    Is (S := S2x2051x1280) (φ := .f32) (val_main_v186 (F := Ideal) x0 x1 x2 x3 x4 x5 x6 x7 x8) fun j => (if 2 ≤ (j 1).val ∧ (j 1).val < 2050 then (I.CW 2 (j 2).val * I.dxc (j 0).val ((j 1).val - 2) (j 2).val) else 0) :=
  padB (F := fun b t c => (I.CW 2 c * I.dxc b t c)) (v182_is A) _ rfl _ _

theorem v187_is (A : Args I x0 x1 x2 x3 x4 x5 x6 x7 x8) :
    Is (S := S2x2051x1280) (φ := .f32) (val_main_v187 (F := Ideal) x0 x1 x2 x3 x4 x5 x6 x7 x8) fun j => ((if 3 ≤ (j 1).val ∧ (j 1).val < 2051 then (I.CW 3 (j 2).val * I.dxc (j 0).val ((j 1).val - 3) (j 2).val) else 0) + (if 2 ≤ (j 1).val ∧ (j 1).val < 2050 then (I.CW 2 (j 2).val * I.dxc (j 0).val ((j 1).val - 2) (j 2).val) else 0)) :=
  Is.addf (v177_is A) (v186_is A)

theorem v188_is (A : Args I x0 x1 x2 x3 x4 x5 x6 x7 x8) :
    Is (S := S1280) (φ := .f32) (val_main_v188 (F := Ideal) x0 x1 x2 x3 x4 x5 x6 x7 x8) fun j => (∑ b ∈ Finset.range 2, ∑ t ∈ Finset.range 2048, (I.dxc b t (j 0).val * I.xp b (t + 2) (j 0).val)) :=
  sum01_one (F := fun c => (∑ b ∈ Finset.range 2, ∑ t ∈ Finset.range 2048, (I.dxc b t c * I.xp b (t + 2) c))) (v185_is A) _ rfl _ _

theorem v189_is (A : Args I x0 x1 x2 x3 x4 x5 x6 x7 x8) :
    Is (S := S1x1280) (φ := .f32) (val_main_v189 (F := Ideal) x0 x1 x2 x3 x4 x5 x6 x7 x8) fun j => (∑ b ∈ Finset.range 2, I.gCW b 2 (j 1).val) :=
  (lay (idx_main_v189) (v188_is A) (val_main_v189_apply x0 x1 x2 x3 x4 x5 x6 x7 x8)).congr fun j => rfl

theorem v190_is (A : Args I x0 x1 x2 x3 x4 x5 x6 x7 x8) :
    Is (S := S4x1280) (φ := .f32) (val_main_v190 (F := Ideal) x0 x1 x2 x3 x4 x5 x6 x7 x8) fun j => (if (j 0).val = 2 then (∑ b ∈ Finset.range 2, I.gCW b 2 (j 1).val) else 0) :=
  rowB (F := fun c => (∑ b ∈ Finset.range 2, I.gCW b 2 c)) (v189_is A) _ rfl _ _

theorem v191_is (A : Args I x0 x1 x2 x3 x4 x5 x6 x7 x8) :
    Is (S := S4x1280) (φ := .f32) (val_main_v191 (F := Ideal) x0 x1 x2 x3 x4 x5 x6 x7 x8) fun j => ((if (j 0).val = 3 then (∑ b ∈ Finset.range 2, I.gCW b 3 (j 1).val) else 0) + (if (j 0).val = 2 then (∑ b ∈ Finset.range 2, I.gCW b 2 (j 1).val) else 0)) :=
  Is.addf (v180_is A) (v190_is A)

theorem v192_is (A : Args I x0 x1 x2 x3 x4 x5 x6 x7 x8) :
    Is (S := S2x2048x1280) (φ := .f32) (val_main_v192 (F := Ideal) x1) fun j => I.CW 1 (j 2).val :=
  lay (idx_main_v192) (v16_is A) (val_main_v192_apply x1)

theorem v193_is (A : Args I x0 x1 x2 x3 x4 x5 x6 x7 x8) :
    Is (S := S2x2048x1280) (φ := .f32) (val_main_v193 (F := Ideal) x0 x1 x2 x3 x4 x5 x6 x7 x8) fun j => (I.CW 1 (j 2).val * I.dxc (j 0).val (j 1).val (j 2).val) :=
  Is.mulf (v192_is A) (v171_is A)

theorem v194_is (A : Args I x0 x1 x2 x3 x4 x5 x6 x7 x8) :
    Is (S := S2x2048x1280) (φ := .f32) (val_main_v194 (F := Ideal) x0 x1 x2 x3 x4 x5 x6 x7 x8) fun j => (I.dxc (j 0).val (j 1).val (j 2).val * I.xp (j 0).val ((j 1).val + 1) (j 2).val) :=
  Is.mulf (v171_is A) (v17_is A)

theorem v195_is (A : Args I x0 x1 x2 x3 x4 x5 x6 x7 x8) :
    Is (S := S1280) (φ := .f32) (val_main_v195 (F := Ideal) x0 x1 x2 x3 x4 x5 x6 x7 x8) fun j => (∑ b ∈ Finset.range 2, ∑ t ∈ Finset.range 2048, (I.dxc b t (j 0).val * I.xp b (t + 1) (j 0).val)) :=
  sum01 (F := fun b t c => (I.dxc b t c * I.xp b (t + 1) c)) (v194_is A) _ rfl _ _

theorem v196_is (A : Args I x0 x1 x2 x3 x4 x5 x6 x7 x8) :
    Is (S := S1x1x1280) (φ := .f32) (val_main_v196 (F := Ideal) x0 x1 x2 x3 x4 x5 x6 x7 x8) fun j => (∑ b ∈ Finset.range 2, ∑ t ∈ Finset.range 2048, (I.dxc b t (j 2).val * I.xp b (t + 1) (j 2).val)) :=
  vec3 (fun a => (∑ b ∈ Finset.range 2, ∑ t ∈ Finset.range 2048, (I.dxc b t a * I.xp b (t + 1) a))) (v195_is A) (val_main_v196_apply x0 x1 x2 x3 x4 x5 x6 x7 x8)

theorem v197_is (A : Args I x0 x1 x2 x3 x4 x5 x6 x7 x8) :
    Is (S := S2x2051x1280) (φ := .f32) (val_main_v197 (F := Ideal) x0 x1 x2 x3 x4 x5 x6 x7 x8) fun j => (if 1 ≤ (j 1).val ∧ (j 1).val < 2049 then (I.CW 1 (j 2).val * I.dxc (j 0).val ((j 1).val - 1) (j 2).val) else 0) :=
  padC (F := fun b t c => (I.CW 1 c * I.dxc b t c)) (v193_is A) _ rfl _ _

theorem v198_is (A : Args I x0 x1 x2 x3 x4 x5 x6 x7 x8) :
    Is (S := S2x2051x1280) (φ := .f32) (val_main_v198 (F := Ideal) x0 x1 x2 x3 x4 x5 x6 x7 x8) fun j => (((if 3 ≤ (j 1).val ∧ (j 1).val < 2051 then (I.CW 3 (j 2).val * I.dxc (j 0).val ((j 1).val - 3) (j 2).val) else 0) + (if 2 ≤ (j 1).val ∧ (j 1).val < 2050 then (I.CW 2 (j 2).val * I.dxc (j 0).val ((j 1).val - 2) (j 2).val) else 0)) + (if 1 ≤ (j 1).val ∧ (j 1).val < 2049 then (I.CW 1 (j 2).val * I.dxc (j 0).val ((j 1).val - 1) (j 2).val) else 0)) :=
  Is.addf (v187_is A) (v197_is A)

theorem v199_is (A : Args I x0 x1 x2 x3 x4 x5 x6 x7 x8) :
    Is (S := S1280) (φ := .f32) (val_main_v199 (F := Ideal) x0 x1 x2 x3 x4 x5 x6 x7 x8) fun j => (∑ b ∈ Finset.range 2, ∑ t ∈ Finset.range 2048, (I.dxc b t (j 0).val * I.xp b (t + 1) (j 0).val)) :=
  sum01_one (F := fun c => (∑ b ∈ Finset.range 2, ∑ t ∈ Finset.range 2048, (I.dxc b t c * I.xp b (t + 1) c))) (v196_is A) _ rfl _ _

theorem v200_is (A : Args I x0 x1 x2 x3 x4 x5 x6 x7 x8) :
    Is (S := S1x1280) (φ := .f32) (val_main_v200 (F := Ideal) x0 x1 x2 x3 x4 x5 x6 x7 x8) fun j => (∑ b ∈ Finset.range 2, I.gCW b 1 (j 1).val) :=
  (lay (idx_main_v200) (v199_is A) (val_main_v200_apply x0 x1 x2 x3 x4 x5 x6 x7 x8)).congr fun j => rfl

theorem v201_is (A : Args I x0 x1 x2 x3 x4 x5 x6 x7 x8) :
    Is (S := S4x1280) (φ := .f32) (val_main_v201 (F := Ideal) x0 x1 x2 x3 x4 x5 x6 x7 x8) fun j => (if (j 0).val = 1 then (∑ b ∈ Finset.range 2, I.gCW b 1 (j 1).val) else 0) :=
  rowC (F := fun c => (∑ b ∈ Finset.range 2, I.gCW b 1 c)) (v200_is A) _ rfl _ _

theorem v202_is (A : Args I x0 x1 x2 x3 x4 x5 x6 x7 x8) :
    Is (S := S4x1280) (φ := .f32) (val_main_v202 (F := Ideal) x0 x1 x2 x3 x4 x5 x6 x7 x8) fun j => (((if (j 0).val = 3 then (∑ b ∈ Finset.range 2, I.gCW b 3 (j 1).val) else 0) + (if (j 0).val = 2 then (∑ b ∈ Finset.range 2, I.gCW b 2 (j 1).val) else 0)) + (if (j 0).val = 1 then (∑ b ∈ Finset.range 2, I.gCW b 1 (j 1).val) else 0)) :=
  Is.addf (v191_is A) (v201_is A)

theorem v203_is (A : Args I x0 x1 x2 x3 x4 x5 x6 x7 x8) :
    Is (S := S1280) (φ := .f32) (val_main_v203 (F := Ideal) x0 x1 x2 x3 x4 x5 x6 x7 x8) fun j => (∑ b ∈ Finset.range 2, ∑ t ∈ Finset.range 2048, I.dxc b t (j 0).val) :=
  sum01 (F := fun b t c => I.dxc b t c) (v171_is A) _ rfl _ _

theorem v204_is (A : Args I x0 x1 x2 x3 x4 x5 x6 x7 x8) :
    Is (S := S1x1x1280) (φ := .f32) (val_main_v204 (F := Ideal) x0 x1 x2 x3 x4 x5 x6 x7 x8) fun j => (∑ b ∈ Finset.range 2, ∑ t ∈ Finset.range 2048, I.dxc b t (j 2).val) :=
  vec3 (fun a => (∑ b ∈ Finset.range 2, ∑ t ∈ Finset.range 2048, I.dxc b t a)) (v203_is A) (val_main_v204_apply x0 x1 x2 x3 x4 x5 x6 x7 x8)

theorem v205_is (A : Args I x0 x1 x2 x3 x4 x5 x6 x7 x8) :
    Is (S := S2x2048x1280) (φ := .f32) (val_main_v205 (F := Ideal) x1) fun j => I.CW 0 (j 2).val :=
  lay (idx_main_v205) (v8_is A) (val_main_v205_apply x1)

theorem v206_is (A : Args I x0 x1 x2 x3 x4 x5 x6 x7 x8) :
    Is (S := S2x2048x1280) (φ := .f32) (val_main_v206 (F := Ideal) x0 x1 x2 x3 x4 x5 x6 x7 x8) fun j => (I.CW 0 (j 2).val * I.dxc (j 0).val (j 1).val (j 2).val) :=
  Is.mulf (v205_is A) (v171_is A)

theorem v207_is (A : Args I x0 x1 x2 x3 x4 x5 x6 x7 x8) :
    Is (S := S2x2048x1280) (φ := .f32) (val_main_v207 (F := Ideal) x0 x1 x2 x3 x4 x5 x6 x7 x8) fun j => (I.dxc (j 0).val (j 1).val (j 2).val * I.xp (j 0).val ((j 1).val + 0) (j 2).val) :=
  Is.mulf (v171_is A) (v9_is A)

theorem v208_is (A : Args I x0 x1 x2 x3 x4 x5 x6 x7 x8) :
    Is (S := S1280) (φ := .f32) (val_main_v208 (F := Ideal) x0 x1 x2 x3 x4 x5 x6 x7 x8) fun j => (∑ b ∈ Finset.range 2, ∑ t ∈ Finset.range 2048, (I.dxc b t (j 0).val * I.xp b (t + 0) (j 0).val)) :=
  sum01 (F := fun b t c => (I.dxc b t c * I.xp b (t + 0) c)) (v207_is A) _ rfl _ _

theorem v209_is (A : Args I x0 x1 x2 x3 x4 x5 x6 x7 x8) :
    Is (S := S1x1x1280) (φ := .f32) (val_main_v209 (F := Ideal) x0 x1 x2 x3 x4 x5 x6 x7 x8) fun j => (∑ b ∈ Finset.range 2, ∑ t ∈ Finset.range 2048, (I.dxc b t (j 2).val * I.xp b (t + 0) (j 2).val)) :=
  vec3 (fun a => (∑ b ∈ Finset.range 2, ∑ t ∈ Finset.range 2048, (I.dxc b t a * I.xp b (t + 0) a))) (v208_is A) (val_main_v209_apply x0 x1 x2 x3 x4 x5 x6 x7 x8)

theorem v210_is (A : Args I x0 x1 x2 x3 x4 x5 x6 x7 x8) :
    Is (S := S2x2051x1280) (φ := .f32) (val_main_v210 (F := Ideal) x0 x1 x2 x3 x4 x5 x6 x7 x8) fun j => (if 0 ≤ (j 1).val ∧ (j 1).val < 2048 then (I.CW 0 (j 2).val * I.dxc (j 0).val ((j 1).val - 0) (j 2).val) else 0) :=
  padD (F := fun b t c => (I.CW 0 c * I.dxc b t c)) (v206_is A) _ rfl _ _

theorem v211_is (A : Args I x0 x1 x2 x3 x4 x5 x6 x7 x8) :
    Is (S := S2x2051x1280) (φ := .f32) (val_main_v211 (F := Ideal) x0 x1 x2 x3 x4 x5 x6 x7 x8) fun j => ((((if 3 ≤ (j 1).val ∧ (j 1).val < 2051 then (I.CW 3 (j 2).val * I.dxc (j 0).val ((j 1).val - 3) (j 2).val) else 0) + (if 2 ≤ (j 1).val ∧ (j 1).val < 2050 then (I.CW 2 (j 2).val * I.dxc (j 0).val ((j 1).val - 2) (j 2).val) else 0)) + (if 1 ≤ (j 1).val ∧ (j 1).val < 2049 then (I.CW 1 (j 2).val * I.dxc (j 0).val ((j 1).val - 1) (j 2).val) else 0)) + (if 0 ≤ (j 1).val ∧ (j 1).val < 2048 then (I.CW 0 (j 2).val * I.dxc (j 0).val ((j 1).val - 0) (j 2).val) else 0)) :=
  Is.addf (v198_is A) (v210_is A)

theorem v212_is (A : Args I x0 x1 x2 x3 x4 x5 x6 x7 x8) :
    Is (S := S1280) (φ := .f32) (val_main_v212 (F := Ideal) x0 x1 x2 x3 x4 x5 x6 x7 x8) fun j => (∑ b ∈ Finset.range 2, ∑ t ∈ Finset.range 2048, (I.dxc b t (j 0).val * I.xp b (t + 0) (j 0).val)) :=
  sum01_one (F := fun c => (∑ b ∈ Finset.range 2, ∑ t ∈ Finset.range 2048, (I.dxc b t c * I.xp b (t + 0) c))) (v209_is A) _ rfl _ _

theorem v213_is (A : Args I x0 x1 x2 x3 x4 x5 x6 x7 x8) :
    Is (S := S1x1280) (φ := .f32) (val_main_v213 (F := Ideal) x0 x1 x2 x3 x4 x5 x6 x7 x8) fun j => (∑ b ∈ Finset.range 2, I.gCW b 0 (j 1).val) :=
  (lay (idx_main_v213) (v212_is A) (val_main_v213_apply x0 x1 x2 x3 x4 x5 x6 x7 x8)).congr fun j => rfl

theorem v214_is (A : Args I x0 x1 x2 x3 x4 x5 x6 x7 x8) :
    Is (S := S4x1280) (φ := .f32) (val_main_v214 (F := Ideal) x0 x1 x2 x3 x4 x5 x6 x7 x8) fun j => (if (j 0).val = 0 then (∑ b ∈ Finset.range 2, I.gCW b 0 (j 1).val) else 0) :=
  rowD (F := fun c => (∑ b ∈ Finset.range 2, I.gCW b 0 c)) (v213_is A) _ rfl _ _

theorem v215_is (A : Args I x0 x1 x2 x3 x4 x5 x6 x7 x8) :
    Is (S := S4x1280) (φ := .f32) (val_main_v215 (F := Ideal) x0 x1 x2 x3 x4 x5 x6 x7 x8) fun j => (∑ b ∈ Finset.range 2, I.gCW b (j 0).val (j 1).val) :=
  (Is.addf (v202_is A) (v214_is A)).congr fun j => by
    have h0 : (j 0).val < 4 := (j 0).isLt
    exact rows_eq _ _ h0

theorem v216_is (A : Args I x0 x1 x2 x3 x4 x5 x6 x7 x8) :
    Is (S := S1280) (φ := .f32) (val_main_v216 (F := Ideal) x0 x1 x2 x3 x4 x5 x6 x7 x8) fun j => (∑ b ∈ Finset.range 2, ∑ t ∈ Finset.range 2048, I.dxc b t (j 0).val) :=
  sum01_one (F := fun c => (∑ b ∈ Finset.range 2, ∑ t ∈ Finset.range 2048, I.dxc b t c)) (v204_is A) _ rfl _ _

theorem v217_is (A : Args I x0 x1 x2 x3 x4 x5 x6 x7 x8) :
    Is (S := S1x1280) (φ := .f32) (val_main_v217 (F := Ideal) x0 x1 x2 x3 x4 x5 x6 x7 x8) fun j => (∑ b ∈ Finset.range 2, I.gCB b (j 1).val) :=
  (lay (idx_main_v217) (v216_is A) (val_main_v217_apply x0 x1 x2 x3 x4 x5 x6 x7 x8)).congr fun j => rfl

theorem v219_is (A : Args I x0 x1 x2 x3 x4 x5 x6 x7 x8) :
    Is (S := S2x2048x1280) (φ := .f32) (val_main_v219 (F := Ideal) x0 x1 x2 x3 x4 x5 x6 x7 x8) fun j => I.gX (j 0).val (j 1).val (j 2).val :=
  (lay (idx_main_v219) (v211_is A) (val_main_v219_apply x0 x1 x2 x3 x4 x5 x6 x7 x8)).congr fun j => by
    have h1 : (j 1).val < 2048 := (j 1).isLt
    exact shifts_eq _ _ _ h1

theorem v220_is (A : Args I x0 x1 x2 x3 x4 x5 x6 x7 x8) :
    Is (S := S2x2048x1280) (φ := .bf16) (val_main_v220 (F := Ideal) x0 x1 x2 x3 x4 x5 x6 x7 x8) fun j => I.gX (j 0).val (j 1).val (j 2).val :=
  Is.truncf bitsLt_bf16_f32 (v219_is A)

end Cert.Proof.Ref

end
-- ==== Proof.Pre.lean ====
module

public import proofs.«01_k».proof.Proof.Kit
public import proofs.«01_k».proof.Pre_finite
public import Idealize.ShloMosaic.Lib.ReduceAll

@[expose] public section

set_option maxRecDepth 16384

/-! # Finite contents are real numbers -/

noncomputable section

namespace Cert.Pre_finite

theorem facts : Facts where
  slices_S2x2048x9728_S2x2048x1280_0_0_0 := by decide
  bitsLt_bf16_f32 := by decide
  bcast_S_S2x2048x1280 := by decide
  reducesTo_S2x2048x1280_S_d0_1_2 := by decide
  h_S_ := by decide
  bcast_S_S4x1280 := by decide
  reducesTo_S4x1280_S_d0_1 := by decide
  bcast_S_S1x1280 := by decide
  reducesTo_S1x1280_S_d0_1 := by decide
  bcast_S_S10x128x128 := by decide
  reducesTo_S10x128x128_S_d0_1_2 := by decide
  bcast_S_S1 := by decide
  concatenates_S1_S1_S1_S1_S1_S1_S1_S1_S1_S9_d0 := by decide
  reducesTo_S9_S_d0 := by decide

end Cert.Pre_finite

namespace Cert.Proof.Finite

open Idealize.ShloMosaic Cert.Pre_finite

theorem inf : Ideal.ofBits .f32 0x7F800000#32 = (⊤ : EReal) := by
  simp [Ideal.ofBits, Ideal.ieee]

theorem real_of_abs {x : EReal} (h : BitVec.ofBool (decide (max x (-x) < (⊤ : EReal))) = 1#1) : x = ((x.toReal : ℝ) : EReal) := by
  have h' : max x (-x) < ⊤ := by
    by_contra hn
    rw [decide_eq_false hn] at h
    exact absurd h (by decide)
  refine (EReal.coe_toReal (fun e => ?_) (fun e => ?_)).symm
  · rw [e] at h'; exact absurd (lt_of_le_of_lt (le_max_left _ _) h') (lt_irrefl _)
  · rw [e, EReal.neg_bot] at h'; exact absurd (lt_of_le_of_lt (le_max_right _ _) h') (lt_irrefl _)

instance : Subsingleton S_.Idx := ⟨fun _ _ => funext fun a => a.elim0⟩

theorem real {S : Shape} {axes : List (Fin S.rank)} (v w : FVec Ideal S .f32) (hw : ∀ i, w i = Ideal.ofBits .f32 0x7F800000#32) (init : IVec S_ 1)
    (h : S.ReducesTo axes S_) (hu) (j) (e : Host.reduce IntOp.andi (cmpf .olt (Host.absf v) w) init h hu j = 1#1) :
    Is v fun i => (v i).toReal := fun i => by
  have h1 : BitVec.ofBool (decide (max (v i) (-(v i)) < w i)) = 1#1 := Host.reduce_andi_all _ init h hu j e i
  rw [hw i, inf] at h1
  exact real_of_abs h1

theorem cat9 (y0 y1 y2 y3 y4 y5 y6 y7 y8 : IVec S1 1) (hc) (h : ∀ i, concatenate S9 0 [⟨S1, y0⟩, ⟨S1, y1⟩, ⟨S1, y2⟩, ⟨S1, y3⟩, ⟨S1, y4⟩, ⟨S1, y5⟩, ⟨S1, y6⟩, ⟨S1, y7⟩, ⟨S1, y8⟩] hc i = 1#1) :
    y0 (ix1 0) = 1#1 ∧ y1 (ix1 0) = 1#1 ∧ y2 (ix1 0) = 1#1 ∧ y3 (ix1 0) = 1#1 ∧ y4 (ix1 0) = 1#1 ∧ y5 (ix1 0) = 1#1 ∧ y6 (ix1 0) = 1#1 ∧ y7 (ix1 0) = 1#1 ∧ y8 (ix1 0) = 1#1 := by
  refine ⟨?_, ?_, ?_, ?_, ?_, ?_, ?_, ?_, ?_⟩
  · have := h (ix1 0)
    pointwise at this
    exact this
  · have := h (ix1 1)
    pointwise at this
    exact this
  · have := h (ix1 2)
    pointwise at this
    exact this
  · have := h (ix1 3)
    pointwise at this
    exact this
  · have := h (ix1 4)
    pointwise at this
    exact this
  · have := h (ix1 5)
    pointwise at this
    exact this
  · have := h (ix1 6)
    pointwise at this
    exact this
  · have := h (ix1 7)
    pointwise at this
    exact this
  · have := h (ix1 8)
    pointwise at this
    exact this

variable [Cert.Pre_finite.Facts]
open Cert.Pre_finite.Facts

theorem one1 (v : IVec S_ 1) (h : broadcastInDim S1 ![] bcast_S_S1 v (ix1 0) = 1#1) : v ix0 = 1#1 := by
  pointwise at h
  exact h

theorem finite (x0 x1 x2 x3 x4 x5 x6 x7 x8 x9) (h : Cert.Pre_finite.fn (F := Ideal) x0 x1 x2 x3 x4 x5 x6 x7 x8 x9 = fun _ => 1#1) :
    (∀ j : S2x2048x9728.Idx, (j 2).val < 1280 → x0 j = (((x0 j).toReal : ℝ) : EReal)) ∧
Is (S := S4x1280) (φ := .f32) x1 (fun i => (x1 i).toReal) ∧ Is (S := S1x1280) (φ := .f32) x2 (fun i => (x2 i).toReal) ∧ Is (S := S10x128x128) (φ := .f32) x3 (fun i => (x3 i).toReal) ∧ Is (S := S1x1280) (φ := .f32) x4 (fun i => (x4 i).toReal) ∧ Is (S := S10x128x128) (φ := .f32) x5 (fun i => (x5 i).toReal) ∧ Is (S := S1x1280) (φ := .f32) x6 (fun i => (x6 i).toReal) ∧ Is (S := S1x1280) (φ := .f32) x7 (fun i => (x7 i).toReal) ∧ Is (S := S2x2048x1280) (φ := .f32) x8 (fun i => (x8 i).toReal) := by
  have h48 := congrFun h ix0
  obtain ⟨h0, h1, h2, h3, h4, h5, h6, h7, h8⟩ := cat9 _ _ _ _ _ _ _ _ _ _ (Host.reduce_andi_all _ _ _ _ _ h48)
  replace h0 := one1 _ h0; replace h1 := one1 _ h1; replace h2 := one1 _ h2; replace h3 := one1 _ h3; replace h4 := one1 _ h4
  replace h5 := one1 _ h5; replace h6 := one1 _ h6; replace h7 := one1 _ h7; replace h8 := one1 _ h8
  refine ⟨fun j hj => ?_, real _ _ (fun _ => rfl) _ _ _ _ h1, real _ _ (fun _ => rfl) _ _ _ _ h2, real _ _ (fun _ => rfl) _ _ _ _ h3, real _ _ (fun _ => rfl) _ _ _ _ h4, real _ _ (fun _ => rfl) _ _ _ _ h5, real _ _ (fun _ => rfl) _ _ _ _ h6, real _ _ (fun _ => rfl) _ _ _ _ h7, real _ _ (fun _ => rfl) _ _ _ _ h8⟩
  have e := real _ _ (fun _ => rfl) _ _ _ _ h0 (ix3 (j 0) (j 1) ⟨(j 2).val, hj⟩)
  pointwise at e
  exact e

end Cert.Proof.Finite

end
-- ==== Proof.Same.lean ====
module

public import proofs.«01_k».proof.Proof.Arrays
public import proofs.«01_k».proof.Proof.RefB
public import proofs.«01_k».proof.Proof.Pre

@[expose] public section

set_option maxRecDepth 16384

/-! # Kernel and reference hold the same arrays -/

noncomputable section

namespace Cert.Proof.Pre

open Idealize.ShloMosaic Cert.KernelIdeal Cert.KernelIdeal.Gen
open Cert.Proof.Ref (Args)
open Cert.ReferenceIdeal.Read

/-! Real arrays as functions of natural indices. -/

def ext2 {a b : ℕ} {φ : FTy} (v : FVec Ideal ⟨2, ![a, b]⟩ φ) (i j : ℕ) : ℝ :=
  if h : i < a ∧ j < b then (v (ix2 ⟨i, h.1⟩ ⟨j, h.2⟩)).toReal else 0

def ext3 {a b d : ℕ} {φ : FTy} (v : FVec Ideal ⟨3, ![a, b, d]⟩ φ) (i j k : ℕ) : ℝ :=
  if h : i < a ∧ j < b ∧ k < d then (v (ix3 ⟨i, h.1⟩ ⟨j, h.2.1⟩ ⟨k, h.2.2⟩)).toReal else 0

theorem ext2_at {a b : ℕ} {φ : FTy} (v : FVec Ideal ⟨2, ![a, b]⟩ φ) (j : (⟨2, ![a, b]⟩ : Shape).Idx) :
    ext2 v (j 0).val (j 1).val = (v j).toReal := by
  unfold ext2
  rw [dif_pos ⟨(j 0).isLt, (j 1).isLt⟩]
  exact congrArg (fun i => (v i).toReal) (funext fun a => by fin_cases a <;> rfl)

theorem ext3_at {a b d : ℕ} {φ : FTy} (v : FVec Ideal ⟨3, ![a, b, d]⟩ φ) (j : (⟨3, ![a, b, d]⟩ : Shape).Idx) :
    ext3 v (j 0).val (j 1).val (j 2).val = (v j).toReal := by
  unfold ext3
  rw [dif_pos ⟨(j 0).isLt, (j 1).isLt, (j 2).isLt⟩]
  exact congrArg (fun i => (v i).toReal) (funext fun a => by fin_cases a <;> rfl)

theorem ext2_row {b : ℕ} {φ : FTy} (v : FVec Ideal ⟨2, ![1, b]⟩ φ) (j : (⟨2, ![1, b]⟩ : Shape).Idx) :
    ext2 v 0 (j 1).val = (v j).toReal := by
  have h : (j 0).val = 0 := by have : (j 0).val < 1 := (j 0).isLt; omega
  rw [← ext2_at v j, h]

/-- What is finite is real: the reals that stand in the arguments. -/
theorem holds [Cert.Pre_finite.Facts] (x0 x1 x2 x3 x4 x5 x6 x7 x8 x9)
    (h : Cert.Pre_finite.fn (F := Ideal) x0 x1 x2 x3 x4 x5 x6 x7 x8 x9 = fun _ => 1#1) :
    ∃ I : In, Args I x0 x1 x2 x3 x4 x5 x6 x7 x8 := by
  obtain ⟨h0, h1, h2, h3, h4, h5, h6, h7, h8⟩ := Finite.finite x0 x1 x2 x3 x4 x5 x6 x7 x8 x9 h
  exact ⟨{ X := ext3 (φ := .bf16) x0, CW := ext2 (φ := .f32) x1, CB := ext2 (φ := .f32) x2 0, WA := ext3 (φ := .f32) x3,
           BA := ext2 (φ := .f32) x4 0, WX := ext3 (φ := .f32) x5, BX := ext2 (φ := .f32) x6 0, LAM := ext2 (φ := .f32) x7 0,
           DH := ext3 (φ := .f32) x8 },
    { x0 := fun j hj => (h0 j hj).trans (congrArg _ (ext3_at (φ := .bf16) x0 j).symm)
      x1 := h1.congr fun j => (ext2_at (φ := .f32) x1 j).symm
      x2 := h2.congr fun j => (ext2_row (φ := .f32) x2 j).symm
      x3 := h3.congr fun j => (ext3_at (φ := .f32) x3 j).symm
      x4 := h4.congr fun j => (ext2_row (φ := .f32) x4 j).symm
      x5 := h5.congr fun j => (ext3_at (φ := .f32) x5 j).symm
      x6 := h6.congr fun j => (ext2_row (φ := .f32) x6 j).symm
      x7 := h7.congr fun j => (ext2_row (φ := .f32) x7 j).symm
      x8 := h8.congr fun j => (ext3_at (φ := .f32) x8 j).symm }⟩

/-- The reference's gradient slab: the first 1280 columns its own, the others the slab's. -/
theorem v224_at {I : In} {x0 x1 x2 x3 x4 x5 x6 x7 x8} (A : Args I x0 x1 x2 x3 x4 x5 x6 x7 x8) (x9)
    (j : S2x2048x2560.Idx) :
    val_main_v224 (F := Ideal) x0 x1 x2 x3 x4 x5 x6 x7 x8 x9 j
      = if (j 2).val < 1280 then ((I.gX (j 0).val (j 1).val (j 2).val : ℝ) : EReal) else x9 j := by
  refine (Ref.cat12 _ _ _ j).trans ?_
  by_cases hj : (j 2).val < 1280
  · rw [dif_pos hj, if_pos hj]
    exact (Ref.padcut _ _ _ _ _ _).trans (Ref.v220_is A _)
  · rw [dif_neg hj, if_neg hj, val_main_v223_apply]
    have h2 : (j 2).val < 2560 := (j 2).isLt
    refine congrArg x9 (funext fun a => ?_)
    match a with
    | ⟨0, _⟩ => rfl
    | ⟨1, _⟩ => rfl
    | ⟨2, _⟩ => exact Fin.ext (show 1280 + ((j 2).val - 1280) = (j 2).val by omega)

theorem Is.same {S : Shape} {φ : FTy} {v w : FVec Ideal S φ} {f g : S.Idx → ℝ} (hv : Is v f) (hw : Is w g)
    (e : ∀ j, g j = f j) : w = v := funext fun j => ((hw j).trans (congrArg _ (e j))).trans (hv j).symm

theorem two (f : ℕ → ℝ) : ∑ b ∈ Finset.range 2, f b = f 0 + f 1 := by
  rw [Finset.sum_range_succ, Finset.sum_range_one]

variable {m : (ℓ : Loc nD τ sig) → Buf (Elt Ideal) ℓ} {c : Dev nD} {I : In} (A : Holds m c I)
include A

theorem same12 : val_main_v224 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) = (dats m 0 c).arrAt 12 cfg0.N :=
  (funext fun j => v224_at A _ j).trans (arr12 A).symm

theorem same13 : val_main_v215 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = (dats m 0 c).arrAt 13 cfg0.N :=
  Is.same (S := S4x1280) (φ := .f32) (arr13 A) (Ref.v215_is A) fun _ => two _

theorem same14 : val_main_v217 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = (dats m 0 c).arrAt 14 cfg0.N :=
  Is.same (S := S1x1280) (φ := .f32) (arr14 A) (Ref.v217_is A) fun _ => two _

theorem same15 : val_main_v169 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = (dats m 0 c).arrAt 15 cfg0.N :=
  Is.same (S := S10x128x128) (φ := .f32) (arr15 A) (Ref.v169_is A) fun _ => two _

theorem same16 : val_main_v157 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = (dats m 0 c).arrAt 16 cfg0.N :=
  Is.same (S := S1x1280) (φ := .f32) (arr16 A) (Ref.v157_is A) fun _ => two _

theorem same17 : val_main_v163 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = (dats m 0 c).arrAt 17 cfg0.N :=
  Is.same (S := S10x128x128) (φ := .f32) (arr17 A) (Ref.v163_is A) fun _ => two _

theorem same18 : val_main_v151 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = (dats m 0 c).arrAt 18 cfg0.N :=
  Is.same (S := S1x1280) (φ := .f32) (arr18 A) (Ref.v151_is A) fun _ => two _

theorem same19 : val_main_v144 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) = (dats m 0 c).arrAt 19 cfg0.N :=
  Is.same (S := S1x1280) (φ := .f32) (arr19 A) (Ref.v144_is A) fun _ => two _

end Cert.Proof.Pre

end
-- ==== Proof.DwOut.lean ====
module

public import proofs.«01_k».proof.Proof.Gen.Kernel2Ideal.Value
public import Idealize.ShloMosaic.Lib.Pipeline.ValueKit
public import Idealize.ShloMosaic.Lib.WholeRead

@[expose] public section

set_option maxRecDepth 16384

noncomputable section

namespace Cert.Proof.Dw

/-! What each case of `_dw_in`'s body leaves in its two output blocks. -/

open Idealize.ShloMosaic Cert.Kernel2Ideal Cert.Kernel2Ideal.Gen
variable {F : FTy → Type} [FloatOps F]

theorem loadSlab (M : Memref sig .tc .vmem S4096x512 .bf16) (h : M.IsWhole) (x : Vec F S4096x512 .bf16) (inb) :
    View.readAt (Elt F) M.view (Rect.unit (s := S4096x512) ![0, 0] S4096x512.size inb).toLoadRect (h.unread x) = x := by
  funext j
  refine (h.readAt_unread x _ j).trans (congrArg x (funext fun a => Fin.ext ?_))
  fin_cases a <;> simp

theorem loadHn (M : Memref sig .tc .vmem S4096x1024 .bf16) (h : M.IsWhole) (x : Vec F S4096x1024 .bf16) (inb) :
    View.readAt (Elt F) M.view (Rect.unit (s := S4096x1024) ![0, 0] S4096x1024.size inb).toLoadRect (h.unread x) = x := by
  funext j
  refine (h.readAt_unread x _ j).trans (congrArg x (funext fun a => Fin.ext ?_))
  fin_cases a <;> simp

theorem wholeCov {sp : Space} (v : View sig .tc sp S4096x1024 .bf16) (w : Vec F S4096x1024 .bf16) (off : Fin 2 → ℕ)
    (h : off = fun _ => 0) (inb) :
    v.readCov (Val := Elt F) [⟨Rect.whole S4096x1024, w⟩] (Rect.unit (s := S4096x1024) off S4096x1024.size inb).toLoadRect = w := by
  subst h
  exact View.readCov_unit_zero v rfl _ w

theorem fetched (c : Dev nD) (M : Memref sig .tc .vmem S4096x1024 .bf16) (fh0 : HbBuf0 (F := F) c hbM0_0) :
    kernelRun0_A.sl.v29 c M fh0 = fh0 := by
  unfold kernelRun0_A.sl.v29
  exact wholeCov M.view fh0 _ (funext fun a => by fin_cases a <;> rfl) _

theorem outA5 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : cond0_0 i) (hc1 : cond0_1 i) (hc2 : ¬cond0_2 i) (hc3 : ¬cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (fh0 : HbBuf0 (F := F) c hbM0_0) : out0_A_5 c i arg1 harg1 arg2 harg2 arg3 harg3 arg4 harg4 arg5 harg5 arg7 harg7 arg8 harg8 arg9 harg9 hc0 hc1 hc2 hc3 hc4 hc5 x0 x1 x2 x3 x4 fh0 = k0_pay1 x0 fh0 := by
  unfold out0_A_5
  rw [View.read_writes_junk_eq_canon]
  refine (View.canon_cons_unit_lit _ _ _ (by decide)).trans ?_
  exact congrArg₂ k0_pay1 (loadSlab arg1 harg1 x0 _) (fetched c arg9 fh0)

theorem outA6 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : cond0_0 i) (hc1 : cond0_1 i) (hc2 : ¬cond0_2 i) (hc3 : ¬cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (fh0 : HbBuf0 (F := F) c hbM0_0) : out0_A_6 c i arg1 harg1 arg2 harg2 arg3 harg3 arg4 harg4 arg5 harg5 arg7 harg7 arg8 harg8 arg9 harg9 hc0 hc1 hc2 hc3 hc4 hc5 x0 x1 x2 x3 x4 fh0 = k0_pay2 x0 := by
  unfold out0_A_6
  rw [View.read_writes_junk_eq_canon]
  refine (View.canon_cons_unit_lit _ _ _ (by decide)).trans ?_
  exact congrArg k0_pay2 (loadSlab arg1 harg1 x0 _)

theorem outB5 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : cond0_1 i) (hc2 : ¬cond0_2 i) (hc3 : ¬cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_B_5 c i arg1 harg1 arg2 harg2 arg3 harg3 arg4 harg4 arg5 harg5 arg7 harg7 arg8 harg8 arg9 harg9 hc0 hc1 hc2 hc3 hc4 hc5 x0 x1 x2 x3 x4 xs0 fh0 = k0_pay1 x0 xs0 := by
  unfold out0_B_5
  rw [View.read_writes_junk_eq_canon]
  refine (View.canon_cons_unit_lit _ _ _ (by decide)).trans ?_
  exact congrArg₂ k0_pay1 (loadSlab arg1 harg1 x0 _) (loadHn arg9 harg9 xs0 _)

theorem outB6 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : cond0_1 i) (hc2 : ¬cond0_2 i) (hc3 : ¬cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_B_6 c i arg1 harg1 arg2 harg2 arg3 harg3 arg4 harg4 arg5 harg5 arg7 harg7 arg8 harg8 arg9 harg9 hc0 hc1 hc2 hc3 hc4 hc5 x0 x1 x2 x3 x4 xs0 fh0 = k0_pay2 x0 := by
  unfold out0_B_6
  rw [View.read_writes_junk_eq_canon]
  refine (View.canon_cons_unit_lit _ _ _ (by decide)).trans ?_
  exact congrArg k0_pay2 (loadSlab arg1 harg1 x0 _)

theorem outC5 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : ¬cond0_1 i) (hc2 : cond0_2 i) (hc3 : ¬cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_C_5 c i arg1 harg1 arg2 harg2 arg3 harg3 arg4 harg4 arg5 harg5 arg7 harg7 arg8 harg8 arg9 harg9 hc0 hc1 hc2 hc3 hc4 hc5 x0 x1 x2 x3 x4 xs0 fh0 = k0_pay3 x1 xs0 := by
  unfold out0_C_5
  rw [View.read_writes_junk_eq_canon]
  refine (View.canon_cons_unit_lit _ _ _ (by decide)).trans ?_
  exact congrArg₂ k0_pay3 (loadSlab arg2 harg2 x1 _) (loadHn arg9 harg9 xs0 _)

theorem outC6 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : ¬cond0_1 i) (hc2 : cond0_2 i) (hc3 : ¬cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_C_6 c i arg1 harg1 arg2 harg2 arg3 harg3 arg4 harg4 arg5 harg5 arg7 harg7 arg8 harg8 arg9 harg9 hc0 hc1 hc2 hc3 hc4 hc5 x0 x1 x2 x3 x4 xs0 fh0 = k0_pay4 x1 := by
  unfold out0_C_6
  rw [View.read_writes_junk_eq_canon]
  refine (View.canon_cons_unit_lit _ _ _ (by decide)).trans ?_
  exact congrArg k0_pay4 (loadSlab arg2 harg2 x1 _)

theorem outD5 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : ¬cond0_1 i) (hc2 : ¬cond0_2 i) (hc3 : cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_D_5 c i arg1 harg1 arg2 harg2 arg3 harg3 arg4 harg4 arg5 harg5 arg7 harg7 arg8 harg8 arg9 harg9 hc0 hc1 hc2 hc3 hc4 hc5 x0 x1 x2 x3 x4 xs0 fh0 = k0_pay5 x2 xs0 := by
  unfold out0_D_5
  rw [View.read_writes_junk_eq_canon]
  refine (View.canon_cons_unit_lit _ _ _ (by decide)).trans ?_
  exact congrArg₂ k0_pay5 (loadSlab arg3 harg3 x2 _) (loadHn arg9 harg9 xs0 _)

theorem outD6 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : ¬cond0_1 i) (hc2 : ¬cond0_2 i) (hc3 : cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_D_6 c i arg1 harg1 arg2 harg2 arg3 harg3 arg4 harg4 arg5 harg5 arg7 harg7 arg8 harg8 arg9 harg9 hc0 hc1 hc2 hc3 hc4 hc5 x0 x1 x2 x3 x4 xs0 fh0 = k0_pay6 x2 := by
  unfold out0_D_6
  rw [View.read_writes_junk_eq_canon]
  refine (View.canon_cons_unit_lit _ _ _ (by decide)).trans ?_
  exact congrArg k0_pay6 (loadSlab arg3 harg3 x2 _)

theorem outE5 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : ¬cond0_1 i) (hc2 : ¬cond0_2 i) (hc3 : ¬cond0_3 i) (hc4 : cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_E_5 c i arg1 harg1 arg2 harg2 arg3 harg3 arg4 harg4 arg5 harg5 arg7 harg7 arg8 harg8 arg9 harg9 hc0 hc1 hc2 hc3 hc4 hc5 x0 x1 x2 x3 x4 xs0 fh0 = k0_pay7 x3 xs0 := by
  unfold out0_E_5
  rw [View.read_writes_junk_eq_canon]
  refine (View.canon_cons_unit_lit _ _ _ (by decide)).trans ?_
  exact congrArg₂ k0_pay7 (loadSlab arg4 harg4 x3 _) (loadHn arg9 harg9 xs0 _)

theorem outE6 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : ¬cond0_1 i) (hc2 : ¬cond0_2 i) (hc3 : ¬cond0_3 i) (hc4 : cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_E_6 c i arg1 harg1 arg2 harg2 arg3 harg3 arg4 harg4 arg5 harg5 arg7 harg7 arg8 harg8 arg9 harg9 hc0 hc1 hc2 hc3 hc4 hc5 x0 x1 x2 x3 x4 xs0 fh0 = k0_pay8 x3 := by
  unfold out0_E_6
  rw [View.read_writes_junk_eq_canon]
  refine (View.canon_cons_unit_lit _ _ _ (by decide)).trans ?_
  exact congrArg k0_pay8 (loadSlab arg4 harg4 x3 _)

theorem outF5 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : ¬cond0_1 i) (hc2 : ¬cond0_2 i) (hc3 : ¬cond0_3 i) (hc4 : ¬cond0_4 i) (hc5 : cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_F_5 c i arg1 harg1 arg2 harg2 arg3 harg3 arg4 harg4 arg5 harg5 arg7 harg7 arg8 harg8 arg9 harg9 hc0 hc1 hc2 hc3 hc4 hc5 x0 x1 x2 x3 x4 xs0 fh0 = k0_pay9 x4 xs0 := by
  unfold out0_F_5
  rw [View.read_writes_junk_eq_canon]
  refine (View.canon_cons_unit_lit _ _ _ (by decide)).trans ?_
  exact congrArg₂ k0_pay9 (loadSlab arg5 harg5 x4 _) (loadHn arg9 harg9 xs0 _)

theorem outF6 (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : ¬cond0_0 i) (hc1 : ¬cond0_1 i) (hc2 : ¬cond0_2 i) (hc3 : ¬cond0_3 i) (hc4 : ¬cond0_4 i) (hc5 : cond0_5 i)
    (x0 : Vec F S4096x512 .bf16) (x1 : Vec F S4096x512 .bf16) (x2 : Vec F S4096x512 .bf16) (x3 : Vec F S4096x512 .bf16) (x4 : Vec F S4096x512 .bf16) (xs0 : Vec F S4096x1024 .bf16) (fh0 : HbBuf0 (F := F) c hbM0_0) : out0_F_6 c i arg1 harg1 arg2 harg2 arg3 harg3 arg4 harg4 arg5 harg5 arg7 harg7 arg8 harg8 arg9 harg9 hc0 hc1 hc2 hc3 hc4 hc5 x0 x1 x2 x3 x4 xs0 fh0 = k0_pay10 x4 := by
  unfold out0_F_6
  rw [View.read_writes_junk_eq_canon]
  refine (View.canon_cons_unit_lit _ _ _ (by decide)).trans ?_
  exact congrArg k0_pay10 (loadSlab arg5 harg5 x4 _)

theorem soutA (c : Dev nD) (i : grid0.Coords) (arg1 : Memref sig .tc .vmem S4096x512 .bf16) (harg1 : arg1.IsWhole) (arg2 : Memref sig .tc .vmem S4096x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S4096x512 .bf16) (harg5 : arg5.IsWhole) (arg7 : Memref sig .tc .vmem S512x1024 .bf16) (harg7 : arg7.IsWhole) (arg8 : Memref sig .tc .vmem S1x512 .f32) (harg8 : arg8.IsWhole) (arg9 : Memref sig .tc .vmem S4096x1024 .bf16) (harg9 : arg9.IsWhole) (hc0 : cond0_0 i) (hc1 : cond0_1 i) (hc2 : ¬cond0_2 i) (hc3 : ¬cond0_3 i) (hc4 : ¬cond0_4 i) (hc5 : ¬cond0_5 i)
    (x0 : Vec F S4096x512 .bf16) (x1 : Vec F S4096x512 .bf16) (x2 : Vec F S4096x512 .bf16) (x3 : Vec F S4096x512 .bf16) (x4 : Vec F S4096x512 .bf16) (fh0 : HbBuf0 (F := F) c hbM0_0) : sout0_A_0 c i arg1 harg1 arg2 harg2 arg3 harg3 arg4 harg4 arg5 harg5 arg7 harg7 arg8 harg8 arg9 harg9 hc0 hc1 hc2 hc3 hc4 hc5 x0 x1 x2 x3 x4 fh0 = fh0 := by
  unfold sout0_A_0
  rw [View.read_writes_junk_eq_canon]
  exact View.canon_cons_unit_zero rfl _ _ _

end Cert.Proof.Dw
end
-- ==== Proof.DwBlk.lean ====
module

public import proofs.«01_k».proof.Proof.DwOut
public import proofs.«01_k».proof.Proof.Gen.Reference2Ideal.Read

@[expose] public section

set_option maxRecDepth 16384

noncomputable section

namespace Cert.Proof.Dw

/-! The weight gradient of the input projection: each grid point multiplies one block of 512
gradient columns, wherever the five pieces keep it, by the normalised input, and writes the
product at the block of rows the reference's concatenation gives these columns. -/

open Idealize.ShloMosaic Cert.Kernel2Ideal Cert.Kernel2Ideal.Gen
open Cert.ReferenceIdeal hiding nD τ sig

variable (m : (ℓ : Loc nD τ sig) → Buf (Elt Ideal) ℓ) (c : Dev nD)

/-- Where point `t`'s columns stand in the projection. -/
def perm (t : ℕ) : ℕ := if 5 ≤ t ∧ t < 14 then 5 + (t - 5) % 3 * 3 + (t - 5) / 3 else t

theorem idx0 : ∀ t : Fin cfg0.N, win0_0.index t = ![0, min t.val 4] := (by decide +kernel : ∀ t : Fin grid0.N, win0_0.index t = ![0, min t.val 4])
theorem idx1 : ∀ t : Fin cfg0.N, win0_1.index t = ![0, min (t.val - 5) 2] := (by decide +kernel : ∀ t : Fin grid0.N, win0_1.index t = ![0, min (t.val - 5) 2])
theorem idx2 : ∀ t : Fin cfg0.N, win0_2.index t = ![0, min (t.val - 8) 2] := (by decide +kernel : ∀ t : Fin grid0.N, win0_2.index t = ![0, min (t.val - 8) 2])
theorem idx3 : ∀ t : Fin cfg0.N, win0_3.index t = ![0, min (t.val - 11) 2] := (by decide +kernel : ∀ t : Fin grid0.N, win0_3.index t = ![0, min (t.val - 11) 2])
theorem idx4 : ∀ t : Fin cfg0.N, win0_4.index t = ![0, t.val - 14] := (by decide +kernel : ∀ t : Fin grid0.N, win0_4.index t = ![0, t.val - 14])
theorem idx5 : ∀ t : Fin cfg0.N, win0_5.index t = ![perm t.val, 0] := (by decide +kernel : ∀ t : Fin grid0.N, win0_5.index t = ![perm t.val, 0])
theorem idx6 : ∀ t : Fin cfg0.N, win0_6.index t = ![0, perm t.val] := (by decide +kernel : ∀ t : Fin grid0.N, win0_6.index t = ![0, perm t.val])

theorem blk0 (t : Fin cfg0.N) (y : S4096x512.Idx) (k : S4096x2560.Idx) (h0 : (k 0).val = (y 0).val)
    (h1 : (k 1).val = (min t.val 4) * 512 + (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    rfl
  | ⟨1, _⟩ =>
    refine Eq.trans ?_ h1.symm
    blk_simp [idx0]
    rfl

theorem blk1 (t : Fin cfg0.N) (y : S4096x512.Idx) (k : S4096x1536.Idx) (h0 : (k 0).val = (y 0).val)
    (h1 : (k 1).val = (min (t.val - 5) 2) * 512 + (y 1).val) : iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    rfl
  | ⟨1, _⟩ =>
    refine Eq.trans ?_ h1.symm
    blk_simp [idx1]
    rfl

theorem blk2 (t : Fin cfg0.N) (y : S4096x512.Idx) (k : S4096x1536.Idx) (h0 : (k 0).val = (y 0).val)
    (h1 : (k 1).val = (min (t.val - 8) 2) * 512 + (y 1).val) : iblk m c 2 t y = V m c main_arg2 k := by
  refine Eq.trans (b := V m c (Pipeline.arrRef spec0 2) (((cfg0.win 2).blk t).view.emb y)) rfl (congrArg (V m c main_arg2) (funext fun a => Fin.ext ?_))
  match a with
  | ⟨0, _⟩ =>
    refine Eq.trans ?_ h0.symm
    blk_simp [idx2]
    rfl
  | ⟨1, _⟩ =>
    refine Eq.trans ?_ h1.symm
    blk_simp [idx2]
    rfl

theorem blk3 (t : Fin cfg0.N) (y : S4096x512.Idx) (k : S4096x1536.Idx) (h0 : (k 0).val = (y 0).val)
    (h1 : (k 1).val = (min (t.val - 11) 2) * 512 + (y 1).val) : iblk m c 3 t y = V m c main_arg3 k := by
  refine Eq.trans (b := V m c (Pipeline.arrRef spec0 3) (((cfg0.win 3).blk t).view.emb y)) rfl (congrArg (V m c main_arg3) (funext fun a => Fin.ext ?_))
  match a with
  | ⟨0, _⟩ =>
    refine Eq.trans ?_ h0.symm
    blk_simp [idx3]
    rfl
  | ⟨1, _⟩ =>
    refine Eq.trans ?_ h1.symm
    blk_simp [idx3]
    rfl

theorem blk4 (t : Fin cfg0.N) (y : S4096x512.Idx) (k : S4096x2560.Idx) (h0 : (k 0).val = (y 0).val)
    (h1 : (k 1).val = (t.val - 14) * 512 + (y 1).val) : iblk m c 4 t y = V m c main_arg4 k := by
  refine Eq.trans (b := V m c (Pipeline.arrRef spec0 4) (((cfg0.win 4).blk t).view.emb y)) rfl (congrArg (V m c main_arg4) (funext fun a => Fin.ext ?_))
  match a with
  | ⟨0, _⟩ =>
    refine Eq.trans ?_ h0.symm
    blk_simp [idx4]
    rfl
  | ⟨1, _⟩ =>
    refine Eq.trans ?_ h1.symm
    blk_simp [idx4]
    rfl

/-- The gradient columns in the reference's order. -/
abbrev cols : FVec Ideal Cert.Reference2Ideal.S4096x9728 .bf16 :=
  Cert.Reference2Ideal.Read.val_main_v9 (F := Ideal) (V m c main_arg0) (V m c main_arg1) (V m c main_arg2) (V m c main_arg3) (V m c main_arg4)

theorem col0 (k : Cert.Reference2Ideal.S4096x9728.Idx) (l : S4096x2560.Idx) (h0 : (l 0).val = (k 0).val)
    (h1 : (l 1).val + 0 = (k 1).val + 0) (hl : 0 ≤ (k 1).val) (hu : (k 1).val < 2560) : cols m c k = V m c main_arg0 l := by
  unfold cols Cert.Reference2Ideal.Read.val_main_v9
  pointwise
  rw [dif_pos (by omega)]
  refine congrArg (V m c main_arg0) (funext fun a => Fin.ext ?_)
  match a with
  | ⟨0, _⟩ => exact h0.symm
  | ⟨1, _⟩ =>
    refine Eq.trans (b := (l 1).val) ?_ rfl
    simp
    omega

theorem col1 (k : Cert.Reference2Ideal.S4096x9728.Idx) (l : S4096x1536.Idx) (h0 : (l 0).val = (k 0).val)
    (h1 : (l 1).val + 2560 = (k 1).val + 0) (hl : 2560 ≤ (k 1).val) (hu : (k 1).val < 3072) : cols m c k = V m c main_arg1 l := by
  unfold cols Cert.Reference2Ideal.Read.val_main_v9
  pointwise
  rw [dif_neg (by omega), dif_pos (by omega)]
  unfold Cert.Reference2Ideal.Read.val_main_v0
  pointwise
  refine congrArg (V m c main_arg1) (funext fun a => Fin.ext ?_)
  match a with
  | ⟨0, _⟩ => exact h0.symm
  | ⟨1, _⟩ =>
    refine Eq.trans (b := (l 1).val) ?_ rfl
    simp
    omega

theorem col2 (k : Cert.Reference2Ideal.S4096x9728.Idx) (l : S4096x1536.Idx) (h0 : (l 0).val = (k 0).val)
    (h1 : (l 1).val + 3072 = (k 1).val + 0) (hl : 3072 ≤ (k 1).val) (hu : (k 1).val < 3584) : cols m c k = V m c main_arg2 l := by
  unfold cols Cert.Reference2Ideal.Read.val_main_v9
  pointwise
  rw [dif_neg (by omega), dif_neg (by omega), dif_pos (by omega)]
  unfold Cert.Reference2Ideal.Read.val_main_v1
  pointwise
  refine congrArg (V m c main_arg2) (funext fun a => Fin.ext ?_)
  match a with
  | ⟨0, _⟩ => exact h0.symm
  | ⟨1, _⟩ =>
    refine Eq.trans (b := (l 1).val) ?_ rfl
    simp
    omega

theorem col3 (k : Cert.Reference2Ideal.S4096x9728.Idx) (l : S4096x1536.Idx) (h0 : (l 0).val = (k 0).val)
    (h1 : (l 1).val + 3584 = (k 1).val + 0) (hl : 3584 ≤ (k 1).val) (hu : (k 1).val < 4096) : cols m c k = V m c main_arg3 l := by
  unfold cols Cert.Reference2Ideal.Read.val_main_v9
  pointwise
  rw [dif_neg (by omega), dif_neg (by omega), dif_neg (by omega), dif_pos (by omega)]
  unfold Cert.Reference2Ideal.Read.val_main_v2
  pointwise
  refine congrArg (V m c main_arg3) (funext fun a => Fin.ext ?_)
  match a with
  | ⟨0, _⟩ => exact h0.symm
  | ⟨1, _⟩ =>
    refine Eq.trans (b := (l 1).val) ?_ rfl
    simp
    omega

theorem col4 (k : Cert.Reference2Ideal.S4096x9728.Idx) (l : S4096x1536.Idx) (h0 : (l 0).val = (k 0).val)
    (h1 : (l 1).val + 4096 = (k 1).val + 512) (hl : 4096 ≤ (k 1).val) (hu : (k 1).val < 4608) : cols m c k = V m c main_arg1 l := by
  unfold cols Cert.Reference2Ideal.Read.val_main_v9
  pointwise
  rw [dif_neg (by omega), dif_neg (by omega), dif_neg (by omega), dif_neg (by omega), dif_pos (by omega)]
  unfold Cert.Reference2Ideal.Read.val_main_v3
  pointwise
  refine congrArg (V m c main_arg1) (funext fun a => Fin.ext ?_)
  match a with
  | ⟨0, _⟩ => exact h0.symm
  | ⟨1, _⟩ =>
    refine Eq.trans (b := (l 1).val) ?_ rfl
    simp
    omega

theorem col5 (k : Cert.Reference2Ideal.S4096x9728.Idx) (l : S4096x1536.Idx) (h0 : (l 0).val = (k 0).val)
    (h1 : (l 1).val + 4608 = (k 1).val + 512) (hl : 4608 ≤ (k 1).val) (hu : (k 1).val < 5120) : cols m c k = V m c main_arg2 l := by
  unfold cols Cert.Reference2Ideal.Read.val_main_v9
  pointwise
  rw [dif_neg (by omega), dif_neg (by omega), dif_neg (by omega), dif_neg (by omega), dif_neg (by omega), dif_pos (by omega)]
  unfold Cert.Reference2Ideal.Read.val_main_v4
  pointwise
  refine congrArg (V m c main_arg2) (funext fun a => Fin.ext ?_)
  match a with
  | ⟨0, _⟩ => exact h0.symm
  | ⟨1, _⟩ =>
    refine Eq.trans (b := (l 1).val) ?_ rfl
    simp
    omega

theorem col6 (k : Cert.Reference2Ideal.S4096x9728.Idx) (l : S4096x1536.Idx) (h0 : (l 0).val = (k 0).val)
    (h1 : (l 1).val + 5120 = (k 1).val + 512) (hl : 5120 ≤ (k 1).val) (hu : (k 1).val < 5632) : cols m c k = V m c main_arg3 l := by
  unfold cols Cert.Reference2Ideal.Read.val_main_v9
  pointwise
  rw [dif_neg (by omega), dif_neg (by omega), dif_neg (by omega), dif_neg (by omega), dif_neg (by omega), dif_neg (by omega), dif_pos (by omega)]
  unfold Cert.Reference2Ideal.Read.val_main_v5
  pointwise
  refine congrArg (V m c main_arg3) (funext fun a => Fin.ext ?_)
  match a with
  | ⟨0, _⟩ => exact h0.symm
  | ⟨1, _⟩ =>
    refine Eq.trans (b := (l 1).val) ?_ rfl
    simp
    omega

theorem col7 (k : Cert.Reference2Ideal.S4096x9728.Idx) (l : S4096x1536.Idx) (h0 : (l 0).val = (k 0).val)
    (h1 : (l 1).val + 5632 = (k 1).val + 1024) (hl : 5632 ≤ (k 1).val) (hu : (k 1).val < 6144) : cols m c k = V m c main_arg1 l := by
  unfold cols Cert.Reference2Ideal.Read.val_main_v9
  pointwise
  rw [dif_neg (by omega), dif_neg (by omega), dif_neg (by omega), dif_neg (by omega), dif_neg (by omega), dif_neg (by omega), dif_neg (by omega), dif_pos (by omega)]
  unfold Cert.Reference2Ideal.Read.val_main_v6
  pointwise
  refine congrArg (V m c main_arg1) (funext fun a => Fin.ext ?_)
  match a with
  | ⟨0, _⟩ => exact h0.symm
  | ⟨1, _⟩ =>
    refine Eq.trans (b := (l 1).val) ?_ rfl
    simp
    omega

theorem col8 (k : Cert.Reference2Ideal.S4096x9728.Idx) (l : S4096x1536.Idx) (h0 : (l 0).val = (k 0).val)
    (h1 : (l 1).val + 6144 = (k 1).val + 1024) (hl : 6144 ≤ (k 1).val) (hu : (k 1).val < 6656) : cols m c k = V m c main_arg2 l := by
  unfold cols Cert.Reference2Ideal.Read.val_main_v9
  pointwise
  rw [dif_neg (by omega), dif_neg (by omega), dif_neg (by omega), dif_neg (by omega), dif_neg (by omega), dif_neg (by omega), dif_neg (by omega), dif_neg (by omega), dif_pos (by omega)]
  unfold Cert.Reference2Ideal.Read.val_main_v7
  pointwise
  refine congrArg (V m c main_arg2) (funext fun a => Fin.ext ?_)
  match a with
  | ⟨0, _⟩ => exact h0.symm
  | ⟨1, _⟩ =>
    refine Eq.trans (b := (l 1).val) ?_ rfl
    simp
    omega

theorem col9 (k : Cert.Reference2Ideal.S4096x9728.Idx) (l : S4096x1536.Idx) (h0 : (l 0).val = (k 0).val)
    (h1 : (l 1).val + 6656 = (k 1).val + 1024) (hl : 6656 ≤ (k 1).val) (hu : (k 1).val < 7168) : cols m c k = V m c main_arg3 l := by
  unfold cols Cert.Reference2Ideal.Read.val_main_v9
  pointwise
  rw [dif_neg (by omega), dif_neg (by omega), dif_neg (by omega), dif_neg (by omega), dif_neg (by omega), dif_neg (by omega), dif_neg (by omega), dif_neg (by omega), dif_neg (by omega), dif_pos (by omega)]
  unfold Cert.Reference2Ideal.Read.val_main_v8
  pointwise
  refine congrArg (V m c main_arg3) (funext fun a => Fin.ext ?_)
  match a with
  | ⟨0, _⟩ => exact h0.symm
  | ⟨1, _⟩ =>
    refine Eq.trans (b := (l 1).val) ?_ rfl
    simp
    omega

theorem col10 (k : Cert.Reference2Ideal.S4096x9728.Idx) (l : S4096x2560.Idx) (h0 : (l 0).val = (k 0).val)
    (h1 : (l 1).val + 7168 = (k 1).val + 0) (hl : 7168 ≤ (k 1).val) (hu : (k 1).val < 9728) : cols m c k = V m c main_arg4 l := by
  unfold cols Cert.Reference2Ideal.Read.val_main_v9
  pointwise
  rw [dif_neg (by omega), dif_neg (by omega), dif_neg (by omega), dif_neg (by omega), dif_neg (by omega), dif_neg (by omega), dif_neg (by omega), dif_neg (by omega), dif_neg (by omega), dif_neg (by omega)]
  refine congrArg (V m c main_arg4) (funext fun a => Fin.ext ?_)
  match a with
  | ⟨0, _⟩ => exact h0.symm
  | ⟨1, _⟩ =>
    refine Eq.trans (b := (l 1).val) ?_ rfl
    simp
    omega

end Cert.Proof.Dw
end
-- ==== Proof.DwLeft.lean ====
module

public import proofs.«01_k».proof.Proof.DwOut
public import proofs.«01_k».proof.Proof.Gen.Reference2Ideal.Read

@[expose] public section

set_option maxRecDepth 16384

noncomputable section

namespace Cert.Proof.Dw

/-! The weight gradient of the input projection: each grid point multiplies one block of 512
gradient columns, wherever the five pieces keep it, by the normalised input, and writes the
product at the block of rows the reference's concatenation gives these columns. -/

open Idealize.ShloMosaic Cert.Kernel2Ideal Cert.Kernel2Ideal.Gen
open Cert.ReferenceIdeal hiding nD τ sig

variable (m : (ℓ : Loc nD τ sig) → Buf (Elt Ideal) ℓ) (c : Dev nD)

/-- The block of 512 gradient columns that point `t` multiplies. -/
def slab (t : Fin cfg0.N) : FVec Ideal S4096x512 .bf16 :=
  if t.val < 5 then iblk m c 0 t else if t.val < 8 then iblk m c 1 t else if t.val < 11 then iblk m c 2 t
  else if t.val < 14 then iblk m c 3 t else iblk m c 4 t

/-- The normalised input. -/
abbrev hn : FVec Ideal S4096x1024 .bf16 := V m c main_arg5

theorem lt19 (t : Fin cfg0.N) : t.val < 19 := lt_of_lt_of_eq t.isLt N_0

theorem pay3_eq : @k0_pay3 = @k0_pay1 := rfl
theorem pay4_eq : @k0_pay4 = @k0_pay2 := rfl
theorem pay5_eq : @k0_pay5 = @k0_pay1 := rfl
theorem pay6_eq : @k0_pay6 = @k0_pay2 := rfl
theorem pay7_eq : @k0_pay7 = @k0_pay1 := rfl
theorem pay8_eq : @k0_pay8 = @k0_pay2 := rfl
theorem pay9_eq : @k0_pay9 = @k0_pay1 := rfl
theorem pay10_eq : @k0_pay10 = @k0_pay2 := rfl

theorem scratch (n : ℕ) (h : n < cfg0.N) : (outsAt0 m c n h).2.2 = hn m c := by
  induction n with
  | zero =>
    refine (congrArg (·.2.2) (outsAt0_A m c ⟨0, h⟩ (by simp) (by simp only; omega) (by simp only; omega) (by simp only; omega) (by simp only; omega) (by simp only; omega))).trans ?_
    dsimp only
    rw [soutA]
  | succ n ih =>
    have hlt := lt19 ⟨n + 1, h⟩
    have e := ih (Nat.lt_of_succ_lt h)
    refine Eq.trans ?_ e
    simp only at hlt
    by_cases h1 : n + 1 < 5
    · exact congrArg (·.2.2) (outsAt0_B m c ⟨n + 1, h⟩ (by simp only; omega) h1 (by simp only; omega) (by simp only; omega) (by simp only; omega) (by simp only; omega))
    by_cases h2 : n + 1 < 8
    · exact congrArg (·.2.2) (outsAt0_C m c ⟨n + 1, h⟩ (by simp only; omega) h1 (by simp only; omega) (by simp only; omega) (by simp only; omega) (by simp only; omega))
    by_cases h3 : n + 1 < 11
    · exact congrArg (·.2.2) (outsAt0_D m c ⟨n + 1, h⟩ (by simp only; omega) h1 (by simp only; omega) (by simp only; omega) (by simp only; omega) (by simp only; omega))
    by_cases h4 : n + 1 < 14
    · exact congrArg (·.2.2) (outsAt0_E m c ⟨n + 1, h⟩ (by simp only; omega) h1 (by simp only; omega) (by simp only; omega) (by simp only; omega) (by simp only; omega))
    · exact congrArg (·.2.2) (outsAt0_F m c ⟨n + 1, h⟩ (by simp only; omega) h1 (by simp only; omega) (by simp only; omega) (by simp only; omega) (by simp only; omega))

theorem left5 (t : Fin cfg0.N) : (outsAt0 m c t.val t.isLt).1 = k0_pay1 (F := Ideal) (slab m c t) (hn m c) := by
  have hlt := lt19 t
  have hs (h) : (outsAt0 m c (t.val - 1) h).2.2 = hn m c := scratch m c _ _
  unfold slab
  by_cases h0 : t.val = 0
  · rw [if_pos (by omega), outsAt0_A m c t (by omega) (by omega) (by omega) (by omega) (by omega) (by omega)]
    dsimp only
    rw [outA5]
  by_cases h1 : t.val < 5
  · rw [if_pos h1, outsAt0_B m c t (by omega) (by omega) (by omega) (by omega) (by omega) (by omega)]
    dsimp only
    rw [outB5, hs]
  rw [if_neg h1]
  by_cases h2 : t.val < 8
  · rw [if_pos h2, outsAt0_C m c t (by omega) (by omega) (by omega) (by omega) (by omega) (by omega)]
    dsimp only
    rw [outC5, hs, pay3_eq]
  rw [if_neg h2]
  by_cases h3 : t.val < 11
  · rw [if_pos h3, outsAt0_D m c t (by omega) (by omega) (by omega) (by omega) (by omega) (by omega)]
    dsimp only
    rw [outD5, hs, pay5_eq]
  rw [if_neg h3]
  by_cases h4 : t.val < 14
  · rw [if_pos h4, outsAt0_E m c t (by omega) (by omega) (by omega) (by omega) (by omega) (by omega)]
    dsimp only
    rw [outE5, hs, pay7_eq]
  rw [if_neg h4, outsAt0_F m c t (by omega) (by omega) (by omega) (by omega) (by omega) (by omega)]
  dsimp only
  rw [outF5, hs, pay9_eq]

theorem left6 (t : Fin cfg0.N) : (outsAt0 m c t.val t.isLt).2.1 = k0_pay2 (F := Ideal) (slab m c t) := by
  have hlt := lt19 t
  unfold slab
  by_cases h0 : t.val = 0
  · rw [if_pos (by omega), outsAt0_A m c t (by omega) (by omega) (by omega) (by omega) (by omega) (by omega)]
    dsimp only
    rw [outA6]
  by_cases h1 : t.val < 5
  · rw [if_pos h1, outsAt0_B m c t (by omega) (by omega) (by omega) (by omega) (by omega) (by omega)]
    dsimp only
    rw [outB6]
  rw [if_neg h1]
  by_cases h2 : t.val < 8
  · rw [if_pos h2, outsAt0_C m c t (by omega) (by omega) (by omega) (by omega) (by omega) (by omega)]
    dsimp only
    rw [outC6, pay4_eq]
  rw [if_neg h2]
  by_cases h3 : t.val < 11
  · rw [if_pos h3, outsAt0_D m c t (by omega) (by omega) (by omega) (by omega) (by omega) (by omega)]
    dsimp only
    rw [outD6, pay6_eq]
  rw [if_neg h3]
  by_cases h4 : t.val < 14
  · rw [if_pos h4, outsAt0_E m c t (by omega) (by omega) (by omega) (by omega) (by omega) (by omega)]
    dsimp only
    rw [outE6, pay8_eq]
  rw [if_neg h4, outsAt0_F m c t (by omega) (by omega) (by omega) (by omega) (by omega) (by omega)]
  dsimp only
  rw [outF6, pay10_eq]

end Cert.Proof.Dw
end
-- ==== Proof.DwCols.lean ====
module

public import proofs.«01_k».proof.Proof.DwBlk
public import proofs.«01_k».proof.Proof.DwLeft
public import proofs.«01_k».proof.Proof.Gen.Reference2Ideal.Read

@[expose] public section

set_option maxRecDepth 16384

noncomputable section

namespace Cert.Proof.Dw

/-! The weight gradient of the input projection: each grid point multiplies one block of 512
gradient columns, wherever the five pieces keep it, by the normalised input, and writes the
product at the block of rows the reference's concatenation gives these columns. -/

open Idealize.ShloMosaic Cert.Kernel2Ideal Cert.Kernel2Ideal.Gen
open Cert.ReferenceIdeal hiding nD τ sig

variable (m : (ℓ : Loc nD τ sig) → Buf (Elt Ideal) ℓ) (c : Dev nD)

set_option maxHeartbeats 1000000 in
theorem slab_at (t : Fin cfg0.N) (y : S4096x512.Idx) (k : Cert.Reference2Ideal.S4096x9728.Idx) (h0 : (k 0).val = (y 0).val)
    (h1 : (k 1).val = perm t.val * 512 + (y 1).val) : slab m c t y = cols m c k := by
  have hy : (y 1).val < 512 := (y 1).isLt
  obtain ⟨t, ht⟩ := t
  have hlt : t < 19 := lt19 ⟨t, ht⟩
  interval_cases t
  · replace h1 : (k 1).val = 0 * 512 + (y 1).val := h1.trans (congrArg (fun n => n * 512 + (y 1).val) (by decide : perm 0 = 0))
    let l : S4096x2560.Idx := ix2 ⟨(y 0).val, (y 0).isLt⟩ ⟨0 * 512 + (y 1).val, by omega⟩
    have e : (l 1).val = 0 * 512 + (y 1).val := rfl
    refine Eq.trans (b := iblk m c 0 ⟨0, ht⟩ y) rfl ?_
    exact (blk0 m c ⟨0, ht⟩ y l rfl e).trans (col0 m c k l h0.symm (by omega) (by omega) (by omega)).symm
  · replace h1 : (k 1).val = 1 * 512 + (y 1).val := h1.trans (congrArg (fun n => n * 512 + (y 1).val) (by decide : perm 1 = 1))
    let l : S4096x2560.Idx := ix2 ⟨(y 0).val, (y 0).isLt⟩ ⟨1 * 512 + (y 1).val, by omega⟩
    have e : (l 1).val = 1 * 512 + (y 1).val := rfl
    refine Eq.trans (b := iblk m c 0 ⟨1, ht⟩ y) rfl ?_
    exact (blk0 m c ⟨1, ht⟩ y l rfl e).trans (col0 m c k l h0.symm (by omega) (by omega) (by omega)).symm
  · replace h1 : (k 1).val = 2 * 512 + (y 1).val := h1.trans (congrArg (fun n => n * 512 + (y 1).val) (by decide : perm 2 = 2))
    let l : S4096x2560.Idx := ix2 ⟨(y 0).val, (y 0).isLt⟩ ⟨2 * 512 + (y 1).val, by omega⟩
    have e : (l 1).val = 2 * 512 + (y 1).val := rfl
    refine Eq.trans (b := iblk m c 0 ⟨2, ht⟩ y) rfl ?_
    exact (blk0 m c ⟨2, ht⟩ y l rfl e).trans (col0 m c k l h0.symm (by omega) (by omega) (by omega)).symm
  · replace h1 : (k 1).val = 3 * 512 + (y 1).val := h1.trans (congrArg (fun n => n * 512 + (y 1).val) (by decide : perm 3 = 3))
    let l : S4096x2560.Idx := ix2 ⟨(y 0).val, (y 0).isLt⟩ ⟨3 * 512 + (y 1).val, by omega⟩
    have e : (l 1).val = 3 * 512 + (y 1).val := rfl
    refine Eq.trans (b := iblk m c 0 ⟨3, ht⟩ y) rfl ?_
    exact (blk0 m c ⟨3, ht⟩ y l rfl e).trans (col0 m c k l h0.symm (by omega) (by omega) (by omega)).symm
  · replace h1 : (k 1).val = 4 * 512 + (y 1).val := h1.trans (congrArg (fun n => n * 512 + (y 1).val) (by decide : perm 4 = 4))
    let l : S4096x2560.Idx := ix2 ⟨(y 0).val, (y 0).isLt⟩ ⟨4 * 512 + (y 1).val, by omega⟩
    have e : (l 1).val = 4 * 512 + (y 1).val := rfl
    refine Eq.trans (b := iblk m c 0 ⟨4, ht⟩ y) rfl ?_
    exact (blk0 m c ⟨4, ht⟩ y l rfl e).trans (col0 m c k l h0.symm (by omega) (by omega) (by omega)).symm
  · replace h1 : (k 1).val = 5 * 512 + (y 1).val := h1.trans (congrArg (fun n => n * 512 + (y 1).val) (by decide : perm 5 = 5))
    let l : S4096x1536.Idx := ix2 ⟨(y 0).val, (y 0).isLt⟩ ⟨0 * 512 + (y 1).val, by omega⟩
    have e : (l 1).val = 0 * 512 + (y 1).val := rfl
    refine Eq.trans (b := iblk m c 1 ⟨5, ht⟩ y) rfl ?_
    exact (blk1 m c ⟨5, ht⟩ y l rfl e).trans (col1 m c k l h0.symm (by omega) (by omega) (by omega)).symm
  · replace h1 : (k 1).val = 8 * 512 + (y 1).val := h1.trans (congrArg (fun n => n * 512 + (y 1).val) (by decide : perm 6 = 8))
    let l : S4096x1536.Idx := ix2 ⟨(y 0).val, (y 0).isLt⟩ ⟨1 * 512 + (y 1).val, by omega⟩
    have e : (l 1).val = 1 * 512 + (y 1).val := rfl
    refine Eq.trans (b := iblk m c 1 ⟨6, ht⟩ y) rfl ?_
    exact (blk1 m c ⟨6, ht⟩ y l rfl e).trans (col4 m c k l h0.symm (by omega) (by omega) (by omega)).symm
  · replace h1 : (k 1).val = 11 * 512 + (y 1).val := h1.trans (congrArg (fun n => n * 512 + (y 1).val) (by decide : perm 7 = 11))
    let l : S4096x1536.Idx := ix2 ⟨(y 0).val, (y 0).isLt⟩ ⟨2 * 512 + (y 1).val, by omega⟩
    have e : (l 1).val = 2 * 512 + (y 1).val := rfl
    refine Eq.trans (b := iblk m c 1 ⟨7, ht⟩ y) rfl ?_
    exact (blk1 m c ⟨7, ht⟩ y l rfl e).trans (col7 m c k l h0.symm (by omega) (by omega) (by omega)).symm
  · replace h1 : (k 1).val = 6 * 512 + (y 1).val := h1.trans (congrArg (fun n => n * 512 + (y 1).val) (by decide : perm 8 = 6))
    let l : S4096x1536.Idx := ix2 ⟨(y 0).val, (y 0).isLt⟩ ⟨0 * 512 + (y 1).val, by omega⟩
    have e : (l 1).val = 0 * 512 + (y 1).val := rfl
    refine Eq.trans (b := iblk m c 2 ⟨8, ht⟩ y) rfl ?_
    exact (blk2 m c ⟨8, ht⟩ y l rfl e).trans (col2 m c k l h0.symm (by omega) (by omega) (by omega)).symm
  · replace h1 : (k 1).val = 9 * 512 + (y 1).val := h1.trans (congrArg (fun n => n * 512 + (y 1).val) (by decide : perm 9 = 9))
    let l : S4096x1536.Idx := ix2 ⟨(y 0).val, (y 0).isLt⟩ ⟨1 * 512 + (y 1).val, by omega⟩
    have e : (l 1).val = 1 * 512 + (y 1).val := rfl
    refine Eq.trans (b := iblk m c 2 ⟨9, ht⟩ y) rfl ?_
    exact (blk2 m c ⟨9, ht⟩ y l rfl e).trans (col5 m c k l h0.symm (by omega) (by omega) (by omega)).symm
  · replace h1 : (k 1).val = 12 * 512 + (y 1).val := h1.trans (congrArg (fun n => n * 512 + (y 1).val) (by decide : perm 10 = 12))
    let l : S4096x1536.Idx := ix2 ⟨(y 0).val, (y 0).isLt⟩ ⟨2 * 512 + (y 1).val, by omega⟩
    have e : (l 1).val = 2 * 512 + (y 1).val := rfl
    refine Eq.trans (b := iblk m c 2 ⟨10, ht⟩ y) rfl ?_
    exact (blk2 m c ⟨10, ht⟩ y l rfl e).trans (col8 m c k l h0.symm (by omega) (by omega) (by omega)).symm
  · replace h1 : (k 1).val = 7 * 512 + (y 1).val := h1.trans (congrArg (fun n => n * 512 + (y 1).val) (by decide : perm 11 = 7))
    let l : S4096x1536.Idx := ix2 ⟨(y 0).val, (y 0).isLt⟩ ⟨0 * 512 + (y 1).val, by omega⟩
    have e : (l 1).val = 0 * 512 + (y 1).val := rfl
    refine Eq.trans (b := iblk m c 3 ⟨11, ht⟩ y) rfl ?_
    exact (blk3 m c ⟨11, ht⟩ y l rfl e).trans (col3 m c k l h0.symm (by omega) (by omega) (by omega)).symm
  · replace h1 : (k 1).val = 10 * 512 + (y 1).val := h1.trans (congrArg (fun n => n * 512 + (y 1).val) (by decide : perm 12 = 10))
    let l : S4096x1536.Idx := ix2 ⟨(y 0).val, (y 0).isLt⟩ ⟨1 * 512 + (y 1).val, by omega⟩
    have e : (l 1).val = 1 * 512 + (y 1).val := rfl
    refine Eq.trans (b := iblk m c 3 ⟨12, ht⟩ y) rfl ?_
    exact (blk3 m c ⟨12, ht⟩ y l rfl e).trans (col6 m c k l h0.symm (by omega) (by omega) (by omega)).symm
  · replace h1 : (k 1).val = 13 * 512 + (y 1).val := h1.trans (congrArg (fun n => n * 512 + (y 1).val) (by decide : perm 13 = 13))
    let l : S4096x1536.Idx := ix2 ⟨(y 0).val, (y 0).isLt⟩ ⟨2 * 512 + (y 1).val, by omega⟩
    have e : (l 1).val = 2 * 512 + (y 1).val := rfl
    refine Eq.trans (b := iblk m c 3 ⟨13, ht⟩ y) rfl ?_
    exact (blk3 m c ⟨13, ht⟩ y l rfl e).trans (col9 m c k l h0.symm (by omega) (by omega) (by omega)).symm
  · replace h1 : (k 1).val = 14 * 512 + (y 1).val := h1.trans (congrArg (fun n => n * 512 + (y 1).val) (by decide : perm 14 = 14))
    let l : S4096x2560.Idx := ix2 ⟨(y 0).val, (y 0).isLt⟩ ⟨0 * 512 + (y 1).val, by omega⟩
    have e : (l 1).val = 0 * 512 + (y 1).val := rfl
    refine Eq.trans (b := iblk m c 4 ⟨14, ht⟩ y) rfl ?_
    exact (blk4 m c ⟨14, ht⟩ y l rfl e).trans (col10 m c k l h0.symm (by omega) (by omega) (by omega)).symm
  · replace h1 : (k 1).val = 15 * 512 + (y 1).val := h1.trans (congrArg (fun n => n * 512 + (y 1).val) (by decide : perm 15 = 15))
    let l : S4096x2560.Idx := ix2 ⟨(y 0).val, (y 0).isLt⟩ ⟨1 * 512 + (y 1).val, by omega⟩
    have e : (l 1).val = 1 * 512 + (y 1).val := rfl
    refine Eq.trans (b := iblk m c 4 ⟨15, ht⟩ y) rfl ?_
    exact (blk4 m c ⟨15, ht⟩ y l rfl e).trans (col10 m c k l h0.symm (by omega) (by omega) (by omega)).symm
  · replace h1 : (k 1).val = 16 * 512 + (y 1).val := h1.trans (congrArg (fun n => n * 512 + (y 1).val) (by decide : perm 16 = 16))
    let l : S4096x2560.Idx := ix2 ⟨(y 0).val, (y 0).isLt⟩ ⟨2 * 512 + (y 1).val, by omega⟩
    have e : (l 1).val = 2 * 512 + (y 1).val := rfl
    refine Eq.trans (b := iblk m c 4 ⟨16, ht⟩ y) rfl ?_
    exact (blk4 m c ⟨16, ht⟩ y l rfl e).trans (col10 m c k l h0.symm (by omega) (by omega) (by omega)).symm
  · replace h1 : (k 1).val = 17 * 512 + (y 1).val := h1.trans (congrArg (fun n => n * 512 + (y 1).val) (by decide : perm 17 = 17))
    let l : S4096x2560.Idx := ix2 ⟨(y 0).val, (y 0).isLt⟩ ⟨3 * 512 + (y 1).val, by omega⟩
    have e : (l 1).val = 3 * 512 + (y 1).val := rfl
    refine Eq.trans (b := iblk m c 4 ⟨17, ht⟩ y) rfl ?_
    exact (blk4 m c ⟨17, ht⟩ y l rfl e).trans (col10 m c k l h0.symm (by omega) (by omega) (by omega)).symm
  · replace h1 : (k 1).val = 18 * 512 + (y 1).val := h1.trans (congrArg (fun n => n * 512 + (y 1).val) (by decide : perm 18 = 18))
    let l : S4096x2560.Idx := ix2 ⟨(y 0).val, (y 0).isLt⟩ ⟨4 * 512 + (y 1).val, by omega⟩
    have e : (l 1).val = 4 * 512 + (y 1).val := rfl
    refine Eq.trans (b := iblk m c 4 ⟨18, ht⟩ y) rfl ?_
    exact (blk4 m c ⟨18, ht⟩ y l rfl e).trans (col10 m c k l h0.symm (by omega) (by omega) (by omega)).symm

theorem pay1_at (s : FVec Ideal S4096x512 .bf16) (h : FVec Ideal S4096x1024 .bf16) (j : S512x1024.Idx) :
    k0_pay1 (F := Ideal) s h j = ∑ k : Fin 4096, s (ix2 k (j 0)) * h (ix2 k (j 1)) := by
  unfold k0_pay1
  pointwise

theorem pay2_at (s : FVec Ideal S4096x512 .bf16) (j : S1x512.Idx) :
    k0_pay2 (F := Ideal) s j = ∑ k : Fin 4096, s (ix2 k (j 1)) := by
  unfold k0_pay2
  pointwise

end Cert.Proof.Dw
end
-- ==== Proof.DwSame.lean ====
module

public import proofs.«01_k».proof.Proof.DwCols

@[expose] public section

set_option maxRecDepth 16384

noncomputable section

namespace Cert.Proof.Dw

/-! The two arrays after the run are the reference's. -/

open Idealize.ShloMosaic Cert.Kernel2Ideal Cert.Kernel2Ideal.Gen
open Cert.Reference2Ideal.Read

variable (m : (ℓ : Loc nD τ sig) → Buf (Elt Ideal) ℓ) (c : Dev nD)

/-- The reference's weight gradient at an index. -/
theorem v22_at (i : Cert.Reference2Ideal.S9728x1024.Idx) :
    val_main_v22 (F := Ideal) (V m c main_arg0) (V m c main_arg1) (V m c main_arg2) (V m c main_arg3) (V m c main_arg4) (V m c main_arg5) i
      = ∑ k : Fin 4096, cols m c (ix2 k (i 0)) * hn m c (ix2 k (i 1)) := by
  rw [val_main_v22_apply, val_main_v21_apply, val_main_v20_apply]
  refine (val_main_v19_apply _ _ _ _ _ _ _).trans (Finset.sum_congr rfl fun k _ => congrArg₂ (· * ·) ?_ ?_)
  · rw [val_main_v10_apply]
    exact congrArg (cols m c) (funext fun a => by match a with | ⟨0, _⟩ => rfl | ⟨1, _⟩ => rfl)
  · rw [val_main_v13_apply]
    exact congrArg (hn m c) (funext fun a => by match a with | ⟨0, _⟩ => rfl | ⟨1, _⟩ => rfl)

/-- The reference's bias gradient at an index. -/
theorem v18_at (i : Cert.Reference2Ideal.S1x9728.Idx) :
    val_main_v18 (F := Ideal) (V m c main_arg0) (V m c main_arg1) (V m c main_arg2) (V m c main_arg3) (V m c main_arg4) i
      = ∑ k : Fin 4096, cols m c (ix2 k (i 1)) := by
  unfold val_main_v18 val_main_v17 val_main_v10 val_main_cst_1
  pointwise

theorem prod_at (t : Fin cfg0.N) (y : S512x1024.Idx) (i : Cert.Reference2Ideal.S9728x1024.Idx)
    (h0 : (i 0).val = perm t.val * 512 + (y 0).val) (h1 : (i 1).val = (y 1).val) :
    k0_pay1 (F := Ideal) (slab m c t) (hn m c) y
      = val_main_v22 (F := Ideal) (V m c main_arg0) (V m c main_arg1) (V m c main_arg2) (V m c main_arg3) (V m c main_arg4) (V m c main_arg5) i := by
  rw [pay1_at, v22_at]
  exact Finset.sum_congr rfl fun k _ => congrArg₂ (· * ·) (slab_at m c t _ _ rfl h0)
    (congrArg (hn m c) (funext fun a => Fin.ext (by match a with | ⟨0, _⟩ => rfl | ⟨1, _⟩ => exact h1.symm)))

theorem sum_at (t : Fin cfg0.N) (y : S1x512.Idx) (i : Cert.Reference2Ideal.S1x9728.Idx)
    (h1 : (i 1).val = perm t.val * 512 + (y 1).val) :
    k0_pay2 (F := Ideal) (slab m c t) y
      = val_main_v18 (F := Ideal) (V m c main_arg0) (V m c main_arg1) (V m c main_arg2) (V m c main_arg3) (V m c main_arg4) i := by
  rw [pay2_at, v18_at]
  exact Finset.sum_congr rfl fun k _ => slab_at m c t _ _ rfl h1

theorem arr5 : (dats m 0 c).arrAt 5 cfg0.N
    = val_main_v22 (F := Ideal) (V m c main_arg0) (V m c main_arg1) (V m c main_arg2) (V m c main_arg3) (V m c main_arg4) (V m c main_arg5) := by
  refine (dats m 0 c).arrAt_eq_of_covers 5 _ (by decide +kernel) fun t hf y => ?_
  rw [after0_5, left5]
  refine prod_at m c t y _ ?_ ?_
  · blk_simp [idx5]
  · blk_simp [idx5]

theorem arr6 : (dats m 0 c).arrAt 6 cfg0.N
    = val_main_v18 (F := Ideal) (V m c main_arg0) (V m c main_arg1) (V m c main_arg2) (V m c main_arg3) (V m c main_arg4) := by
  refine (dats m 0 c).arrAt_eq_of_covers 6 _ (by decide +kernel) fun t hf y => ?_
  rw [after0_6, left6]
  refine sum_at m c t y _ ?_
  blk_simp [idx6]

end Cert.Proof.Dw
end
-- ==== Proof.Mm3.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.WholeRead

@[expose] public section

set_option maxRecDepth 16384

noncomputable section

namespace Cert.Proof.Mm3

/-! The weight gradient of the recurrent branch's output projection: each grid point multiplies 640 columns. -/

open Idealize.ShloMosaic Cert.Kernel3Ideal Cert.Kernel3Ideal.Gen
open Cert.Reference3Ideal.Read

section
variable {F : FTy → Type} [FloatOps F]

theorem load0 (M : Memref sig .tc .vmem S4096x640 .bf16) (h : M.IsWhole) (x : Vec F S4096x640 .bf16) (inb) :
    View.readAt (Elt F) M.view (Rect.unit (s := S4096x640) ![0, 0] S4096x640.size inb).toLoadRect (h.unread x) = x := by
  funext j
  refine (h.readAt_unread x _ j).trans (congrArg x (funext fun a => Fin.ext ?_))
  fin_cases a <;> simp

theorem load1 (M : Memref sig .tc .vmem S4096x1024 .bf16) (h : M.IsWhole) (x : Vec F S4096x1024 .bf16) (inb) :
    View.readAt (Elt F) M.view (Rect.unit (s := S4096x1024) ![0, 0] S4096x1024.size inb).toLoadRect (h.unread x) = x := by
  funext j
  refine (h.readAt_unread x _ j).trans (congrArg x (funext fun a => Fin.ext ?_))
  fin_cases a <;> simp

theorem outA (c : Dev nD) (i : grid0.Coords) (arg2 : Memref sig .tc .vmem S4096x640 .bf16) (harg2 : arg2.IsWhole) (arg3 : Memref sig .tc .vmem S4096x1024 .bf16) (harg3 : arg3.IsWhole) (arg4 : Memref sig .tc .vmem S640x1024 .bf16) (harg4 : arg4.IsWhole) (arg5 : Memref sig .tc .vmem S640x1024 .f32) (harg5 : arg5.IsWhole)
    (x0 : Vec F S4096x640 .bf16) (x1 : Vec F S4096x1024 .bf16) : out0_A_2 c i arg2 harg2 arg3 harg3 arg4 harg4 arg5 harg5 x0 x1 = k0_pay1 x0 x1 := by
  unfold out0_A_2
  rw [View.read_writes_junk_eq_canon]
  refine (View.canon_cons_unit_lit _ _ _ (by decide)).trans ?_
  exact congrArg₂ k0_pay1 (load0 arg2 harg2 x0 _) (load1 arg3 harg3 x1 _)

end

variable (m : (ℓ : Loc nD τ sig) → Buf (Elt Ideal) ℓ) (c : Dev nD)

/-- The left and right operands. -/
abbrev A0 : FVec Ideal S4096x1280 .bf16 := V m c main_arg0
abbrev A1 : FVec Ideal S4096x1024 .bf16 := V m c main_arg1

theorem left (t : Fin cfg0.N) : outsAt0 m c t = k0_pay1 (F := Ideal) (iblk m c 0 t) (iblk m c 1 t) := by
  unfold outsAt0
  rw [outA]

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem blk0 (t : Fin cfg0.N) (y : S4096x640.Idx) (k : S4096x1280.Idx) (h0 : (k 0).val = (y 0).val)
    (h1 : (k 1).val = t.val * 640 + (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    rfl
  | ⟨1, _⟩ =>
    refine Eq.trans ?_ h1.symm
    blk_simp [idx0]
    rfl

theorem blk1 (t : Fin cfg0.N) (y k : S4096x1024.Idx) (h0 : (k 0).val = (y 0).val) (h1 : (k 1).val = (y 1).val) :
    iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    rfl
  | ⟨1, _⟩ =>
    refine Eq.trans ?_ h1.symm
    blk_simp [idx1]
    rfl

theorem pay_at (a : FVec Ideal S4096x640 .bf16) (b : FVec Ideal S4096x1024 .bf16) (j : S640x1024.Idx) :
    k0_pay1 (F := Ideal) a b j = ∑ k : Fin 4096, a (ix2 k (j 0)) * b (ix2 k (j 1)) := by
  unfold k0_pay1
  pointwise

/-- The reference's weight gradient at an index. -/
theorem ref_at (i : Cert.Reference3Ideal.S1280x1024.Idx) :
    val_main_v6 (F := Ideal) (V m c main_arg0) (V m c main_arg1) i
      = ∑ k : Fin 4096, A0 m c (ix2 k (i 0)) * A1 m c (ix2 k (i 1)) := by
  unfold val_main_v6 val_main_v5 val_main_v4 val_main_v3 val_main_v1
  pointwise
  exact Finset.sum_congr rfl fun k _ => mul_comm _ _

theorem prod_at (t : Fin cfg0.N) (y : S640x1024.Idx) (i : Cert.Reference3Ideal.S1280x1024.Idx)
    (h0 : (i 0).val = t.val * 640 + (y 0).val) (h1 : (i 1).val = (y 1).val) :
    k0_pay1 (F := Ideal) (iblk m c 0 t) (iblk m c 1 t) y = val_main_v6 (F := Ideal) (V m c main_arg0) (V m c main_arg1) i := by
  rw [pay_at, ref_at]
  exact Finset.sum_congr rfl fun k _ => congrArg₂ (fun a b : EReal => a * b) (blk0 m c t _ _ rfl h0) (blk1 m c t _ _ rfl h1)

theorem arr : (dats m 0 c).arrAt 2 cfg0.N = val_main_v6 (F := Ideal) (V m c main_arg0) (V m c main_arg1) := by
  refine (dats m 0 c).arrAt_eq_of_covers 2 _ (by decide +kernel) fun t hf y => ?_
  rw [after0_2, left]
  refine prod_at m c t y _ ?_ ?_
  · blk_simp [idx2]
  · blk_simp [idx2]

end Cert.Proof.Mm3
end
-- ==== Proof.Mm4.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.WholeRead

@[expose] public section

set_option maxRecDepth 16384

noncomputable section

namespace Cert.Proof.Mm4

/-! The weight gradient of the attention's output projection, transposed: each grid point multiplies 512 columns. -/

open Idealize.ShloMosaic Cert.Kernel4Ideal Cert.Kernel4Ideal.Gen
open Cert.Reference4Ideal.Read

section
variable {F : FTy → Type} [FloatOps F]

theorem load0 (M : Memref sig .tc .vmem S4096x512 .bf16) (h : M.IsWhole) (x : Vec F S4096x512 .bf16) (inb) :
    View.readAt (Elt F) M.view (Rect.unit (s := S4096x512) ![0, 0] S4096x512.size inb).toLoadRect (h.unread x) = x := by
  funext j
  refine (h.readAt_unread x _ j).trans (congrArg x (funext fun a => Fin.ext ?_))
  fin_cases a <;> simp

theorem load1 (M : Memref sig .tc .vmem S4096x512 .bf16) (h : M.IsWhole) (x : Vec F S4096x512 .bf16) (inb) :
    View.readAt (Elt F) M.view (Rect.unit (s := S4096x512) ![0, 0] S4096x512.size inb).toLoadRect (h.unread x) = x := by
  funext j
  refine (h.readAt_unread x _ j).trans (congrArg x (funext fun a => Fin.ext ?_))
  fin_cases a <;> simp

theorem outA (c : Dev nD) (i : grid0.Coords) (arg2 : Memref sig .tc .vmem S4096x512 .bf16) (harg2 : arg2.IsWhole) (arg3 : Memref sig .tc .vmem S4096x512 .bf16) (harg3 : arg3.IsWhole) (arg4 : Memref sig .tc .vmem S512x512 .bf16) (harg4 : arg4.IsWhole) (arg5 : Memref sig .tc .vmem S512x512 .f32) (harg5 : arg5.IsWhole)
    (x0 : Vec F S4096x512 .bf16) (x1 : Vec F S4096x512 .bf16) : out0_A_2 c i arg2 harg2 arg3 harg3 arg4 harg4 arg5 harg5 x0 x1 = k0_pay1 x0 x1 := by
  unfold out0_A_2
  rw [View.read_writes_junk_eq_canon]
  refine (View.canon_cons_unit_lit _ _ _ (by decide)).trans ?_
  exact congrArg₂ k0_pay1 (load0 arg2 harg2 x0 _) (load1 arg3 harg3 x1 _)

end

variable (m : (ℓ : Loc nD τ sig) → Buf (Elt Ideal) ℓ) (c : Dev nD)

/-- The left and right operands. -/
abbrev A0 : FVec Ideal S4096x1024 .bf16 := V m c main_arg0
abbrev A1 : FVec Ideal S4096x512 .bf16 := V m c main_arg1

theorem left (t : Fin cfg0.N) : outsAt0 m c t = k0_pay1 (F := Ideal) (iblk m c 0 t) (iblk m c 1 t) := by
  unfold outsAt0
  rw [outA]

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem blk0 (t : Fin cfg0.N) (y : S4096x512.Idx) (k : S4096x1024.Idx) (h0 : (k 0).val = (y 0).val)
    (h1 : (k 1).val = t.val * 512 + (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    rfl
  | ⟨1, _⟩ =>
    refine Eq.trans ?_ h1.symm
    blk_simp [idx0]
    rfl

theorem blk1 (t : Fin cfg0.N) (y k : S4096x512.Idx) (h0 : (k 0).val = (y 0).val) (h1 : (k 1).val = (y 1).val) :
    iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    rfl
  | ⟨1, _⟩ =>
    refine Eq.trans ?_ h1.symm
    blk_simp [idx1]
    rfl

theorem pay_at (a : FVec Ideal S4096x512 .bf16) (b : FVec Ideal S4096x512 .bf16) (j : S512x512.Idx) :
    k0_pay1 (F := Ideal) a b j = ∑ k : Fin 4096, a (ix2 k (j 0)) * b (ix2 k (j 1)) := by
  unfold k0_pay1
  pointwise

/-- The reference's weight gradient at an index. -/
theorem ref_at (i : Cert.Reference4Ideal.S1024x512.Idx) :
    val_main_v7 (F := Ideal) (V m c main_arg0) (V m c main_arg1) i
      = ∑ k : Fin 4096, A0 m c (ix2 k (i 0)) * A1 m c (ix2 k (i 1)) := by
  unfold val_main_v7 val_main_v6 val_main_v5 val_main_v4 val_main_v3 val_main_v1
  pointwise

theorem prod_at (t : Fin cfg0.N) (y : S512x512.Idx) (i : Cert.Reference4Ideal.S1024x512.Idx)
    (h0 : (i 0).val = t.val * 512 + (y 0).val) (h1 : (i 1).val = (y 1).val) :
    k0_pay1 (F := Ideal) (iblk m c 0 t) (iblk m c 1 t) y = val_main_v7 (F := Ideal) (V m c main_arg0) (V m c main_arg1) i := by
  rw [pay_at, ref_at]
  exact Finset.sum_congr rfl fun k _ => congrArg₂ (fun a b : EReal => a * b) (blk0 m c t _ _ rfl h0) (blk1 m c t _ _ rfl h1)

theorem arr : (dats m 0 c).arrAt 2 cfg0.N = val_main_v7 (F := Ideal) (V m c main_arg0) (V m c main_arg1) := by
  refine (dats m 0 c).arrAt_eq_of_covers 2 _ (by decide +kernel) fun t hf y => ?_
  rw [after0_2, left]
  refine prod_at m c t y _ ?_ ?_
  · blk_simp [idx2]
  · blk_simp [idx2]

end Cert.Proof.Mm4
end
-- ==== Proof.Mm5.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.WholeRead

@[expose] public section

set_option maxRecDepth 16384

noncomputable section

namespace Cert.Proof.Mm5

/-! The weight gradient of the mixer's output projection: two grid points multiply 512 columns, each over half
of the rows, and the second adds to what the first left in scratch. -/

open Idealize.ShloMosaic Cert.Kernel5Ideal Cert.Kernel5Ideal.Gen
open Cert.Reference5Ideal.Read

section
variable {F : FTy → Type} [FloatOps F]

theorem load0 (M : Memref sig .tc .vmem S2048x512 .bf16) (h : M.IsWhole) (x : Vec F S2048x512 .bf16) (inb) :
    View.readAt (Elt F) M.view (Rect.unit (s := S2048x512) ![0, 0] S2048x512.size inb).toLoadRect (h.unread x) = x := by
  funext j
  refine (h.readAt_unread x _ j).trans (congrArg x (funext fun a => Fin.ext ?_))
  fin_cases a <;> simp

theorem load1 (M : Memref sig .tc .vmem S2048x1024 .f32) (h : M.IsWhole) (x : Vec F S2048x1024 .f32) (inb) :
    View.readAt (Elt F) M.view (Rect.unit (s := S2048x1024) ![0, 0] S2048x1024.size inb).toLoadRect (h.unread x) = x := by
  funext j
  refine (h.readAt_unread x _ j).trans (congrArg x (funext fun a => Fin.ext ?_))
  fin_cases a <;> simp

theorem loadS (M : Memref sig .tc .vmem S512x1024 .f32) (h : M.IsWhole) (x : Vec F S512x1024 .f32) (inb) :
    View.readAt (Elt F) M.view (Rect.unit (s := S512x1024) ![0, 0] S512x1024.size inb).toLoadRect (h.unread x) = x := by
  funext j
  refine (h.readAt_unread x _ j).trans (congrArg x (funext fun a => Fin.ext ?_))
  fin_cases a <;> simp

theorem soutA (c : Dev nD) (i : grid0.Coords) (arg2 : Memref sig .tc .vmem S2048x512 .bf16) (harg2 : arg2.IsWhole) (arg3 : Memref sig .tc .vmem S2048x1024 .f32) (harg3 : arg3.IsWhole) (arg4 : Memref sig .tc .vmem S512x1024 .bf16) (harg4 : arg4.IsWhole) (arg5 : Memref sig .tc .vmem S512x1024 .f32) (harg5 : arg5.IsWhole) (hc0 : cond0_0 i) (hc1 : ¬cond0_1 i) (hc2 : ¬cond0_2 i)
    (x0 : Vec F S2048x512 .bf16) (x1 : Vec F S2048x1024 .f32) : sout0_A_0 c i arg2 harg2 arg3 harg3 arg4 harg4 arg5 harg5 hc0 hc1 hc2 x0 x1 = k0_pay2 x0 x1 := by
  unfold sout0_A_0
  rw [View.read_writes_junk_eq_canon]
  refine (View.canon_cons_unit_lit _ _ _ (by decide)).trans ?_
  exact congrArg₂ k0_pay2 (load0 arg2 harg2 x0 _) (load1 arg3 harg3 x1 _)

theorem outB (c : Dev nD) (i : grid0.Coords) (arg2 : Memref sig .tc .vmem S2048x512 .bf16) (harg2 : arg2.IsWhole) (arg3 : Memref sig .tc .vmem S2048x1024 .f32) (harg3 : arg3.IsWhole) (arg4 : Memref sig .tc .vmem S512x1024 .bf16) (harg4 : arg4.IsWhole) (arg5 : Memref sig .tc .vmem S512x1024 .f32) (harg5 : arg5.IsWhole) (hc0 : ¬cond0_0 i) (hc1 : cond0_1 i) (hc2 : cond0_2 i)
    (x0 : Vec F S2048x512 .bf16) (x1 : Vec F S2048x1024 .f32) (xs0 : Vec F S512x1024 .f32) : out0_B_2 c i arg2 harg2 arg3 harg3 arg4 harg4 arg5 harg5 hc0 hc1 hc2 x0 x1 xs0 = k0_pay4 (k0_pay3 x0 x1 xs0) := by
  unfold out0_B_2
  rw [View.read_writes_junk_eq_canon]
  refine (View.canon_cons_unit_lit _ _ _ (by decide)).trans ?_
  refine congrArg k0_pay4 ((View.readCov_unit_lit _ _ _ (by decide)).trans ?_)
  have e0 := load0 arg2 harg2 x0 inb_S2048x512_S2048x512_0_0
  have e1 := load1 arg3 harg3 x1 inb_S2048x1024_S2048x1024_0_0
  have e2 := loadS arg5 harg5 xs0 inb_S512x1024_S512x1024_0_0
  exact congr (congrArg₂ k0_pay3 e0 e1) e2

end

variable (m : (ℓ : Loc nD τ sig) → Buf (Elt Ideal) ℓ) (c : Dev nD)

/-- The left and right operands. -/
abbrev A0 : FVec Ideal S4096x1024 .bf16 := V m c main_arg0
abbrev A1 : FVec Ideal S4096x1024 .f32 := V m c main_arg1

theorem lt4 (t : Fin cfg0.N) : t.val < 4 := lt_of_lt_of_eq t.isLt N_0

theorem leftS (t u : Fin cfg0.N) (h : t.val % 2 = 1) (hu : u.val = t.val - 1) (hb) :
    (outsAt0 m c (t.val - 1) hb).2 = k0_pay2 (F := Ideal) (iblk m c 0 u) (iblk m c 1 u) := by
  have e : (outsAt0 m c (t.val - 1) hb) = outsAt0 m c u.val u.isLt := by simp only [hu]
  rw [e, outsAt0_A m c u (by omega) (by omega) (by omega)]
  dsimp only
  rw [soutA]

theorem left (t u : Fin cfg0.N) (h : t.val % 2 = 1) (hu : u.val = t.val - 1) : (outsAt0 m c t.val t.isLt).1
    = k0_pay4 (F := Ideal) (k0_pay3 (iblk m c 0 t) (iblk m c 1 t) (k0_pay2 (iblk m c 0 u) (iblk m c 1 u))) := by
  rw [outsAt0_B m c t (by omega) h h]
  dsimp only
  rw [outB, leftS m c t u h hu]

theorem idx0 : ∀ t : Fin cfg0.N, win0_0.index t = ![t.val % 2, t.val / 2] := (by decide +kernel : ∀ t : Fin grid0.N, win0_0.index t = ![t.val % 2, t.val / 2])
theorem idx1 : ∀ t : Fin cfg0.N, win0_1.index t = ![t.val % 2, 0] := (by decide +kernel : ∀ t : Fin grid0.N, win0_1.index t = ![t.val % 2, 0])
theorem idx2 : ∀ t : Fin cfg0.N, win0_2.index t = ![t.val / 2, 0] := (by decide +kernel : ∀ t : Fin grid0.N, win0_2.index t = ![t.val / 2, 0])

theorem blk0 (t : Fin cfg0.N) (y : S2048x512.Idx) (k : S4096x1024.Idx) (h0 : (k 0).val = t.val % 2 * 2048 + (y 0).val)
    (h1 : (k 1).val = t.val / 2 * 512 + (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    rfl
  | ⟨1, _⟩ =>
    refine Eq.trans ?_ h1.symm
    blk_simp [idx0]
    rfl

theorem blk1 (t : Fin cfg0.N) (y : S2048x1024.Idx) (k : S4096x1024.Idx) (h0 : (k 0).val = t.val % 2 * 2048 + (y 0).val)
    (h1 : (k 1).val = (y 1).val) : iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    rfl
  | ⟨1, _⟩ =>
    refine Eq.trans ?_ h1.symm
    blk_simp [idx1]
    rfl

theorem pay_at (a a' : FVec Ideal S2048x512 .bf16) (b b' : FVec Ideal S2048x1024 .f32) (j : S512x1024.Idx) :
    k0_pay4 (F := Ideal) (k0_pay3 (F := Ideal) a b (k0_pay2 (F := Ideal) a' b')) j
      = (∑ k : Fin 2048, a' (ix2 k (j 0)) * b' (ix2 k (j 1))) + ∑ k : Fin 2048, a (ix2 k (j 0)) * b (ix2 k (j 1)) := by
  unfold k0_pay4 k0_pay3 k0_pay2 k0_pay1
  pointwise

/-- The reference's weight gradient at an index. -/
theorem ref_at (i : Cert.Reference5Ideal.S1024x1024.Idx) :
    val_main_v5 (F := Ideal) (V m c main_arg0) (V m c main_arg1) i
      = ∑ k : Fin 4096, A0 m c (ix2 k (i 0)) * A1 m c (ix2 k (i 1)) := by
  unfold val_main_v5 val_main_v4 val_main_v3 val_main_v1
  pointwise
  exact Finset.sum_congr rfl fun k _ => mul_comm _ _

theorem prod_at (t u : Fin cfg0.N) (h : t.val % 2 = 1) (hu : u.val = t.val - 1) (y : S512x1024.Idx) (i : Cert.Reference5Ideal.S1024x1024.Idx)
    (h0 : (i 0).val = t.val / 2 * 512 + (y 0).val) (h1 : (i 1).val = (y 1).val) :
    k0_pay4 (F := Ideal) (k0_pay3 (iblk m c 0 t) (iblk m c 1 t) (k0_pay2 (iblk m c 0 u) (iblk m c 1 u))) y
      = val_main_v5 (F := Ideal) (V m c main_arg0) (V m c main_arg1) i := by
  rw [pay_at, ref_at, Fin.sum_univ_two_halves 2048 2048 rfl]
  have hu0 : u.val % 2 = 0 := by omega
  have hu1 : u.val / 2 = t.val / 2 := by omega
  refine congrArg₂ (fun a b : EReal => a + b) (Finset.sum_congr rfl fun k _ => congrArg₂ (fun a b : EReal => a * b) (blk0 m c u _ _ ?_ ?_) (blk1 m c u _ _ ?_ ?_))
    (Finset.sum_congr rfl fun k _ => congrArg₂ (fun a b : EReal => a * b) (blk0 m c t _ _ ?_ ?_) (blk1 m c t _ _ ?_ ?_))
  · change k.val = u.val % 2 * 2048 + k.val; omega
  · change (i 0).val = u.val / 2 * 512 + (y 0).val; omega
  · change k.val = u.val % 2 * 2048 + k.val; omega
  · exact h1
  · change 2048 + k.val = t.val % 2 * 2048 + k.val; omega
  · change (i 0).val = t.val / 2 * 512 + (y 0).val; omega
  · change 2048 + k.val = t.val % 2 * 2048 + k.val; omega
  · exact h1

theorem arr : (dats m 0 c).arrAt 2 cfg0.N = val_main_v5 (F := Ideal) (V m c main_arg0) (V m c main_arg1) := by
  refine (dats m 0 c).arrAt_eq_of_covers 2 _ (by decide +kernel) fun t hf y => ?_
  have ht : t.val % 2 = 1 := (flush0_2 t).mp hf
  rw [after0_2, left m c t ⟨t.val - 1, lt_of_le_of_lt (Nat.sub_le _ _) t.isLt⟩ ht rfl]
  refine prod_at m c t _ ht rfl y _ ?_ ?_
  · blk_simp [idx2]
  · blk_simp [idx2]

end Cert.Proof.Mm5
end
-- ==== Proof.Mm6.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.WholeRead

@[expose] public section

set_option maxRecDepth 16384

noncomputable section

namespace Cert.Proof.Mm6

/-! The weight gradient of the per-layer gate: each grid point multiplies 512 columns. -/

open Idealize.ShloMosaic Cert.Kernel6Ideal Cert.Kernel6Ideal.Gen
open Cert.Reference6Ideal.Read

section
variable {F : FTy → Type} [FloatOps F]

theorem load0 (M : Memref sig .tc .vmem S4096x512 .bf16) (h : M.IsWhole) (x : Vec F S4096x512 .bf16) (inb) :
    View.readAt (Elt F) M.view (Rect.unit (s := S4096x512) ![0, 0] S4096x512.size inb).toLoadRect (h.unread x) = x := by
  funext j
  refine (h.readAt_unread x _ j).trans (congrArg x (funext fun a => Fin.ext ?_))
  fin_cases a <;> simp

theorem load1 (M : Memref sig .tc .vmem S4096x1024 .bf16) (h : M.IsWhole) (x : Vec F S4096x1024 .bf16) (inb) :
    View.readAt (Elt F) M.view (Rect.unit (s := S4096x1024) ![0, 0] S4096x1024.size inb).toLoadRect (h.unread x) = x := by
  funext j
  refine (h.readAt_unread x _ j).trans (congrArg x (funext fun a => Fin.ext ?_))
  fin_cases a <;> simp

theorem outA (c : Dev nD) (i : grid0.Coords) (arg2 : Memref sig .tc .vmem S4096x512 .bf16) (harg2 : arg2.IsWhole) (arg3 : Memref sig .tc .vmem S4096x1024 .bf16) (harg3 : arg3.IsWhole) (arg4 : Memref sig .tc .vmem S512x1024 .bf16) (harg4 : arg4.IsWhole) (arg5 : Memref sig .tc .vmem S512x1024 .f32) (harg5 : arg5.IsWhole)
    (x0 : Vec F S4096x512 .bf16) (x1 : Vec F S4096x1024 .bf16) : out0_A_2 c i arg2 harg2 arg3 harg3 arg4 harg4 arg5 harg5 x0 x1 = k0_pay1 x0 x1 := by
  unfold out0_A_2
  rw [View.read_writes_junk_eq_canon]
  refine (View.canon_cons_unit_lit _ _ _ (by decide)).trans ?_
  exact congrArg₂ k0_pay1 (load0 arg2 harg2 x0 _) (load1 arg3 harg3 x1 _)

end

variable (m : (ℓ : Loc nD τ sig) → Buf (Elt Ideal) ℓ) (c : Dev nD)

/-- The left and right operands. -/
abbrev A0 : FVec Ideal S4096x1024 .bf16 := V m c main_arg0
abbrev A1 : FVec Ideal S4096x1024 .bf16 := V m c main_arg1

theorem left (t : Fin cfg0.N) : outsAt0 m c t = k0_pay1 (F := Ideal) (iblk m c 0 t) (iblk m c 1 t) := by
  unfold outsAt0
  rw [outA]

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem blk0 (t : Fin cfg0.N) (y : S4096x512.Idx) (k : S4096x1024.Idx) (h0 : (k 0).val = (y 0).val)
    (h1 : (k 1).val = t.val * 512 + (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    rfl
  | ⟨1, _⟩ =>
    refine Eq.trans ?_ h1.symm
    blk_simp [idx0]
    rfl

theorem blk1 (t : Fin cfg0.N) (y k : S4096x1024.Idx) (h0 : (k 0).val = (y 0).val) (h1 : (k 1).val = (y 1).val) :
    iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    rfl
  | ⟨1, _⟩ =>
    refine Eq.trans ?_ h1.symm
    blk_simp [idx1]
    rfl

theorem pay_at (a : FVec Ideal S4096x512 .bf16) (b : FVec Ideal S4096x1024 .bf16) (j : S512x1024.Idx) :
    k0_pay1 (F := Ideal) a b j = ∑ k : Fin 4096, a (ix2 k (j 0)) * b (ix2 k (j 1)) := by
  unfold k0_pay1
  pointwise

/-- The reference's weight gradient at an index. -/
theorem ref_at (i : Cert.Reference6Ideal.S1024x1024.Idx) :
    val_main_v6 (F := Ideal) (V m c main_arg0) (V m c main_arg1) i
      = ∑ k : Fin 4096, A0 m c (ix2 k (i 0)) * A1 m c (ix2 k (i 1)) := by
  unfold val_main_v6 val_main_v5 val_main_v4 val_main_v3 val_main_v1
  pointwise
  exact Finset.sum_congr rfl fun k _ => mul_comm _ _

theorem prod_at (t : Fin cfg0.N) (y : S512x1024.Idx) (i : Cert.Reference6Ideal.S1024x1024.Idx)
    (h0 : (i 0).val = t.val * 512 + (y 0).val) (h1 : (i 1).val = (y 1).val) :
    k0_pay1 (F := Ideal) (iblk m c 0 t) (iblk m c 1 t) y = val_main_v6 (F := Ideal) (V m c main_arg0) (V m c main_arg1) i := by
  rw [pay_at, ref_at]
  exact Finset.sum_congr rfl fun k _ => congrArg₂ (fun a b : EReal => a * b) (blk0 m c t _ _ rfl h0) (blk1 m c t _ _ rfl h1)

theorem arr : (dats m 0 c).arrAt 2 cfg0.N = val_main_v6 (F := Ideal) (V m c main_arg0) (V m c main_arg1) := by
  refine (dats m 0 c).arrAt_eq_of_covers 2 _ (by decide +kernel) fun t hf y => ?_
  rw [after0_2, left]
  refine prod_at m c t y _ ?_ ?_
  · blk_simp [idx2]
  · blk_simp [idx2]

end Cert.Proof.Mm6
end
-- ==== Proof.Mm7.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.WholeRead

@[expose] public section

set_option maxRecDepth 16384

noncomputable section

namespace Cert.Proof.Mm7

/-! The weight gradient of the per-layer embedding, transposed: each grid point multiplies 512 columns. -/

open Idealize.ShloMosaic Cert.Kernel7Ideal Cert.Kernel7Ideal.Gen
open Cert.Reference7Ideal.Read

section
variable {F : FTy → Type} [FloatOps F]

theorem load0 (M : Memref sig .tc .vmem S4096x512 .bf16) (h : M.IsWhole) (x : Vec F S4096x512 .bf16) (inb) :
    View.readAt (Elt F) M.view (Rect.unit (s := S4096x512) ![0, 0] S4096x512.size inb).toLoadRect (h.unread x) = x := by
  funext j
  refine (h.readAt_unread x _ j).trans (congrArg x (funext fun a => Fin.ext ?_))
  fin_cases a <;> simp

theorem load1 (M : Memref sig .tc .vmem S4096x256 .f32) (h : M.IsWhole) (x : Vec F S4096x256 .f32) (inb) :
    View.readAt (Elt F) M.view (Rect.unit (s := S4096x256) ![0, 0] S4096x256.size inb).toLoadRect (h.unread x) = x := by
  funext j
  refine (h.readAt_unread x _ j).trans (congrArg x (funext fun a => Fin.ext ?_))
  fin_cases a <;> simp

theorem outA (c : Dev nD) (i : grid0.Coords) (arg2 : Memref sig .tc .vmem S4096x512 .bf16) (harg2 : arg2.IsWhole) (arg3 : Memref sig .tc .vmem S4096x256 .f32) (harg3 : arg3.IsWhole) (arg4 : Memref sig .tc .vmem S512x256 .bf16) (harg4 : arg4.IsWhole) (arg5 : Memref sig .tc .vmem S512x256 .f32) (harg5 : arg5.IsWhole)
    (x0 : Vec F S4096x512 .bf16) (x1 : Vec F S4096x256 .f32) : out0_A_2 c i arg2 harg2 arg3 harg3 arg4 harg4 arg5 harg5 x0 x1 = k0_pay1 x0 x1 := by
  unfold out0_A_2
  rw [View.read_writes_junk_eq_canon]
  refine (View.canon_cons_unit_lit _ _ _ (by decide)).trans ?_
  exact congrArg₂ k0_pay1 (load0 arg2 harg2 x0 _) (load1 arg3 harg3 x1 _)

end

variable (m : (ℓ : Loc nD τ sig) → Buf (Elt Ideal) ℓ) (c : Dev nD)

/-- The left and right operands. -/
abbrev A0 : FVec Ideal S4096x1024 .bf16 := V m c main_arg0
abbrev A1 : FVec Ideal S4096x256 .f32 := V m c main_arg1

theorem left (t : Fin cfg0.N) : outsAt0 m c t = k0_pay1 (F := Ideal) (iblk m c 0 t) (iblk m c 1 t) := by
  unfold outsAt0
  rw [outA]

theorem idx0 : ∀ t : Fin cfg0.N, win0_0.index t = ![0, t.val] := (by decide +kernel : ∀ t : Fin grid0.N, win0_0.index t = ![0, t.val])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])

theorem blk0 (t : Fin cfg0.N) (y : S4096x512.Idx) (k : S4096x1024.Idx) (h0 : (k 0).val = (y 0).val)
    (h1 : (k 1).val = t.val * 512 + (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    rfl
  | ⟨1, _⟩ =>
    refine Eq.trans ?_ h1.symm
    blk_simp [idx0]
    rfl

theorem blk1 (t : Fin cfg0.N) (y k : S4096x256.Idx) (h0 : (k 0).val = (y 0).val) (h1 : (k 1).val = (y 1).val) :
    iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    rfl
  | ⟨1, _⟩ =>
    refine Eq.trans ?_ h1.symm
    blk_simp [idx1]
    rfl

theorem pay_at (a : FVec Ideal S4096x512 .bf16) (b : FVec Ideal S4096x256 .f32) (j : S512x256.Idx) :
    k0_pay1 (F := Ideal) a b j = ∑ k : Fin 4096, a (ix2 k (j 0)) * b (ix2 k (j 1)) := by
  unfold k0_pay1
  pointwise

/-- The reference's weight gradient at an index. -/
theorem ref_at (i : Cert.Reference7Ideal.S1024x256.Idx) :
    val_main_v6 (F := Ideal) (V m c main_arg0) (V m c main_arg1) i
      = ∑ k : Fin 4096, A0 m c (ix2 k (i 0)) * A1 m c (ix2 k (i 1)) := by
  unfold val_main_v6 val_main_v5 val_main_v4 val_main_v3 val_main_v2
  pointwise

theorem prod_at (t : Fin cfg0.N) (y : S512x256.Idx) (i : Cert.Reference7Ideal.S1024x256.Idx)
    (h0 : (i 0).val = t.val * 512 + (y 0).val) (h1 : (i 1).val = (y 1).val) :
    k0_pay1 (F := Ideal) (iblk m c 0 t) (iblk m c 1 t) y = val_main_v6 (F := Ideal) (V m c main_arg0) (V m c main_arg1) i := by
  rw [pay_at, ref_at]
  exact Finset.sum_congr rfl fun k _ => congrArg₂ (fun a b : EReal => a * b) (blk0 m c t _ _ rfl h0) (blk1 m c t _ _ rfl h1)

theorem arr : (dats m 0 c).arrAt 2 cfg0.N = val_main_v6 (F := Ideal) (V m c main_arg0) (V m c main_arg1) := by
  refine (dats m 0 c).arrAt_eq_of_covers 2 _ (by decide +kernel) fun t hf y => ?_
  rw [after0_2, left]
  refine prod_at m c t y _ ?_ ?_
  · blk_simp [idx2]
  · blk_simp [idx2]

end Cert.Proof.Mm7
end
-- ==== Proof.GxOut.lean ====
module

public import proofs.«01_k».proof.Proof.Gen.Kernel8Ideal.Value
public import Idealize.ShloMosaic.Lib.Pipeline.ValueKit
public import Idealize.ShloMosaic.Lib.WholeRead

@[expose] public section
set_option maxRecDepth 16384
noncomputable section
namespace Cert.Proof.Gx
open Idealize.ShloMosaic Cert.Kernel8Ideal Cert.Kernel8Ideal.Gen
variable {F : FTy → Type} [FloatOps F]

def rd {S : Shape} {e : EltTy} (x : Vec F S e) (B : LoadRect S) : B.shape.Idx → Elt F e := fun j => x (B.idx j)

theorem rdx {S : Shape} {e : EltTy} (M : Memref sig .tc .vmem S e) (h : M.IsWhole) (x : Vec F S e) (B : LoadRect S) :
    View.readAt (Elt F) M.view B (h.unread x) = rd x B := funext (h.readAt_unread x B)

theorem rdfull {a b : Nat} {e : EltTy} (M : Memref sig .tc .vmem ⟨2, ![a, b]⟩ e) (h : M.IsWhole) (x : Vec F ⟨2, ![a, b]⟩ e) (inb) :
    View.readAt (Elt F) M.view (Rect.unit (s := ⟨2, ![a, b]⟩) ![0, 0] ![a, b] inb).toLoadRect (h.unread x) = x := by
  funext j
  refine (h.readAt_unread x _ j).trans (congrArg x (funext fun k => Fin.ext ?_))
  fin_cases k <;> simp

theorem rdall {a b : Nat} {e : EltTy} (x : Vec F ⟨2, ![a, b]⟩ e) (inb) :
    rd x (Rect.unit (s := ⟨2, ![a, b]⟩) ![0, 0] ![a, b] inb).toLoadRect = x := by
  funext j
  refine congrArg x (funext fun k => Fin.ext ?_)
  fin_cases k <;> simp

def dnK (x0 : Vec F S512x2560 .bf16) (x1 : Vec F S512x1536 .bf16) (x2 : Vec F S512x1536 .bf16) (x3 : Vec F S512x1536 .bf16) (x4 : Vec F S512x2560 .bf16) (w : Vec F S9728x1024 .bf16) :
    FVec F S512x1024 .f32 :=
  k0_pay6 (k0_pay5 x0 (rd w (Rect.unit (s := S9728x1024) ![0, 0] S2560x1024.size inb_S9728x1024_S2560x1024_0_0).toLoadRect)
    (rd x1 (Rect.unit (s := S512x1536) ![0, 0] S512x512.size inb_S512x1536_S512x512_0_0).toLoadRect) (rd w (Rect.unit (s := S9728x1024) ![2560, 0] S512x1024.size inb_S9728x1024_S512x1024_2560_0).toLoadRect)
    (rd x1 (Rect.unit (s := S512x1536) ![0, 512] S512x512.size inb_S512x1536_S512x512_0_512).toLoadRect) (rd w (Rect.unit (s := S9728x1024) ![4096, 0] S512x1024.size inb_S9728x1024_S512x1024_4096_0).toLoadRect)
    (rd x1 (Rect.unit (s := S512x1536) ![0, 1024] S512x512.size inb_S512x1536_S512x512_0_1024).toLoadRect) (rd w (Rect.unit (s := S9728x1024) ![5632, 0] S512x1024.size inb_S9728x1024_S512x1024_5632_0).toLoadRect)
    (rd x2 (Rect.unit (s := S512x1536) ![0, 0] S512x512.size inb_S512x1536_S512x512_0_0).toLoadRect) (rd w (Rect.unit (s := S9728x1024) ![3072, 0] S512x1024.size inb_S9728x1024_S512x1024_3072_0).toLoadRect)
    (rd x2 (Rect.unit (s := S512x1536) ![0, 512] S512x512.size inb_S512x1536_S512x512_0_512).toLoadRect) (rd w (Rect.unit (s := S9728x1024) ![4608, 0] S512x1024.size inb_S9728x1024_S512x1024_4608_0).toLoadRect))
    (rd x2 (Rect.unit (s := S512x1536) ![0, 1024] S512x512.size inb_S512x1536_S512x512_0_1024).toLoadRect) (rd w (Rect.unit (s := S9728x1024) ![6144, 0] S512x1024.size inb_S9728x1024_S512x1024_6144_0).toLoadRect)
    (rd x3 (Rect.unit (s := S512x1536) ![0, 0] S512x512.size inb_S512x1536_S512x512_0_0).toLoadRect) (rd w (Rect.unit (s := S9728x1024) ![3584, 0] S512x1024.size inb_S9728x1024_S512x1024_3584_0).toLoadRect)
    (rd x3 (Rect.unit (s := S512x1536) ![0, 512] S512x512.size inb_S512x1536_S512x512_0_512).toLoadRect) (rd w (Rect.unit (s := S9728x1024) ![5120, 0] S512x1024.size inb_S9728x1024_S512x1024_5120_0).toLoadRect)
    (rd x3 (Rect.unit (s := S512x1536) ![0, 1024] S512x512.size inb_S512x1536_S512x512_0_1024).toLoadRect) (rd w (Rect.unit (s := S9728x1024) ![6656, 0] S512x1024.size inb_S9728x1024_S512x1024_6656_0).toLoadRect)
    x4 (rd w (Rect.unit (s := S9728x1024) ![7168, 0] S2560x1024.size inb_S9728x1024_S2560x1024_7168_0).toLoadRect)

/-- The weights as the four copies leave them. -/
def wK (c : Dev nD) (fh0 : HbBuf0 (F := F) c hbM0_0) (fh1 : HbBuf0 (F := F) c hbM0_1) (fh2 : HbBuf0 (F := F) c hbM0_2) : Vec F S9728x1024 .bf16 :=
  View.canon (Val := Elt F) (s := S9728x1024) (e := .bf16)
    [⟨Rect.unit (s := S9728x1024) ![7296, 0] S2432x1024.size inb_S9728x1024_S2432x1024_7296_0, kernelRun0_A.sl.dma0_3 c fh2⟩,
     ⟨Rect.unit (s := S9728x1024) ![4864, 0] S2432x1024.size inb_S9728x1024_S2432x1024_4864_0, kernelRun0_A.sl.dma0_2 c fh1⟩,
     ⟨Rect.unit (s := S9728x1024) ![2432, 0] S2432x1024.size inb_S9728x1024_S2432x1024_2432_0, kernelRun0_A.sl.dma0_1 c fh1⟩,
     ⟨Rect.unit (s := S9728x1024) ![0, 0] S2432x1024.size inb_S9728x1024_S2432x1024_0_0, kernelRun0_A.sl.dma0 c fh0⟩]

theorem cov_v4 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v4 c arg15 fh0 fh1 fh2 = rd (wK c fh0 fh1 fh2) (Rect.unit (s := S9728x1024) ![0, 0] S2560x1024.size inb_S9728x1024_S2560x1024_0_0).toLoadRect := by
  unfold kernelRun0_A.sl.v4
  rw [View.readCov_eq_canon']
  unfold rd wK
  rfl

theorem cov_v7 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v7 c arg15 fh0 fh1 fh2 = rd (wK c fh0 fh1 fh2) (Rect.unit (s := S9728x1024) ![2560, 0] S512x1024.size inb_S9728x1024_S512x1024_2560_0).toLoadRect := by
  unfold kernelRun0_A.sl.v7
  rw [View.readCov_eq_canon']
  unfold rd wK
  rfl

theorem cov_v11 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v11 c arg15 fh0 fh1 fh2 = rd (wK c fh0 fh1 fh2) (Rect.unit (s := S9728x1024) ![4096, 0] S512x1024.size inb_S9728x1024_S512x1024_4096_0).toLoadRect := by
  unfold kernelRun0_A.sl.v11
  rw [View.readCov_eq_canon']
  unfold rd wK
  rfl

theorem cov_v15 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v15 c arg15 fh0 fh1 fh2 = rd (wK c fh0 fh1 fh2) (Rect.unit (s := S9728x1024) ![5632, 0] S512x1024.size inb_S9728x1024_S512x1024_5632_0).toLoadRect := by
  unfold kernelRun0_A.sl.v15
  rw [View.readCov_eq_canon']
  unfold rd wK
  rfl

theorem cov_v19 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v19 c arg15 fh0 fh1 fh2 = rd (wK c fh0 fh1 fh2) (Rect.unit (s := S9728x1024) ![3072, 0] S512x1024.size inb_S9728x1024_S512x1024_3072_0).toLoadRect := by
  unfold kernelRun0_A.sl.v19
  rw [View.readCov_eq_canon']
  unfold rd wK
  rfl

theorem cov_v23 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v23 c arg15 fh0 fh1 fh2 = rd (wK c fh0 fh1 fh2) (Rect.unit (s := S9728x1024) ![4608, 0] S512x1024.size inb_S9728x1024_S512x1024_4608_0).toLoadRect := by
  unfold kernelRun0_A.sl.v23
  rw [View.readCov_eq_canon']
  unfold rd wK
  rfl

theorem cov_v27 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v27 c arg15 fh0 fh1 fh2 = rd (wK c fh0 fh1 fh2) (Rect.unit (s := S9728x1024) ![6144, 0] S512x1024.size inb_S9728x1024_S512x1024_6144_0).toLoadRect := by
  unfold kernelRun0_A.sl.v27
  rw [View.readCov_eq_canon']
  unfold rd wK
  rfl

theorem cov_v31 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v31 c arg15 fh0 fh1 fh2 = rd (wK c fh0 fh1 fh2) (Rect.unit (s := S9728x1024) ![3584, 0] S512x1024.size inb_S9728x1024_S512x1024_3584_0).toLoadRect := by
  unfold kernelRun0_A.sl.v31
  rw [View.readCov_eq_canon']
  unfold rd wK
  rfl

theorem cov_v35 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v35 c arg15 fh0 fh1 fh2 = rd (wK c fh0 fh1 fh2) (Rect.unit (s := S9728x1024) ![5120, 0] S512x1024.size inb_S9728x1024_S512x1024_5120_0).toLoadRect := by
  unfold kernelRun0_A.sl.v35
  rw [View.readCov_eq_canon']
  unfold rd wK
  rfl

theorem cov_v39 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v39 c arg15 fh0 fh1 fh2 = rd (wK c fh0 fh1 fh2) (Rect.unit (s := S9728x1024) ![6656, 0] S512x1024.size inb_S9728x1024_S512x1024_6656_0).toLoadRect := by
  unfold kernelRun0_A.sl.v39
  rw [View.readCov_eq_canon']
  unfold rd wK
  rfl

theorem cov_v43 (c : Dev nD) (arg15 : Memref sig .tc .vmem S9728x1024 .bf16) (fh0 : HbBuf0 (F := F) c hbM0_0) (fh1 : HbBuf0 (F := F) c hbM0_1) (fh2 : HbBuf0 (F := F) c hbM0_2) :
    kernelRun0_A.sl.v43 c arg15 fh0 fh1 fh2 = rd (wK c fh0 fh1 fh2) (Rect.unit (s := S9728x1024) ![7168, 0] S2560x1024.size inb_S9728x1024_S2560x1024_7168_0).toLoadRect := by
  unfold kernelRun0_A.sl.v43
  rw [View.readCov_eq_canon']
  unfold rd wK
  rfl

theorem soutA (c : Dev nD) (i : grid0.Coords) (arg1 : Memref sig .tc .vmem S512x2560 .bf16) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S512x2560 .bf16) (harg5 : arg5.IsWhole) (arg9 : Memref sig .tc .vmem S8x128 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1x1024 .f32) (harg14 : arg14.IsWhole) (arg15 : Memref sig .tc .vmem S9728x1024 .bf16) (harg15 : arg15.IsWhole) (hc0 : cond0_0 i) (hc1 : cond0_1 i) (hc2 : ¬cond0_2 i)
    (x0 : Vec F S512x2560 .bf16) (x1 : Vec F S512x1536 .bf16) (x2 : Vec F S512x1536 .bf16) (x3 : Vec F S512x1536 .bf16) (x4 : Vec F S512x2560 .bf16) (x5 : Vec F S8x128 .f32) (x6 : Vec F S512x1024 .f32) (x7 : Vec F S512x1024 .f32) (x8 : Vec F S1x1024 .f32) (fh0 : HbBuf0 (F := F) c hbM0_0) (fh1 : HbBuf0 (F := F) c hbM0_1) (fh2 : HbBuf0 (F := F) c hbM0_2) :
    sout0_A_0 c i arg1 harg1 arg2 harg2 arg3 harg3 arg4 harg4 arg5 harg5 arg9 harg9 arg10 harg10 arg11 harg11 arg12 harg12 arg13 harg13 arg14 harg14 arg15 harg15 hc0 hc1 hc2 x0 x1 x2 x3 x4 x5 x6 x7 x8 fh0 fh1 fh2 = wK c fh0 fh1 fh2 := by
  unfold sout0_A_0
  rw [View.read_writes_junk_eq_canon]
  unfold wK
  rfl

theorem outA9 (c : Dev nD) (i : grid0.Coords) (arg1 : Memref sig .tc .vmem S512x2560 .bf16) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S512x2560 .bf16) (harg5 : arg5.IsWhole) (arg9 : Memref sig .tc .vmem S8x128 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1x1024 .f32) (harg14 : arg14.IsWhole) (arg15 : Memref sig .tc .vmem S9728x1024 .bf16) (harg15 : arg15.IsWhole) (hc0 : cond0_0 i) (hc1 : cond0_1 i) (hc2 : ¬cond0_2 i)
    (x0 : Vec F S512x2560 .bf16) (x1 : Vec F S512x1536 .bf16) (x2 : Vec F S512x1536 .bf16) (x3 : Vec F S512x1536 .bf16) (x4 : Vec F S512x2560 .bf16) (x5 : Vec F S8x128 .f32) (x6 : Vec F S512x1024 .f32) (x7 : Vec F S512x1024 .f32) (x8 : Vec F S1x1024 .f32) (fh0 : HbBuf0 (F := F) c hbM0_0) (fh1 : HbBuf0 (F := F) c hbM0_1) (fh2 : HbBuf0 (F := F) c hbM0_2) :
    out0_A_9 c i arg1 harg1 arg2 harg2 arg3 harg3 arg4 harg4 arg5 harg5 arg9 harg9 arg10 harg10 arg11 harg11 arg12 harg12 arg13 harg13 arg14 harg14 arg15 harg15 hc0 hc1 hc2 x0 x1 x2 x3 x4 x5 x6 x7 x8 fh0 fh1 fh2 =
      k0_pay3 (dnK x0 x1 x2 x3 x4 (wK c fh0 fh1 fh2)) x6 (k0_pay7 x6) (k0_pay8 x6) x8 x7 := by
  unfold out0_A_9
  rw [View.read_writes_junk_eq_canon]
  refine (View.canon_cons_unit_lit _ _ _ (by decide)).trans ?_
  unfold kernelRun0_A.sl.r_1 kernelRun0_A.sl.r kernelRun0_A.sl.r_2 kernelRun0_A.sl.r_3 kernelRun0_A.sl.r_4 dnK
  simp only [rdfull, rdx, rdall, cov_v4, cov_v7, cov_v11, cov_v15, cov_v19, cov_v23, cov_v27, cov_v31, cov_v35, cov_v39, cov_v43]

theorem outA10 (c : Dev nD) (i : grid0.Coords) (arg1 : Memref sig .tc .vmem S512x2560 .bf16) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S512x2560 .bf16) (harg5 : arg5.IsWhole) (arg9 : Memref sig .tc .vmem S8x128 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1x1024 .f32) (harg14 : arg14.IsWhole) (arg15 : Memref sig .tc .vmem S9728x1024 .bf16) (harg15 : arg15.IsWhole) (hc0 : cond0_0 i) (hc1 : cond0_1 i) (hc2 : ¬cond0_2 i)
    (x0 : Vec F S512x2560 .bf16) (x1 : Vec F S512x1536 .bf16) (x2 : Vec F S512x1536 .bf16) (x3 : Vec F S512x1536 .bf16) (x4 : Vec F S512x2560 .bf16) (x5 : Vec F S8x128 .f32) (x6 : Vec F S512x1024 .f32) (x7 : Vec F S512x1024 .f32) (x8 : Vec F S1x1024 .f32) (fh0 : HbBuf0 (F := F) c hbM0_0) (fh1 : HbBuf0 (F := F) c hbM0_1) (fh2 : HbBuf0 (F := F) c hbM0_2) :
    out0_A_10 c i arg1 harg1 arg2 harg2 arg3 harg3 arg4 harg4 arg5 harg5 arg9 harg9 arg10 harg10 arg11 harg11 arg12 harg12 arg13 harg13 arg14 harg14 arg15 harg15 hc0 hc1 hc2 x0 x1 x2 x3 x4 x5 x6 x7 x8 fh0 fh1 fh2 =
      k0_pay2 (dnK x0 x1 x2 x3 x4 (wK c fh0 fh1 fh2)) x6 (k0_pay8 x6) := by
  unfold out0_A_10
  rw [View.read_writes_junk_eq_canon]
  refine (View.canon_cons_unit_lit _ _ _ (by decide)).trans ?_
  unfold kernelRun0_A.sl.r_1 kernelRun0_A.sl.r kernelRun0_A.sl.r_2 kernelRun0_A.sl.r_4 dnK
  simp only [rdfull, rdx, rdall, cov_v4, cov_v7, cov_v11, cov_v15, cov_v19, cov_v23, cov_v27, cov_v31, cov_v35, cov_v39, cov_v43]

theorem outB9 (c : Dev nD) (i : grid0.Coords) (arg1 : Memref sig .tc .vmem S512x2560 .bf16) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S512x2560 .bf16) (harg5 : arg5.IsWhole) (arg9 : Memref sig .tc .vmem S8x128 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1x1024 .f32) (harg14 : arg14.IsWhole) (arg15 : Memref sig .tc .vmem S9728x1024 .bf16) (harg15 : arg15.IsWhole) (hc0 : ¬cond0_0 i) (hc1 : ¬cond0_1 i) (hc2 : cond0_2 i)
    (x0 : Vec F S512x2560 .bf16) (x1 : Vec F S512x1536 .bf16) (x2 : Vec F S512x1536 .bf16) (x3 : Vec F S512x1536 .bf16) (x4 : Vec F S512x2560 .bf16) (x5 : Vec F S8x128 .f32) (x6 : Vec F S512x1024 .f32) (x7 : Vec F S512x1024 .f32) (x8 : Vec F S1x1024 .f32) (xo10 : Vec F S1x1024 .f32) (xs0 : Vec F S9728x1024 .bf16) (fh0 : HbBuf0 (F := F) c hbM0_0) (fh1 : HbBuf0 (F := F) c hbM0_1) (fh2 : HbBuf0 (F := F) c hbM0_2) :
    out0_B_9 c i arg1 harg1 arg2 harg2 arg3 harg3 arg4 harg4 arg5 harg5 arg9 harg9 arg10 harg10 arg11 harg11 arg12 harg12 arg13 harg13 arg14 harg14 arg15 harg15 hc0 hc1 hc2 x0 x1 x2 x3 x4 x5 x6 x7 x8 xo10 xs0 fh0 fh1 fh2 =
      k0_pay3 (dnK x0 x1 x2 x3 x4 xs0) x6 (k0_pay7 x6) (k0_pay8 x6) x8 x7 := by
  unfold out0_B_9
  rw [View.read_writes_junk_eq_canon]
  refine (View.canon_cons_unit_lit _ _ _ (by decide)).trans ?_
  unfold kernelRun0_B.sl.r_1 kernelRun0_B.sl.r kernelRun0_B.sl.r_2 kernelRun0_B.sl.r_3 kernelRun0_B.sl.r_4 dnK
  simp only [rdfull, rdx, rdall]

theorem outB10 (c : Dev nD) (i : grid0.Coords) (arg1 : Memref sig .tc .vmem S512x2560 .bf16) (harg1 : arg1.IsWhole) (arg2 : Memref sig .tc .vmem S512x1536 .bf16) (harg2 : arg2.IsWhole) (arg3 : Memref sig .tc .vmem S512x1536 .bf16) (harg3 : arg3.IsWhole) (arg4 : Memref sig .tc .vmem S512x1536 .bf16) (harg4 : arg4.IsWhole) (arg5 : Memref sig .tc .vmem S512x2560 .bf16) (harg5 : arg5.IsWhole) (arg9 : Memref sig .tc .vmem S8x128 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1x1024 .f32) (harg12 : arg12.IsWhole) (arg13 : Memref sig .tc .vmem S512x1024 .f32) (harg13 : arg13.IsWhole) (arg14 : Memref sig .tc .vmem S1x1024 .f32) (harg14 : arg14.IsWhole) (arg15 : Memref sig .tc .vmem S9728x1024 .bf16) (harg15 : arg15.IsWhole) (hc0 : ¬cond0_0 i) (hc1 : ¬cond0_1 i) (hc2 : cond0_2 i)
    (x0 : Vec F S512x2560 .bf16) (x1 : Vec F S512x1536 .bf16) (x2 : Vec F S512x1536 .bf16) (x3 : Vec F S512x1536 .bf16) (x4 : Vec F S512x2560 .bf16) (x5 : Vec F S8x128 .f32) (x6 : Vec F S512x1024 .f32) (x7 : Vec F S512x1024 .f32) (x8 : Vec F S1x1024 .f32) (xo10 : Vec F S1x1024 .f32) (xs0 : Vec F S9728x1024 .bf16) (fh0 : HbBuf0 (F := F) c hbM0_0) (fh1 : HbBuf0 (F := F) c hbM0_1) (fh2 : HbBuf0 (F := F) c hbM0_2) :
    out0_B_10 c i arg1 harg1 arg2 harg2 arg3 harg3 arg4 harg4 arg5 harg5 arg9 harg9 arg10 harg10 arg11 harg11 arg12 harg12 arg13 harg13 arg14 harg14 arg15 harg15 hc0 hc1 hc2 x0 x1 x2 x3 x4 x5 x6 x7 x8 xo10 xs0 fh0 fh1 fh2 =
      k0_pay4 (dnK x0 x1 x2 x3 x4 xs0) x6 (k0_pay8 x6) xo10 := by
  unfold out0_B_10
  rw [View.read_writes_junk_eq_canon]
  refine (View.canon_cons_unit_lit _ _ _ (by decide)).trans ?_
  unfold kernelRun0_B.sl.r_1 kernelRun0_B.sl.r kernelRun0_B.sl.r_2 kernelRun0_B.sl.r_4 dnK
  simp only [rdfull, rdx, rdall]

end Cert.Proof.Gx

end
-- ==== Proof.GxBlk.lean ====
module

public import proofs.«01_k».proof.Proof.GxOut
public import proofs.«01_k».proof.Proof.Gen.Reference8Ideal.Read

@[expose] public section

set_option maxRecDepth 16384

noncomputable section

namespace Cert.Proof.Gx

/-! The gradient of the layer's input: each grid point takes a block of 512 rows of the five
pieces, of the input and of the gradient below, and the weights which the first point copied
together; block by block these are rows of the reference's arrays. -/

open Idealize.ShloMosaic Cert.Kernel8Ideal Cert.Kernel8Ideal.Gen

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx9 : ∀ t : Fin cfg0.N, win0_9.index t = ![t.val, 0] := (by decide +kernel : ∀ t : Fin grid0.N, win0_9.index t = ![t.val, 0])
theorem idx8 : ∀ t : Fin cfg0.N, win0_8.index t = ![0, 0] := (by decide +kernel : ∀ t : Fin grid0.N, win0_8.index t = ![0, 0])
theorem idx10 : ∀ t : Fin cfg0.N, win0_10.index t = ![0, 0] := (by decide +kernel : ∀ t : Fin grid0.N, win0_10.index t = ![0, 0])

theorem blk0 (t : Fin cfg0.N) (y : S512x2560.Idx) (k : S4096x2560.Idx) (h0 : (k 0).val = t.val * 512 + (y 0).val)
    (h1 : (k 1).val = (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    rfl
  | ⟨1, _⟩ =>
    refine Eq.trans ?_ h1.symm
    blk_simp [idx0]
    rfl

theorem blk1 (t : Fin cfg0.N) (y : S512x1536.Idx) (k : S4096x1536.Idx) (h0 : (k 0).val = t.val * 512 + (y 0).val)
    (h1 : (k 1).val = (y 1).val) : iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    rfl
  | ⟨1, _⟩ =>
    refine Eq.trans ?_ h1.symm
    blk_simp [idx1]
    rfl

theorem blk2 (t : Fin cfg0.N) (y : S512x1536.Idx) (k : S4096x1536.Idx) (h0 : (k 0).val = t.val * 512 + (y 0).val)
    (h1 : (k 1).val = (y 1).val) : iblk m c 2 t y = V m c main_arg2 k := by
  refine Eq.trans (b := V m c (Pipeline.arrRef spec0 2) (((cfg0.win 2).blk t).view.emb y)) rfl (congrArg (V m c main_arg2) (funext fun a => Fin.ext ?_))
  match a with
  | ⟨0, _⟩ =>
    refine Eq.trans ?_ h0.symm
    blk_simp [idx2]
    rfl
  | ⟨1, _⟩ =>
    refine Eq.trans ?_ h1.symm
    blk_simp [idx2]
    rfl

theorem blk3 (t : Fin cfg0.N) (y : S512x1536.Idx) (k : S4096x1536.Idx) (h0 : (k 0).val = t.val * 512 + (y 0).val)
    (h1 : (k 1).val = (y 1).val) : iblk m c 3 t y = V m c main_arg3 k := by
  refine Eq.trans (b := V m c (Pipeline.arrRef spec0 3) (((cfg0.win 3).blk t).view.emb y)) rfl (congrArg (V m c main_arg3) (funext fun a => Fin.ext ?_))
  match a with
  | ⟨0, _⟩ =>
    refine Eq.trans ?_ h0.symm
    blk_simp [idx3]
    rfl
  | ⟨1, _⟩ =>
    refine Eq.trans ?_ h1.symm
    blk_simp [idx3]
    rfl

theorem blk4 (t : Fin cfg0.N) (y : S512x2560.Idx) (k : S4096x2560.Idx) (h0 : (k 0).val = t.val * 512 + (y 0).val)
    (h1 : (k 1).val = (y 1).val) : iblk m c 4 t y = V m c main_arg4 k := by
  refine Eq.trans (b := V m c (Pipeline.arrRef spec0 4) (((cfg0.win 4).blk t).view.emb y)) rfl (congrArg (V m c main_arg4) (funext fun a => Fin.ext ?_))
  match a with
  | ⟨0, _⟩ =>
    refine Eq.trans ?_ h0.symm
    blk_simp [idx4]
    rfl
  | ⟨1, _⟩ =>
    refine Eq.trans ?_ h1.symm
    blk_simp [idx4]
    rfl

theorem blk6 (t : Fin cfg0.N) (y : S512x1024.Idx) (k : S4096x1024.Idx) (h0 : (k 0).val = t.val * 512 + (y 0).val)
    (h1 : (k 1).val = (y 1).val) : iblk m c 6 t y = V m c main_arg8 k := by
  refine Eq.trans (b := V m c (Pipeline.arrRef spec0 6) (((cfg0.win 6).blk t).view.emb y)) rfl (congrArg (V m c main_arg8) (funext fun a => Fin.ext ?_))
  match a with
  | ⟨0, _⟩ =>
    refine Eq.trans ?_ h0.symm
    blk_simp [idx6]
    rfl
  | ⟨1, _⟩ =>
    refine Eq.trans ?_ h1.symm
    blk_simp [idx6]
    rfl

theorem blk7 (t : Fin cfg0.N) (y : S512x1024.Idx) (k : S4096x1024.Idx) (h0 : (k 0).val = t.val * 512 + (y 0).val)
    (h1 : (k 1).val = (y 1).val) : iblk m c 7 t y = V m c main_arg9 k := by
  refine Eq.trans (b := V m c (Pipeline.arrRef spec0 7) (((cfg0.win 7).blk t).view.emb y)) rfl (congrArg (V m c main_arg9) (funext fun a => Fin.ext ?_))
  match a with
  | ⟨0, _⟩ =>
    refine Eq.trans ?_ h0.symm
    blk_simp [idx7]
    rfl
  | ⟨1, _⟩ =>
    refine Eq.trans ?_ h1.symm
    blk_simp [idx7]
    rfl

theorem blk8 (t : Fin cfg0.N) (y : S1x1024.Idx) : iblk m c 8 t y = V m c main_arg10 y := by
  refine Eq.trans (b := V m c (Pipeline.arrRef spec0 8) (((cfg0.win 8).blk t).view.emb y)) rfl (congrArg (V m c main_arg10) (funext fun a => Fin.ext ?_))
  match a with
  | ⟨0, _⟩ => blk_simp [idx8]
  | ⟨1, _⟩ => blk_simp [idx8]

/-- The gradient columns in the reference's order. -/
abbrev cols : FVec Ideal Cert.Reference8Ideal.S4096x9728 .bf16 :=
  Cert.Reference8Ideal.Read.val_main_v12 (F := Ideal) (V m c main_arg0) (V m c main_arg1) (V m c main_arg2) (V m c main_arg3) (V m c main_arg4)

theorem col0 (k : Cert.Reference8Ideal.S4096x9728.Idx) (l : S4096x2560.Idx) (h0 : (l 0).val = (k 0).val)
    (h1 : (l 1).val + 0 = (k 1).val + 0) (hl : 0 ≤ (k 1).val) (hu : (k 1).val < 2560) : cols m c k = V m c main_arg0 l := by
  unfold cols Cert.Reference8Ideal.Read.val_main_v12
  pointwise
  rw [dif_pos (by omega)]
  refine congrArg (V m c main_arg0) (funext fun a => Fin.ext ?_)
  match a with
  | ⟨0, _⟩ => exact h0.symm
  | ⟨1, _⟩ =>
    refine Eq.trans (b := (l 1).val) ?_ rfl
    simp
    omega

theorem col1 (k : Cert.Reference8Ideal.S4096x9728.Idx) (l : S4096x1536.Idx) (h0 : (l 0).val = (k 0).val)
    (h1 : (l 1).val + 2560 = (k 1).val + 0) (hl : 2560 ≤ (k 1).val) (hu : (k 1).val < 3072) : cols m c k = V m c main_arg1 l := by
  unfold cols Cert.Reference8Ideal.Read.val_main_v12
  pointwise
  rw [dif_neg (by omega), dif_pos (by omega)]
  unfold Cert.Reference8Ideal.Read.val_main_v3
  pointwise
  refine congrArg (V m c main_arg1) (funext fun a => Fin.ext ?_)
  match a with
  | ⟨0, _⟩ => exact h0.symm
  | ⟨1, _⟩ =>
    refine Eq.trans (b := (l 1).val) ?_ rfl
    simp
    omega

theorem col2 (k : Cert.Reference8Ideal.S4096x9728.Idx) (l : S4096x1536.Idx) (h0 : (l 0).val = (k 0).val)
    (h1 : (l 1).val + 3072 = (k 1).val + 0) (hl : 3072 ≤ (k 1).val) (hu : (k 1).val < 3584) : cols m c k = V m c main_arg2 l := by
  unfold cols Cert.Reference8Ideal.Read.val_main_v12
  pointwise
  rw [dif_neg (by omega), dif_neg (by omega), dif_pos (by omega)]
  unfold Cert.Reference8Ideal.Read.val_main_v4
  pointwise
  refine congrArg (V m c main_arg2) (funext fun a => Fin.ext ?_)
  match a with
  | ⟨0, _⟩ => exact h0.symm
  | ⟨1, _⟩ =>
    refine Eq.trans (b := (l 1).val) ?_ rfl
    simp
    omega

theorem col3 (k : Cert.Reference8Ideal.S4096x9728.Idx) (l : S4096x1536.Idx) (h0 : (l 0).val = (k 0).val)
    (h1 : (l 1).val + 3584 = (k 1).val + 0) (hl : 3584 ≤ (k 1).val) (hu : (k 1).val < 4096) : cols m c k = V m c main_arg3 l := by
  unfold cols Cert.Reference8Ideal.Read.val_main_v12
  pointwise
  rw [dif_neg (by omega), dif_neg (by omega), dif_neg (by omega), dif_pos (by omega)]
  unfold Cert.Reference8Ideal.Read.val_main_v5
  pointwise
  refine congrArg (V m c main_arg3) (funext fun a => Fin.ext ?_)
  match a with
  | ⟨0, _⟩ => exact h0.symm
  | ⟨1, _⟩ =>
    refine Eq.trans (b := (l 1).val) ?_ rfl
    simp
    omega

theorem col4 (k : Cert.Reference8Ideal.S4096x9728.Idx) (l : S4096x1536.Idx) (h0 : (l 0).val = (k 0).val)
    (h1 : (l 1).val + 4096 = (k 1).val + 512) (hl : 4096 ≤ (k 1).val) (hu : (k 1).val < 4608) : cols m c k = V m c main_arg1 l := by
  unfold cols Cert.Reference8Ideal.Read.val_main_v12
  pointwise
  rw [dif_neg (by omega), dif_neg (by omega), dif_neg (by omega), dif_neg (by omega), dif_pos (by omega)]
  unfold Cert.Reference8Ideal.Read.val_main_v6
  pointwise
  refine congrArg (V m c main_arg1) (funext fun a => Fin.ext ?_)
  match a with
  | ⟨0, _⟩ => exact h0.symm
  | ⟨1, _⟩ =>
    refine Eq.trans (b := (l 1).val) ?_ rfl
    simp
    omega

theorem col5 (k : Cert.Reference8Ideal.S4096x9728.Idx) (l : S4096x1536.Idx) (h0 : (l 0).val = (k 0).val)
    (h1 : (l 1).val + 4608 = (k 1).val + 512) (hl : 4608 ≤ (k 1).val) (hu : (k 1).val < 5120) : cols m c k = V m c main_arg2 l := by
  unfold cols Cert.Reference8Ideal.Read.val_main_v12
  pointwise
  rw [dif_neg (by omega), dif_neg (by omega), dif_neg (by omega), dif_neg (by omega), dif_neg (by omega), dif_pos (by omega)]
  unfold Cert.Reference8Ideal.Read.val_main_v7
  pointwise
  refine congrArg (V m c main_arg2) (funext fun a => Fin.ext ?_)
  match a with
  | ⟨0, _⟩ => exact h0.symm
  | ⟨1, _⟩ =>
    refine Eq.trans (b := (l 1).val) ?_ rfl
    simp
    omega

theorem col6 (k : Cert.Reference8Ideal.S4096x9728.Idx) (l : S4096x1536.Idx) (h0 : (l 0).val = (k 0).val)
    (h1 : (l 1).val + 5120 = (k 1).val + 512) (hl : 5120 ≤ (k 1).val) (hu : (k 1).val < 5632) : cols m c k = V m c main_arg3 l := by
  unfold cols Cert.Reference8Ideal.Read.val_main_v12
  pointwise
  rw [dif_neg (by omega), dif_neg (by omega), dif_neg (by omega), dif_neg (by omega), dif_neg (by omega), dif_neg (by omega), dif_pos (by omega)]
  unfold Cert.Reference8Ideal.Read.val_main_v8
  pointwise
  refine congrArg (V m c main_arg3) (funext fun a => Fin.ext ?_)
  match a with
  | ⟨0, _⟩ => exact h0.symm
  | ⟨1, _⟩ =>
    refine Eq.trans (b := (l 1).val) ?_ rfl
    simp
    omega

theorem col7 (k : Cert.Reference8Ideal.S4096x9728.Idx) (l : S4096x1536.Idx) (h0 : (l 0).val = (k 0).val)
    (h1 : (l 1).val + 5632 = (k 1).val + 1024) (hl : 5632 ≤ (k 1).val) (hu : (k 1).val < 6144) : cols m c k = V m c main_arg1 l := by
  unfold cols Cert.Reference8Ideal.Read.val_main_v12
  pointwise
  rw [dif_neg (by omega), dif_neg (by omega), dif_neg (by omega), dif_neg (by omega), dif_neg (by omega), dif_neg (by omega), dif_neg (by omega), dif_pos (by omega)]
  unfold Cert.Reference8Ideal.Read.val_main_v9
  pointwise
  refine congrArg (V m c main_arg1) (funext fun a => Fin.ext ?_)
  match a with
  | ⟨0, _⟩ => exact h0.symm
  | ⟨1, _⟩ =>
    refine Eq.trans (b := (l 1).val) ?_ rfl
    simp
    omega

theorem col8 (k : Cert.Reference8Ideal.S4096x9728.Idx) (l : S4096x1536.Idx) (h0 : (l 0).val = (k 0).val)
    (h1 : (l 1).val + 6144 = (k 1).val + 1024) (hl : 6144 ≤ (k 1).val) (hu : (k 1).val < 6656) : cols m c k = V m c main_arg2 l := by
  unfold cols Cert.Reference8Ideal.Read.val_main_v12
  pointwise
  rw [dif_neg (by omega), dif_neg (by omega), dif_neg (by omega), dif_neg (by omega), dif_neg (by omega), dif_neg (by omega), dif_neg (by omega), dif_neg (by omega), dif_pos (by omega)]
  unfold Cert.Reference8Ideal.Read.val_main_v10
  pointwise
  refine congrArg (V m c main_arg2) (funext fun a => Fin.ext ?_)
  match a with
  | ⟨0, _⟩ => exact h0.symm
  | ⟨1, _⟩ =>
    refine Eq.trans (b := (l 1).val) ?_ rfl
    simp
    omega

theorem col9 (k : Cert.Reference8Ideal.S4096x9728.Idx) (l : S4096x1536.Idx) (h0 : (l 0).val = (k 0).val)
    (h1 : (l 1).val + 6656 = (k 1).val + 1024) (hl : 6656 ≤ (k 1).val) (hu : (k 1).val < 7168) : cols m c k = V m c main_arg3 l := by
  unfold cols Cert.Reference8Ideal.Read.val_main_v12
  pointwise
  rw [dif_neg (by omega), dif_neg (by omega), dif_neg (by omega), dif_neg (by omega), dif_neg (by omega), dif_neg (by omega), dif_neg (by omega), dif_neg (by omega), dif_neg (by omega), dif_pos (by omega)]
  unfold Cert.Reference8Ideal.Read.val_main_v11
  pointwise
  refine congrArg (V m c main_arg3) (funext fun a => Fin.ext ?_)
  match a with
  | ⟨0, _⟩ => exact h0.symm
  | ⟨1, _⟩ =>
    refine Eq.trans (b := (l 1).val) ?_ rfl
    simp
    omega

theorem col10 (k : Cert.Reference8Ideal.S4096x9728.Idx) (l : S4096x2560.Idx) (h0 : (l 0).val = (k 0).val)
    (h1 : (l 1).val + 7168 = (k 1).val + 0) (hl : 7168 ≤ (k 1).val) (hu : (k 1).val < 9728) : cols m c k = V m c main_arg4 l := by
  unfold cols Cert.Reference8Ideal.Read.val_main_v12
  pointwise
  rw [dif_neg (by omega), dif_neg (by omega), dif_neg (by omega), dif_neg (by omega), dif_neg (by omega), dif_neg (by omega), dif_neg (by omega), dif_neg (by omega), dif_neg (by omega), dif_neg (by omega)]
  refine congrArg (V m c main_arg4) (funext fun a => Fin.ext ?_)
  match a with
  | ⟨0, _⟩ => exact h0.symm
  | ⟨1, _⟩ =>
    refine Eq.trans (b := (l 1).val) ?_ rfl
    simp
    omega

/-- The weights in the reference's order. -/
abbrev wts : FVec Ideal Cert.Reference8Ideal.S9728x1024 .bf16 :=
  Cert.Reference8Ideal.Read.val_main_v1 (F := Ideal) (V m c main_arg5) (V m c main_arg6) (V m c main_arg7)

theorem wts0 (y : S9728x1024.Idx) (l : S1x2432x1024.Idx) (h1 : (y 0).val = (l 1).val) (h2 : (y 1).val = (l 2).val) :
    wts m c y = V m c main_arg5 l := by
  have q0 : (l 0).val < 1 := (l 0).isLt
  have q1 : (l 1).val < 2432 := (l 1).isLt
  unfold wts Cert.Reference8Ideal.Read.val_main_v1 Cert.Reference8Ideal.Read.val_main_v0
  pointwise
  rw [dif_pos (by omega)]
  refine congrArg (V m c main_arg5) (funext fun a => Fin.ext ?_)
  match a with
  | ⟨0, _⟩ => change (y 0).val / 2432 = (l 0).val; omega
  | ⟨1, _⟩ => change (y 0).val % 2432 = (l 1).val; omega
  | ⟨2, _⟩ => exact h2

theorem wts1 (y : S9728x1024.Idx) (l : S2x2432x1024.Idx) (h1 : (y 0).val = 2432 + (l 0).val * 2432 + (l 1).val) (h2 : (y 1).val = (l 2).val) :
    wts m c y = V m c main_arg6 l := by
  have q0 : (l 0).val < 2 := (l 0).isLt
  have q1 : (l 1).val < 2432 := (l 1).isLt
  unfold wts Cert.Reference8Ideal.Read.val_main_v1 Cert.Reference8Ideal.Read.val_main_v0
  pointwise
  rw [dif_neg (by omega), dif_pos (by omega)]
  refine congrArg (V m c main_arg6) (funext fun a => Fin.ext ?_)
  match a with
  | ⟨0, _⟩ => change (y 0).val / 2432 - 1 = (l 0).val; omega
  | ⟨1, _⟩ => change (y 0).val % 2432 = (l 1).val; omega
  | ⟨2, _⟩ => exact h2

theorem wts2 (y : S9728x1024.Idx) (l : S1x2432x1024.Idx) (h1 : (y 0).val = 7296 + (l 1).val) (h2 : (y 1).val = (l 2).val) :
    wts m c y = V m c main_arg7 l := by
  have q0 : (l 0).val < 1 := (l 0).isLt
  have q1 : (l 1).val < 2432 := (l 1).isLt
  unfold wts Cert.Reference8Ideal.Read.val_main_v1 Cert.Reference8Ideal.Read.val_main_v0
  pointwise
  rw [dif_neg (by omega), dif_neg (by omega)]
  refine congrArg (V m c main_arg7) (funext fun a => Fin.ext ?_)
  match a with
  | ⟨0, _⟩ => change (y 0).val / 2432 - 1 - 2 = (l 0).val; omega
  | ⟨1, _⟩ => change (y 0).val % 2432 = (l 1).val; omega
  | ⟨2, _⟩ => exact h2

theorem piece0 (x : S2432x1024.Idx) :
    kernelRun0_A.sl.dma0 c (V m c main_arg5) x = wts m c ((Rect.unit (s := S9728x1024) ![0, 0] S2432x1024.size inb_S9728x1024_S2432x1024_0_0).emb x) := by
  refine Eq.trans ?_ (wts0 m c _ (ix3 0 (x 0) (x 1) : S1x2432x1024.Idx) ?_ ?_).symm
  · unfold kernelRun0_A.sl.dma0
    refine Eq.trans (b := shapeCast S2432x1024 (View.readAt (Elt Ideal) (Memref.whole main_arg5).view (Rect.unit (s := S1x2432x1024) ![0, 0, 0] S1x2432x1024.size (by decide)).toLoadRect (V m c main_arg5)) (by decide) x) rfl ?_
    pointwise
    refine congrArg (V m c main_arg5) (funext fun a => Fin.ext ?_)
    match a with
    | ⟨0, _⟩ => rfl
    | ⟨1, _⟩ => first | (change 0 + 1 * (x 0).val = (x 0).val; omega) | (change 0 + (x 0).val * 1 = (x 0).val; omega)
    | ⟨2, _⟩ => first | (change 0 + 1 * (x 1).val = (x 1).val; omega) | (change 0 + (x 1).val * 1 = (x 1).val; omega)
  · first | (change 0 + 1 * (x 0).val = (x 0).val; omega)
  · first | (change 0 + 1 * (x 1).val = (x 1).val; omega)

theorem piece1 (x : S2432x1024.Idx) :
    kernelRun0_A.sl.dma0_1 c (V m c main_arg6) x = wts m c ((Rect.unit (s := S9728x1024) ![2432, 0] S2432x1024.size inb_S9728x1024_S2432x1024_2432_0).emb x) := by
  refine Eq.trans ?_ (wts1 m c _ (ix3 0 (x 0) (x 1) : S2x2432x1024.Idx) ?_ ?_).symm
  · unfold kernelRun0_A.sl.dma0_1
    refine Eq.trans (b := shapeCast S2432x1024 (View.readAt (Elt Ideal) (Memref.whole main_arg6).view (Rect.unit (s := S2x2432x1024) ![0, 0, 0] S1x2432x1024.size (by decide)).toLoadRect (V m c main_arg6)) (by decide) x) rfl ?_
    pointwise
    refine congrArg (V m c main_arg6) (funext fun a => Fin.ext ?_)
    match a with
    | ⟨0, _⟩ => rfl
    | ⟨1, _⟩ => first | (change 0 + 1 * (x 0).val = (x 0).val; omega) | (change 0 + (x 0).val * 1 = (x 0).val; omega)
    | ⟨2, _⟩ => first | (change 0 + 1 * (x 1).val = (x 1).val; omega) | (change 0 + (x 1).val * 1 = (x 1).val; omega)
  · first | (change 2432 + 1 * (x 0).val = 2432 + 0 * 2432 + (x 0).val; omega)
  · first | (change 0 + 1 * (x 1).val = (x 1).val; omega)

theorem piece2 (x : S2432x1024.Idx) :
    kernelRun0_A.sl.dma0_2 c (V m c main_arg6) x = wts m c ((Rect.unit (s := S9728x1024) ![4864, 0] S2432x1024.size inb_S9728x1024_S2432x1024_4864_0).emb x) := by
  refine Eq.trans ?_ (wts1 m c _ (ix3 1 (x 0) (x 1) : S2x2432x1024.Idx) ?_ ?_).symm
  · unfold kernelRun0_A.sl.dma0_2
    refine Eq.trans (b := shapeCast S2432x1024 (View.readAt (Elt Ideal) (Memref.whole main_arg6).view (Rect.unit (s := S2x2432x1024) ![1, 0, 0] S1x2432x1024.size (by decide)).toLoadRect (V m c main_arg6)) (by decide) x) rfl ?_
    pointwise
    refine congrArg (V m c main_arg6) (funext fun a => Fin.ext ?_)
    match a with
    | ⟨0, _⟩ => rfl
    | ⟨1, _⟩ => first | (change 0 + 1 * (x 0).val = (x 0).val; omega) | (change 0 + (x 0).val * 1 = (x 0).val; omega)
    | ⟨2, _⟩ => first | (change 0 + 1 * (x 1).val = (x 1).val; omega) | (change 0 + (x 1).val * 1 = (x 1).val; omega)
  · first | (change 4864 + 1 * (x 0).val = 2432 + 1 * 2432 + (x 0).val; omega)
  · first | (change 0 + 1 * (x 1).val = (x 1).val; omega)

theorem piece3 (x : S2432x1024.Idx) :
    kernelRun0_A.sl.dma0_3 c (V m c main_arg7) x = wts m c ((Rect.unit (s := S9728x1024) ![7296, 0] S2432x1024.size inb_S9728x1024_S2432x1024_7296_0).emb x) := by
  refine Eq.trans ?_ (wts2 m c _ (ix3 0 (x 0) (x 1) : S1x2432x1024.Idx) ?_ ?_).symm
  · unfold kernelRun0_A.sl.dma0_3
    refine Eq.trans (b := shapeCast S2432x1024 (View.readAt (Elt Ideal) (Memref.whole main_arg7).view (Rect.unit (s := S1x2432x1024) ![0, 0, 0] S1x2432x1024.size (by decide)).toLoadRect (V m c main_arg7)) (by decide) x) rfl ?_
    pointwise
    refine congrArg (V m c main_arg7) (funext fun a => Fin.ext ?_)
    match a with
    | ⟨0, _⟩ => rfl
    | ⟨1, _⟩ => first | (change 0 + 1 * (x 0).val = (x 0).val; omega) | (change 0 + (x 0).val * 1 = (x 0).val; omega)
    | ⟨2, _⟩ => first | (change 0 + 1 * (x 1).val = (x 1).val; omega) | (change 0 + (x 1).val * 1 = (x 1).val; omega)
  · first | (change 7296 + 1 * (x 0).val = 7296 + (x 0).val; omega)
  · first | (change 0 + 1 * (x 1).val = (x 1).val; omega)

/-- What the four copies leave is the reference's stack of the weights' pieces. -/
theorem wK_eq : wK (F := Ideal) c (V m c main_arg5) (V m c main_arg6) (V m c main_arg7) = wts m c := by
  funext y
  unfold wK
  refine View.canon_apply_of_pieces (Val := Elt Ideal) (S := S9728x1024) (e := .bf16) (wts m c) _ (fun p hp x => ?_) y ?_
  · simp only [List.mem_cons, List.not_mem_nil, or_false] at hp
    rcases hp with rfl | rfl | rfl | rfl
    · exact piece3 m c x
    · exact piece2 m c x
    · exact piece1 m c x
    · exact piece0 m c x
  · have hy0 : (y 0).val < 9728 := (y 0).isLt
    have hy1 : (y 1).val < 1024 := (y 1).isLt
    rcases Nat.lt_or_ge (y 0).val 2432 with h | h
    · refine ⟨_, List.mem_cons_of_mem _ (List.mem_cons_of_mem _ (List.mem_cons_of_mem _ List.mem_cons_self)), (Rect.mem_set_unit (inb := inb_S9728x1024_S2432x1024_0_0)).mpr fun a => ?_⟩
      match a with
      | ⟨0, _⟩ => exact ⟨Nat.zero_le _, by change (y 0).val < 0 + 2432; omega⟩
      | ⟨1, _⟩ => exact ⟨Nat.zero_le _, by change (y 1).val < 0 + 1024; omega⟩
    rcases Nat.lt_or_ge (y 0).val 4864 with h' | h'
    · refine ⟨_, List.mem_cons_of_mem _ (List.mem_cons_of_mem _ List.mem_cons_self), (Rect.mem_set_unit (inb := inb_S9728x1024_S2432x1024_2432_0)).mpr fun a => ?_⟩
      match a with
      | ⟨0, _⟩ => exact ⟨h, by change (y 0).val < 2432 + 2432; omega⟩
      | ⟨1, _⟩ => exact ⟨Nat.zero_le _, by change (y 1).val < 0 + 1024; omega⟩
    rcases Nat.lt_or_ge (y 0).val 7296 with h'' | h''
    · refine ⟨_, List.mem_cons_of_mem _ List.mem_cons_self, (Rect.mem_set_unit (inb := inb_S9728x1024_S2432x1024_4864_0)).mpr fun a => ?_⟩
      match a with
      | ⟨0, _⟩ => exact ⟨h', by change (y 0).val < 4864 + 2432; omega⟩
      | ⟨1, _⟩ => exact ⟨Nat.zero_le _, by change (y 1).val < 0 + 1024; omega⟩
    · refine ⟨_, List.mem_cons_self, (Rect.mem_set_unit (inb := inb_S9728x1024_S2432x1024_7296_0)).mpr fun a => ?_⟩
      match a with
      | ⟨0, _⟩ => exact ⟨h'', by change (y 0).val < 7296 + 2432; omega⟩
      | ⟨1, _⟩ => exact ⟨Nat.zero_le _, by change (y 1).val < 0 + 1024; omega⟩

end Cert.Proof.Gx

end
-- ==== Proof.GxDn.lean ====
module

public import proofs.«01_k».proof.Proof.GxBlk
public import proofs.«01_k».proof.Proof.Gen.Reference8Ideal.Read
public import Idealize.ShloMosaic.Lib.Pipeline.ValueKit

@[expose] public section

set_option maxRecDepth 16384

noncomputable section

namespace Cert.Proof.Gx

/-! The gradient of the normalised input: a grid point's eleven products, one for each run of the
projection's columns, add up to the reference's one product over all 9728 columns. -/

open Idealize.ShloMosaic Cert.Kernel8Ideal Cert.Kernel8Ideal.Gen

theorem splitAt (n k N : ℕ) (h : n + k = N) (f : Fin N → EReal) :
    ∑ i, f i = ∑ i : Fin n, f ⟨i.val, by omega⟩ + ∑ j : Fin k, f ⟨n + j.val, by omega⟩ := by
  subst h
  exact Fin.sum_univ_add f

theorem split11 (f : Fin 9728 → EReal) : ∑ i, f i =
    ∑ i : Fin 2560, f ⟨i.val, by omega⟩
 + ∑ i : Fin 512, f ⟨2560 + i.val, by omega⟩ + ∑ i : Fin 512, f ⟨3072 + i.val, by omega⟩ + ∑ i : Fin 512, f ⟨3584 + i.val, by omega⟩ + ∑ i : Fin 512, f ⟨4096 + i.val, by omega⟩ + ∑ i : Fin 512, f ⟨4608 + i.val, by omega⟩ + ∑ i : Fin 512, f ⟨5120 + i.val, by omega⟩ + ∑ i : Fin 512, f ⟨5632 + i.val, by omega⟩ + ∑ i : Fin 512, f ⟨6144 + i.val, by omega⟩ + ∑ i : Fin 512, f ⟨6656 + i.val, by omega⟩ + ∑ i : Fin 2560, f ⟨7168 + i.val, by omega⟩ := by
  rw [splitAt 7168 2560 9728 rfl]
  rw [splitAt 6656 512 7168 rfl]
  rw [splitAt 6144 512 6656 rfl]
  rw [splitAt 5632 512 6144 rfl]
  rw [splitAt 5120 512 5632 rfl]
  rw [splitAt 4608 512 5120 rfl]
  rw [splitAt 4096 512 4608 rfl]
  rw [splitAt 3584 512 4096 rfl]
  rw [splitAt 3072 512 3584 rfl]
  rw [splitAt 2560 512 3072 rfl]

variable (m : (ℓ : Loc nD τ sig) → Buf (Elt Ideal) ℓ) (c : Dev nD)

/-- The reference's gradient of the normalised input. -/
abbrev dnR : FVec Ideal Cert.Reference8Ideal.S4096x1024 .f32 :=
  Cert.Reference8Ideal.Read.val_main_v31 (F := Ideal) (V m c main_arg0) (V m c main_arg1) (V m c main_arg2) (V m c main_arg3) (V m c main_arg4)
    (V m c main_arg5) (V m c main_arg6) (V m c main_arg7)

/-- Block `t` of window 0. -/
abbrev B0 (t : Fin cfg0.N) : FVec Ideal S512x2560 .bf16 := iblk m c 0 t
/-- Block `t` of window 1. -/
abbrev B1 (t : Fin cfg0.N) : FVec Ideal S512x1536 .bf16 := iblk m c 1 t
/-- Block `t` of window 2. -/
abbrev B2 (t : Fin cfg0.N) : FVec Ideal S512x1536 .bf16 := iblk m c 2 t
/-- Block `t` of window 3. -/
abbrev B3 (t : Fin cfg0.N) : FVec Ideal S512x1536 .bf16 := iblk m c 3 t
/-- Block `t` of window 4. -/
abbrev B4 (t : Fin cfg0.N) : FVec Ideal S512x2560 .bf16 := iblk m c 4 t

theorem reorder (a q0 q1 q2 k0 k1 k2 v0 v1 v2 z : EReal) :
    a + q0 + q1 + q2 + k0 + k1 + k2 + v0 + v1 + v2 + z = a + q0 + k0 + v0 + q1 + k1 + v1 + q2 + k2 + v2 + z := by
  abel

theorem dnR_eq (i : Cert.Reference8Ideal.S4096x1024.Idx) :
    dnR m c i = ∑ k : Fin 9728, cols m c (ix2 (i 0) k) * wts m c (ix2 k (i 1)) := by
  unfold dnR Cert.Reference8Ideal.Read.val_main_v31 Cert.Reference8Ideal.Read.val_main_v13 Cert.Reference8Ideal.Read.val_main_v29 Cert.Reference8Ideal.Read.val_main_v2
  pointwise

theorem run0 (t : Fin cfg0.N) (j : S512x1024.Idx) (i : S4096x1024.Idx) (h0 : (i 0).val = t.val * 512 + (j 0).val) (h1 : (i 1).val = (j 1).val) :
    (∑ k : Fin 2560, B0 m c t (ix2 (j 0) k : S512x2560.Idx) * wts m c (ix2 ⟨k.val, by omega⟩ (j 1)) : EReal) =
      ∑ k : Fin 2560, cols m c (ix2 (i 0) ⟨k.val, by omega⟩) * wts m c (ix2 ⟨k.val, by omega⟩ (i 1)) := by
  have e1 : i 1 = j 1 := Fin.ext h1
  rw [e1]
  refine Finset.sum_congr rfl fun k _ => congrArg (· * _) ?_
  have hk : k.val < 2560 := k.isLt
  refine (blk0 m c t (ix2 (j 0) k : S512x2560.Idx) (ix2 (i 0) k : S4096x2560.Idx) h0 rfl).trans ?_
  refine (col0 m c _ _ rfl ?_ ?_ ?_).symm
  · change k.val + 0 = k.val + 0; omega
  · change 0 ≤ k.val; omega
  · change k.val < 2560; omega

theorem run1 (t : Fin cfg0.N) (j : S512x1024.Idx) (i : S4096x1024.Idx) (h0 : (i 0).val = t.val * 512 + (j 0).val) (h1 : (i 1).val = (j 1).val) :
    (∑ k : Fin 512, B1 m c t (ix2 (j 0) ⟨k.val, by omega⟩ : S512x1536.Idx) * wts m c (ix2 ⟨2560 + k.val, by omega⟩ (j 1)) : EReal) =
      ∑ k : Fin 512, cols m c (ix2 (i 0) ⟨2560 + k.val, by omega⟩) * wts m c (ix2 ⟨2560 + k.val, by omega⟩ (i 1)) := by
  have e1 : i 1 = j 1 := Fin.ext h1
  rw [e1]
  refine Finset.sum_congr rfl fun k _ => congrArg (· * _) ?_
  have hk : k.val < 512 := k.isLt
  refine (blk1 m c t (ix2 (j 0) ⟨k.val, by omega⟩ : S512x1536.Idx) (ix2 (i 0) ⟨k.val, by omega⟩ : S4096x1536.Idx) h0 rfl).trans ?_
  refine (col1 m c _ _ rfl ?_ ?_ ?_).symm
  · change k.val + 2560 = 2560 + k.val + 0; omega
  · change 2560 ≤ 2560 + k.val; omega
  · change 2560 + k.val < 3072; omega

theorem run4 (t : Fin cfg0.N) (j : S512x1024.Idx) (i : S4096x1024.Idx) (h0 : (i 0).val = t.val * 512 + (j 0).val) (h1 : (i 1).val = (j 1).val) :
    (∑ k : Fin 512, B1 m c t (ix2 (j 0) ⟨512 + k.val, by omega⟩ : S512x1536.Idx) * wts m c (ix2 ⟨4096 + k.val, by omega⟩ (j 1)) : EReal) =
      ∑ k : Fin 512, cols m c (ix2 (i 0) ⟨4096 + k.val, by omega⟩) * wts m c (ix2 ⟨4096 + k.val, by omega⟩ (i 1)) := by
  have e1 : i 1 = j 1 := Fin.ext h1
  rw [e1]
  refine Finset.sum_congr rfl fun k _ => congrArg (· * _) ?_
  have hk : k.val < 512 := k.isLt
  refine (blk1 m c t (ix2 (j 0) ⟨512 + k.val, by omega⟩ : S512x1536.Idx) (ix2 (i 0) ⟨512 + k.val, by omega⟩ : S4096x1536.Idx) h0 rfl).trans ?_
  refine (col4 m c _ _ rfl ?_ ?_ ?_).symm
  · change 512 + k.val + 4096 = 4096 + k.val + 512; omega
  · change 4096 ≤ 4096 + k.val; omega
  · change 4096 + k.val < 4608; omega

theorem run7 (t : Fin cfg0.N) (j : S512x1024.Idx) (i : S4096x1024.Idx) (h0 : (i 0).val = t.val * 512 + (j 0).val) (h1 : (i 1).val = (j 1).val) :
    (∑ k : Fin 512, B1 m c t (ix2 (j 0) ⟨1024 + k.val, by omega⟩ : S512x1536.Idx) * wts m c (ix2 ⟨5632 + k.val, by omega⟩ (j 1)) : EReal) =
      ∑ k : Fin 512, cols m c (ix2 (i 0) ⟨5632 + k.val, by omega⟩) * wts m c (ix2 ⟨5632 + k.val, by omega⟩ (i 1)) := by
  have e1 : i 1 = j 1 := Fin.ext h1
  rw [e1]
  refine Finset.sum_congr rfl fun k _ => congrArg (· * _) ?_
  have hk : k.val < 512 := k.isLt
  refine (blk1 m c t (ix2 (j 0) ⟨1024 + k.val, by omega⟩ : S512x1536.Idx) (ix2 (i 0) ⟨1024 + k.val, by omega⟩ : S4096x1536.Idx) h0 rfl).trans ?_
  refine (col7 m c _ _ rfl ?_ ?_ ?_).symm
  · change 1024 + k.val + 5632 = 5632 + k.val + 1024; omega
  · change 5632 ≤ 5632 + k.val; omega
  · change 5632 + k.val < 6144; omega

theorem run2 (t : Fin cfg0.N) (j : S512x1024.Idx) (i : S4096x1024.Idx) (h0 : (i 0).val = t.val * 512 + (j 0).val) (h1 : (i 1).val = (j 1).val) :
    (∑ k : Fin 512, B2 m c t (ix2 (j 0) ⟨k.val, by omega⟩ : S512x1536.Idx) * wts m c (ix2 ⟨3072 + k.val, by omega⟩ (j 1)) : EReal) =
      ∑ k : Fin 512, cols m c (ix2 (i 0) ⟨3072 + k.val, by omega⟩) * wts m c (ix2 ⟨3072 + k.val, by omega⟩ (i 1)) := by
  have e1 : i 1 = j 1 := Fin.ext h1
  rw [e1]
  refine Finset.sum_congr rfl fun k _ => congrArg (· * _) ?_
  have hk : k.val < 512 := k.isLt
  refine (blk2 m c t (ix2 (j 0) ⟨k.val, by omega⟩ : S512x1536.Idx) (ix2 (i 0) ⟨k.val, by omega⟩ : S4096x1536.Idx) h0 rfl).trans ?_
  refine (col2 m c _ _ rfl ?_ ?_ ?_).symm
  · change k.val + 3072 = 3072 + k.val + 0; omega
  · change 3072 ≤ 3072 + k.val; omega
  · change 3072 + k.val < 3584; omega

theorem run5 (t : Fin cfg0.N) (j : S512x1024.Idx) (i : S4096x1024.Idx) (h0 : (i 0).val = t.val * 512 + (j 0).val) (h1 : (i 1).val = (j 1).val) :
    (∑ k : Fin 512, B2 m c t (ix2 (j 0) ⟨512 + k.val, by omega⟩ : S512x1536.Idx) * wts m c (ix2 ⟨4608 + k.val, by omega⟩ (j 1)) : EReal) =
      ∑ k : Fin 512, cols m c (ix2 (i 0) ⟨4608 + k.val, by omega⟩) * wts m c (ix2 ⟨4608 + k.val, by omega⟩ (i 1)) := by
  have e1 : i 1 = j 1 := Fin.ext h1
  rw [e1]
  refine Finset.sum_congr rfl fun k _ => congrArg (· * _) ?_
  have hk : k.val < 512 := k.isLt
  refine (blk2 m c t (ix2 (j 0) ⟨512 + k.val, by omega⟩ : S512x1536.Idx) (ix2 (i 0) ⟨512 + k.val, by omega⟩ : S4096x1536.Idx) h0 rfl).trans ?_
  refine (col5 m c _ _ rfl ?_ ?_ ?_).symm
  · change 512 + k.val + 4608 = 4608 + k.val + 512; omega
  · change 4608 ≤ 4608 + k.val; omega
  · change 4608 + k.val < 5120; omega

theorem run8 (t : Fin cfg0.N) (j : S512x1024.Idx) (i : S4096x1024.Idx) (h0 : (i 0).val = t.val * 512 + (j 0).val) (h1 : (i 1).val = (j 1).val) :
    (∑ k : Fin 512, B2 m c t (ix2 (j 0) ⟨1024 + k.val, by omega⟩ : S512x1536.Idx) * wts m c (ix2 ⟨6144 + k.val, by omega⟩ (j 1)) : EReal) =
      ∑ k : Fin 512, cols m c (ix2 (i 0) ⟨6144 + k.val, by omega⟩) * wts m c (ix2 ⟨6144 + k.val, by omega⟩ (i 1)) := by
  have e1 : i 1 = j 1 := Fin.ext h1
  rw [e1]
  refine Finset.sum_congr rfl fun k _ => congrArg (· * _) ?_
  have hk : k.val < 512 := k.isLt
  refine (blk2 m c t (ix2 (j 0) ⟨1024 + k.val, by omega⟩ : S512x1536.Idx) (ix2 (i 0) ⟨1024 + k.val, by omega⟩ : S4096x1536.Idx) h0 rfl).trans ?_
  refine (col8 m c _ _ rfl ?_ ?_ ?_).symm
  · change 1024 + k.val + 6144 = 6144 + k.val + 1024; omega
  · change 6144 ≤ 6144 + k.val; omega
  · change 6144 + k.val < 6656; omega

theorem run3 (t : Fin cfg0.N) (j : S512x1024.Idx) (i : S4096x1024.Idx) (h0 : (i 0).val = t.val * 512 + (j 0).val) (h1 : (i 1).val = (j 1).val) :
    (∑ k : Fin 512, B3 m c t (ix2 (j 0) ⟨k.val, by omega⟩ : S512x1536.Idx) * wts m c (ix2 ⟨3584 + k.val, by omega⟩ (j 1)) : EReal) =
      ∑ k : Fin 512, cols m c (ix2 (i 0) ⟨3584 + k.val, by omega⟩) * wts m c (ix2 ⟨3584 + k.val, by omega⟩ (i 1)) := by
  have e1 : i 1 = j 1 := Fin.ext h1
  rw [e1]
  refine Finset.sum_congr rfl fun k _ => congrArg (· * _) ?_
  have hk : k.val < 512 := k.isLt
  refine (blk3 m c t (ix2 (j 0) ⟨k.val, by omega⟩ : S512x1536.Idx) (ix2 (i 0) ⟨k.val, by omega⟩ : S4096x1536.Idx) h0 rfl).trans ?_
  refine (col3 m c _ _ rfl ?_ ?_ ?_).symm
  · change k.val + 3584 = 3584 + k.val + 0; omega
  · change 3584 ≤ 3584 + k.val; omega
  · change 3584 + k.val < 4096; omega

theorem run6 (t : Fin cfg0.N) (j : S512x1024.Idx) (i : S4096x1024.Idx) (h0 : (i 0).val = t.val * 512 + (j 0).val) (h1 : (i 1).val = (j 1).val) :
    (∑ k : Fin 512, B3 m c t (ix2 (j 0) ⟨512 + k.val, by omega⟩ : S512x1536.Idx) * wts m c (ix2 ⟨5120 + k.val, by omega⟩ (j 1)) : EReal) =
      ∑ k : Fin 512, cols m c (ix2 (i 0) ⟨5120 + k.val, by omega⟩) * wts m c (ix2 ⟨5120 + k.val, by omega⟩ (i 1)) := by
  have e1 : i 1 = j 1 := Fin.ext h1
  rw [e1]
  refine Finset.sum_congr rfl fun k _ => congrArg (· * _) ?_
  have hk : k.val < 512 := k.isLt
  refine (blk3 m c t (ix2 (j 0) ⟨512 + k.val, by omega⟩ : S512x1536.Idx) (ix2 (i 0) ⟨512 + k.val, by omega⟩ : S4096x1536.Idx) h0 rfl).trans ?_
  refine (col6 m c _ _ rfl ?_ ?_ ?_).symm
  · change 512 + k.val + 5120 = 5120 + k.val + 512; omega
  · change 5120 ≤ 5120 + k.val; omega
  · change 5120 + k.val < 5632; omega

theorem run9 (t : Fin cfg0.N) (j : S512x1024.Idx) (i : S4096x1024.Idx) (h0 : (i 0).val = t.val * 512 + (j 0).val) (h1 : (i 1).val = (j 1).val) :
    (∑ k : Fin 512, B3 m c t (ix2 (j 0) ⟨1024 + k.val, by omega⟩ : S512x1536.Idx) * wts m c (ix2 ⟨6656 + k.val, by omega⟩ (j 1)) : EReal) =
      ∑ k : Fin 512, cols m c (ix2 (i 0) ⟨6656 + k.val, by omega⟩) * wts m c (ix2 ⟨6656 + k.val, by omega⟩ (i 1)) := by
  have e1 : i 1 = j 1 := Fin.ext h1
  rw [e1]
  refine Finset.sum_congr rfl fun k _ => congrArg (· * _) ?_
  have hk : k.val < 512 := k.isLt
  refine (blk3 m c t (ix2 (j 0) ⟨1024 + k.val, by omega⟩ : S512x1536.Idx) (ix2 (i 0) ⟨1024 + k.val, by omega⟩ : S4096x1536.Idx) h0 rfl).trans ?_
  refine (col9 m c _ _ rfl ?_ ?_ ?_).symm
  · change 1024 + k.val + 6656 = 6656 + k.val + 1024; omega
  · change 6656 ≤ 6656 + k.val; omega
  · change 6656 + k.val < 7168; omega

theorem run10 (t : Fin cfg0.N) (j : S512x1024.Idx) (i : S4096x1024.Idx) (h0 : (i 0).val = t.val * 512 + (j 0).val) (h1 : (i 1).val = (j 1).val) :
    (∑ k : Fin 2560, B4 m c t (ix2 (j 0) k : S512x2560.Idx) * wts m c (ix2 ⟨7168 + k.val, by omega⟩ (j 1)) : EReal) =
      ∑ k : Fin 2560, cols m c (ix2 (i 0) ⟨7168 + k.val, by omega⟩) * wts m c (ix2 ⟨7168 + k.val, by omega⟩ (i 1)) := by
  have e1 : i 1 = j 1 := Fin.ext h1
  rw [e1]
  refine Finset.sum_congr rfl fun k _ => congrArg (· * _) ?_
  have hk : k.val < 2560 := k.isLt
  refine (blk4 m c t (ix2 (j 0) k : S512x2560.Idx) (ix2 (i 0) k : S4096x2560.Idx) h0 rfl).trans ?_
  refine (col10 m c _ _ rfl ?_ ?_ ?_).symm
  · change k.val + 7168 = 7168 + k.val + 0; omega
  · change 7168 ≤ 7168 + k.val; omega
  · change 7168 + k.val < 9728; omega

theorem dn_at (t : Fin cfg0.N) (j : S512x1024.Idx) (i : S4096x1024.Idx) (h0 : (i 0).val = t.val * 512 + (j 0).val) (h1 : (i 1).val = (j 1).val) :
    dnK (F := Ideal) (B0 m c t) (B1 m c t) (B2 m c t) (B3 m c t) (B4 m c t) (wts m c) j = dnR m c i := by
  rw [dnR_eq, split11]
  unfold dnK k0_pay5 k0_pay6 rd
  pointwise
  refine Eq.trans (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (run0 m c t j i h0 h1) (run1 m c t j i h0 h1)) (run4 m c t j i h0 h1)) (run7 m c t j i h0 h1)) (run2 m c t j i h0 h1)) (run5 m c t j i h0 h1)) (run8 m c t j i h0 h1)) (run3 m c t j i h0 h1)) (run6 m c t j i h0 h1)) (run9 m c t j i h0 h1)) (run10 m c t j i h0 h1)) ?_
  exact reorder _ _ _ _ _ _ _ _ _ _ _

end Cert.Proof.Gx

end
-- ==== Proof.GxReal.lean ====
module

public import proofs.«01_k».proof.Proof.Kit

@[expose] public section

set_option maxRecDepth 16384

noncomputable section

namespace Cert.Proof.Gx

/-! One row of the gradient through the normalisation, over the real numbers: the kernel takes the
row's mean out of the scaled gradient, the derivative adds the reciprocal root's own term. -/

open Idealize.ShloMosaic

theorem lit_1024 : Ideal.ofBits .f32 0x44800000#32 = ((1024 : ℝ) : EReal) := by
  simp [Ideal.ofBits, Ideal.ieee]
  rw [← EReal.coe_mul]; norm_num

theorem lit_neg_half : Ideal.ofBits .f32 0xBF000000#32 = ((-(1 / 2) : ℝ) : EReal) := by
  simp [Ideal.ofBits, Ideal.ieee]
  rw [← EReal.coe_mul]; norm_num

theorem lit_eps : ∃ e : ℝ, 0 < e ∧ Ideal.ofBits .f32 0x358637BD#32 = (e : EReal) := by
  refine ⟨8796093 / 8796093022208, by norm_num, ?_⟩
  simp [Ideal.ofBits, Ideal.ieee]
  rw [← EReal.coe_mul]; norm_num

theorem row_real (X A : Fin 1024 → ℝ) (q : Fin 1024) (v R S : ℝ) (hv : 0 < v) (hR : R = (Real.sqrt v)⁻¹)
    (hS : S = (∑ k, X k * A k) * (-(1 / 2) * (R / v)) / 1024) :
    R * (A q - X q * R * ((∑ k, A k * (X k * R)) / 1024)) = A q * R + X q * S + S * X q := by
  have h1 : ∑ k, A k * (X k * R) = (∑ k, X k * A k) * R := by
    rw [Finset.sum_mul]
    exact Finset.sum_congr rfl fun k _ => by ring
  have h2 : R / v = R * R * R := by
    have : R * R = v⁻¹ := by rw [hR, ← mul_inv, Real.mul_self_sqrt hv.le]
    rw [this, div_eq_mul_inv, mul_comm]
  rw [h1, hS, h2]
  ring

/-- The kernel's row. -/
def rowK (d : EReal) (x a : Fin 1024 → EReal) (q : Fin 1024) (R : EReal) : EReal :=
  d + R * (a q - x q * R * Ideal.div (∑ k, a k * (x k * R)) (Ideal.ofBits .f32 0x44800000#32))

/-- The reciprocal root of a row. -/
def rootV (x : Fin 1024 → EReal) : EReal :=
  Ideal.div (∑ k, x k * x k) (Ideal.ofBits .f32 0x44800000#32) + Ideal.ofBits .f32 0x358637BD#32

theorem row_eq (d : EReal) (x a : Fin 1024 → EReal) (q : Fin 1024) (X A : Fin 1024 → ℝ) (hx : ∀ k, x k = (X k : EReal)) (ha : ∀ k, a k = (A k : EReal)) :
    rowK d x a q (Ideal.rsqrt (rootV x)) = d + a q * Ideal.rsqrt (rootV x)
      + x q * Ideal.div ((∑ k, x k * a k) * (Ideal.ofBits .f32 0xBF000000#32 * Ideal.div (Ideal.rsqrt (rootV x)) (rootV x))) (Ideal.ofBits .f32 0x44800000#32)
      + Ideal.div ((∑ k, x k * a k) * (Ideal.ofBits .f32 0xBF000000#32 * Ideal.div (Ideal.rsqrt (rootV x)) (rootV x))) (Ideal.ofBits .f32 0x44800000#32) * x q := by
  obtain ⟨e, he, hl⟩ := lit_eps
  have h1024 : (1024 : ℝ) ≠ 0 := by norm_num
  have hv : rootV x = (((∑ k, X k * X k) / 1024 + e : ℝ) : EReal) := by
    unfold rootV
    rw [hl, lit_1024, Finset.sum_congr rfl (fun k _ => by rw [hx k, ← EReal.coe_mul] : ∀ k ∈ Finset.univ, x k * x k = ((X k * X k : ℝ) : EReal)),
      ← coe_sum, coe_div h1024, ← EReal.coe_add]
  generalize hvv : (∑ k, X k * X k) / 1024 + e = v at hv
  have vpos : 0 < v := by
    rw [← hvv]
    have : 0 ≤ ∑ k, X k * X k := Finset.sum_nonneg fun k _ => mul_self_nonneg _
    positivity
  have hR : Ideal.rsqrt (rootV x) = (((Real.sqrt v)⁻¹ : ℝ) : EReal) := by
    rw [hv, Ideal.rsqrt_coe, if_neg (not_lt.2 vpos.le), if_neg vpos.ne']
  rw [hR, hv]
  unfold rowK
  rw [Finset.sum_congr rfl (fun k _ => by rw [hx k, ha k, ← EReal.coe_mul] : ∀ k ∈ Finset.univ, x k * a k = ((X k * A k : ℝ) : EReal)),
    Finset.sum_congr rfl (fun k _ => by rw [hx k, ha k, ← EReal.coe_mul, ← EReal.coe_mul] : ∀ k ∈ Finset.univ, a k * (x k * (((Real.sqrt v)⁻¹ : ℝ) : EReal)) = ((A k * (X k * (Real.sqrt v)⁻¹) : ℝ) : EReal)),
    ← coe_sum, ← coe_sum, lit_1024, lit_neg_half, hx q, ha q, coe_div vpos.ne', coe_div h1024]
  rw [← EReal.coe_mul (-(1 / 2)), ← EReal.coe_mul (∑ k, X k * A k), coe_div h1024]
  rw [add_assoc, add_assoc]
  refine congrArg (d + ·) ?_
  rw [← EReal.coe_mul, ← EReal.coe_mul, ← EReal.coe_sub, ← EReal.coe_mul, ← EReal.coe_mul, ← EReal.coe_mul, ← EReal.coe_mul, ← EReal.coe_add, ← EReal.coe_add]
  refine congrArg _ ?_
  rw [← add_assoc]
  exact row_real X A q v _ _ vpos rfl rfl

end Cert.Proof.Gx

end
-- ==== Proof.GxAcc.lean ====
module

public import proofs.«01_k».proof.Proof.GxDn
public import proofs.«01_k».proof.Proof.GxReal

@[expose] public section

set_option maxRecDepth 16384

noncomputable section

namespace Cert.Proof.Gx

/-! What the outputs hold after each grid point: the weights stay in the scratch, the gain's
gradient gathers one block of rows after another. -/

open Idealize.ShloMosaic Cert.Kernel8Ideal Cert.Kernel8Ideal.Gen

variable (m : (ℓ : Loc nD τ sig) → Buf (Elt Ideal) ℓ) (c : Dev nD)

theorem left_w : ∀ (n : ℕ) (hn : n < cfg0.N), (outsAt0 m c n hn).2.2 = wts m c
  | 0, hn => by
    rw [outsAt0_A m c ⟨0, hn⟩ rfl rfl (by simp)]
    dsimp only
    rw [soutA]
    exact wK_eq m c
  | n + 1, hn => by
    have hN : n + 1 < 8 := lt_of_lt_of_eq hn (show cfg0.N = 8 from N_0)
    rw [outsAt0_B m c ⟨n + 1, hn⟩ (by dsimp only; omega) (by dsimp only; omega) (by dsimp only; omega)]
    dsimp only
    unfold sout0_B_0
    exact left_w n _

/-- Blocks of the input, of the gradient below, and the gain. -/
abbrev B6 (t : Fin cfg0.N) : FVec Ideal S512x1024 .f32 := iblk m c 6 t
abbrev B7 (t : Fin cfg0.N) : FVec Ideal S512x1024 .f32 := iblk m c 7 t
abbrev B8 (t : Fin cfg0.N) : FVec Ideal S1x1024 .f32 := iblk m c 8 t

/-- The block's gradient of the normalised input. -/
abbrev dnB (t : Fin cfg0.N) : FVec Ideal S512x1024 .f32 := dnK (F := Ideal) (B0 m c t) (B1 m c t) (B2 m c t) (B3 m c t) (B4 m c t) (wts m c)

theorem left_dx (t : Fin cfg0.N) : (outsAt0 m c t.val t.isLt).1 =
    k0_pay3 (F := Ideal) (dnB m c t) (B6 m c t) (k0_pay7 (F := Ideal) (B6 m c t)) (k0_pay8 (F := Ideal) (B6 m c t)) (B8 m c t) (B7 m c t) := by
  have hN : t.val < 8 := lt_of_lt_of_eq t.isLt (show cfg0.N = 8 from N_0)
  by_cases h : t.val % 8 = 0
  · rw [outsAt0_A m c t h h (by omega)]
    dsimp only
    rw [outA9, wK_eq]
  · rw [outsAt0_B m c t h h (by omega)]
    dsimp only
    rw [outB9, left_w]

theorem first_dg (t : Fin cfg0.N) (h : t.val % 8 = 0) : (outsAt0 m c t.val t.isLt).2.1 =
    k0_pay2 (F := Ideal) (dnB m c t) (B6 m c t) (k0_pay8 (F := Ideal) (B6 m c t)) := by
  have hN : t.val < 8 := lt_of_lt_of_eq t.isLt (show cfg0.N = 8 from N_0)
  rw [outsAt0_A m c t h h (by omega)]
  dsimp only
  rw [outA10, wK_eq]

theorem next_dg (t : Fin cfg0.N) (h : ¬ t.val % 8 = 0) : (outsAt0 m c t.val t.isLt).2.1 =
    k0_pay4 (F := Ideal) (dnB m c t) (B6 m c t) (k0_pay8 (F := Ideal) (B6 m c t)) (outsAt0 m c (t.val - 1) (Nat.lt_of_le_of_lt (Nat.sub_le _ _) t.isLt)).2.1 := by
  have hN : t.val < 8 := lt_of_lt_of_eq t.isLt (show cfg0.N = 8 from N_0)
  rw [outsAt0_B m c t h h (by omega)]
  dsimp only
  rw [outB10, left_w]

/-- The input and the gain. -/
abbrev X8 : FVec Ideal S4096x1024 .f32 := V m c main_arg8
abbrev X9 : FVec Ideal S4096x1024 .f32 := V m c main_arg9
abbrev X10 : FVec Ideal S1x1024 .f32 := V m c main_arg10

/-- A row's reciprocal root. -/
def root (i : Fin 4096) : EReal := Ideal.rsqrt (rootV fun k => X8 m c (ix2 i k))

/-- One entry of the gain's gradient's sum. -/
def dgTerm (q : Fin 1024) (r : ℕ) : EReal :=
  if h : r < 4096 then dnR m c (ix2 ⟨r, h⟩ q) * (X8 m c (ix2 ⟨r, h⟩ q) * root m c ⟨r, h⟩) else 0

theorem pay2_at (t : Fin cfg0.N) (j : S1x1024.Idx) :
    k0_pay2 (F := Ideal) (dnB m c t) (B6 m c t) (k0_pay8 (F := Ideal) (B6 m c t)) j =
      ∑ x : Fin 512, dgTerm m c (j 1) (t.val * 512 + x.val) := by
  have hN : t.val < 8 := lt_of_lt_of_eq t.isLt (show cfg0.N = 8 from N_0)
  unfold k0_pay2 k0_pay8 k0_pay1 k0_pay7
  pointwise
  refine Finset.sum_congr rfl fun x _ => ?_
  have hx : x.val < 512 := x.isLt
  have hr : t.val * 512 + x.val < 4096 := by omega
  have e : ∀ q : Fin 1024, B6 m c t (ix2 x q) = X8 m c (ix2 ⟨t.val * 512 + x.val, hr⟩ q) := fun q =>
    blk6 m c t (ix2 x q : S512x1024.Idx) (ix2 ⟨t.val * 512 + x.val, hr⟩ q : S4096x1024.Idx) rfl rfl
  unfold dgTerm root rootV
  rw [dif_pos hr]
  refine congrArg₂ (· * ·) (dn_at m c t _ _ rfl rfl) (congrArg₂ (· * ·) (e _) (congrArg (fun s => Ideal.rsqrt (Ideal.div s _ + _)) (Finset.sum_congr rfl fun k _ => ?_)))
  exact congrArg₂ (· * ·) (e k) (e k)

theorem dg_at : ∀ (n : ℕ) (hn : n < cfg0.N) (j : S1x1024.Idx),
    (outsAt0 m c n hn).2.1 j = ∑ r ∈ Finset.range ((n + 1) * 512), dgTerm m c (j 1) r
  | 0, hn, j => by
    have e := congrFun (first_dg m c ⟨0, hn⟩ rfl) j
    refine e.trans ((pay2_at m c ⟨0, hn⟩ j).trans ?_)
    rw [Finset.sum_range]
    exact Finset.sum_congr rfl fun x _ => congrArg (dgTerm m c (j 1)) (by dsimp only; omega)
  | n + 1, hn, j => by
    have hN : n + 1 < 8 := lt_of_lt_of_eq hn (show cfg0.N = 8 from N_0)
    have e := congrFun (next_dg m c ⟨n + 1, hn⟩ (by dsimp only; omega)) j
    have p := pay2_at m c ⟨n + 1, hn⟩ j
    have q := dg_at n (by omega) j
    rw [show (n + 1 + 1) * 512 = (n + 1) * 512 + 512 by ring, Finset.sum_range_add, ← q, Finset.sum_range (fun x => dgTerm m c (j 1) ((n + 1) * 512 + x))]
    refine e.trans ?_
    refine Eq.trans ?_ (congrArg (_ + ·) p)
    unfold k0_pay4
    rw [shapeCast_self]
    rfl

end Cert.Proof.Gx

end
-- ==== Proof.GxSame.lean ====
module

public import proofs.«01_k».proof.Proof.GxAcc

@[expose] public section

set_option maxRecDepth 16384

noncomputable section

namespace Cert.Proof.Gx

/-! The kernel's two results are the derivative's. -/

open Idealize.ShloMosaic Cert.Kernel8Ideal Cert.Kernel8Ideal.Gen
open Cert.Reference8Ideal.Read

variable (m : (ℓ : Loc nD τ sig) → Buf (Elt Ideal) ℓ) (c : Dev nD)

/-- The reference's gradients of the layer's input and of the gain. -/
abbrev dxR : FVec Ideal Cert.Reference8Ideal.S4096x1024 .f32 :=
  val_main_v51 (F := Ideal) (V m c main_arg0) (V m c main_arg1) (V m c main_arg2) (V m c main_arg3) (V m c main_arg4)
    (V m c main_arg5) (V m c main_arg6) (V m c main_arg7) (V m c main_arg8) (V m c main_arg9) (V m c main_arg10)
abbrev dgR : FVec Ideal Cert.Reference8Ideal.S1x1024 .f32 :=
  val_main_v34 (F := Ideal) (V m c main_arg0) (V m c main_arg1) (V m c main_arg2) (V m c main_arg3) (V m c main_arg4)
    (V m c main_arg5) (V m c main_arg6) (V m c main_arg7) (V m c main_arg8)

theorem lit_zero : Ideal.ofBits .f32 0x00000000#32 = (0 : EReal) := by
  simp [Ideal.ofBits, Ideal.ieee]

theorem cst_zero (k : Cert.Reference8Ideal.S_.Idx) : val_main_cst (F := Ideal) k = (0 : EReal) := lit_zero
theorem cst3_zero (k : Cert.Reference8Ideal.S_.Idx) : val_main_cst_3 (F := Ideal) k = (0 : EReal) := lit_zero
theorem cst4_zero (k : Cert.Reference8Ideal.S_.Idx) : val_main_cst_4 (F := Ideal) k = (0 : EReal) := lit_zero
theorem cst6_zero (k : Cert.Reference8Ideal.S_.Idx) : val_main_cst_6 (F := Ideal) k = (0 : EReal) := lit_zero

/-- A row of the input, and of the gradient after the gain. -/
abbrev rowX (r : Fin 4096) (k : Fin 1024) : EReal := X8 m c (ix2 r k)
abbrev rowA (r : Fin 4096) (k : Fin 1024) : EReal := dnR m c (ix2 r k) * X10 m c (ix2 0 k)

theorem ref_dx (r : Fin 4096) (q : Fin 1024) : dxR m c (ix2 r q) =
    X9 m c (ix2 r q) + rowA m c r q * Ideal.rsqrt (rootV (rowX m c r))
      + rowX m c r q * Ideal.div ((∑ k, rowX m c r k * rowA m c r k) * (Ideal.ofBits .f32 0xBF000000#32 * Ideal.div (Ideal.rsqrt (rootV (rowX m c r))) (rootV (rowX m c r)))) (Ideal.ofBits .f32 0x44800000#32)
      + Ideal.div ((∑ k, rowX m c r k * rowA m c r k) * (Ideal.ofBits .f32 0xBF000000#32 * Ideal.div (Ideal.rsqrt (rootV (rowX m c r))) (rootV (rowX m c r)))) (Ideal.ofBits .f32 0x44800000#32) * rowX m c r q := by
  unfold dxR val_main_v51 val_main_v50 val_main_v49 val_main_v48 val_main_v47 val_main_v46 val_main_v45 val_main_v44 val_main_v43 val_main_v42 val_main_v41 val_main_v40 val_main_v39 val_main_v38 val_main_v37 val_main_v36 val_main_v35 val_main_v24 val_main_v23 val_main_v22
  unfold val_main_v21 val_main_v20 val_main_v19 val_main_v18 val_main_v17 val_main_v16 val_main_v15 val_main_v14
  pointwise
  rw [cst_zero, cst4_zero, cst6_zero]
  simp only [zero_add, Finset.univ_unique, Finset.sum_singleton]
  rfl

theorem ref_dg (i : Cert.Reference8Ideal.S1x1024.Idx) : dgR m c i = ∑ r ∈ Finset.range 4096, dgTerm m c (i 1) r := by
  unfold dgR val_main_v34 val_main_v33 val_main_v32 val_main_v26 val_main_v25
  unfold val_main_v21 val_main_v20 val_main_v19 val_main_v18 val_main_v17 val_main_v16 val_main_v15 val_main_v14
  pointwise
  rw [cst_zero, cst3_zero]
  simp only [zero_add]
  rw [Finset.sum_range]
  refine Finset.sum_congr rfl fun r _ => ?_
  unfold dgTerm
  rw [dif_pos r.isLt, mul_comm]
  rfl

theorem pay3_at (t : Fin cfg0.N) (j : S512x1024.Idx) (r : Fin 4096) (hr : r.val = t.val * 512 + (j 0).val) :
    k0_pay3 (F := Ideal) (dnB m c t) (B6 m c t) (k0_pay7 (F := Ideal) (B6 m c t)) (k0_pay8 (F := Ideal) (B6 m c t)) (B8 m c t) (B7 m c t) j =
      rowK (X9 m c (ix2 r (j 1))) (rowX m c r) (rowA m c r) (j 1) (Ideal.rsqrt (rootV (rowX m c r))) := by
  have ex : ∀ q : Fin 1024, B6 m c t (ix2 (j 0) q) = rowX m c r q := fun q =>
    blk6 m c t (ix2 (j 0) q : S512x1024.Idx) (ix2 r q : S4096x1024.Idx) hr rfl
  have ed : ∀ q : Fin 1024, dnB m c t (ix2 (j 0) q) = dnR m c (ix2 r q) := fun q => dn_at m c t (ix2 (j 0) q) (ix2 r q) hr rfl
  have eg : ∀ q : Fin 1024, B8 m c t (ix2 0 q) = X10 m c (ix2 0 q) := fun q => blk8 m c t (ix2 0 q)
  have e7 : B7 m c t j = X9 m c (ix2 r (j 1)) := blk7 m c t j (ix2 r (j 1) : S4096x1024.Idx) hr rfl
  have ej : j = ix2 (j 0) (j 1) := funext fun a => by
    match a with
    | ⟨0, _⟩ => rfl
    | ⟨1, _⟩ => rfl
  have eR : k0_pay7 (F := Ideal) (B6 m c t) (ix2 (j 0) 0) = Ideal.rsqrt (rootV (rowX m c r)) := by
    unfold k0_pay7 rootV
    pointwise
    refine congrArg (fun s => Ideal.rsqrt (Ideal.div s _ + _)) (Finset.sum_congr rfl fun k _ => ?_)
    exact congrArg₂ (· * ·) (ex k) (ex k)
  unfold k0_pay3 k0_pay8 k0_pay1
  pointwise
  rw [eR]
  unfold rowK
  refine congrArg₂ (· + ·) e7 (congrArg₂ (· * ·) rfl (congrArg₂ (· - ·) (congrArg₂ (· * ·) ((congrArg (dnB m c t) ej).trans (ed _)) (eg _))
    (congrArg₂ (· * ·) (congrArg₂ (· * ·) ((congrArg (B6 m c t) ej).trans (ex _)) rfl) (congrArg (fun s => Ideal.div s _) (Finset.sum_congr rfl fun k _ => ?_)))))
  exact congrArg₂ (· * ·) (congrArg₂ (· * ·) (ed k) (eg k)) (congrArg₂ (· * ·) (ex k) rfl)

theorem arr9 (X A : Fin 4096 → Fin 1024 → ℝ) (hX : ∀ r k, rowX m c r k = (X r k : EReal)) (hA : ∀ r k, rowA m c r k = (A r k : EReal)) :
    (dats m 0 c).arrAt 9 cfg0.N = dxR m c := by
  refine (dats m 0 c).arrAt_eq_of_covers 9 _ (by decide +kernel) fun t hf y => ?_
  have hN : t.val < 8 := lt_of_lt_of_eq t.isLt (show cfg0.N = 8 from N_0)
  have hy : (y 0).val < 512 := (y 0).isLt
  rw [after0_9, left_dx]
  refine (pay3_at m c t y ⟨t.val * 512 + (y 0).val, by omega⟩ rfl).trans ?_
  refine ((row_eq _ _ _ _ _ _ (hX _) (hA _)).trans (ref_dx m c _ _).symm).trans (congrArg (dxR m c) (funext fun a => Fin.ext ?_))
  match a with
  | ⟨0, _⟩ => refine Eq.symm ?_; blk_simp [idx9]; rfl
  | ⟨1, _⟩ => refine Eq.symm ?_; blk_simp [idx9]; rfl

theorem arr10 : (dats m 0 c).arrAt 10 cfg0.N = dgR m c := by
  refine (dats m 0 c).arrAt_eq_of_covers 10 _ (by decide +kernel) fun t hf y => ?_
  have hN : t.val < 8 := lt_of_lt_of_eq t.isLt (show cfg0.N = 8 from N_0)
  have ht : t.val = 7 := by have := (flush0_10 t).mp hf; omega
  rw [after0_10]
  refine (dg_at m c t.val t.isLt y).trans ?_
  rw [ht]
  refine (ref_dg m c y).symm.trans (congrArg (dgR m c) (funext fun a => Fin.ext ?_))
  match a with
  | ⟨0, _⟩ => refine Eq.symm ?_; blk_simp [idx10]
  | ⟨1, _⟩ => refine Eq.symm ?_; blk_simp [idx10]

end Cert.Proof.Gx

end
-- ==== Proof.GxPre.lean ====
module

public import proofs.«01_k».proof.Proof.Pre
public import proofs.«01_k».proof.Pre_finite8

@[expose] public section

set_option maxRecDepth 16384

/-! # Finite contents are real numbers: the gradient of the input's arguments -/

noncomputable section

namespace Cert.Pre_finite8

theorem facts : Facts where
  bitsLt_bf16_f32 := by decide
  bcast_S_S4096x2560 := by decide
  reducesTo_S4096x2560_S_d0_1 := by decide
  h_S_ := by decide
  bcast_S_S4096x1536 := by decide
  reducesTo_S4096x1536_S_d0_1 := by decide
  bcast_S_S1x2432x1024 := by decide
  reducesTo_S1x2432x1024_S_d0_1_2 := by decide
  bcast_S_S2x2432x1024 := by decide
  reducesTo_S2x2432x1024_S_d0_1_2 := by decide
  bcast_S_S4096x1024 := by decide
  reducesTo_S4096x1024_S_d0_1 := by decide
  bcast_S_S1x1024 := by decide
  reducesTo_S1x1024_S_d0_1 := by decide

end Cert.Pre_finite8

namespace Cert.Proof.Gx

open Idealize.ShloMosaic Cert.Pre_finite8

theorem and1 (a b : IVec S_ 1) (h : andi a b ix0 = 1#1) : a ix0 = 1#1 ∧ b ix0 = 1#1 := by
  have e : ∀ x y : BitVec 1, IntOp.andi x y = 1#1 → x = 1#1 ∧ y = 1#1 := by decide
  exact e _ _ h

variable [Cert.Pre_finite8.Facts]

theorem finite8 (x0 x1 x2 x3 x4 x5 x6 x7 x8 x9 x10) (h : Cert.Pre_finite8.fn (F := Ideal) x0 x1 x2 x3 x4 x5 x6 x7 x8 x9 x10 = fun _ => 1#1) :
    Is (S := S4096x2560) (φ := .bf16) x0 (fun i => (x0 i).toReal) ∧ Is (S := S4096x1536) (φ := .bf16) x1 (fun i => (x1 i).toReal) ∧ Is (S := S4096x1536) (φ := .bf16) x2 (fun i => (x2 i).toReal) ∧ Is (S := S4096x1536) (φ := .bf16) x3 (fun i => (x3 i).toReal) ∧ Is (S := S4096x2560) (φ := .bf16) x4 (fun i => (x4 i).toReal) ∧ Is (S := S1x2432x1024) (φ := .bf16) x5 (fun i => (x5 i).toReal) ∧ Is (S := S2x2432x1024) (φ := .bf16) x6 (fun i => (x6 i).toReal) ∧ Is (S := S1x2432x1024) (φ := .bf16) x7 (fun i => (x7 i).toReal) ∧ Is (S := S4096x1024) (φ := .f32) x8 (fun i => (x8 i).toReal) ∧ Is (S := S1x1024) (φ := .f32) x10 (fun i => (x10 i).toReal) := by
  have h9 := congrFun h ix0
  obtain ⟨h9, e10⟩ := and1 _ _ h9
  obtain ⟨h9, e8⟩ := and1 _ _ h9
  obtain ⟨h9, e7⟩ := and1 _ _ h9
  obtain ⟨h9, e6⟩ := and1 _ _ h9
  obtain ⟨h9, e5⟩ := and1 _ _ h9
  obtain ⟨h9, e4⟩ := and1 _ _ h9
  obtain ⟨h9, e3⟩ := and1 _ _ h9
  obtain ⟨h9, e2⟩ := and1 _ _ h9
  obtain ⟨e0, e1⟩ := and1 _ _ h9
  exact ⟨Finite.real _ _ (fun _ => rfl) _ _ _ _ e0, Finite.real _ _ (fun _ => rfl) _ _ _ _ e1, Finite.real _ _ (fun _ => rfl) _ _ _ _ e2, Finite.real _ _ (fun _ => rfl) _ _ _ _ e3, Finite.real _ _ (fun _ => rfl) _ _ _ _ e4, Finite.real _ _ (fun _ => rfl) _ _ _ _ e5, Finite.real _ _ (fun _ => rfl) _ _ _ _ e6, Finite.real _ _ (fun _ => rfl) _ _ _ _ e7, Finite.real _ _ (fun _ => rfl) _ _ _ _ e8, Finite.real _ _ (fun _ => rfl) _ _ _ _ e10⟩

end Cert.Proof.Gx

end
-- ==== Proof.GxFin.lean ====
module

public import proofs.«01_k».proof.Proof.GxSame
public import proofs.«01_k».proof.Proof.GxPre

@[expose] public section

set_option maxRecDepth 16384

noncomputable section

namespace Cert.Proof.Gx

/-! With finite arguments the rows are real numbers. -/

open Idealize.ShloMosaic Cert.Kernel8Ideal Cert.Kernel8Ideal.Gen

variable (m : (ℓ : Loc nD τ sig) → Buf (Elt Ideal) ℓ) (c : Dev nD)

/-- An extended real that is a real number. -/
def Re (x : EReal) : Prop := ∃ r : ℝ, x = (r : EReal)

theorem Re.mul {x y : EReal} (hx : Re x) (hy : Re y) : Re (x * y) := by
  obtain ⟨a, rfl⟩ := hx
  obtain ⟨b, rfl⟩ := hy
  exact ⟨a * b, (EReal.coe_mul a b).symm⟩

theorem Re.sum {n : ℕ} {f : Fin n → EReal} (h : ∀ k, Re (f k)) : Re (∑ k, f k) := by
  choose g hg using h
  exact ⟨∑ k, g k, by rw [coe_sum]; exact Finset.sum_congr rfl fun k _ => hg k⟩

theorem Is.re {S : Shape} {φ : FTy} {v : FVec Ideal S φ} {f : S.Idx → ℝ} (h : Is v f) (i : S.Idx) : Re (v i) := ⟨_, h i⟩

theorem cols_re (h0 : ∀ i : S4096x2560.Idx, Re (V m c main_arg0 i)) (h1 : ∀ i : S4096x1536.Idx, Re (V m c main_arg1 i)) (h2 : ∀ i : S4096x1536.Idx, Re (V m c main_arg2 i)) (h3 : ∀ i : S4096x1536.Idx, Re (V m c main_arg3 i)) (h4 : ∀ i : S4096x2560.Idx, Re (V m c main_arg4 i)) (k : Cert.Reference8Ideal.S4096x9728.Idx) : Re (cols m c k) := by
  have hk : (k 1).val < 9728 := (k 1).isLt
  rcases Nat.lt_or_ge (k 1).val 2560 with u0 | u0
  · rw [col0 m c k (ix2 (k 0) ⟨(k 1).val - 0 + 0, by omega⟩ : S4096x2560.Idx) rfl (by change (k 1).val - 0 + 0 + 0 = (k 1).val + 0; omega) (Nat.zero_le _) u0]
    exact h0 _
  rcases Nat.lt_or_ge (k 1).val 3072 with u1 | u1
  · rw [col1 m c k (ix2 (k 0) ⟨(k 1).val - 2560 + 0, by omega⟩ : S4096x1536.Idx) rfl (by change (k 1).val - 2560 + 0 + 2560 = (k 1).val + 0; omega) u0 u1]
    exact h1 _
  rcases Nat.lt_or_ge (k 1).val 3584 with u2 | u2
  · rw [col2 m c k (ix2 (k 0) ⟨(k 1).val - 3072 + 0, by omega⟩ : S4096x1536.Idx) rfl (by change (k 1).val - 3072 + 0 + 3072 = (k 1).val + 0; omega) u1 u2]
    exact h2 _
  rcases Nat.lt_or_ge (k 1).val 4096 with u3 | u3
  · rw [col3 m c k (ix2 (k 0) ⟨(k 1).val - 3584 + 0, by omega⟩ : S4096x1536.Idx) rfl (by change (k 1).val - 3584 + 0 + 3584 = (k 1).val + 0; omega) u2 u3]
    exact h3 _
  rcases Nat.lt_or_ge (k 1).val 4608 with u4 | u4
  · rw [col4 m c k (ix2 (k 0) ⟨(k 1).val - 4096 + 512, by omega⟩ : S4096x1536.Idx) rfl (by change (k 1).val - 4096 + 512 + 4096 = (k 1).val + 512; omega) u3 u4]
    exact h1 _
  rcases Nat.lt_or_ge (k 1).val 5120 with u5 | u5
  · rw [col5 m c k (ix2 (k 0) ⟨(k 1).val - 4608 + 512, by omega⟩ : S4096x1536.Idx) rfl (by change (k 1).val - 4608 + 512 + 4608 = (k 1).val + 512; omega) u4 u5]
    exact h2 _
  rcases Nat.lt_or_ge (k 1).val 5632 with u6 | u6
  · rw [col6 m c k (ix2 (k 0) ⟨(k 1).val - 5120 + 512, by omega⟩ : S4096x1536.Idx) rfl (by change (k 1).val - 5120 + 512 + 5120 = (k 1).val + 512; omega) u5 u6]
    exact h3 _
  rcases Nat.lt_or_ge (k 1).val 6144 with u7 | u7
  · rw [col7 m c k (ix2 (k 0) ⟨(k 1).val - 5632 + 1024, by omega⟩ : S4096x1536.Idx) rfl (by change (k 1).val - 5632 + 1024 + 5632 = (k 1).val + 1024; omega) u6 u7]
    exact h1 _
  rcases Nat.lt_or_ge (k 1).val 6656 with u8 | u8
  · rw [col8 m c k (ix2 (k 0) ⟨(k 1).val - 6144 + 1024, by omega⟩ : S4096x1536.Idx) rfl (by change (k 1).val - 6144 + 1024 + 6144 = (k 1).val + 1024; omega) u7 u8]
    exact h2 _
  rcases Nat.lt_or_ge (k 1).val 7168 with u9 | u9
  · rw [col9 m c k (ix2 (k 0) ⟨(k 1).val - 6656 + 1024, by omega⟩ : S4096x1536.Idx) rfl (by change (k 1).val - 6656 + 1024 + 6656 = (k 1).val + 1024; omega) u8 u9]
    exact h3 _
  · rw [col10 m c k (ix2 (k 0) ⟨(k 1).val - 7168, by omega⟩ : S4096x2560.Idx) rfl (Nat.sub_add_cancel u9) u9 hk]
    exact h4 _

theorem wts_re (h5 : ∀ i : S1x2432x1024.Idx, Re (V m c main_arg5 i)) (h6 : ∀ i : S2x2432x1024.Idx, Re (V m c main_arg6 i)) (h7 : ∀ i : S1x2432x1024.Idx, Re (V m c main_arg7 i)) (y : S9728x1024.Idx) : Re (wts m c y) := by
  have hk : (y 0).val < 9728 := (y 0).isLt
  rcases Nat.lt_or_ge (y 0).val 2432 with u | u
  · rw [wts0 m c y (ix3 0 ⟨(y 0).val, u⟩ (y 1) : S1x2432x1024.Idx) rfl rfl]
    exact h5 _
  rcases Nat.lt_or_ge (y 0).val 7296 with v | v
  · rw [wts1 m c y (ix3 ⟨(y 0).val / 2432 - 1, by omega⟩ ⟨(y 0).val % 2432, by omega⟩ (y 1) : S2x2432x1024.Idx)
      (by change (y 0).val = 2432 + ((y 0).val / 2432 - 1) * 2432 + (y 0).val % 2432; omega) rfl]
    exact h6 _
  · rw [wts2 m c y (ix3 0 ⟨(y 0).val - 7296, by omega⟩ (y 1) : S1x2432x1024.Idx) (by change (y 0).val = 7296 + ((y 0).val - 7296); omega) rfl]
    exact h7 _

theorem same9 (h0 : ∀ i : S4096x2560.Idx, Re (V m c main_arg0 i)) (h1 : ∀ i : S4096x1536.Idx, Re (V m c main_arg1 i)) (h2 : ∀ i : S4096x1536.Idx, Re (V m c main_arg2 i)) (h3 : ∀ i : S4096x1536.Idx, Re (V m c main_arg3 i)) (h4 : ∀ i : S4096x2560.Idx, Re (V m c main_arg4 i)) (h5 : ∀ i : S1x2432x1024.Idx, Re (V m c main_arg5 i)) (h6 : ∀ i : S2x2432x1024.Idx, Re (V m c main_arg6 i)) (h7 : ∀ i : S1x2432x1024.Idx, Re (V m c main_arg7 i)) (h8 : ∀ i : S4096x1024.Idx, Re (V m c main_arg8 i)) (h10 : ∀ i : S1x1024.Idx, Re (V m c main_arg10 i)) :
    (dats m 0 c).arrAt 9 cfg0.N = dxR m c := by
  have hx : ∀ r k, Re (rowX m c r k) := fun r k => h8 _
  have ha : ∀ r k, Re (rowA m c r k) := fun r k => by
    refine Re.mul ?_ (h10 _)
    rw [dnR_eq]
    exact Re.sum fun q => Re.mul (cols_re m c h0 h1 h2 h3 h4 _) (wts_re m c h5 h6 h7 _)
  choose X hX using hx
  choose A hA using ha
  exact arr9 m c X A hX hA

end Cert.Proof.Gx

end
-- ==== Proof.Ad12.lean ====
module

public import proofs.«01_k».proof.Proof.Gen.Kernel12Ideal.Value
public import proofs.«01_k».proof.Proof.Gen.Reference12Ideal.Read
public import Idealize.ShloMosaic.Lib.Pipeline.ValueKit
public import Idealize.ShloMosaic.Lib.WholeRead

@[expose] public section

set_option maxRecDepth 16384

noncomputable section

namespace Cert.Proof.Ad12

/-! The normalisation of the input: each grid point normalises 512 rows. -/

open Idealize.ShloMosaic Cert.Kernel12Ideal Cert.Kernel12Ideal.Gen
open Cert.Reference12Ideal.Read

variable (m : (ℓ : Loc nD τ sig) → Buf (Elt Ideal) ℓ) (c : Dev nD)

theorem out_eq (x0 : Vec Ideal S512x1024 .f32) (x1 : Vec Ideal S1x1024 .f32) (x2 : Vec Ideal S8x128 .f32) :
    out0_3 (F := Ideal) x0 x1 x2 = k0_pay1 (F := Ideal) x0 x1 := by
  have hz0 : (![0, 0] : Fin S512x1024.rank → Nat) = fun _ => 0 := funext fun a => by fin_cases a <;> rfl
  have hz1 : (![0, 0] : Fin S1x1024.rank → Nat) = fun _ => 0 := funext fun a => by fin_cases a <;> rfl
  unfold out0_3
  rw [View.canon_unit_zero hz0, View.ld_unit_zero hz0, View.ld_unit_zero hz1]

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx3 : ∀ t : Fin cfg0.N, win0_3.index t = ![t.val, 0] := (by decide +kernel : ∀ t : Fin grid0.N, win0_3.index t = ![t.val, 0])

theorem blk0 (t : Fin cfg0.N) (y : S512x1024.Idx) (k : S4096x1024.Idx) (h0 : (k 0).val = t.val * 512 + (y 0).val)
    (h1 : (k 1).val = (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    rfl
  | ⟨1, _⟩ =>
    refine Eq.trans ?_ h1.symm
    blk_simp [idx0]
    rfl

theorem blk1 (t : Fin cfg0.N) (y k : S1x1024.Idx) (h0 : (k 0).val = (y 0).val) (h1 : (k 1).val = (y 1).val) :
    iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    try rfl
  | ⟨1, _⟩ =>
    refine Eq.trans ?_ h1.symm
    blk_simp [idx1]
    rfl

/-- A row's normalised and scaled entry. -/
def norm (x : Fin 1024 → EReal) (g : EReal) (q : Fin 1024) : EReal :=
  x q * Ideal.rsqrt (Ideal.div (∑ k, x k * x k) (Ideal.ofBits .f32 0x44800000#32) + Ideal.ofBits .f32 0x358637BD#32) * g

theorem pay_at (a : FVec Ideal S512x1024 .f32) (b : FVec Ideal S1x1024 .f32) (j : S512x1024.Idx) :
    k0_pay1 (F := Ideal) a b j = norm (fun k => a (ix2 (j 0) k)) (b (ix2 0 (j 1))) (j 1) := by
  unfold k0_pay1 norm
  pointwise

theorem ref_at (a : FVec Ideal S4096x1024 .f32) (b : FVec Ideal S1x1024 .f32) (i : S4096x1024.Idx) :
    val_main_v12 (F := Ideal) a b i = norm (fun k => a (ix2 (i 0) k)) (b (ix2 0 (i 1))) (i 1) := by
  unfold val_main_v12 val_main_v11 val_main_v10 val_main_v9 val_main_v8 val_main_v7 val_main_v6 val_main_v5 val_main_v4 val_main_v3 val_main_v2 val_main_v1 val_main_v0 val_main_cst val_main_cst_0 val_main_cst_1 norm
  pointwise

theorem arr : (dats m 0 c).arrAt 3 cfg0.N = val_main_v12 (F := Ideal) (V m c main_arg0) (V m c main_arg1) := by
  refine (dats m 0 c).arrAt_eq_of_covers 3 _ (by decide +kernel) fun t hf y => ?_
  rw [after0_3, out_eq]
  generalize hk : ((cfg0.win 3).blk t).view.emb y = k
  have h0 : (k 0).val = t.val * 512 + (y 0).val := by
    rw [← hk]
    blk_simp [idx3]
    try rfl
  have h1 : (k 1).val = (y 1).val := by
    rw [← hk]
    blk_simp [idx3]
    try rfl
  refine (pay_at _ _ y).trans (Eq.trans ?_ (ref_at _ _ k).symm)
  have e : (y 1 : Fin 1024) = (k 1 : Fin 1024) := Fin.ext h1.symm
  refine congr (congr (congrArg norm (funext fun q => blk0 m c t _ _ h0 rfl)) (blk1 m c t _ _ rfl h1)) e

end Cert.Proof.Ad12
end
-- ==== Proof.Ad13.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.WholeRead

@[expose] public section

set_option maxRecDepth 16384

noncomputable section

namespace Cert.Proof.Ad13

/-! The input projection's gradient summed over the chips, and its optimiser step: each grid point takes 304 rows. -/

open Idealize.ShloMosaic Cert.Kernel13Ideal Cert.Kernel13Ideal.Gen
open Cert.Reference13Ideal.Read

variable (m : (ℓ : Loc nD τ sig) → Buf (Elt Ideal) ℓ) (c : Dev nD)

/-- The moments and the step of one entry. -/
def mo (g m : EReal) : EReal := Ideal.ofBits .f32 0x3F666666#32 * m + Ideal.ofBits .f32 0x3DCCCCCD#32 * g
def ve (g v : EReal) : EReal := Ideal.ofBits .f32 0x3F7FBE77#32 * v + Ideal.ofBits .f32 0x3A83126F#32 * (g * g)
def de (w g m v : EReal) : EReal :=
  Ideal.ofBits .f32 0xBA83126F#32 * (Ideal.div (Ideal.div (mo g m) (Ideal.ofBits .f32 0x3F26BD02#32))
    (Ideal.sqrt (Ideal.div (ve g v) (Ideal.ofBits .f32 0x3C231ACC#32)) + Ideal.ofBits .f32 0x322BCC77#32) + Ideal.ofBits .f32 0x3C23D70A#32 * w)

theorem idx0 : ∀ t : Fin cfg0.N, win0_0.index t = ![0, t.val, 0] := (by decide +kernel : ∀ t : Fin grid0.N, win0_0.index t = ![0, t.val, 0])
theorem idx1 : ∀ t : Fin cfg0.N, win0_1.index t = ![1, t.val, 0] := (by decide +kernel : ∀ t : Fin grid0.N, win0_1.index t = ![1, t.val, 0])
theorem idx2 : ∀ t : Fin cfg0.N, win0_2.index t = ![1, t.val, 0] := (by decide +kernel : ∀ t : Fin grid0.N, win0_2.index t = ![1, t.val, 0])
theorem idx3 : ∀ t : Fin cfg0.N, win0_3.index t = ![2, t.val, 0] := (by decide +kernel : ∀ t : Fin grid0.N, win0_3.index t = ![2, t.val, 0])
theorem idx4 : ∀ t : Fin cfg0.N, win0_4.index t = ![3, t.val, 0] := (by decide +kernel : ∀ t : Fin grid0.N, win0_4.index t = ![3, t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])

theorem blk0 (t : Fin cfg0.N) (y : S1x304x1024.Idx) (k : S4x1216x1024.Idx) (h0 : (k 0).val = 0 + (y 0).val) (h1 : (k 1).val = t.val * 304 + (y 1).val) (h2 : (k 2).val = (y 2).val) :
    iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    try rfl
  | ⟨1, _⟩ =>
    refine Eq.trans ?_ h1.symm
    blk_simp [idx0]
    try rfl
  | ⟨2, _⟩ =>
    refine Eq.trans ?_ h2.symm
    blk_simp [idx0]
    try rfl

theorem blk1 (t : Fin cfg0.N) (y : S1x304x1024.Idx) (k : S4x1216x1024.Idx) (h0 : (k 0).val = 1 + (y 0).val) (h1 : (k 1).val = t.val * 304 + (y 1).val) (h2 : (k 2).val = (y 2).val) :
    iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    try rfl
  | ⟨1, _⟩ =>
    refine Eq.trans ?_ h1.symm
    blk_simp [idx1]
    try rfl
  | ⟨2, _⟩ =>
    refine Eq.trans ?_ h2.symm
    blk_simp [idx1]
    try rfl

theorem blk2 (t : Fin cfg0.N) (y : S1x304x1024.Idx) (k : S4x1216x1024.Idx) (h0 : (k 0).val = 1 + (y 0).val) (h1 : (k 1).val = t.val * 304 + (y 1).val) (h2 : (k 2).val = (y 2).val) :
    iblk m c 2 t y = V m c main_arg1 k := by
  refine Eq.trans (b := V m c (Pipeline.arrRef spec0 2) (((cfg0.win 2).blk t).view.emb y)) rfl (congrArg (V m c main_arg1) (funext fun a => Fin.ext ?_))
  match a with
  | ⟨0, _⟩ =>
    refine Eq.trans ?_ h0.symm
    blk_simp [idx2]
    try rfl
  | ⟨1, _⟩ =>
    refine Eq.trans ?_ h1.symm
    blk_simp [idx2]
    try rfl
  | ⟨2, _⟩ =>
    refine Eq.trans ?_ h2.symm
    blk_simp [idx2]
    try rfl

theorem blk3 (t : Fin cfg0.N) (y : S1x304x1024.Idx) (k : S4x1216x1024.Idx) (h0 : (k 0).val = 2 + (y 0).val) (h1 : (k 1).val = t.val * 304 + (y 1).val) (h2 : (k 2).val = (y 2).val) :
    iblk m c 3 t y = V m c main_arg1 k := by
  refine Eq.trans (b := V m c (Pipeline.arrRef spec0 3) (((cfg0.win 3).blk t).view.emb y)) rfl (congrArg (V m c main_arg1) (funext fun a => Fin.ext ?_))
  match a with
  | ⟨0, _⟩ =>
    refine Eq.trans ?_ h0.symm
    blk_simp [idx3]
    try rfl
  | ⟨1, _⟩ =>
    refine Eq.trans ?_ h1.symm
    blk_simp [idx3]
    try rfl
  | ⟨2, _⟩ =>
    refine Eq.trans ?_ h2.symm
    blk_simp [idx3]
    try rfl

theorem blk4 (t : Fin cfg0.N) (y : S1x304x1024.Idx) (k : S4x1216x1024.Idx) (h0 : (k 0).val = 3 + (y 0).val) (h1 : (k 1).val = t.val * 304 + (y 1).val) (h2 : (k 2).val = (y 2).val) :
    iblk m c 4 t y = V m c main_arg1 k := by
  refine Eq.trans (b := V m c (Pipeline.arrRef spec0 4) (((cfg0.win 4).blk t).view.emb y)) rfl (congrArg (V m c main_arg1) (funext fun a => Fin.ext ?_))
  match a with
  | ⟨0, _⟩ =>
    refine Eq.trans ?_ h0.symm
    blk_simp [idx4]
    try rfl
  | ⟨1, _⟩ =>
    refine Eq.trans ?_ h1.symm
    blk_simp [idx4]
    try rfl
  | ⟨2, _⟩ =>
    refine Eq.trans ?_ h2.symm
    blk_simp [idx4]
    try rfl

theorem blk5 (t : Fin cfg0.N) (y : S304x1024.Idx) (k : S1216x1024.Idx) (h0 : (k 0).val = t.val * 304 + (y 0).val) (h1 : (k 1).val = (y 1).val) :
    iblk m c 5 t y = V m c main_arg2 k := by
  refine Eq.trans (b := V m c (Pipeline.arrRef spec0 5) (((cfg0.win 5).blk t).view.emb y)) rfl (congrArg (V m c main_arg2) (funext fun a => Fin.ext ?_))
  match a with
  | ⟨0, _⟩ =>
    refine Eq.trans ?_ h0.symm
    blk_simp [idx5]
    try rfl
  | ⟨1, _⟩ =>
    refine Eq.trans ?_ h1.symm
    blk_simp [idx5]
    try rfl

theorem blk6 (t : Fin cfg0.N) (y : S304x1024.Idx) (k : S1216x1024.Idx) (h0 : (k 0).val = t.val * 304 + (y 0).val) (h1 : (k 1).val = (y 1).val) :
    iblk m c 6 t y = V m c main_arg3 k := by
  refine Eq.trans (b := V m c (Pipeline.arrRef spec0 6) (((cfg0.win 6).blk t).view.emb y)) rfl (congrArg (V m c main_arg3) (funext fun a => Fin.ext ?_))
  match a with
  | ⟨0, _⟩ =>
    refine Eq.trans ?_ h0.symm
    blk_simp [idx6]
    try rfl
  | ⟨1, _⟩ =>
    refine Eq.trans ?_ h1.symm
    blk_simp [idx6]
    try rfl

theorem blk7 (t : Fin cfg0.N) (y : S304x1024.Idx) (k : S1216x1024.Idx) (h0 : (k 0).val = t.val * 304 + (y 0).val) (h1 : (k 1).val = (y 1).val) :
    iblk m c 7 t y = V m c main_arg4 k := by
  refine Eq.trans (b := V m c (Pipeline.arrRef spec0 7) (((cfg0.win 7).blk t).view.emb y)) rfl (congrArg (V m c main_arg4) (funext fun a => Fin.ext ?_))
  match a with
  | ⟨0, _⟩ =>
    refine Eq.trans ?_ h0.symm
    blk_simp [idx7]
    try rfl
  | ⟨1, _⟩ =>
    refine Eq.trans ?_ h1.symm
    blk_simp [idx7]
    try rfl

/-- The chips' sum of one entry of the blocks. -/
abbrev gk (x0 x2 x3 x4 : Vec Ideal S1x304x1024 .bf16) (y : S304x1024.Idx) : EReal :=
  x0 (ix3 0 (y 0) (y 1)) + x2 (ix3 0 (y 0) (y 1)) + x3 (ix3 0 (y 0) (y 1)) + x4 (ix3 0 (y 0) (y 1))

theorem pay4_at (x0 x1 x2 x3 x4 : Vec Ideal S1x304x1024 .bf16) (y : S304x1024.Idx) :
    k0_pay4 (F := Ideal) x0 x1 x0 x2 x0 x3 x0 x4 y = gk x0 x2 x3 x4 y := by
  unfold k0_pay4
  have e1 : ∀ a b : FVec Ideal S304x1024 .bf16, Scalar.select 1#1 a b = a := fun _ _ => rfl
  have e0 : ∀ a b : FVec Ideal S304x1024 .bf16, Scalar.select 0#1 a b = b := fun _ _ => rfl
  simp only [e1, e0]
  pointwise

theorem out9 (x0 x1 x2 x3 x4 : Vec Ideal S1x304x1024 .bf16) (x5 x6 x7 : Vec Ideal S304x1024 .f32) (x8 : Vec Ideal S8x128 .f32) :
    out0_9 (F := Ideal) x0 x1 x2 x3 x4 x5 x6 x7 x8 = fun y => (gk x0 x2 x3 x4 y) := by
  have hz : (![0, 0] : Fin S304x1024.rank → Nat) = fun _ => 0 := funext fun a => by fin_cases a <;> rfl
  have hz3 : (![0, 0, 0] : Fin S1x304x1024.rank → Nat) = fun _ => 0 := funext fun a => by fin_cases a <;> rfl
  unfold out0_9
  rw [View.canon_unit_zero hz, View.ld_unit_zero hz3, View.ld_unit_zero hz3, View.ld_unit_zero hz3, View.ld_unit_zero hz3, View.ld_unit_zero hz3]
  funext y
  exact pay4_at x0 x1 x2 x3 x4 y

theorem out10 (x0 x1 x2 x3 x4 : Vec Ideal S1x304x1024 .bf16) (x5 x6 x7 : Vec Ideal S304x1024 .f32) (x8 : Vec Ideal S8x128 .f32) :
    out0_10 (F := Ideal) x0 x1 x2 x3 x4 x5 x6 x7 x8 = fun y => de (x5 y) (gk x0 x2 x3 x4 y) (x6 y) (x7 y) := by
  have hz : (![0, 0] : Fin S304x1024.rank → Nat) = fun _ => 0 := funext fun a => by fin_cases a <;> rfl
  have hz3 : (![0, 0, 0] : Fin S1x304x1024.rank → Nat) = fun _ => 0 := funext fun a => by fin_cases a <;> rfl
  unfold out0_10 k0_pay5
  rw [View.canon_unit_zero hz, View.ld_unit_zero hz3, View.ld_unit_zero hz3, View.ld_unit_zero hz3, View.ld_unit_zero hz3, View.ld_unit_zero hz3, View.ld_unit_zero hz, View.ld_unit_zero hz, View.ld_unit_zero hz]
  funext y
  rw [← pay4_at x0 x1 x2 x3 x4 y]
  generalize k0_pay4 (F := Ideal) x0 x1 x0 x2 x0 x3 x0 x4 = z
  first | rfl | (unfold de mo ve k0_pay3 k0_pay1 k0_pay2; pointwise)

theorem out11 (x0 x1 x2 x3 x4 : Vec Ideal S1x304x1024 .bf16) (x5 x6 x7 : Vec Ideal S304x1024 .f32) (x8 : Vec Ideal S8x128 .f32) :
    out0_11 (F := Ideal) x0 x1 x2 x3 x4 x5 x6 x7 x8 = fun y => mo (gk x0 x2 x3 x4 y) (x6 y) := by
  have hz : (![0, 0] : Fin S304x1024.rank → Nat) = fun _ => 0 := funext fun a => by fin_cases a <;> rfl
  have hz3 : (![0, 0, 0] : Fin S1x304x1024.rank → Nat) = fun _ => 0 := funext fun a => by fin_cases a <;> rfl
  unfold out0_11 k0_pay5
  rw [View.canon_unit_zero hz, View.ld_unit_zero hz3, View.ld_unit_zero hz3, View.ld_unit_zero hz3, View.ld_unit_zero hz3, View.ld_unit_zero hz3, View.ld_unit_zero hz]
  funext y
  rw [← pay4_at x0 x1 x2 x3 x4 y]
  generalize k0_pay4 (F := Ideal) x0 x1 x0 x2 x0 x3 x0 x4 = z
  first | rfl | (unfold mo k0_pay1; pointwise)

theorem out12 (x0 x1 x2 x3 x4 : Vec Ideal S1x304x1024 .bf16) (x5 x6 x7 : Vec Ideal S304x1024 .f32) (x8 : Vec Ideal S8x128 .f32) :
    out0_12 (F := Ideal) x0 x1 x2 x3 x4 x5 x6 x7 x8 = fun y => ve (gk x0 x2 x3 x4 y) (x7 y) := by
  have hz : (![0, 0] : Fin S304x1024.rank → Nat) = fun _ => 0 := funext fun a => by fin_cases a <;> rfl
  have hz3 : (![0, 0, 0] : Fin S1x304x1024.rank → Nat) = fun _ => 0 := funext fun a => by fin_cases a <;> rfl
  unfold out0_12 k0_pay5
  rw [View.canon_unit_zero hz, View.ld_unit_zero hz3, View.ld_unit_zero hz3, View.ld_unit_zero hz3, View.ld_unit_zero hz3, View.ld_unit_zero hz3, View.ld_unit_zero hz]
  funext y
  rw [← pay4_at x0 x1 x2 x3 x4 y]
  generalize k0_pay4 (F := Ideal) x0 x1 x0 x2 x0 x3 x0 x4 = z
  first | rfl | (unfold ve k0_pay2; pointwise)

/-- The chips' sum of one entry of the arrays. -/
abbrev gr (a b : FVec Ideal S4x1216x1024 .bf16) (i : S1216x1024.Idx) : EReal :=
  a (ix3 0 (i 0) (i 1)) + b (ix3 1 (i 0) (i 1)) + b (ix3 2 (i 0) (i 1)) + b (ix3 3 (i 0) (i 1))

theorem own_at (a b : FVec Ideal S4x1216x1024 .bf16) (j : S4x1216x1024.Idx) (h : (j 0).val = 0) :
    val_main_v2 (F := Ideal) a b j = a j := by
  unfold val_main_v2
  refine (concatenate_pair_apply_left (t := Cert.Reference13Ideal.S4x1216x1024) (s₁ := Cert.Reference13Ideal.S1x1216x1024) (s₂ := Cert.Reference13Ideal.S3x1216x1024) 0 (val_main_v0 (F := Ideal) a) (val_main_v1 (F := Ideal) b) _ j rfl (ix3 0 (j 1) (j 2)) (fun b => ?_)).trans ?_
  · match b with
    | ⟨0, _⟩ => exact h.symm
    | ⟨1, _⟩ => rfl
    | ⟨2, _⟩ => rfl
  · rw [val_main_v0_apply]
    refine congrArg a (funext fun b => Fin.ext ?_)
    match b with
    | ⟨0, _⟩ => exact h.symm
    | ⟨1, _⟩ => rfl
    | ⟨2, _⟩ => rfl

theorem recv_at (a b : FVec Ideal S4x1216x1024 .bf16) (j : S4x1216x1024.Idx) (k : Fin 3) (h : (j 0).val = 1 + k.val) :
    val_main_v2 (F := Ideal) a b j = b j := by
  unfold val_main_v2
  refine (concatenate_pair_apply_right (t := Cert.Reference13Ideal.S4x1216x1024) (s₁ := Cert.Reference13Ideal.S1x1216x1024) (s₂ := Cert.Reference13Ideal.S3x1216x1024) 0 (val_main_v0 (F := Ideal) a) (val_main_v1 (F := Ideal) b) _ j rfl rfl (ix3 k (j 1) (j 2)) (fun b hb => ?_) ?_).trans ?_
  · match b with
    | ⟨0, _⟩ => exact absurd rfl hb
    | ⟨1, _⟩ => rfl
    | ⟨2, _⟩ => rfl
  · exact (Nat.add_comm _ _).trans h.symm
  · rw [val_main_v1_apply]
    refine congrArg b (funext fun b => Fin.ext ?_)
    match b with
    | ⟨0, _⟩ => exact h.symm
    | ⟨1, _⟩ => rfl
    | ⟨2, _⟩ => rfl

theorem idx_v4 (i : S1216x1024.Idx) (k : Fin 4) : idx_main_v4 i k = ix3 k (i 0) (i 1) :=
  funext fun a => match a with
    | ⟨0, _⟩ => rfl
    | ⟨1, _⟩ => rfl
    | ⟨2, _⟩ => rfl

theorem sum_at (a b : FVec Ideal S4x1216x1024 .bf16) (i : S1216x1024.Idx) : val_main_v4 (F := Ideal) a b i = gr a b i := by
  have e : ∀ k : Fin 4, val_main_v3 (F := Ideal) a b (idx_main_v4 i k) = val_main_v2 (F := Ideal) a b (ix3 k (i 0) (i 1)) := fun k => by
    rw [val_main_v3_apply, idx_v4]
    rfl
  have ez : val_main_cst (F := Ideal) (Shape.Idx.first Cert.Reference13Ideal.Gen.h_S_) = (0 : EReal) := Ideal.ofBits_zero_f32
  rw [val_main_v4_apply, ez, zero_add, Fin.sum_univ_four, e, e, e, e, own_at a b _ rfl, recv_at a b _ 0 rfl, recv_at a b _ 1 rfl, recv_at a b _ 2 rfl]

theorem ref10 (a b : FVec Ideal S4x1216x1024 .bf16) (x5 x6 x7 : FVec Ideal S1216x1024 .f32) (i : S1216x1024.Idx) :
    val_main_v28 (F := Ideal) a b x5 x6 x7 i = de (x5 i) (gr a b i) (x6 i) (x7 i) := by
  rw [← sum_at]
  rfl

theorem ref11 (a b : FVec Ideal S4x1216x1024 .bf16) (x6 : FVec Ideal S1216x1024 .f32) (i : S1216x1024.Idx) :
    val_main_v9 (F := Ideal) a b x6 i = mo (gr a b i) (x6 i) := by
  rw [← sum_at]
  rfl

theorem ref12 (a b : FVec Ideal S4x1216x1024 .bf16) (x7 : FVec Ideal S1216x1024 .f32) (i : S1216x1024.Idx) :
    val_main_v15 (F := Ideal) a b x7 i = ve (gr a b i) (x7 i) := by
  rw [← sum_at]
  rfl

theorem blkG (t : Fin cfg0.N) (y : S304x1024.Idx) (k : S1216x1024.Idx) (h0 : (k 0).val = t.val * 304 + (y 0).val) (h1 : (k 1).val = (y 1).val) :
    gk (iblk m c 0 t) (iblk m c 2 t) (iblk m c 3 t) (iblk m c 4 t) y = gr (V m c main_arg0) (V m c main_arg1) k := by
  unfold gk gr
  rw [blk0 m c t (ix3 0 (y 0) (y 1)) (ix3 0 (k 0) (k 1)) rfl h0 h1, blk2 m c t (ix3 0 (y 0) (y 1)) (ix3 1 (k 0) (k 1)) rfl h0 h1,
    blk3 m c t (ix3 0 (y 0) (y 1)) (ix3 2 (k 0) (k 1)) rfl h0 h1, blk4 m c t (ix3 0 (y 0) (y 1)) (ix3 3 (k 0) (k 1)) rfl h0 h1]

theorem arr9 : (dats m 0 c).arrAt 9 cfg0.N = val_main_v4 (F := Ideal) (V m c main_arg0) (V m c main_arg1) := by
  refine (dats m 0 c).arrAt_eq_of_covers 9 _ (by decide +kernel) fun t hf y => ?_
  rw [after0_9, out9]
  generalize hk : ((cfg0.win 9).blk t).view.emb y = k
  have h0 : (k 0).val = t.val * 304 + (y 0).val := by
    rw [← hk]
    blk_simp [idx9]
    try rfl
  have h1 : (k 1).val = (y 1).val := by
    rw [← hk]
    blk_simp [idx9]
    try rfl
  refine Eq.trans (b := (gk (iblk m c 0 t) (iblk m c 2 t) (iblk m c 3 t) (iblk m c 4 t) y)) rfl (Eq.trans ?_ (sum_at _ _ k).symm)
  rw [blkG m c t y k h0 h1]

theorem arr10 : (dats m 0 c).arrAt 10 cfg0.N = val_main_v28 (F := Ideal) (V m c main_arg0) (V m c main_arg1) (V m c main_arg2) (V m c main_arg3) (V m c main_arg4) := by
  refine (dats m 0 c).arrAt_eq_of_covers 10 _ (by decide +kernel) fun t hf y => ?_
  rw [after0_10, out10]
  generalize hk : ((cfg0.win 10).blk t).view.emb y = k
  have h0 : (k 0).val = t.val * 304 + (y 0).val := by
    rw [← hk]
    blk_simp [idx10]
    try rfl
  have h1 : (k 1).val = (y 1).val := by
    rw [← hk]
    blk_simp [idx10]
    try rfl
  refine Eq.trans (b := de (iblk m c 5 t y) (gk (iblk m c 0 t) (iblk m c 2 t) (iblk m c 3 t) (iblk m c 4 t) y) (iblk m c 6 t y) (iblk m c 7 t y)) rfl (Eq.trans ?_ (ref10 _ _ _ _ _ k).symm)
  rw [blkG m c t y k h0 h1, blk5 m c t y k h0 h1, blk6 m c t y k h0 h1, blk7 m c t y k h0 h1]

theorem arr11 : (dats m 0 c).arrAt 11 cfg0.N = val_main_v9 (F := Ideal) (V m c main_arg0) (V m c main_arg1) (V m c main_arg3) := by
  refine (dats m 0 c).arrAt_eq_of_covers 11 _ (by decide +kernel) fun t hf y => ?_
  rw [after0_11, out11]
  generalize hk : ((cfg0.win 11).blk t).view.emb y = k
  have h0 : (k 0).val = t.val * 304 + (y 0).val := by
    rw [← hk]
    blk_simp [idx11]
    try rfl
  have h1 : (k 1).val = (y 1).val := by
    rw [← hk]
    blk_simp [idx11]
    try rfl
  refine Eq.trans (b := mo (gk (iblk m c 0 t) (iblk m c 2 t) (iblk m c 3 t) (iblk m c 4 t) y) (iblk m c 6 t y)) rfl (Eq.trans ?_ (ref11 _ _ _ k).symm)
  rw [blkG m c t y k h0 h1, blk6 m c t y k h0 h1]

theorem arr12 : (dats m 0 c).arrAt 12 cfg0.N = val_main_v15 (F := Ideal) (V m c main_arg0) (V m c main_arg1) (V m c main_arg4) := by
  refine (dats m 0 c).arrAt_eq_of_covers 12 _ (by decide +kernel) fun t hf y => ?_
  rw [after0_12, out12]
  generalize hk : ((cfg0.win 12).blk t).view.emb y = k
  have h0 : (k 0).val = t.val * 304 + (y 0).val := by
    rw [← hk]
    blk_simp [idx12]
    try rfl
  have h1 : (k 1).val = (y 1).val := by
    rw [← hk]
    blk_simp [idx12]
    try rfl
  refine Eq.trans (b := ve (gk (iblk m c 0 t) (iblk m c 2 t) (iblk m c 3 t) (iblk m c 4 t) y) (iblk m c 7 t y)) rfl (Eq.trans ?_ (ref12 _ _ _ k).symm)
  rw [blkG m c t y k h0 h1, blk7 m c t y k h0 h1]

end Cert.Proof.Ad13
end
-- ==== Proof.Ad14.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.WholeRead

@[expose] public section

set_option maxRecDepth 16384

noncomputable section

namespace Cert.Proof.Ad14

/-! The optimiser step of three sharded weights: one point, entry by entry. -/

open Idealize.ShloMosaic Cert.Kernel14Ideal Cert.Kernel14Ideal.Gen
open Cert.Reference14Ideal.Read

variable (m : (ℓ : Loc nD τ sig) → Buf (Elt Ideal) ℓ) (c : Dev nD)

/-- The moments and the step of one entry. -/
def mo (g m : EReal) : EReal := Ideal.ofBits .f32 0x3F666666#32 * m + Ideal.ofBits .f32 0x3DCCCCCD#32 * g
def ve (g v : EReal) : EReal := Ideal.ofBits .f32 0x3F7FBE77#32 * v + Ideal.ofBits .f32 0x3A83126F#32 * (g * g)
def de (w g m v : EReal) : EReal :=
  Ideal.ofBits .f32 0xBA83126F#32 * (Ideal.div (Ideal.div (mo g m) (Ideal.ofBits .f32 0x3F26BD02#32))
    (Ideal.sqrt (Ideal.div (ve g v) (Ideal.ofBits .f32 0x3C231ACC#32)) + Ideal.ofBits .f32 0x322BCC77#32) + Ideal.ofBits .f32 0x3C23D70A#32 * w)

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx13 : ∀ t : Fin cfg0.N, win0_13.index t = ![0, 0] := (by decide +kernel : ∀ t : Fin grid0.N, win0_13.index t = ![0, 0])
theorem idx14 : ∀ t : Fin cfg0.N, win0_14.index t = ![0, 0] := (by decide +kernel : ∀ t : Fin grid0.N, win0_14.index t = ![0, 0])
theorem idx15 : ∀ t : Fin cfg0.N, win0_15.index t = ![0, 0] := (by decide +kernel : ∀ t : Fin grid0.N, win0_15.index t = ![0, 0])
theorem idx16 : ∀ t : Fin cfg0.N, win0_16.index t = ![0, 0] := (by decide +kernel : ∀ t : Fin grid0.N, win0_16.index t = ![0, 0])
theorem idx17 : ∀ t : Fin cfg0.N, win0_17.index t = ![0, 0] := (by decide +kernel : ∀ t : Fin grid0.N, win0_17.index t = ![0, 0])
theorem idx18 : ∀ t : Fin cfg0.N, win0_18.index t = ![0, 0] := (by decide +kernel : ∀ t : Fin grid0.N, win0_18.index t = ![0, 0])
theorem idx19 : ∀ t : Fin cfg0.N, win0_19.index t = ![0, 0] := (by decide +kernel : ∀ t : Fin grid0.N, win0_19.index t = ![0, 0])
theorem idx20 : ∀ t : Fin cfg0.N, win0_20.index t = ![0, 0] := (by decide +kernel : ∀ t : Fin grid0.N, win0_20.index t = ![0, 0])
theorem idx21 : ∀ t : Fin cfg0.N, win0_21.index t = ![0, 0] := (by decide +kernel : ∀ t : Fin grid0.N, win0_21.index t = ![0, 0])

theorem blk0 (t : Fin cfg0.N) (y k : S160x1024.Idx) (h : ∀ a, (k a).val = (y a).val) : iblk m c 0 t y = V m c main_arg0 k := by
  refine Eq.trans (b := V m c (Pipeline.arrRef spec0 0) (((cfg0.win 0).blk t).view.emb y)) rfl (congrArg (V m c main_arg0) (funext fun a => Fin.ext ((?_ : _ = _).trans (h a).symm)))
  match a with
  | ⟨0, _⟩ => (blk_simp [idx0]; try rfl)
  | ⟨1, _⟩ => (blk_simp [idx0]; try rfl)

theorem blk1 (t : Fin cfg0.N) (y k : S512x128.Idx) (h : ∀ a, (k a).val = (y a).val) : iblk m c 1 t y = V m c main_arg1 k := by
  refine Eq.trans (b := V m c (Pipeline.arrRef spec0 1) (((cfg0.win 1).blk t).view.emb y)) rfl (congrArg (V m c main_arg1) (funext fun a => Fin.ext ((?_ : _ = _).trans (h a).symm)))
  match a with
  | ⟨0, _⟩ => (blk_simp [idx1]; try rfl)
  | ⟨1, _⟩ => (blk_simp [idx1]; try rfl)

theorem blk2 (t : Fin cfg0.N) (y k : S128x1024.Idx) (h : ∀ a, (k a).val = (y a).val) : iblk m c 2 t y = V m c main_arg2 k := by
  refine Eq.trans (b := V m c (Pipeline.arrRef spec0 2) (((cfg0.win 2).blk t).view.emb y)) rfl (congrArg (V m c main_arg2) (funext fun a => Fin.ext ((?_ : _ = _).trans (h a).symm)))
  match a with
  | ⟨0, _⟩ => (blk_simp [idx2]; try rfl)
  | ⟨1, _⟩ => (blk_simp [idx2]; try rfl)

theorem blk3 (t : Fin cfg0.N) (y k : S160x1024.Idx) (h : ∀ a, (k a).val = (y a).val) : iblk m c 3 t y = V m c main_arg3 k := by
  refine Eq.trans (b := V m c (Pipeline.arrRef spec0 3) (((cfg0.win 3).blk t).view.emb y)) rfl (congrArg (V m c main_arg3) (funext fun a => Fin.ext ((?_ : _ = _).trans (h a).symm)))
  match a with
  | ⟨0, _⟩ => (blk_simp [idx3]; try rfl)
  | ⟨1, _⟩ => (blk_simp [idx3]; try rfl)

theorem blk4 (t : Fin cfg0.N) (y k : S512x128.Idx) (h : ∀ a, (k a).val = (y a).val) : iblk m c 4 t y = V m c main_arg4 k := by
  refine Eq.trans (b := V m c (Pipeline.arrRef spec0 4) (((cfg0.win 4).blk t).view.emb y)) rfl (congrArg (V m c main_arg4) (funext fun a => Fin.ext ((?_ : _ = _).trans (h a).symm)))
  match a with
  | ⟨0, _⟩ => (blk_simp [idx4]; try rfl)
  | ⟨1, _⟩ => (blk_simp [idx4]; try rfl)

theorem blk5 (t : Fin cfg0.N) (y k : S128x1024.Idx) (h : ∀ a, (k a).val = (y a).val) : iblk m c 5 t y = V m c main_arg5 k := by
  refine Eq.trans (b := V m c (Pipeline.arrRef spec0 5) (((cfg0.win 5).blk t).view.emb y)) rfl (congrArg (V m c main_arg5) (funext fun a => Fin.ext ((?_ : _ = _).trans (h a).symm)))
  match a with
  | ⟨0, _⟩ => (blk_simp [idx5]; try rfl)
  | ⟨1, _⟩ => (blk_simp [idx5]; try rfl)

theorem blk6 (t : Fin cfg0.N) (y k : S160x1024.Idx) (h : ∀ a, (k a).val = (y a).val) : iblk m c 6 t y = V m c main_arg6 k := by
  refine Eq.trans (b := V m c (Pipeline.arrRef spec0 6) (((cfg0.win 6).blk t).view.emb y)) rfl (congrArg (V m c main_arg6) (funext fun a => Fin.ext ((?_ : _ = _).trans (h a).symm)))
  match a with
  | ⟨0, _⟩ => (blk_simp [idx6]; try rfl)
  | ⟨1, _⟩ => (blk_simp [idx6]; try rfl)

theorem blk7 (t : Fin cfg0.N) (y k : S512x128.Idx) (h : ∀ a, (k a).val = (y a).val) : iblk m c 7 t y = V m c main_arg7 k := by
  refine Eq.trans (b := V m c (Pipeline.arrRef spec0 7) (((cfg0.win 7).blk t).view.emb y)) rfl (congrArg (V m c main_arg7) (funext fun a => Fin.ext ((?_ : _ = _).trans (h a).symm)))
  match a with
  | ⟨0, _⟩ => (blk_simp [idx7]; try rfl)
  | ⟨1, _⟩ => (blk_simp [idx7]; try rfl)

theorem blk8 (t : Fin cfg0.N) (y k : S128x1024.Idx) (h : ∀ a, (k a).val = (y a).val) : iblk m c 8 t y = V m c main_arg8 k := by
  refine Eq.trans (b := V m c (Pipeline.arrRef spec0 8) (((cfg0.win 8).blk t).view.emb y)) rfl (congrArg (V m c main_arg8) (funext fun a => Fin.ext ((?_ : _ = _).trans (h a).symm)))
  match a with
  | ⟨0, _⟩ => (blk_simp [idx8]; try rfl)
  | ⟨1, _⟩ => (blk_simp [idx8]; try rfl)

theorem blk9 (t : Fin cfg0.N) (y k : S160x1024.Idx) (h : ∀ a, (k a).val = (y a).val) : iblk m c 9 t y = V m c main_arg9 k := by
  refine Eq.trans (b := V m c (Pipeline.arrRef spec0 9) (((cfg0.win 9).blk t).view.emb y)) rfl (congrArg (V m c main_arg9) (funext fun a => Fin.ext ((?_ : _ = _).trans (h a).symm)))
  match a with
  | ⟨0, _⟩ => (blk_simp [idx9]; try rfl)
  | ⟨1, _⟩ => (blk_simp [idx9]; try rfl)

theorem blk10 (t : Fin cfg0.N) (y k : S512x128.Idx) (h : ∀ a, (k a).val = (y a).val) : iblk m c 10 t y = V m c main_arg10 k := by
  refine Eq.trans (b := V m c (Pipeline.arrRef spec0 10) (((cfg0.win 10).blk t).view.emb y)) rfl (congrArg (V m c main_arg10) (funext fun a => Fin.ext ((?_ : _ = _).trans (h a).symm)))
  match a with
  | ⟨0, _⟩ => (blk_simp [idx10]; try rfl)
  | ⟨1, _⟩ => (blk_simp [idx10]; try rfl)

theorem blk11 (t : Fin cfg0.N) (y k : S128x1024.Idx) (h : ∀ a, (k a).val = (y a).val) : iblk m c 11 t y = V m c main_arg11 k := by
  refine Eq.trans (b := V m c (Pipeline.arrRef spec0 11) (((cfg0.win 11).blk t).view.emb y)) rfl (congrArg (V m c main_arg11) (funext fun a => Fin.ext ((?_ : _ = _).trans (h a).symm)))
  match a with
  | ⟨0, _⟩ => (blk_simp [idx11]; try rfl)
  | ⟨1, _⟩ => (blk_simp [idx11]; try rfl)

set_option maxHeartbeats 1000000 in
theorem out13 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_13 (F := Ideal) x0 x1 x2 x3 x4 x5 x6 x7 x8 x9 x10 x11 x12 = fun y => de (x0 y) (x3 y) (x6 y) (x9 y) := by
  have hz : (![0, 0] : Fin S160x1024.rank → Nat) = fun _ => 0 := funext fun a => by fin_cases a <;> rfl
  unfold out0_13
  rw [View.canon_unit_zero hz, View.ld_unit_zero hz, View.ld_unit_zero hz, View.ld_unit_zero hz, View.ld_unit_zero hz]
  funext y
  first | rfl | (unfold de mo ve k0_pay6 k0_pay4 k0_pay5; pointwise)

theorem ref13 (a b e f : FVec Ideal S160x1024 .f32) (y : S160x1024.Idx) :
    val_main_v23 (F := Ideal) a b e f y = de (a y) (b y) (e y) (f y) := by
  rfl

theorem arr13 : (dats m 0 c).arrAt 13 cfg0.N = val_main_v23 (F := Ideal) (V m c main_arg0) (V m c main_arg3) (V m c main_arg6) (V m c main_arg9) := by
  refine (dats m 0 c).arrAt_eq_of_covers 13 _ (by decide +kernel) fun t hf y => ?_
  rw [after0_13, out13]
  generalize hk : ((cfg0.win 13).blk t).view.emb y = k
  have h : ∀ a, (k a).val = (y a).val := fun a => by
    rw [← hk]
    match a with
    | ⟨0, _⟩ => (blk_simp [idx13]; try rfl)
    | ⟨1, _⟩ => (blk_simp [idx13]; try rfl)
  refine Eq.trans (b := de (iblk m c 0 t y) (iblk m c 3 t y) (iblk m c 6 t y) (iblk m c 9 t y)) rfl (Eq.trans ?_ (ref13 _ _ _ _ k).symm)
  rw [blk0 m c t y k h, blk3 m c t y k h, blk6 m c t y k h, blk9 m c t y k h]

set_option maxHeartbeats 1000000 in
theorem out16 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_16 (F := Ideal) x0 x1 x2 x3 x4 x5 x6 x7 x8 x9 x10 x11 x12 = fun y => mo (x3 y) (x6 y) := by
  have hz : (![0, 0] : Fin S160x1024.rank → Nat) = fun _ => 0 := funext fun a => by fin_cases a <;> rfl
  unfold out0_16
  rw [View.canon_unit_zero hz, View.ld_unit_zero hz, View.ld_unit_zero hz]
  funext y
  first | rfl | (unfold mo k0_pay4; pointwise)

theorem ref16 (a b : FVec Ideal S160x1024 .f32) (y : S160x1024.Idx) :
    val_main_v4 (F := Ideal) a b y = mo (a y) (b y) := by
  rfl

theorem arr16 : (dats m 0 c).arrAt 16 cfg0.N = val_main_v4 (F := Ideal) (V m c main_arg3) (V m c main_arg6) := by
  refine (dats m 0 c).arrAt_eq_of_covers 16 _ (by decide +kernel) fun t hf y => ?_
  rw [after0_16, out16]
  generalize hk : ((cfg0.win 16).blk t).view.emb y = k
  have h : ∀ a, (k a).val = (y a).val := fun a => by
    rw [← hk]
    match a with
    | ⟨0, _⟩ => (blk_simp [idx16]; try rfl)
    | ⟨1, _⟩ => (blk_simp [idx16]; try rfl)
  refine Eq.trans (b := mo (iblk m c 3 t y) (iblk m c 6 t y)) rfl (Eq.trans ?_ (ref16 _ _ k).symm)
  rw [blk3 m c t y k h, blk6 m c t y k h]

set_option maxHeartbeats 1000000 in
theorem out19 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_19 (F := Ideal) x0 x1 x2 x3 x4 x5 x6 x7 x8 x9 x10 x11 x12 = fun y => ve (x3 y) (x9 y) := by
  have hz : (![0, 0] : Fin S160x1024.rank → Nat) = fun _ => 0 := funext fun a => by fin_cases a <;> rfl
  unfold out0_19
  rw [View.canon_unit_zero hz, View.ld_unit_zero hz, View.ld_unit_zero hz]
  funext y
  first | rfl | (unfold ve k0_pay5; pointwise)

theorem ref19 (a b : FVec Ideal S160x1024 .f32) (y : S160x1024.Idx) :
    val_main_v10 (F := Ideal) a b y = ve (a y) (b y) := by
  rfl

theorem arr19 : (dats m 0 c).arrAt 19 cfg0.N = val_main_v10 (F := Ideal) (V m c main_arg3) (V m c main_arg9) := by
  refine (dats m 0 c).arrAt_eq_of_covers 19 _ (by decide +kernel) fun t hf y => ?_
  rw [after0_19, out19]
  generalize hk : ((cfg0.win 19).blk t).view.emb y = k
  have h : ∀ a, (k a).val = (y a).val := fun a => by
    rw [← hk]
    match a with
    | ⟨0, _⟩ => (blk_simp [idx19]; try rfl)
    | ⟨1, _⟩ => (blk_simp [idx19]; try rfl)
  refine Eq.trans (b := ve (iblk m c 3 t y) (iblk m c 9 t y)) rfl (Eq.trans ?_ (ref19 _ _ k).symm)
  rw [blk3 m c t y k h, blk9 m c t y k h]

set_option maxHeartbeats 1000000 in
theorem out14 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_14 (F := Ideal) x0 x1 x2 x3 x4 x5 x6 x7 x8 x9 x10 x11 x12 = fun y => de (x1 y) (x4 y) (x7 y) (x10 y) := by
  have hz : (![0, 0] : Fin S512x128.rank → Nat) = fun _ => 0 := funext fun a => by fin_cases a <;> rfl
  unfold out0_14
  rw [View.canon_unit_zero hz, View.ld_unit_zero hz, View.ld_unit_zero hz, View.ld_unit_zero hz, View.ld_unit_zero hz]
  funext y
  first | rfl | (unfold de mo ve k0_pay9 k0_pay7 k0_pay8; pointwise)

theorem ref14 (a b e f : FVec Ideal S512x128 .f32) (y : S512x128.Idx) :
    val_main_v47 (F := Ideal) a b e f y = de (a y) (b y) (e y) (f y) := by
  rfl

theorem arr14 : (dats m 0 c).arrAt 14 cfg0.N = val_main_v47 (F := Ideal) (V m c main_arg1) (V m c main_arg4) (V m c main_arg7) (V m c main_arg10) := by
  refine (dats m 0 c).arrAt_eq_of_covers 14 _ (by decide +kernel) fun t hf y => ?_
  rw [after0_14, out14]
  generalize hk : ((cfg0.win 14).blk t).view.emb y = k
  have h : ∀ a, (k a).val = (y a).val := fun a => by
    rw [← hk]
    match a with
    | ⟨0, _⟩ => (blk_simp [idx14]; try rfl)
    | ⟨1, _⟩ => (blk_simp [idx14]; try rfl)
  refine Eq.trans (b := de (iblk m c 1 t y) (iblk m c 4 t y) (iblk m c 7 t y) (iblk m c 10 t y)) rfl (Eq.trans ?_ (ref14 _ _ _ _ k).symm)
  rw [blk1 m c t y k h, blk4 m c t y k h, blk7 m c t y k h, blk10 m c t y k h]

set_option maxHeartbeats 1000000 in
theorem out17 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_17 (F := Ideal) x0 x1 x2 x3 x4 x5 x6 x7 x8 x9 x10 x11 x12 = fun y => mo (x4 y) (x7 y) := by
  have hz : (![0, 0] : Fin S512x128.rank → Nat) = fun _ => 0 := funext fun a => by fin_cases a <;> rfl
  unfold out0_17
  rw [View.canon_unit_zero hz, View.ld_unit_zero hz, View.ld_unit_zero hz]
  funext y
  first | rfl | (unfold mo k0_pay7; pointwise)

theorem ref17 (a b : FVec Ideal S512x128 .f32) (y : S512x128.Idx) :
    val_main_v28 (F := Ideal) a b y = mo (a y) (b y) := by
  rfl

theorem arr17 : (dats m 0 c).arrAt 17 cfg0.N = val_main_v28 (F := Ideal) (V m c main_arg4) (V m c main_arg7) := by
  refine (dats m 0 c).arrAt_eq_of_covers 17 _ (by decide +kernel) fun t hf y => ?_
  rw [after0_17, out17]
  generalize hk : ((cfg0.win 17).blk t).view.emb y = k
  have h : ∀ a, (k a).val = (y a).val := fun a => by
    rw [← hk]
    match a with
    | ⟨0, _⟩ => (blk_simp [idx17]; try rfl)
    | ⟨1, _⟩ => (blk_simp [idx17]; try rfl)
  refine Eq.trans (b := mo (iblk m c 4 t y) (iblk m c 7 t y)) rfl (Eq.trans ?_ (ref17 _ _ k).symm)
  rw [blk4 m c t y k h, blk7 m c t y k h]

set_option maxHeartbeats 1000000 in
theorem out20 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_20 (F := Ideal) x0 x1 x2 x3 x4 x5 x6 x7 x8 x9 x10 x11 x12 = fun y => ve (x4 y) (x10 y) := by
  have hz : (![0, 0] : Fin S512x128.rank → Nat) = fun _ => 0 := funext fun a => by fin_cases a <;> rfl
  unfold out0_20
  rw [View.canon_unit_zero hz, View.ld_unit_zero hz, View.ld_unit_zero hz]
  funext y
  first | rfl | (unfold ve k0_pay8; pointwise)

theorem ref20 (a b : FVec Ideal S512x128 .f32) (y : S512x128.Idx) :
    val_main_v34 (F := Ideal) a b y = ve (a y) (b y) := by
  rfl

theorem arr20 : (dats m 0 c).arrAt 20 cfg0.N = val_main_v34 (F := Ideal) (V m c main_arg4) (V m c main_arg10) := by
  refine (dats m 0 c).arrAt_eq_of_covers 20 _ (by decide +kernel) fun t hf y => ?_
  rw [after0_20, out20]
  generalize hk : ((cfg0.win 20).blk t).view.emb y = k
  have h : ∀ a, (k a).val = (y a).val := fun a => by
    rw [← hk]
    match a with
    | ⟨0, _⟩ => (blk_simp [idx20]; try rfl)
    | ⟨1, _⟩ => (blk_simp [idx20]; try rfl)
  refine Eq.trans (b := ve (iblk m c 4 t y) (iblk m c 10 t y)) rfl (Eq.trans ?_ (ref20 _ _ k).symm)
  rw [blk4 m c t y k h, blk10 m c t y k h]

set_option maxHeartbeats 1000000 in
theorem out15 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_15 (F := Ideal) x0 x1 x2 x3 x4 x5 x6 x7 x8 x9 x10 x11 x12 = fun y => de (x2 y) (x5 y) (x8 y) (x11 y) := by
  have hz : (![0, 0] : Fin S128x1024.rank → Nat) = fun _ => 0 := funext fun a => by fin_cases a <;> rfl
  unfold out0_15
  rw [View.canon_unit_zero hz, View.ld_unit_zero hz, View.ld_unit_zero hz, View.ld_unit_zero hz, View.ld_unit_zero hz]
  funext y
  first | rfl | (unfold de mo ve k0_pay3 k0_pay1 k0_pay2; pointwise)

theorem ref15 (a b e f : FVec Ideal S128x1024 .f32) (y : S128x1024.Idx) :
    val_main_v71 (F := Ideal) a b e f y = de (a y) (b y) (e y) (f y) := by
  rfl

theorem arr15 : (dats m 0 c).arrAt 15 cfg0.N = val_main_v71 (F := Ideal) (V m c main_arg2) (V m c main_arg5) (V m c main_arg8) (V m c main_arg11) := by
  refine (dats m 0 c).arrAt_eq_of_covers 15 _ (by decide +kernel) fun t hf y => ?_
  rw [after0_15, out15]
  generalize hk : ((cfg0.win 15).blk t).view.emb y = k
  have h : ∀ a, (k a).val = (y a).val := fun a => by
    rw [← hk]
    match a with
    | ⟨0, _⟩ => (blk_simp [idx15]; try rfl)
    | ⟨1, _⟩ => (blk_simp [idx15]; try rfl)
  refine Eq.trans (b := de (iblk m c 2 t y) (iblk m c 5 t y) (iblk m c 8 t y) (iblk m c 11 t y)) rfl (Eq.trans ?_ (ref15 _ _ _ _ k).symm)
  rw [blk2 m c t y k h, blk5 m c t y k h, blk8 m c t y k h, blk11 m c t y k h]

set_option maxHeartbeats 1000000 in
theorem out18 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_18 (F := Ideal) x0 x1 x2 x3 x4 x5 x6 x7 x8 x9 x10 x11 x12 = fun y => mo (x5 y) (x8 y) := by
  have hz : (![0, 0] : Fin S128x1024.rank → Nat) = fun _ => 0 := funext fun a => by fin_cases a <;> rfl
  unfold out0_18
  rw [View.canon_unit_zero hz, View.ld_unit_zero hz, View.ld_unit_zero hz]
  funext y
  first | rfl | (unfold mo k0_pay1; pointwise)

theorem ref18 (a b : FVec Ideal S128x1024 .f32) (y : S128x1024.Idx) :
    val_main_v52 (F := Ideal) a b y = mo (a y) (b y) := by
  rfl

theorem arr18 : (dats m 0 c).arrAt 18 cfg0.N = val_main_v52 (F := Ideal) (V m c main_arg5) (V m c main_arg8) := by
  refine (dats m 0 c).arrAt_eq_of_covers 18 _ (by decide +kernel) fun t hf y => ?_
  rw [after0_18, out18]
  generalize hk : ((cfg0.win 18).blk t).view.emb y = k
  have h : ∀ a, (k a).val = (y a).val := fun a => by
    rw [← hk]
    match a with
    | ⟨0, _⟩ => (blk_simp [idx18]; try rfl)
    | ⟨1, _⟩ => (blk_simp [idx18]; try rfl)
  refine Eq.trans (b := mo (iblk m c 5 t y) (iblk m c 8 t y)) rfl (Eq.trans ?_ (ref18 _ _ k).symm)
  rw [blk5 m c t y k h, blk8 m c t y k h]

set_option maxHeartbeats 1000000 in
theorem out21 (x0 : Vec Ideal S160x1024 .f32) (x1 : Vec Ideal S512x128 .f32) (x2 : Vec Ideal S128x1024 .f32) (x3 : Vec Ideal S160x1024 .f32) (x4 : Vec Ideal S512x128 .f32) (x5 : Vec Ideal S128x1024 .f32) (x6 : Vec Ideal S160x1024 .f32) (x7 : Vec Ideal S512x128 .f32) (x8 : Vec Ideal S128x1024 .f32) (x9 : Vec Ideal S160x1024 .f32) (x10 : Vec Ideal S512x128 .f32) (x11 : Vec Ideal S128x1024 .f32) (x12 : Vec Ideal S8x128 .f32) :
    out0_21 (F := Ideal) x0 x1 x2 x3 x4 x5 x6 x7 x8 x9 x10 x11 x12 = fun y => ve (x5 y) (x11 y) := by
  have hz : (![0, 0] : Fin S128x1024.rank → Nat) = fun _ => 0 := funext fun a => by fin_cases a <;> rfl
  unfold out0_21
  rw [View.canon_unit_zero hz, View.ld_unit_zero hz, View.ld_unit_zero hz]
  funext y
  first | rfl | (unfold ve k0_pay2; pointwise)

theorem ref21 (a b : FVec Ideal S128x1024 .f32) (y : S128x1024.Idx) :
    val_main_v58 (F := Ideal) a b y = ve (a y) (b y) := by
  rfl

theorem arr21 : (dats m 0 c).arrAt 21 cfg0.N = val_main_v58 (F := Ideal) (V m c main_arg5) (V m c main_arg11) := by
  refine (dats m 0 c).arrAt_eq_of_covers 21 _ (by decide +kernel) fun t hf y => ?_
  rw [after0_21, out21]
  generalize hk : ((cfg0.win 21).blk t).view.emb y = k
  have h : ∀ a, (k a).val = (y a).val := fun a => by
    rw [← hk]
    match a with
    | ⟨0, _⟩ => (blk_simp [idx21]; try rfl)
    | ⟨1, _⟩ => (blk_simp [idx21]; try rfl)
  refine Eq.trans (b := ve (iblk m c 5 t y) (iblk m c 11 t y)) rfl (Eq.trans ?_ (ref21 _ _ k).symm)
  rw [blk5 m c t y k h, blk11 m c t y k h]

end Cert.Proof.Ad14
end
-- ==== Proof.Ad15.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.WholeRead

@[expose] public section

set_option maxRecDepth 16384

noncomputable section

namespace Cert.Proof.Ad15

/-! The optimiser step of the other three sharded weights: one point, entry by entry. -/

open Idealize.ShloMosaic Cert.Kernel15Ideal Cert.Kernel15Ideal.Gen
open Cert.Reference15Ideal.Read

variable (m : (ℓ : Loc nD τ sig) → Buf (Elt Ideal) ℓ) (c : Dev nD)

/-- The moments and the step of one entry. -/
def mo (g m : EReal) : EReal := Ideal.ofBits .f32 0x3F666666#32 * m + Ideal.ofBits .f32 0x3DCCCCCD#32 * g
def ve (g v : EReal) : EReal := Ideal.ofBits .f32 0x3F7FBE77#32 * v + Ideal.ofBits .f32 0x3A83126F#32 * (g * g)
def de (w g m v : EReal) : EReal :=
  Ideal.ofBits .f32 0xBA83126F#32 * (Ideal.div (Ideal.div (mo g m) (Ideal.ofBits .f32 0x3F26BD02#32))
    (Ideal.sqrt (Ideal.div (ve g v) (Ideal.ofBits .f32 0x3C231ACC#32)) + Ideal.ofBits .f32 0x322BCC77#32) + Ideal.ofBits .f32 0x3C23D70A#32 * w)

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx13 : ∀ t : Fin cfg0.N, win0_13.index t = ![0, 0] := (by decide +kernel : ∀ t : Fin grid0.N, win0_13.index t = ![0, 0])
theorem idx14 : ∀ t : Fin cfg0.N, win0_14.index t = ![0, 0] := (by decide +kernel : ∀ t : Fin grid0.N, win0_14.index t = ![0, 0])
theorem idx15 : ∀ t : Fin cfg0.N, win0_15.index t = ![0, 0] := (by decide +kernel : ∀ t : Fin grid0.N, win0_15.index t = ![0, 0])
theorem idx16 : ∀ t : Fin cfg0.N, win0_16.index t = ![0, 0] := (by decide +kernel : ∀ t : Fin grid0.N, win0_16.index t = ![0, 0])
theorem idx17 : ∀ t : Fin cfg0.N, win0_17.index t = ![0, 0] := (by decide +kernel : ∀ t : Fin grid0.N, win0_17.index t = ![0, 0])
theorem idx18 : ∀ t : Fin cfg0.N, win0_18.index t = ![0, 0] := (by decide +kernel : ∀ t : Fin grid0.N, win0_18.index t = ![0, 0])
theorem idx19 : ∀ t : Fin cfg0.N, win0_19.index t = ![0, 0] := (by decide +kernel : ∀ t : Fin grid0.N, win0_19.index t = ![0, 0])
theorem idx20 : ∀ t : Fin cfg0.N, win0_20.index t = ![0, 0] := (by decide +kernel : ∀ t : Fin grid0.N, win0_20.index t = ![0, 0])
theorem idx21 : ∀ t : Fin cfg0.N, win0_21.index t = ![0, 0] := (by decide +kernel : ∀ t : Fin grid0.N, win0_21.index t = ![0, 0])

theorem blk0 (t : Fin cfg0.N) (y k : S128x1024.Idx) (h : ∀ a, (k a).val = (y a).val) : iblk m c 0 t y = V m c main_arg0 k := by
  refine Eq.trans (b := V m c (Pipeline.arrRef spec0 0) (((cfg0.win 0).blk t).view.emb y)) rfl (congrArg (V m c main_arg0) (funext fun a => Fin.ext ((?_ : _ = _).trans (h a).symm)))
  match a with
  | ⟨0, _⟩ => (blk_simp [idx0]; try rfl)
  | ⟨1, _⟩ => (blk_simp [idx0]; try rfl)

theorem blk1 (t : Fin cfg0.N) (y k : S256x128.Idx) (h : ∀ a, (k a).val = (y a).val) : iblk m c 1 t y = V m c main_arg1 k := by
  refine Eq.trans (b := V m c (Pipeline.arrRef spec0 1) (((cfg0.win 1).blk t).view.emb y)) rfl (congrArg (V m c main_arg1) (funext fun a => Fin.ext ((?_ : _ = _).trans (h a).symm)))
  match a with
  | ⟨0, _⟩ => (blk_simp [idx1]; try rfl)
  | ⟨1, _⟩ => (blk_simp [idx1]; try rfl)

theorem blk2 (t : Fin cfg0.N) (y k : S4x160.Idx) (h : ∀ a, (k a).val = (y a).val) : iblk m c 2 t y = V m c main_arg2 k := by
  refine Eq.trans (b := V m c (Pipeline.arrRef spec0 2) (((cfg0.win 2).blk t).view.emb y)) rfl (congrArg (V m c main_arg2) (funext fun a => Fin.ext ((?_ : _ = _).trans (h a).symm)))
  match a with
  | ⟨0, _⟩ => (blk_simp [idx2]; try rfl)
  | ⟨1, _⟩ => (blk_simp [idx2]; try rfl)

theorem blk3 (t : Fin cfg0.N) (y k : S128x1024.Idx) (h : ∀ a, (k a).val = (y a).val) : iblk m c 3 t y = V m c main_arg3 k := by
  refine Eq.trans (b := V m c (Pipeline.arrRef spec0 3) (((cfg0.win 3).blk t).view.emb y)) rfl (congrArg (V m c main_arg3) (funext fun a => Fin.ext ((?_ : _ = _).trans (h a).symm)))
  match a with
  | ⟨0, _⟩ => (blk_simp [idx3]; try rfl)
  | ⟨1, _⟩ => (blk_simp [idx3]; try rfl)

theorem blk4 (t : Fin cfg0.N) (y k : S256x128.Idx) (h : ∀ a, (k a).val = (y a).val) : iblk m c 4 t y = V m c main_arg4 k := by
  refine Eq.trans (b := V m c (Pipeline.arrRef spec0 4) (((cfg0.win 4).blk t).view.emb y)) rfl (congrArg (V m c main_arg4) (funext fun a => Fin.ext ((?_ : _ = _).trans (h a).symm)))
  match a with
  | ⟨0, _⟩ => (blk_simp [idx4]; try rfl)
  | ⟨1, _⟩ => (blk_simp [idx4]; try rfl)

theorem blk5 (t : Fin cfg0.N) (y k : S4x160.Idx) (h : ∀ a, (k a).val = (y a).val) : iblk m c 5 t y = V m c main_arg5 k := by
  refine Eq.trans (b := V m c (Pipeline.arrRef spec0 5) (((cfg0.win 5).blk t).view.emb y)) rfl (congrArg (V m c main_arg5) (funext fun a => Fin.ext ((?_ : _ = _).trans (h a).symm)))
  match a with
  | ⟨0, _⟩ => (blk_simp [idx5]; try rfl)
  | ⟨1, _⟩ => (blk_simp [idx5]; try rfl)

theorem blk6 (t : Fin cfg0.N) (y k : S128x1024.Idx) (h : ∀ a, (k a).val = (y a).val) : iblk m c 6 t y = V m c main_arg6 k := by
  refine Eq.trans (b := V m c (Pipeline.arrRef spec0 6) (((cfg0.win 6).blk t).view.emb y)) rfl (congrArg (V m c main_arg6) (funext fun a => Fin.ext ((?_ : _ = _).trans (h a).symm)))
  match a with
  | ⟨0, _⟩ => (blk_simp [idx6]; try rfl)
  | ⟨1, _⟩ => (blk_simp [idx6]; try rfl)

theorem blk7 (t : Fin cfg0.N) (y k : S256x128.Idx) (h : ∀ a, (k a).val = (y a).val) : iblk m c 7 t y = V m c main_arg7 k := by
  refine Eq.trans (b := V m c (Pipeline.arrRef spec0 7) (((cfg0.win 7).blk t).view.emb y)) rfl (congrArg (V m c main_arg7) (funext fun a => Fin.ext ((?_ : _ = _).trans (h a).symm)))
  match a with
  | ⟨0, _⟩ => (blk_simp [idx7]; try rfl)
  | ⟨1, _⟩ => (blk_simp [idx7]; try rfl)

theorem blk8 (t : Fin cfg0.N) (y k : S4x160.Idx) (h : ∀ a, (k a).val = (y a).val) : iblk m c 8 t y = V m c main_arg8 k := by
  refine Eq.trans (b := V m c (Pipeline.arrRef spec0 8) (((cfg0.win 8).blk t).view.emb y)) rfl (congrArg (V m c main_arg8) (funext fun a => Fin.ext ((?_ : _ = _).trans (h a).symm)))
  match a with
  | ⟨0, _⟩ => (blk_simp [idx8]; try rfl)
  | ⟨1, _⟩ => (blk_simp [idx8]; try rfl)

theorem blk9 (t : Fin cfg0.N) (y k : S128x1024.Idx) (h : ∀ a, (k a).val = (y a).val) : iblk m c 9 t y = V m c main_arg9 k := by
  refine Eq.trans (b := V m c (Pipeline.arrRef spec0 9) (((cfg0.win 9).blk t).view.emb y)) rfl (congrArg (V m c main_arg9) (funext fun a => Fin.ext ((?_ : _ = _).trans (h a).symm)))
  match a with
  | ⟨0, _⟩ => (blk_simp [idx9]; try rfl)
  | ⟨1, _⟩ => (blk_simp [idx9]; try rfl)

theorem blk10 (t : Fin cfg0.N) (y k : S256x128.Idx) (h : ∀ a, (k a).val = (y a).val) : iblk m c 10 t y = V m c main_arg10 k := by
  refine Eq.trans (b := V m c (Pipeline.arrRef spec0 10) (((cfg0.win 10).blk t).view.emb y)) rfl (congrArg (V m c main_arg10) (funext fun a => Fin.ext ((?_ : _ = _).trans (h a).symm)))
  match a with
  | ⟨0, _⟩ => (blk_simp [idx10]; try rfl)
  | ⟨1, _⟩ => (blk_simp [idx10]; try rfl)

theorem blk11 (t : Fin cfg0.N) (y k : S4x160.Idx) (h : ∀ a, (k a).val = (y a).val) : iblk m c 11 t y = V m c main_arg11 k := by
  refine Eq.trans (b := V m c (Pipeline.arrRef spec0 11) (((cfg0.win 11).blk t).view.emb y)) rfl (congrArg (V m c main_arg11) (funext fun a => Fin.ext ((?_ : _ = _).trans (h a).symm)))
  match a with
  | ⟨0, _⟩ => (blk_simp [idx11]; try rfl)
  | ⟨1, _⟩ => (blk_simp [idx11]; try rfl)

set_option maxHeartbeats 1000000 in
theorem out13 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_13 (F := Ideal) x0 x1 x2 x3 x4 x5 x6 x7 x8 x9 x10 x11 x12 = fun y => de (x0 y) (x3 y) (x6 y) (x9 y) := by
  have hz : (![0, 0] : Fin S128x1024.rank → Nat) = fun _ => 0 := funext fun a => by fin_cases a <;> rfl
  unfold out0_13
  rw [View.canon_unit_zero hz, View.ld_unit_zero hz, View.ld_unit_zero hz, View.ld_unit_zero hz, View.ld_unit_zero hz]
  funext y
  first | rfl | (unfold de mo ve k0_pay6 k0_pay4 k0_pay5; pointwise)

theorem ref13 (a b e f : FVec Ideal S128x1024 .f32) (y : S128x1024.Idx) :
    val_main_v23 (F := Ideal) a b e f y = de (a y) (b y) (e y) (f y) := by
  rfl

theorem arr13 : (dats m 0 c).arrAt 13 cfg0.N = val_main_v23 (F := Ideal) (V m c main_arg0) (V m c main_arg3) (V m c main_arg6) (V m c main_arg9) := by
  refine (dats m 0 c).arrAt_eq_of_covers 13 _ (by decide +kernel) fun t hf y => ?_
  rw [after0_13, out13]
  generalize hk : ((cfg0.win 13).blk t).view.emb y = k
  have h : ∀ a, (k a).val = (y a).val := fun a => by
    rw [← hk]
    match a with
    | ⟨0, _⟩ => (blk_simp [idx13]; try rfl)
    | ⟨1, _⟩ => (blk_simp [idx13]; try rfl)
  refine Eq.trans (b := de (iblk m c 0 t y) (iblk m c 3 t y) (iblk m c 6 t y) (iblk m c 9 t y)) rfl (Eq.trans ?_ (ref13 _ _ _ _ k).symm)
  rw [blk0 m c t y k h, blk3 m c t y k h, blk6 m c t y k h, blk9 m c t y k h]

set_option maxHeartbeats 1000000 in
theorem out16 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_16 (F := Ideal) x0 x1 x2 x3 x4 x5 x6 x7 x8 x9 x10 x11 x12 = fun y => mo (x3 y) (x6 y) := by
  have hz : (![0, 0] : Fin S128x1024.rank → Nat) = fun _ => 0 := funext fun a => by fin_cases a <;> rfl
  unfold out0_16
  rw [View.canon_unit_zero hz, View.ld_unit_zero hz, View.ld_unit_zero hz]
  funext y
  first | rfl | (unfold mo k0_pay4; pointwise)

theorem ref16 (a b : FVec Ideal S128x1024 .f32) (y : S128x1024.Idx) :
    val_main_v4 (F := Ideal) a b y = mo (a y) (b y) := by
  rfl

theorem arr16 : (dats m 0 c).arrAt 16 cfg0.N = val_main_v4 (F := Ideal) (V m c main_arg3) (V m c main_arg6) := by
  refine (dats m 0 c).arrAt_eq_of_covers 16 _ (by decide +kernel) fun t hf y => ?_
  rw [after0_16, out16]
  generalize hk : ((cfg0.win 16).blk t).view.emb y = k
  have h : ∀ a, (k a).val = (y a).val := fun a => by
    rw [← hk]
    match a with
    | ⟨0, _⟩ => (blk_simp [idx16]; try rfl)
    | ⟨1, _⟩ => (blk_simp [idx16]; try rfl)
  refine Eq.trans (b := mo (iblk m c 3 t y) (iblk m c 6 t y)) rfl (Eq.trans ?_ (ref16 _ _ k).symm)
  rw [blk3 m c t y k h, blk6 m c t y k h]

set_option maxHeartbeats 1000000 in
theorem out19 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_19 (F := Ideal) x0 x1 x2 x3 x4 x5 x6 x7 x8 x9 x10 x11 x12 = fun y => ve (x3 y) (x9 y) := by
  have hz : (![0, 0] : Fin S128x1024.rank → Nat) = fun _ => 0 := funext fun a => by fin_cases a <;> rfl
  unfold out0_19
  rw [View.canon_unit_zero hz, View.ld_unit_zero hz, View.ld_unit_zero hz]
  funext y
  first | rfl | (unfold ve k0_pay5; pointwise)

theorem ref19 (a b : FVec Ideal S128x1024 .f32) (y : S128x1024.Idx) :
    val_main_v10 (F := Ideal) a b y = ve (a y) (b y) := by
  rfl

theorem arr19 : (dats m 0 c).arrAt 19 cfg0.N = val_main_v10 (F := Ideal) (V m c main_arg3) (V m c main_arg9) := by
  refine (dats m 0 c).arrAt_eq_of_covers 19 _ (by decide +kernel) fun t hf y => ?_
  rw [after0_19, out19]
  generalize hk : ((cfg0.win 19).blk t).view.emb y = k
  have h : ∀ a, (k a).val = (y a).val := fun a => by
    rw [← hk]
    match a with
    | ⟨0, _⟩ => (blk_simp [idx19]; try rfl)
    | ⟨1, _⟩ => (blk_simp [idx19]; try rfl)
  refine Eq.trans (b := ve (iblk m c 3 t y) (iblk m c 9 t y)) rfl (Eq.trans ?_ (ref19 _ _ k).symm)
  rw [blk3 m c t y k h, blk9 m c t y k h]

set_option maxHeartbeats 1000000 in
theorem out14 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_14 (F := Ideal) x0 x1 x2 x3 x4 x5 x6 x7 x8 x9 x10 x11 x12 = fun y => de (x1 y) (x4 y) (x7 y) (x10 y) := by
  have hz : (![0, 0] : Fin S256x128.rank → Nat) = fun _ => 0 := funext fun a => by fin_cases a <;> rfl
  unfold out0_14
  rw [View.canon_unit_zero hz, View.ld_unit_zero hz, View.ld_unit_zero hz, View.ld_unit_zero hz, View.ld_unit_zero hz]
  funext y
  first | rfl | (unfold de mo ve k0_pay9 k0_pay7 k0_pay8; pointwise)

theorem ref14 (a b e f : FVec Ideal S256x128 .f32) (y : S256x128.Idx) :
    val_main_v47 (F := Ideal) a b e f y = de (a y) (b y) (e y) (f y) := by
  rfl

theorem arr14 : (dats m 0 c).arrAt 14 cfg0.N = val_main_v47 (F := Ideal) (V m c main_arg1) (V m c main_arg4) (V m c main_arg7) (V m c main_arg10) := by
  refine (dats m 0 c).arrAt_eq_of_covers 14 _ (by decide +kernel) fun t hf y => ?_
  rw [after0_14, out14]
  generalize hk : ((cfg0.win 14).blk t).view.emb y = k
  have h : ∀ a, (k a).val = (y a).val := fun a => by
    rw [← hk]
    match a with
    | ⟨0, _⟩ => (blk_simp [idx14]; try rfl)
    | ⟨1, _⟩ => (blk_simp [idx14]; try rfl)
  refine Eq.trans (b := de (iblk m c 1 t y) (iblk m c 4 t y) (iblk m c 7 t y) (iblk m c 10 t y)) rfl (Eq.trans ?_ (ref14 _ _ _ _ k).symm)
  rw [blk1 m c t y k h, blk4 m c t y k h, blk7 m c t y k h, blk10 m c t y k h]

set_option maxHeartbeats 1000000 in
theorem out17 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_17 (F := Ideal) x0 x1 x2 x3 x4 x5 x6 x7 x8 x9 x10 x11 x12 = fun y => mo (x4 y) (x7 y) := by
  have hz : (![0, 0] : Fin S256x128.rank → Nat) = fun _ => 0 := funext fun a => by fin_cases a <;> rfl
  unfold out0_17
  rw [View.canon_unit_zero hz, View.ld_unit_zero hz, View.ld_unit_zero hz]
  funext y
  first | rfl | (unfold mo k0_pay7; pointwise)

theorem ref17 (a b : FVec Ideal S256x128 .f32) (y : S256x128.Idx) :
    val_main_v28 (F := Ideal) a b y = mo (a y) (b y) := by
  rfl

theorem arr17 : (dats m 0 c).arrAt 17 cfg0.N = val_main_v28 (F := Ideal) (V m c main_arg4) (V m c main_arg7) := by
  refine (dats m 0 c).arrAt_eq_of_covers 17 _ (by decide +kernel) fun t hf y => ?_
  rw [after0_17, out17]
  generalize hk : ((cfg0.win 17).blk t).view.emb y = k
  have h : ∀ a, (k a).val = (y a).val := fun a => by
    rw [← hk]
    match a with
    | ⟨0, _⟩ => (blk_simp [idx17]; try rfl)
    | ⟨1, _⟩ => (blk_simp [idx17]; try rfl)
  refine Eq.trans (b := mo (iblk m c 4 t y) (iblk m c 7 t y)) rfl (Eq.trans ?_ (ref17 _ _ k).symm)
  rw [blk4 m c t y k h, blk7 m c t y k h]

set_option maxHeartbeats 1000000 in
theorem out20 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_20 (F := Ideal) x0 x1 x2 x3 x4 x5 x6 x7 x8 x9 x10 x11 x12 = fun y => ve (x4 y) (x10 y) := by
  have hz : (![0, 0] : Fin S256x128.rank → Nat) = fun _ => 0 := funext fun a => by fin_cases a <;> rfl
  unfold out0_20
  rw [View.canon_unit_zero hz, View.ld_unit_zero hz, View.ld_unit_zero hz]
  funext y
  first | rfl | (unfold ve k0_pay8; pointwise)

theorem ref20 (a b : FVec Ideal S256x128 .f32) (y : S256x128.Idx) :
    val_main_v34 (F := Ideal) a b y = ve (a y) (b y) := by
  rfl

theorem arr20 : (dats m 0 c).arrAt 20 cfg0.N = val_main_v34 (F := Ideal) (V m c main_arg4) (V m c main_arg10) := by
  refine (dats m 0 c).arrAt_eq_of_covers 20 _ (by decide +kernel) fun t hf y => ?_
  rw [after0_20, out20]
  generalize hk : ((cfg0.win 20).blk t).view.emb y = k
  have h : ∀ a, (k a).val = (y a).val := fun a => by
    rw [← hk]
    match a with
    | ⟨0, _⟩ => (blk_simp [idx20]; try rfl)
    | ⟨1, _⟩ => (blk_simp [idx20]; try rfl)
  refine Eq.trans (b := ve (iblk m c 4 t y) (iblk m c 10 t y)) rfl (Eq.trans ?_ (ref20 _ _ k).symm)
  rw [blk4 m c t y k h, blk10 m c t y k h]

set_option maxHeartbeats 1000000 in
theorem out15 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_15 (F := Ideal) x0 x1 x2 x3 x4 x5 x6 x7 x8 x9 x10 x11 x12 = fun y => de (x2 y) (x5 y) (x8 y) (x11 y) := by
  have hz : (![0, 0] : Fin S4x160.rank → Nat) = fun _ => 0 := funext fun a => by fin_cases a <;> rfl
  unfold out0_15
  rw [View.canon_unit_zero hz, View.ld_unit_zero hz, View.ld_unit_zero hz, View.ld_unit_zero hz, View.ld_unit_zero hz]
  funext y
  first | rfl | (unfold de mo ve k0_pay3 k0_pay1 k0_pay2; pointwise)

theorem ref15 (a b e f : FVec Ideal S4x160 .f32) (y : S4x160.Idx) :
    val_main_v71 (F := Ideal) a b e f y = de (a y) (b y) (e y) (f y) := by
  rfl

theorem arr15 : (dats m 0 c).arrAt 15 cfg0.N = val_main_v71 (F := Ideal) (V m c main_arg2) (V m c main_arg5) (V m c main_arg8) (V m c main_arg11) := by
  refine (dats m 0 c).arrAt_eq_of_covers 15 _ (by decide +kernel) fun t hf y => ?_
  rw [after0_15, out15]
  generalize hk : ((cfg0.win 15).blk t).view.emb y = k
  have h : ∀ a, (k a).val = (y a).val := fun a => by
    rw [← hk]
    match a with
    | ⟨0, _⟩ => (blk_simp [idx15]; try rfl)
    | ⟨1, _⟩ => (blk_simp [idx15]; try rfl)
  refine Eq.trans (b := de (iblk m c 2 t y) (iblk m c 5 t y) (iblk m c 8 t y) (iblk m c 11 t y)) rfl (Eq.trans ?_ (ref15 _ _ _ _ k).symm)
  rw [blk2 m c t y k h, blk5 m c t y k h, blk8 m c t y k h, blk11 m c t y k h]

set_option maxHeartbeats 1000000 in
theorem out18 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_18 (F := Ideal) x0 x1 x2 x3 x4 x5 x6 x7 x8 x9 x10 x11 x12 = fun y => mo (x5 y) (x8 y) := by
  have hz : (![0, 0] : Fin S4x160.rank → Nat) = fun _ => 0 := funext fun a => by fin_cases a <;> rfl
  unfold out0_18
  rw [View.canon_unit_zero hz, View.ld_unit_zero hz, View.ld_unit_zero hz]
  funext y
  first | rfl | (unfold mo k0_pay1; pointwise)

theorem ref18 (a b : FVec Ideal S4x160 .f32) (y : S4x160.Idx) :
    val_main_v52 (F := Ideal) a b y = mo (a y) (b y) := by
  rfl

theorem arr18 : (dats m 0 c).arrAt 18 cfg0.N = val_main_v52 (F := Ideal) (V m c main_arg5) (V m c main_arg8) := by
  refine (dats m 0 c).arrAt_eq_of_covers 18 _ (by decide +kernel) fun t hf y => ?_
  rw [after0_18, out18]
  generalize hk : ((cfg0.win 18).blk t).view.emb y = k
  have h : ∀ a, (k a).val = (y a).val := fun a => by
    rw [← hk]
    match a with
    | ⟨0, _⟩ => (blk_simp [idx18]; try rfl)
    | ⟨1, _⟩ => (blk_simp [idx18]; try rfl)
  refine Eq.trans (b := mo (iblk m c 5 t y) (iblk m c 8 t y)) rfl (Eq.trans ?_ (ref18 _ _ k).symm)
  rw [blk5 m c t y k h, blk8 m c t y k h]

set_option maxHeartbeats 1000000 in
theorem out21 (x0 : Vec Ideal S128x1024 .f32) (x1 : Vec Ideal S256x128 .f32) (x2 : Vec Ideal S4x160 .f32) (x3 : Vec Ideal S128x1024 .f32) (x4 : Vec Ideal S256x128 .f32) (x5 : Vec Ideal S4x160 .f32) (x6 : Vec Ideal S128x1024 .f32) (x7 : Vec Ideal S256x128 .f32) (x8 : Vec Ideal S4x160 .f32) (x9 : Vec Ideal S128x1024 .f32) (x10 : Vec Ideal S256x128 .f32) (x11 : Vec Ideal S4x160 .f32) (x12 : Vec Ideal S8x128 .f32) :
    out0_21 (F := Ideal) x0 x1 x2 x3 x4 x5 x6 x7 x8 x9 x10 x11 x12 = fun y => ve (x5 y) (x11 y) := by
  have hz : (![0, 0] : Fin S4x160.rank → Nat) = fun _ => 0 := funext fun a => by fin_cases a <;> rfl
  unfold out0_21
  rw [View.canon_unit_zero hz, View.ld_unit_zero hz, View.ld_unit_zero hz]
  funext y
  first | rfl | (unfold ve k0_pay2; pointwise)

theorem ref21 (a b : FVec Ideal S4x160 .f32) (y : S4x160.Idx) :
    val_main_v58 (F := Ideal) a b y = ve (a y) (b y) := by
  rfl

theorem arr21 : (dats m 0 c).arrAt 21 cfg0.N = val_main_v58 (F := Ideal) (V m c main_arg5) (V m c main_arg11) := by
  refine (dats m 0 c).arrAt_eq_of_covers 21 _ (by decide +kernel) fun t hf y => ?_
  rw [after0_21, out21]
  generalize hk : ((cfg0.win 21).blk t).view.emb y = k
  have h : ∀ a, (k a).val = (y a).val := fun a => by
    rw [← hk]
    match a with
    | ⟨0, _⟩ => (blk_simp [idx21]; try rfl)
    | ⟨1, _⟩ => (blk_simp [idx21]; try rfl)
  refine Eq.trans (b := ve (iblk m c 5 t y) (iblk m c 11 t y)) rfl (Eq.trans ?_ (ref21 _ _ k).symm)
  rw [blk5 m c t y k h, blk11 m c t y k h]

end Cert.Proof.Ad15
end
-- ==== Proof.Ip11.lean ====
module

public import proofs.«01_k».proof.Proof.Gen.Kernel11Ideal.Value
public import proofs.«01_k».proof.Proof.Gen.Reference11Ideal.Read
public import Idealize.ShloMosaic.Lib.Pipeline.ValueKit
public import Idealize.ShloMosaic.Lib.WholeRead
public import Idealize.ShloMosaic.Lib.StableHlo.RunRead
public import Idealize.ShloMosaic.Lib.StableHlo.ReadAt

@[expose] public section

set_option maxRecDepth 16384

noncomputable section

namespace Cert.Proof.Ip11

/-! The input projection's columns of the device's own chip: each grid point multiplies 1024 rows. -/

open Idealize.ShloMosaic Cert.Kernel11Ideal Cert.Kernel11Ideal.Gen
open Cert.Reference11Ideal.Read

section
variable {F : FTy → Type} [FloatOps F]

theorem load0 (M : Memref sig .tc .vmem S1024x1024 .bf16) (h : M.IsWhole) (x : Vec F S1024x1024 .bf16) (inb) :
    View.readAt (Elt F) M.view (Rect.unit (s := S1024x1024) ![0, 0] S1024x1024.size inb).toLoadRect (h.unread x) = x := by
  funext j
  refine (h.readAt_unread x _ j).trans (congrArg x (funext fun a => Fin.ext ?_))
  fin_cases a <;> simp

theorem load1 (M : Memref sig .tc .vmem S1x2432x1024 .bf16) (h : M.IsWhole) (x : Vec F S1x2432x1024 .bf16) (inb) :
    View.readAt (Elt F) M.view (Rect.unit (s := S1x2432x1024) ![0, 0, 0] S1x2432x1024.size inb).toLoadRect (h.unread x) = x := by
  funext j
  refine (h.readAt_unread x _ j).trans (congrArg x (funext fun a => Fin.ext ?_))
  fin_cases a <;> simp

theorem load2 (M : Memref sig .tc .vmem S1x2432 .f32) (h : M.IsWhole) (x : Vec F S1x2432 .f32) (inb) :
    View.readAt (Elt F) M.view (Rect.unit (s := S1x2432) ![0, 0] S1x2432.size inb).toLoadRect (h.unread x) = x := by
  funext j
  refine (h.readAt_unread x _ j).trans (congrArg x (funext fun a => Fin.ext ?_))
  fin_cases a <;> simp

theorem pay3 {a a' : Vec F S1024x1024 .bf16} {w w' : Vec F S1x2432x1024 .bf16} {b b' : Vec F S1x2432 .f32} (ha : a = a') (hw : w = w')
    (hb : b = b') : k0_pay1 a w b = k0_pay1 a' w' b' := by rw [ha, hw, hb]

theorem outA (c : Dev nD) (i : grid0.Coords) (arg2 : Memref sig .tc .vmem S1024x1024 .bf16) (harg2 : arg2.IsWhole) (arg3 : Memref sig .tc .vmem S1x2432x1024 .bf16) (harg3 : arg3.IsWhole) (arg4 : Memref sig .tc .vmem S1x2432 .f32) (harg4 : arg4.IsWhole) (arg5 : Memref sig .tc .vmem S8x128 .f32) (harg5 : arg5.IsWhole) (arg7 : Memref sig .tc .vmem S1024x2432 .bf16) (harg7 : arg7.IsWhole)
    (x0 : Vec F S1024x1024 .bf16) (x1 : Vec F S1x2432x1024 .bf16) (x2 : Vec F S1x2432 .f32) (x3 : Vec F S8x128 .f32) :
    out0_A_4 c i arg2 harg2 arg3 harg3 arg4 harg4 arg5 harg5 arg7 harg7 x0 x1 x2 x3 = k0_pay1 x0 x1 x2 := by
  unfold out0_A_4
  rw [View.read_writes_junk_eq_canon]
  refine (View.canon_cons_unit_lit _ _ _ (by decide)).trans ?_
  exact pay3 (load0 arg2 harg2 x0 _) (load1 arg3 harg3 x1 _) (load2 arg4 harg4 x2 _)

end

variable (m : (ℓ : Loc nD τ sig) → Buf (Elt Ideal) ℓ) (c : Dev nD)

/-- The normed input, the weight's rows and the bias. -/
abbrev A0 : FVec Ideal S4096x1024 .bf16 := V m c main_arg0
abbrev A1 : FVec Ideal S1x2432x1024 .bf16 := V m c main_arg1
abbrev A2 : FVec Ideal S1x9728 .f32 := V m c main_arg2

/-- The reference's projection. -/
abbrev ref : FVec Ideal S4096x9728 .bf16 :=
  val_main_v10 (F := Ideal) (V m c main_arg0) (V m c main_arg1) (V m c main_arg2) (V m c main_arg3)

theorem left (t : Fin cfg0.N) : outsAt0 m c t = k0_pay1 (F := Ideal) (iblk m c 0 t) (iblk m c 1 t) (iblk m c 2 t) := by
  unfold outsAt0
  rw [outA]

theorem idx0 : ∀ t : Fin cfg0.N, win0_0.index t = ![t.val % 4, 0] := (by decide +kernel : ∀ t : Fin grid0.N, win0_0.index t = ![t.val % 4, 0])
theorem idx1 : ∀ t : Fin cfg0.N, win0_1.index t = ![t.val / 4, 0, 0] := (by decide +kernel : ∀ t : Fin grid0.N, win0_1.index t = ![t.val / 4, 0, 0])
theorem idx2 : ∀ t : Fin cfg0.N, win0_2.index t = ![0, 0 + t.val / 4] := (by decide +kernel : ∀ t : Fin grid0.N, win0_2.index t = ![0, 0 + t.val / 4])
theorem idx4 : ∀ t : Fin cfg0.N, win0_4.index t = ![t.val % 4, 0 + t.val / 4] := (by decide +kernel : ∀ t : Fin grid0.N, win0_4.index t = ![t.val % 4, 0 + t.val / 4])

theorem blk0 (t : Fin cfg0.N) (y : S1024x1024.Idx) (k : S4096x1024.Idx) (h0 : (k 0).val = t.val % 4 * 1024 + (y 0).val)
    (h1 : (k 1).val = (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    try rfl
  | ⟨1, _⟩ =>
    refine Eq.trans ?_ h1.symm
    blk_simp [idx0]
    try rfl

theorem blk1 (t : Fin cfg0.N) (y : S1x2432x1024.Idx) (k : S1x2432x1024.Idx) (h0 : (k 0).val = t.val / 4 + (y 0).val) (h1 : (k 1).val = (y 1).val)
    (h2 : (k 2).val = (y 2).val) : iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    try rfl
  | ⟨1, _⟩ =>
    refine Eq.trans ?_ h1.symm
    blk_simp [idx1]
    try rfl
  | ⟨2, _⟩ =>
    refine Eq.trans ?_ h2.symm
    blk_simp [idx1]
    try rfl

theorem blk2 (t : Fin cfg0.N) (y : S1x2432.Idx) (k : S1x9728.Idx) (h0 : (k 0).val = (y 0).val) (h1 : (k 1).val = (0 + t.val / 4) * 2432 + (y 1).val) :
    iblk m c 2 t y = V m c main_arg2 k := by
  refine Eq.trans (b := V m c (Pipeline.arrRef spec0 2) (((cfg0.win 2).blk t).view.emb y)) rfl (congrArg (V m c main_arg2) (funext fun a => Fin.ext ?_))
  match a with
  | ⟨0, _⟩ =>
    refine Eq.trans ?_ h0.symm
    blk_simp [idx2]
    try rfl
  | ⟨1, _⟩ =>
    refine Eq.trans ?_ h1.symm
    blk_simp [idx2]
    try rfl

theorem pay_at (a : FVec Ideal S1024x1024 .bf16) (w : FVec Ideal S1x2432x1024 .bf16) (b : FVec Ideal S1x2432 .f32) (j : S1024x2432.Idx) :
    k0_pay1 (F := Ideal) a w b j = (∑ k : Fin 1024, a (ix2 (j 0) k) * w (ix3 0 (j 1) k)) + b (ix2 0 (j 1)) := by
  unfold k0_pay1
  pointwise

/-- The reference at a computed column. -/
theorem ref_in (i : S4096x9728.Idx) (r : Fin 1) (q : Fin 2432) (h : (i 1).val = 0 + r.val * 2432 + q.val) :
    ref m c i = (∑ k : Fin 1024, A0 m c (ix2 (i 0) k) * A1 m c (ix3 r q k)) + A2 m c (ix2 0 (i 1)) := by
  have hr := r.isLt
  have hq := q.isLt
  unfold ref val_main_v10
  pointwise
  rw [dif_pos (by omega)]
  unfold val_main_v8 val_main_v7 val_main_v6 val_main_v5 val_main_v4 val_main_v3 val_main_v2 val_main_v1 val_main_v0
  pointwise
  have e0 : (0 : Fin 1) = r := Fin.ext (by change 0 = r.val; omega)
  have e1 : (⟨(i 1).val, by omega⟩ : Fin 2432) = q := Fin.ext (by change (i 1).val = q.val; omega)
  have e : ∀ k : Fin 1024, A1 m c (ix3 0 ⟨(i 1).val, by omega⟩ k) = A1 m c (ix3 r q k) := fun k => by rw [e0, e1]
  exact congrArg₂ (fun a b : EReal => a + b) (Finset.sum_congr rfl fun k _ => congrArg (fun z : EReal => A0 m c (ix2 (i 0) k) * z) (e k)) rfl

theorem ref_hi (i : S4096x9728.Idx) (h : 2432 ≤ (i 1).val) : ref m c i = V m c main_arg3 i := by
  unfold ref val_main_v10
  pointwise
  rw [dif_neg (by omega)]
  unfold val_main_v9
  pointwise
  refine congrArg (V m c main_arg3) (funext fun a => Fin.ext ?_)
  match a with
  | ⟨0, _⟩ => simp
  | ⟨1, _⟩ =>
    refine Eq.trans ?_ (Nat.add_sub_cancel' h)
    simp

theorem V_v1 : V m c main_v1 = m (c.tc.loc main_arg3) := by
  after_reads_simp
  rfl

theorem prod_at (t : Fin cfg0.N) (y : S1024x2432.Idx) (i : S4096x9728.Idx) (h0 : (i 0).val = t.val % 4 * 1024 + (y 0).val)
    (h1 : (i 1).val = (0 + t.val / 4) * 2432 + (y 1).val) :
    k0_pay1 (F := Ideal) (iblk m c 0 t) (iblk m c 1 t) (iblk m c 2 t) y = ref m c i := by
  have ht : t.val < 4 := t.isLt
  have hy : (y 1).val < 2432 := (y 1).isLt
  rw [pay_at, ref_in m c i ⟨t.val / 4, by omega⟩ (y 1) (by change (i 1).val = 0 + t.val / 4 * 2432 + (y 1).val; omega)]
  refine congrArg₂ (fun a b : EReal => a + b) (Finset.sum_congr rfl fun k _ => congrArg₂ (fun a b : EReal => a * b) (blk0 m c t _ _ h0 rfl) (blk1 m c t _ _ rfl rfl rfl)) ?_
  exact blk2 m c t _ _ rfl h1

theorem arr : (dats m 0 c).arrAt 4 cfg0.N = ref m c := by
  have h := (dats m 0 c).arrAt_eq_of_coversWhere 4 (ref m c)
    (fun β => β 1 < 1) (P := fun j : S4096x9728.Idx => (j 1).val < 2432) (by decide +kernel)
    (fun t hf y => by
      rw [after0_4, left]
      refine prod_at m c t y _ ?_ ?_
      · blk_simp [idx4]
      · blk_simp [idx4])
    (fun j => by blk_simp [Pipeline.Window.cell_apply]; omega)
  rw [h]
  funext j
  by_cases hj : (j 1).val < 2432
  · rw [if_pos hj]
  · rw [if_neg hj, A_eq]
    exact (congrFun (V_v1 m c) j).trans (ref_hi m c j (by omega)).symm

end Cert.Proof.Ip11
end
-- ==== Proof.Ip10.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.WholeRead
public import Idealize.ShloMosaic.Lib.StableHlo.RunRead
public import Idealize.ShloMosaic.Lib.StableHlo.ReadAt

@[expose] public section

set_option maxRecDepth 16384

noncomputable section

namespace Cert.Proof.Ip10

/-! The input projection's columns of the far chip: each grid point multiplies 1024 rows. -/

open Idealize.ShloMosaic Cert.Kernel10Ideal Cert.Kernel10Ideal.Gen
open Cert.Reference10Ideal.Read

section
variable {F : FTy → Type} [FloatOps F]

theorem load0 (M : Memref sig .tc .vmem S1024x1024 .bf16) (h : M.IsWhole) (x : Vec F S1024x1024 .bf16) (inb) :
    View.readAt (Elt F) M.view (Rect.unit (s := S1024x1024) ![0, 0] S1024x1024.size inb).toLoadRect (h.unread x) = x := by
  funext j
  refine (h.readAt_unread x _ j).trans (congrArg x (funext fun a => Fin.ext ?_))
  fin_cases a <;> simp

theorem load1 (M : Memref sig .tc .vmem S1x2432x1024 .bf16) (h : M.IsWhole) (x : Vec F S1x2432x1024 .bf16) (inb) :
    View.readAt (Elt F) M.view (Rect.unit (s := S1x2432x1024) ![0, 0, 0] S1x2432x1024.size inb).toLoadRect (h.unread x) = x := by
  funext j
  refine (h.readAt_unread x _ j).trans (congrArg x (funext fun a => Fin.ext ?_))
  fin_cases a <;> simp

theorem load2 (M : Memref sig .tc .vmem S1x2432 .f32) (h : M.IsWhole) (x : Vec F S1x2432 .f32) (inb) :
    View.readAt (Elt F) M.view (Rect.unit (s := S1x2432) ![0, 0] S1x2432.size inb).toLoadRect (h.unread x) = x := by
  funext j
  refine (h.readAt_unread x _ j).trans (congrArg x (funext fun a => Fin.ext ?_))
  fin_cases a <;> simp

theorem pay3 {a a' : Vec F S1024x1024 .bf16} {w w' : Vec F S1x2432x1024 .bf16} {b b' : Vec F S1x2432 .f32} (ha : a = a') (hw : w = w')
    (hb : b = b') : k0_pay1 a w b = k0_pay1 a' w' b' := by rw [ha, hw, hb]

theorem outA (c : Dev nD) (i : grid0.Coords) (arg2 : Memref sig .tc .vmem S1024x1024 .bf16) (harg2 : arg2.IsWhole) (arg3 : Memref sig .tc .vmem S1x2432x1024 .bf16) (harg3 : arg3.IsWhole) (arg4 : Memref sig .tc .vmem S1x2432 .f32) (harg4 : arg4.IsWhole) (arg5 : Memref sig .tc .vmem S8x128 .f32) (harg5 : arg5.IsWhole) (arg7 : Memref sig .tc .vmem S1024x2432 .bf16) (harg7 : arg7.IsWhole)
    (x0 : Vec F S1024x1024 .bf16) (x1 : Vec F S1x2432x1024 .bf16) (x2 : Vec F S1x2432 .f32) (x3 : Vec F S8x128 .f32) :
    out0_A_4 c i arg2 harg2 arg3 harg3 arg4 harg4 arg5 harg5 arg7 harg7 x0 x1 x2 x3 = k0_pay1 x0 x1 x2 := by
  unfold out0_A_4
  rw [View.read_writes_junk_eq_canon]
  refine (View.canon_cons_unit_lit _ _ _ (by decide)).trans ?_
  exact pay3 (load0 arg2 harg2 x0 _) (load1 arg3 harg3 x1 _) (load2 arg4 harg4 x2 _)

end

variable (m : (ℓ : Loc nD τ sig) → Buf (Elt Ideal) ℓ) (c : Dev nD)

/-- The normed input, the weight's rows and the bias. -/
abbrev A0 : FVec Ideal S4096x1024 .bf16 := V m c main_arg0
abbrev A1 : FVec Ideal S1x2432x1024 .bf16 := V m c main_arg1
abbrev A2 : FVec Ideal S1x9728 .f32 := V m c main_arg2

/-- The reference's projection. -/
abbrev ref : FVec Ideal S4096x9728 .bf16 :=
  val_main_v10 (F := Ideal) (V m c main_arg0) (V m c main_arg1) (V m c main_arg2) (V m c main_arg3)

theorem left (t : Fin cfg0.N) : outsAt0 m c t = k0_pay1 (F := Ideal) (iblk m c 0 t) (iblk m c 1 t) (iblk m c 2 t) := by
  unfold outsAt0
  rw [outA]

theorem idx0 : ∀ t : Fin cfg0.N, win0_0.index t = ![t.val % 4, 0] := (by decide +kernel : ∀ t : Fin grid0.N, win0_0.index t = ![t.val % 4, 0])
theorem idx1 : ∀ t : Fin cfg0.N, win0_1.index t = ![t.val / 4, 0, 0] := (by decide +kernel : ∀ t : Fin grid0.N, win0_1.index t = ![t.val / 4, 0, 0])
theorem idx2 : ∀ t : Fin cfg0.N, win0_2.index t = ![0, 3 + t.val / 4] := (by decide +kernel : ∀ t : Fin grid0.N, win0_2.index t = ![0, 3 + t.val / 4])
theorem idx4 : ∀ t : Fin cfg0.N, win0_4.index t = ![t.val % 4, 3 + t.val / 4] := (by decide +kernel : ∀ t : Fin grid0.N, win0_4.index t = ![t.val % 4, 3 + t.val / 4])

theorem blk0 (t : Fin cfg0.N) (y : S1024x1024.Idx) (k : S4096x1024.Idx) (h0 : (k 0).val = t.val % 4 * 1024 + (y 0).val)
    (h1 : (k 1).val = (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    try rfl
  | ⟨1, _⟩ =>
    refine Eq.trans ?_ h1.symm
    blk_simp [idx0]
    try rfl

theorem blk1 (t : Fin cfg0.N) (y : S1x2432x1024.Idx) (k : S1x2432x1024.Idx) (h0 : (k 0).val = t.val / 4 + (y 0).val) (h1 : (k 1).val = (y 1).val)
    (h2 : (k 2).val = (y 2).val) : iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    try rfl
  | ⟨1, _⟩ =>
    refine Eq.trans ?_ h1.symm
    blk_simp [idx1]
    try rfl
  | ⟨2, _⟩ =>
    refine Eq.trans ?_ h2.symm
    blk_simp [idx1]
    try rfl

theorem blk2 (t : Fin cfg0.N) (y : S1x2432.Idx) (k : S1x9728.Idx) (h0 : (k 0).val = (y 0).val) (h1 : (k 1).val = (3 + t.val / 4) * 2432 + (y 1).val) :
    iblk m c 2 t y = V m c main_arg2 k := by
  refine Eq.trans (b := V m c (Pipeline.arrRef spec0 2) (((cfg0.win 2).blk t).view.emb y)) rfl (congrArg (V m c main_arg2) (funext fun a => Fin.ext ?_))
  match a with
  | ⟨0, _⟩ =>
    refine Eq.trans ?_ h0.symm
    blk_simp [idx2]
    try rfl
  | ⟨1, _⟩ =>
    refine Eq.trans ?_ h1.symm
    blk_simp [idx2]
    try rfl

theorem pay_at (a : FVec Ideal S1024x1024 .bf16) (w : FVec Ideal S1x2432x1024 .bf16) (b : FVec Ideal S1x2432 .f32) (j : S1024x2432.Idx) :
    k0_pay1 (F := Ideal) a w b j = (∑ k : Fin 1024, a (ix2 (j 0) k) * w (ix3 0 (j 1) k)) + b (ix2 0 (j 1)) := by
  unfold k0_pay1
  pointwise

/-- The reference at a computed column. -/
theorem ref_in (i : S4096x9728.Idx) (r : Fin 1) (q : Fin 2432) (h : (i 1).val = 7296 + r.val * 2432 + q.val) :
    ref m c i = (∑ k : Fin 1024, A0 m c (ix2 (i 0) k) * A1 m c (ix3 r q k)) + A2 m c (ix2 0 (i 1)) := by
  have hr := r.isLt
  have hq := q.isLt
  unfold ref val_main_v10
  pointwise
  rw [dif_neg (by omega)]
  unfold val_main_v9 val_main_v8 val_main_v7 val_main_v6 val_main_v5 val_main_v4 val_main_v3 val_main_v2 val_main_v1
  pointwise
  have e : ∀ k : Fin 1024, A1 m c (ix3 0 ⟨(i 1).val - 7296, by omega⟩ k) = A1 m c (ix3 r q k) := fun k =>
    congrArg₂ (fun (u : Fin 1) (v : Fin 2432) => A1 m c (ix3 u v k)) (Fin.ext (by change 0 = r.val; omega)) (Fin.ext (by change (i 1).val - 7296 = q.val; omega))
  have e2 : A2 m c (ix2 0 ⟨7296 + ((i 1).val - 7296), by omega⟩) = A2 m c (ix2 0 (i 1)) :=
    congrArg (fun v : Fin 9728 => A2 m c (ix2 0 v)) (Fin.ext (by change 7296 + ((i 1).val - 7296) = (i 1).val; omega))
  exact congrArg₂ (fun a b : EReal => a + b) (Finset.sum_congr rfl fun k _ => congrArg (fun z : EReal => A0 m c (ix2 (i 0) k) * z) (e k)) e2

theorem ref_lo (i : S4096x9728.Idx) (h : (i 1).val < 7296) : ref m c i = V m c main_arg3 i := by
  unfold ref val_main_v10
  pointwise
  rw [dif_pos (by omega)]
  unfold val_main_v0
  pointwise

theorem V_v1 : V m c main_v1 = m (c.tc.loc main_arg3) := by
  after_reads_simp
  rfl

theorem prod_at (t : Fin cfg0.N) (y : S1024x2432.Idx) (i : S4096x9728.Idx) (h0 : (i 0).val = t.val % 4 * 1024 + (y 0).val)
    (h1 : (i 1).val = (3 + t.val / 4) * 2432 + (y 1).val) :
    k0_pay1 (F := Ideal) (iblk m c 0 t) (iblk m c 1 t) (iblk m c 2 t) y = ref m c i := by
  have ht : t.val < 4 := t.isLt
  have hy : (y 1).val < 2432 := (y 1).isLt
  rw [pay_at, ref_in m c i ⟨t.val / 4, by omega⟩ (y 1) (by change (i 1).val = 7296 + t.val / 4 * 2432 + (y 1).val; omega)]
  refine congrArg₂ (fun a b : EReal => a + b) (Finset.sum_congr rfl fun k _ => congrArg₂ (fun a b : EReal => a * b) (blk0 m c t _ _ h0 rfl) (blk1 m c t _ _ rfl rfl rfl)) ?_
  exact blk2 m c t _ _ rfl h1

theorem arr : (dats m 0 c).arrAt 4 cfg0.N = ref m c := by
  have h := (dats m 0 c).arrAt_eq_of_coversWhere 4 (ref m c)
    (fun β => 3 ≤ β 1) (P := fun j : S4096x9728.Idx => 7296 ≤ (j 1).val) (by decide +kernel)
    (fun t hf y => by
      rw [after0_4, left]
      refine prod_at m c t y _ ?_ ?_
      · blk_simp [idx4]
      · blk_simp [idx4])
    (fun j => by blk_simp [Pipeline.Window.cell_apply]; omega)
  rw [h]
  funext j
  by_cases hj : 7296 ≤ (j 1).val
  · rw [if_pos hj]
  · rw [if_neg hj, A_eq]
    exact (congrFun (V_v1 m c) j).trans (ref_lo m c j (by omega)).symm

end Cert.Proof.Ip10
end
-- ==== Proof.Ip9.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.WholeRead
public import Idealize.ShloMosaic.Lib.StableHlo.RunRead
public import Idealize.ShloMosaic.Lib.StableHlo.ReadAt

@[expose] public section

set_option maxRecDepth 16384

noncomputable section

namespace Cert.Proof.Ip9

/-! The input projection's columns of the two near chips: each grid point multiplies 1024 rows. -/

open Idealize.ShloMosaic Cert.Kernel9Ideal Cert.Kernel9Ideal.Gen
open Cert.Reference9Ideal.Read

section
variable {F : FTy → Type} [FloatOps F]

theorem load0 (M : Memref sig .tc .vmem S1024x1024 .bf16) (h : M.IsWhole) (x : Vec F S1024x1024 .bf16) (inb) :
    View.readAt (Elt F) M.view (Rect.unit (s := S1024x1024) ![0, 0] S1024x1024.size inb).toLoadRect (h.unread x) = x := by
  funext j
  refine (h.readAt_unread x _ j).trans (congrArg x (funext fun a => Fin.ext ?_))
  fin_cases a <;> simp

theorem load1 (M : Memref sig .tc .vmem S1x2432x1024 .bf16) (h : M.IsWhole) (x : Vec F S1x2432x1024 .bf16) (inb) :
    View.readAt (Elt F) M.view (Rect.unit (s := S1x2432x1024) ![0, 0, 0] S1x2432x1024.size inb).toLoadRect (h.unread x) = x := by
  funext j
  refine (h.readAt_unread x _ j).trans (congrArg x (funext fun a => Fin.ext ?_))
  fin_cases a <;> simp

theorem load2 (M : Memref sig .tc .vmem S1x2432 .f32) (h : M.IsWhole) (x : Vec F S1x2432 .f32) (inb) :
    View.readAt (Elt F) M.view (Rect.unit (s := S1x2432) ![0, 0] S1x2432.size inb).toLoadRect (h.unread x) = x := by
  funext j
  refine (h.readAt_unread x _ j).trans (congrArg x (funext fun a => Fin.ext ?_))
  fin_cases a <;> simp

theorem pay3 {a a' : Vec F S1024x1024 .bf16} {w w' : Vec F S1x2432x1024 .bf16} {b b' : Vec F S1x2432 .f32} (ha : a = a') (hw : w = w')
    (hb : b = b') : k0_pay1 a w b = k0_pay1 a' w' b' := by rw [ha, hw, hb]

theorem outA (c : Dev nD) (i : grid0.Coords) (arg2 : Memref sig .tc .vmem S1024x1024 .bf16) (harg2 : arg2.IsWhole) (arg3 : Memref sig .tc .vmem S1x2432x1024 .bf16) (harg3 : arg3.IsWhole) (arg4 : Memref sig .tc .vmem S1x2432 .f32) (harg4 : arg4.IsWhole) (arg5 : Memref sig .tc .vmem S8x128 .f32) (harg5 : arg5.IsWhole) (arg7 : Memref sig .tc .vmem S1024x2432 .bf16) (harg7 : arg7.IsWhole)
    (x0 : Vec F S1024x1024 .bf16) (x1 : Vec F S1x2432x1024 .bf16) (x2 : Vec F S1x2432 .f32) (x3 : Vec F S8x128 .f32) :
    out0_A_4 c i arg2 harg2 arg3 harg3 arg4 harg4 arg5 harg5 arg7 harg7 x0 x1 x2 x3 = k0_pay1 x0 x1 x2 := by
  unfold out0_A_4
  rw [View.read_writes_junk_eq_canon]
  refine (View.canon_cons_unit_lit _ _ _ (by decide)).trans ?_
  exact pay3 (load0 arg2 harg2 x0 _) (load1 arg3 harg3 x1 _) (load2 arg4 harg4 x2 _)

end

variable (m : (ℓ : Loc nD τ sig) → Buf (Elt Ideal) ℓ) (c : Dev nD)

/-- The normed input, the weight's rows and the bias. -/
abbrev A0 : FVec Ideal S4096x1024 .bf16 := V m c main_arg0
abbrev A1 : FVec Ideal S2x2432x1024 .bf16 := V m c main_arg1
abbrev A2 : FVec Ideal S1x9728 .f32 := V m c main_arg2

/-- The reference's projection. -/
abbrev ref : FVec Ideal S4096x9728 .bf16 :=
  val_main_v11 (F := Ideal) (V m c main_arg0) (V m c main_arg1) (V m c main_arg2) (V m c main_arg3)

theorem left (t : Fin cfg0.N) : outsAt0 m c t = k0_pay1 (F := Ideal) (iblk m c 0 t) (iblk m c 1 t) (iblk m c 2 t) := by
  unfold outsAt0
  rw [outA]

theorem idx0 : ∀ t : Fin cfg0.N, win0_0.index t = ![t.val % 4, 0] := (by decide +kernel : ∀ t : Fin grid0.N, win0_0.index t = ![t.val % 4, 0])
theorem idx1 : ∀ t : Fin cfg0.N, win0_1.index t = ![t.val / 4, 0, 0] := (by decide +kernel : ∀ t : Fin grid0.N, win0_1.index t = ![t.val / 4, 0, 0])
theorem idx2 : ∀ t : Fin cfg0.N, win0_2.index t = ![0, 1 + t.val / 4] := (by decide +kernel : ∀ t : Fin grid0.N, win0_2.index t = ![0, 1 + t.val / 4])
theorem idx4 : ∀ t : Fin cfg0.N, win0_4.index t = ![t.val % 4, 1 + t.val / 4] := (by decide +kernel : ∀ t : Fin grid0.N, win0_4.index t = ![t.val % 4, 1 + t.val / 4])

theorem blk0 (t : Fin cfg0.N) (y : S1024x1024.Idx) (k : S4096x1024.Idx) (h0 : (k 0).val = t.val % 4 * 1024 + (y 0).val)
    (h1 : (k 1).val = (y 1).val) : iblk m c 0 t y = V m c main_arg0 k := by
  refine Eq.trans (b := V m c (Pipeline.arrRef spec0 0) (((cfg0.win 0).blk t).view.emb y)) rfl (congrArg (V m c main_arg0) (funext fun a => Fin.ext ?_))
  match a with
  | ⟨0, _⟩ =>
    refine Eq.trans ?_ h0.symm
    blk_simp [idx0]
    try rfl
  | ⟨1, _⟩ =>
    refine Eq.trans ?_ h1.symm
    blk_simp [idx0]
    try rfl

theorem blk1 (t : Fin cfg0.N) (y : S1x2432x1024.Idx) (k : S2x2432x1024.Idx) (h0 : (k 0).val = t.val / 4 + (y 0).val) (h1 : (k 1).val = (y 1).val)
    (h2 : (k 2).val = (y 2).val) : iblk m c 1 t y = V m c main_arg1 k := by
  refine Eq.trans (b := V m c (Pipeline.arrRef spec0 1) (((cfg0.win 1).blk t).view.emb y)) rfl (congrArg (V m c main_arg1) (funext fun a => Fin.ext ?_))
  match a with
  | ⟨0, _⟩ =>
    refine Eq.trans ?_ h0.symm
    blk_simp [idx1]
    try rfl
  | ⟨1, _⟩ =>
    refine Eq.trans ?_ h1.symm
    blk_simp [idx1]
    try rfl
  | ⟨2, _⟩ =>
    refine Eq.trans ?_ h2.symm
    blk_simp [idx1]
    try rfl

theorem blk2 (t : Fin cfg0.N) (y : S1x2432.Idx) (k : S1x9728.Idx) (h0 : (k 0).val = (y 0).val) (h1 : (k 1).val = (1 + t.val / 4) * 2432 + (y 1).val) :
    iblk m c 2 t y = V m c main_arg2 k := by
  refine Eq.trans (b := V m c (Pipeline.arrRef spec0 2) (((cfg0.win 2).blk t).view.emb y)) rfl (congrArg (V m c main_arg2) (funext fun a => Fin.ext ?_))
  match a with
  | ⟨0, _⟩ =>
    refine Eq.trans ?_ h0.symm
    blk_simp [idx2]
    try rfl
  | ⟨1, _⟩ =>
    refine Eq.trans ?_ h1.symm
    blk_simp [idx2]
    try rfl

theorem pay_at (a : FVec Ideal S1024x1024 .bf16) (w : FVec Ideal S1x2432x1024 .bf16) (b : FVec Ideal S1x2432 .f32) (j : S1024x2432.Idx) :
    k0_pay1 (F := Ideal) a w b j = (∑ k : Fin 1024, a (ix2 (j 0) k) * w (ix3 0 (j 1) k)) + b (ix2 0 (j 1)) := by
  unfold k0_pay1
  pointwise

/-- The reference at a computed column. -/
theorem ref_in (i : S4096x9728.Idx) (r : Fin 2) (q : Fin 2432) (h : (i 1).val = 2432 + r.val * 2432 + q.val) :
    ref m c i = (∑ k : Fin 1024, A0 m c (ix2 (i 0) k) * A1 m c (ix3 r q k)) + A2 m c (ix2 0 (i 1)) := by
  have hr := r.isLt
  have hq := q.isLt
  unfold ref val_main_v11
  pointwise
  rw [dif_neg (by omega), dif_pos (by omega)]
  unfold val_main_v8 val_main_v7 val_main_v6 val_main_v5 val_main_v4 val_main_v3 val_main_v2 val_main_v1 val_main_v0
  pointwise
  have e : ∀ k : Fin 1024, A1 m c (ix3 ⟨((i 1).val - 2432) / 2432, by omega⟩ ⟨((i 1).val - 2432) % 2432, by omega⟩ k) = A1 m c (ix3 r q k) := fun k =>
    congrArg₂ (fun (u : Fin 2) (v : Fin 2432) => A1 m c (ix3 u v k)) (Fin.ext (by change ((i 1).val - 2432) / 2432 = r.val; omega)) (Fin.ext (by change ((i 1).val - 2432) % 2432 = q.val; omega))
  have e2 : A2 m c (ix2 0 ⟨2432 + ((i 1).val - 2432), by omega⟩) = A2 m c (ix2 0 (i 1)) :=
    congrArg (fun v : Fin 9728 => A2 m c (ix2 0 v)) (Fin.ext (by change 2432 + ((i 1).val - 2432) = (i 1).val; omega))
  exact congrArg₂ (fun a b : EReal => a + b) (Finset.sum_congr rfl fun k _ => congrArg (fun z : EReal => A0 m c (ix2 (i 0) k) * z) (e k)) e2

theorem ref_lo (i : S4096x9728.Idx) (h : (i 1).val < 2432) : ref m c i = V m c main_arg3 i := by
  unfold ref val_main_v11
  pointwise
  rw [dif_pos (by omega)]
  unfold val_main_v9
  pointwise

theorem ref_hi (i : S4096x9728.Idx) (h : 7296 ≤ (i 1).val) : ref m c i = V m c main_arg3 i := by
  unfold ref val_main_v11
  pointwise
  rw [dif_neg (by omega), dif_neg (by omega)]
  unfold val_main_v10
  pointwise
  refine congrArg (V m c main_arg3) (funext fun a => Fin.ext ?_)
  match a with
  | ⟨0, _⟩ => simp
  | ⟨1, _⟩ =>
    refine Eq.trans ?_ (Nat.add_sub_cancel' h)
    simp
    omega

theorem V_v1 : V m c main_v1 = m (c.tc.loc main_arg3) := by
  after_reads_simp
  rfl

theorem prod_at (t : Fin cfg0.N) (y : S1024x2432.Idx) (i : S4096x9728.Idx) (h0 : (i 0).val = t.val % 4 * 1024 + (y 0).val)
    (h1 : (i 1).val = (1 + t.val / 4) * 2432 + (y 1).val) :
    k0_pay1 (F := Ideal) (iblk m c 0 t) (iblk m c 1 t) (iblk m c 2 t) y = ref m c i := by
  have ht : t.val < 8 := t.isLt
  have hy : (y 1).val < 2432 := (y 1).isLt
  rw [pay_at, ref_in m c i ⟨t.val / 4, by omega⟩ (y 1) (by change (i 1).val = 2432 + t.val / 4 * 2432 + (y 1).val; omega)]
  refine congrArg₂ (fun a b : EReal => a + b) (Finset.sum_congr rfl fun k _ => congrArg₂ (fun a b : EReal => a * b) (blk0 m c t _ _ h0 rfl) (blk1 m c t _ _ rfl rfl rfl)) ?_
  exact blk2 m c t _ _ rfl h1

theorem arr : (dats m 0 c).arrAt 4 cfg0.N = ref m c := by
  have h := (dats m 0 c).arrAt_eq_of_coversWhere 4 (ref m c)
    (fun β => 1 ≤ β 1 ∧ β 1 < 3) (P := fun j : S4096x9728.Idx => 2432 ≤ (j 1).val ∧ (j 1).val < 7296) (by decide +kernel)
    (fun t hf y => by
      rw [after0_4, left]
      refine prod_at m c t y _ ?_ ?_
      · blk_simp [idx4]
      · blk_simp [idx4])
    (fun j => by blk_simp [Pipeline.Window.cell_apply]; omega)
  rw [h]
  funext j
  by_cases hj : 2432 ≤ (j 1).val ∧ (j 1).val < 7296
  · rw [if_pos hj]
  · rw [if_neg hj, A_eq]
    refine (congrFun (V_v1 m c) j).trans ?_
    rcases Nat.lt_or_ge (j 1).val 2432 with u | u
    · exact (ref_lo m c j u).symm
    · exact (ref_hi m c j (by omega)).symm

end Cert.Proof.Ip9
end
-- ==== Proof.lean ====
/- The certificate: the frames, the ideal reading, and the equation of kernel and reference. -/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Same
public import proofs.«01_k».proof.Proof.DwSame
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.GxFin
public import proofs.«01_k».proof.Proof.Gen.Kernel12.Frame
public import proofs.«01_k».proof.Proof.Ad12
public import proofs.«01_k».proof.Proof.Gen.Kernel13.Frame
public import proofs.«01_k».proof.Proof.Ad13
public import proofs.«01_k».proof.Proof.Gen.Kernel14.Frame
public import proofs.«01_k».proof.Proof.Ad14
public import proofs.«01_k».proof.Proof.Gen.Kernel15.Frame
public import proofs.«01_k».proof.Proof.Ad15
public import proofs.«01_k».proof.Proof.Ip11
public import proofs.«01_k».proof.Proof.Ip10
public import proofs.«01_k».proof.Proof.Ip9
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame: its own words. -/
theorem frame_kernel : Cert.quiescent_Kernel := fun m ρ _ => Cert.Kernel.Gen.frame m ρ

/-- The ideal kernel's frame. -/
theorem frame_ideal : Cert.quiescent_KernelIdeal := fun m ρ _ => Cert.KernelIdeal.Gen.frame m ρ

/-- The reference's frame: its run leaves the arguments, and it has no semaphore. -/
theorem frame_reference : Cert.quiescent_ReferenceIdeal := fun m ρ _ =>
  (θ_run Cert.ReferenceIdeal.defs _ _).mono (fun r h =>
    ⟨fun c => (h c).2.2.2.2.2.2.2.2, sem_eq_zero_of_no_sems (by decide) r.2⟩)
    (Cert.ReferenceIdeal.Value.run (F := Ideal) m ρ)

/-- The precondition's facts are those its evaluation needs. -/
instance pre_facts : Cert.Pre_finite.Facts := Cert.Pre_finite.facts

set_option maxRecDepth 16384 in
set_option maxHeartbeats 8000000 in
/-- The ideal kernel and the reference leave the same arrays from the same finite arguments. -/
theorem algebraic : Cert.algebraic_KernelIdeal_ReferenceIdeal_pre_finite := by
  intro m g m' g' hpre heq
  have hold : ∀ c, ∃ I : In, Pre.Holds m c I := fun c => Pre.holds _ _ _ _ _ _ _ _ _ _ (hpre c)
  refine ⟨fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N,
    Cert.KernelIdeal.Value.run_blocks m g, (θ_run Cert.ReferenceIdeal.defs _ _).mono (fun r h c => ?_)
      (Cert.ReferenceIdeal.Value.run (F := Ideal) m' g')⟩
  obtain ⟨I, A⟩ := hold c
  obtain ⟨a0, a1, a2, a3, a4, a5, a6, a7, a8, a9⟩ := heq c
  obtain ⟨h0, h1, h2, h3, h4, h5, h6, h7, hargs⟩ := h c
  have r0 : Cert.ReferenceIdeal.Read.val_main_v224 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) (m' (c.tc.loc Cert.ReferenceIdeal.main_arg9)) = (Cert.KernelIdeal.Gen.dats m 0 c).arrAt 12 Cert.KernelIdeal.cfg0.N := by
    rw [a0, a1, a2, a3, a4, a5, a6, a7, a8, a9]
    exact Pre.same12 A
  have r1 : Cert.ReferenceIdeal.Read.val_main_v215 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = (Cert.KernelIdeal.Gen.dats m 0 c).arrAt 13 Cert.KernelIdeal.cfg0.N := by
    rw [a0, a1, a2, a3, a4, a5, a6, a7, a8]
    exact Pre.same13 A
  have r2 : Cert.ReferenceIdeal.Read.val_main_v217 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = (Cert.KernelIdeal.Gen.dats m 0 c).arrAt 14 Cert.KernelIdeal.cfg0.N := by
    rw [a0, a1, a2, a3, a4, a5, a6, a7, a8]
    exact Pre.same14 A
  have r3 : Cert.ReferenceIdeal.Read.val_main_v169 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = (Cert.KernelIdeal.Gen.dats m 0 c).arrAt 15 Cert.KernelIdeal.cfg0.N := by
    rw [a0, a1, a2, a3, a4, a5, a6, a7, a8]
    exact Pre.same15 A
  have r4 : Cert.ReferenceIdeal.Read.val_main_v157 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = (Cert.KernelIdeal.Gen.dats m 0 c).arrAt 16 Cert.KernelIdeal.cfg0.N := by
    rw [a0, a1, a2, a3, a4, a5, a6, a7, a8]
    exact Pre.same16 A
  have r5 : Cert.ReferenceIdeal.Read.val_main_v163 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = (Cert.KernelIdeal.Gen.dats m 0 c).arrAt 17 Cert.KernelIdeal.cfg0.N := by
    rw [a0, a1, a2, a3, a4, a5, a6, a7, a8]
    exact Pre.same17 A
  have r6 : Cert.ReferenceIdeal.Read.val_main_v151 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = (Cert.KernelIdeal.Gen.dats m 0 c).arrAt 18 Cert.KernelIdeal.cfg0.N := by
    rw [a0, a1, a2, a3, a4, a5, a6, a7, a8]
    exact Pre.same18 A
  have r7 : Cert.ReferenceIdeal.Read.val_main_v144 (F := Ideal) (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) (m' (c.tc.loc Cert.ReferenceIdeal.main_arg5)) (m' (c.tc.loc Cert.ReferenceIdeal.main_arg6)) (m' (c.tc.loc Cert.ReferenceIdeal.main_arg7)) (m' (c.tc.loc Cert.ReferenceIdeal.main_arg8)) = (Cert.KernelIdeal.Gen.dats m 0 c).arrAt 19 Cert.KernelIdeal.cfg0.N := by
    rw [a0, a1, a2, a3, a4, a5, a6, a7, a8]
    exact Pre.same19 A
  exact ⟨(h0.trans (Cert.ReferenceIdeal.Read.val_main_v224_eq (StableHlo.launchContents m' c))).trans r0, (h1.trans (Cert.ReferenceIdeal.Read.val_main_v215_eq (StableHlo.launchContents m' c))).trans r1, (h2.trans (Cert.ReferenceIdeal.Read.val_main_v217_eq (StableHlo.launchContents m' c))).trans r2, (h3.trans (Cert.ReferenceIdeal.Read.val_main_v169_eq (StableHlo.launchContents m' c))).trans r3, (h4.trans (Cert.ReferenceIdeal.Read.val_main_v157_eq (StableHlo.launchContents m' c))).trans r4, (h5.trans (Cert.ReferenceIdeal.Read.val_main_v163_eq (StableHlo.launchContents m' c))).trans r5, (h6.trans (Cert.ReferenceIdeal.Read.val_main_v151_eq (StableHlo.launchContents m' c))).trans r6, (h7.trans (Cert.ReferenceIdeal.Read.val_main_v144_eq (StableHlo.launchContents m' c))).trans r7, hargs⟩

/-- The second reference's frame: its run leaves the arguments, and it has no semaphore. -/
theorem frame_reference2 : Cert.quiescent_Reference2Ideal := fun m ρ _ =>
  (θ_run Cert.Reference2Ideal.defs _ _).mono (fun r h =>
    ⟨fun c => (h c).2.2, sem_eq_zero_of_no_sems (by decide) r.2⟩)
    (Cert.Reference2Ideal.Value.run (F := Ideal) m ρ)

set_option maxRecDepth 16384 in
set_option maxHeartbeats 8000000 in
/-- The input projection's weight and bias gradients: the ideal kernel and the reference leave the same arrays. -/
theorem algebraic2 : Cert.algebraic_Kernel2Ideal_Reference2Ideal := by
  intro m g m' g' hpre heq
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N,
    Cert.Kernel2Ideal.Value.run_blocks m g, (θ_run Cert.Reference2Ideal.defs _ _).mono (fun r h c => ?_)
      (Cert.Reference2Ideal.Value.run (F := Ideal) m' g')⟩
  obtain ⟨a0, a1, a2, a3, a4, a5⟩ := heq c
  obtain ⟨h0, h1, hargs⟩ := h c
  have r0 : Cert.Reference2Ideal.Read.val_main_v22 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) = (Cert.Kernel2Ideal.Gen.dats m 0 c).arrAt 5 Cert.Kernel2Ideal.cfg0.N := by
    rw [a0, a1, a2, a3, a4, a5]
    exact (Dw.arr5 m c).symm
  have r1 : Cert.Reference2Ideal.Read.val_main_v18 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) = (Cert.Kernel2Ideal.Gen.dats m 0 c).arrAt 6 Cert.Kernel2Ideal.cfg0.N := by
    rw [a0, a1, a2, a3, a4]
    exact (Dw.arr6 m c).symm
  exact ⟨(h0.trans (Cert.Reference2Ideal.Read.val_main_v22_eq _ _ _ _ _ _)).trans r0, (h1.trans (Cert.Reference2Ideal.Read.val_main_v18_eq _ _ _ _ _)).trans r1, hargs⟩

/-- The reference's frame for the weight gradient of the recurrent branch's output projection. -/
theorem frame_reference3 : Cert.quiescent_Reference3Ideal := fun m ρ _ =>
  (θ_run Cert.Reference3Ideal.defs _ _).mono (fun r h =>
    ⟨fun c => (h c).2, sem_eq_zero_of_no_sems (by decide) r.2⟩)
    (Cert.Reference3Ideal.Value.run (F := Ideal) m ρ)

set_option maxRecDepth 16384 in
set_option maxHeartbeats 8000000 in
/-- The weight gradient of the recurrent branch's output projection: the ideal kernel and the reference leave the same array. -/
theorem algebraic3 : Cert.algebraic_Kernel3Ideal_Reference3Ideal := by
  intro m g m' g' hpre heq
  refine ⟨fun c => (Cert.Kernel3Ideal.Gen.dats m 0 c).arrAt 2 Cert.Kernel3Ideal.cfg0.N,
    Cert.Kernel3Ideal.Value.run_blocks m g, (θ_run Cert.Reference3Ideal.defs _ _).mono (fun r h c => ?_)
      (Cert.Reference3Ideal.Value.run (F := Ideal) m' g')⟩
  obtain ⟨a0, a1⟩ := heq c
  obtain ⟨h0, hargs⟩ := h c
  have r0 : Cert.Reference3Ideal.Read.val_main_v6 (F := Ideal) (m' (c.tc.loc Cert.Reference3Ideal.main_arg0)) (m' (c.tc.loc Cert.Reference3Ideal.main_arg1)) = (Cert.Kernel3Ideal.Gen.dats m 0 c).arrAt 2 Cert.Kernel3Ideal.cfg0.N := by
    rw [a0, a1]
    exact (Mm3.arr m c).symm
  exact ⟨(h0.trans (Cert.Reference3Ideal.Read.val_main_v6_eq _ _)).trans r0, hargs⟩

/-- The reference's frame for the weight gradient of the attention branch's output projection. -/
theorem frame_reference4 : Cert.quiescent_Reference4Ideal := fun m ρ _ =>
  (θ_run Cert.Reference4Ideal.defs _ _).mono (fun r h =>
    ⟨fun c => (h c).2, sem_eq_zero_of_no_sems (by decide) r.2⟩)
    (Cert.Reference4Ideal.Value.run (F := Ideal) m ρ)

set_option maxRecDepth 16384 in
set_option maxHeartbeats 8000000 in
/-- The weight gradient of the attention branch's output projection: the ideal kernel and the reference leave the same array. -/
theorem algebraic4 : Cert.algebraic_Kernel4Ideal_Reference4Ideal := by
  intro m g m' g' hpre heq
  refine ⟨fun c => (Cert.Kernel4Ideal.Gen.dats m 0 c).arrAt 2 Cert.Kernel4Ideal.cfg0.N,
    Cert.Kernel4Ideal.Value.run_blocks m g, (θ_run Cert.Reference4Ideal.defs _ _).mono (fun r h c => ?_)
      (Cert.Reference4Ideal.Value.run (F := Ideal) m' g')⟩
  obtain ⟨a0, a1⟩ := heq c
  obtain ⟨h0, hargs⟩ := h c
  have r0 : Cert.Reference4Ideal.Read.val_main_v7 (F := Ideal) (m' (c.tc.loc Cert.Reference4Ideal.main_arg0)) (m' (c.tc.loc Cert.Reference4Ideal.main_arg1)) = (Cert.Kernel4Ideal.Gen.dats m 0 c).arrAt 2 Cert.Kernel4Ideal.cfg0.N := by
    rw [a0, a1]
    exact (Mm4.arr m c).symm
  exact ⟨(h0.trans (Cert.Reference4Ideal.Read.val_main_v7_eq _ _)).trans r0, hargs⟩

/-- The reference's frame for the weight gradient of the mixer's output projection. -/
theorem frame_reference5 : Cert.quiescent_Reference5Ideal := fun m ρ _ =>
  (θ_run Cert.Reference5Ideal.defs _ _).mono (fun r h =>
    ⟨fun c => (h c).2, sem_eq_zero_of_no_sems (by decide) r.2⟩)
    (Cert.Reference5Ideal.Value.run (F := Ideal) m ρ)

set_option maxRecDepth 16384 in
set_option maxHeartbeats 8000000 in
/-- The weight gradient of the mixer's output projection: the ideal kernel and the reference leave the same array. -/
theorem algebraic5 : Cert.algebraic_Kernel5Ideal_Reference5Ideal := by
  intro m g m' g' hpre heq
  refine ⟨fun c => (Cert.Kernel5Ideal.Gen.dats m 0 c).arrAt 2 Cert.Kernel5Ideal.cfg0.N,
    Cert.Kernel5Ideal.Value.run_blocks m g, (θ_run Cert.Reference5Ideal.defs _ _).mono (fun r h c => ?_)
      (Cert.Reference5Ideal.Value.run (F := Ideal) m' g')⟩
  obtain ⟨a0, a1⟩ := heq c
  obtain ⟨h0, hargs⟩ := h c
  have r0 : Cert.Reference5Ideal.Read.val_main_v5 (F := Ideal) (m' (c.tc.loc Cert.Reference5Ideal.main_arg0)) (m' (c.tc.loc Cert.Reference5Ideal.main_arg1)) = (Cert.Kernel5Ideal.Gen.dats m 0 c).arrAt 2 Cert.Kernel5Ideal.cfg0.N := by
    rw [a0, a1]
    exact (Mm5.arr m c).symm
  exact ⟨(h0.trans (Cert.Reference5Ideal.Read.val_main_v5_eq _ _)).trans r0, hargs⟩

/-- The reference's frame for the weight gradient of the gate of the per-layer embedding. -/
theorem frame_reference6 : Cert.quiescent_Reference6Ideal := fun m ρ _ =>
  (θ_run Cert.Reference6Ideal.defs _ _).mono (fun r h =>
    ⟨fun c => (h c).2, sem_eq_zero_of_no_sems (by decide) r.2⟩)
    (Cert.Reference6Ideal.Value.run (F := Ideal) m ρ)

set_option maxRecDepth 16384 in
set_option maxHeartbeats 8000000 in
/-- The weight gradient of the gate of the per-layer embedding: the ideal kernel and the reference leave the same array. -/
theorem algebraic6 : Cert.algebraic_Kernel6Ideal_Reference6Ideal := by
  intro m g m' g' hpre heq
  refine ⟨fun c => (Cert.Kernel6Ideal.Gen.dats m 0 c).arrAt 2 Cert.Kernel6Ideal.cfg0.N,
    Cert.Kernel6Ideal.Value.run_blocks m g, (θ_run Cert.Reference6Ideal.defs _ _).mono (fun r h c => ?_)
      (Cert.Reference6Ideal.Value.run (F := Ideal) m' g')⟩
  obtain ⟨a0, a1⟩ := heq c
  obtain ⟨h0, hargs⟩ := h c
  have r0 : Cert.Reference6Ideal.Read.val_main_v6 (F := Ideal) (m' (c.tc.loc Cert.Reference6Ideal.main_arg0)) (m' (c.tc.loc Cert.Reference6Ideal.main_arg1)) = (Cert.Kernel6Ideal.Gen.dats m 0 c).arrAt 2 Cert.Kernel6Ideal.cfg0.N := by
    rw [a0, a1]
    exact (Mm6.arr m c).symm
  exact ⟨(h0.trans (Cert.Reference6Ideal.Read.val_main_v6_eq _ _)).trans r0, hargs⟩

/-- The reference's frame for the weight gradient of the projection of the per-layer embedding. -/
theorem frame_reference7 : Cert.quiescent_Reference7Ideal := fun m ρ _ =>
  (θ_run Cert.Reference7Ideal.defs _ _).mono (fun r h =>
    ⟨fun c => (h c).2, sem_eq_zero_of_no_sems (by decide) r.2⟩)
    (Cert.Reference7Ideal.Value.run (F := Ideal) m ρ)

set_option maxRecDepth 16384 in
set_option maxHeartbeats 8000000 in
/-- The weight gradient of the projection of the per-layer embedding: the ideal kernel and the reference leave the same array. -/
theorem algebraic7 : Cert.algebraic_Kernel7Ideal_Reference7Ideal := by
  intro m g m' g' hpre heq
  refine ⟨fun c => (Cert.Kernel7Ideal.Gen.dats m 0 c).arrAt 2 Cert.Kernel7Ideal.cfg0.N,
    Cert.Kernel7Ideal.Value.run_blocks m g, (θ_run Cert.Reference7Ideal.defs _ _).mono (fun r h c => ?_)
      (Cert.Reference7Ideal.Value.run (F := Ideal) m' g')⟩
  obtain ⟨a0, a1⟩ := heq c
  obtain ⟨h0, hargs⟩ := h c
  have r0 : Cert.Reference7Ideal.Read.val_main_v6 (F := Ideal) (m' (c.tc.loc Cert.Reference7Ideal.main_arg0)) (m' (c.tc.loc Cert.Reference7Ideal.main_arg1)) = (Cert.Kernel7Ideal.Gen.dats m 0 c).arrAt 2 Cert.Kernel7Ideal.cfg0.N := by
    rw [a0, a1]
    exact (Mm7.arr m c).symm
  exact ⟨(h0.trans (Cert.Reference7Ideal.Read.val_main_v6_eq _ _)).trans r0, hargs⟩

/-- The reference's frame for the gradient of the layer's input. -/
theorem frame_reference8 : Cert.quiescent_Reference8Ideal := fun m ρ _ =>
  (θ_run Cert.Reference8Ideal.defs _ _).mono (fun r h =>
    ⟨fun c => (h c).2.2, sem_eq_zero_of_no_sems (by decide) r.2⟩)
    (Cert.Reference8Ideal.Value.run (F := Ideal) m ρ)

/-- The precondition's facts for the gradient of the layer's input. -/
instance pre_facts8 : Cert.Pre_finite8.Facts := Cert.Pre_finite8.facts

set_option maxRecDepth 16384 in
set_option maxHeartbeats 8000000 in
/-- The gradient of the layer's input and of its gain: the ideal kernel and the reference leave the same arrays from the same finite arguments. -/
theorem algebraic8 : Cert.algebraic_Kernel8Ideal_Reference8Ideal_pre_finite8 := by
  intro m g m' g' hpre heq
  have hold : ∀ c, (Cert.Kernel8Ideal.Gen.dats m 0 c).arrAt 9 Cert.Kernel8Ideal.cfg0.N = Gx.dxR m c := fun c => by
    obtain ⟨e0, e1, e2, e3, e4, e5, e6, e7, e8, e10⟩ := Gx.finite8 _ _ _ _ _ _ _ _ _ _ _ (hpre c)
    exact Gx.same9 m c (fun i => ⟨_, e0 i⟩) (fun i => ⟨_, e1 i⟩) (fun i => ⟨_, e2 i⟩) (fun i => ⟨_, e3 i⟩) (fun i => ⟨_, e4 i⟩) (fun i => ⟨_, e5 i⟩)
      (fun i => ⟨_, e6 i⟩) (fun i => ⟨_, e7 i⟩) (fun i => ⟨_, e8 i⟩) (fun i => ⟨_, e10 i⟩)
  refine ⟨fun c => (Cert.Kernel8Ideal.Gen.dats m 0 c).arrAt 9 Cert.Kernel8Ideal.cfg0.N, fun c => (Cert.Kernel8Ideal.Gen.dats m 0 c).arrAt 10 Cert.Kernel8Ideal.cfg0.N,
    Cert.Kernel8Ideal.Value.run_blocks m g, (θ_run Cert.Reference8Ideal.defs _ _).mono (fun r h c => ?_)
      (Cert.Reference8Ideal.Value.run (F := Ideal) m' g')⟩
  obtain ⟨a0, a1, a2, a3, a4, a5, a6, a7, a8, a9, a10⟩ := heq c
  obtain ⟨h0, h1, hargs⟩ := h c
  have r0 : Cert.Reference8Ideal.Read.val_main_v51 (F := Ideal) (m' (c.tc.loc Cert.Reference8Ideal.main_arg0)) (m' (c.tc.loc Cert.Reference8Ideal.main_arg1)) (m' (c.tc.loc Cert.Reference8Ideal.main_arg2)) (m' (c.tc.loc Cert.Reference8Ideal.main_arg3)) (m' (c.tc.loc Cert.Reference8Ideal.main_arg4)) (m' (c.tc.loc Cert.Reference8Ideal.main_arg5)) (m' (c.tc.loc Cert.Reference8Ideal.main_arg6)) (m' (c.tc.loc Cert.Reference8Ideal.main_arg7)) (m' (c.tc.loc Cert.Reference8Ideal.main_arg8)) (m' (c.tc.loc Cert.Reference8Ideal.main_arg9)) (m' (c.tc.loc Cert.Reference8Ideal.main_arg10)) = (Cert.Kernel8Ideal.Gen.dats m 0 c).arrAt 9 Cert.Kernel8Ideal.cfg0.N := by
    rw [a0, a1, a2, a3, a4, a5, a6, a7, a8, a9, a10]
    exact (hold c).symm
  have r1 : Cert.Reference8Ideal.Read.val_main_v34 (F := Ideal) (m' (c.tc.loc Cert.Reference8Ideal.main_arg0)) (m' (c.tc.loc Cert.Reference8Ideal.main_arg1)) (m' (c.tc.loc Cert.Reference8Ideal.main_arg2)) (m' (c.tc.loc Cert.Reference8Ideal.main_arg3)) (m' (c.tc.loc Cert.Reference8Ideal.main_arg4)) (m' (c.tc.loc Cert.Reference8Ideal.main_arg5)) (m' (c.tc.loc Cert.Reference8Ideal.main_arg6)) (m' (c.tc.loc Cert.Reference8Ideal.main_arg7)) (m' (c.tc.loc Cert.Reference8Ideal.main_arg8)) = (Cert.Kernel8Ideal.Gen.dats m 0 c).arrAt 10 Cert.Kernel8Ideal.cfg0.N := by
    rw [a0, a1, a2, a3, a4, a5, a6, a7, a8]
    exact (Gx.arr10 m c).symm
  exact ⟨(h0.trans (Cert.Reference8Ideal.Read.val_main_v51_eq _ _)).trans r0, (h1.trans (Cert.Reference8Ideal.Read.val_main_v34_eq _ _ _ _ _ _ _ _ _)).trans r1, hargs⟩

/-- The reference's frame for the input projection's columns of the two near chips. -/
theorem frame_reference9 : Cert.quiescent_Reference9Ideal := fun m ρ _ =>
  (θ_run Cert.Reference9Ideal.defs _ _).mono (fun r h =>
    ⟨fun c => (h c).2, sem_eq_zero_of_no_sems (by decide) r.2⟩)
    (Cert.Reference9Ideal.Value.run (F := Ideal) m ρ)

set_option maxRecDepth 16384 in
set_option maxHeartbeats 8000000 in
/-- The input projection's columns of the two near chips: the ideal kernel and the reference leave the same array. -/
theorem algebraic9 : Cert.algebraic_Kernel9Ideal_Reference9Ideal := by
  intro m g m' g' hpre heq
  refine ⟨fun c => (Cert.Kernel9Ideal.Gen.dats m 0 c).arrAt 4 Cert.Kernel9Ideal.cfg0.N,
    Cert.Kernel9Ideal.Value.run_blocks m g, (θ_run Cert.Reference9Ideal.defs _ _).mono (fun r h c => ?_)
      (Cert.Reference9Ideal.Value.run (F := Ideal) m' g')⟩
  obtain ⟨a0, a1, a2, a3⟩ := heq c
  obtain ⟨h0, hargs⟩ := h c
  have r0 : Cert.Reference9Ideal.Read.val_main_v11 (F := Ideal) (m' (c.tc.loc Cert.Reference9Ideal.main_arg0)) (m' (c.tc.loc Cert.Reference9Ideal.main_arg1)) (m' (c.tc.loc Cert.Reference9Ideal.main_arg2)) (m' (c.tc.loc Cert.Reference9Ideal.main_arg3)) = (Cert.Kernel9Ideal.Gen.dats m 0 c).arrAt 4 Cert.Kernel9Ideal.cfg0.N := by
    rw [a0, a1, a2, a3]
    exact (Ip9.arr m c).symm
  exact ⟨(h0.trans (Cert.Reference9Ideal.Read.val_main_v11_eq _ _ _ _)).trans r0, hargs⟩

/-- The reference's frame for the input projection's columns of the far chip. -/
theorem frame_reference10 : Cert.quiescent_Reference10Ideal := fun m ρ _ =>
  (θ_run Cert.Reference10Ideal.defs _ _).mono (fun r h =>
    ⟨fun c => (h c).2, sem_eq_zero_of_no_sems (by decide) r.2⟩)
    (Cert.Reference10Ideal.Value.run (F := Ideal) m ρ)

set_option maxRecDepth 16384 in
set_option maxHeartbeats 8000000 in
/-- The input projection's columns of the far chip: the ideal kernel and the reference leave the same array. -/
theorem algebraic10 : Cert.algebraic_Kernel10Ideal_Reference10Ideal := by
  intro m g m' g' hpre heq
  refine ⟨fun c => (Cert.Kernel10Ideal.Gen.dats m 0 c).arrAt 4 Cert.Kernel10Ideal.cfg0.N,
    Cert.Kernel10Ideal.Value.run_blocks m g, (θ_run Cert.Reference10Ideal.defs _ _).mono (fun r h c => ?_)
      (Cert.Reference10Ideal.Value.run (F := Ideal) m' g')⟩
  obtain ⟨a0, a1, a2, a3⟩ := heq c
  obtain ⟨h0, hargs⟩ := h c
  have r0 : Cert.Reference10Ideal.Read.val_main_v10 (F := Ideal) (m' (c.tc.loc Cert.Reference10Ideal.main_arg0)) (m' (c.tc.loc Cert.Reference10Ideal.main_arg1)) (m' (c.tc.loc Cert.Reference10Ideal.main_arg2)) (m' (c.tc.loc Cert.Reference10Ideal.main_arg3)) = (Cert.Kernel10Ideal.Gen.dats m 0 c).arrAt 4 Cert.Kernel10Ideal.cfg0.N := by
    rw [a0, a1, a2, a3]
    exact (Ip10.arr m c).symm
  exact ⟨(h0.trans (Cert.Reference10Ideal.Read.val_main_v10_eq _ _ _ _)).trans r0, hargs⟩

/-- The reference's frame for the input projection's columns of the device's own chip. -/
theorem frame_reference11 : Cert.quiescent_Reference11Ideal := fun m ρ _ =>
  (θ_run Cert.Reference11Ideal.defs _ _).mono (fun r h =>
    ⟨fun c => (h c).2, sem_eq_zero_of_no_sems (by decide) r.2⟩)
    (Cert.Reference11Ideal.Value.run (F := Ideal) m ρ)

set_option maxRecDepth 16384 in
set_option maxHeartbeats 8000000 in
/-- The input projection's columns of the device's own chip: the ideal kernel and the reference leave the same array. -/
theorem algebraic11 : Cert.algebraic_Kernel11Ideal_Reference11Ideal := by
  intro m g m' g' hpre heq
  refine ⟨fun c => (Cert.Kernel11Ideal.Gen.dats m 0 c).arrAt 4 Cert.Kernel11Ideal.cfg0.N,
    Cert.Kernel11Ideal.Value.run_blocks m g, (θ_run Cert.Reference11Ideal.defs _ _).mono (fun r h c => ?_)
      (Cert.Reference11Ideal.Value.run (F := Ideal) m' g')⟩
  obtain ⟨a0, a1, a2, a3⟩ := heq c
  obtain ⟨h0, hargs⟩ := h c
  have r0 : Cert.Reference11Ideal.Read.val_main_v10 (F := Ideal) (m' (c.tc.loc Cert.Reference11Ideal.main_arg0)) (m' (c.tc.loc Cert.Reference11Ideal.main_arg1)) (m' (c.tc.loc Cert.Reference11Ideal.main_arg2)) (m' (c.tc.loc Cert.Reference11Ideal.main_arg3)) = (Cert.Kernel11Ideal.Gen.dats m 0 c).arrAt 4 Cert.Kernel11Ideal.cfg0.N := by
    rw [a0, a1, a2, a3]
    exact (Ip11.arr m c).symm
  exact ⟨(h0.trans (Cert.Reference11Ideal.Read.val_main_v10_eq _ _ _ _)).trans r0, hargs⟩

/-- The reference's frame for the input's normalisation. -/
theorem frame_reference12 : Cert.quiescent_Reference12Ideal := fun m ρ _ =>
  (θ_run Cert.Reference12Ideal.defs _ _).mono (fun r h =>
    ⟨fun c => (h c).2, sem_eq_zero_of_no_sems (by decide) r.2⟩)
    (Cert.Reference12Ideal.Value.run (F := Ideal) m ρ)

set_option maxRecDepth 16384 in
set_option maxHeartbeats 8000000 in
/-- The input's normalisation: the ideal kernel and the reference leave the same arrays. -/
theorem algebraic12 : Cert.algebraic_Kernel12Ideal_Reference12Ideal := by
  intro m g m' g' hpre heq
  refine ⟨fun c => (Cert.Kernel12Ideal.Gen.dats m 0 c).arrAt 3 Cert.Kernel12Ideal.cfg0.N,
    Cert.Kernel12Ideal.Value.run_blocks m g, (θ_run Cert.Reference12Ideal.defs _ _).mono (fun r h c => ?_)
      (Cert.Reference12Ideal.Value.run (F := Ideal) m' g')⟩
  obtain ⟨a0, a1⟩ := heq c
  obtain ⟨h0, hargs⟩ := h c
  have r0 : Cert.Reference12Ideal.Read.val_main_v12 (F := Ideal) (m' (c.tc.loc Cert.Reference12Ideal.main_arg0)) (m' (c.tc.loc Cert.Reference12Ideal.main_arg1)) = (Cert.Kernel12Ideal.Gen.dats m 0 c).arrAt 3 Cert.Kernel12Ideal.cfg0.N := by
    rw [a0, a1]
    exact (Ad12.arr m c).symm
  exact ⟨(h0.trans (Cert.Reference12Ideal.Read.val_main_v12_eq _ _)).trans r0, hargs⟩

/-- The reference's frame for the optimiser step of the input projection. -/
theorem frame_reference13 : Cert.quiescent_Reference13Ideal := fun m ρ _ =>
  (θ_run Cert.Reference13Ideal.defs _ _).mono (fun r h =>
    ⟨fun c => (h c).2.2.2.2, sem_eq_zero_of_no_sems (by decide) r.2⟩)
    (Cert.Reference13Ideal.Value.run (F := Ideal) m ρ)

set_option maxRecDepth 16384 in
set_option maxHeartbeats 8000000 in
/-- The optimiser step of the input projection: the ideal kernel and the reference leave the same arrays. -/
theorem algebraic13 : Cert.algebraic_Kernel13Ideal_Reference13Ideal := by
  intro m g m' g' hpre heq
  refine ⟨fun c => (Cert.Kernel13Ideal.Gen.dats m 0 c).arrAt 9 Cert.Kernel13Ideal.cfg0.N, fun c => (Cert.Kernel13Ideal.Gen.dats m 0 c).arrAt 10 Cert.Kernel13Ideal.cfg0.N, fun c => (Cert.Kernel13Ideal.Gen.dats m 0 c).arrAt 11 Cert.Kernel13Ideal.cfg0.N, fun c => (Cert.Kernel13Ideal.Gen.dats m 0 c).arrAt 12 Cert.Kernel13Ideal.cfg0.N,
    Cert.Kernel13Ideal.Value.run_blocks m g, (θ_run Cert.Reference13Ideal.defs _ _).mono (fun r h c => ?_)
      (Cert.Reference13Ideal.Value.run (F := Ideal) m' g')⟩
  obtain ⟨a0, a1, a2, a3, a4⟩ := heq c
  obtain ⟨h0, h1, h2, h3, hargs⟩ := h c
  have r0 : Cert.Reference13Ideal.Read.val_main_v4 (F := Ideal) (m' (c.tc.loc Cert.Reference13Ideal.main_arg0)) (m' (c.tc.loc Cert.Reference13Ideal.main_arg1)) = (Cert.Kernel13Ideal.Gen.dats m 0 c).arrAt 9 Cert.Kernel13Ideal.cfg0.N := by
    rw [a0, a1]
    exact (Ad13.arr9 m c).symm
  have r1 : Cert.Reference13Ideal.Read.val_main_v28 (F := Ideal) (m' (c.tc.loc Cert.Reference13Ideal.main_arg0)) (m' (c.tc.loc Cert.Reference13Ideal.main_arg1)) (m' (c.tc.loc Cert.Reference13Ideal.main_arg2)) (m' (c.tc.loc Cert.Reference13Ideal.main_arg3)) (m' (c.tc.loc Cert.Reference13Ideal.main_arg4)) = (Cert.Kernel13Ideal.Gen.dats m 0 c).arrAt 10 Cert.Kernel13Ideal.cfg0.N := by
    rw [a0, a1, a2, a3, a4]
    exact (Ad13.arr10 m c).symm
  have r2 : Cert.Reference13Ideal.Read.val_main_v9 (F := Ideal) (m' (c.tc.loc Cert.Reference13Ideal.main_arg0)) (m' (c.tc.loc Cert.Reference13Ideal.main_arg1)) (m' (c.tc.loc Cert.Reference13Ideal.main_arg3)) = (Cert.Kernel13Ideal.Gen.dats m 0 c).arrAt 11 Cert.Kernel13Ideal.cfg0.N := by
    rw [a0, a1, a3]
    exact (Ad13.arr11 m c).symm
  have r3 : Cert.Reference13Ideal.Read.val_main_v15 (F := Ideal) (m' (c.tc.loc Cert.Reference13Ideal.main_arg0)) (m' (c.tc.loc Cert.Reference13Ideal.main_arg1)) (m' (c.tc.loc Cert.Reference13Ideal.main_arg4)) = (Cert.Kernel13Ideal.Gen.dats m 0 c).arrAt 12 Cert.Kernel13Ideal.cfg0.N := by
    rw [a0, a1, a4]
    exact (Ad13.arr12 m c).symm
  exact ⟨(h0.trans (Cert.Reference13Ideal.Read.val_main_v4_eq _ _)).trans r0, (h1.trans (Cert.Reference13Ideal.Read.val_main_v28_eq _ _ _ _ _)).trans r1, (h2.trans (Cert.Reference13Ideal.Read.val_main_v9_eq _ _ _)).trans r2, (h3.trans (Cert.Reference13Ideal.Read.val_main_v15_eq _ _ _)).trans r3, hargs⟩

/-- The reference's frame for the optimiser step of three sharded weights. -/
theorem frame_reference14 : Cert.quiescent_Reference14Ideal := fun m ρ _ =>
  (θ_run Cert.Reference14Ideal.defs _ _).mono (fun r h =>
    ⟨fun c => (h c).2.2.2.2.2.2.2.2.2, sem_eq_zero_of_no_sems (by decide) r.2⟩)
    (Cert.Reference14Ideal.Value.run (F := Ideal) m ρ)

set_option maxRecDepth 16384 in
set_option maxHeartbeats 8000000 in
/-- The optimiser step of three sharded weights: the ideal kernel and the reference leave the same arrays. -/
theorem algebraic14 : Cert.algebraic_Kernel14Ideal_Reference14Ideal := by
  intro m g m' g' hpre heq
  refine ⟨fun c => (Cert.Kernel14Ideal.Gen.dats m 0 c).arrAt 13 Cert.Kernel14Ideal.cfg0.N, fun c => (Cert.Kernel14Ideal.Gen.dats m 0 c).arrAt 14 Cert.Kernel14Ideal.cfg0.N, fun c => (Cert.Kernel14Ideal.Gen.dats m 0 c).arrAt 15 Cert.Kernel14Ideal.cfg0.N, fun c => (Cert.Kernel14Ideal.Gen.dats m 0 c).arrAt 16 Cert.Kernel14Ideal.cfg0.N, fun c => (Cert.Kernel14Ideal.Gen.dats m 0 c).arrAt 17 Cert.Kernel14Ideal.cfg0.N, fun c => (Cert.Kernel14Ideal.Gen.dats m 0 c).arrAt 18 Cert.Kernel14Ideal.cfg0.N, fun c => (Cert.Kernel14Ideal.Gen.dats m 0 c).arrAt 19 Cert.Kernel14Ideal.cfg0.N, fun c => (Cert.Kernel14Ideal.Gen.dats m 0 c).arrAt 20 Cert.Kernel14Ideal.cfg0.N, fun c => (Cert.Kernel14Ideal.Gen.dats m 0 c).arrAt 21 Cert.Kernel14Ideal.cfg0.N,
    Cert.Kernel14Ideal.Value.run_blocks m g, (θ_run Cert.Reference14Ideal.defs _ _).mono (fun r h c => ?_)
      (Cert.Reference14Ideal.Value.run (F := Ideal) m' g')⟩
  obtain ⟨a0, a1, a2, a3, a4, a5, a6, a7, a8, a9, a10, a11⟩ := heq c
  obtain ⟨h0, h1, h2, h3, h4, h5, h6, h7, h8, hargs⟩ := h c
  have r0 : Cert.Reference14Ideal.Read.val_main_v23 (F := Ideal) (m' (c.tc.loc Cert.Reference14Ideal.main_arg0)) (m' (c.tc.loc Cert.Reference14Ideal.main_arg3)) (m' (c.tc.loc Cert.Reference14Ideal.main_arg6)) (m' (c.tc.loc Cert.Reference14Ideal.main_arg9)) = (Cert.Kernel14Ideal.Gen.dats m 0 c).arrAt 13 Cert.Kernel14Ideal.cfg0.N := by
    rw [a0, a3, a6, a9]
    exact (Ad14.arr13 m c).symm
  have r1 : Cert.Reference14Ideal.Read.val_main_v47 (F := Ideal) (m' (c.tc.loc Cert.Reference14Ideal.main_arg1)) (m' (c.tc.loc Cert.Reference14Ideal.main_arg4)) (m' (c.tc.loc Cert.Reference14Ideal.main_arg7)) (m' (c.tc.loc Cert.Reference14Ideal.main_arg10)) = (Cert.Kernel14Ideal.Gen.dats m 0 c).arrAt 14 Cert.Kernel14Ideal.cfg0.N := by
    rw [a1, a4, a7, a10]
    exact (Ad14.arr14 m c).symm
  have r2 : Cert.Reference14Ideal.Read.val_main_v71 (F := Ideal) (m' (c.tc.loc Cert.Reference14Ideal.main_arg2)) (m' (c.tc.loc Cert.Reference14Ideal.main_arg5)) (m' (c.tc.loc Cert.Reference14Ideal.main_arg8)) (m' (c.tc.loc Cert.Reference14Ideal.main_arg11)) = (Cert.Kernel14Ideal.Gen.dats m 0 c).arrAt 15 Cert.Kernel14Ideal.cfg0.N := by
    rw [a2, a5, a8, a11]
    exact (Ad14.arr15 m c).symm
  have r3 : Cert.Reference14Ideal.Read.val_main_v4 (F := Ideal) (m' (c.tc.loc Cert.Reference14Ideal.main_arg3)) (m' (c.tc.loc Cert.Reference14Ideal.main_arg6)) = (Cert.Kernel14Ideal.Gen.dats m 0 c).arrAt 16 Cert.Kernel14Ideal.cfg0.N := by
    rw [a3, a6]
    exact (Ad14.arr16 m c).symm
  have r4 : Cert.Reference14Ideal.Read.val_main_v28 (F := Ideal) (m' (c.tc.loc Cert.Reference14Ideal.main_arg4)) (m' (c.tc.loc Cert.Reference14Ideal.main_arg7)) = (Cert.Kernel14Ideal.Gen.dats m 0 c).arrAt 17 Cert.Kernel14Ideal.cfg0.N := by
    rw [a4, a7]
    exact (Ad14.arr17 m c).symm
  have r5 : Cert.Reference14Ideal.Read.val_main_v52 (F := Ideal) (m' (c.tc.loc Cert.Reference14Ideal.main_arg5)) (m' (c.tc.loc Cert.Reference14Ideal.main_arg8)) = (Cert.Kernel14Ideal.Gen.dats m 0 c).arrAt 18 Cert.Kernel14Ideal.cfg0.N := by
    rw [a5, a8]
    exact (Ad14.arr18 m c).symm
  have r6 : Cert.Reference14Ideal.Read.val_main_v10 (F := Ideal) (m' (c.tc.loc Cert.Reference14Ideal.main_arg3)) (m' (c.tc.loc Cert.Reference14Ideal.main_arg9)) = (Cert.Kernel14Ideal.Gen.dats m 0 c).arrAt 19 Cert.Kernel14Ideal.cfg0.N := by
    rw [a3, a9]
    exact (Ad14.arr19 m c).symm
  have r7 : Cert.Reference14Ideal.Read.val_main_v34 (F := Ideal) (m' (c.tc.loc Cert.Reference14Ideal.main_arg4)) (m' (c.tc.loc Cert.Reference14Ideal.main_arg10)) = (Cert.Kernel14Ideal.Gen.dats m 0 c).arrAt 20 Cert.Kernel14Ideal.cfg0.N := by
    rw [a4, a10]
    exact (Ad14.arr20 m c).symm
  have r8 : Cert.Reference14Ideal.Read.val_main_v58 (F := Ideal) (m' (c.tc.loc Cert.Reference14Ideal.main_arg5)) (m' (c.tc.loc Cert.Reference14Ideal.main_arg11)) = (Cert.Kernel14Ideal.Gen.dats m 0 c).arrAt 21 Cert.Kernel14Ideal.cfg0.N := by
    rw [a5, a11]
    exact (Ad14.arr21 m c).symm
  exact ⟨(h0.trans (Cert.Reference14Ideal.Read.val_main_v23_eq _ _ _ _)).trans r0, (h1.trans (Cert.Reference14Ideal.Read.val_main_v47_eq _ _ _ _)).trans r1, (h2.trans (Cert.Reference14Ideal.Read.val_main_v71_eq _ _ _ _)).trans r2, (h3.trans (Cert.Reference14Ideal.Read.val_main_v4_eq _ _)).trans r3, (h4.trans (Cert.Reference14Ideal.Read.val_main_v28_eq _ _)).trans r4, (h5.trans (Cert.Reference14Ideal.Read.val_main_v52_eq _ _)).trans r5, (h6.trans (Cert.Reference14Ideal.Read.val_main_v10_eq _ _)).trans r6, (h7.trans (Cert.Reference14Ideal.Read.val_main_v34_eq _ _)).trans r7, (h8.trans (Cert.Reference14Ideal.Read.val_main_v58_eq _ _)).trans r8, hargs⟩

/-- The reference's frame for the optimiser step of the other three sharded weights. -/
theorem frame_reference15 : Cert.quiescent_Reference15Ideal := fun m ρ _ =>
  (θ_run Cert.Reference15Ideal.defs _ _).mono (fun r h =>
    ⟨fun c => (h c).2.2.2.2.2.2.2.2.2, sem_eq_zero_of_no_sems (by decide) r.2⟩)
    (Cert.Reference15Ideal.Value.run (F := Ideal) m ρ)

set_option maxRecDepth 16384 in
set_option maxHeartbeats 8000000 in
/-- The optimiser step of the other three sharded weights: the ideal kernel and the reference leave the same arrays. -/
theorem algebraic15 : Cert.algebraic_Kernel15Ideal_Reference15Ideal := by
  intro m g m' g' hpre heq
  refine ⟨fun c => (Cert.Kernel15Ideal.Gen.dats m 0 c).arrAt 13 Cert.Kernel15Ideal.cfg0.N, fun c => (Cert.Kernel15Ideal.Gen.dats m 0 c).arrAt 14 Cert.Kernel15Ideal.cfg0.N, fun c => (Cert.Kernel15Ideal.Gen.dats m 0 c).arrAt 15 Cert.Kernel15Ideal.cfg0.N, fun c => (Cert.Kernel15Ideal.Gen.dats m 0 c).arrAt 16 Cert.Kernel15Ideal.cfg0.N, fun c => (Cert.Kernel15Ideal.Gen.dats m 0 c).arrAt 17 Cert.Kernel15Ideal.cfg0.N, fun c => (Cert.Kernel15Ideal.Gen.dats m 0 c).arrAt 18 Cert.Kernel15Ideal.cfg0.N, fun c => (Cert.Kernel15Ideal.Gen.dats m 0 c).arrAt 19 Cert.Kernel15Ideal.cfg0.N, fun c => (Cert.Kernel15Ideal.Gen.dats m 0 c).arrAt 20 Cert.Kernel15Ideal.cfg0.N, fun c => (Cert.Kernel15Ideal.Gen.dats m 0 c).arrAt 21 Cert.Kernel15Ideal.cfg0.N,
    Cert.Kernel15Ideal.Value.run_blocks m g, (θ_run Cert.Reference15Ideal.defs _ _).mono (fun r h c => ?_)
      (Cert.Reference15Ideal.Value.run (F := Ideal) m' g')⟩
  obtain ⟨a0, a1, a2, a3, a4, a5, a6, a7, a8, a9, a10, a11⟩ := heq c
  obtain ⟨h0, h1, h2, h3, h4, h5, h6, h7, h8, hargs⟩ := h c
  have r0 : Cert.Reference15Ideal.Read.val_main_v23 (F := Ideal) (m' (c.tc.loc Cert.Reference15Ideal.main_arg0)) (m' (c.tc.loc Cert.Reference15Ideal.main_arg3)) (m' (c.tc.loc Cert.Reference15Ideal.main_arg6)) (m' (c.tc.loc Cert.Reference15Ideal.main_arg9)) = (Cert.Kernel15Ideal.Gen.dats m 0 c).arrAt 13 Cert.Kernel15Ideal.cfg0.N := by
    rw [a0, a3, a6, a9]
    exact (Ad15.arr13 m c).symm
  have r1 : Cert.Reference15Ideal.Read.val_main_v47 (F := Ideal) (m' (c.tc.loc Cert.Reference15Ideal.main_arg1)) (m' (c.tc.loc Cert.Reference15Ideal.main_arg4)) (m' (c.tc.loc Cert.Reference15Ideal.main_arg7)) (m' (c.tc.loc Cert.Reference15Ideal.main_arg10)) = (Cert.Kernel15Ideal.Gen.dats m 0 c).arrAt 14 Cert.Kernel15Ideal.cfg0.N := by
    rw [a1, a4, a7, a10]
    exact (Ad15.arr14 m c).symm
  have r2 : Cert.Reference15Ideal.Read.val_main_v71 (F := Ideal) (m' (c.tc.loc Cert.Reference15Ideal.main_arg2)) (m' (c.tc.loc Cert.Reference15Ideal.main_arg5)) (m' (c.tc.loc Cert.Reference15Ideal.main_arg8)) (m' (c.tc.loc Cert.Reference15Ideal.main_arg11)) = (Cert.Kernel15Ideal.Gen.dats m 0 c).arrAt 15 Cert.Kernel15Ideal.cfg0.N := by
    rw [a2, a5, a8, a11]
    exact (Ad15.arr15 m c).symm
  have r3 : Cert.Reference15Ideal.Read.val_main_v4 (F := Ideal) (m' (c.tc.loc Cert.Reference15Ideal.main_arg3)) (m' (c.tc.loc Cert.Reference15Ideal.main_arg6)) = (Cert.Kernel15Ideal.Gen.dats m 0 c).arrAt 16 Cert.Kernel15Ideal.cfg0.N := by
    rw [a3, a6]
    exact (Ad15.arr16 m c).symm
  have r4 : Cert.Reference15Ideal.Read.val_main_v28 (F := Ideal) (m' (c.tc.loc Cert.Reference15Ideal.main_arg4)) (m' (c.tc.loc Cert.Reference15Ideal.main_arg7)) = (Cert.Kernel15Ideal.Gen.dats m 0 c).arrAt 17 Cert.Kernel15Ideal.cfg0.N := by
    rw [a4, a7]
    exact (Ad15.arr17 m c).symm
  have r5 : Cert.Reference15Ideal.Read.val_main_v52 (F := Ideal) (m' (c.tc.loc Cert.Reference15Ideal.main_arg5)) (m' (c.tc.loc Cert.Reference15Ideal.main_arg8)) = (Cert.Kernel15Ideal.Gen.dats m 0 c).arrAt 18 Cert.Kernel15Ideal.cfg0.N := by
    rw [a5, a8]
    exact (Ad15.arr18 m c).symm
  have r6 : Cert.Reference15Ideal.Read.val_main_v10 (F := Ideal) (m' (c.tc.loc Cert.Reference15Ideal.main_arg3)) (m' (c.tc.loc Cert.Reference15Ideal.main_arg9)) = (Cert.Kernel15Ideal.Gen.dats m 0 c).arrAt 19 Cert.Kernel15Ideal.cfg0.N := by
    rw [a3, a9]
    exact (Ad15.arr19 m c).symm
  have r7 : Cert.Reference15Ideal.Read.val_main_v34 (F := Ideal) (m' (c.tc.loc Cert.Reference15Ideal.main_arg4)) (m' (c.tc.loc Cert.Reference15Ideal.main_arg10)) = (Cert.Kernel15Ideal.Gen.dats m 0 c).arrAt 20 Cert.Kernel15Ideal.cfg0.N := by
    rw [a4, a10]
    exact (Ad15.arr20 m c).symm
  have r8 : Cert.Reference15Ideal.Read.val_main_v58 (F := Ideal) (m' (c.tc.loc Cert.Reference15Ideal.main_arg5)) (m' (c.tc.loc Cert.Reference15Ideal.main_arg11)) = (Cert.Kernel15Ideal.Gen.dats m 0 c).arrAt 21 Cert.Kernel15Ideal.cfg0.N := by
    rw [a5, a11]
    exact (Ad15.arr21 m c).symm
  exact ⟨(h0.trans (Cert.Reference15Ideal.Read.val_main_v23_eq _ _ _ _)).trans r0, (h1.trans (Cert.Reference15Ideal.Read.val_main_v47_eq _ _ _ _)).trans r1, (h2.trans (Cert.Reference15Ideal.Read.val_main_v71_eq _ _ _ _)).trans r2, (h3.trans (Cert.Reference15Ideal.Read.val_main_v4_eq _ _)).trans r3, (h4.trans (Cert.Reference15Ideal.Read.val_main_v28_eq _ _)).trans r4, (h5.trans (Cert.Reference15Ideal.Read.val_main_v52_eq _ _)).trans r5, (h6.trans (Cert.Reference15Ideal.Read.val_main_v10_eq _ _)).trans r6, (h7.trans (Cert.Reference15Ideal.Read.val_main_v34_eq _ _)).trans r7, (h8.trans (Cert.Reference15Ideal.Read.val_main_v58_eq _ _)).trans r8, hargs⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.facts, Cert.Pre_finite8.facts,
  frame_kernel, frame_ideal, fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, fun m ρ _ => Cert.Kernel8Ideal.Gen.frame m ρ, frame_reference8, fun m ρ _ => frame_reference8 m ρ trivial,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15⟩

end Cert.Proof

end
